-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14)
      ∧ r.2.mem ((c.tc : Thread Cert.Kernel19.nD Cert.Kernel19.τ).loc Cert.Kernel19.main_arg15) = m ((c.tc : Thread Cert.Kernel19.nD Cert.Kernel19.τ).loc Cert.Kernel19.main_arg15)
      ∧ r.2.mem ((c.tc : Thread Cert.Kernel19.nD Cert.Kernel19.τ).loc Cert.Kernel19.main_arg16) = m ((c.tc : Thread Cert.Kernel19.nD Cert.Kernel19.τ).loc Cert.Kernel19.main_arg16)
      ∧ r.2.mem ((c.tc : Thread Cert.Kernel19.nD Cert.Kernel19.τ).loc Cert.Kernel19.main_arg17) = m ((c.tc : Thread Cert.Kernel19.nD Cert.Kernel19.τ).loc Cert.Kernel19.main_arg17)
      ∧ r.2.mem ((c.tc : Thread Cert.Kernel19.nD Cert.Kernel19.τ).loc Cert.Kernel19.main_arg18) = m ((c.tc : Thread Cert.Kernel19.nD Cert.Kernel19.τ).loc Cert.Kernel19.main_arg18)
      ∧ r.2.mem ((c.tc : Thread Cert.Kernel19.nD Cert.Kernel19.τ).loc Cert.Kernel19.main_arg19) = m ((c.tc : Thread Cert.Kernel19.nD Cert.Kernel19.τ).loc Cert.Kernel19.main_arg19)
      ∧ r.2.mem ((c.tc : Thread Cert.Kernel19.nD Cert.Kernel19.τ).loc Cert.Kernel19.main_arg20) = m ((c.tc : Thread Cert.Kernel19.nD Cert.Kernel19.τ).loc Cert.Kernel19.main_arg20)
      ∧ r.2.mem ((c.tc : Thread Cert.Kernel19.nD Cert.Kernel19.τ).loc Cert.Kernel19.main_arg21) = m ((c.tc : Thread Cert.Kernel19.nD Cert.Kernel19.τ).loc Cert.Kernel19.main_arg21)
      ∧ r.2.mem ((c.tc : Thread Cert.Kernel19.nD Cert.Kernel19.τ).loc Cert.Kernel19.main_arg22) = m ((c.tc : Thread Cert.Kernel19.nD Cert.Kernel19.τ).loc Cert.Kernel19.main_arg22)
      ∧ r.2.mem ((c.tc : Thread Cert.Kernel19.nD Cert.Kernel19.τ).loc Cert.Kernel19.main_arg23) = m ((c.tc : Thread Cert.Kernel19.nD Cert.Kernel19.τ).loc Cert.Kernel19.main_arg23)
      ∧ r.2.mem ((c.tc : Thread Cert.Kernel19.nD Cert.Kernel19.τ).loc Cert.Kernel19.main_arg24) = m ((c.tc : Thread Cert.Kernel19.nD Cert.Kernel19.τ).loc Cert.Kernel19.main_arg24)
      ∧ r.2.mem ((c.tc : Thread Cert.Kernel19.nD Cert.Kernel19.τ).loc Cert.Kernel19.main_arg25) = m ((c.tc : Thread Cert.Kernel19.nD Cert.Kernel19.τ).loc Cert.Kernel19.main_arg25)
      ∧ r.2.mem ((c.tc : Thread Cert.Kernel19.nD Cert.Kernel19.τ).loc Cert.Kernel19.main_arg26) = m ((c.tc : Thread Cert.Kernel19.nD Cert.Kernel19.τ).loc Cert.Kernel19.main_arg26)
      ∧ r.2.mem ((c.tc : Thread Cert.Kernel19.nD Cert.Kernel19.τ).loc Cert.Kernel19.main_arg27) = m ((c.tc : Thread Cert.Kernel19.nD Cert.Kernel19.τ).loc Cert.Kernel19.main_arg27)
      ∧ r.2.mem ((c.tc : Thread Cert.Kernel19.nD Cert.Kernel19.τ).loc Cert.Kernel19.main_arg28) = m ((c.tc : Thread Cert.Kernel19.nD Cert.Kernel19.τ).loc Cert.Kernel19.main_arg28)
      ∧ r.2.mem ((c.tc : Thread Cert.Kernel19.nD Cert.Kernel19.τ).loc Cert.Kernel19.main_arg29) = m ((c.tc : Thread Cert.Kernel19.nD Cert.Kernel19.τ).loc Cert.Kernel19.main_arg29)
      ∧ r.2.mem ((c.tc : Thread Cert.Kernel19.nD Cert.Kernel19.τ).loc Cert.Kernel19.main_arg30) = m ((c.tc : Thread Cert.Kernel19.nD Cert.Kernel19.τ).loc Cert.Kernel19.main_arg30)
      ∧ r.2.mem ((c.tc : Thread Cert.Kernel19.nD Cert.Kernel19.τ).loc Cert.Kernel19.main_arg31) = m ((c.tc : Thread Cert.Kernel19.nD Cert.Kernel19.τ).loc Cert.Kernel19.main_arg31)
      ∧ r.2.mem ((c.tc : Thread Cert.Kernel19.nD Cert.Kernel19.τ).loc Cert.Kernel19.main_arg32) = m ((c.tc : Thread Cert.Kernel19.nD Cert.Kernel19.τ).loc Cert.Kernel19.main_arg32)
      ∧ r.2.mem ((c.tc : Thread Cert.Kernel19.nD Cert.Kernel19.τ).loc Cert.Kernel19.main_arg33) = m ((c.tc : Thread Cert.Kernel19.nD Cert.Kernel19.τ).loc Cert.Kernel19.main_arg33)
      ∧ r.2.mem ((c.tc : Thread Cert.Kernel19.nD Cert.Kernel19.τ).loc Cert.Kernel19.main_arg34) = m ((c.tc : Thread Cert.Kernel19.nD Cert.Kernel19.τ).loc Cert.Kernel19.main_arg34)
      ∧ r.2.mem ((c.tc : Thread Cert.Kernel19.nD Cert.Kernel19.τ).loc Cert.Kernel19.main_arg35) = m ((c.tc : Thread Cert.Kernel19.nD Cert.Kernel19.τ).loc Cert.Kernel19.main_arg35)
      ∧ r.2.mem ((c.tc : Thread Cert.Kernel19.nD Cert.Kernel19.τ).loc Cert.Kernel19.main_arg36) = m ((c.tc : Thread Cert.Kernel19.nD Cert.Kernel19.τ).loc Cert.Kernel19.main_arg36)
      ∧ r.2.mem ((c.tc : Thread Cert.Kernel19.nD Cert.Kernel19.τ).loc Cert.Kernel19.main_arg37) = m ((c.tc : Thread Cert.Kernel19.nD Cert.Kernel19.τ).loc Cert.Kernel19.main_arg37)
      ∧ r.2.mem ((c.tc : Thread Cert.Kernel19.nD Cert.Kernel19.τ).loc Cert.Kernel19.main_arg38) = m ((c.tc : Thread Cert.Kernel19.nD Cert.Kernel19.τ).loc Cert.Kernel19.main_arg38)
      ∧ r.2.mem ((c.tc : Thread Cert.Kernel19.nD Cert.Kernel19.τ).loc Cert.Kernel19.main_arg39) = m ((c.tc : Thread Cert.Kernel19.nD Cert.Kernel19.τ).loc Cert.Kernel19.main_arg39)
      ∧ r.2.mem ((c.tc : Thread Cert.Kernel19.nD Cert.Kernel19.τ).loc Cert.Kernel19.main_arg40) = m ((c.tc : Thread Cert.Kernel19.nD Cert.Kernel19.τ).loc Cert.Kernel19.main_arg40)
      ∧ r.2.mem ((c.tc : Thread Cert.Kernel19.nD Cert.Kernel19.τ).loc Cert.Kernel19.main_arg41) = m ((c.tc : Thread Cert.Kernel19.nD Cert.Kernel19.τ).loc Cert.Kernel19.main_arg41)
      ∧ r.2.mem ((c.tc : Thread Cert.Kernel19.nD Cert.Kernel19.τ).loc Cert.Kernel19.main_arg42) = m ((c.tc : Thread Cert.Kernel19.nD Cert.Kernel19.τ).loc Cert.Kernel19.main_arg42)
      ∧ r.2.mem ((c.tc : Thread Cert.Kernel19.nD Cert.Kernel19.τ).loc Cert.Kernel19.main_arg43) = m ((c.tc : Thread Cert.Kernel19.nD Cert.Kernel19.τ).loc Cert.Kernel19.main_arg43)
      ∧ r.2.mem ((c.tc : Thread Cert.Kernel19.nD Cert.Kernel19.τ).loc Cert.Kernel19.main_arg44) = m ((c.tc : Thread Cert.Kernel19.nD Cert.Kernel19.τ).loc Cert.Kernel19.main_arg44)
      ∧ r.2.mem ((c.tc : Thread Cert.Kernel19.nD Cert.Kernel19.τ).loc Cert.Kernel19.main_arg45) = m ((c.tc : Thread Cert.Kernel19.nD Cert.Kernel19.τ).loc Cert.Kernel19.main_arg45)
      ∧ r.2.mem ((c.tc : Thread Cert.Kernel19.nD Cert.Kernel19.τ).loc Cert.Kernel19.main_arg46) = m ((c.tc : Thread Cert.Kernel19.nD Cert.Kernel19.τ).loc Cert.Kernel19.main_arg46)
      ∧ r.2.mem ((c.tc : Thread Cert.Kernel19.nD Cert.Kernel19.τ).loc Cert.Kernel19.main_arg47) = m ((c.tc : Thread Cert.Kernel19.nD Cert.Kernel19.τ).loc Cert.Kernel19.main_arg47))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
      ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
      ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
      ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
      ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
      ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
      ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
      ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
      ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
      ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
      ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
      ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
      ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
      ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
      ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
      ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
      ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
      ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31)
      ∧ r.2.mem ((c.tc : Thread Cert.Kernel19Ideal.nD Cert.Kernel19Ideal.τ).loc Cert.Kernel19Ideal.main_arg32) = m ((c.tc : Thread Cert.Kernel19Ideal.nD Cert.Kernel19Ideal.τ).loc Cert.Kernel19Ideal.main_arg32)
      ∧ r.2.mem ((c.tc : Thread Cert.Kernel19Ideal.nD Cert.Kernel19Ideal.τ).loc Cert.Kernel19Ideal.main_arg33) = m ((c.tc : Thread Cert.Kernel19Ideal.nD Cert.Kernel19Ideal.τ).loc Cert.Kernel19Ideal.main_arg33)
      ∧ r.2.mem ((c.tc : Thread Cert.Kernel19Ideal.nD Cert.Kernel19Ideal.τ).loc Cert.Kernel19Ideal.main_arg34) = m ((c.tc : Thread Cert.Kernel19Ideal.nD Cert.Kernel19Ideal.τ).loc Cert.Kernel19Ideal.main_arg34)
      ∧ r.2.mem ((c.tc : Thread Cert.Kernel19Ideal.nD Cert.Kernel19Ideal.τ).loc Cert.Kernel19Ideal.main_arg35) = m ((c.tc : Thread Cert.Kernel19Ideal.nD Cert.Kernel19Ideal.τ).loc Cert.Kernel19Ideal.main_arg35)
      ∧ r.2.mem ((c.tc : Thread Cert.Kernel19Ideal.nD Cert.Kernel19Ideal.τ).loc Cert.Kernel19Ideal.main_arg36) = m ((c.tc : Thread Cert.Kernel19Ideal.nD Cert.Kernel19Ideal.τ).loc Cert.Kernel19Ideal.main_arg36)
      ∧ r.2.mem ((c.tc : Thread Cert.Kernel19Ideal.nD Cert.Kernel19Ideal.τ).loc Cert.Kernel19Ideal.main_arg37) = m ((c.tc : Thread Cert.Kernel19Ideal.nD Cert.Kernel19Ideal.τ).loc Cert.Kernel19Ideal.main_arg37)
      ∧ r.2.mem ((c.tc : Thread Cert.Kernel19Ideal.nD Cert.Kernel19Ideal.τ).loc Cert.Kernel19Ideal.main_arg38) = m ((c.tc : Thread Cert.Kernel19Ideal.nD Cert.Kernel19Ideal.τ).loc Cert.Kernel19Ideal.main_arg38)
      ∧ r.2.mem ((c.tc : Thread Cert.Kernel19Ideal.nD Cert.Kernel19Ideal.τ).loc Cert.Kernel19Ideal.main_arg39) = m ((c.tc : Thread Cert.Kernel19Ideal.nD Cert.Kernel19Ideal.τ).loc Cert.Kernel19Ideal.main_arg39)
      ∧ r.2.mem ((c.tc : Thread Cert.Kernel19Ideal.nD Cert.Kernel19Ideal.τ).loc Cert.Kernel19Ideal.main_arg40) = m ((c.tc : Thread Cert.Kernel19Ideal.nD Cert.Kernel19Ideal.τ).loc Cert.Kernel19Ideal.main_arg40)
      ∧ r.2.mem ((c.tc : Thread Cert.Kernel19Ideal.nD Cert.Kernel19Ideal.τ).loc Cert.Kernel19Ideal.main_arg41) = m ((c.tc : Thread Cert.Kernel19Ideal.nD Cert.Kernel19Ideal.τ).loc Cert.Kernel19Ideal.main_arg41)
      ∧ r.2.mem ((c.tc : Thread Cert.Kernel19Ideal.nD Cert.Kernel19Ideal.τ).loc Cert.Kernel19Ideal.main_arg42) = m ((c.tc : Thread Cert.Kernel19Ideal.nD Cert.Kernel19Ideal.τ).loc Cert.Kernel19Ideal.main_arg42)
      ∧ r.2.mem ((c.tc : Thread Cert.Kernel19Ideal.nD Cert.Kernel19Ideal.τ).loc Cert.Kernel19Ideal.main_arg43) = m ((c.tc : Thread Cert.Kernel19Ideal.nD Cert.Kernel19Ideal.τ).loc Cert.Kernel19Ideal.main_arg43)
      ∧ r.2.mem ((c.tc : Thread Cert.Kernel19Ideal.nD Cert.Kernel19Ideal.τ).loc Cert.Kernel19Ideal.main_arg44) = m ((c.tc : Thread Cert.Kernel19Ideal.nD Cert.Kernel19Ideal.τ).loc Cert.Kernel19Ideal.main_arg44)
      ∧ r.2.mem ((c.tc : Thread Cert.Kernel19Ideal.nD Cert.Kernel19Ideal.τ).loc Cert.Kernel19Ideal.main_arg45) = m ((c.tc : Thread Cert.Kernel19Ideal.nD Cert.Kernel19Ideal.τ).loc Cert.Kernel19Ideal.main_arg45)
      ∧ r.2.mem ((c.tc : Thread Cert.Kernel19Ideal.nD Cert.Kernel19Ideal.τ).loc Cert.Kernel19Ideal.main_arg46) = m ((c.tc : Thread Cert.Kernel19Ideal.nD Cert.Kernel19Ideal.τ).loc Cert.Kernel19Ideal.main_arg46)
      ∧ r.2.mem ((c.tc : Thread Cert.Kernel19Ideal.nD Cert.Kernel19Ideal.τ).loc Cert.Kernel19Ideal.main_arg47) = m ((c.tc : Thread Cert.Kernel19Ideal.nD Cert.Kernel19Ideal.τ).loc Cert.Kernel19Ideal.main_arg47))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14)
      ∧ r.2.mem ((c.tc : Thread Cert.Reference19Ideal.nD Cert.Reference19Ideal.τ).loc Cert.Reference19Ideal.main_arg15) = m ((c.tc : Thread Cert.Reference19Ideal.nD Cert.Reference19Ideal.τ).loc Cert.Reference19Ideal.main_arg15)
      ∧ r.2.mem ((c.tc : Thread Cert.Reference19Ideal.nD Cert.Reference19Ideal.τ).loc Cert.Reference19Ideal.main_arg16) = m ((c.tc : Thread Cert.Reference19Ideal.nD Cert.Reference19Ideal.τ).loc Cert.Reference19Ideal.main_arg16)
      ∧ r.2.mem ((c.tc : Thread Cert.Reference19Ideal.nD Cert.Reference19Ideal.τ).loc Cert.Reference19Ideal.main_arg17) = m ((c.tc : Thread Cert.Reference19Ideal.nD Cert.Reference19Ideal.τ).loc Cert.Reference19Ideal.main_arg17)
      ∧ r.2.mem ((c.tc : Thread Cert.Reference19Ideal.nD Cert.Reference19Ideal.τ).loc Cert.Reference19Ideal.main_arg18) = m ((c.tc : Thread Cert.Reference19Ideal.nD Cert.Reference19Ideal.τ).loc Cert.Reference19Ideal.main_arg18)
      ∧ r.2.mem ((c.tc : Thread Cert.Reference19Ideal.nD Cert.Reference19Ideal.τ).loc Cert.Reference19Ideal.main_arg19) = m ((c.tc : Thread Cert.Reference19Ideal.nD Cert.Reference19Ideal.τ).loc Cert.Reference19Ideal.main_arg19)
      ∧ r.2.mem ((c.tc : Thread Cert.Reference19Ideal.nD Cert.Reference19Ideal.τ).loc Cert.Reference19Ideal.main_arg20) = m ((c.tc : Thread Cert.Reference19Ideal.nD Cert.Reference19Ideal.τ).loc Cert.Reference19Ideal.main_arg20)
      ∧ r.2.mem ((c.tc : Thread Cert.Reference19Ideal.nD Cert.Reference19Ideal.τ).loc Cert.Reference19Ideal.main_arg21) = m ((c.tc : Thread Cert.Reference19Ideal.nD Cert.Reference19Ideal.τ).loc Cert.Reference19Ideal.main_arg21)
      ∧ r.2.mem ((c.tc : Thread Cert.Reference19Ideal.nD Cert.Reference19Ideal.τ).loc Cert.Reference19Ideal.main_arg22) = m ((c.tc : Thread Cert.Reference19Ideal.nD Cert.Reference19Ideal.τ).loc Cert.Reference19Ideal.main_arg22)
      ∧ r.2.mem ((c.tc : Thread Cert.Reference19Ideal.nD Cert.Reference19Ideal.τ).loc Cert.Reference19Ideal.main_arg23) = m ((c.tc : Thread Cert.Reference19Ideal.nD Cert.Reference19Ideal.τ).loc Cert.Reference19Ideal.main_arg23)
      ∧ r.2.mem ((c.tc : Thread Cert.Reference19Ideal.nD Cert.Reference19Ideal.τ).loc Cert.Reference19Ideal.main_arg24) = m ((c.tc : Thread Cert.Reference19Ideal.nD Cert.Reference19Ideal.τ).loc Cert.Reference19Ideal.main_arg24)
      ∧ r.2.mem ((c.tc : Thread Cert.Reference19Ideal.nD Cert.Reference19Ideal.τ).loc Cert.Reference19Ideal.main_arg25) = m ((c.tc : Thread Cert.Reference19Ideal.nD Cert.Reference19Ideal.τ).loc Cert.Reference19Ideal.main_arg25)
      ∧ r.2.mem ((c.tc : Thread Cert.Reference19Ideal.nD Cert.Reference19Ideal.τ).loc Cert.Reference19Ideal.main_arg26) = m ((c.tc : Thread Cert.Reference19Ideal.nD Cert.Reference19Ideal.τ).loc Cert.Reference19Ideal.main_arg26)
      ∧ r.2.mem ((c.tc : Thread Cert.Reference19Ideal.nD Cert.Reference19Ideal.τ).loc Cert.Reference19Ideal.main_arg27) = m ((c.tc : Thread Cert.Reference19Ideal.nD Cert.Reference19Ideal.τ).loc Cert.Reference19Ideal.main_arg27)
      ∧ r.2.mem ((c.tc : Thread Cert.Reference19Ideal.nD Cert.Reference19Ideal.τ).loc Cert.Reference19Ideal.main_arg28) = m ((c.tc : Thread Cert.Reference19Ideal.nD Cert.Reference19Ideal.τ).loc Cert.Reference19Ideal.main_arg28)
      ∧ r.2.mem ((c.tc : Thread Cert.Reference19Ideal.nD Cert.Reference19Ideal.τ).loc Cert.Reference19Ideal.main_arg29) = m ((c.tc : Thread Cert.Reference19Ideal.nD Cert.Reference19Ideal.τ).loc Cert.Reference19Ideal.main_arg29)
      ∧ r.2.mem ((c.tc : Thread Cert.Reference19Ideal.nD Cert.Reference19Ideal.τ).loc Cert.Reference19Ideal.main_arg30) = m ((c.tc : Thread Cert.Reference19Ideal.nD Cert.Reference19Ideal.τ).loc Cert.Reference19Ideal.main_arg30)
      ∧ r.2.mem ((c.tc : Thread Cert.Reference19Ideal.nD Cert.Reference19Ideal.τ).loc Cert.Reference19Ideal.main_arg31) = m ((c.tc : Thread Cert.Reference19Ideal.nD Cert.Reference19Ideal.τ).loc Cert.Reference19Ideal.main_arg31)
      ∧ r.2.mem ((c.tc : Thread Cert.Reference19Ideal.nD Cert.Reference19Ideal.τ).loc Cert.Reference19Ideal.main_arg32) = m ((c.tc : Thread Cert.Reference19Ideal.nD Cert.Reference19Ideal.τ).loc Cert.Reference19Ideal.main_arg32)
      ∧ r.2.mem ((c.tc : Thread Cert.Reference19Ideal.nD Cert.Reference19Ideal.τ).loc Cert.Reference19Ideal.main_arg33) = m ((c.tc : Thread Cert.Reference19Ideal.nD Cert.Reference19Ideal.τ).loc Cert.Reference19Ideal.main_arg33)
      ∧ r.2.mem ((c.tc : Thread Cert.Reference19Ideal.nD Cert.Reference19Ideal.τ).loc Cert.Reference19Ideal.main_arg34) = m ((c.tc : Thread Cert.Reference19Ideal.nD Cert.Reference19Ideal.τ).loc Cert.Reference19Ideal.main_arg34)
      ∧ r.2.mem ((c.tc : Thread Cert.Reference19Ideal.nD Cert.Reference19Ideal.τ).loc Cert.Reference19Ideal.main_arg35) = m ((c.tc : Thread Cert.Reference19Ideal.nD Cert.Reference19Ideal.τ).loc Cert.Reference19Ideal.main_arg35)
      ∧ r.2.mem ((c.tc : Thread Cert.Reference19Ideal.nD Cert.Reference19Ideal.τ).loc Cert.Reference19Ideal.main_arg36) = m ((c.tc : Thread Cert.Reference19Ideal.nD Cert.Reference19Ideal.τ).loc Cert.Reference19Ideal.main_arg36)
      ∧ r.2.mem ((c.tc : Thread Cert.Reference19Ideal.nD Cert.Reference19Ideal.τ).loc Cert.Reference19Ideal.main_arg37) = m ((c.tc : Thread Cert.Reference19Ideal.nD Cert.Reference19Ideal.τ).loc Cert.Reference19Ideal.main_arg37)
      ∧ r.2.mem ((c.tc : Thread Cert.Reference19Ideal.nD Cert.Reference19Ideal.τ).loc Cert.Reference19Ideal.main_arg38) = m ((c.tc : Thread Cert.Reference19Ideal.nD Cert.Reference19Ideal.τ).loc Cert.Reference19Ideal.main_arg38)
      ∧ r.2.mem ((c.tc : Thread Cert.Reference19Ideal.nD Cert.Reference19Ideal.τ).loc Cert.Reference19Ideal.main_arg39) = m ((c.tc : Thread Cert.Reference19Ideal.nD Cert.Reference19Ideal.τ).loc Cert.Reference19Ideal.main_arg39)
      ∧ r.2.mem ((c.tc : Thread Cert.Reference19Ideal.nD Cert.Reference19Ideal.τ).loc Cert.Reference19Ideal.main_arg40) = m ((c.tc : Thread Cert.Reference19Ideal.nD Cert.Reference19Ideal.τ).loc Cert.Reference19Ideal.main_arg40)
      ∧ r.2.mem ((c.tc : Thread Cert.Reference19Ideal.nD Cert.Reference19Ideal.τ).loc Cert.Reference19Ideal.main_arg41) = m ((c.tc : Thread Cert.Reference19Ideal.nD Cert.Reference19Ideal.τ).loc Cert.Reference19Ideal.main_arg41)
      ∧ r.2.mem ((c.tc : Thread Cert.Reference19Ideal.nD Cert.Reference19Ideal.τ).loc Cert.Reference19Ideal.main_arg42) = m ((c.tc : Thread Cert.Reference19Ideal.nD Cert.Reference19Ideal.τ).loc Cert.Reference19Ideal.main_arg42)
      ∧ r.2.mem ((c.tc : Thread Cert.Reference19Ideal.nD Cert.Reference19Ideal.τ).loc Cert.Reference19Ideal.main_arg43) = m ((c.tc : Thread Cert.Reference19Ideal.nD Cert.Reference19Ideal.τ).loc Cert.Reference19Ideal.main_arg43)
      ∧ r.2.mem ((c.tc : Thread Cert.Reference19Ideal.nD Cert.Reference19Ideal.τ).loc Cert.Reference19Ideal.main_arg44) = m ((c.tc : Thread Cert.Reference19Ideal.nD Cert.Reference19Ideal.τ).loc Cert.Reference19Ideal.main_arg44)
      ∧ r.2.mem ((c.tc : Thread Cert.Reference19Ideal.nD Cert.Reference19Ideal.τ).loc Cert.Reference19Ideal.main_arg45) = m ((c.tc : Thread Cert.Reference19Ideal.nD Cert.Reference19Ideal.τ).loc Cert.Reference19Ideal.main_arg45)
      ∧ r.2.mem ((c.tc : Thread Cert.Reference19Ideal.nD Cert.Reference19Ideal.τ).loc Cert.Reference19Ideal.main_arg46) = m ((c.tc : Thread Cert.Reference19Ideal.nD Cert.Reference19Ideal.τ).loc Cert.Reference19Ideal.main_arg46)
      ∧ r.2.mem ((c.tc : Thread Cert.Reference19Ideal.nD Cert.Reference19Ideal.τ).loc Cert.Reference19Ideal.main_arg47) = m ((c.tc : Thread Cert.Reference19Ideal.nD Cert.Reference19Ideal.τ).loc Cert.Reference19Ideal.main_arg47))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v48)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v48) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v59)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v59) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v48)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v48) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v48)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v48) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_v34) = v1 c
          ∧ r.2.mem ((c.tc : Thread Cert.Reference7Ideal.nD Cert.Reference7Ideal.τ).loc Cert.Reference7Ideal.main_v36) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v47) = v0 c
          ∧ r.2.mem ((c.tc : Thread Cert.Reference8Ideal.nD Cert.Reference8Ideal.τ).loc Cert.Reference8Ideal.main_v51) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v20) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v87) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)
      ∧ m' ((c.tc : Thread Cert.Reference19Ideal.nD Cert.Reference19Ideal.τ).loc Cert.Reference19Ideal.main_arg15) = m ((c.tc : Thread Cert.Kernel19Ideal.nD Cert.Kernel19Ideal.τ).loc Cert.Kernel19Ideal.main_arg15)
      ∧ m' ((c.tc : Thread Cert.Reference19Ideal.nD Cert.Reference19Ideal.τ).loc Cert.Reference19Ideal.main_arg16) = m ((c.tc : Thread Cert.Kernel19Ideal.nD Cert.Kernel19Ideal.τ).loc Cert.Kernel19Ideal.main_arg16)
      ∧ m' ((c.tc : Thread Cert.Reference19Ideal.nD Cert.Reference19Ideal.τ).loc Cert.Reference19Ideal.main_arg17) = m ((c.tc : Thread Cert.Kernel19Ideal.nD Cert.Kernel19Ideal.τ).loc Cert.Kernel19Ideal.main_arg17)
      ∧ m' ((c.tc : Thread Cert.Reference19Ideal.nD Cert.Reference19Ideal.τ).loc Cert.Reference19Ideal.main_arg18) = m ((c.tc : Thread Cert.Kernel19Ideal.nD Cert.Kernel19Ideal.τ).loc Cert.Kernel19Ideal.main_arg18)
      ∧ m' ((c.tc : Thread Cert.Reference19Ideal.nD Cert.Reference19Ideal.τ).loc Cert.Reference19Ideal.main_arg19) = m ((c.tc : Thread Cert.Kernel19Ideal.nD Cert.Kernel19Ideal.τ).loc Cert.Kernel19Ideal.main_arg19)
      ∧ m' ((c.tc : Thread Cert.Reference19Ideal.nD Cert.Reference19Ideal.τ).loc Cert.Reference19Ideal.main_arg20) = m ((c.tc : Thread Cert.Kernel19Ideal.nD Cert.Kernel19Ideal.τ).loc Cert.Kernel19Ideal.main_arg20)
      ∧ m' ((c.tc : Thread Cert.Reference19Ideal.nD Cert.Reference19Ideal.τ).loc Cert.Reference19Ideal.main_arg21) = m ((c.tc : Thread Cert.Kernel19Ideal.nD Cert.Kernel19Ideal.τ).loc Cert.Kernel19Ideal.main_arg21)
      ∧ m' ((c.tc : Thread Cert.Reference19Ideal.nD Cert.Reference19Ideal.τ).loc Cert.Reference19Ideal.main_arg22) = m ((c.tc : Thread Cert.Kernel19Ideal.nD Cert.Kernel19Ideal.τ).loc Cert.Kernel19Ideal.main_arg22)
      ∧ m' ((c.tc : Thread Cert.Reference19Ideal.nD Cert.Reference19Ideal.τ).loc Cert.Reference19Ideal.main_arg23) = m ((c.tc : Thread Cert.Kernel19Ideal.nD Cert.Kernel19Ideal.τ).loc Cert.Kernel19Ideal.main_arg23)
      ∧ m' ((c.tc : Thread Cert.Reference19Ideal.nD Cert.Reference19Ideal.τ).loc Cert.Reference19Ideal.main_arg24) = m ((c.tc : Thread Cert.Kernel19Ideal.nD Cert.Kernel19Ideal.τ).loc Cert.Kernel19Ideal.main_arg24)
      ∧ m' ((c.tc : Thread Cert.Reference19Ideal.nD Cert.Reference19Ideal.τ).loc Cert.Reference19Ideal.main_arg25) = m ((c.tc : Thread Cert.Kernel19Ideal.nD Cert.Kernel19Ideal.τ).loc Cert.Kernel19Ideal.main_arg25)
      ∧ m' ((c.tc : Thread Cert.Reference19Ideal.nD Cert.Reference19Ideal.τ).loc Cert.Reference19Ideal.main_arg26) = m ((c.tc : Thread Cert.Kernel19Ideal.nD Cert.Kernel19Ideal.τ).loc Cert.Kernel19Ideal.main_arg26)
      ∧ m' ((c.tc : Thread Cert.Reference19Ideal.nD Cert.Reference19Ideal.τ).loc Cert.Reference19Ideal.main_arg27) = m ((c.tc : Thread Cert.Kernel19Ideal.nD Cert.Kernel19Ideal.τ).loc Cert.Kernel19Ideal.main_arg27)
      ∧ m' ((c.tc : Thread Cert.Reference19Ideal.nD Cert.Reference19Ideal.τ).loc Cert.Reference19Ideal.main_arg28) = m ((c.tc : Thread Cert.Kernel19Ideal.nD Cert.Kernel19Ideal.τ).loc Cert.Kernel19Ideal.main_arg28)
      ∧ m' ((c.tc : Thread Cert.Reference19Ideal.nD Cert.Reference19Ideal.τ).loc Cert.Reference19Ideal.main_arg29) = m ((c.tc : Thread Cert.Kernel19Ideal.nD Cert.Kernel19Ideal.τ).loc Cert.Kernel19Ideal.main_arg29)
      ∧ m' ((c.tc : Thread Cert.Reference19Ideal.nD Cert.Reference19Ideal.τ).loc Cert.Reference19Ideal.main_arg30) = m ((c.tc : Thread Cert.Kernel19Ideal.nD Cert.Kernel19Ideal.τ).loc Cert.Kernel19Ideal.main_arg30)
      ∧ m' ((c.tc : Thread Cert.Reference19Ideal.nD Cert.Reference19Ideal.τ).loc Cert.Reference19Ideal.main_arg31) = m ((c.tc : Thread Cert.Kernel19Ideal.nD Cert.Kernel19Ideal.τ).loc Cert.Kernel19Ideal.main_arg31)
      ∧ m' ((c.tc : Thread Cert.Reference19Ideal.nD Cert.Reference19Ideal.τ).loc Cert.Reference19Ideal.main_arg32) = m ((c.tc : Thread Cert.Kernel19Ideal.nD Cert.Kernel19Ideal.τ).loc Cert.Kernel19Ideal.main_arg32)
      ∧ m' ((c.tc : Thread Cert.Reference19Ideal.nD Cert.Reference19Ideal.τ).loc Cert.Reference19Ideal.main_arg33) = m ((c.tc : Thread Cert.Kernel19Ideal.nD Cert.Kernel19Ideal.τ).loc Cert.Kernel19Ideal.main_arg33)
      ∧ m' ((c.tc : Thread Cert.Reference19Ideal.nD Cert.Reference19Ideal.τ).loc Cert.Reference19Ideal.main_arg34) = m ((c.tc : Thread Cert.Kernel19Ideal.nD Cert.Kernel19Ideal.τ).loc Cert.Kernel19Ideal.main_arg34)
      ∧ m' ((c.tc : Thread Cert.Reference19Ideal.nD Cert.Reference19Ideal.τ).loc Cert.Reference19Ideal.main_arg35) = m ((c.tc : Thread Cert.Kernel19Ideal.nD Cert.Kernel19Ideal.τ).loc Cert.Kernel19Ideal.main_arg35)
      ∧ m' ((c.tc : Thread Cert.Reference19Ideal.nD Cert.Reference19Ideal.τ).loc Cert.Reference19Ideal.main_arg36) = m ((c.tc : Thread Cert.Kernel19Ideal.nD Cert.Kernel19Ideal.τ).loc Cert.Kernel19Ideal.main_arg36)
      ∧ m' ((c.tc : Thread Cert.Reference19Ideal.nD Cert.Reference19Ideal.τ).loc Cert.Reference19Ideal.main_arg37) = m ((c.tc : Thread Cert.Kernel19Ideal.nD Cert.Kernel19Ideal.τ).loc Cert.Kernel19Ideal.main_arg37)
      ∧ m' ((c.tc : Thread Cert.Reference19Ideal.nD Cert.Reference19Ideal.τ).loc Cert.Reference19Ideal.main_arg38) = m ((c.tc : Thread Cert.Kernel19Ideal.nD Cert.Kernel19Ideal.τ).loc Cert.Kernel19Ideal.main_arg38)
      ∧ m' ((c.tc : Thread Cert.Reference19Ideal.nD Cert.Reference19Ideal.τ).loc Cert.Reference19Ideal.main_arg39) = m ((c.tc : Thread Cert.Kernel19Ideal.nD Cert.Kernel19Ideal.τ).loc Cert.Kernel19Ideal.main_arg39)
      ∧ m' ((c.tc : Thread Cert.Reference19Ideal.nD Cert.Reference19Ideal.τ).loc Cert.Reference19Ideal.main_arg40) = m ((c.tc : Thread Cert.Kernel19Ideal.nD Cert.Kernel19Ideal.τ).loc Cert.Kernel19Ideal.main_arg40)
      ∧ m' ((c.tc : Thread Cert.Reference19Ideal.nD Cert.Reference19Ideal.τ).loc Cert.Reference19Ideal.main_arg41) = m ((c.tc : Thread Cert.Kernel19Ideal.nD Cert.Kernel19Ideal.τ).loc Cert.Kernel19Ideal.main_arg41)
      ∧ m' ((c.tc : Thread Cert.Reference19Ideal.nD Cert.Reference19Ideal.τ).loc Cert.Reference19Ideal.main_arg42) = m ((c.tc : Thread Cert.Kernel19Ideal.nD Cert.Kernel19Ideal.τ).loc Cert.Kernel19Ideal.main_arg42)
      ∧ m' ((c.tc : Thread Cert.Reference19Ideal.nD Cert.Reference19Ideal.τ).loc Cert.Reference19Ideal.main_arg43) = m ((c.tc : Thread Cert.Kernel19Ideal.nD Cert.Kernel19Ideal.τ).loc Cert.Kernel19Ideal.main_arg43)
      ∧ m' ((c.tc : Thread Cert.Reference19Ideal.nD Cert.Reference19Ideal.τ).loc Cert.Reference19Ideal.main_arg44) = m ((c.tc : Thread Cert.Kernel19Ideal.nD Cert.Kernel19Ideal.τ).loc Cert.Kernel19Ideal.main_arg44)
      ∧ m' ((c.tc : Thread Cert.Reference19Ideal.nD Cert.Reference19Ideal.τ).loc Cert.Reference19Ideal.main_arg45) = m ((c.tc : Thread Cert.Kernel19Ideal.nD Cert.Kernel19Ideal.τ).loc Cert.Kernel19Ideal.main_arg45)
      ∧ m' ((c.tc : Thread Cert.Reference19Ideal.nD Cert.Reference19Ideal.τ).loc Cert.Reference19Ideal.main_arg46) = m ((c.tc : Thread Cert.Kernel19Ideal.nD Cert.Kernel19Ideal.τ).loc Cert.Kernel19Ideal.main_arg46)
      ∧ m' ((c.tc : Thread Cert.Reference19Ideal.nD Cert.Reference19Ideal.τ).loc Cert.Reference19Ideal.main_arg47) = m ((c.tc : Thread Cert.Kernel19Ideal.nD Cert.Kernel19Ideal.τ).loc Cert.Kernel19Ideal.main_arg47)) →
    ∃ (v0 : (c : Dev Cert.Kernel19Ideal.nD) → Buf (Elt Ideal) ((c.tc : Thread Cert.Kernel19Ideal.nD Cert.Kernel19Ideal.τ).loc Cert.Kernel19Ideal.main_v52_0)) (v1 : (c : Dev Cert.Kernel19Ideal.nD) → Buf (Elt Ideal) ((c.tc : Thread Cert.Kernel19Ideal.nD Cert.Kernel19Ideal.τ).loc Cert.Kernel19Ideal.main_v52_1)) (v2 : (c : Dev Cert.Kernel19Ideal.nD) → Buf (Elt Ideal) ((c.tc : Thread Cert.Kernel19Ideal.nD Cert.Kernel19Ideal.τ).loc Cert.Kernel19Ideal.main_v52_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v52_0) = v0 c
          ∧ r.2.mem ((c.tc : Thread Cert.Kernel19Ideal.nD Cert.Kernel19Ideal.τ).loc Cert.Kernel19Ideal.main_v52_1) = v1 c
          ∧ r.2.mem ((c.tc : Thread Cert.Kernel19Ideal.nD Cert.Kernel19Ideal.τ).loc Cert.Kernel19Ideal.main_v52_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
          ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
          ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
          ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
          ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
          ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
          ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
          ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
          ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
          ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
          ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
          ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
          ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
          ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
          ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
          ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
          ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
          ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31)
          ∧ r.2.mem ((c.tc : Thread Cert.Kernel19Ideal.nD Cert.Kernel19Ideal.τ).loc Cert.Kernel19Ideal.main_arg32) = m ((c.tc : Thread Cert.Kernel19Ideal.nD Cert.Kernel19Ideal.τ).loc Cert.Kernel19Ideal.main_arg32)
          ∧ r.2.mem ((c.tc : Thread Cert.Kernel19Ideal.nD Cert.Kernel19Ideal.τ).loc Cert.Kernel19Ideal.main_arg33) = m ((c.tc : Thread Cert.Kernel19Ideal.nD Cert.Kernel19Ideal.τ).loc Cert.Kernel19Ideal.main_arg33)
          ∧ r.2.mem ((c.tc : Thread Cert.Kernel19Ideal.nD Cert.Kernel19Ideal.τ).loc Cert.Kernel19Ideal.main_arg34) = m ((c.tc : Thread Cert.Kernel19Ideal.nD Cert.Kernel19Ideal.τ).loc Cert.Kernel19Ideal.main_arg34)
          ∧ r.2.mem ((c.tc : Thread Cert.Kernel19Ideal.nD Cert.Kernel19Ideal.τ).loc Cert.Kernel19Ideal.main_arg35) = m ((c.tc : Thread Cert.Kernel19Ideal.nD Cert.Kernel19Ideal.τ).loc Cert.Kernel19Ideal.main_arg35)
          ∧ r.2.mem ((c.tc : Thread Cert.Kernel19Ideal.nD Cert.Kernel19Ideal.τ).loc Cert.Kernel19Ideal.main_arg36) = m ((c.tc : Thread Cert.Kernel19Ideal.nD Cert.Kernel19Ideal.τ).loc Cert.Kernel19Ideal.main_arg36)
          ∧ r.2.mem ((c.tc : Thread Cert.Kernel19Ideal.nD Cert.Kernel19Ideal.τ).loc Cert.Kernel19Ideal.main_arg37) = m ((c.tc : Thread Cert.Kernel19Ideal.nD Cert.Kernel19Ideal.τ).loc Cert.Kernel19Ideal.main_arg37)
          ∧ r.2.mem ((c.tc : Thread Cert.Kernel19Ideal.nD Cert.Kernel19Ideal.τ).loc Cert.Kernel19Ideal.main_arg38) = m ((c.tc : Thread Cert.Kernel19Ideal.nD Cert.Kernel19Ideal.τ).loc Cert.Kernel19Ideal.main_arg38)
          ∧ r.2.mem ((c.tc : Thread Cert.Kernel19Ideal.nD Cert.Kernel19Ideal.τ).loc Cert.Kernel19Ideal.main_arg39) = m ((c.tc : Thread Cert.Kernel19Ideal.nD Cert.Kernel19Ideal.τ).loc Cert.Kernel19Ideal.main_arg39)
          ∧ r.2.mem ((c.tc : Thread Cert.Kernel19Ideal.nD Cert.Kernel19Ideal.τ).loc Cert.Kernel19Ideal.main_arg40) = m ((c.tc : Thread Cert.Kernel19Ideal.nD Cert.Kernel19Ideal.τ).loc Cert.Kernel19Ideal.main_arg40)
          ∧ r.2.mem ((c.tc : Thread Cert.Kernel19Ideal.nD Cert.Kernel19Ideal.τ).loc Cert.Kernel19Ideal.main_arg41) = m ((c.tc : Thread Cert.Kernel19Ideal.nD Cert.Kernel19Ideal.τ).loc Cert.Kernel19Ideal.main_arg41)
          ∧ r.2.mem ((c.tc : Thread Cert.Kernel19Ideal.nD Cert.Kernel19Ideal.τ).loc Cert.Kernel19Ideal.main_arg42) = m ((c.tc : Thread Cert.Kernel19Ideal.nD Cert.Kernel19Ideal.τ).loc Cert.Kernel19Ideal.main_arg42)
          ∧ r.2.mem ((c.tc : Thread Cert.Kernel19Ideal.nD Cert.Kernel19Ideal.τ).loc Cert.Kernel19Ideal.main_arg43) = m ((c.tc : Thread Cert.Kernel19Ideal.nD Cert.Kernel19Ideal.τ).loc Cert.Kernel19Ideal.main_arg43)
          ∧ r.2.mem ((c.tc : Thread Cert.Kernel19Ideal.nD Cert.Kernel19Ideal.τ).loc Cert.Kernel19Ideal.main_arg44) = m ((c.tc : Thread Cert.Kernel19Ideal.nD Cert.Kernel19Ideal.τ).loc Cert.Kernel19Ideal.main_arg44)
          ∧ r.2.mem ((c.tc : Thread Cert.Kernel19Ideal.nD Cert.Kernel19Ideal.τ).loc Cert.Kernel19Ideal.main_arg45) = m ((c.tc : Thread Cert.Kernel19Ideal.nD Cert.Kernel19Ideal.τ).loc Cert.Kernel19Ideal.main_arg45)
          ∧ r.2.mem ((c.tc : Thread Cert.Kernel19Ideal.nD Cert.Kernel19Ideal.τ).loc Cert.Kernel19Ideal.main_arg46) = m ((c.tc : Thread Cert.Kernel19Ideal.nD Cert.Kernel19Ideal.τ).loc Cert.Kernel19Ideal.main_arg46)
          ∧ r.2.mem ((c.tc : Thread Cert.Kernel19Ideal.nD Cert.Kernel19Ideal.τ).loc Cert.Kernel19Ideal.main_arg47) = m ((c.tc : Thread Cert.Kernel19Ideal.nD Cert.Kernel19Ideal.τ).loc Cert.Kernel19Ideal.main_arg47))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v322) = v0 c
          ∧ r.2.mem ((c.tc : Thread Cert.Reference19Ideal.nD Cert.Reference19Ideal.τ).loc Cert.Reference19Ideal.main_v324) = v1 c
          ∧ r.2.mem ((c.tc : Thread Cert.Reference19Ideal.nD Cert.Reference19Ideal.τ).loc Cert.Reference19Ideal.main_v326) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14)
          ∧ r.2.mem ((c.tc : Thread Cert.Reference19Ideal.nD Cert.Reference19Ideal.τ).loc Cert.Reference19Ideal.main_arg15) = m' ((c.tc : Thread Cert.Reference19Ideal.nD Cert.Reference19Ideal.τ).loc Cert.Reference19Ideal.main_arg15)
          ∧ r.2.mem ((c.tc : Thread Cert.Reference19Ideal.nD Cert.Reference19Ideal.τ).loc Cert.Reference19Ideal.main_arg16) = m' ((c.tc : Thread Cert.Reference19Ideal.nD Cert.Reference19Ideal.τ).loc Cert.Reference19Ideal.main_arg16)
          ∧ r.2.mem ((c.tc : Thread Cert.Reference19Ideal.nD Cert.Reference19Ideal.τ).loc Cert.Reference19Ideal.main_arg17) = m' ((c.tc : Thread Cert.Reference19Ideal.nD Cert.Reference19Ideal.τ).loc Cert.Reference19Ideal.main_arg17)
          ∧ r.2.mem ((c.tc : Thread Cert.Reference19Ideal.nD Cert.Reference19Ideal.τ).loc Cert.Reference19Ideal.main_arg18) = m' ((c.tc : Thread Cert.Reference19Ideal.nD Cert.Reference19Ideal.τ).loc Cert.Reference19Ideal.main_arg18)
          ∧ r.2.mem ((c.tc : Thread Cert.Reference19Ideal.nD Cert.Reference19Ideal.τ).loc Cert.Reference19Ideal.main_arg19) = m' ((c.tc : Thread Cert.Reference19Ideal.nD Cert.Reference19Ideal.τ).loc Cert.Reference19Ideal.main_arg19)
          ∧ r.2.mem ((c.tc : Thread Cert.Reference19Ideal.nD Cert.Reference19Ideal.τ).loc Cert.Reference19Ideal.main_arg20) = m' ((c.tc : Thread Cert.Reference19Ideal.nD Cert.Reference19Ideal.τ).loc Cert.Reference19Ideal.main_arg20)
          ∧ r.2.mem ((c.tc : Thread Cert.Reference19Ideal.nD Cert.Reference19Ideal.τ).loc Cert.Reference19Ideal.main_arg21) = m' ((c.tc : Thread Cert.Reference19Ideal.nD Cert.Reference19Ideal.τ).loc Cert.Reference19Ideal.main_arg21)
          ∧ r.2.mem ((c.tc : Thread Cert.Reference19Ideal.nD Cert.Reference19Ideal.τ).loc Cert.Reference19Ideal.main_arg22) = m' ((c.tc : Thread Cert.Reference19Ideal.nD Cert.Reference19Ideal.τ).loc Cert.Reference19Ideal.main_arg22)
          ∧ r.2.mem ((c.tc : Thread Cert.Reference19Ideal.nD Cert.Reference19Ideal.τ).loc Cert.Reference19Ideal.main_arg23) = m' ((c.tc : Thread Cert.Reference19Ideal.nD Cert.Reference19Ideal.τ).loc Cert.Reference19Ideal.main_arg23)
          ∧ r.2.mem ((c.tc : Thread Cert.Reference19Ideal.nD Cert.Reference19Ideal.τ).loc Cert.Reference19Ideal.main_arg24) = m' ((c.tc : Thread Cert.Reference19Ideal.nD Cert.Reference19Ideal.τ).loc Cert.Reference19Ideal.main_arg24)
          ∧ r.2.mem ((c.tc : Thread Cert.Reference19Ideal.nD Cert.Reference19Ideal.τ).loc Cert.Reference19Ideal.main_arg25) = m' ((c.tc : Thread Cert.Reference19Ideal.nD Cert.Reference19Ideal.τ).loc Cert.Reference19Ideal.main_arg25)
          ∧ r.2.mem ((c.tc : Thread Cert.Reference19Ideal.nD Cert.Reference19Ideal.τ).loc Cert.Reference19Ideal.main_arg26) = m' ((c.tc : Thread Cert.Reference19Ideal.nD Cert.Reference19Ideal.τ).loc Cert.Reference19Ideal.main_arg26)
          ∧ r.2.mem ((c.tc : Thread Cert.Reference19Ideal.nD Cert.Reference19Ideal.τ).loc Cert.Reference19Ideal.main_arg27) = m' ((c.tc : Thread Cert.Reference19Ideal.nD Cert.Reference19Ideal.τ).loc Cert.Reference19Ideal.main_arg27)
          ∧ r.2.mem ((c.tc : Thread Cert.Reference19Ideal.nD Cert.Reference19Ideal.τ).loc Cert.Reference19Ideal.main_arg28) = m' ((c.tc : Thread Cert.Reference19Ideal.nD Cert.Reference19Ideal.τ).loc Cert.Reference19Ideal.main_arg28)
          ∧ r.2.mem ((c.tc : Thread Cert.Reference19Ideal.nD Cert.Reference19Ideal.τ).loc Cert.Reference19Ideal.main_arg29) = m' ((c.tc : Thread Cert.Reference19Ideal.nD Cert.Reference19Ideal.τ).loc Cert.Reference19Ideal.main_arg29)
          ∧ r.2.mem ((c.tc : Thread Cert.Reference19Ideal.nD Cert.Reference19Ideal.τ).loc Cert.Reference19Ideal.main_arg30) = m' ((c.tc : Thread Cert.Reference19Ideal.nD Cert.Reference19Ideal.τ).loc Cert.Reference19Ideal.main_arg30)
          ∧ r.2.mem ((c.tc : Thread Cert.Reference19Ideal.nD Cert.Reference19Ideal.τ).loc Cert.Reference19Ideal.main_arg31) = m' ((c.tc : Thread Cert.Reference19Ideal.nD Cert.Reference19Ideal.τ).loc Cert.Reference19Ideal.main_arg31)
          ∧ r.2.mem ((c.tc : Thread Cert.Reference19Ideal.nD Cert.Reference19Ideal.τ).loc Cert.Reference19Ideal.main_arg32) = m' ((c.tc : Thread Cert.Reference19Ideal.nD Cert.Reference19Ideal.τ).loc Cert.Reference19Ideal.main_arg32)
          ∧ r.2.mem ((c.tc : Thread Cert.Reference19Ideal.nD Cert.Reference19Ideal.τ).loc Cert.Reference19Ideal.main_arg33) = m' ((c.tc : Thread Cert.Reference19Ideal.nD Cert.Reference19Ideal.τ).loc Cert.Reference19Ideal.main_arg33)
          ∧ r.2.mem ((c.tc : Thread Cert.Reference19Ideal.nD Cert.Reference19Ideal.τ).loc Cert.Reference19Ideal.main_arg34) = m' ((c.tc : Thread Cert.Reference19Ideal.nD Cert.Reference19Ideal.τ).loc Cert.Reference19Ideal.main_arg34)
          ∧ r.2.mem ((c.tc : Thread Cert.Reference19Ideal.nD Cert.Reference19Ideal.τ).loc Cert.Reference19Ideal.main_arg35) = m' ((c.tc : Thread Cert.Reference19Ideal.nD Cert.Reference19Ideal.τ).loc Cert.Reference19Ideal.main_arg35)
          ∧ r.2.mem ((c.tc : Thread Cert.Reference19Ideal.nD Cert.Reference19Ideal.τ).loc Cert.Reference19Ideal.main_arg36) = m' ((c.tc : Thread Cert.Reference19Ideal.nD Cert.Reference19Ideal.τ).loc Cert.Reference19Ideal.main_arg36)
          ∧ r.2.mem ((c.tc : Thread Cert.Reference19Ideal.nD Cert.Reference19Ideal.τ).loc Cert.Reference19Ideal.main_arg37) = m' ((c.tc : Thread Cert.Reference19Ideal.nD Cert.Reference19Ideal.τ).loc Cert.Reference19Ideal.main_arg37)
          ∧ r.2.mem ((c.tc : Thread Cert.Reference19Ideal.nD Cert.Reference19Ideal.τ).loc Cert.Reference19Ideal.main_arg38) = m' ((c.tc : Thread Cert.Reference19Ideal.nD Cert.Reference19Ideal.τ).loc Cert.Reference19Ideal.main_arg38)
          ∧ r.2.mem ((c.tc : Thread Cert.Reference19Ideal.nD Cert.Reference19Ideal.τ).loc Cert.Reference19Ideal.main_arg39) = m' ((c.tc : Thread Cert.Reference19Ideal.nD Cert.Reference19Ideal.τ).loc Cert.Reference19Ideal.main_arg39)
          ∧ r.2.mem ((c.tc : Thread Cert.Reference19Ideal.nD Cert.Reference19Ideal.τ).loc Cert.Reference19Ideal.main_arg40) = m' ((c.tc : Thread Cert.Reference19Ideal.nD Cert.Reference19Ideal.τ).loc Cert.Reference19Ideal.main_arg40)
          ∧ r.2.mem ((c.tc : Thread Cert.Reference19Ideal.nD Cert.Reference19Ideal.τ).loc Cert.Reference19Ideal.main_arg41) = m' ((c.tc : Thread Cert.Reference19Ideal.nD Cert.Reference19Ideal.τ).loc Cert.Reference19Ideal.main_arg41)
          ∧ r.2.mem ((c.tc : Thread Cert.Reference19Ideal.nD Cert.Reference19Ideal.τ).loc Cert.Reference19Ideal.main_arg42) = m' ((c.tc : Thread Cert.Reference19Ideal.nD Cert.Reference19Ideal.τ).loc Cert.Reference19Ideal.main_arg42)
          ∧ r.2.mem ((c.tc : Thread Cert.Reference19Ideal.nD Cert.Reference19Ideal.τ).loc Cert.Reference19Ideal.main_arg43) = m' ((c.tc : Thread Cert.Reference19Ideal.nD Cert.Reference19Ideal.τ).loc Cert.Reference19Ideal.main_arg43)
          ∧ r.2.mem ((c.tc : Thread Cert.Reference19Ideal.nD Cert.Reference19Ideal.τ).loc Cert.Reference19Ideal.main_arg44) = m' ((c.tc : Thread Cert.Reference19Ideal.nD Cert.Reference19Ideal.τ).loc Cert.Reference19Ideal.main_arg44)
          ∧ r.2.mem ((c.tc : Thread Cert.Reference19Ideal.nD Cert.Reference19Ideal.τ).loc Cert.Reference19Ideal.main_arg45) = m' ((c.tc : Thread Cert.Reference19Ideal.nD Cert.Reference19Ideal.τ).loc Cert.Reference19Ideal.main_arg45)
          ∧ r.2.mem ((c.tc : Thread Cert.Reference19Ideal.nD Cert.Reference19Ideal.τ).loc Cert.Reference19Ideal.main_arg46) = m' ((c.tc : Thread Cert.Reference19Ideal.nD Cert.Reference19Ideal.τ).loc Cert.Reference19Ideal.main_arg46)
          ∧ r.2.mem ((c.tc : Thread Cert.Reference19Ideal.nD Cert.Reference19Ideal.τ).loc Cert.Reference19Ideal.main_arg47) = m' ((c.tc : Thread Cert.Reference19Ideal.nD Cert.Reference19Ideal.τ).loc Cert.Reference19Ideal.main_arg47))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel.lean ====
abbrev S8448x5632 : Shape := ⟨2, ![8448, 5632]⟩
abbrev S1024x5632 : Shape := ⟨2, ![1024, 5632]⟩
abbrev S2816x1024 : Shape := ⟨2, ![2816, 1024]⟩
abbrev S8448x1024 : Shape := ⟨2, ![8448, 1024]⟩
abbrev S1x1024 : Shape := ⟨2, ![1, 1024]⟩
abbrev S2x1x1024 : Shape := ⟨3, ![2, 1, 1024]⟩
abbrev S5632x1024 : Shape := ⟨2, ![5632, 1024]⟩
abbrev S8x704x1024 : Shape := ⟨3, ![8, 704, 1024]⟩
abbrev S8x352x1024 : Shape := ⟨3, ![8, 352, 1024]⟩
abbrev S8x1056x1024 : Shape := ⟨3, ![8, 1056, 1024]⟩
abbrev S1x1x1024 : Shape := ⟨3, ![1, 1, 1024]⟩
abbrev S256x5632 : Shape := ⟨2, ![256, 5632]⟩
abbrev S256x1024 : Shape := ⟨2, ![256, 1024]⟩
abbrev S8 : Shape := ⟨1, ![8]⟩
abbrev S1 : Shape := ⟨1, ![1]⟩
abbrev S_ : Shape := ⟨0, ![]⟩
abbrev S704x1024 : Shape := ⟨2, ![704, 1024]⟩
abbrev S1x704x1024 : Shape := ⟨3, ![1, 704, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 19
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .f32⟩
  | .hbm, ⟨2, _⟩ => ⟨S2816x1024, .f32⟩
  | .hbm, ⟨3, _⟩ => ⟨S8448x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S8448x1024, .f32⟩
  | .hbm, ⟨8, _⟩ => ⟨S5632x1024, .f32⟩
  | .hbm, ⟨9, _⟩ => ⟨S8x704x1024, .f32⟩
  | .hbm, ⟨10, _⟩ => ⟨S8x352x1024, .f32⟩
  | .hbm, ⟨11, _⟩ => ⟨S8x1056x1024, .f32⟩
  | .hbm, ⟨12, _⟩ => ⟨S8x1056x1024, .bf16⟩
  | .hbm, ⟨13, _⟩ => ⟨S1x1024, .f32⟩
  | .hbm, ⟨14, _⟩ => ⟨S2x1x1024, .f32⟩
  | .hbm, ⟨15, _⟩ => ⟨S2x1x1024, .f32⟩
  | .hbm, ⟨16, _⟩ => ⟨S8448x1024, .f32⟩
  | .local _ .vmem, ⟨0, _⟩ => ⟨S1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S256x5632, .bf16⟩
  | .local _ .vmem, ⟨6, _⟩ => ⟨S256x5632, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S256x1024, .f32⟩
  | .local _ .vmem, ⟨17, _⟩ => ⟨S256x1024, .f32⟩
  | .local _ .vmem, ⟨18, _⟩ => ⟨S5632x1024, .bf16⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8448x5632 : Shape := ⟨2, ![8448, 5632]⟩
abbrev S1024x5632 : Shape := ⟨2, ![1024, 5632]⟩
abbrev S2816x1024 : Shape := ⟨2, ![2816, 1024]⟩
abbrev S8448x1024 : Shape := ⟨2, ![8448, 1024]⟩
abbrev S1x1024 : Shape := ⟨2, ![1, 1024]⟩
abbrev S2x1x1024 : Shape := ⟨3, ![2, 1, 1024]⟩
abbrev S8192x1024 : Shape := ⟨2, ![8192, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S8192x5632 : Shape := ⟨2, ![8192, 5632]⟩
abbrev S256 : Shape := ⟨1, ![256]⟩
abbrev S256x1 : Shape := ⟨2, ![256, 1]⟩
abbrev S256x5632 : Shape := ⟨2, ![256, 5632]⟩
abbrev S1024 : Shape := ⟨1, ![1024]⟩

abbrev nBuf : Space → Nat
  | .hbm => 158
  | .vmem => 0
  | .smem => 0
  | _ => 0

abbrev hbmTy0_0 (i : Nat) : BufTy := match i % 128 with
  | 0 => ⟨S8448x5632, .bf16⟩
  | 1 => ⟨S1024x5632, .f32⟩
  | 2 => ⟨S2816x1024, .f32⟩
  | 3 => ⟨S8448x1024, .f32⟩
  | 4 => ⟨S1x1024, .f32⟩
  | 5 => ⟨S2x1x1024, .f32⟩
  | 6 => ⟨S2x1x1024, .f32⟩
  | 7 => ⟨S8448x1024, .f32⟩
  | 8 => ⟨S8448x5632, .f32⟩
  | 9 => ⟨S8192x1024, .f32⟩
  | 10 => ⟨S256x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S8192x1024, .f32⟩
  | 30 => ⟨S1x1x1024, .f32⟩
  | 31 => ⟨S1x1024, .f32⟩
  | 32 => ⟨S1x1x1024, .f32⟩
  | 33 => ⟨S1x1024, .f32⟩
  | 34 => ⟨S_, .f32⟩
  | 35 => ⟨S1x1024, .f32⟩
  | 36 => ⟨S1x1024, .f32⟩
  | 37 => ⟨S8192x1024, .f32⟩
  | 38 => ⟨S8192x1024, .f32⟩
  | 39 => ⟨S8192x1024, .f32⟩
  | 40 => ⟨S8192x1024, .f32⟩
  | 41 => ⟨S8192x5632, .f32⟩
  | 42 => ⟨S256x1024, .f32⟩
  | 43 => ⟨S_, .f32⟩
  | 44 => ⟨S256, .f32⟩
  | 45 => ⟨S256x1, .f32⟩
  | 46 => ⟨S_, .f32⟩
  | 47 => ⟨S256x1, .f32⟩
  | 48 => ⟨S256x1, .f32⟩
  | 49 => ⟨S_, .f32⟩
  | 50 => ⟨S256x1, .f32⟩
  | 51 => ⟨S256x1, .f32⟩
  | 52 => ⟨S256x1, .f32⟩
  | 53 => ⟨S256x1, .f32⟩
  | 54 => ⟨S_, .f32⟩
  | 55 => ⟨S256x1, .f32⟩
  | 56 => ⟨S256x1, .f32⟩
  | 57 => ⟨S256x1024, .f32⟩
  | 58 => ⟨S256x1024, .f32⟩
  | 59 => ⟨S256x1024, .f32⟩
  | 60 => ⟨S256x1024, .f32⟩
  | 61 => ⟨S1x1x1024, .f32⟩
  | 62 => ⟨S1x1024, .f32⟩
  | 63 => ⟨S1x1x1024, .f32⟩
  | 64 => ⟨S1x1024, .f32⟩
  | 65 => ⟨S_, .f32⟩
  | 66 => ⟨S1x1024, .f32⟩
  | 67 => ⟨S1x1024, .f32⟩
  | 68 => ⟨S256x1024, .f32⟩
  | 69 => ⟨S256x1024, .f32⟩
  | 70 => ⟨S256x1024, .f32⟩
  | 71 => ⟨S256x1024, .f32⟩
  | 72 => ⟨S256x5632, .f32⟩
  | 73 => ⟨S8192x5632, .f32⟩
  | 74 => ⟨S256x5632, .f32⟩
  | 75 => ⟨S256x1024, .f32⟩
  | 76 => ⟨S_, .f32⟩
  | 77 => ⟨S1024, .f32⟩
  | 78 => ⟨S1x1024, .f32⟩
  | 79 => ⟨S256x1024, .f32⟩
  | 80 => ⟨S_, .f32⟩
  | 81 => ⟨S1024, .f32⟩
  | 82 => ⟨S1x1024, .f32⟩
  | 83 => ⟨S256x1024, .f32⟩
  | 84 => ⟨S256x1024, .f32⟩
  | 85 => ⟨S1x1x1024, .f32⟩
  | 86 => ⟨S_, .f32⟩
  | 87 => ⟨S2x1x1024, .f32⟩
  | 88 => ⟨S1x1x1024, .f32⟩
  | 89 => ⟨S_, .f32⟩
  | 90 => ⟨S2x1x1024, .f32⟩
  | 91 => ⟨S256x1024, .f32⟩
  | 92 => ⟨S_, .f32⟩
  | 93 => ⟨S1024, .f32⟩
  | 94 => ⟨S1x1024, .f32⟩
  | 95 => ⟨S256x1024, .f32⟩
  | 96 => ⟨S256x1024, .f32⟩
  | 97 => ⟨S256x1024, .f32⟩
  | 98 => ⟨S_, .f32⟩
  | 99 => ⟨S256, .f32⟩
  | 100 => ⟨S256x1, .f32⟩
  | 101 => ⟨S256x1024, .f32⟩
  | 102 => ⟨S256x1024, .f32⟩
  | 103 => ⟨S256x1, .f32⟩
  | 104 => ⟨S_, .f32⟩
  | 105 => ⟨S256x1, .f32⟩
  | 106 => ⟨S256x1, .f32⟩
  | 107 => ⟨S_, .f32⟩
  | 108 => ⟨S256, .f32⟩
  | 109 => ⟨S256x1024, .f32⟩
  | 110 => ⟨S256x1024, .f32⟩
  | 111 => ⟨S256x1024, .f32⟩
  | 112 => ⟨S256x1024, .f32⟩
  | 113 => ⟨S256x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S1x1x1024, .f32⟩
  | 125 => ⟨S_, .f32⟩
  | 126 => ⟨S2x1x1024, .f32⟩
  | 127 => ⟨S2x1x1024, .f32⟩
  | _ => ⟨S8448x5632, .bf16⟩

abbrev hbmTy0_1 (i : Nat) : BufTy := match i % 128 with
  | 0 => ⟨S1x1x1024, .f32⟩
  | 1 => ⟨S_, .f32⟩
  | 2 => ⟨S2x1x1024, .f32⟩
  | 3 => ⟨S2x1x1024, .f32⟩
  | 4 => ⟨S8192x1024, .f32⟩
  | 5 => ⟨S_, .f32⟩
  | 6 => ⟨S1024, .f32⟩
  | 7 => ⟨S1x1024, .f32⟩
  | 8 => ⟨S1x1024, .f32⟩
  | 9 => ⟨S8192x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S8192x1024, .f32⟩
  | 16 => ⟨S8192x1024, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8448x1024, .f32⟩
  | 29 => ⟨S8448x1024, .f32⟩
  | _ => ⟨S8448x5632, .bf16⟩

abbrev hbmTy (i : Nat) : BufTy := match i / 128 with
  | 0 => hbmTy0_0 i
  | 1 => hbmTy0_1 i
  | _ => ⟨S8448x5632, .bf16⟩

abbrev bufTy : (tb : Table) → Fin (tcTables nBuf tb) → BufTy
  | .hbm, ⟨i, _⟩ => hbmTy i
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_14 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_17 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_18 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_19 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_20 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_21 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_22 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_23 : Ref sig .tc := ⟨.hbm, 146, rfl⟩
abbrev main_v114 : Ref sig .tc := ⟨.hbm, 147, rfl⟩
abbrev main_v115 : Ref sig .tc := ⟨.hbm, 148, rfl⟩
abbrev main_cst_24 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩

abbrev nD : Nat := 1
abbrev τ : Topo := Topo.v7x

variable {F : FTy → Type} [FloatOps F]
-- ==== Kernel2.lean ====
abbrev S8448x5632 : Shape := ⟨2, ![8448, 5632]⟩
abbrev S8448x1024 : Shape := ⟨2, ![8448, 1024]⟩
abbrev S1x1024 : Shape := ⟨2, ![1, 1024]⟩
abbrev S2x1x1024 : Shape := ⟨3, ![2, 1, 1024]⟩
abbrev S1024x5632 : Shape := ⟨2, ![1024, 5632]⟩
abbrev S8192x1024 : Shape := ⟨2, ![8192, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S256 : Shape := ⟨1, ![256]⟩
abbrev S256x1 : Shape := ⟨2, ![256, 1]⟩
abbrev S5632x1024 : Shape := ⟨2, ![5632, 1024]⟩
abbrev S2816x1408 : Shape := ⟨2, ![2816, 1408]⟩
abbrev S2816x1024 : Shape := ⟨2, ![2816, 1024]⟩
abbrev S1408x1024 : Shape := ⟨2, ![1408, 1024]⟩

abbrev nBuf : Space → Nat
  | .hbm => 63
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S8448x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S1024x5632, .f32⟩
  | .hbm, ⟨6, _⟩ => ⟨S8192x1024, .f32⟩
  | .hbm, ⟨7, _⟩ => ⟨S256x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1x1024, .f32⟩
  | .hbm, ⟨24, _⟩ => ⟨S1x1024, .f32⟩
  | .hbm, ⟨25, _⟩ => ⟨S1x1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S256x1024, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S256x1, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S1x1x1024, .f32⟩
  | .hbm, ⟨50, _⟩ => ⟨S1x1024, .f32⟩
  | .hbm, ⟨51, _⟩ => ⟨S1x1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S8448x1024, .f32⟩
  | .hbm, ⟨61, _⟩ => ⟨S8448x1024, .bf16⟩
  | .hbm, ⟨62, _⟩ => ⟨S5632x1024, .bf16⟩
  | .local _ .vmem, ⟨0, _⟩ => ⟨S2816x1408, .bf16⟩
  | .local _ .vmem, ⟨1, _⟩ => ⟨S2816x1408, .bf16⟩
  | .local _ .vmem, ⟨2, _⟩ => ⟨S2816x1024, .bf16⟩
  | .local _ .vmem, ⟨3, _⟩ => ⟨S2816x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8448x5632 : Shape := ⟨2, ![8448, 5632]⟩
abbrev S8448x1024 : Shape := ⟨2, ![8448, 1024]⟩
abbrev S1x1024 : Shape := ⟨2, ![1, 1024]⟩
abbrev S2x1x1024 : Shape := ⟨3, ![2, 1, 1024]⟩
abbrev S1024x5632 : Shape := ⟨2, ![1024, 5632]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S8192x5632 : Shape := ⟨2, ![8192, 5632]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S5632x1024 : Shape := ⟨2, ![5632, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S1024x5632, .f32⟩
  | .hbm, ⟨6, _⟩ => ⟨S8448x5632, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1x1024, .f32⟩
  | .hbm, ⟨24, _⟩ => ⟨S1x1024, .f32⟩
  | .hbm, ⟨25, _⟩ => ⟨S1x1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x5632, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S1x1x1024, .f32⟩
  | .hbm, ⟨52, _⟩ => ⟨S1x1024, .f32⟩
  | .hbm, ⟨53, _⟩ => ⟨S1x1x1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S256x1024, .f32⟩
  | .hbm, ⟨59, _⟩ => ⟨S256x1024, .f32⟩
  | .hbm, ⟨60, _⟩ => ⟨S256x1024, .f32⟩
  | .hbm, ⟨61, _⟩ => ⟨S256x1024, .f32⟩
  | .hbm, ⟨62, _⟩ => ⟨S256x5632, .f32⟩
  | .hbm, ⟨63, _⟩ => ⟨S8192x5632, .f32⟩
  | .hbm, ⟨64, _⟩ => ⟨S256x5632, .f32⟩
  | .hbm, ⟨65, _⟩ => ⟨S5632x1024, .f32⟩
  | .hbm, ⟨66, _⟩ => ⟨S1024x5632, .f32⟩
  | .hbm, ⟨67, _⟩ => ⟨S5632x1024, .f32⟩
  | .hbm, ⟨68, _⟩ => ⟨S1024x5632, .f32⟩
  | .hbm, ⟨69, _⟩ => ⟨S1024x5632, .f32⟩
  | .hbm, ⟨70, _⟩ => ⟨S5632x1024, .f32⟩
  | .hbm, ⟨71, _⟩ => ⟨S5632x1024, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel3.lean ====
abbrev S8448x5632 : Shape := ⟨2, ![8448, 5632]⟩
abbrev S3x5632 : Shape := ⟨2, ![3, 5632]⟩
abbrev S8448x1024 : Shape := ⟨2, ![8448, 1024]⟩
abbrev S2816x1024 : Shape := ⟨2, ![2816, 1024]⟩
abbrev S8192x5632 : Shape := ⟨2, ![8192, 5632]⟩
abbrev S_ : Shape := ⟨0, ![]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩
abbrev S256x5632 : Shape := ⟨2, ![256, 5632]⟩
abbrev S258x5632 : Shape := ⟨2, ![258, 5632]⟩
abbrev S256x2816 : Shape := ⟨2, ![256, 2816]⟩
abbrev S8448x2816 : Shape := ⟨2, ![8448, 2816]⟩
abbrev S2816x1408 : Shape := ⟨2, ![2816, 1408]⟩
abbrev S1408x1024 : Shape := ⟨2, ![1408, 1024]⟩

abbrev nBuf : Space → Nat
  | .hbm => 86
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S3x5632, .f32⟩
  | .hbm, ⟨2, _⟩ => ⟨S8448x1024, .bf16⟩
  | .hbm, ⟨3, _⟩ => ⟨S2816x1024, .f32⟩
  | .hbm, ⟨4, _⟩ => ⟨S8448x5632, .f32⟩
  | .hbm, ⟨5, _⟩ => ⟨S8192x5632, .f32⟩
  | .hbm, ⟨6, _⟩ => ⟨S_, .i32⟩
  | .hbm, ⟨7, _⟩ => ⟨S_, .f32⟩
  | .hbm, ⟨8, _⟩ => ⟨S8194x5632, .f32⟩
  | .hbm, ⟨9, _⟩ => ⟨S1x5632, .f32⟩
  | .hbm, ⟨10, _⟩ => ⟨S5632, .f32⟩
  | .hbm, ⟨11, _⟩ => ⟨S8192x5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S5632, .f32⟩
  | .hbm, ⟨20, _⟩ => ⟨S8192x5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S1x5632, .f32⟩
  | .hbm, ⟨26, _⟩ => ⟨S5632, .f32⟩
  | .hbm, ⟨27, _⟩ => ⟨S8192x5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S256x5632, .f32⟩
  | .hbm, ⟨45, _⟩ => ⟨S_, .i32⟩
  | .hbm, ⟨46, _⟩ => ⟨S_, .f32⟩
  | .hbm, ⟨47, _⟩ => ⟨S258x5632, .f32⟩
  | .hbm, ⟨48, _⟩ => ⟨S1x5632, .f32⟩
  | .hbm, ⟨49, _⟩ => ⟨S5632, .f32⟩
  | .hbm, ⟨50, _⟩ => ⟨S256x5632, .f32⟩
  | .hbm, ⟨51, _⟩ => ⟨S1x5632, .f32⟩
  | .hbm, ⟨52, _⟩ => ⟨S256x5632, .f32⟩
  | .hbm, ⟨53, _⟩ => ⟨S256x5632, .f32⟩
  | .hbm, ⟨54, _⟩ => ⟨S_, .f32⟩
  | .hbm, ⟨55, _⟩ => ⟨S256x5632, .f32⟩
  | .hbm, ⟨56, _⟩ => ⟨S256x5632, .f32⟩
  | .hbm, ⟨57, _⟩ => ⟨S1x5632, .f32⟩
  | .hbm, ⟨58, _⟩ => ⟨S5632, .f32⟩
  | .hbm, ⟨59, _⟩ => ⟨S256x5632, .f32⟩
  | .hbm, ⟨60, _⟩ => ⟨S1x5632, .f32⟩
  | .hbm, ⟨61, _⟩ => ⟨S256x5632, .f32⟩
  | .hbm, ⟨62, _⟩ => ⟨S256x5632, .f32⟩
  | .hbm, ⟨63, _⟩ => ⟨S256x5632, .f32⟩
  | .hbm, ⟨64, _⟩ => ⟨S1x5632, .f32⟩
  | .hbm, ⟨65, _⟩ => ⟨S5632, .f32⟩
  | .hbm, ⟨66, _⟩ => ⟨S256x5632, .f32⟩
  | .hbm, ⟨67, _⟩ => ⟨S1x5632, .f32⟩
  | .hbm, ⟨68, _⟩ => ⟨S256x5632, .f32⟩
  | .hbm, ⟨69, _⟩ => ⟨S256x5632, .f32⟩
  | .hbm, ⟨70, _⟩ => ⟨S256x5632, .f32⟩
  | .hbm, ⟨71, _⟩ => ⟨S256x2816, .f32⟩
  | .hbm, ⟨72, _⟩ => ⟨S256x2816, .f32⟩
  | .hbm, ⟨73, _⟩ => ⟨S256x2816, .f32⟩
  | .hbm, ⟨74, _⟩ => ⟨S256x2816, .f32⟩
  | .hbm, ⟨75, _⟩ => ⟨S_, .f32⟩
  | .hbm, ⟨76, _⟩ => ⟨S256x2816, .f32⟩
  | .hbm, ⟨77, _⟩ => ⟨S256x2816, .f32⟩
  | .hbm, ⟨78, _⟩ => ⟨S_, .f32⟩
  | .hbm, ⟨79, _⟩ => ⟨S256x2816, .f32⟩
  | .hbm, ⟨80, _⟩ => ⟨S256x2816, .f32⟩
  | .hbm, ⟨81, _⟩ => ⟨S256x2816, .f32⟩
  | .hbm, ⟨82, _⟩ => ⟨S256x2816, .f32⟩
  | .hbm, ⟨83, _⟩ => ⟨S8448x2816, .f32⟩
  | .hbm, ⟨84, _⟩ => ⟨S8448x2816, .bf16⟩
  | .hbm, ⟨85, _⟩ => ⟨S2816x1024, .bf16⟩
  | .local _ .vmem, ⟨0, _⟩ => ⟨S2816x1408, .bf16⟩
  | .local _ .vmem, ⟨1, _⟩ => ⟨S2816x1408, .bf16⟩
  | .local _ .vmem, ⟨2, _⟩ => ⟨S2816x1024, .bf16⟩
  | .local _ .vmem, ⟨3, _⟩ => ⟨S2816x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_0 : Ref sig .tc := ⟨.hbm, 45, rfl⟩
abbrev main_call2_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call3_v0 : Ref sig .tc := ⟨.hbm, 73, rfl⟩
abbrev main_call3_v1 : Ref sig .tc := ⟨.hbm, 74, rfl⟩
abbrev main_call3_cst : Ref sig .tc := ⟨.hbm, 75, rfl⟩
abbrev main_call3_v2 : Ref sig .tc := ⟨.hbm, 76, rfl⟩
abbrev main_call3_v3 : Ref sig .tc := ⟨.hbm, 77, rfl⟩
abbrev main_call3_cst_0 : Ref sig .tc := ⟨.hbm, 78, rfl⟩
abbrev main_call3_v4 : Ref sig .tc := ⟨.hbm, 79, rfl⟩
abbrev main_call3_v5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8448x5632 : Shape := ⟨2, ![8448, 5632]⟩
abbrev S3x5632 : Shape := ⟨2, ![3, 5632]⟩
abbrev S8448x1024 : Shape := ⟨2, ![8448, 1024]⟩
abbrev S2816x1024 : Shape := ⟨2, ![2816, 1024]⟩
abbrev S8192x5632 : Shape := ⟨2, ![8192, 5632]⟩
abbrev S_ : Shape := ⟨0, ![]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩
abbrev S8192x1024 : Shape := ⟨2, ![8192, 1024]⟩
abbrev S256x5632 : Shape := ⟨2, ![256, 5632]⟩
abbrev S258x5632 : Shape := ⟨2, ![258, 5632]⟩
abbrev S256x2816 : Shape := ⟨2, ![256, 2816]⟩
abbrev S256x1024 : Shape := ⟨2, ![256, 1024]⟩
abbrev S1024x2816 : Shape := ⟨2, ![1024, 2816]⟩

abbrev nBuf : Space → Nat
  | .hbm => 94
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S3x5632, .f32⟩
  | .hbm, ⟨2, _⟩ => ⟨S8448x1024, .bf16⟩
  | .hbm, ⟨3, _⟩ => ⟨S2816x1024, .f32⟩
  | .hbm, ⟨4, _⟩ => ⟨S8448x5632, .f32⟩
  | .hbm, ⟨5, _⟩ => ⟨S8448x1024, .f32⟩
  | .hbm, ⟨6, _⟩ => ⟨S8192x5632, .f32⟩
  | .hbm, ⟨7, _⟩ => ⟨S_, .i32⟩
  | .hbm, ⟨8, _⟩ => ⟨S_, .f32⟩
  | .hbm, ⟨9, _⟩ => ⟨S8194x5632, .f32⟩
  | .hbm, ⟨10, _⟩ => ⟨S1x5632, .f32⟩
  | .hbm, ⟨11, _⟩ => ⟨S5632, .f32⟩
  | .hbm, ⟨12, _⟩ => ⟨S8192x5632, .f32⟩
  | .hbm, ⟨13, _⟩ => ⟨S1x5632, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S8192x5632, .f32⟩
  | .hbm, ⟨22, _⟩ => ⟨S1x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x5632, .f32⟩
  | .hbm, ⟨27, _⟩ => ⟨S5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S256x5632, .f32⟩
  | .hbm, ⟨47, _⟩ => ⟨S_, .i32⟩
  | .hbm, ⟨48, _⟩ => ⟨S_, .f32⟩
  | .hbm, ⟨49, _⟩ => ⟨S258x5632, .f32⟩
  | .hbm, ⟨50, _⟩ => ⟨S1x5632, .f32⟩
  | .hbm, ⟨51, _⟩ => ⟨S5632, .f32⟩
  | .hbm, ⟨52, _⟩ => ⟨S256x5632, .f32⟩
  | .hbm, ⟨53, _⟩ => ⟨S1x5632, .f32⟩
  | .hbm, ⟨54, _⟩ => ⟨S256x5632, .f32⟩
  | .hbm, ⟨55, _⟩ => ⟨S256x5632, .f32⟩
  | .hbm, ⟨56, _⟩ => ⟨S_, .f32⟩
  | .hbm, ⟨57, _⟩ => ⟨S256x5632, .f32⟩
  | .hbm, ⟨58, _⟩ => ⟨S256x5632, .f32⟩
  | .hbm, ⟨59, _⟩ => ⟨S1x5632, .f32⟩
  | .hbm, ⟨60, _⟩ => ⟨S5632, .f32⟩
  | .hbm, ⟨61, _⟩ => ⟨S256x5632, .f32⟩
  | .hbm, ⟨62, _⟩ => ⟨S1x5632, .f32⟩
  | .hbm, ⟨63, _⟩ => ⟨S256x5632, .f32⟩
  | .hbm, ⟨64, _⟩ => ⟨S256x5632, .f32⟩
  | .hbm, ⟨65, _⟩ => ⟨S256x5632, .f32⟩
  | .hbm, ⟨66, _⟩ => ⟨S1x5632, .f32⟩
  | .hbm, ⟨67, _⟩ => ⟨S5632, .f32⟩
  | .hbm, ⟨68, _⟩ => ⟨S256x5632, .f32⟩
  | .hbm, ⟨69, _⟩ => ⟨S1x5632, .f32⟩
  | .hbm, ⟨70, _⟩ => ⟨S256x5632, .f32⟩
  | .hbm, ⟨71, _⟩ => ⟨S256x5632, .f32⟩
  | .hbm, ⟨72, _⟩ => ⟨S256x5632, .f32⟩
  | .hbm, ⟨73, _⟩ => ⟨S256x2816, .f32⟩
  | .hbm, ⟨74, _⟩ => ⟨S256x2816, .f32⟩
  | .hbm, ⟨75, _⟩ => ⟨S256x2816, .f32⟩
  | .hbm, ⟨76, _⟩ => ⟨S256x2816, .f32⟩
  | .hbm, ⟨77, _⟩ => ⟨S_, .f32⟩
  | .hbm, ⟨78, _⟩ => ⟨S256x2816, .f32⟩
  | .hbm, ⟨79, _⟩ => ⟨S256x2816, .f32⟩
  | .hbm, ⟨80, _⟩ => ⟨S_, .f32⟩
  | .hbm, ⟨81, _⟩ => ⟨S256x2816, .f32⟩
  | .hbm, ⟨82, _⟩ => ⟨S256x2816, .f32⟩
  | .hbm, ⟨83, _⟩ => ⟨S256x2816, .f32⟩
  | .hbm, ⟨84, _⟩ => ⟨S256x2816, .f32⟩
  | .hbm, ⟨85, _⟩ => ⟨S256x1024, .f32⟩
  | .hbm, ⟨86, _⟩ => ⟨S8192x1024, .f32⟩
  | .hbm, ⟨87, _⟩ => ⟨S256x1024, .f32⟩
  | .hbm, ⟨88, _⟩ => ⟨S1024x2816, .f32⟩
  | .hbm, ⟨89, _⟩ => ⟨S2816x1024, .f32⟩
  | .hbm, ⟨90, _⟩ => ⟨S1024x2816, .f32⟩
  | .hbm, ⟨91, _⟩ => ⟨S2816x1024, .f32⟩
  | .hbm, ⟨92, _⟩ => ⟨S2816x1024, .f32⟩
  | .hbm, ⟨93, _⟩ => ⟨S2816x1024, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_0 : Ref sig .tc := ⟨.hbm, 47, rfl⟩
abbrev main_call2_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Kernel4.lean ====
abbrev S8448x2560 : Shape := ⟨2, ![8448, 2560]⟩
abbrev S8448x1024 : Shape := ⟨2, ![8448, 1024]⟩
abbrev S1x1024 : Shape := ⟨2, ![1, 1024]⟩
abbrev S2x1x1024 : Shape := ⟨3, ![2, 1, 1024]⟩
abbrev S1024x2560 : Shape := ⟨2, ![1024, 2560]⟩
abbrev S8192x1024 : Shape := ⟨2, ![8192, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S256 : Shape := ⟨1, ![256]⟩
abbrev S256x1 : Shape := ⟨2, ![256, 1]⟩
abbrev S2560x1024 : Shape := ⟨2, ![2560, 1024]⟩
abbrev S2816x1280 : Shape := ⟨2, ![2816, 1280]⟩
abbrev S2816x1024 : Shape := ⟨2, ![2816, 1024]⟩
abbrev S1280x1024 : Shape := ⟨2, ![1280, 1024]⟩

abbrev nBuf : Space → Nat
  | .hbm => 63
  | .vmem => 7
  | .smem => 0
  | _ => 0

abbrev bufTy : (tb : Table) → Fin (tcTables nBuf tb) → BufTy
  | .hbm, ⟨0, _⟩ => ⟨S8448x2560, .bf16⟩
  | .hbm, ⟨1, _⟩ => ⟨S8448x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S1024x2560, .f32⟩
  | .hbm, ⟨6, _⟩ => ⟨S8192x1024, .f32⟩
  | .hbm, ⟨7, _⟩ => ⟨S256x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1x1024, .f32⟩
  | .hbm, ⟨24, _⟩ => ⟨S1x1024, .f32⟩
  | .hbm, ⟨25, _⟩ => ⟨S1x1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S256x1024, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S256x1, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S1x1x1024, .f32⟩
  | .hbm, ⟨50, _⟩ => ⟨S1x1024, .f32⟩
  | .hbm, ⟨51, _⟩ => ⟨S1x1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S8448x1024, .f32⟩
  | .hbm, ⟨61, _⟩ => ⟨S8448x1024, .bf16⟩
  | .hbm, ⟨62, _⟩ => ⟨S2560x1024, .bf16⟩
  | .local _ .vmem, ⟨0, _⟩ => ⟨S2816x1280, .bf16⟩
  | .local _ .vmem, ⟨1, _⟩ => ⟨S2816x1280, .bf16⟩
  | .local _ .vmem, ⟨2, _⟩ => ⟨S2816x1024, .bf16⟩
  | .local _ .vmem, ⟨3, _⟩ => ⟨S2816x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S8448x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8448x2560 : Shape := ⟨2, ![8448, 2560]⟩
abbrev S8448x1024 : Shape := ⟨2, ![8448, 1024]⟩
abbrev S1x1024 : Shape := ⟨2, ![1, 1024]⟩
abbrev S2x1x1024 : Shape := ⟨3, ![2, 1, 1024]⟩
abbrev S1024x2560 : Shape := ⟨2, ![1024, 2560]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S8192x2560 : Shape := ⟨2, ![8192, 2560]⟩
abbrev S256x1024 : Shape := ⟨2, ![256, 1024]⟩
abbrev S256 : Shape := ⟨1, ![256]⟩
abbrev S256x1 : Shape := ⟨2, ![256, 1]⟩
abbrev S256x2560 : Shape := ⟨2, ![256, 2560]⟩
abbrev S2560x1024 : Shape := ⟨2, ![2560, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8448x2560, .bf16⟩
  | .hbm, ⟨1, _⟩ => ⟨S8448x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S1024x2560, .f32⟩
  | .hbm, ⟨6, _⟩ => ⟨S8448x2560, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1x1024, .f32⟩
  | .hbm, ⟨24, _⟩ => ⟨S1x1024, .f32⟩
  | .hbm, ⟨25, _⟩ => ⟨S1x1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x2560, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S1x1x1024, .f32⟩
  | .hbm, ⟨52, _⟩ => ⟨S1x1024, .f32⟩
  | .hbm, ⟨53, _⟩ => ⟨S1x1x1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S256x1024, .f32⟩
  | .hbm, ⟨59, _⟩ => ⟨S256x1024, .f32⟩
  | .hbm, ⟨60, _⟩ => ⟨S256x1024, .f32⟩
  | .hbm, ⟨61, _⟩ => ⟨S256x1024, .f32⟩
  | .hbm, ⟨62, _⟩ => ⟨S256x2560, .f32⟩
  | .hbm, ⟨63, _⟩ => ⟨S8192x2560, .f32⟩
  | .hbm, ⟨64, _⟩ => ⟨S256x2560, .f32⟩
  | .hbm, ⟨65, _⟩ => ⟨S2560x1024, .f32⟩
  | .hbm, ⟨66, _⟩ => ⟨S1024x2560, .f32⟩
  | .hbm, ⟨67, _⟩ => ⟨S2560x1024, .f32⟩
  | .hbm, ⟨68, _⟩ => ⟨S1024x2560, .f32⟩
  | .hbm, ⟨69, _⟩ => ⟨S1024x2560, .f32⟩
  | .hbm, ⟨70, _⟩ => ⟨S2560x1024, .f32⟩
  | .hbm, ⟨71, _⟩ => ⟨S2560x1024, .bf16⟩
  | _, _ => ⟨S8448x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel5.lean ====
abbrev S8448x1536 : Shape := ⟨2, ![8448, 1536]⟩
abbrev S8448x1024 : Shape := ⟨2, ![8448, 1024]⟩
abbrev S1x1024 : Shape := ⟨2, ![1, 1024]⟩
abbrev S2x1x1024 : Shape := ⟨3, ![2, 1, 1024]⟩
abbrev S1024x1536 : Shape := ⟨2, ![1024, 1536]⟩
abbrev S8192x1024 : Shape := ⟨2, ![8192, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S256 : Shape := ⟨1, ![256]⟩
abbrev S256x1 : Shape := ⟨2, ![256, 1]⟩
abbrev S1536x1024 : Shape := ⟨2, ![1536, 1024]⟩
abbrev S2816x1536 : Shape := ⟨2, ![2816, 1536]⟩
abbrev S2816x1024 : Shape := ⟨2, ![2816, 1024]⟩

abbrev nBuf : Space → Nat
  | .hbm => 63
  | .vmem => 6
  | .smem => 0
  | _ => 0

abbrev bufTy : (tb : Table) → Fin (tcTables nBuf tb) → BufTy
  | .hbm, ⟨0, _⟩ => ⟨S8448x1536, .bf16⟩
  | .hbm, ⟨1, _⟩ => ⟨S8448x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S1024x1536, .f32⟩
  | .hbm, ⟨6, _⟩ => ⟨S8192x1024, .f32⟩
  | .hbm, ⟨7, _⟩ => ⟨S256x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1x1024, .f32⟩
  | .hbm, ⟨24, _⟩ => ⟨S1x1024, .f32⟩
  | .hbm, ⟨25, _⟩ => ⟨S1x1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S256x1024, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S256x1, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S1x1x1024, .f32⟩
  | .hbm, ⟨50, _⟩ => ⟨S1x1024, .f32⟩
  | .hbm, ⟨51, _⟩ => ⟨S1x1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S8448x1024, .f32⟩
  | .hbm, ⟨61, _⟩ => ⟨S8448x1024, .bf16⟩
  | .hbm, ⟨62, _⟩ => ⟨S1536x1024, .bf16⟩
  | .local _ .vmem, ⟨0, _⟩ => ⟨S2816x1536, .bf16⟩
  | .local _ .vmem, ⟨1, _⟩ => ⟨S2816x1536, .bf16⟩
  | .local _ .vmem, ⟨2, _⟩ => ⟨S2816x1024, .bf16⟩
  | .local _ .vmem, ⟨3, _⟩ => ⟨S2816x1024, .bf16⟩
  | .local _ .vmem, ⟨4, _⟩ => ⟨S1536x1024, .bf16⟩
  | .local _ .vmem, ⟨5, _⟩ => ⟨S1536x1024, .f32⟩
  | _, _ => ⟨S8448x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8448x1536 : Shape := ⟨2, ![8448, 1536]⟩
abbrev S8448x1024 : Shape := ⟨2, ![8448, 1024]⟩
abbrev S1x1024 : Shape := ⟨2, ![1, 1024]⟩
abbrev S2x1x1024 : Shape := ⟨3, ![2, 1, 1024]⟩
abbrev S1024x1536 : Shape := ⟨2, ![1024, 1536]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S8192x1536 : Shape := ⟨2, ![8192, 1536]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S1536x1024 : Shape := ⟨2, ![1536, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8448x1536, .bf16⟩
  | .hbm, ⟨1, _⟩ => ⟨S8448x1024, .f32⟩
  | .hbm, ⟨2, _⟩ => ⟨S1x1024, .f32⟩
  | .hbm, ⟨3, _⟩ => ⟨S2x1x1024, .f32⟩
  | .hbm, ⟨4, _⟩ => ⟨S2x1x1024, .f32⟩
  | .hbm, ⟨5, _⟩ => ⟨S1024x1536, .f32⟩
  | .hbm, ⟨6, _⟩ => ⟨S8448x1536, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1x1024, .f32⟩
  | .hbm, ⟨24, _⟩ => ⟨S1x1024, .f32⟩
  | .hbm, ⟨25, _⟩ => ⟨S1x1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1536, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S1x1x1024, .f32⟩
  | .hbm, ⟨52, _⟩ => ⟨S1x1024, .f32⟩
  | .hbm, ⟨53, _⟩ => ⟨S1x1x1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S256x1024, .f32⟩
  | .hbm, ⟨59, _⟩ => ⟨S256x1024, .f32⟩
  | .hbm, ⟨60, _⟩ => ⟨S256x1024, .f32⟩
  | .hbm, ⟨61, _⟩ => ⟨S256x1024, .f32⟩
  | .hbm, ⟨62, _⟩ => ⟨S256x1536, .f32⟩
  | .hbm, ⟨63, _⟩ => ⟨S8192x1536, .f32⟩
  | .hbm, ⟨64, _⟩ => ⟨S256x1536, .f32⟩
  | .hbm, ⟨65, _⟩ => ⟨S1536x1024, .f32⟩
  | .hbm, ⟨66, _⟩ => ⟨S1024x1536, .f32⟩
  | .hbm, ⟨67, _⟩ => ⟨S1536x1024, .f32⟩
  | .hbm, ⟨68, _⟩ => ⟨S1024x1536, .f32⟩
  | .hbm, ⟨69, _⟩ => ⟨S1024x1536, .f32⟩
  | .hbm, ⟨70, _⟩ => ⟨S1536x1024, .f32⟩
  | .hbm, ⟨71, _⟩ => ⟨S1536x1024, .bf16⟩
  | _, _ => ⟨S8448x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel6.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .hbm, ⟨3, _⟩ => ⟨S1024x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8448x1024 : Shape := ⟨2, ![8448, 1024]⟩
abbrev S1024x1024 : Shape := ⟨2, ![1024, 1024]⟩
abbrev S8192x1024 : Shape := ⟨2, ![8192, 1024]⟩
abbrev S256x1024 : Shape := ⟨2, ![256, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .hbm, ⟨3, _⟩ => ⟨S8448x1024, .f32⟩
  | .hbm, ⟨4, _⟩ => ⟨S8448x1024, .f32⟩
  | .hbm, ⟨5, _⟩ => ⟨S8192x1024, .f32⟩
  | .hbm, ⟨6, _⟩ => ⟨S8192x1024, .f32⟩
  | .hbm, ⟨7, _⟩ => ⟨S256x1024, .f32⟩
  | .hbm, ⟨8, _⟩ => ⟨S256x1024, .f32⟩
  | .hbm, ⟨9, _⟩ => ⟨S8192x1024, .f32⟩
  | .hbm, ⟨10, _⟩ => ⟨S256x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel7.lean ====
abbrev S8448x1024 : Shape := ⟨2, ![8448, 1024]⟩
abbrev S8448x2816 : Shape := ⟨2, ![8448, 2816]⟩
abbrev S2x1x1024 : Shape := ⟨3, ![2, 1, 1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S8x352x1024 : Shape := ⟨3, ![8, 352, 1024]⟩
abbrev S8x1056x1024 : Shape := ⟨3, ![8, 1056, 1024]⟩
abbrev S1x1x1024 : Shape := ⟨3, ![1, 1, 1024]⟩
abbrev S256x1024 : Shape := ⟨2, ![256, 1024]⟩
abbrev S256x2816 : Shape := ⟨2, ![256, 2816]⟩
abbrev S8 : Shape := ⟨1, ![8]⟩
abbrev S1 : Shape := ⟨1, ![1]⟩
abbrev S_ : Shape := ⟨0, ![]⟩
abbrev S352x1024 : Shape := ⟨2, ![352, 1024]⟩
abbrev S1x352x1024 : Shape := ⟨3, ![1, 352, 1024]⟩
abbrev S1024 : Shape := ⟨1, ![1024]⟩
abbrev S1x1024 : Shape := ⟨2, ![1, 1024]⟩
abbrev S256x256 : Shape := ⟨2, ![256, 256]⟩

abbrev nBuf : Space → Nat
  | .hbm => 16
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S8448x2816, .bf16⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S8448x2816, .f32⟩
  | .hbm, ⟨6, _⟩ => ⟨S8448x1024, .f32⟩
  | .hbm, ⟨7, _⟩ => ⟨S8448x1024, .bf16⟩
  | .hbm, ⟨8, _⟩ => ⟨S5632x1024, .f32⟩
  | .hbm, ⟨9, _⟩ => ⟨S8x704x1024, .f32⟩
  | .hbm, ⟨10, _⟩ => ⟨S8x352x1024, .f32⟩
  | .hbm, ⟨11, _⟩ => ⟨S8x1056x1024, .f32⟩
  | .hbm, ⟨12, _⟩ => ⟨S8x1056x1024, .bf16⟩
  | .hbm, ⟨13, _⟩ => ⟨S2x1x1024, .f32⟩
  | .hbm, ⟨14, _⟩ => ⟨S8448x1024, .bf16⟩
  | .hbm, ⟨15, _⟩ => ⟨S8448x2816, .bf16⟩
  | .local _ .vmem, ⟨0, _⟩ => ⟨S1x1x1024, .f32⟩
  | .local _ .vmem, ⟨1, _⟩ => ⟨S1x1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1x1x1024, .f32⟩
  | .local _ .vmem, ⟨7, _⟩ => ⟨S1x1x1024, .f32⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .vmem, ⟨11, _⟩ => ⟨S256x2816, .bf16⟩
  | .local _ .vmem, ⟨12, _⟩ => ⟨S2816x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8448x1024 : Shape := ⟨2, ![8448, 1024]⟩
abbrev S8448x2816 : Shape := ⟨2, ![8448, 2816]⟩
abbrev S2x1x1024 : Shape := ⟨3, ![2, 1, 1024]⟩
abbrev S1024x5632 : Shape := ⟨2, ![1024, 5632]⟩
abbrev S2816x1024 : Shape := ⟨2, ![2816, 1024]⟩
abbrev S8192x2816 : Shape := ⟨2, ![8192, 2816]⟩
abbrev S256x2816 : Shape := ⟨2, ![256, 2816]⟩
abbrev S8192x1024 : Shape := ⟨2, ![8192, 1024]⟩
abbrev S256x1024 : Shape := ⟨2, ![256, 1024]⟩
abbrev S1x1x1024 : Shape := ⟨3, ![1, 1, 1024]⟩
abbrev S1x1024 : Shape := ⟨2, ![1, 1024]⟩
abbrev S_ : Shape := ⟨0, ![]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2816, .bf16⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S8192x2816, .bf16⟩
  | .hbm, ⟨6, _⟩ => ⟨S8192x2816, .f32⟩
  | .hbm, ⟨7, _⟩ => ⟨S256x2816, .bf16⟩
  | .hbm, ⟨8, _⟩ => ⟨S256x2816, .f32⟩
  | .hbm, ⟨9, _⟩ => ⟨S8192x1024, .f32⟩
  | .hbm, ⟨10, _⟩ => ⟨S256x1024, .f32⟩
  | .hbm, ⟨11, _⟩ => ⟨S1x1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S1x1x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S8192x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S1x1x1024, .f32⟩
  | .hbm, ⟨28, _⟩ => ⟨S_, .f32⟩
  | .hbm, ⟨29, _⟩ => ⟨S2x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S1x1x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S256x2816, .f32⟩
  | .hbm, ⟨41, _⟩ => ⟨S8192x2816, .f32⟩
  | .hbm, ⟨42, _⟩ => ⟨S8448x1024, .f32⟩
  | .hbm, ⟨43, _⟩ => ⟨S8448x1024, .bf16⟩
  | .hbm, ⟨44, _⟩ => ⟨S8448x2816, .f32⟩
  | .hbm, ⟨45, _⟩ => ⟨S8448x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel8.lean ====
abbrev S8448x1024 : Shape := ⟨2, ![8448, 1024]⟩
abbrev S1x1024 : Shape := ⟨2, ![1, 1024]⟩
abbrev S2x1x1024 : Shape := ⟨3, ![2, 1, 1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S8x352x1024 : Shape := ⟨3, ![8, 352, 1024]⟩
abbrev S8x1056x1024 : Shape := ⟨3, ![8, 1056, 1024]⟩
abbrev S8448x5632 : Shape := ⟨2, ![8448, 5632]⟩
abbrev S1x1x1024 : Shape := ⟨3, ![1, 1, 1024]⟩
abbrev S256x1024 : Shape := ⟨2, ![256, 1024]⟩
abbrev S256x5632 : Shape := ⟨2, ![256, 5632]⟩
abbrev S8 : Shape := ⟨1, ![8]⟩
abbrev S1 : Shape := ⟨1, ![1]⟩
abbrev S_ : Shape := ⟨0, ![]⟩
abbrev S704x1024 : Shape := ⟨2, ![704, 1024]⟩
abbrev S1x704x1024 : Shape := ⟨3, ![1, 704, 1024]⟩
abbrev S256 : Shape := ⟨1, ![256]⟩
abbrev S256x1 : Shape := ⟨2, ![256, 1]⟩
abbrev S512x1024 : Shape := ⟨2, ![512, 1024]⟩
abbrev S256x512 : Shape := ⟨2, ![256, 512]⟩

abbrev nBuf : Space → Nat
  | .hbm => 13
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S2816x1024, .f32⟩
  | .hbm, ⟨6, _⟩ => ⟨S5632x1024, .f32⟩
  | .hbm, ⟨7, _⟩ => ⟨S8x704x1024, .f32⟩
  | .hbm, ⟨8, _⟩ => ⟨S8x352x1024, .f32⟩
  | .hbm, ⟨9, _⟩ => ⟨S8x1056x1024, .f32⟩
  | .hbm, ⟨10, _⟩ => ⟨S8x1056x1024, .bf16⟩
  | .hbm, ⟨11, _⟩ => ⟨S8448x1024, .bf16⟩
  | .hbm, ⟨12, _⟩ => ⟨S8448x5632, .bf16⟩
  | .local _ .vmem, ⟨0, _⟩ => ⟨S1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x5632, .bf16⟩
  | .local _ .vmem, ⟨10, _⟩ => ⟨S256x5632, .bf16⟩
  | .local _ .vmem, ⟨11, _⟩ => ⟨S5632x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8448x1024 : Shape := ⟨2, ![8448, 1024]⟩
abbrev S1x1024 : Shape := ⟨2, ![1, 1024]⟩
abbrev S2x1x1024 : Shape := ⟨3, ![2, 1, 1024]⟩
abbrev S1024x5632 : Shape := ⟨2, ![1024, 5632]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S8192x5632 : Shape := ⟨2, ![8192, 5632]⟩
abbrev S256x5632 : Shape := ⟨2, ![256, 5632]⟩
abbrev S8448x5632 : Shape := ⟨2, ![8448, 5632]⟩

abbrev nBuf : Space → Nat
  | .hbm => 66
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1x1024, .f32⟩
  | .hbm, ⟨23, _⟩ => ⟨S1x1024, .f32⟩
  | .hbm, ⟨24, _⟩ => ⟨S1x1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S256x1, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S1x1x1024, .f32⟩
  | .hbm, ⟨50, _⟩ => ⟨S1x1024, .f32⟩
  | .hbm, ⟨51, _⟩ => ⟨S1x1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S8448x1024, .f32⟩
  | .hbm, ⟨61, _⟩ => ⟨S8448x1024, .bf16⟩
  | .hbm, ⟨62, _⟩ => ⟨S8192x5632, .f32⟩
  | .hbm, ⟨63, _⟩ => ⟨S256x5632, .f32⟩
  | .hbm, ⟨64, _⟩ => ⟨S8448x5632, .f32⟩
  | .hbm, ⟨65, _⟩ => ⟨S8448x5632, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel9.lean ====
abbrev S8448x2816 : Shape := ⟨2, ![8448, 2816]⟩
abbrev S8448x1024 : Shape := ⟨2, ![8448, 1024]⟩
abbrev S2x1x1024 : Shape := ⟨3, ![2, 1, 1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S8x352x1024 : Shape := ⟨3, ![8, 352, 1024]⟩
abbrev S8x1056x1024 : Shape := ⟨3, ![8, 1056, 1024]⟩
abbrev S1x1x1024 : Shape := ⟨3, ![1, 1, 1024]⟩
abbrev S256x2816 : Shape := ⟨2, ![256, 2816]⟩
abbrev S256x1024 : Shape := ⟨2, ![256, 1024]⟩
abbrev S8 : Shape := ⟨1, ![8]⟩
abbrev S1 : Shape := ⟨1, ![1]⟩
abbrev S_ : Shape := ⟨0, ![]⟩
abbrev S352x1024 : Shape := ⟨2, ![352, 1024]⟩
abbrev S1x352x1024 : Shape := ⟨3, ![1, 352, 1024]⟩
abbrev S1x1024 : Shape := ⟨2, ![1, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S5632x1024, .f32⟩
  | .hbm, ⟨6, _⟩ => ⟨S8x704x1024, .f32⟩
  | .hbm, ⟨7, _⟩ => ⟨S8x352x1024, .f32⟩
  | .hbm, ⟨8, _⟩ => ⟨S8x1056x1024, .f32⟩
  | .hbm, ⟨9, _⟩ => ⟨S8x1056x1024, .bf16⟩
  | .hbm, ⟨10, _⟩ => ⟨S8448x1024, .bf16⟩
  | .hbm, ⟨11, _⟩ => ⟨S8448x1024, .f32⟩
  | .local _ .vmem, ⟨0, _⟩ => ⟨S1x1x1024, .f32⟩
  | .local _ .vmem, ⟨1, _⟩ => ⟨S1x1x1024, .f32⟩
  | .local _ .vmem, ⟨2, _⟩ => ⟨S256x2816, .bf16⟩
  | .local _ .vmem, ⟨3, _⟩ => ⟨S256x2816, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S2816x1024, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8448x2816 : Shape := ⟨2, ![8448, 2816]⟩
abbrev S8448x1024 : Shape := ⟨2, ![8448, 1024]⟩
abbrev S2x1x1024 : Shape := ⟨3, ![2, 1, 1024]⟩
abbrev S1024x5632 : Shape := ⟨2, ![1024, 5632]⟩
abbrev S2816x1024 : Shape := ⟨2, ![2816, 1024]⟩
abbrev S8192x2816 : Shape := ⟨2, ![8192, 2816]⟩
abbrev S8192x1024 : Shape := ⟨2, ![8192, 1024]⟩
abbrev S256x2816 : Shape := ⟨2, ![256, 2816]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S2x1x1024, .f32⟩
  | .hbm, ⟨3, _⟩ => ⟨S1024x5632, .f32⟩
  | .hbm, ⟨4, _⟩ => ⟨S2816x1024, .f32⟩
  | .hbm, ⟨5, _⟩ => ⟨S8192x2816, .bf16⟩
  | .hbm, ⟨6, _⟩ => ⟨S8192x2816, .f32⟩
  | .hbm, ⟨7, _⟩ => ⟨S8192x1024, .f32⟩
  | .hbm, ⟨8, _⟩ => ⟨S256x2816, .bf16⟩
  | .hbm, ⟨9, _⟩ => ⟨S256x2816, .f32⟩
  | .hbm, ⟨10, _⟩ => ⟨S256x1024, .f32⟩
  | .hbm, ⟨11, _⟩ => ⟨S8448x1024, .f32⟩
  | .hbm, ⟨12, _⟩ => ⟨S8448x1024, .bf16⟩
  | .hbm, ⟨13, _⟩ => ⟨S8192x1024, .f32⟩
  | .hbm, ⟨14, _⟩ => ⟨S1x1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S256x1024, .f32⟩
  | .hbm, ⟨20, _⟩ => ⟨S1x1x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel10.lean ====
abbrev S8448x2560 : Shape := ⟨2, ![8448, 2560]⟩
abbrev S8448x512 : Shape := ⟨2, ![8448, 512]⟩
abbrev S256x512 : Shape := ⟨2, ![256, 512]⟩
abbrev S256x2560 : Shape := ⟨2, ![256, 2560]⟩

abbrev nBuf : Space → Nat
  | .hbm => 5
  | .vmem => 18
  | .smem => 0
  | _ => 0

abbrev bufTy : (tb : Table) → Fin (tcTables nBuf tb) → BufTy
  | .hbm, ⟨0, _⟩ => ⟨S8448x2560, .bf16⟩
  | .hbm, ⟨1, _⟩ => ⟨S8448x512, .bf16⟩
  | .hbm, ⟨2, _⟩ => ⟨S8448x512, .bf16⟩
  | .hbm, ⟨3, _⟩ => ⟨S8448x512, .bf16⟩
  | .hbm, ⟨4, _⟩ => ⟨S8448x2560, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x2560, .bf16⟩
  | .local _ .vmem, ⟨17, _⟩ => ⟨S256x2560, .bf16⟩
  | _, _ => ⟨S8448x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8448x2560 : Shape := ⟨2, ![8448, 2560]⟩
abbrev S8448x512 : Shape := ⟨2, ![8448, 512]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8448x2560, .bf16⟩
  | .hbm, ⟨1, _⟩ => ⟨S8448x512, .bf16⟩
  | .hbm, ⟨2, _⟩ => ⟨S8448x512, .bf16⟩
  | .hbm, ⟨3, _⟩ => ⟨S8448x512, .bf16⟩
  | .hbm, ⟨4, _⟩ => ⟨S8448x512, .f32⟩
  | .hbm, ⟨5, _⟩ => ⟨S8448x512, .f32⟩
  | .hbm, ⟨6, _⟩ => ⟨S8448x512, .f32⟩
  | .hbm, ⟨7, _⟩ => ⟨S8448x2560, .f32⟩
  | .hbm, ⟨8, _⟩ => ⟨S8448x512, .f32⟩
  | .hbm, ⟨9, _⟩ => ⟨S8448x512, .f32⟩
  | .hbm, ⟨10, _⟩ => ⟨S8448x512, .f32⟩
  | .hbm, ⟨11, _⟩ => ⟨S8448x512, .f32⟩
  | .hbm, ⟨12, _⟩ => ⟨S8448x512, .f32⟩
  | .hbm, ⟨13, _⟩ => ⟨S8448x512, .f32⟩
  | .hbm, ⟨14, _⟩ => ⟨S8448x512, .f32⟩
  | .hbm, ⟨15, _⟩ => ⟨S8448x512, .f32⟩
  | .hbm, ⟨16, _⟩ => ⟨S_, .f32⟩
  | .hbm, ⟨17, _⟩ => ⟨S8448x512, .f32⟩
  | .hbm, ⟨18, _⟩ => ⟨S8448x512, .f32⟩
  | .hbm, ⟨19, _⟩ => ⟨S_, .f32⟩
  | .hbm, ⟨20, _⟩ => ⟨S8448x512, .f32⟩
  | .hbm, ⟨21, _⟩ => ⟨S8448x512, .f32⟩
  | .hbm, ⟨22, _⟩ => ⟨S_, .f32⟩
  | .hbm, ⟨23, _⟩ => ⟨S8448x512, .f32⟩
  | .hbm, ⟨24, _⟩ => ⟨S8448x512, .f32⟩
  | .hbm, ⟨25, _⟩ => ⟨S8448x512, .f32⟩
  | .hbm, ⟨26, _⟩ => ⟨S8448x512, .f32⟩
  | .hbm, ⟨27, _⟩ => ⟨S8448x512, .f32⟩
  | .hbm, ⟨28, _⟩ => ⟨S8448x512, .f32⟩
  | .hbm, ⟨29, _⟩ => ⟨S8448x512, .f32⟩
  | .hbm, ⟨30, _⟩ => ⟨S8448x512, .f32⟩
  | .hbm, ⟨31, _⟩ => ⟨S8448x512, .f32⟩
  | .hbm, ⟨32, _⟩ => ⟨S8448x2560, .f32⟩
  | .hbm, ⟨33, _⟩ => ⟨S8448x2560, .bf16⟩
  | _, _ => ⟨S8448x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel11.lean ====
abbrev S8448x512 : Shape := ⟨2, ![8448, 512]⟩
abbrev S3x512 : Shape := ⟨2, ![3, 512]⟩
abbrev S256x512 : Shape := ⟨2, ![256, 512]⟩
abbrev S16x512 : Shape := ⟨2, ![16, 512]⟩
abbrev S16x128 : Shape := ⟨2, ![16, 128]⟩
abbrev S128x128 : Shape := ⟨2, ![128, 128]⟩
abbrev S160x128 : Shape := ⟨2, ![160, 128]⟩
abbrev S1x128 : Shape := ⟨2, ![1, 128]⟩

abbrev nBuf : Space → Nat
  | .hbm => 5
  | .vmem => 9
  | .smem => 0
  | _ => 0

abbrev bufTy : (tb : Table) → Fin (tcTables nBuf tb) → BufTy
  | .hbm, ⟨0, _⟩ => ⟨S8448x512, .bf16⟩
  | .hbm, ⟨1, _⟩ => ⟨S8448x512, .bf16⟩
  | .hbm, ⟨2, _⟩ => ⟨S3x512, .f32⟩
  | .hbm, ⟨3, _⟩ => ⟨S3x512, .f32⟩
  | .hbm, ⟨4, _⟩ => ⟨S8448x512, .bf16⟩
  | .local _ .vmem, ⟨0, _⟩ => ⟨S256x512, .bf16⟩
  | .local _ .vmem, ⟨1, _⟩ => ⟨S256x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S3x512, .f32⟩
  | .local _ .vmem, ⟨7, _⟩ => ⟨S256x512, .bf16⟩
  | .local _ .vmem, ⟨8, _⟩ => ⟨S256x512, .bf16⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![33, 1], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  v1
def k0_off1 (k0_t1 : Fin k0_t1_loop.trips) : Fin 2 → Nat :=
  let c0 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v6 : Index := Scalar.indexCast v2
  ![0, v6.toNat]
def k0_off2 (k0_t1 : Fin k0_t1_loop.trips) : Fin 2 → Nat :=
  let c128 : Index := 128#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v11 : Index := Scalar.indexCast v2
  ![128, v11.toNat]
def k0_off3 (k0_t1 : Fin k0_t1_loop.trips) : Fin 2 → Nat :=
  let c0_2 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v14 : Index := Scalar.indexCast v2
  ![0, v14.toNat]
def k0_off4 (k0_t1 : Fin k0_t1_loop.trips) : Fin 2 → Nat :=
  let c0_3 : Index := 0#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v18 : Index := Scalar.indexCast v2
  ![0, v18.toNat]
def k0_off5 (k0_t1 : Fin k0_t1_loop.trips) : Fin 2 → Nat :=
  let c1 : Index := 1#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v25 : Index := Scalar.indexCast v2
  ![1, v25.toNat]
def k0_off6 (k0_t1 : Fin k0_t1_loop.trips) : Fin 2 → Nat :=
  let c2 : Index := 2#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v32 : Index := Scalar.indexCast v2
  ![2, v32.toNat]
def k0_off7 (k0_t1 : Fin k0_t1_loop.trips) : Fin 2 → Nat :=
  let c112 : Index := 112#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v43 : Index := Scalar.indexCast v2
  ![112, v43.toNat]
def k0_off8 (k0_t1 : Fin k0_t1_loop.trips) : Fin 2 → Nat :=
  let c128_9 : Index := 128#32
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v54 : Index := Scalar.indexCast v2
  ![128, v54.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c527_i32 : BitVec 32 := 527#32
  let v2 : BitVec 32 := Scalar.minsi v1 c527_i32
  let c0_i32 : BitVec 32 := 0#32
  let v3 : BitVec 32 := Scalar.addi c0_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8448x512 : Shape := ⟨2, ![8448, 512]⟩
abbrev S3x512 : Shape := ⟨2, ![3, 512]⟩
abbrev S8192x512 : Shape := ⟨2, ![8192, 512]⟩
abbrev S256x512 : Shape := ⟨2, ![256, 512]⟩
abbrev S_ : Shape := ⟨0, ![]⟩
abbrev S1x512 : Shape := ⟨2, ![1, 512]⟩
abbrev S8194x512 : Shape := ⟨2, ![8194, 512]⟩
abbrev S512 : Shape := ⟨1, ![512]⟩
abbrev S258x512 : Shape := ⟨2, ![258, 512]⟩

abbrev nBuf : Space → Nat
  | .hbm => 105
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x512, .bf16⟩
  | .hbm, ⟨2, _⟩ => ⟨S3x512, .f32⟩
  | .hbm, ⟨3, _⟩ => ⟨S8448x512, .f32⟩
  | .hbm, ⟨4, _⟩ => ⟨S8448x512, .f32⟩
  | .hbm, ⟨5, _⟩ => ⟨S8192x512, .f32⟩
  | .hbm, ⟨6, _⟩ => ⟨S256x512, .f32⟩
  | .hbm, ⟨7, _⟩ => ⟨S_, .f32⟩
  | .hbm, ⟨8, _⟩ => ⟨S1x512, .f32⟩
  | .hbm, ⟨9, _⟩ => ⟨S8194x512, .f32⟩
  | .hbm, ⟨10, _⟩ => ⟨S_, .f32⟩
  | .hbm, ⟨11, _⟩ => ⟨S1x512, .f32⟩
  | .hbm, ⟨12, _⟩ => ⟨S_, .f32⟩
  | .hbm, ⟨13, _⟩ => ⟨S1x512, .f32⟩
  | .hbm, ⟨14, _⟩ => ⟨S1x512, .f32⟩
  | .hbm, ⟨15, _⟩ => ⟨S512, .f32⟩
  | .hbm, ⟨16, _⟩ => ⟨S8192x512, .f32⟩
  | .hbm, ⟨17, _⟩ => ⟨S1x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S1x512, .f32⟩
  | .hbm, ⟨24, _⟩ => ⟨S512, .f32⟩
  | .hbm, ⟨25, _⟩ => ⟨S8192x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S1x512, .f32⟩
  | .hbm, ⟨31, _⟩ => ⟨S512, .f32⟩
  | .hbm, ⟨32, _⟩ => ⟨S8192x512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S1x512, .f32⟩
  | .hbm, ⟨39, _⟩ => ⟨S258x512, .f32⟩
  | .hbm, ⟨40, _⟩ => ⟨S_, .f32⟩
  | .hbm, ⟨41, _⟩ => ⟨S1x512, .f32⟩
  | .hbm, ⟨42, _⟩ => ⟨S_, .f32⟩
  | .hbm, ⟨43, _⟩ => ⟨S1x512, .f32⟩
  | .hbm, ⟨44, _⟩ => ⟨S1x512, .f32⟩
  | .hbm, ⟨45, _⟩ => ⟨S512, .f32⟩
  | .hbm, ⟨46, _⟩ => ⟨S256x512, .f32⟩
  | .hbm, ⟨47, _⟩ => ⟨S1x512, .f32⟩
  | .hbm, ⟨48, _⟩ => ⟨S256x512, .f32⟩
  | .hbm, ⟨49, _⟩ => ⟨S256x512, .f32⟩
  | .hbm, ⟨50, _⟩ => ⟨S_, .f32⟩
  | .hbm, ⟨51, _⟩ => ⟨S256x512, .f32⟩
  | .hbm, ⟨52, _⟩ => ⟨S256x512, .f32⟩
  | .hbm, ⟨53, _⟩ => ⟨S1x512, .f32⟩
  | .hbm, ⟨54, _⟩ => ⟨S512, .f32⟩
  | .hbm, ⟨55, _⟩ => ⟨S256x512, .f32⟩
  | .hbm, ⟨56, _⟩ => ⟨S1x512, .f32⟩
  | .hbm, ⟨57, _⟩ => ⟨S256x512, .f32⟩
  | .hbm, ⟨58, _⟩ => ⟨S256x512, .f32⟩
  | .hbm, ⟨59, _⟩ => ⟨S256x512, .f32⟩
  | .hbm, ⟨60, _⟩ => ⟨S1x512, .f32⟩
  | .hbm, ⟨61, _⟩ => ⟨S512, .f32⟩
  | .hbm, ⟨62, _⟩ => ⟨S256x512, .f32⟩
  | .hbm, ⟨63, _⟩ => ⟨S1x512, .f32⟩
  | .hbm, ⟨64, _⟩ => ⟨S256x512, .f32⟩
  | .hbm, ⟨65, _⟩ => ⟨S256x512, .f32⟩
  | .hbm, ⟨66, _⟩ => ⟨S256x512, .f32⟩
  | .hbm, ⟨67, _⟩ => ⟨S8192x512, .f32⟩
  | .hbm, ⟨68, _⟩ => ⟨S256x512, .f32⟩
  | .hbm, ⟨69, _⟩ => ⟨S256x512, .f32⟩
  | .hbm, ⟨70, _⟩ => ⟨S256x512, .f32⟩
  | .hbm, ⟨71, _⟩ => ⟨S_, .f32⟩
  | .hbm, ⟨72, _⟩ => ⟨S258x512, .f32⟩
  | .hbm, ⟨73, _⟩ => ⟨S256x512, .f32⟩
  | .hbm, ⟨74, _⟩ => ⟨S256x512, .f32⟩
  | .hbm, ⟨75, _⟩ => ⟨S_, .f32⟩
  | .hbm, ⟨76, _⟩ => ⟨S258x512, .f32⟩
  | .hbm, ⟨77, _⟩ => ⟨S258x512, .f32⟩
  | .hbm, ⟨78, _⟩ => ⟨S256x512, .f32⟩
  | .hbm, ⟨79, _⟩ => ⟨S256x512, .f32⟩
  | .hbm, ⟨80, _⟩ => ⟨S_, .f32⟩
  | .hbm, ⟨81, _⟩ => ⟨S258x512, .f32⟩
  | .hbm, ⟨82, _⟩ => ⟨S258x512, .f32⟩
  | .hbm, ⟨83, _⟩ => ⟨S1x512, .f32⟩
  | .hbm, ⟨84, _⟩ => ⟨S256x512, .f32⟩
  | .hbm, ⟨85, _⟩ => ⟨S1x512, .f32⟩
  | .hbm, ⟨86, _⟩ => ⟨S8192x512, .f32⟩
  | .hbm, ⟨87, _⟩ => ⟨S8192x512, .f32⟩
  | .hbm, ⟨88, _⟩ => ⟨S_, .f32⟩
  | .hbm, ⟨89, _⟩ => ⟨S8194x512, .f32⟩
  | .hbm, ⟨90, _⟩ => ⟨S8192x512, .f32⟩
  | .hbm, ⟨91, _⟩ => ⟨S8192x512, .f32⟩
  | .hbm, ⟨92, _⟩ => ⟨S_, .f32⟩
  | .hbm, ⟨93, _⟩ => ⟨S8194x512, .f32⟩
  | .hbm, ⟨94, _⟩ => ⟨S8194x512, .f32⟩
  | .hbm, ⟨95, _⟩ => ⟨S8192x512, .f32⟩
  | .hbm, ⟨96, _⟩ => ⟨S8192x512, .f32⟩
  | .hbm, ⟨97, _⟩ => ⟨S_, .f32⟩
  | .hbm, ⟨98, _⟩ => ⟨S8194x512, .f32⟩
  | .hbm, ⟨99, _⟩ => ⟨S8194x512, .f32⟩
  | .hbm, ⟨100, _⟩ => ⟨S1x512, .f32⟩
  | .hbm, ⟨101, _⟩ => ⟨S8192x512, .f32⟩
  | .hbm, ⟨102, _⟩ => ⟨S1x512, .f32⟩
  | .hbm, ⟨103, _⟩ => ⟨S8448x512, .f32⟩
  | .hbm, ⟨104, _⟩ => ⟨S8448x512, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_8 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_9 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_10 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_11 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_12 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩

abbrev nD : Nat := 1
abbrev τ : Topo := Topo.v7x

variable {F : FTy → Type} [FloatOps F]
-- ==== Kernel13.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S2x1024x320 : Shape := ⟨3, ![2, 1024, 320]⟩
abbrev S2048x320 : Shape := ⟨2, ![2048, 320]⟩
abbrev S512x320 : Shape := ⟨2, ![512, 320]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S2x1024x320, .f32⟩
  | .hbm, ⟨4, _⟩ => ⟨S2048x320, .f32⟩
  | .hbm, ⟨5, _⟩ => ⟨S2048x320, .f32⟩
  | .hbm, ⟨6, _⟩ => ⟨S2048x320, .f32⟩
  | .hbm, ⟨7, _⟩ => ⟨S2048x320, .f32⟩
  | .hbm, ⟨8, _⟩ => ⟨S2048x320, .f32⟩
  | .hbm, ⟨9, _⟩ => ⟨S2048x320, .f32⟩
  | .hbm, ⟨10, _⟩ => ⟨S2048x320, .f32⟩
  | .local _ .vmem, ⟨0, _⟩ => ⟨S512x320, .f32⟩
  | .local _ .vmem, ⟨1, _⟩ => ⟨S512x320, .f32⟩
  | .local _ .vmem, ⟨2, _⟩ => ⟨S512x320, .f32⟩
  | .local _ .vmem, ⟨3, _⟩ => ⟨S512x320, .f32⟩
  | .local _ .vmem, ⟨4, _⟩ => ⟨S512x320, .f32⟩
  | .local _ .vmem, ⟨5, _⟩ => ⟨S512x320, .f32⟩
  | .local _ .vmem, ⟨6, _⟩ => ⟨S512x320, .f32⟩
  | .local _ .vmem, ⟨7, _⟩ => ⟨S512x320, .f32⟩
  | .local _ .vmem, ⟨8, _⟩ => ⟨S512x320, .f32⟩
  | .local _ .vmem, ⟨9, _⟩ => ⟨S512x320, .f32⟩
  | .local _ .vmem, ⟨10, _⟩ => ⟨S512x320, .f32⟩
  | .local _ .vmem, ⟨11, _⟩ => ⟨S512x320, .f32⟩
  | .local _ .vmem, ⟨12, _⟩ => ⟨S512x320, .f32⟩
  | .local _ .vmem, ⟨13, _⟩ => ⟨S512x320, .f32⟩
  | _, _ => ⟨S2x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2x1024x320 : Shape := ⟨3, ![2, 1024, 320]⟩
abbrev S_ : Shape := ⟨0, ![]⟩
abbrev S2048x320 : Shape := ⟨2, ![2048, 320]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S2x1024x320, .f32⟩
  | .hbm, ⟨4, _⟩ => ⟨S_, .f32⟩
  | .hbm, ⟨5, _⟩ => ⟨S2x1024x320, .f32⟩
  | .hbm, ⟨6, _⟩ => ⟨S2x1024x320, .f32⟩
  | .hbm, ⟨7, _⟩ => ⟨S_, .f32⟩
  | .hbm, ⟨8, _⟩ => ⟨S2x1024x320, .f32⟩
  | .hbm, ⟨9, _⟩ => ⟨S2x1024x320, .f32⟩
  | .hbm, ⟨10, _⟩ => ⟨S2x1024x320, .f32⟩
  | .hbm, ⟨11, _⟩ => ⟨S_, .f32⟩
  | .hbm, ⟨12, _⟩ => ⟨S2x1024x320, .f32⟩
  | .hbm, ⟨13, _⟩ => ⟨S2x1024x320, .f32⟩
  | .hbm, ⟨14, _⟩ => ⟨S2x1024x320, .f32⟩
  | .hbm, ⟨15, _⟩ => ⟨S_, .f32⟩
  | .hbm, ⟨16, _⟩ => ⟨S2x1024x320, .f32⟩
  | .hbm, ⟨17, _⟩ => ⟨S2x1024x320, .f32⟩
  | .hbm, ⟨18, _⟩ => ⟨S2x1024x320, .f32⟩
  | .hbm, ⟨19, _⟩ => ⟨S_, .f32⟩
  | .hbm, ⟨20, _⟩ => ⟨S2x1024x320, .f32⟩
  | .hbm, ⟨21, _⟩ => ⟨S2x1024x320, .f32⟩
  | .hbm, ⟨22, _⟩ => ⟨S_, .f32⟩
  | .hbm, ⟨23, _⟩ => ⟨S2x1024x320, .f32⟩
  | .hbm, ⟨24, _⟩ => ⟨S2x1024x320, .f32⟩
  | .hbm, ⟨25, _⟩ => ⟨S2x1024x320, .f32⟩
  | .hbm, ⟨26, _⟩ => ⟨S_, .f32⟩
  | .hbm, ⟨27, _⟩ => ⟨S2x1024x320, .f32⟩
  | .hbm, ⟨28, _⟩ => ⟨S2x1024x320, .f32⟩
  | .hbm, ⟨29, _⟩ => ⟨S2x1024x320, .f32⟩
  | .hbm, ⟨30, _⟩ => ⟨S_, .f32⟩
  | .hbm, ⟨31, _⟩ => ⟨S2x1024x320, .f32⟩
  | .hbm, ⟨32, _⟩ => ⟨S2x1024x320, .f32⟩
  | .hbm, ⟨33, _⟩ => ⟨S2x1024x320, .f32⟩
  | .hbm, ⟨34, _⟩ => ⟨S_, .f32⟩
  | .hbm, ⟨35, _⟩ => ⟨S2x1024x320, .f32⟩
  | .hbm, ⟨36, _⟩ => ⟨S2x1024x320, .f32⟩
  | .hbm, ⟨37, _⟩ => ⟨S2048x320, .f32⟩
  | .hbm, ⟨38, _⟩ => ⟨S2048x320, .f32⟩
  | .hbm, ⟨39, _⟩ => ⟨S2048x320, .f32⟩
  | _, _ => ⟨S2x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S2x128x1024 : Shape := ⟨3, ![2, 128, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel16.lean ====
abbrev S2x1024x192 : Shape := ⟨3, ![2, 1024, 192]⟩
abbrev S2048x192 : Shape := ⟨2, ![2048, 192]⟩
abbrev S512x192 : Shape := ⟨2, ![512, 192]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x192, .f32⟩
  | .hbm, ⟨1, _⟩ => ⟨S2x1024x192, .f32⟩
  | .hbm, ⟨2, _⟩ => ⟨S2x1024x192, .f32⟩
  | .hbm, ⟨3, _⟩ => ⟨S2x1024x192, .f32⟩
  | .hbm, ⟨4, _⟩ => ⟨S2048x192, .f32⟩
  | .hbm, ⟨5, _⟩ => ⟨S2048x192, .f32⟩
  | .hbm, ⟨6, _⟩ => ⟨S2048x192, .f32⟩
  | .hbm, ⟨7, _⟩ => ⟨S2048x192, .f32⟩
  | .hbm, ⟨8, _⟩ => ⟨S2048x192, .f32⟩
  | .hbm, ⟨9, _⟩ => ⟨S2048x192, .f32⟩
  | .hbm, ⟨10, _⟩ => ⟨S2048x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | _, _ => ⟨S2x1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S2x1024x192 : Shape := ⟨3, ![2, 1024, 192]⟩
abbrev S_ : Shape := ⟨0, ![]⟩
abbrev S2048x192 : Shape := ⟨2, ![2048, 192]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x192, .f32⟩
  | .hbm, ⟨1, _⟩ => ⟨S2x1024x192, .f32⟩
  | .hbm, ⟨2, _⟩ => ⟨S2x1024x192, .f32⟩
  | .hbm, ⟨3, _⟩ => ⟨S2x1024x192, .f32⟩
  | .hbm, ⟨4, _⟩ => ⟨S_, .f32⟩
  | .hbm, ⟨5, _⟩ => ⟨S2x1024x192, .f32⟩
  | .hbm, ⟨6, _⟩ => ⟨S2x1024x192, .f32⟩
  | .hbm, ⟨7, _⟩ => ⟨S_, .f32⟩
  | .hbm, ⟨8, _⟩ => ⟨S2x1024x192, .f32⟩
  | .hbm, ⟨9, _⟩ => ⟨S2x1024x192, .f32⟩
  | .hbm, ⟨10, _⟩ => ⟨S2x1024x192, .f32⟩
  | .hbm, ⟨11, _⟩ => ⟨S_, .f32⟩
  | .hbm, ⟨12, _⟩ => ⟨S2x1024x192, .f32⟩
  | .hbm, ⟨13, _⟩ => ⟨S2x1024x192, .f32⟩
  | .hbm, ⟨14, _⟩ => ⟨S2x1024x192, .f32⟩
  | .hbm, ⟨15, _⟩ => ⟨S_, .f32⟩
  | .hbm, ⟨16, _⟩ => ⟨S2x1024x192, .f32⟩
  | .hbm, ⟨17, _⟩ => ⟨S2x1024x192, .f32⟩
  | .hbm, ⟨18, _⟩ => ⟨S2x1024x192, .f32⟩
  | .hbm, ⟨19, _⟩ => ⟨S_, .f32⟩
  | .hbm, ⟨20, _⟩ => ⟨S2x1024x192, .f32⟩
  | .hbm, ⟨21, _⟩ => ⟨S2x1024x192, .f32⟩
  | .hbm, ⟨22, _⟩ => ⟨S_, .f32⟩
  | .hbm, ⟨23, _⟩ => ⟨S2x1024x192, .f32⟩
  | .hbm, ⟨24, _⟩ => ⟨S2x1024x192, .f32⟩
  | .hbm, ⟨25, _⟩ => ⟨S2x1024x192, .f32⟩
  | .hbm, ⟨26, _⟩ => ⟨S_, .f32⟩
  | .hbm, ⟨27, _⟩ => ⟨S2x1024x192, .f32⟩
  | .hbm, ⟨28, _⟩ => ⟨S2x1024x192, .f32⟩
  | .hbm, ⟨29, _⟩ => ⟨S2x1024x192, .f32⟩
  | .hbm, ⟨30, _⟩ => ⟨S_, .f32⟩
  | .hbm, ⟨31, _⟩ => ⟨S2x1024x192, .f32⟩
  | .hbm, ⟨32, _⟩ => ⟨S2x1024x192, .f32⟩
  | .hbm, ⟨33, _⟩ => ⟨S2x1024x192, .f32⟩
  | .hbm, ⟨34, _⟩ => ⟨S_, .f32⟩
  | .hbm, ⟨35, _⟩ => ⟨S2x1024x192, .f32⟩
  | .hbm, ⟨36, _⟩ => ⟨S2x1024x192, .f32⟩
  | .hbm, ⟨37, _⟩ => ⟨S2048x192, .f32⟩
  | .hbm, ⟨38, _⟩ => ⟨S2048x192, .f32⟩
  | .hbm, ⟨39, _⟩ => ⟨S2048x192, .f32⟩
  | _, _ => ⟨S2x1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel17.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S4x1024x768 : Shape := ⟨3, ![4, 1024, 768]⟩
abbrev S4096x768 : Shape := ⟨2, ![4096, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S1024 : Shape := ⟨1, ![1024]⟩
abbrev S4x6144 : Shape := ⟨2, ![4, 6144]⟩
abbrev S4x1024 : Shape := ⟨2, ![4, 1024]⟩
abbrev S2x3x64 : Shape := ⟨3, ![2, 3, 64]⟩
abbrev S2x31x64 : Shape := ⟨3, ![2, 31, 64]⟩
abbrev S2x512 : Shape := ⟨2, ![2, 512]⟩
abbrev S2x16 : Shape := ⟨2, ![2, 16]⟩
abbrev S4x3x704 : Shape := ⟨3, ![4, 3, 704]⟩
abbrev S24576 : Shape := ⟨1, ![24576]⟩
abbrev S4096 : Shape := ⟨1, ![4096]⟩
abbrev S384 : Shape := ⟨1, ![384]⟩
abbrev S3968 : Shape := ⟨1, ![3968]⟩
abbrev S32 : Shape := ⟨1, ![32]⟩
abbrev S8448 : Shape := ⟨1, ![8448]⟩
abbrev S50720 : Shape := ⟨1, ![50720]⟩
abbrev S_ : Shape := ⟨0, ![]⟩
abbrev S57344 : Shape := ⟨1, ![57344]⟩
abbrev S448x128 : Shape := ⟨2, ![448, 128]⟩

abbrev nBuf : Space → Nat
  | .hbm => 111
  | .vmem => 7
  | .smem => 0
  | _ => 0

abbrev bufTy : (tb : Table) → Fin (tcTables nBuf tb) → BufTy
  | .hbm, ⟨0, _⟩ => ⟨S1024, .f32⟩
  | .hbm, ⟨1, _⟩ => ⟨S4x6144, .f32⟩
  | .hbm, ⟨2, _⟩ => ⟨S4x1024, .f32⟩
  | .hbm, ⟨3, _⟩ => ⟨S4x1024, .f32⟩
  | .hbm, ⟨4, _⟩ => ⟨S2x3x64, .f32⟩
  | .hbm, ⟨5, _⟩ => ⟨S2x31x64, .f32⟩
  | .hbm, ⟨6, _⟩ => ⟨S2x512, .f32⟩
  | .hbm, ⟨7, _⟩ => ⟨S2x512, .f32⟩
  | .hbm, ⟨8, _⟩ => ⟨S2x512, .f32⟩
  | .hbm, ⟨9, _⟩ => ⟨S2x16, .f32⟩
  | .hbm, ⟨10, _⟩ => ⟨S4x3x704, .f32⟩
  | .hbm, ⟨11, _⟩ => ⟨S1024, .f32⟩
  | .hbm, ⟨12, _⟩ => ⟨S1024, .f32⟩
  | .hbm, ⟨13, _⟩ => ⟨S4x6144, .f32⟩
  | .hbm, ⟨14, _⟩ => ⟨S4x1024, .f32⟩
  | .hbm, ⟨15, _⟩ => ⟨S4x1024, .f32⟩
  | .hbm, ⟨16, _⟩ => ⟨S2x3x64, .f32⟩
  | .hbm, ⟨17, _⟩ => ⟨S2x31x64, .f32⟩
  | .hbm, ⟨18, _⟩ => ⟨S2x512, .f32⟩
  | .hbm, ⟨19, _⟩ => ⟨S2x512, .f32⟩
  | .hbm, ⟨20, _⟩ => ⟨S2x512, .f32⟩
  | .hbm, ⟨21, _⟩ => ⟨S2x16, .f32⟩
  | .hbm, ⟨22, _⟩ => ⟨S4x3x704, .f32⟩
  | .hbm, ⟨23, _⟩ => ⟨S1024, .f32⟩
  | .hbm, ⟨24, _⟩ => ⟨S1024, .f32⟩
  | .hbm, ⟨25, _⟩ => ⟨S4x6144, .f32⟩
  | .hbm, ⟨26, _⟩ => ⟨S4x1024, .f32⟩
  | .hbm, ⟨27, _⟩ => ⟨S4x1024, .f32⟩
  | .hbm, ⟨28, _⟩ => ⟨S2x3x64, .f32⟩
  | .hbm, ⟨29, _⟩ => ⟨S2x31x64, .f32⟩
  | .hbm, ⟨30, _⟩ => ⟨S2x512, .f32⟩
  | .hbm, ⟨31, _⟩ => ⟨S2x512, .f32⟩
  | .hbm, ⟨32, _⟩ => ⟨S2x512, .f32⟩
  | .hbm, ⟨33, _⟩ => ⟨S2x16, .f32⟩
  | .hbm, ⟨34, _⟩ => ⟨S4x3x704, .f32⟩
  | .hbm, ⟨35, _⟩ => ⟨S1024, .f32⟩
  | .hbm, ⟨36, _⟩ => ⟨S1024, .f32⟩
  | .hbm, ⟨37, _⟩ => ⟨S4x6144, .f32⟩
  | .hbm, ⟨38, _⟩ => ⟨S4x1024, .f32⟩
  | .hbm, ⟨39, _⟩ => ⟨S4x1024, .f32⟩
  | .hbm, ⟨40, _⟩ => ⟨S2x3x64, .f32⟩
  | .hbm, ⟨41, _⟩ => ⟨S2x31x64, .f32⟩
  | .hbm, ⟨42, _⟩ => ⟨S2x512, .f32⟩
  | .hbm, ⟨43, _⟩ => ⟨S2x512, .f32⟩
  | .hbm, ⟨44, _⟩ => ⟨S2x512, .f32⟩
  | .hbm, ⟨45, _⟩ => ⟨S2x16, .f32⟩
  | .hbm, ⟨46, _⟩ => ⟨S4x3x704, .f32⟩
  | .hbm, ⟨47, _⟩ => ⟨S1024, .f32⟩
  | .hbm, ⟨48, _⟩ => ⟨S24576, .f32⟩
  | .hbm, ⟨49, _⟩ => ⟨S4096, .f32⟩
  | .hbm, ⟨50, _⟩ => ⟨S4096, .f32⟩
  | .hbm, ⟨51, _⟩ => ⟨S384, .f32⟩
  | .hbm, ⟨52, _⟩ => ⟨S3968, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S32, .f32⟩
  | .hbm, ⟨57, _⟩ => ⟨S8448, .f32⟩
  | .hbm, ⟨58, _⟩ => ⟨S50720, .f32⟩
  | .hbm, ⟨59, _⟩ => ⟨S_, .i32⟩
  | .hbm, ⟨60, _⟩ => ⟨S_, .f32⟩
  | .hbm, ⟨61, _⟩ => ⟨S57344, .f32⟩
  | .hbm, ⟨62, _⟩ => ⟨S448x128, .f32⟩
  | .hbm, ⟨63, _⟩ => ⟨S24576, .f32⟩
  | .hbm, ⟨64, _⟩ => ⟨S4096, .f32⟩
  | .hbm, ⟨65, _⟩ => ⟨S4096, .f32⟩
  | .hbm, ⟨66, _⟩ => ⟨S384, .f32⟩
  | .hbm, ⟨67, _⟩ => ⟨S3968, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S32, .f32⟩
  | .hbm, ⟨72, _⟩ => ⟨S8448, .f32⟩
  | .hbm, ⟨73, _⟩ => ⟨S50720, .f32⟩
  | .hbm, ⟨74, _⟩ => ⟨S_, .i32⟩
  | .hbm, ⟨75, _⟩ => ⟨S_, .f32⟩
  | .hbm, ⟨76, _⟩ => ⟨S57344, .f32⟩
  | .hbm, ⟨77, _⟩ => ⟨S448x128, .f32⟩
  | .hbm, ⟨78, _⟩ => ⟨S24576, .f32⟩
  | .hbm, ⟨79, _⟩ => ⟨S4096, .f32⟩
  | .hbm, ⟨80, _⟩ => ⟨S4096, .f32⟩
  | .hbm, ⟨81, _⟩ => ⟨S384, .f32⟩
  | .hbm, ⟨82, _⟩ => ⟨S3968, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S32, .f32⟩
  | .hbm, ⟨87, _⟩ => ⟨S8448, .f32⟩
  | .hbm, ⟨88, _⟩ => ⟨S50720, .f32⟩
  | .hbm, ⟨89, _⟩ => ⟨S_, .i32⟩
  | .hbm, ⟨90, _⟩ => ⟨S_, .f32⟩
  | .hbm, ⟨91, _⟩ => ⟨S57344, .f32⟩
  | .hbm, ⟨92, _⟩ => ⟨S448x128, .f32⟩
  | .hbm, ⟨93, _⟩ => ⟨S24576, .f32⟩
  | .hbm, ⟨94, _⟩ => ⟨S4096, .f32⟩
  | .hbm, ⟨95, _⟩ => ⟨S4096, .f32⟩
  | .hbm, ⟨96, _⟩ => ⟨S384, .f32⟩
  | .hbm, ⟨97, _⟩ => ⟨S3968, .f32⟩
  | .hbm, ⟨98, _⟩ => ⟨S1024, .f32⟩
  | .hbm, ⟨99, _⟩ => ⟨S1024, .f32⟩
  | .hbm, ⟨100, _⟩ => ⟨S1024, .f32⟩
  | .hbm, ⟨101, _⟩ => ⟨S32, .f32⟩
  | .hbm, ⟨102, _⟩ => ⟨S8448, .f32⟩
  | .hbm, ⟨103, _⟩ => ⟨S50720, .f32⟩
  | .hbm, ⟨104, _⟩ => ⟨S_, .i32⟩
  | .hbm, ⟨105, _⟩ => ⟨S_, .f32⟩
  | .hbm, ⟨106, _⟩ => ⟨S57344, .f32⟩
  | .hbm, ⟨107, _⟩ => ⟨S448x128, .f32⟩
  | .hbm, ⟨108, _⟩ => ⟨S448x128, .f32⟩
  | .hbm, ⟨109, _⟩ => ⟨S448x128, .f32⟩
  | .hbm, ⟨110, _⟩ => ⟨S448x128, .f32⟩
  | .local _ .vmem, ⟨0, _⟩ => ⟨S448x128, .f32⟩
  | .local _ .vmem, ⟨1, _⟩ => ⟨S448x128, .f32⟩
  | .local _ .vmem, ⟨2, _⟩ => ⟨S448x128, .f32⟩
  | .local _ .vmem, ⟨3, _⟩ => ⟨S448x128, .f32⟩
  | .local _ .vmem, ⟨4, _⟩ => ⟨S448x128, .f32⟩
  | .local _ .vmem, ⟨5, _⟩ => ⟨S448x128, .f32⟩
  | .local _ .vmem, ⟨6, _⟩ => ⟨S448x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_c : Ref sig .tc := ⟨.hbm, 59, rfl⟩
abbrev main_call0_v0 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_c_0 : Ref sig .tc := ⟨.hbm, 74, rfl⟩
abbrev main_call1_v0 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c_1 : Ref sig .tc := ⟨.hbm, 89, rfl⟩
abbrev main_call2_v0 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_c_2 : Ref sig .tc := ⟨.hbm, 104, rfl⟩
abbrev main_call3_v0 : Ref sig .tc := ⟨.hbm, 105, rfl⟩
abbrev main_v50 : Ref sig .tc := ⟨.hbm, 106, rfl⟩
abbrev main_v51 : Ref sig .tc := ⟨.hbm, 107, rfl⟩
abbrev main_v52_0 : Ref sig .tc := ⟨.hbm, 108, rfl⟩
abbrev main_v52_1 : Ref sig .tc := ⟨.hbm, 109, rfl⟩
abbrev main_v52_2 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S448x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S448x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S448x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S448x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S448x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S448x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S448x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S1024 : Shape := ⟨1, ![1024]⟩
abbrev S4x6144 : Shape := ⟨2, ![4, 6144]⟩
abbrev S4x1024 : Shape := ⟨2, ![4, 1024]⟩
abbrev S2x3x64 : Shape := ⟨3, ![2, 3, 64]⟩
abbrev S2x31x64 : Shape := ⟨3, ![2, 31, 64]⟩
abbrev S2x512 : Shape := ⟨2, ![2, 512]⟩
abbrev S2x16 : Shape := ⟨2, ![2, 16]⟩
abbrev S4x3x704 : Shape := ⟨3, ![4, 3, 704]⟩
abbrev S_ : Shape := ⟨0, ![]⟩
abbrev S24576 : Shape := ⟨1, ![24576]⟩
abbrev S4096 : Shape := ⟨1, ![4096]⟩
abbrev S384 : Shape := ⟨1, ![384]⟩
abbrev S3968 : Shape := ⟨1, ![3968]⟩
abbrev S32 : Shape := ⟨1, ![32]⟩
abbrev S8448 : Shape := ⟨1, ![8448]⟩
abbrev S50720 : Shape := ⟨1, ![50720]⟩
abbrev S57344 : Shape := ⟨1, ![57344]⟩
abbrev S448x128 : Shape := ⟨2, ![448, 128]⟩

abbrev nBuf : Space → Nat
  | .hbm => 489
  | .vmem => 0
  | .smem => 0
  | _ => 0

abbrev hbmTy0_0 (i : Nat) : BufTy := match i % 128 with
  | 0 => ⟨S1024, .f32⟩
  | 1 => ⟨S4x6144, .f32⟩
  | 2 => ⟨S4x1024, .f32⟩
  | 3 => ⟨S4x1024, .f32⟩
  | 4 => ⟨S2x3x64, .f32⟩
  | 5 => ⟨S2x31x64, .f32⟩
  | 6 => ⟨S2x512, .f32⟩
  | 7 => ⟨S2x512, .f32⟩
  | 8 => ⟨S2x512, .f32⟩
  | 9 => ⟨S2x16, .f32⟩
  | 10 => ⟨S4x3x704, .f32⟩
  | 11 => ⟨S1024, .f32⟩
  | 12 => ⟨S1024, .f32⟩
  | 13 => ⟨S4x6144, .f32⟩
  | 14 => ⟨S4x1024, .f32⟩
  | 15 => ⟨S4x1024, .f32⟩
  | 16 => ⟨S2x3x64, .f32⟩
  | 17 => ⟨S2x31x64, .f32⟩
  | 18 => ⟨S2x512, .f32⟩
  | 19 => ⟨S2x512, .f32⟩
  | 20 => ⟨S2x512, .f32⟩
  | 21 => ⟨S2x16, .f32⟩
  | 22 => ⟨S4x3x704, .f32⟩
  | 23 => ⟨S1024, .f32⟩
  | 24 => ⟨S1024, .f32⟩
  | 25 => ⟨S4x6144, .f32⟩
  | 26 => ⟨S4x1024, .f32⟩
  | 27 => ⟨S4x1024, .f32⟩
  | 28 => ⟨S2x3x64, .f32⟩
  | 29 => ⟨S2x31x64, .f32⟩
  | 30 => ⟨S2x512, .f32⟩
  | 31 => ⟨S2x512, .f32⟩
  | 32 => ⟨S2x512, .f32⟩
  | 33 => ⟨S2x16, .f32⟩
  | 34 => ⟨S4x3x704, .f32⟩
  | 35 => ⟨S1024, .f32⟩
  | 36 => ⟨S1024, .f32⟩
  | 37 => ⟨S4x6144, .f32⟩
  | 38 => ⟨S4x1024, .f32⟩
  | 39 => ⟨S4x1024, .f32⟩
  | 40 => ⟨S2x3x64, .f32⟩
  | 41 => ⟨S2x31x64, .f32⟩
  | 42 => ⟨S2x512, .f32⟩
  | 43 => ⟨S2x512, .f32⟩
  | 44 => ⟨S2x512, .f32⟩
  | 45 => ⟨S2x16, .f32⟩
  | 46 => ⟨S4x3x704, .f32⟩
  | 47 => ⟨S1024, .f32⟩
  | 48 => ⟨S_, .f32⟩
  | 49 => ⟨S1024, .f32⟩
  | 50 => ⟨S1024, .f32⟩
  | 51 => ⟨S_, .f32⟩
  | 52 => ⟨S1024, .f32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024, .f32⟩
  | 63 => ⟨S_, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S_, .f32⟩
  | 79 => ⟨S1024, .f32⟩
  | 80 => ⟨S1024, .f32⟩
  | 81 => ⟨S_, .f32⟩
  | 82 => ⟨S4x6144, .f32⟩
  | 83 => ⟨S4x6144, .f32⟩
  | 84 => ⟨S_, .f32⟩
  | 85 => ⟨S4x6144, .f32⟩
  | 86 => ⟨S4x6144, .f32⟩
  | 87 => ⟨S4x6144, .f32⟩
  | 88 => ⟨S_, .f32⟩
  | 89 => ⟨S4x6144, .f32⟩
  | 90 => ⟨S4x6144, .f32⟩
  | 91 => ⟨S4x6144, .f32⟩
  | 92 => ⟨S_, .f32⟩
  | 93 => ⟨S4x6144, .f32⟩
  | 94 => ⟨S4x6144, .f32⟩
  | 95 => ⟨S4x6144, .f32⟩
  | 96 => ⟨S_, .f32⟩
  | 97 => ⟨S4x6144, .f32⟩
  | 98 => ⟨S4x6144, .f32⟩
  | 99 => ⟨S_, .f32⟩
  | 100 => ⟨S4x6144, .f32⟩
  | 101 => ⟨S4x6144, .f32⟩
  | 102 => ⟨S4x6144, .f32⟩
  | 103 => ⟨S_, .f32⟩
  | 104 => ⟨S4x6144, .f32⟩
  | 105 => ⟨S4x6144, .f32⟩
  | 106 => ⟨S4x6144, .f32⟩
  | 107 => ⟨S_, .f32⟩
  | 108 => ⟨S4x6144, .f32⟩
  | 109 => ⟨S4x6144, .f32⟩
  | 110 => ⟨S4x6144, .f32⟩
  | 111 => ⟨S_, .f32⟩
  | 112 => ⟨S4x6144, .f32⟩
  | 113 => ⟨S4x6144, .f32⟩
  | 114 => ⟨S_, .f32⟩
  | 115 => ⟨S4x1024, .f32⟩
  | 116 => ⟨S4x1024, .f32⟩
  | 117 => ⟨S_, .f32⟩
  | 118 => ⟨S4x1024, .f32⟩
  | 119 => ⟨S4x1024, .f32⟩
  | 120 => ⟨S4x1024, .f32⟩
  | 121 => ⟨S_, .f32⟩
  | 122 => ⟨S4x1024, .f32⟩
  | 123 => ⟨S4x1024, .f32⟩
  | 124 => ⟨S4x1024, .f32⟩
  | 125 => ⟨S_, .f32⟩
  | 126 => ⟨S4x1024, .f32⟩
  | 127 => ⟨S4x1024, .f32⟩
  | _ => ⟨S1024, .f32⟩

abbrev hbmTy0_1 (i : Nat) : BufTy := match i % 128 with
  | 0 => ⟨S4x1024, .f32⟩
  | 1 => ⟨S_, .f32⟩
  | 2 => ⟨S4x1024, .f32⟩
  | 3 => ⟨S4x1024, .f32⟩
  | 4 => ⟨S_, .f32⟩
  | 5 => ⟨S4x1024, .f32⟩
  | 6 => ⟨S4x1024, .f32⟩
  | 7 => ⟨S4x1024, .f32⟩
  | 8 => ⟨S_, .f32⟩
  | 9 => ⟨S4x1024, .f32⟩
  | 10 => ⟨S4x1024, .f32⟩
  | 11 => ⟨S4x1024, .f32⟩
  | 12 => ⟨S_, .f32⟩
  | 13 => ⟨S4x1024, .f32⟩
  | 14 => ⟨S4x1024, .f32⟩
  | 15 => ⟨S4x1024, .f32⟩
  | 16 => ⟨S_, .f32⟩
  | 17 => ⟨S4x1024, .f32⟩
  | 18 => ⟨S4x1024, .f32⟩
  | 19 => ⟨S_, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S4x1024, .f32⟩
  | 26 => ⟨S_, .f32⟩
  | 27 => ⟨S4x1024, .f32⟩
  | 28 => ⟨S4x1024, .f32⟩
  | 29 => ⟨S4x1024, .f32⟩
  | 30 => ⟨S_, .f32⟩
  | 31 => ⟨S4x1024, .f32⟩
  | 32 => ⟨S4x1024, .f32⟩
  | 33 => ⟨S4x1024, .f32⟩
  | 34 => ⟨S_, .f32⟩
  | 35 => ⟨S4x1024, .f32⟩
  | 36 => ⟨S4x1024, .f32⟩
  | 37 => ⟨S_, .f32⟩
  | 38 => ⟨S4x1024, .f32⟩
  | 39 => ⟨S4x1024, .f32⟩
  | 40 => ⟨S4x1024, .f32⟩
  | 41 => ⟨S_, .f32⟩
  | 42 => ⟨S4x1024, .f32⟩
  | 43 => ⟨S4x1024, .f32⟩
  | 44 => ⟨S4x1024, .f32⟩
  | 45 => ⟨S_, .f32⟩
  | 46 => ⟨S4x1024, .f32⟩
  | 47 => ⟨S4x1024, .f32⟩
  | 48 => ⟨S4x1024, .f32⟩
  | 49 => ⟨S_, .f32⟩
  | 50 => ⟨S4x1024, .f32⟩
  | 51 => ⟨S4x1024, .f32⟩
  | 52 => ⟨S_, .f32⟩
  | 53 => ⟨S2x3x64, .f32⟩
  | 54 => ⟨S2x3x64, .f32⟩
  | 55 => ⟨S_, .f32⟩
  | 56 => ⟨S2x3x64, .f32⟩
  | 57 => ⟨S2x3x64, .f32⟩
  | 58 => ⟨S2x3x64, .f32⟩
  | 59 => ⟨S_, .f32⟩
  | 60 => ⟨S2x3x64, .f32⟩
  | 61 => ⟨S2x3x64, .f32⟩
  | 62 => ⟨S2x3x64, .f32⟩
  | 63 => ⟨S_, .f32⟩
  | 64 => ⟨S2x3x64, .f32⟩
  | 65 => ⟨S2x3x64, .f32⟩
  | 66 => ⟨S2x3x64, .f32⟩
  | 67 => ⟨S_, .f32⟩
  | 68 => ⟨S2x3x64, .f32⟩
  | 69 => ⟨S2x3x64, .f32⟩
  | 70 => ⟨S_, .f32⟩
  | 71 => ⟨S2x3x64, .f32⟩
  | 72 => ⟨S2x3x64, .f32⟩
  | 73 => ⟨S2x3x64, .f32⟩
  | 74 => ⟨S_, .f32⟩
  | 75 => ⟨S2x3x64, .f32⟩
  | 76 => ⟨S2x3x64, .f32⟩
  | 77 => ⟨S2x3x64, .f32⟩
  | 78 => ⟨S_, .f32⟩
  | 79 => ⟨S2x3x64, .f32⟩
  | 80 => ⟨S2x3x64, .f32⟩
  | 81 => ⟨S2x3x64, .f32⟩
  | 82 => ⟨S_, .f32⟩
  | 83 => ⟨S2x3x64, .f32⟩
  | 84 => ⟨S2x3x64, .f32⟩
  | 85 => ⟨S_, .f32⟩
  | 86 => ⟨S2x31x64, .f32⟩
  | 87 => ⟨S2x31x64, .f32⟩
  | 88 => ⟨S_, .f32⟩
  | 89 => ⟨S2x31x64, .f32⟩
  | 90 => ⟨S2x31x64, .f32⟩
  | 91 => ⟨S2x31x64, .f32⟩
  | 92 => ⟨S_, .f32⟩
  | 93 => ⟨S2x31x64, .f32⟩
  | 94 => ⟨S2x31x64, .f32⟩
  | 95 => ⟨S2x31x64, .f32⟩
  | 96 => ⟨S_, .f32⟩
  | 97 => ⟨S2x31x64, .f32⟩
  | 98 => ⟨S2x31x64, .f32⟩
  | 99 => ⟨S2x31x64, .f32⟩
  | 100 => ⟨S_, .f32⟩
  | 101 => ⟨S2x31x64, .f32⟩
  | 102 => ⟨S2x31x64, .f32⟩
  | 103 => ⟨S_, .f32⟩
  | 104 => ⟨S2x31x64, .f32⟩
  | 105 => ⟨S2x31x64, .f32⟩
  | 106 => ⟨S2x31x64, .f32⟩
  | 107 => ⟨S_, .f32⟩
  | 108 => ⟨S2x31x64, .f32⟩
  | 109 => ⟨S2x31x64, .f32⟩
  | 110 => ⟨S2x31x64, .f32⟩
  | 111 => ⟨S_, .f32⟩
  | 112 => ⟨S2x31x64, .f32⟩
  | 113 => ⟨S2x31x64, .f32⟩
  | 114 => ⟨S2x31x64, .f32⟩
  | 115 => ⟨S_, .f32⟩
  | 116 => ⟨S2x31x64, .f32⟩
  | 117 => ⟨S2x31x64, .f32⟩
  | 118 => ⟨S_, .f32⟩
  | 119 => ⟨S2x512, .f32⟩
  | 120 => ⟨S2x512, .f32⟩
  | 121 => ⟨S_, .f32⟩
  | 122 => ⟨S2x512, .f32⟩
  | 123 => ⟨S2x512, .f32⟩
  | 124 => ⟨S2x512, .f32⟩
  | 125 => ⟨S_, .f32⟩
  | 126 => ⟨S2x512, .f32⟩
  | 127 => ⟨S2x512, .f32⟩
  | _ => ⟨S1024, .f32⟩

abbrev hbmTy0_2 (i : Nat) : BufTy := match i % 128 with
  | 0 => ⟨S2x512, .f32⟩
  | 1 => ⟨S_, .f32⟩
  | 2 => ⟨S2x512, .f32⟩
  | 3 => ⟨S2x512, .f32⟩
  | 4 => ⟨S2x512, .f32⟩
  | 5 => ⟨S_, .f32⟩
  | 6 => ⟨S2x512, .f32⟩
  | 7 => ⟨S2x512, .f32⟩
  | 8 => ⟨S_, .f32⟩
  | 9 => ⟨S2x512, .f32⟩
  | 10 => ⟨S2x512, .f32⟩
  | 11 => ⟨S2x512, .f32⟩
  | 12 => ⟨S_, .f32⟩
  | 13 => ⟨S2x512, .f32⟩
  | 14 => ⟨S2x512, .f32⟩
  | 15 => ⟨S2x512, .f32⟩
  | 16 => ⟨S_, .f32⟩
  | 17 => ⟨S2x512, .f32⟩
  | 18 => ⟨S2x512, .f32⟩
  | 19 => ⟨S2x512, .f32⟩
  | 20 => ⟨S_, .f32⟩
  | 21 => ⟨S2x512, .f32⟩
  | 22 => ⟨S2x512, .f32⟩
  | 23 => ⟨S_, .f32⟩
  | 24 => ⟨S2x512, .f32⟩
  | 25 => ⟨S2x512, .f32⟩
  | 26 => ⟨S_, .f32⟩
  | 27 => ⟨S2x512, .f32⟩
  | 28 => ⟨S2x512, .f32⟩
  | 29 => ⟨S2x512, .f32⟩
  | 30 => ⟨S_, .f32⟩
  | 31 => ⟨S2x512, .f32⟩
  | 32 => ⟨S2x512, .f32⟩
  | 33 => ⟨S2x512, .f32⟩
  | 34 => ⟨S_, .f32⟩
  | 35 => ⟨S2x512, .f32⟩
  | 36 => ⟨S2x512, .f32⟩
  | 37 => ⟨S2x512, .f32⟩
  | 38 => ⟨S_, .f32⟩
  | 39 => ⟨S2x512, .f32⟩
  | 40 => ⟨S2x512, .f32⟩
  | 41 => ⟨S_, .f32⟩
  | 42 => ⟨S2x512, .f32⟩
  | 43 => ⟨S2x512, .f32⟩
  | 44 => ⟨S2x512, .f32⟩
  | 45 => ⟨S_, .f32⟩
  | 46 => ⟨S2x512, .f32⟩
  | 47 => ⟨S2x512, .f32⟩
  | 48 => ⟨S2x512, .f32⟩
  | 49 => ⟨S_, .f32⟩
  | 50 => ⟨S2x512, .f32⟩
  | 51 => ⟨S2x512, .f32⟩
  | 52 => ⟨S2x512, .f32⟩
  | 53 => ⟨S_, .f32⟩
  | 54 => ⟨S2x512, .f32⟩
  | 55 => ⟨S2x512, .f32⟩
  | 56 => ⟨S_, .f32⟩
  | 57 => ⟨S2x512, .f32⟩
  | 58 => ⟨S2x512, .f32⟩
  | 59 => ⟨S_, .f32⟩
  | 60 => ⟨S2x512, .f32⟩
  | 61 => ⟨S2x512, .f32⟩
  | 62 => ⟨S2x512, .f32⟩
  | 63 => ⟨S_, .f32⟩
  | 64 => ⟨S2x512, .f32⟩
  | 65 => ⟨S2x512, .f32⟩
  | 66 => ⟨S2x512, .f32⟩
  | 67 => ⟨S_, .f32⟩
  | 68 => ⟨S2x512, .f32⟩
  | 69 => ⟨S2x512, .f32⟩
  | 70 => ⟨S2x512, .f32⟩
  | 71 => ⟨S_, .f32⟩
  | 72 => ⟨S2x512, .f32⟩
  | 73 => ⟨S2x512, .f32⟩
  | 74 => ⟨S_, .f32⟩
  | 75 => ⟨S2x512, .f32⟩
  | 76 => ⟨S2x512, .f32⟩
  | 77 => ⟨S2x512, .f32⟩
  | 78 => ⟨S_, .f32⟩
  | 79 => ⟨S2x512, .f32⟩
  | 80 => ⟨S2x512, .f32⟩
  | 81 => ⟨S2x512, .f32⟩
  | 82 => ⟨S_, .f32⟩
  | 83 => ⟨S2x512, .f32⟩
  | 84 => ⟨S2x512, .f32⟩
  | 85 => ⟨S2x512, .f32⟩
  | 86 => ⟨S_, .f32⟩
  | 87 => ⟨S2x512, .f32⟩
  | 88 => ⟨S2x512, .f32⟩
  | 89 => ⟨S_, .f32⟩
  | 90 => ⟨S2x16, .f32⟩
  | 91 => ⟨S2x16, .f32⟩
  | 92 => ⟨S_, .f32⟩
  | 93 => ⟨S2x16, .f32⟩
  | 94 => ⟨S2x16, .f32⟩
  | 95 => ⟨S2x16, .f32⟩
  | 96 => ⟨S_, .f32⟩
  | 97 => ⟨S2x16, .f32⟩
  | 98 => ⟨S2x16, .f32⟩
  | 99 => ⟨S2x16, .f32⟩
  | 100 => ⟨S_, .f32⟩
  | 101 => ⟨S2x16, .f32⟩
  | 102 => ⟨S2x16, .f32⟩
  | 103 => ⟨S2x16, .f32⟩
  | 104 => ⟨S_, .f32⟩
  | 105 => ⟨S2x16, .f32⟩
  | 106 => ⟨S2x16, .f32⟩
  | 107 => ⟨S_, .f32⟩
  | 108 => ⟨S2x16, .f32⟩
  | 109 => ⟨S2x16, .f32⟩
  | 110 => ⟨S2x16, .f32⟩
  | 111 => ⟨S_, .f32⟩
  | 112 => ⟨S2x16, .f32⟩
  | 113 => ⟨S2x16, .f32⟩
  | 114 => ⟨S2x16, .f32⟩
  | 115 => ⟨S_, .f32⟩
  | 116 => ⟨S2x16, .f32⟩
  | 117 => ⟨S2x16, .f32⟩
  | 118 => ⟨S2x16, .f32⟩
  | 119 => ⟨S_, .f32⟩
  | 120 => ⟨S2x16, .f32⟩
  | 121 => ⟨S2x16, .f32⟩
  | 122 => ⟨S_, .f32⟩
  | 123 => ⟨S4x3x704, .f32⟩
  | 124 => ⟨S4x3x704, .f32⟩
  | 125 => ⟨S_, .f32⟩
  | 126 => ⟨S4x3x704, .f32⟩
  | 127 => ⟨S4x3x704, .f32⟩
  | _ => ⟨S1024, .f32⟩

abbrev hbmTy0_3 (i : Nat) : BufTy := match i % 128 with
  | 0 => ⟨S4x3x704, .f32⟩
  | 1 => ⟨S_, .f32⟩
  | 2 => ⟨S4x3x704, .f32⟩
  | 3 => ⟨S4x3x704, .f32⟩
  | 4 => ⟨S4x3x704, .f32⟩
  | 5 => ⟨S_, .f32⟩
  | 6 => ⟨S4x3x704, .f32⟩
  | 7 => ⟨S4x3x704, .f32⟩
  | 8 => ⟨S4x3x704, .f32⟩
  | 9 => ⟨S_, .f32⟩
  | 10 => ⟨S4x3x704, .f32⟩
  | 11 => ⟨S4x3x704, .f32⟩
  | 12 => ⟨S_, .f32⟩
  | 13 => ⟨S4x3x704, .f32⟩
  | 14 => ⟨S4x3x704, .f32⟩
  | 15 => ⟨S4x3x704, .f32⟩
  | 16 => ⟨S_, .f32⟩
  | 17 => ⟨S4x3x704, .f32⟩
  | 18 => ⟨S4x3x704, .f32⟩
  | 19 => ⟨S4x3x704, .f32⟩
  | 20 => ⟨S_, .f32⟩
  | 21 => ⟨S4x3x704, .f32⟩
  | 22 => ⟨S4x3x704, .f32⟩
  | 23 => ⟨S4x3x704, .f32⟩
  | 24 => ⟨S_, .f32⟩
  | 25 => ⟨S4x3x704, .f32⟩
  | 26 => ⟨S4x3x704, .f32⟩
  | 27 => ⟨S_, .f32⟩
  | 28 => ⟨S1024, .f32⟩
  | 29 => ⟨S1024, .f32⟩
  | 30 => ⟨S_, .f32⟩
  | 31 => ⟨S1024, .f32⟩
  | 32 => ⟨S1024, .f32⟩
  | 33 => ⟨S1024, .f32⟩
  | 34 => ⟨S_, .f32⟩
  | 35 => ⟨S1024, .f32⟩
  | 36 => ⟨S1024, .f32⟩
  | 37 => ⟨S1024, .f32⟩
  | 38 => ⟨S_, .f32⟩
  | 39 => ⟨S1024, .f32⟩
  | 40 => ⟨S1024, .f32⟩
  | 41 => ⟨S1024, .f32⟩
  | 42 => ⟨S_, .f32⟩
  | 43 => ⟨S1024, .f32⟩
  | 44 => ⟨S1024, .f32⟩
  | 45 => ⟨S_, .f32⟩
  | 46 => ⟨S1024, .f32⟩
  | 47 => ⟨S1024, .f32⟩
  | 48 => ⟨S1024, .f32⟩
  | 49 => ⟨S_, .f32⟩
  | 50 => ⟨S1024, .f32⟩
  | 51 => ⟨S1024, .f32⟩
  | 52 => ⟨S1024, .f32⟩
  | 53 => ⟨S_, .f32⟩
  | 54 => ⟨S1024, .f32⟩
  | 55 => ⟨S1024, .f32⟩
  | 56 => ⟨S1024, .f32⟩
  | 57 => ⟨S_, .f32⟩
  | 58 => ⟨S1024, .f32⟩
  | 59 => ⟨S1024, .f32⟩
  | 60 => ⟨S24576, .f32⟩
  | 61 => ⟨S4096, .f32⟩
  | 62 => ⟨S4096, .f32⟩
  | 63 => ⟨S384, .f32⟩
  | 64 => ⟨S3968, .f32⟩
  | 65 => ⟨S1024, .f32⟩
  | 66 => ⟨S1024, .f32⟩
  | 67 => ⟨S1024, .f32⟩
  | 68 => ⟨S32, .f32⟩
  | 69 => ⟨S8448, .f32⟩
  | 70 => ⟨S50720, .f32⟩
  | 71 => ⟨S24576, .f32⟩
  | 72 => ⟨S4096, .f32⟩
  | 73 => ⟨S4096, .f32⟩
  | 74 => ⟨S384, .f32⟩
  | 75 => ⟨S3968, .f32⟩
  | 76 => ⟨S1024, .f32⟩
  | 77 => ⟨S1024, .f32⟩
  | 78 => ⟨S1024, .f32⟩
  | 79 => ⟨S32, .f32⟩
  | 80 => ⟨S8448, .f32⟩
  | 81 => ⟨S50720, .f32⟩
  | 82 => ⟨S24576, .f32⟩
  | 83 => ⟨S4096, .f32⟩
  | 84 => ⟨S4096, .f32⟩
  | 85 => ⟨S384, .f32⟩
  | 86 => ⟨S3968, .f32⟩
  | 87 => ⟨S1024, .f32⟩
  | 88 => ⟨S1024, .f32⟩
  | 89 => ⟨S1024, .f32⟩
  | 90 => ⟨S32, .f32⟩
  | 91 => ⟨S8448, .f32⟩
  | 92 => ⟨S50720, .f32⟩
  | 93 => ⟨S_, .i32⟩
  | 94 => ⟨S_, .f32⟩
  | 95 => ⟨S57344, .f32⟩
  | 96 => ⟨S448x128, .f32⟩
  | 97 => ⟨S_, .i32⟩
  | 98 => ⟨S_, .f32⟩
  | 99 => ⟨S57344, .f32⟩
  | 100 => ⟨S448x128, .f32⟩
  | 101 => ⟨S_, .i32⟩
  | 102 => ⟨S_, .f32⟩
  | 103 => ⟨S57344, .f32⟩
  | 104 => ⟨S448x128, .f32⟩
  | _ => ⟨S1024, .f32⟩

abbrev hbmTy (i : Nat) : BufTy := match i / 128 with
  | 0 => hbmTy0_0 i
  | 1 => hbmTy0_1 i
  | 2 => hbmTy0_2 i
  | 3 => hbmTy0_3 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩
abbrev main_v288 : Ref sig .tc := ⟨.hbm, 444, rfl⟩
abbrev main_v289 : Ref sig .tc := ⟨.hbm, 445, rfl⟩
abbrev main_v290 : Ref sig .tc := ⟨.hbm, 446, rfl⟩
abbrev main_v291 : Ref sig .tc := ⟨.hbm, 447, rfl⟩
abbrev main_v292 : Ref sig .tc := ⟨.hbm, 448, rfl⟩
abbrev main_v293 : Ref sig .tc := ⟨.hbm, 449, rfl⟩
abbrev main_v294 : Ref sig .tc := ⟨.hbm, 450, rfl⟩
abbrev main_v295 : Ref sig .tc := ⟨.hbm, 451, rfl⟩
abbrev main_v296 : Ref sig .tc := ⟨.hbm, 452, rfl⟩
abbrev main_v297 : Ref sig .tc := ⟨.hbm, 453, rfl⟩
abbrev main_v298 : Ref sig .tc := ⟨.hbm, 454, rfl⟩
abbrev main_v299 : Ref sig .tc := ⟨.hbm, 455, rfl⟩
abbrev main_v300 : Ref sig .tc := ⟨.hbm, 456, rfl⟩
abbrev main_v301 : Ref sig .tc := ⟨.hbm, 457, rfl⟩
abbrev main_v302 : Ref sig .tc := ⟨.hbm, 458, rfl⟩
abbrev main_v303 : Ref sig .tc := ⟨.hbm, 459, rfl⟩
abbrev main_v304 : Ref sig .tc := ⟨.hbm, 460, rfl⟩
abbrev main_v305 : Ref sig .tc := ⟨.hbm, 461, rfl⟩
abbrev main_v306 : Ref sig .tc := ⟨.hbm, 462, rfl⟩
abbrev main_v307 : Ref sig .tc := ⟨.hbm, 463, rfl⟩
abbrev main_v308 : Ref sig .tc := ⟨.hbm, 464, rfl⟩
abbrev main_v309 : Ref sig .tc := ⟨.hbm, 465, rfl⟩
abbrev main_v310 : Ref sig .tc := ⟨.hbm, 466, rfl⟩
abbrev main_v311 : Ref sig .tc := ⟨.hbm, 467, rfl⟩
abbrev main_v312 : Ref sig .tc := ⟨.hbm, 468, rfl⟩
abbrev main_v313 : Ref sig .tc := ⟨.hbm, 469, rfl⟩
abbrev main_v314 : Ref sig .tc := ⟨.hbm, 470, rfl⟩
abbrev main_v315 : Ref sig .tc := ⟨.hbm, 471, rfl⟩
abbrev main_v316 : Ref sig .tc := ⟨.hbm, 472, rfl⟩
abbrev main_v317 : Ref sig .tc := ⟨.hbm, 473, rfl⟩
abbrev main_v318 : Ref sig .tc := ⟨.hbm, 474, rfl⟩
abbrev main_v319 : Ref sig .tc := ⟨.hbm, 475, rfl⟩
abbrev main_v320 : Ref sig .tc := ⟨.hbm, 476, rfl⟩
abbrev main_c : Ref sig .tc := ⟨.hbm, 477, rfl⟩
abbrev main_call0_v0 : Ref sig .tc := ⟨.hbm, 478, rfl⟩
abbrev main_v321 : Ref sig .tc := ⟨.hbm, 479, rfl⟩
abbrev main_v322 : Ref sig .tc := ⟨.hbm, 480, rfl⟩
abbrev main_c_107 : Ref sig .tc := ⟨.hbm, 481, rfl⟩
abbrev main_call1_v0 : Ref sig .tc := ⟨.hbm, 482, rfl⟩
abbrev main_v323 : Ref sig .tc := ⟨.hbm, 483, rfl⟩
abbrev main_v324 : Ref sig .tc := ⟨.hbm, 484, rfl⟩
abbrev main_c_108 : Ref sig .tc := ⟨.hbm, 485, rfl⟩
abbrev main_call2_v0 : Ref sig .tc := ⟨.hbm, 486, rfl⟩
abbrev main_v325 : Ref sig .tc := ⟨.hbm, 487, rfl⟩
abbrev main_v326 : Ref sig .tc := ⟨.hbm, 488, rfl⟩

abbrev nD : Nat := 1
abbrev τ : Topo := Topo.v7x

variable {F : FTy → Type} [FloatOps F]
-- ==== Proof.BwdUpRun.lean ====
module

public import proofs.«01_k».proof.Proof.Gen.KernelIdeal.Frame
public import proofs.«01_k».proof.Proof.Gen.KernelIdeal.Skeleton
public import Idealize.ShloMosaic.Lib.VecWindow
public import Idealize.ShloMosaic.Lib.WritesUnit
public import Idealize.ShloMosaic.Lib.ValueLayout
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Whole
variable {Val : EltTy → Type} {S : Shape} {e : EltTy} {sp : Space}

/-- A load of everything, from a whole buffer holding `x`, reads `x`. -/
theorem load_whole {M : Memref sig .tc sp S e} (h : M.IsWhole) (x : S.Idx → Val e) {off : Fin S.rank → ℕ} (inb : ∀ a, off a + S.size a ≤ S.size a) :
    M.view.readAt Val (Rect.unit off (no_index S.size) inb).toLoadRect (h.unread x) = x := by
  rw [View.readAt_full]; exact h.read_unread x

/-- A load of everything, after a store of everything, reads what was stored. -/
theorem load_stored [∀ e, Nonempty (Val e)] (v : View sig .tc sp S e) {off off' : Fin S.rank → ℕ} (inb : ∀ a, off a + S.size a ≤ S.size a) (inb' : ∀ a, off' a + S.size a ≤ S.size a)
    (w : S.Idx → Val e) (L : List (View.Piece Val S e)) :
    v.readCov ((⟨Rect.unit off' (no_index S.size) inb', w⟩ : View.Piece Val S e) :: L) (Rect.unit off (no_index S.size) inb).toLoadRect = w :=
  View.readCov_full v inb inb' w L

/-- After a store of everything the buffer holds what was stored, whatever was there. -/
theorem stored_whole (v : View sig .tc sp S e) (f : v.ty.Contents Val) {off : Fin S.rank → ℕ} (inb : ∀ a, off a + S.size a ≤ S.size a)
    (w x : S.Idx → Val e) (L : List (View.Piece Val S e)) (h : w = x) :
    v.read Val (v.writes Val f ((⟨Rect.unit off (no_index S.size) inb, w⟩ : View.Piece Val S e) :: L)) = x :=
  (View.read_writes_full v f inb w L).trans h
end Whole

/-- The grid point is the first: the weight is copied in and the sums over all rows start at zero. -/
abbrev condFirst (i : grid0.Coords) : Prop := (Scalar.cmpi .ne (Scalar.extui (Scalar.cmpi .eq (BitVec.ofNat 32 (i 0).val) 0#32)) 0#32) = 1#1
/-- The grid point is the first of its stream: the sums over one stream's rows start at zero. -/
abbrev condStream (i : grid0.Coords) : Prop := (Scalar.cmpi .ne (Scalar.extui (Scalar.ori (Scalar.cmpi .eq (BitVec.ofNat 32 (i 0).val) 0#32) (Scalar.cmpi .eq (BitVec.ofNat 32 (i 0).val) 32#32))) 0#32) = 1#1

/-- The operand the body copies in itself: the gathered weights, whole. -/
abbrev hbM0_0 : Memref sig .tc .hbm S8x1056x1024 .bf16 := Memref.whole main_v4
/-- The contents type of a memref's buffer. -/
abbrev HbBuf0 (c : Dev nD) {sp : Space} {S : Shape} {e : EltTy} (M : Memref sig .tc sp S e) : Type := Buf (Elt F) (M.view.loc (c : Thread nD τ))
/-- A memref's buffer, held whole at given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The weight the body works with: row `704 e + r` is row `r` of slab `e` of the gathered weights. -/
def weightOf {c : Dev nD} (g : HbBuf0 (F := F) c hbM0_0) : Vec F S5632x1024 .bf16 :=
  fun y => (hbM0_0.view.read (Elt F) g : Vec F S8x1056x1024 .bf16) fun a => match a with
    | ⟨0, _⟩ => (⟨(y 0).val / 704, by have := (y 0).isLt; change _ < 5632 at this; show _ < 8; omega⟩ : Fin 8)
    | ⟨1, _⟩ => (⟨(y 0).val % 704, by show _ < 1056; omega⟩ : Fin 1056)
    | ⟨2, _⟩ => (⟨(y 1).val, (y 1).isLt⟩ : Fin 1024)

/-- The body's own transfer cells, all at zero. -/
def cells (c : Dev nD) : sProp 𝕄 :=
  iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)

/-- Row `x` of the copied slab `e` is row `704 e + x` of the weight. -/
theorem slab_apply {c : Dev nD} (g : HbBuf0 (F := F) c hbM0_0) (e : ℕ) (he : e < 8) (inb : ∀ a, (![e, 0, 0] : Fin 3 → ℕ) a + (![1, 704, 1024] : Fin 3 → ℕ) a ≤ S8x1056x1024.size a)
    (hn : S704x1024.numel = (Rect.unit (s := S8x1056x1024) ![e, 0, 0] ![1, 704, 1024] inb).shape.numel) (x : S704x1024.Idx) (y : S5632x1024.Idx)
    (h0 : (y 0).val = 704 * e + (x 0).val) (h1 : (y 1).val = (x 1).val) :
    (View.read (Elt F) (((View.whole main_v4).slice (Rect.unit ![e, 0, 0] ![1, 704, 1024] inb)).reshape S704x1024 hn) g : Vec F S704x1024 .bf16) x = weightOf g y := by
  have hx0 : (x 0).val < 704 := (x 0).isLt
  have hx : x = ValueIdx.ix2 (x 0) (x 1) := ValueIdx.eq_ix2 x
  show (View.read (Elt F) ((View.whole main_v4).slice (Rect.unit ![e, 0, 0] ![1, 704, 1024] inb)) g) (Shape.reshapeEquiv hn x) = _
  rw [hx]
  erw [ValueIdx.reshapeEquiv_ix2_1ab]
  unfold weightOf
  show View.read (Elt F) (View.whole main_v4) g _ = View.read (Elt F) (View.whole main_v4) g _
  refine congrArg _ (funext fun a => Fin.ext ?_)
  match a with
  | ⟨0, _⟩ => show e + 1 * 0 = (y 0).val / 704; omega
  | ⟨1, _⟩ => show 0 + 1 * (x 0).val = (y 0).val % 704; omega
  | ⟨2, _⟩ => show 0 + 1 * (x 1).val = (y 1).val; omega

/-- After the eight copies the scratch holds the weight, whatever was there. -/
theorem read_slabs {c : Dev nD} (g : HbBuf0 (F := F) c hbM0_0) (v : View sig .tc .vmem S5632x1024 .bf16) (f : v.ty.Contents (Elt F))
    (b0 : ∀ a, (![0, 0] : Fin 2 → ℕ) a + S704x1024.size a ≤ S5632x1024.size a) (s0 : ∀ a, (![0, 0, 0] : Fin 3 → ℕ) a + (![1, 704, 1024] : Fin 3 → ℕ) a ≤ S8x1056x1024.size a) (n0 : S704x1024.numel = (Rect.unit (s := S8x1056x1024) ![0, 0, 0] ![1, 704, 1024] s0).shape.numel)
    (b1 : ∀ a, (![704, 0] : Fin 2 → ℕ) a + S704x1024.size a ≤ S5632x1024.size a) (s1 : ∀ a, (![1, 0, 0] : Fin 3 → ℕ) a + (![1, 704, 1024] : Fin 3 → ℕ) a ≤ S8x1056x1024.size a) (n1 : S704x1024.numel = (Rect.unit (s := S8x1056x1024) ![1, 0, 0] ![1, 704, 1024] s1).shape.numel)
    (b2 : ∀ a, (![1408, 0] : Fin 2 → ℕ) a + S704x1024.size a ≤ S5632x1024.size a) (s2 : ∀ a, (![2, 0, 0] : Fin 3 → ℕ) a + (![1, 704, 1024] : Fin 3 → ℕ) a ≤ S8x1056x1024.size a) (n2 : S704x1024.numel = (Rect.unit (s := S8x1056x1024) ![2, 0, 0] ![1, 704, 1024] s2).shape.numel)
    (b3 : ∀ a, (![2112, 0] : Fin 2 → ℕ) a + S704x1024.size a ≤ S5632x1024.size a) (s3 : ∀ a, (![3, 0, 0] : Fin 3 → ℕ) a + (![1, 704, 1024] : Fin 3 → ℕ) a ≤ S8x1056x1024.size a) (n3 : S704x1024.numel = (Rect.unit (s := S8x1056x1024) ![3, 0, 0] ![1, 704, 1024] s3).shape.numel)
    (b4 : ∀ a, (![2816, 0] : Fin 2 → ℕ) a + S704x1024.size a ≤ S5632x1024.size a) (s4 : ∀ a, (![4, 0, 0] : Fin 3 → ℕ) a + (![1, 704, 1024] : Fin 3 → ℕ) a ≤ S8x1056x1024.size a) (n4 : S704x1024.numel = (Rect.unit (s := S8x1056x1024) ![4, 0, 0] ![1, 704, 1024] s4).shape.numel)
    (b5 : ∀ a, (![3520, 0] : Fin 2 → ℕ) a + S704x1024.size a ≤ S5632x1024.size a) (s5 : ∀ a, (![5, 0, 0] : Fin 3 → ℕ) a + (![1, 704, 1024] : Fin 3 → ℕ) a ≤ S8x1056x1024.size a) (n5 : S704x1024.numel = (Rect.unit (s := S8x1056x1024) ![5, 0, 0] ![1, 704, 1024] s5).shape.numel)
    (b6 : ∀ a, (![4224, 0] : Fin 2 → ℕ) a + S704x1024.size a ≤ S5632x1024.size a) (s6 : ∀ a, (![6, 0, 0] : Fin 3 → ℕ) a + (![1, 704, 1024] : Fin 3 → ℕ) a ≤ S8x1056x1024.size a) (n6 : S704x1024.numel = (Rect.unit (s := S8x1056x1024) ![6, 0, 0] ![1, 704, 1024] s6).shape.numel)
    (b7 : ∀ a, (![4928, 0] : Fin 2 → ℕ) a + S704x1024.size a ≤ S5632x1024.size a) (s7 : ∀ a, (![7, 0, 0] : Fin 3 → ℕ) a + (![1, 704, 1024] : Fin 3 → ℕ) a ≤ S8x1056x1024.size a) (n7 : S704x1024.numel = (Rect.unit (s := S8x1056x1024) ![7, 0, 0] ![1, 704, 1024] s7).shape.numel) :
    v.read (Elt F) (v.writes (Elt F) f
      [⟨Rect.unit ![4928, 0] (no_index S704x1024.size) b7, ReadAs.same.apply (View.read (Elt F) (((View.whole main_v4).slice (Rect.unit ![7, 0, 0] ![1, 704, 1024] s7)).reshape S704x1024 n7) g)⟩,
        ⟨Rect.unit ![4224, 0] (no_index S704x1024.size) b6, ReadAs.same.apply (View.read (Elt F) (((View.whole main_v4).slice (Rect.unit ![6, 0, 0] ![1, 704, 1024] s6)).reshape S704x1024 n6) g)⟩,
        ⟨Rect.unit ![3520, 0] (no_index S704x1024.size) b5, ReadAs.same.apply (View.read (Elt F) (((View.whole main_v4).slice (Rect.unit ![5, 0, 0] ![1, 704, 1024] s5)).reshape S704x1024 n5) g)⟩,
        ⟨Rect.unit ![2816, 0] (no_index S704x1024.size) b4, ReadAs.same.apply (View.read (Elt F) (((View.whole main_v4).slice (Rect.unit ![4, 0, 0] ![1, 704, 1024] s4)).reshape S704x1024 n4) g)⟩,
        ⟨Rect.unit ![2112, 0] (no_index S704x1024.size) b3, ReadAs.same.apply (View.read (Elt F) (((View.whole main_v4).slice (Rect.unit ![3, 0, 0] ![1, 704, 1024] s3)).reshape S704x1024 n3) g)⟩,
        ⟨Rect.unit ![1408, 0] (no_index S704x1024.size) b2, ReadAs.same.apply (View.read (Elt F) (((View.whole main_v4).slice (Rect.unit ![2, 0, 0] ![1, 704, 1024] s2)).reshape S704x1024 n2) g)⟩,
        ⟨Rect.unit ![704, 0] (no_index S704x1024.size) b1, ReadAs.same.apply (View.read (Elt F) (((View.whole main_v4).slice (Rect.unit ![1, 0, 0] ![1, 704, 1024] s1)).reshape S704x1024 n1) g)⟩,
        ⟨Rect.unit ![0, 0] (no_index S704x1024.size) b0, ReadAs.same.apply (View.read (Elt F) (((View.whole main_v4).slice (Rect.unit ![0, 0, 0] ![1, 704, 1024] s0)).reshape S704x1024 n0) g)⟩]) = weightOf g := by
  funext y
  have hy : (y 0).val < 5632 := (y 0).isLt
  by_cases h7 : 4928 ≤ (y 0).val
  · exact (View.read_writes_cons_rows_of_mem v f b7 _ _ y (ValueIdx.ix2 ⟨(y 0).val - 4928, by show _ < 704; omega⟩ (y 1)) rfl (by show (y 0).val = 4928 + ((y 0).val - 4928); omega) rfl).trans (slab_apply g 7 (by omega) s7 n7 _ y (by show (y 0).val = 704 * 7 + ((y 0).val - 4928); omega) rfl)
  refine (View.read_writes_cons_rows_of_not_mem v f b7 _ _ y rfl (W := 704) rfl (Or.inl (by omega))).trans ?_
  by_cases h6 : 4224 ≤ (y 0).val
  · exact (View.read_writes_cons_rows_of_mem v f b6 _ _ y (ValueIdx.ix2 ⟨(y 0).val - 4224, by show _ < 704; omega⟩ (y 1)) rfl (by show (y 0).val = 4224 + ((y 0).val - 4224); omega) rfl).trans (slab_apply g 6 (by omega) s6 n6 _ y (by show (y 0).val = 704 * 6 + ((y 0).val - 4224); omega) rfl)
  refine (View.read_writes_cons_rows_of_not_mem v f b6 _ _ y rfl (W := 704) rfl (Or.inl (by omega))).trans ?_
  by_cases h5 : 3520 ≤ (y 0).val
  · exact (View.read_writes_cons_rows_of_mem v f b5 _ _ y (ValueIdx.ix2 ⟨(y 0).val - 3520, by show _ < 704; omega⟩ (y 1)) rfl (by show (y 0).val = 3520 + ((y 0).val - 3520); omega) rfl).trans (slab_apply g 5 (by omega) s5 n5 _ y (by show (y 0).val = 704 * 5 + ((y 0).val - 3520); omega) rfl)
  refine (View.read_writes_cons_rows_of_not_mem v f b5 _ _ y rfl (W := 704) rfl (Or.inl (by omega))).trans ?_
  by_cases h4 : 2816 ≤ (y 0).val
  · exact (View.read_writes_cons_rows_of_mem v f b4 _ _ y (ValueIdx.ix2 ⟨(y 0).val - 2816, by show _ < 704; omega⟩ (y 1)) rfl (by show (y 0).val = 2816 + ((y 0).val - 2816); omega) rfl).trans (slab_apply g 4 (by omega) s4 n4 _ y (by show (y 0).val = 704 * 4 + ((y 0).val - 2816); omega) rfl)
  refine (View.read_writes_cons_rows_of_not_mem v f b4 _ _ y rfl (W := 704) rfl (Or.inl (by omega))).trans ?_
  by_cases h3 : 2112 ≤ (y 0).val
  · exact (View.read_writes_cons_rows_of_mem v f b3 _ _ y (ValueIdx.ix2 ⟨(y 0).val - 2112, by show _ < 704; omega⟩ (y 1)) rfl (by show (y 0).val = 2112 + ((y 0).val - 2112); omega) rfl).trans (slab_apply g 3 (by omega) s3 n3 _ y (by show (y 0).val = 704 * 3 + ((y 0).val - 2112); omega) rfl)
  refine (View.read_writes_cons_rows_of_not_mem v f b3 _ _ y rfl (W := 704) rfl (Or.inl (by omega))).trans ?_
  by_cases h2 : 1408 ≤ (y 0).val
  · exact (View.read_writes_cons_rows_of_mem v f b2 _ _ y (ValueIdx.ix2 ⟨(y 0).val - 1408, by show _ < 704; omega⟩ (y 1)) rfl (by show (y 0).val = 1408 + ((y 0).val - 1408); omega) rfl).trans (slab_apply g 2 (by omega) s2 n2 _ y (by show (y 0).val = 704 * 2 + ((y 0).val - 1408); omega) rfl)
  refine (View.read_writes_cons_rows_of_not_mem v f b2 _ _ y rfl (W := 704) rfl (Or.inl (by omega))).trans ?_
  by_cases h1 : 704 ≤ (y 0).val
  · exact (View.read_writes_cons_rows_of_mem v f b1 _ _ y (ValueIdx.ix2 ⟨(y 0).val - 704, by show _ < 704; omega⟩ (y 1)) rfl (by show (y 0).val = 704 + ((y 0).val - 704); omega) rfl).trans (slab_apply g 1 (by omega) s1 n1 _ y (by show (y 0).val = 704 * 1 + ((y 0).val - 704); omega) rfl)
  refine (View.read_writes_cons_rows_of_not_mem v f b1 _ _ y rfl (W := 704) rfl (Or.inl (by omega))).trans ?_
  exact (View.read_writes_cons_rows_of_mem v f b0 _ _ y (ValueIdx.ix2 ⟨(y 0).val - 0, by show _ < 704; omega⟩ (y 1)) rfl (by show (y 0).val = 0 + ((y 0).val - 0); omega) rfl).trans (slab_apply g 0 (by omega) s0 n0 _ y (by show (y 0).val = 704 * 0 + ((y 0).val - 0); omega) rfl)

/-- … and a load of everything reads the weight. -/
theorem load_slabs {c : Dev nD} (g : HbBuf0 (F := F) c hbM0_0) (v : View sig .tc .vmem S5632x1024 .bf16) {off : Fin 2 → ℕ} (inb : ∀ a, off a + S5632x1024.size a ≤ S5632x1024.size a)
    (b0 : ∀ a, (![0, 0] : Fin 2 → ℕ) a + S704x1024.size a ≤ S5632x1024.size a) (s0 : ∀ a, (![0, 0, 0] : Fin 3 → ℕ) a + (![1, 704, 1024] : Fin 3 → ℕ) a ≤ S8x1056x1024.size a) (n0 : S704x1024.numel = (Rect.unit (s := S8x1056x1024) ![0, 0, 0] ![1, 704, 1024] s0).shape.numel)
    (b1 : ∀ a, (![704, 0] : Fin 2 → ℕ) a + S704x1024.size a ≤ S5632x1024.size a) (s1 : ∀ a, (![1, 0, 0] : Fin 3 → ℕ) a + (![1, 704, 1024] : Fin 3 → ℕ) a ≤ S8x1056x1024.size a) (n1 : S704x1024.numel = (Rect.unit (s := S8x1056x1024) ![1, 0, 0] ![1, 704, 1024] s1).shape.numel)
    (b2 : ∀ a, (![1408, 0] : Fin 2 → ℕ) a + S704x1024.size a ≤ S5632x1024.size a) (s2 : ∀ a, (![2, 0, 0] : Fin 3 → ℕ) a + (![1, 704, 1024] : Fin 3 → ℕ) a ≤ S8x1056x1024.size a) (n2 : S704x1024.numel = (Rect.unit (s := S8x1056x1024) ![2, 0, 0] ![1, 704, 1024] s2).shape.numel)
    (b3 : ∀ a, (![2112, 0] : Fin 2 → ℕ) a + S704x1024.size a ≤ S5632x1024.size a) (s3 : ∀ a, (![3, 0, 0] : Fin 3 → ℕ) a + (![1, 704, 1024] : Fin 3 → ℕ) a ≤ S8x1056x1024.size a) (n3 : S704x1024.numel = (Rect.unit (s := S8x1056x1024) ![3, 0, 0] ![1, 704, 1024] s3).shape.numel)
    (b4 : ∀ a, (![2816, 0] : Fin 2 → ℕ) a + S704x1024.size a ≤ S5632x1024.size a) (s4 : ∀ a, (![4, 0, 0] : Fin 3 → ℕ) a + (![1, 704, 1024] : Fin 3 → ℕ) a ≤ S8x1056x1024.size a) (n4 : S704x1024.numel = (Rect.unit (s := S8x1056x1024) ![4, 0, 0] ![1, 704, 1024] s4).shape.numel)
    (b5 : ∀ a, (![3520, 0] : Fin 2 → ℕ) a + S704x1024.size a ≤ S5632x1024.size a) (s5 : ∀ a, (![5, 0, 0] : Fin 3 → ℕ) a + (![1, 704, 1024] : Fin 3 → ℕ) a ≤ S8x1056x1024.size a) (n5 : S704x1024.numel = (Rect.unit (s := S8x1056x1024) ![5, 0, 0] ![1, 704, 1024] s5).shape.numel)
    (b6 : ∀ a, (![4224, 0] : Fin 2 → ℕ) a + S704x1024.size a ≤ S5632x1024.size a) (s6 : ∀ a, (![6, 0, 0] : Fin 3 → ℕ) a + (![1, 704, 1024] : Fin 3 → ℕ) a ≤ S8x1056x1024.size a) (n6 : S704x1024.numel = (Rect.unit (s := S8x1056x1024) ![6, 0, 0] ![1, 704, 1024] s6).shape.numel)
    (b7 : ∀ a, (![4928, 0] : Fin 2 → ℕ) a + S704x1024.size a ≤ S5632x1024.size a) (s7 : ∀ a, (![7, 0, 0] : Fin 3 → ℕ) a + (![1, 704, 1024] : Fin 3 → ℕ) a ≤ S8x1056x1024.size a) (n7 : S704x1024.numel = (Rect.unit (s := S8x1056x1024) ![7, 0, 0] ![1, 704, 1024] s7).shape.numel) :
    v.readCov
      [⟨Rect.unit ![4928, 0] (no_index S704x1024.size) b7, ReadAs.same.apply (View.read (Elt F) (((View.whole main_v4).slice (Rect.unit ![7, 0, 0] ![1, 704, 1024] s7)).reshape S704x1024 n7) g)⟩,
        ⟨Rect.unit ![4224, 0] (no_index S704x1024.size) b6, ReadAs.same.apply (View.read (Elt F) (((View.whole main_v4).slice (Rect.unit ![6, 0, 0] ![1, 704, 1024] s6)).reshape S704x1024 n6) g)⟩,
        ⟨Rect.unit ![3520, 0] (no_index S704x1024.size) b5, ReadAs.same.apply (View.read (Elt F) (((View.whole main_v4).slice (Rect.unit ![5, 0, 0] ![1, 704, 1024] s5)).reshape S704x1024 n5) g)⟩,
        ⟨Rect.unit ![2816, 0] (no_index S704x1024.size) b4, ReadAs.same.apply (View.read (Elt F) (((View.whole main_v4).slice (Rect.unit ![4, 0, 0] ![1, 704, 1024] s4)).reshape S704x1024 n4) g)⟩,
        ⟨Rect.unit ![2112, 0] (no_index S704x1024.size) b3, ReadAs.same.apply (View.read (Elt F) (((View.whole main_v4).slice (Rect.unit ![3, 0, 0] ![1, 704, 1024] s3)).reshape S704x1024 n3) g)⟩,
        ⟨Rect.unit ![1408, 0] (no_index S704x1024.size) b2, ReadAs.same.apply (View.read (Elt F) (((View.whole main_v4).slice (Rect.unit ![2, 0, 0] ![1, 704, 1024] s2)).reshape S704x1024 n2) g)⟩,
        ⟨Rect.unit ![704, 0] (no_index S704x1024.size) b1, ReadAs.same.apply (View.read (Elt F) (((View.whole main_v4).slice (Rect.unit ![1, 0, 0] ![1, 704, 1024] s1)).reshape S704x1024 n1) g)⟩,
        ⟨Rect.unit ![0, 0] (no_index S704x1024.size) b0, ReadAs.same.apply (View.read (Elt F) (((View.whole main_v4).slice (Rect.unit ![0, 0, 0] ![1, 704, 1024] s0)).reshape S704x1024 n0) g)⟩] (Rect.unit off (no_index S5632x1024.size) inb).toLoadRect = weightOf g :=
  (View.readAt_full v _ inb).trans (read_slabs g v _ b0 s0 n0 b1 s1 n1 b2 s2 n2 b3 s3 n3 b4 s4 n4 b5 s5 n5 b6 s6 n6 b7 s7 n7)

section Body
variable (c : Dev nD) (i : grid0.Coords) (arg1 : Memref sig .tc .vmem S1x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S256x5632 .bf16) (harg4 : arg4.IsWhole) (arg5 : Memref sig .tc .vmem S256x1024 .f32) (harg5 : arg5.IsWhole) (arg6 : Memref sig .tc .vmem S256x1024 .f32) (harg6 : arg6.IsWhole) (arg8 : Memref sig .tc .vmem S1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S256x1024 .f32) (harg11 : arg11.IsWhole) (arg12 : Memref sig .tc .vmem S5632x1024 .bf16) (harg12 : arg12.IsWhole)
  (x0 : Vec F S1x1024 .f32) (x1 : Vec F S1x1x1024 .f32) (x2 : Vec F S1x1x1024 .f32) (x3 : Vec F S256x5632 .bf16) (x4 : Vec F S256x1024 .f32) (x5 : Vec F S256x1024 .f32)

/-- The body of the call at a grid point, on any staging buffers. -/
abbrev bodyProg := cc0_bwd_up (F := F) i arg1 harg1 arg2 harg2 arg3 harg3 arg4 harg4 arg5 harg5 arg6 harg6 (Memref.whole main_v4) (Memref.isWhole_whole _) arg8 harg8 arg9 harg9 arg10 harg10 arg11 harg11 arg12 harg12 cc0_scratch1

/-- The input blocks, in their staging buffers. -/
def ins : sProp 𝕄 := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5)

/-- The four output blocks and the weight scratch, at given contents. -/
def outs (o6 : Vec F S1x1024 .f32) (o7 o8 : Vec F S1x1x1024 .f32) (o9 : Vec F S256x1024 .f32) (wb : Vec F S5632x1024 .bf16) : sProp 𝕄 :=
  iprop(owns (c : Thread nD τ) arg8 fullShare o6 ∗ owns (c : Thread nD τ) arg9 fullShare o7 ∗ owns (c : Thread nD τ) arg10 fullShare o8 ∗ owns (c : Thread nD τ) arg11 fullShare o9 ∗ owns (c : Thread nD τ) arg12 fullShare wb)

set_option maxHeartbeats 1000000 in
/-- A point inside a stream: nothing is reset, each sum takes its block's part, and the weight stays. -/
theorem run_inner (hc0 : ¬ condFirst i) (hc2 : ¬ condStream i) (o6 : Vec F S1x1024 .f32) (o7 o8 : Vec F S1x1x1024 .f32) (o9 : Vec F S256x1024 .f32) (wb : Vec F S5632x1024 .bf16) (W : Waits sig Unit) (K : PUnit → sProp 𝕄) :
    iprop(ins c arg1 arg2 arg3 arg4 arg5 arg6 x0 x1 x2 x3 x4 x5 ∗ outs c arg8 arg9 arg10 arg11 arg12 o6 o7 o8 o9 wb ∗ owes (c : Thread nD τ) 0 W
        ∗ (iprop(ins c arg1 arg2 arg3 arg4 arg5 arg6 x0 x1 x2 x3 x4 x5
            ∗ outs c arg8 arg9 arg10 arg11 arg12 (k0_pay15 (k0_pay12 x3 wb x2 x4) o6) (k0_pay17 (k0_pay9 x3 wb) o7) (k0_pay2 (k0_pay10 x3 wb x0 x4) o8) (k0_pay3 (k0_pay13 x0 x4 (k0_pay6 x4) (k0_pay7 x4) (k0_pay11 x3 wb x2)) x5) wb ∗ owes (c : Thread nD τ) 0 W) -∗ K ⟨⟩))
      ⊢ wp frame (wpE (defs₀ (F := F)) Variants.none c none) Set.univ (bodyProg i arg1 harg1 arg2 harg2 arg3 harg3 arg4 harg4 arg5 harg5 arg6 harg6 arg8 harg8 arg9 harg9 arg10 harg10 arg11 harg11 arg12 harg12) K := by
  simp only [bodyProg, cc0_bwd_up_eq_skeleton]; unfold cc0_bwd_up_skel
  simp only [k0_part4_eq_skeleton, k0_part1_eq_skeleton, k0_part2_eq_skeleton, k0_part3_eq_skeleton, k0_part5_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%f7, %hf7, H7⟩, ⟨%f8, %hf8, H8⟩, ⟨%f9, %hf9, H9⟩, ⟨%fs0, %hfs, HS0⟩⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hf6; obtain rfl := harg9.eq_unread hf7; obtain rfl := harg10.eq_unread hf8; obtain rfl := harg12.eq_unread hfs
  sl_exec (disch := first | sl_exact hc0 | sl_exact hc2)
  sl_step
  iapply Hk
  isplitl [H0 H1 H2 H3 H4 H5]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    iexists _; isplitr; swap; · iexact H5
    ipureintro; exact hf5
  isplitl [H6 H7 H8 H9 HS0]
  · isplitl [H6]
    · iexists _; isplitr; swap; · iexact H6
      ipureintro; refine stored_whole _ _ _ _ _ _ ?_; sl_unfold_words; simp only [load_whole]
    isplitl [H7]
    · iexists _; isplitr; swap; · iexact H7
      ipureintro; refine stored_whole _ _ _ _ _ _ ?_; sl_unfold_words; simp only [load_whole]
    isplitl [H8]
    · iexists _; isplitr; swap; · iexact H8
      ipureintro; refine stored_whole _ _ _ _ _ _ ?_; sl_unfold_words; simp only [load_whole]
    isplitl [H9]
    · iexists _; isplitr; swap; · iexact H9
      ipureintro; refine stored_whole _ _ _ _ _ _ ?_; sl_unfold_words; simp only [load_whole]
    iexists _; isplitr; swap; · iexact HS0
    ipureintro; exact hfs
  iexact HW
set_option maxHeartbeats 1000000 in
/-- The first point of the second stream: the sums over the stream start again, the sum over all rows and the weight go on. -/
theorem run_stream (hc0 : ¬ condFirst i) (hc2 : condStream i) (o6 : Vec F S1x1024 .f32) (o7 o8 : Vec F S1x1x1024 .f32) (o9 : Vec F S256x1024 .f32) (wb : Vec F S5632x1024 .bf16) (W : Waits sig Unit) (K : PUnit → sProp 𝕄) :
    iprop(ins c arg1 arg2 arg3 arg4 arg5 arg6 x0 x1 x2 x3 x4 x5 ∗ outs c arg8 arg9 arg10 arg11 arg12 o6 o7 o8 o9 wb ∗ owes (c : Thread nD τ) 0 W
        ∗ (iprop(ins c arg1 arg2 arg3 arg4 arg5 arg6 x0 x1 x2 x3 x4 x5
            ∗ outs c arg8 arg9 arg10 arg11 arg12 (k0_pay15 (k0_pay12 x3 wb x2 x4) o6) (k0_pay17 (k0_pay9 x3 wb) k0_pay16) (k0_pay2 (k0_pay10 x3 wb x0 x4) k0_pay1) (k0_pay3 (k0_pay13 x0 x4 (k0_pay6 x4) (k0_pay7 x4) (k0_pay11 x3 wb x2)) x5) wb ∗ owes (c : Thread nD τ) 0 W) -∗ K ⟨⟩))
      ⊢ wp frame (wpE (defs₀ (F := F)) Variants.none c none) Set.univ (bodyProg i arg1 harg1 arg2 harg2 arg3 harg3 arg4 harg4 arg5 harg5 arg6 harg6 arg8 harg8 arg9 harg9 arg10 harg10 arg11 harg11 arg12 harg12) K := by
  simp only [bodyProg, cc0_bwd_up_eq_skeleton]; unfold cc0_bwd_up_skel
  simp only [k0_part4_eq_skeleton, k0_part1_eq_skeleton, k0_part2_eq_skeleton, k0_part3_eq_skeleton, k0_part5_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%f7, %hf7, H7⟩, ⟨%f8, %hf8, H8⟩, ⟨%f9, %hf9, H9⟩, ⟨%fs0, %hfs, HS0⟩⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hf6; obtain rfl := harg9.eq_unread hf7; obtain rfl := harg10.eq_unread hf8; obtain rfl := harg12.eq_unread hfs
  sl_exec (disch := first | sl_exact hc0 | sl_exact hc2)
  sl_step
  iapply Hk
  isplitl [H0 H1 H2 H3 H4 H5]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    iexists _; isplitr; swap; · iexact H5
    ipureintro; exact hf5
  isplitl [H6 H7 H8 H9 HS0]
  · isplitl [H6]
    · iexists _; isplitr; swap; · iexact H6
      ipureintro; refine stored_whole _ _ _ _ _ _ ?_; sl_unfold_words; simp only [load_whole, load_stored]
    isplitl [H7]
    · iexists _; isplitr; swap; · iexact H7
      ipureintro; refine stored_whole _ _ _ _ _ _ ?_; sl_unfold_words; simp only [load_whole, load_stored]
    isplitl [H8]
    · iexists _; isplitr; swap; · iexact H8
      ipureintro; refine stored_whole _ _ _ _ _ _ ?_; sl_unfold_words; simp only [load_whole, load_stored]
    isplitl [H9]
    · iexists _; isplitr; swap; · iexact H9
      ipureintro; refine stored_whole _ _ _ _ _ _ ?_; sl_unfold_words; simp only [load_whole, load_stored]
    iexists _; isplitr; swap; · iexact HS0
    ipureintro; exact hfs
  iexact HW

set_option sl_exec.dmaWindow true in
set_option sl_exec.dmaWindowSet true in
set_option maxHeartbeats 1000000 in
/-- The first point: every sum starts at zero, and the weight is copied in, eight slabs in flight at once. -/
theorem run_first (hc0 : condFirst i) (hc2 : condStream i) (o6 : Vec F S1x1024 .f32) (o7 o8 : Vec F S1x1x1024 .f32) (o9 : Vec F S256x1024 .f32) (wb : Vec F S5632x1024 .bf16) (g : HbBuf0 (F := F) c hbM0_0) (W : Waits sig Unit) (K : PUnit → sProp 𝕄) :
    iprop(ins c arg1 arg2 arg3 arg4 arg5 arg6 x0 x1 x2 x3 x4 x5 ∗ outs c arg8 arg9 arg10 arg11 arg12 o6 o7 o8 o9 wb ∗ cells c ∗ hbPt0 c hbM0_0 g ∗ owes (c : Thread nD τ) 0 W
        ∗ (iprop(ins c arg1 arg2 arg3 arg4 arg5 arg6 x0 x1 x2 x3 x4 x5
            ∗ outs c arg8 arg9 arg10 arg11 arg12 (k0_pay15 (k0_pay12 x3  (weightOf g) x2 x4) k0_pay14) (k0_pay17 (k0_pay9 x3  (weightOf g)) k0_pay16) (k0_pay2 (k0_pay10 x3  (weightOf g) x0 x4) k0_pay1) (k0_pay3 (k0_pay13 x0 x4 (k0_pay6 x4) (k0_pay7 x4) (k0_pay11 x3  (weightOf g) x2)) x5)  (weightOf g) ∗ cells c ∗ hbPt0 c hbM0_0 g ∗ (∃ W', owes (c : Thread nD τ) 0 W')) -∗ K ⟨⟩))
      ⊢ wp frame (wpE (defs₀ (F := F)) Variants.none c none) Set.univ (bodyProg i arg1 harg1 arg2 harg2 arg3 harg3 arg4 harg4 arg5 harg5 arg6 harg6 arg8 harg8 arg9 harg9 arg10 harg10 arg11 harg11 arg12 harg12) K := by
  simp only [bodyProg, cc0_bwd_up_eq_skeleton]; unfold cc0_bwd_up_skel
  simp only [k0_part4_eq_skeleton, k0_part1_eq_skeleton, k0_part2_eq_skeleton, k0_part3_eq_skeleton, k0_part5_eq_skeleton]
  unfold ins outs owns cells
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, -, H6⟩, ⟨%f7, -, H7⟩, ⟨%f8, -, H8⟩, ⟨%f9, -, H9⟩, ⟨%fs0, -, HS0⟩⟩, ⟨Hq0, Hq1, Hq2, Hq3, Hq4, Hq5, Hq6, Hq7⟩, Hh0, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0 | sl_exact hc2)
  sl_step
  iapply Hk
  isplitl [H0 H1 H2 H3 H4 H5]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    iexists _; isplitr; swap; · iexact H5
    ipureintro; exact hf5
  isplitl [H6 H7 H8 H9 HS0]
  · isplitl [H6]
    · iexists _; isplitr; swap; · iexact H6
      ipureintro; refine stored_whole _ _ _ _ _ _ ?_; sl_unfold_words; simp only [load_whole, load_stored]
      refine congrArg (fun w => k0_pay15 (k0_pay12 x3 w x2 x4) k0_pay14) ?_; exact load_slabs ..
    isplitl [H7]
    · iexists _; isplitr; swap; · iexact H7
      ipureintro; refine stored_whole _ _ _ _ _ _ ?_; sl_unfold_words; simp only [load_whole, load_stored]
      refine congrArg (fun w => k0_pay17 (k0_pay9 x3 w) k0_pay16) ?_; exact load_slabs ..
    isplitl [H8]
    · iexists _; isplitr; swap; · iexact H8
      ipureintro; refine stored_whole _ _ _ _ _ _ ?_; sl_unfold_words; simp only [load_whole, load_stored]
      refine congrArg (fun w => k0_pay2 (k0_pay10 x3 w x0 x4) k0_pay1) ?_; exact load_slabs ..
    isplitl [H9]
    · iexists _; isplitr; swap; · iexact H9
      ipureintro; refine stored_whole _ _ _ _ _ _ ?_; sl_unfold_words; simp only [load_whole, load_stored]
      refine congrArg (fun w => k0_pay3 (k0_pay13 x0 x4 (k0_pay6 x4) (k0_pay7 x4) (k0_pay11 x3 w x2)) x5) ?_; exact load_slabs ..
    iexists _; isplitr; swap; · iexact HS0
    ipureintro; sl_unfold_words; exact read_slabs ..
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexists _; iexact HW
end Body
end Cert.KernelIdeal.Run

end
-- ==== Proof.BwdUpFrame.lean ====
module

public import proofs.«01_k».proof.Proof.BwdUpRun
public import proofs.«01_k».proof.Proof.Gen.KernelIdeal.Points
public import proofs.«01_k».proof.Proof.Gen.KernelIdeal.Launch

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's own operands, as the launch knows them -/

/-- The weight scratch, whole. -/
abbrev scM : Memref sig .tc .vmem S5632x1024 .bf16 := Memref.whole cc0_scratch0
/-- The transfer cells of the body. -/
abbrev ownCells : Fin 8 → SemLoc sig := fun j => (![SemLoc.dma 18, SemLoc.dma 19, SemLoc.dma 20, SemLoc.dma 21, SemLoc.dma 22, SemLoc.dma 23, SemLoc.dma 24, SemLoc.dma 25] : Fin 8 → SemLoc sig) j
theorem ownCells_facts : Pipeline.OwnSemFacts spec0 ownCells := by decide
/-- The array the body copies from. -/
def moved : Finset (Ref sig .tc) := {main_v4}
theorem moved_sub : moved ⊆ Pipeline.restRefs sig spec0 := by decide

/-- What the launch hands the body besides the windows: the scratch at anything, the generator register, the cells at zero
    and the gathered weights. -/
theorem handed_eq (c : Dev nD) :
    (Pipeline.ΦD ownCells spec0 moved (V m) c : sProp 𝕄)
      = iprop((∃ d, owns (c : Thread nD τ) scM fullShare d) ∗ (∃ r, prngReg c r) ∗ cells c ∗ hbPt0 c hbM0_0 (V m c main_v4)) := by
  rw [Pipeline.ΦD_eq, scopedRest0_eq, Pipeline.ownSems0_eq_of_list c ownCells [0, 1, 2, 3, 4, 5, 6, 7] (by decide) (by decide),
    BI.bigSep_eq_bigSepL_of_eq [main_v4] (by decide) (by decide)]
  simp only [scM, owns_whole]; rfl

/-! ## The schedule in closed form -/

theorem first_iff : ∀ t : Fin grid0.N, condFirst (grid0.coords t) ↔ t.val = 0 := by decide +kernel
theorem stream_iff : ∀ t : Fin grid0.N, condStream (grid0.coords t) ↔ t.val % 32 = 0 := by decide +kernel
theorem flush_7 : ∀ t : Fin grid0.N, win0_7.flush t = true ↔ 31 ≤ t.val := by decide +kernel
theorem flush_8 : ∀ t : Fin grid0.N, win0_8.flush t = true ↔ 31 ≤ t.val := by decide +kernel

/-! ## What the buffers hold after each point -/

/-- The weight: the gathered weights' first 704 rows of each slab. -/
abbrev Wt (c : Dev nD) : Vec F S5632x1024 .bf16 := weightOf (c := c) (V m c main_v4)
/-- The point's own parts of the three sums, and its rows of the gradient. -/
def gainPart (c : Dev nD) (t : Fin cfg0.N) : Vec F S1024 .f32 := k0_pay12 (iblk m c 3 t) (Wt m c) (iblk m c 2 t) (iblk m c 4 t)
def shiftPart (c : Dev nD) (t : Fin cfg0.N) : Vec F S1x1024 .f32 := k0_pay9 (iblk m c 3 t) (Wt m c)
def scalePart (c : Dev nD) (t : Fin cfg0.N) : Vec F S1x1024 .f32 := k0_pay10 (iblk m c 3 t) (Wt m c) (iblk m c 0 t) (iblk m c 4 t)
def dxBlock (c : Dev nD) (t : Fin cfg0.N) : Vec F S256x1024 .f32 :=
  k0_pay3 (k0_pay13 (iblk m c 0 t) (iblk m c 4 t) (k0_pay6 (iblk m c 4 t)) (k0_pay7 (iblk m c 4 t)) (k0_pay11 (iblk m c 3 t) (Wt m c) (iblk m c 2 t))) (iblk m c 5 t)

/-- The gain's gradient after point `n`: the sum of the parts so far. -/
def gainAt (c : Dev nD) : (n : ℕ) → n < cfg0.N → Vec F S1x1024 .f32
  | 0, h => k0_pay15 (gainPart m c ⟨0, h⟩) k0_pay14
  | n + 1, h => k0_pay15 (gainPart m c ⟨n + 1, h⟩) (gainAt c n (Nat.lt_of_succ_lt h))
/-- The shift's gradient after point `n`: the sum of the parts of the point's stream so far. -/
def shiftAt (c : Dev nD) : (n : ℕ) → n < cfg0.N → Vec F S1x1x1024 .f32
  | 0, h => k0_pay17 (shiftPart m c ⟨0, h⟩) k0_pay16
  | n + 1, h => k0_pay17 (shiftPart m c ⟨n + 1, h⟩) (if (n + 1) % 32 = 0 then k0_pay16 else shiftAt c n (Nat.lt_of_succ_lt h))
/-- The scale's gradient after point `n`, likewise. -/
def scaleAt (c : Dev nD) : (n : ℕ) → n < cfg0.N → Vec F S1x1x1024 .f32
  | 0, h => k0_pay2 (scalePart m c ⟨0, h⟩) k0_pay1
  | n + 1, h => k0_pay2 (scalePart m c ⟨n + 1, h⟩) (if (n + 1) % 32 = 0 then k0_pay1 else scaleAt c n (Nat.lt_of_succ_lt h))

/-- The body's state before point `n`: as handed at first, afterwards the scratch at the weight. -/
def stateAt (c : Dev nD) : ℕ → sProp 𝕄
  | 0 => Pipeline.ΦD ownCells spec0 moved (V m) c
  | _ + 1 => iprop(owns (c : Thread nD τ) scM fullShare (Wt m c) ∗ (∃ r, prngReg c r) ∗ cells c ∗ hbPt0 c hbM0_0 (V m c main_v4))

/-- The proof data: the arrays as the region finds them, the inputs' buffers at their blocks, the outputs' at the sums. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => gainAt m c t.val t.isLt
    | ⟨7, _⟩ => shiftAt m c t.val t.isLt
    | ⟨8, _⟩ => scaleAt m c t.val t.isLt
    | ⟨9, _⟩ => dxBlock m c t
  Φ t := stateAt m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = gainAt m c t.val t.isLt := rfl
theorem after_7 (c : Dev nD) (t : Fin cfg0.N) : (dats m 0 c).after 7 t = shiftAt m c t.val t.isLt := rfl
theorem after_8 (c : Dev nD) (t : Fin cfg0.N) : (dats m 0 c).after 8 t = scaleAt m c t.val t.isLt := rfl
theorem after_9 (c : Dev nD) (t : Fin cfg0.N) : (dats m 0 c).after 9 t = dxBlock m c t := rfl

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl

/-- A sum's buffer holds what the point before left, inside its run of points. -/
theorem before_6 (c : Dev nD) (t : Fin cfg0.N) (h : t.val ≠ 0) (d) :
    (dats m 0 c).before 6 t d = gainAt m c (t.val - 1) (Nat.lt_of_le_of_lt (Nat.sub_le _ _) t.isLt) := by
  have hN : t.val < 33 := lt_of_lt_of_eq t.isLt (show cfg0.N = 33 from N_0)
  rw [Dat.before_out_kept _ 6 rfl t h (Bool.eq_false_iff.mpr fun e => by have := (flush0_6 _).mp e; dsimp only at this; omega) (fun _ => rfl) (fun _ _ => rfl)]
  dsimp only [dats]
theorem before_7 (c : Dev nD) (t : Fin cfg0.N) (h : t.val % 32 ≠ 0) (d) :
    (dats m 0 c).before 7 t d = shiftAt m c (t.val - 1) (Nat.lt_of_le_of_lt (Nat.sub_le _ _) t.isLt) := by
  have hN : t.val < 33 := lt_of_lt_of_eq t.isLt (show cfg0.N = 33 from N_0)
  rw [Dat.before_out_kept _ 7 rfl t (by omega) (Bool.eq_false_iff.mpr fun e => by have := (flush_7 _).mp e; dsimp only at this; omega) (fun _ => rfl) (fun _ _ => rfl)]
  dsimp only [dats]
theorem before_8 (c : Dev nD) (t : Fin cfg0.N) (h : t.val % 32 ≠ 0) (d) :
    (dats m 0 c).before 8 t d = scaleAt m c (t.val - 1) (Nat.lt_of_le_of_lt (Nat.sub_le _ _) t.isLt) := by
  have hN : t.val < 33 := lt_of_lt_of_eq t.isLt (show cfg0.N = 33 from N_0)
  rw [Dat.before_out_kept _ 8 rfl t (by omega) (Bool.eq_false_iff.mpr fun e => by have := (flush_8 _).mp e; dsimp only at this; omega) (fun _ => rfl) (fun _ _ => rfl)]
  dsimp only [dats]

/-! ## The body at a generic point -/

abbrev mr0 (t : Fin cfg0.N) : Memref sig .tc .vmem S1x1024 .f32 := win0_0.stage (cfg0.slots t 0)
abbrev hr0 (t : Fin cfg0.N) : (mr0 t).IsWhole := hstage0_0 ((cfg0.slots t 0).cast nbuf0_0)
abbrev mr1 (t : Fin cfg0.N) : Memref sig .tc .vmem S1x1x1024 .f32 := win0_1.stage (cfg0.slots t 1)
abbrev hr1 (t : Fin cfg0.N) : (mr1 t).IsWhole := hstage0_1 ((cfg0.slots t 1).cast nbuf0_1)
abbrev mr2 (t : Fin cfg0.N) : Memref sig .tc .vmem S1x1x1024 .f32 := win0_2.stage (cfg0.slots t 2)
abbrev hr2 (t : Fin cfg0.N) : (mr2 t).IsWhole := hstage0_2 ((cfg0.slots t 2).cast nbuf0_2)
abbrev mr3 (t : Fin cfg0.N) : Memref sig .tc .vmem S256x5632 .bf16 := win0_3.stage (cfg0.slots t 3)
abbrev hr3 (t : Fin cfg0.N) : (mr3 t).IsWhole := hstage0_3 ((cfg0.slots t 3).cast nbuf0_3)
abbrev mr4 (t : Fin cfg0.N) : Memref sig .tc .vmem S256x1024 .f32 := win0_4.stage (cfg0.slots t 4)
abbrev hr4 (t : Fin cfg0.N) : (mr4 t).IsWhole := hstage0_4 ((cfg0.slots t 4).cast nbuf0_4)
abbrev mr5 (t : Fin cfg0.N) : Memref sig .tc .vmem S256x1024 .f32 := win0_5.stage (cfg0.slots t 5)
abbrev hr5 (t : Fin cfg0.N) : (mr5 t).IsWhole := hstage0_5 ((cfg0.slots t 5).cast nbuf0_5)
abbrev mr6 (t : Fin cfg0.N) : Memref sig .tc .vmem S1x1024 .f32 := win0_6.stage (cfg0.slots t 6)
abbrev hr6 (t : Fin cfg0.N) : (mr6 t).IsWhole := hstage0_6 ((cfg0.slots t 6).cast nbuf0_6)
abbrev mr7 (t : Fin cfg0.N) : Memref sig .tc .vmem S1x1x1024 .f32 := win0_7.stage (cfg0.slots t 7)
abbrev hr7 (t : Fin cfg0.N) : (mr7 t).IsWhole := hstage0_7 ((cfg0.slots t 7).cast nbuf0_7)
abbrev mr8 (t : Fin cfg0.N) : Memref sig .tc .vmem S1x1x1024 .f32 := win0_8.stage (cfg0.slots t 8)
abbrev hr8 (t : Fin cfg0.N) : (mr8 t).IsWhole := hstage0_8 ((cfg0.slots t 8).cast nbuf0_8)
abbrev mr9 (t : Fin cfg0.N) : Memref sig .tc .vmem S256x1024 .f32 := win0_9.stage (cfg0.slots t 9)
abbrev hr9 (t : Fin cfg0.N) : (mr9 t).IsWhole := hstage0_9 ((cfg0.slots t 9).cast nbuf0_9)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d))
    ∗ (∃ d, owns (c : Thread nD τ) (mr7 t) fullShare ((dats m 0 c).before 7 t d))
    ∗ (∃ d, owns (c : Thread nD τ) (mr8 t) fullShare ((dats m 0 c).before 8 t d))
    ∗ (∃ d, owns (c : Thread nD τ) (mr9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t)
    ∗ owns (c : Thread nD τ) (mr5 t) fullShare ((dats m 0 c).after 5 t)
    ∗ owns (c : Thread nD τ) (mr6 t) fullShare ((dats m 0 c).after 6 t)
    ∗ owns (c : Thread nD τ) (mr7 t) fullShare ((dats m 0 c).after 7 t)
    ∗ owns (c : Thread nD τ) (mr8 t) fullShare ((dats m 0 c).after 8 t)
    ∗ owns (c : Thread nD τ) (mr9 t) fullShare ((dats m 0 c).after 9 t))

set_option maxHeartbeats 2400000 in
/-- The body at any point, by the three kinds of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5, after_6, after_7, after_8, after_9]
  rw [show (dats m 0 c).Φ t.castSucc = stateAt m c t.val from rfl, show (dats m 0 c).Φ t.succ = stateAt m c (t.val + 1) from rfl]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  rcases Nat.eq_zero_or_pos t.val with h0 | hpos
  · have e6 : gainAt m c t.val t.isLt = k0_pay15 (gainPart m c t) k0_pay14 := by obtain ⟨n, hn⟩ := t; dsimp only at h0; subst h0; rfl
    have e7 : shiftAt m c t.val t.isLt = k0_pay17 (shiftPart m c t) k0_pay16 := by obtain ⟨n, hn⟩ := t; dsimp only at h0; subst h0; rfl
    have e8 : scaleAt m c t.val t.isLt = k0_pay2 (scalePart m c t) k0_pay1 := by obtain ⟨n, hn⟩ := t; dsimp only at h0; subst h0; rfl
    rw [e6, e7, e8, h0, show stateAt m c 0 = Pipeline.ΦD ownCells spec0 moved (V m) c from rfl, handed_eq,
      show stateAt m c (0 + 1) = iprop(owns (c : Thread nD τ) scM fullShare (Wt m c) ∗ (∃ r, prngReg c r) ∗ cells c ∗ hbPt0 c hbM0_0 (V m c main_v4)) from rfl]
    unfold gainPart shiftPart scalePart dxBlock
    iintro ⟨⟨⟨%ds, HS⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) (mr0 t) (hr0 t) (mr1 t) (hr1 t) (mr2 t) (hr2 t) (mr3 t) (hr3 t) (mr4 t) (hr4 t) (mr5 t) (hr5 t) (mr6 t) (hr6 t) (mr7 t) (hr7 t) (mr8 t) (hr8 t) (mr9 t) (hr9 t) scM (Memref.isWhole_whole _)
      (iblk m c 0 t) (iblk m c 1 t) (iblk m c 2 t) (iblk m c 3 t) (iblk m c 4 t) (iblk m c 5 t) ((first_iff t).mpr h0) ((stream_iff t).mpr (by omega)) _ _ _ _ _ (V m c main_v4) W _)
    unfold ins outs
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8 H9 HS]
    · isplitl [H6]; · iexact H6
      isplitl [H7]; · iexact H7
      isplitl [H8]; · iexact H8
      isplitl [H9]; · iexact H9
      iexact HS
    isplitl [Hq]; · iexact Hq
    isplitl [Hh]; · iexact Hh
    isplitl [HW]; · iexact HW
    iintro ⟨⟨H0, H1, H2, H3, H4, H5⟩, ⟨H6, H7, H8, H9, HS⟩, Hq, Hh, ⟨%W2, HW⟩⟩
    isplitl [HS Hg Hq Hh]
    · isplitl [HS]; · iexact HS
      isplitl [Hg]; · iexact Hg
      isplitl [Hq]; · iexact Hq
      iexact Hh
    isplitl [HW]
    · iexists _; isplitr; swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  obtain ⟨n, hn⟩ : ∃ n, t.val = n + 1 := ⟨t.val - 1, by omega⟩
  have eS : stateAt m c t.val = iprop(owns (c : Thread nD τ) scM fullShare (Wt m c) ∗ (∃ r, prngReg c r) ∗ cells c ∗ hbPt0 c hbM0_0 (V m c main_v4)) := by rw [hn]; rfl
  have eS' : stateAt m c (t.val + 1) = iprop(owns (c : Thread nD τ) scM fullShare (Wt m c) ∗ (∃ r, prngReg c r) ∗ cells c ∗ hbPt0 c hbM0_0 (V m c main_v4)) := rfl
  have e6 : gainAt m c t.val t.isLt = k0_pay15 (gainPart m c t) (gainAt m c (t.val - 1) (Nat.lt_of_le_of_lt (Nat.sub_le _ _) t.isLt)) := by
    obtain ⟨k, hk⟩ := t; dsimp only at hn; subst hn; rfl
  simp only [before_6 m c t (by omega)]
  by_cases h32 : t.val % 32 = 0
  · have e7 : shiftAt m c t.val t.isLt = k0_pay17 (shiftPart m c t) k0_pay16 := by obtain ⟨k, hk⟩ := t; dsimp only at hn; subst hn; exact congrArg _ (if_pos h32)
    have e8 : scaleAt m c t.val t.isLt = k0_pay2 (scalePart m c t) k0_pay1 := by obtain ⟨k, hk⟩ := t; dsimp only at hn; subst hn; exact congrArg _ (if_pos h32)
    rw [eS, eS', e6, e7, e8]
    unfold gainPart shiftPart scalePart dxBlock
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_stream c (grid0.coords t) (mr0 t) (hr0 t) (mr1 t) (hr1 t) (mr2 t) (hr2 t) (mr3 t) (hr3 t) (mr4 t) (hr4 t) (mr5 t) (hr5 t) (mr6 t) (hr6 t) (mr7 t) (hr7 t) (mr8 t) (hr8 t) (mr9 t) (hr9 t) scM (Memref.isWhole_whole _)
      (iblk m c 0 t) (iblk m c 1 t) (iblk m c 2 t) (iblk m c 3 t) (iblk m c 4 t) (iblk m c 5 t) (fun h => by have := (first_iff t).mp h; omega) ((stream_iff t).mpr h32) _ _ _ _ _ W _)
    unfold ins outs
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8 H9 HS]
    · isplitl [H6]; · iexact H6
      isplitl [H7]; · iexact H7
      isplitl [H8]; · iexact H8
      isplitl [H9]; · iexact H9
      iexact HS
    isplitl [HW]; · iexact HW
    iintro ⟨⟨H0, H1, H2, H3, H4, H5⟩, ⟨H6, H7, H8, H9, HS⟩, HW⟩
    isplitl [HS Hg Hq Hh]
    · isplitl [HS]; · iexact HS
      isplitl [Hg]; · iexact Hg
      isplitl [Hq]; · iexact Hq
      iexact Hh
    isplitl [HW]
    · iexists _; isplitr; swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have e7 : shiftAt m c t.val t.isLt = k0_pay17 (shiftPart m c t) (shiftAt m c (t.val - 1) (Nat.lt_of_le_of_lt (Nat.sub_le _ _) t.isLt)) := by
      obtain ⟨k, hk⟩ := t; dsimp only at hn; subst hn; exact congrArg _ (if_neg h32)
    have e8 : scaleAt m c t.val t.isLt = k0_pay2 (scalePart m c t) (scaleAt m c (t.val - 1) (Nat.lt_of_le_of_lt (Nat.sub_le _ _) t.isLt)) := by
      obtain ⟨k, hk⟩ := t; dsimp only at hn; subst hn; exact congrArg _ (if_neg h32)
    simp only [before_7 m c t h32, before_8 m c t h32]
    rw [eS, eS', e6, e7, e8]
    unfold gainPart shiftPart scalePart dxBlock
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_inner c (grid0.coords t) (mr0 t) (hr0 t) (mr1 t) (hr1 t) (mr2 t) (hr2 t) (mr3 t) (hr3 t) (mr4 t) (hr4 t) (mr5 t) (hr5 t) (mr6 t) (hr6 t) (mr7 t) (hr7 t) (mr8 t) (hr8 t) (mr9 t) (hr9 t) scM (Memref.isWhole_whole _)
      (iblk m c 0 t) (iblk m c 1 t) (iblk m c 2 t) (iblk m c 3 t) (iblk m c 4 t) (iblk m c 5 t) (fun h => by have := (first_iff t).mp h; omega) (fun h => h32 ((stream_iff t).mp h)) _ _ _ _ _ W _)
    unfold ins outs
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 H8 H9 HS]
    · isplitl [H6]; · iexact H6
      isplitl [H7]; · iexact H7
      isplitl [H8]; · iexact H8
      isplitl [H9]; · iexact H9
      iexact HS
    isplitl [HW]; · iexact HW
    iintro ⟨⟨H0, H1, H2, H3, H4, H5⟩, ⟨H6, H7, H8, H9, HS⟩, HW⟩
    isplitl [HS Hg Hq Hh]
    · isplitl [HS]; · iexact HS
      isplitl [Hg]; · iexact Hg
      isplitl [Hq]; · iexact Hq
      iexact Hh
    isplitl [HW]
    · iexists _; isplitr; swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The body's state after the last point is what the launch takes back. -/
theorem state_out (c : Dev nD) : (dats m 0 c).Φ (Fin.last cfg0.N) ⊢ Pipeline.ΦD ownCells spec0 moved (V m) c := by
  rw [show (dats m 0 c).Φ (Fin.last cfg0.N) = iprop(owns (c : Thread nD τ) scM fullShare (Wt m c) ∗ (∃ r, prngReg c r) ∗ cells c ∗ hbPt0 c hbM0_0 (V m c main_v4)) from rfl, handed_eq]
  iintro ⟨HS, Hr⟩
  isplitl [HS]
  · iexists _; iexact HS
  iexact Hr

set_option maxHeartbeats 800000 in
/-- The host operations, then the region. -/
theorem host_then_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every array of the pipeline ends at what the proof data say, every other array as the region found it, and
    every counter at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownCells defs₀ Variants.none ownCells_facts moved moved_sub m ρ main
    (hbody := fun c => (body_obligation m c).loose) (hshare := fun c => (dats m 0 c).share_full fun _ => rfl)
    (howed := fun _ _ => rfl) (V := V m) (hmain := host_then_region m Variants.none) (hA := A_eq m) (hin := fun _ => .rfl) (hout := state_out m)

/-- The arguments end unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨((h.1 c).1 3).trans (((dats m 0 c).arrAt_in 3 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 4).trans (((dats m 0 c).arrAt_in 4 rfl _).trans (V_main_arg3 m c)),
      ((h.1 c).1 0).trans (((dats m 0 c).arrAt_in 0 rfl _).trans (V_main_arg4 m c)),
      ((h.1 c).1 1).trans (((dats m 0 c).arrAt_in 1 rfl _).trans (V_main_arg5 m c)),
      ((h.1 c).1 2).trans (((dats m 0 c).arrAt_in 2 rfl _).trans (V_main_arg6 m c)),
      ((h.1 c).1 5).trans (((dats m 0 c).arrAt_in 5 rfl _).trans (V_main_arg7 m c))⟩, h.2⟩) (run_all m ρ)

end Cert.KernelIdeal.Run

end
-- ==== Proof.BwdUpBits.lean ====
module

public import proofs.«01_k».proof.Proof.BwdUpFrame
public import proofs.«01_k».proof.Proof.Gen.Kernel.Skeleton
public import proofs.«01_k».proof.Defs

@[expose] public section

set_option maxRecDepth 16384

noncomputable section

/-! The printed program and the idealized one are one text, so the run of the latter at the bit instance is a run of the
    former. -/

namespace Cert.Kernel.Run

open Idealize.ShloMosaic Idealize.SL.Sem

theorem rows_same : (Cert.Kernel.defs₀ (F := Bits)) = (Cert.KernelIdeal.defs₀ (F := Bits)) := by
  unfold Cert.Kernel.defs₀ Cert.KernelIdeal.defs₀
  refine congrArg Defs.onTc ?_
  funext l a
  match l, a with
  | 0, (t, s) => rfl

theorem defs_same : (Cert.Kernel.defs (F := Bits)) = (Cert.KernelIdeal.defs (F := Bits)) := by
  unfold Cert.Kernel.defs Cert.KernelIdeal.defs
  exact congrArg (Pipeline.defs _) rows_same

set_option maxHeartbeats 4000000 in
/-- The printed program runs, leaves its arguments and ends quiescent. -/
theorem quiescent [Cert.Kernel.Facts] : Cert.quiescent_Kernel := fun m g _ => by
  rw [defs_same]
  exact Cert.KernelIdeal.Run.frame_all m g

end Cert.Kernel.Run

end
-- ==== Proof.BwdUpSpec.lean ====
module

public import Idealize.ShloMosaic.PureOps.Ideal
public import Idealize.ShloMosaic.Lib.Pointwise

@[expose] public section

noncomputable section

/-! The gradient of "normalize a row to unit mean square, times a gain, modulate, project": what one row contributes to each
    result, over the extended reals. -/

namespace Cert.BwdUp

open Idealize.ShloMosaic

/-- The mean square of a row, and the small constant. -/
def meanSq (x : Fin 1024 → EReal) : EReal :=
  Ideal.div (∑ k, x k * x k) (Ideal.ofBits FTy.f32 1149239296#32) + Ideal.ofBits FTy.f32 897988541#32
/-- A row's part of the gain's gradient. -/
def gainTerm (x dh sc : Fin 1024 → EReal) (d : Fin 1024) : EReal := x d * Ideal.rsqrt (meanSq x) * (dh d * (1 + sc d))
/-- A row's part of the scale's gradient. -/
def scaleTerm (x dh g : Fin 1024 → EReal) (d : Fin 1024) : EReal := x d * Ideal.rsqrt (meanSq x) * g d * dh d
/-- The common factor of a row in its mean square's gradient. -/
def pull (x dh sc g : Fin 1024 → EReal) : EReal :=
  Ideal.div ((∑ k, x k * (dh k * (1 + sc k) * g k)) * (Ideal.ofBits FTy.f32 3204448256#32 * Ideal.div (Ideal.rsqrt (meanSq x)) (meanSq x)))
    (Ideal.ofBits FTy.f32 1149239296#32)
/-- The gradient of a row. -/
def rowTerm (x dh sc g : Fin 1024 → EReal) (d : Fin 1024) : EReal :=
  dh d * (1 + sc d) * g d * Ideal.rsqrt (meanSq x) + x d * pull x dh sc g + pull x dh sc g * x d

/-- A function of the 8448 rows, as a function of natural numbers. -/
def onNat (f : Fin 8448 → EReal) (n : ℕ) : EReal := if h : n < 8448 then f ⟨n, h⟩ else 0

theorem onNat_of (f : Fin 8448 → EReal) (n : ℕ) (h : n < 8448) : onNat f n = f ⟨n, h⟩ := dif_pos h

/-- Blocks of 256 rows, summed one after the other, are all the rows. -/
theorem sum_blocks (f : ℕ → EReal) (n : ℕ) :
    ∑ s ∈ Finset.range n, ∑ r : Fin 256, f (256 * s + r.val) = ∑ r ∈ Finset.range (256 * n), f r := by
  induction n with
  | zero => simp
  | succ n ih => rw [Finset.sum_range_succ, ih, Nat.mul_succ, Finset.sum_range_add, Finset.sum_range (fun r => f (256 * n + r))]

/-- The rows of the first stream and of the second. -/
theorem sum_first (f : Fin 8448 → EReal) : ∑ r ∈ Finset.range 8192, onNat f r = ∑ r : Fin 8192, f ⟨r.val, lt_trans r.isLt (by decide)⟩ := by
  rw [Finset.sum_range]
  exact Finset.sum_congr rfl fun r _ => onNat_of f _ _
theorem sum_second (f : Fin 8448 → EReal) :
    ∑ r : Fin 256, onNat f (8192 + r.val) = ∑ r : Fin 256, f ⟨8192 + r.val, by omega⟩ :=
  Finset.sum_congr rfl fun r _ => onNat_of f _ _
/-- All rows, block by block, are the second stream's and the first's. -/
theorem sum_all (f : Fin 8448 → EReal) :
    ∑ s ∈ Finset.range 33, ∑ r : Fin 256, onNat f (256 * s + r.val)
      = ∑ r : Fin 256, f ⟨8192 + r.val, by omega⟩ + ∑ r : Fin 8192, f ⟨r.val, lt_trans r.isLt (by decide)⟩ := by
  rw [Finset.sum_range_succ, sum_blocks, add_comm]
  exact congrArg₂ (· + ·) (sum_second f) (sum_first f)

end Cert.BwdUp

end
-- ==== Proof.BwdUpValue.lean ====
module

public import proofs.«01_k».proof.Proof.BwdUpFrame
public import proofs.«01_k».proof.Proof.BwdUpSpec
public import Idealize.ShloMosaic.Lib.Pipeline.Value
public import Idealize.ShloMosaic.Lib.Claim
public import Idealize.ShloMosaic.Lib.Pipeline.ValueKit.Point

@[expose] public section

set_option maxRecDepth 16384

noncomputable section

/-! What the four results of the kernel hold, at the extended reals. -/

namespace Cert.KernelIdeal.Run

open Idealize.ShloMosaic Idealize.ShloMosaic.TcCoe Idealize.ShloMosaic.Tactic Idealize.SL.Sem
open Idealize.ShloMosaic.Pipeline (Dat)
open Cert.KernelIdeal.Gen Cert.BwdUp

/-! ## The payloads, entry by entry -/

section Payloads

variable (a : Vec Ideal S256x5632 .bf16) (w : Vec Ideal S5632x1024 .bf16) (g : Vec Ideal S1x1024 .f32) (sc : Vec Ideal S1x1x1024 .f32)
  (x dxin : Vec Ideal S256x1024 .f32)

/-- A row of the product. -/
abbrev dhOf (r : Fin 256) : Fin 1024 → EReal := fun k => ∑ q, a (ix2 r q) * w (ix2 q k)

theorem dh_apply (r : Fin 256) (k : Fin 1024) : k0_pay4 a w (ix2 r k) = dhOf a w r k := by
  unfold k0_pay4; pointwise
theorem meanSq_apply (r : Fin 256) (u : Fin 1) : k0_pay5 x (ix2 r u) = meanSq fun k => x (ix2 r k) := by
  unfold k0_pay5 meanSq; pointwise
theorem gain_apply (d : Fin 1024) : k0_pay12 a w sc x (ix1 d) = ∑ r, gainTerm (fun k => x (ix2 r k)) (dhOf a w r) (fun k => sc (ix3 0 0 k)) d := by
  unfold k0_pay12 k0_pay11 k0_pay8 k0_pay6 gainTerm
  pointwise
  refine Finset.sum_congr rfl fun r _ => ?_
  rw [meanSq_apply, dh_apply]
theorem shift_apply (u : Fin 1) (d : Fin 1024) : k0_pay9 a w (ix2 u d) = ∑ r, dhOf a w r d := by
  unfold k0_pay9
  pointwise
  exact Finset.sum_congr rfl fun r _ => dh_apply a w r d
theorem scale_apply (u : Fin 1) (d : Fin 1024) :
    k0_pay10 a w g x (ix2 u d) = ∑ r, scaleTerm (fun k => x (ix2 r k)) (dhOf a w r) (fun k => g (ix2 0 k)) d := by
  unfold k0_pay10 k0_pay8 k0_pay6 scaleTerm
  pointwise
  refine Finset.sum_congr rfl fun r _ => ?_
  rw [meanSq_apply, dh_apply]
theorem dx_apply (r : Fin 256) (d : Fin 1024) :
    k0_pay3 (k0_pay13 g x (k0_pay6 x) (k0_pay7 x) (k0_pay11 a w sc)) dxin (ix2 r d)
      = dxin (ix2 r d) + rowTerm (fun k => x (ix2 r k)) (dhOf a w r) (fun k => sc (ix3 0 0 k)) (fun k => g (ix2 0 k)) d := by
  unfold k0_pay3 k0_pay13 k0_pay7 k0_pay6 k0_pay11 rowTerm pull
  pointwise
  simp only [meanSq_apply, dh_apply, Finset.univ_unique, Finset.sum_singleton]

end Payloads

variable (m : (ℓ : Loc nD τ sig) → Buf (Elt Ideal) ℓ) (ρ : Dev nD → PrngReg)

/-! ## The rows of the arrays -/

/-- The arguments. -/
abbrev argDp (c : Dev nD) : S8448x5632.Idx → EReal := m ((c.tc : Thread nD τ).loc main_arg0)
abbrev argW (c : Dev nD) : S1024x5632.Idx → EReal := m ((c.tc : Thread nD τ).loc main_arg1)
abbrev argX (c : Dev nD) : S8448x1024.Idx → EReal := m ((c.tc : Thread nD τ).loc main_arg3)
abbrev argG (c : Dev nD) : S1x1024.Idx → EReal := m ((c.tc : Thread nD τ).loc main_arg4)
abbrev argSc (c : Dev nD) : S2x1x1024.Idx → EReal := m ((c.tc : Thread nD τ).loc main_arg6)
abbrev argDx (c : Dev nD) : S8448x1024.Idx → EReal := m ((c.tc : Thread nD τ).loc main_arg7)
/-- A row of `x`. -/
def xRow (c : Dev nD) (r : Fin 8448) : Fin 1024 → EReal := fun k => argX m c (ix2 r k)
/-- A row of the product of `dp` and the transposed weight. -/
def dhRow (c : Dev nD) (r : Fin 8448) : Fin 1024 → EReal := fun k =>
  ∑ q, argDp m c (ix2 r q) * argW m c (ix2 k q)
/-- The gain, and the scale of a row's stream. -/
def gRow (c : Dev nD) : Fin 1024 → EReal := fun k => argG m c (ix2 0 k)
def scRow (c : Dev nD) (r : Fin 8448) : Fin 1024 → EReal := fun k =>
  argSc m c (ix3 (⟨r.val / 8192, by omega⟩ : Fin 2) 0 k)

/-- The contributions of a row. -/
def gainOf (c : Dev nD) (d : Fin 1024) (r : Fin 8448) : EReal := gainTerm (xRow m c r) (dhRow m c r) (scRow m c r) d
def shiftOf (c : Dev nD) (d : Fin 1024) (r : Fin 8448) : EReal := dhRow m c r d
def scaleOf (c : Dev nD) (d : Fin 1024) (r : Fin 8448) : EReal := scaleTerm (xRow m c r) (dhRow m c r) (gRow m c) d
def dxOf (c : Dev nD) (r : Fin 8448) (d : Fin 1024) : EReal :=
  argDx m c (ix2 r d) + rowTerm (xRow m c r) (dhRow m c r) (scRow m c r) (gRow m c) d

/-! ## The blocks -/

theorem at_0 : ∀ t : Fin cfg0.N, win0_0.index t = ![0, 0] := by decide +kernel
theorem at_2 : ∀ t : Fin cfg0.N, win0_2.index t = ![t.val / 32, 0, 0] := by decide +kernel
theorem at_3 : ∀ t : Fin cfg0.N, win0_3.index t = ![t.val, 0] := by decide +kernel
theorem at_4 : ∀ t : Fin cfg0.N, win0_4.index t = ![t.val, 0] := by decide +kernel
theorem at_5 : ∀ t : Fin cfg0.N, win0_5.index t = ![t.val, 0] := by decide +kernel

theorem lt_33 (t : Fin cfg0.N) : t.val < 33 := lt_of_lt_of_eq t.isLt (show cfg0.N = 33 from N_0)

/-- The row of the array at a row of a block. -/
def rowAt (t : Fin cfg0.N) (r : Fin 256) : Fin 8448 := ⟨256 * t.val + r.val, by have := lt_33 t; omega⟩

theorem blk_dp (c : Dev nD) (t : Fin cfg0.N) (r : Fin 256) (q : Fin 5632) :
    (iblk m c 3 t : Vec Ideal S256x5632 .bf16) (ix2 r q) = argDp m c (ix2 (rowAt t r) q) := by
  unfold rowAt
  blk_ext! [iblk, V, at_3 t]
theorem blk_x (c : Dev nD) (t : Fin cfg0.N) (r : Fin 256) (k : Fin 1024) :
    (iblk m c 4 t : Vec Ideal S256x1024 .f32) (ix2 r k) = xRow m c (rowAt t r) k := by
  unfold xRow rowAt
  blk_ext! [iblk, V, at_4 t]
theorem blk_dx (c : Dev nD) (t : Fin cfg0.N) (r : Fin 256) (k : Fin 1024) :
    (iblk m c 5 t : Vec Ideal S256x1024 .f32) (ix2 r k) = argDx m c (ix2 (rowAt t r) k) := by
  unfold rowAt
  blk_ext! [iblk, V, at_5 t]
theorem blk_g (c : Dev nD) (t : Fin cfg0.N) (k : Fin 1024) : (iblk m c 0 t : Vec Ideal S1x1024 .f32) (ix2 0 k) = gRow m c k := by
  unfold gRow
  blk_ext! [iblk, V, at_0 t]
theorem blk_sc (c : Dev nD) (t : Fin cfg0.N) (r : Fin 256) (k : Fin 1024) : (iblk m c 2 t : Vec Ideal S1x1x1024 .f32) (ix3 0 0 k) = scRow m c (rowAt t r) k := by
  unfold scRow rowAt
  blk_ext! [iblk, V, at_2 t]

/-- The weight the kernel reads is the transposed `w_up`. -/
theorem Wt_apply (c : Dev nD) (q : Fin 5632) (k : Fin 1024) :
    Wt m c (ix2 q k) = argW m c (ix2 k q) := by
  have e : Wt m c (ix2 q k) = (V m c main_v4 : Vec Ideal S8x1056x1024 .bf16) (ix3 (⟨q.val / 704, by omega⟩ : Fin 8) (⟨q.val % 704, by omega⟩ : Fin 1056) k) := by
    unfold Wt weightOf
    refine congrArg (V m c main_v4 : Vec Ideal S8x1056x1024 .bf16) (funext fun a => ?_)
    match a with
    | ⟨0, _⟩ => rfl
    | ⟨1, _⟩ => rfl
    | ⟨2, _⟩ => rfl
  rw [e]
  entry_read
  pointwise
  rw [dif_pos (Nat.mod_lt _ (by decide))]
  refine congrArg (argW m c) (congrArg (ix2 k) (Fin.ext ?_))
  show q.val / 704 * 704 + q.val % 704 = q.val
  omega

theorem dh_blk (c : Dev nD) (t : Fin cfg0.N) (r : Fin 256) : dhOf (iblk m c 3 t) (Wt m c) r = dhRow m c (rowAt t r) := by
  funext k
  exact Finset.sum_congr rfl fun q _ => congrArg₂ (· * ·) (blk_dp m c t r q) (Wt_apply m c q k)

/-! ## The sums, point by point -/

theorem gain_part (c : Dev nD) (t : Fin cfg0.N) (d : Fin 1024) : gainPart m c t (ix1 d) = ∑ r : Fin 256, onNat (gainOf m c d) (256 * t.val + r.val) := by
  refine (gain_apply _ _ _ _ d).trans (Finset.sum_congr rfl fun r _ => ?_)
  rw [show 256 * t.val + r.val = (rowAt t r).val from rfl, onNat_of _ _ (rowAt t r).isLt, dh_blk, funext fun k => blk_x m c t r k, funext fun k => blk_sc m c t r k]; rfl
theorem shift_part (c : Dev nD) (t : Fin cfg0.N) (d : Fin 1024) : shiftPart m c t (ix2 0 d) = ∑ r : Fin 256, onNat (shiftOf m c d) (256 * t.val + r.val) := by
  refine (shift_apply _ _ 0 d).trans (Finset.sum_congr rfl fun r _ => ?_)
  rw [show 256 * t.val + r.val = (rowAt t r).val from rfl, onNat_of _ _ (rowAt t r).isLt, dh_blk]; rfl
theorem scale_part (c : Dev nD) (t : Fin cfg0.N) (d : Fin 1024) : scalePart m c t (ix2 0 d) = ∑ r : Fin 256, onNat (scaleOf m c d) (256 * t.val + r.val) := by
  refine (scale_apply _ _ _ _ 0 d).trans (Finset.sum_congr rfl fun r _ => ?_)
  rw [show 256 * t.val + r.val = (rowAt t r).val from rfl, onNat_of _ _ (rowAt t r).isLt, dh_blk, funext fun k => blk_x m c t r k, funext fun k => blk_g m c t k]; rfl
theorem dx_blk (c : Dev nD) (t : Fin cfg0.N) (r : Fin 256) (d : Fin 1024) : dxBlock m c t (ix2 r d) = dxOf m c (rowAt t r) d := by
  refine (dx_apply _ _ _ _ _ _ r d).trans ?_
  rw [dh_blk, funext fun k => blk_x m c t r k, funext fun k => blk_sc m c t r k, funext fun k => blk_g m c t k, blk_dx]; rfl

theorem add_gain (p : Vec Ideal S1024 .f32) (o : Vec Ideal S1x1024 .f32) (u : Fin 1) (d : Fin 1024) : k0_pay15 p o (ix2 u d) = o (ix2 u d) + p (ix1 d) := by
  unfold k0_pay15; pointwise
theorem add_shift (p : Vec Ideal S1x1024 .f32) (o : Vec Ideal S1x1x1024 .f32) (d : Fin 1024) : k0_pay17 p o (ix3 0 0 d) = o (ix3 0 0 d) + p (ix2 0 d) := by
  unfold k0_pay17; pointwise
theorem add_scale (p : Vec Ideal S1x1024 .f32) (o : Vec Ideal S1x1x1024 .f32) (d : Fin 1024) : k0_pay2 p o (ix3 0 0 d) = o (ix3 0 0 d) + p (ix2 0 d) := by
  unfold k0_pay2; pointwise
theorem zero_gain (u : Fin 1) (d : Fin 1024) : k0_pay14 (F := Ideal) (ix2 u d) = 0 := by unfold k0_pay14; pointwise
theorem zero_shift (d : Fin 1024) : k0_pay16 (F := Ideal) (ix3 0 0 d) = 0 := by unfold k0_pay16; pointwise
theorem zero_scale (d : Fin 1024) : k0_pay1 (F := Ideal) (ix3 0 0 d) = 0 := by unfold k0_pay1; pointwise

theorem gain_at (c : Dev nD) (u : Fin 1) (d : Fin 1024) (n : ℕ) (h : n < cfg0.N) :
    gainAt m c n h (ix2 u d) = ∑ s ∈ Finset.range (n + 1), ∑ r : Fin 256, onNat (gainOf m c d) (256 * s + r.val) := by
  induction n with
  | zero => rw [gainAt, add_gain, zero_gain, gain_part, zero_add, Finset.sum_range_one]
  | succ n ih => rw [gainAt, add_gain, ih, gain_part, Finset.sum_range_succ _ (n + 1)]
theorem shift_at (c : Dev nD) (d : Fin 1024) (n : ℕ) (h : n < cfg0.N) (h32 : n < 32) :
    shiftAt m c n h (ix3 0 0 d) = ∑ s ∈ Finset.range (n + 1), ∑ r : Fin 256, onNat (shiftOf m c d) (256 * s + r.val) := by
  induction n with
  | zero => rw [shiftAt, add_shift, zero_shift, shift_part, zero_add, Finset.sum_range_one]
  | succ n ih => rw [shiftAt, if_neg (by omega), add_shift, ih _ (by omega), shift_part, Finset.sum_range_succ _ (n + 1)]
theorem scale_at (c : Dev nD) (d : Fin 1024) (n : ℕ) (h : n < cfg0.N) (h32 : n < 32) :
    scaleAt m c n h (ix3 0 0 d) = ∑ s ∈ Finset.range (n + 1), ∑ r : Fin 256, onNat (scaleOf m c d) (256 * s + r.val) := by
  induction n with
  | zero => rw [scaleAt, add_scale, zero_scale, scale_part, zero_add, Finset.sum_range_one]
  | succ n ih => rw [scaleAt, if_neg (by omega), add_scale, ih _ (by omega), scale_part, Finset.sum_range_succ _ (n + 1)]
theorem shift_last (c : Dev nD) (d : Fin 1024) (h : 32 < cfg0.N) :
    shiftAt m c 32 h (ix3 0 0 d) = ∑ r : Fin 256, onNat (shiftOf m c d) (8192 + r.val) := by
  rw [shiftAt, if_pos (by decide), add_shift, zero_shift, zero_add, shift_part]; rfl
theorem scale_last (c : Dev nD) (d : Fin 1024) (h : 32 < cfg0.N) :
    scaleAt m c 32 h (ix3 0 0 d) = ∑ r : Fin 256, onNat (scaleOf m c d) (8192 + r.val) := by
  rw [scaleAt, if_pos (by decide), add_scale, zero_scale, zero_add, scale_part]; rfl

/-! ## The results -/

/-- A sum over one stream's rows: the first's 8192, or the second's 256. -/
def overStream (f : Fin 8448 → EReal) (s : ℕ) : EReal :=
  if s = 0 then ∑ r : Fin 8192, f ⟨r.val, lt_trans r.isLt (by decide)⟩ else ∑ r : Fin 256, f ⟨8192 + r.val, by omega⟩

/-- The gain's gradient over all rows. -/
def gainSum (c : Dev nD) (d : Fin 1024) : EReal :=
  ∑ r : Fin 256, gainOf m c d ⟨8192 + r.val, by omega⟩ + ∑ r : Fin 8192, gainOf m c d ⟨r.val, lt_trans r.isLt (by decide)⟩
def dgain (c : Dev nD) : Vec Ideal S1x1024 .f32 := fun i => gainSum m c (i 1)
def dshift (c : Dev nD) : Vec Ideal S2x1x1024 .f32 := fun i => overStream (shiftOf m c (i 2)) (i 0).val
def dscale (c : Dev nD) : Vec Ideal S2x1x1024 .f32 := fun i => overStream (scaleOf m c (i 2)) (i 0).val
def dx (c : Dev nD) : Vec Ideal S8448x1024 .f32 := fun i => dxOf m c (i 0) (i 1)

theorem flush_6 (t : Fin cfg0.N) (h : (cfg0.win 6).flush t = true) : t.val = 32 := by
  have := (flush0_6 t).mp h; have := lt_33 t; omega
theorem at_7 : ∀ t : Fin cfg0.N, win0_7.index t = ![t.val / 32, 0, 0] := by decide +kernel
theorem at_8 : ∀ t : Fin cfg0.N, win0_8.index t = ![t.val / 32, 0, 0] := by decide +kernel
theorem at_9 : ∀ t : Fin cfg0.N, win0_9.index t = ![t.val, 0] := by decide +kernel
theorem at_6 : ∀ t : Fin cfg0.N, win0_6.index t = ![0, 0] := by decide +kernel

/-- Each block of `dx` is written by its own point. -/
theorem dx_final (c : Dev nD) : (dats m 0 c).arrAt 9 cfg0.N = dx m c := by
  refine (dats m 0 c).arrAt_eq_of_covers 9 _ (by decide +kernel) fun t hf y => ?_
  have key : ∀ y : S256x1024.Idx, dxBlock m c t y = dx m c ((win0_9.blk t).view.emb y) := fun y => by
    have e0 : ((win0_9.blk t).view.emb y 0 : Fin 8448).val = 256 * t.val + (y 0).val := by blk_simp [at_9 t]; show t.val * 256 + _ = _; omega
    have e1 : ((win0_9.blk t).view.emb y 1 : Fin 1024).val = (y 1).val := by blk_simp [at_9 t]
    rw [ValueIdx.eq_ix2 y] at e0 e1 ⊢
    exact (dx_blk m c t (y 0) (y 1)).trans (congrArg₂ (dxOf m c) (Fin.ext e0.symm) (Fin.ext e1.symm))
  blk_simp
  rw [after_9]
  exact key y
/-- Of a one-row array only the last coordinate matters. -/
theorem head_idx (y : S1x1x1024.Idx) : y = ix3 0 0 (y 2) := by
  funext a
  match a with
  | 0 => exact Fin.ext (by have : (y 0).val < 1 := (y 0).isLt; show (y 0).val = 0; omega)
  | 1 => exact Fin.ext (by have : (y 1).val < 1 := (y 1).isLt; show (y 1).val = 0; omega)
  | 2 => rfl
theorem head_idx' (y : S1x1x1024.Idx) (d : Fin 1024) (h : y 2 = d) : y = ix3 0 0 d := by subst h; exact head_idx y
theorem gain_idx (y : S1x1024.Idx) (d : Fin 1024) (h : y 1 = d) : y = ix2 0 d := by
  subst h
  funext a
  match a with
  | 0 => exact Fin.ext (by have : (y 0).val < 1 := (y 0).isLt; show (y 0).val = 0; omega)
  | 1 => rfl
theorem overStream_zero (f : Fin 8448 → EReal) : overStream f 0 = ∑ r : Fin 8192, f ⟨r.val, lt_trans r.isLt (by decide)⟩ := if_pos rfl
theorem overStream_one (f : Fin 8448 → EReal) : overStream f 1 = ∑ r : Fin 256, f ⟨8192 + r.val, by omega⟩ := if_neg (by decide)
theorem gain_all (c : Dev nD) (d : Fin 1024) (n : ℕ) (hn) (h : n = 32) : gainAt m c n hn (ix2 0 d) = gainSum m c d := by
  subst h
  rw [gain_at m c 0 d 32 hn]
  exact sum_all _
/-- The gain's gradient is written once, at the last point. -/
theorem dgain_final (c : Dev nD) : (dats m 0 c).arrAt 6 cfg0.N = dgain m c := by
  refine (dats m 0 c).arrAt_eq_of_covers 6 _ (by decide +kernel) fun t hf y' => ?_
  have h32 := flush_6 t hf
  have key : ∀ y : S1x1024.Idx, gainAt m c t.val t.isLt y = dgain m c ((win0_6.blk t).view.emb y) := fun y => by
    have e1 : ((win0_6.blk t).view.emb y 1 : Fin 1024) = y 1 := Fin.ext (by blk_simp [at_6 t])
    have e := gain_all m c (y 1) t.val t.isLt h32
    rw [← e1, ← gain_idx y _ e1.symm] at e
    exact e
  blk_simp
  rw [after_6]
  exact key y'
/-- The sums of a stream are written at its last point. -/
theorem shift_first (c : Dev nD) (d : Fin 1024) (hn) : shiftAt m c 31 hn (ix3 0 0 d) = overStream (shiftOf m c d) 0 := by
  rw [shift_at m c d 31 hn (by decide), sum_blocks, overStream_zero]
  exact sum_first _
theorem shift_second (c : Dev nD) (d : Fin 1024) (hn) : shiftAt m c 32 hn (ix3 0 0 d) = overStream (shiftOf m c d) 1 := by
  rw [shift_last m c d hn, overStream_one]
  exact sum_second _
theorem shift_written (c : Dev nD) (d : Fin 1024) (n : ℕ) (hn) (h : 31 ≤ n) : shiftAt m c n hn (ix3 0 0 d) = overStream (shiftOf m c d) (n / 32) := by
  have : n = 31 ∨ n = 32 := by have : n < 33 := hn; omega
  rcases this with rfl | rfl
  · exact shift_first m c d hn
  · exact shift_second m c d hn
theorem dshift_final (c : Dev nD) : (dats m 0 c).arrAt 7 cfg0.N = dshift m c := by
  refine (dats m 0 c).arrAt_eq_of_covers 7 _ (by decide +kernel) fun t hf y' => ?_
  have h31 := (flush_7 t).mp hf
  have key : ∀ y : S1x1x1024.Idx, shiftAt m c t.val t.isLt y = dshift m c ((win0_7.blk t).view.emb y) := fun y => by
    have e0 : ((win0_7.blk t).view.emb y 0 : Fin 2).val = t.val / 32 := by
      have : (y 0).val < 1 := (y 0).isLt
      blk_simp [at_7 t]
    have e2 : ((win0_7.blk t).view.emb y 2 : Fin 1024) = y 2 := Fin.ext (by blk_simp [at_7 t])
    have e := shift_written m c (y 2) t.val t.isLt h31
    rw [← e0, ← e2] at e
    rw [← head_idx' y _ e2.symm] at e
    exact e
  blk_simp
  rw [after_7]
  exact key y'
theorem scale_first (c : Dev nD) (d : Fin 1024) (hn) : scaleAt m c 31 hn (ix3 0 0 d) = overStream (scaleOf m c d) 0 := by
  rw [scale_at m c d 31 hn (by decide), sum_blocks, overStream_zero]
  exact sum_first _
theorem scale_second (c : Dev nD) (d : Fin 1024) (hn) : scaleAt m c 32 hn (ix3 0 0 d) = overStream (scaleOf m c d) 1 := by
  rw [scale_last m c d hn, overStream_one]
  exact sum_second _
theorem scale_written (c : Dev nD) (d : Fin 1024) (n : ℕ) (hn) (h : 31 ≤ n) : scaleAt m c n hn (ix3 0 0 d) = overStream (scaleOf m c d) (n / 32) := by
  have : n = 31 ∨ n = 32 := by have : n < 33 := hn; omega
  rcases this with rfl | rfl
  · exact scale_first m c d hn
  · exact scale_second m c d hn
theorem dscale_final (c : Dev nD) : (dats m 0 c).arrAt 8 cfg0.N = dscale m c := by
  refine (dats m 0 c).arrAt_eq_of_covers 8 _ (by decide +kernel) fun t hf y' => ?_
  have h31 := (flush_8 t).mp hf
  have key : ∀ y : S1x1x1024.Idx, scaleAt m c t.val t.isLt y = dscale m c ((win0_8.blk t).view.emb y) := fun y => by
    have e0 : ((win0_8.blk t).view.emb y 0 : Fin 2).val = t.val / 32 := by
      have : (y 0).val < 1 := (y 0).isLt
      blk_simp [at_8 t]
    have e2 : ((win0_8.blk t).view.emb y 2 : Fin 1024) = y 2 := Fin.ext (by blk_simp [at_8 t])
    have e := scale_written m c (y 2) t.val t.isLt h31
    rw [← e0, ← e2] at e
    rw [← head_idx' y _ e2.symm] at e
    exact e
  blk_simp
  rw [after_8]
  exact key y'
/-- The run, with the results named and the arguments unchanged. -/
theorem run_values : θ_run defs (onTc (τ := τ) (main (F := Ideal))) ⟨m, fun _ => 0, ρ⟩ (fun r => ∀ c : Dev nD,
      r.2.mem ((c.tc : Thread nD τ).loc main_v5_0) = dgain m c
      ∧ r.2.mem ((c.tc : Thread nD τ).loc main_v5_1) = dshift m c
      ∧ r.2.mem ((c.tc : Thread nD τ).loc main_v5_2) = dscale m c
      ∧ r.2.mem ((c.tc : Thread nD τ).loc main_v5_3) = dx m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1.1 c).1 6).trans (dgain_final m c), ((h.1.1 c).1 7).trans (dshift_final m c),
      ((h.1.1 c).1 8).trans (dscale_final m c), ((h.1.1 c).1 9).trans (dx_final m c), h.2.1 c⟩)
    (θ_run_and (run_all m ρ) (frame_all m ρ))

end Cert.KernelIdeal.Run

end
-- ==== Proof.BwdUpReference.lean ====
module

public import proofs.«01_k».proof.Proof.BwdUpSpec
public import proofs.«01_k».proof.Proof.Gen.ReferenceIdeal.Read

@[expose] public section

set_option maxRecDepth 16384

noncomputable section

/-! The reference's results, over the extended reals, by rows. -/

namespace Cert.ReferenceIdeal.Spec

open Cert.ReferenceIdeal Cert.ReferenceIdeal.Gen Cert.ReferenceIdeal.Read Idealize.ShloMosaic Cert.BwdUp

variable (x0 : S8448x5632.Idx → EReal) (x1 : S1024x5632.Idx → EReal) (x3 x7 : S8448x1024.Idx → EReal) (x4 : S1x1024.Idx → EReal)
  (x6 : S2x1x1024.Idx → EReal)

/-- The rows. -/
def xr (r : Fin 8448) : Fin 1024 → EReal := fun k => x3 (ix2 r k)
def dr (r : Fin 8448) : Fin 1024 → EReal := fun k => ∑ q, x0 (ix2 r q) * x1 (ix2 k q)
def gr : Fin 1024 → EReal := fun k => x4 (ix2 0 k)
def sr (s : Fin 2) : Fin 1024 → EReal := fun k => x6 (ix3 s 0 k)
/-- A row of the first stream, and of the second. -/
def fst (r : Fin 8192) : Fin 8448 := ⟨r.val, lt_trans r.isLt (by decide)⟩
def snd (r : Fin 256) : Fin 8448 := ⟨8192 + r.val, by omega⟩

theorem mean0 (r : Fin 8192) (z : Fin 1) : val_main_v9 (F := Ideal) x3 (ix2 r z) = meanSq (xr x3 (fst r)) := by
  unfold val_main_v9 val_main_v8 val_main_v7 val_main_v6 val_main_v5 val_main_v4 val_main_v3 val_main_v1 val_main_cst_1 val_main_cst_0 val_main_cst
  pointwise
  rfl
theorem mean1 (r : Fin 256) (z : Fin 1) : val_main_v35 (F := Ideal) x3 (ix2 r z) = meanSq (xr x3 (snd r)) := by
  unfold val_main_v35 val_main_v34 val_main_v33 val_main_v32 val_main_v31 val_main_v30 val_main_v29 val_main_v2 val_main_cst_6 val_main_cst_5 val_main_cst_4
  pointwise
  rfl
theorem shift (s : Fin 2) (z : Fin 1) (d : Fin 1024) : val_main_v101 (F := Ideal) x0 x1 (ix3 s z d)
    = if s.val = 0 then ∑ r, dr x0 x1 (fst r) d else ∑ r, dr x0 x1 (snd r) d := by
  unfold val_main_v101 val_main_v100 val_main_v99 val_main_v90 val_main_v89 val_main_v88 val_main_v68 val_main_v67 val_main_v59 val_main_v58 val_main_v57 val_main_v56 val_main_v55 val_main_v0 val_main_cst_20 val_main_cst_17 val_main_cst_12 val_main_cst_9
  pointwise
  split_ifs with h1 h2 h3 h4 h5 <;> first | omega | (rw [zero_add]; rfl) | (rw [add_zero]; rfl)
theorem gain (z : Fin 1) (d : Fin 1024) : val_main_v105 (F := Ideal) x0 x1 x3 x6 (ix2 z d)
    = ∑ r, gainTerm (xr x3 (snd r)) (dr x0 x1 (snd r)) (sr x6 1) d + ∑ r, gainTerm (xr x3 (fst r)) (dr x0 x1 (fst r)) (sr x6 0) d := by
  unfold val_main_v105 val_main_v104 val_main_v103 val_main_v102 val_main_v95 val_main_v94 val_main_v88 val_main_v71 val_main_v70 val_main_v69 val_main_v64 val_main_v63 val_main_v57 val_main_v56 val_main_v55 val_main_v49 val_main_v48 val_main_v47 val_main_v46 val_main_v41 val_main_v40 val_main_v36 val_main_v35 val_main_v34 val_main_v33 val_main_v32 val_main_v31 val_main_v30 val_main_v29 val_main_v23 val_main_v22 val_main_v21 val_main_v20 val_main_v15 val_main_v14 val_main_v10 val_main_v9 val_main_v8 val_main_v7 val_main_v6 val_main_v5 val_main_v4 val_main_v3 val_main_v2 val_main_v1 val_main_v0 val_main_cst_21 val_main_cst_3 val_main_cst_1 val_main_cst_0 val_main_cst val_main_cst_13 val_main_cst_8 val_main_cst_6 val_main_cst_5 val_main_cst_4
  pointwise
  rfl
theorem scale (s : Fin 2) (z : Fin 1) (d : Fin 1024) : val_main_v98 (F := Ideal) x0 x1 x3 x4 (ix3 s z d)
    = if s.val = 0 then ∑ r, scaleTerm (xr x3 (fst r)) (dr x0 x1 (fst r)) (gr x4) d
      else ∑ r, scaleTerm (xr x3 (snd r)) (dr x0 x1 (snd r)) (gr x4) d := by
  unfold val_main_v98 val_main_v97 val_main_v96 val_main_v93 val_main_v92 val_main_v91 val_main_v88 val_main_v66 val_main_v65 val_main_v62 val_main_v61 val_main_v60 val_main_v57 val_main_v56 val_main_v55 val_main_v43 val_main_v42 val_main_v41 val_main_v40 val_main_v36 val_main_v35 val_main_v34 val_main_v33 val_main_v32 val_main_v31 val_main_v30 val_main_v29 val_main_v17 val_main_v16 val_main_v15 val_main_v14 val_main_v10 val_main_v9 val_main_v8 val_main_v7 val_main_v6 val_main_v5 val_main_v4 val_main_v3 val_main_v2 val_main_v1 val_main_v0 val_main_cst_19 val_main_cst_18 val_main_cst_1 val_main_cst_0 val_main_cst val_main_cst_11 val_main_cst_10 val_main_cst_6 val_main_cst_5 val_main_cst_4
  pointwise
  split_ifs with h1 h2 h3 h4 h5 <;> first | omega | (rw [zero_add]; rfl) | (rw [add_zero]; rfl)
theorem row0 (r : Fin 8192) (d : Fin 1024) : val_main_v121 (F := Ideal) x0 x1 x3 x4 x6 (ix2 r d)
    = rowTerm (xr x3 (fst r)) (dr x0 x1 (fst r)) (sr x6 0) (gr x4) d := by
  unfold val_main_v121 val_main_v120 val_main_v119 val_main_v118 val_main_v117 val_main_v116 val_main_v115 val_main_v114 val_main_v113 val_main_v112 val_main_v111 val_main_v110 val_main_v109 val_main_v108 val_main_v107 val_main_v106 val_main_v95 val_main_v94 val_main_v88 val_main_v55 val_main_v23 val_main_v22 val_main_v21 val_main_v20 val_main_v13 val_main_v12 val_main_v11 val_main_v10 val_main_v9 val_main_v8 val_main_v7 val_main_v6 val_main_v5 val_main_v4 val_main_v3 val_main_v1 val_main_v0 val_main_cst_24 val_main_cst_23 val_main_cst_1 val_main_cst_0 val_main_cst val_main_cst_2 val_main_cst_22 val_main_cst_3
  pointwise
  simp only [Finset.univ_unique, Finset.sum_singleton]
  rfl
theorem row1 (r : Fin 256) (d : Fin 1024) : val_main_v87 (F := Ideal) x0 x1 x3 x4 x6 (ix2 r d)
    = rowTerm (xr x3 (snd r)) (dr x0 x1 (snd r)) (sr x6 1) (gr x4) d := by
  unfold val_main_v87 val_main_v86 val_main_v85 val_main_v84 val_main_v83 val_main_v82 val_main_v81 val_main_v80 val_main_v79 val_main_v78 val_main_v77 val_main_v76 val_main_v75 val_main_v74 val_main_v73 val_main_v72 val_main_v64 val_main_v63 val_main_v57 val_main_v56 val_main_v49 val_main_v48 val_main_v47 val_main_v46 val_main_v39 val_main_v38 val_main_v37 val_main_v36 val_main_v35 val_main_v34 val_main_v33 val_main_v32 val_main_v31 val_main_v30 val_main_v29 val_main_v2 val_main_v0 val_main_cst_16 val_main_cst_15 val_main_cst_6 val_main_cst_5 val_main_cst_4 val_main_cst_7 val_main_cst_14 val_main_cst_8
  pointwise
  simp only [Finset.univ_unique, Finset.sum_singleton]
  rfl
theorem row (r : Fin 8448) (d : Fin 1024) : val_main_v123 (F := Ideal) x0 x1 x3 x4 x6 x7 (ix2 r d)
    = x7 (ix2 r d) + rowTerm (xr x3 r) (dr x0 x1 r) (sr x6 ⟨r.val / 8192, by omega⟩) (gr x4) d := by
  unfold val_main_v123 val_main_v122
  pointwise
  refine congrArg (x7 (ix2 r d) + ·) ?_
  split_ifs with h
  · have e : (⟨r.val / 8192, by omega⟩ : Fin 2) = 0 := Fin.ext (by show r.val / 8192 = 0; omega)
    rw [row0, e]; rfl
  · have e : (⟨r.val / 8192, by omega⟩ : Fin 2) = 1 := Fin.ext (by show r.val / 8192 = 1; omega)
    have e' : snd ⟨r.val - 8192, by omega⟩ = r := Fin.ext (by show 8192 + (r.val - 8192) = r.val; omega)
    rw [row1, e, e']
  · exact absurd rfl ‹_›

end Cert.ReferenceIdeal.Spec

end
-- ==== Proof.BwdUpClaims.lean ====
module

public import proofs.«01_k».proof.Proof.BwdUpValue
public import proofs.«01_k».proof.Proof.BwdUpReference
public import proofs.«01_k».proof.Proof.Gen.ReferenceIdeal.Run
public import proofs.«01_k».proof.Defs

@[expose] public section

set_option maxRecDepth 16384

noncomputable section

/-! The kernel's results are the reference's. -/

namespace Cert.BwdUp

open Idealize.ShloMosaic Idealize.SL.Sem

/-- The reference runs, leaves its arguments, and has no counters. -/
theorem frame_reference [Cert.ReferenceIdeal.Facts] : Cert.quiescent_ReferenceIdeal := fun m g _ =>
  (θ_run Cert.ReferenceIdeal.defs _ _).mono
    (fun r h => ⟨fun c => (h c).2.2.2.2, sem_eq_zero_of_no_sems (by decide) r.2⟩) (Cert.ReferenceIdeal.Value.run m g)

section Equal

variable (m : (ℓ : Loc Cert.KernelIdeal.nD Cert.KernelIdeal.τ Cert.KernelIdeal.sig) → Buf (Elt Ideal) ℓ) (c : Dev Cert.KernelIdeal.nD)

open Cert.KernelIdeal.Run in
theorem gain_row (d : Fin 1024) (r : Fin 8448) (s : Fin 2) (h : r.val / 8192 = s.val) :
    gainTerm (Cert.ReferenceIdeal.Spec.xr (argX m c) r) (Cert.ReferenceIdeal.Spec.dr (argDp m c) (argW m c) r)
      (Cert.ReferenceIdeal.Spec.sr (argSc m c) s) d = gainOf m c d r := by
  obtain ⟨s, hs⟩ := s
  dsimp only at h
  subst h
  rfl
open Cert.KernelIdeal.Run in
theorem gain_at (z : Fin 1) (d : Fin 1024) :
    Cert.ReferenceIdeal.Read.val_main_v105 (F := Ideal) (argDp m c) (argW m c) (argX m c) (argSc m c) (ix2 z d) = gainSum m c d :=
  (Cert.ReferenceIdeal.Spec.gain _ _ _ _ z d).trans
    (congrArg₂ (· + ·) (Finset.sum_congr rfl fun r _ => gain_row m c d (Cert.ReferenceIdeal.Spec.snd r) 1 (by show (8192 + r.val) / 8192 = 1; omega))
      (Finset.sum_congr rfl fun r _ => gain_row m c d (Cert.ReferenceIdeal.Spec.fst r) 0 (by show r.val / 8192 = 0; omega)))
open Cert.KernelIdeal.Run in
theorem gain_eq : Cert.ReferenceIdeal.Read.val_main_v105 (F := Ideal) (argDp m c) (argW m c) (argX m c) (argSc m c) = dgain m c := by
  funext i
  rw [ValueIdx.eq_ix2 i]
  exact Cert.BwdUp.gain_at m c (i 0) (i 1)
open Cert.KernelIdeal.Run in
theorem shift_eq : Cert.ReferenceIdeal.Read.val_main_v101 (F := Ideal) (argDp m c) (argW m c) = dshift m c := by
  funext i
  rw [ValueIdx.eq_ix3 i]
  exact Cert.ReferenceIdeal.Spec.shift _ _ (i 0) (i 1) (i 2)
open Cert.KernelIdeal.Run in
theorem scale_eq : Cert.ReferenceIdeal.Read.val_main_v98 (F := Ideal) (argDp m c) (argW m c) (argX m c) (argG m c) = dscale m c := by
  funext i
  rw [ValueIdx.eq_ix3 i]
  exact Cert.ReferenceIdeal.Spec.scale _ _ _ _ (i 0) (i 1) (i 2)
open Cert.KernelIdeal.Run in
theorem dx_eq : Cert.ReferenceIdeal.Read.val_main_v123 (F := Ideal) (argDp m c) (argW m c) (argX m c) (argG m c) (argSc m c) (argDx m c) = dx m c := by
  funext i
  rw [ValueIdx.eq_ix2 i]
  exact Cert.ReferenceIdeal.Spec.row _ _ _ _ _ _ (i 0) (i 1)

end Equal

set_option maxHeartbeats 4000000 in
/-- The two programs' results are equal. -/
theorem algebraic [Cert.KernelIdeal.Facts] [Cert.ReferenceIdeal.Facts] : Cert.algebraic_KernelIdeal_ReferenceIdeal := by
  intro m g m' g' _ hag
  refine ⟨Cert.KernelIdeal.Run.dgain m, Cert.KernelIdeal.Run.dshift m, Cert.KernelIdeal.Run.dscale m, Cert.KernelIdeal.Run.dx m,
    Cert.KernelIdeal.Run.run_values m g, (θ_run Cert.ReferenceIdeal.defs _ _).mono (fun r h c => ?_) (Cert.ReferenceIdeal.Value.run m' g')⟩
  obtain ⟨h0, h1, h2, h3, hargs⟩ := h c
  obtain ⟨a0, a1, -, a3, a4, -, a6, a7⟩ := hag c
  refine ⟨h0.trans ?_, h1.trans ?_, h2.trans ?_, h3.trans ?_, hargs⟩
  · rw [Cert.ReferenceIdeal.Read.val_main_v105_eq, a0, a1, a3, a6]; exact gain_eq m c
  · rw [Cert.ReferenceIdeal.Read.val_main_v101_eq, a0, a1]; exact shift_eq m c
  · rw [Cert.ReferenceIdeal.Read.val_main_v98_eq, a0, a1, a3, a4]; exact scale_eq m c
  · rw [Cert.ReferenceIdeal.Read.val_main_v123_eq, a0, a1, a3, a4, a6, a7]; exact dx_eq m c

end Cert.BwdUp

end
-- ==== Proof.WgradUpValue.lean ====
module

public import proofs.«01_k».proof.Proof.Gen.Kernel2Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Acc

@[expose] public section

set_option maxRecDepth 16384

noncomputable section

/-! What the result of the weight gradient's kernel holds, at the extended reals: for each pair of columns, the sum over
    all the rows of the products of the two operands' entries. -/

namespace Cert.Kernel2Ideal.Run

open Idealize.ShloMosaic Idealize.ShloMosaic.TcCoe Idealize.ShloMosaic.Tactic Idealize.SL.Sem
open Cert.Kernel2Ideal.Gen

/-- A block's share of an entry. -/
abbrev tile (a : Vec Ideal S2816x1408 .bf16) (b : Vec Ideal S2816x1024 .bf16) (j : S1408x1024.Idx) : EReal :=
  ∑ k : Fin 2816, a (ix2 k (j 0)) * b (ix2 k (j 1))

theorem reset_apply (j : S1408x1024.Idx) : k0_pay1 (F := Ideal) j = 0 := by
  unfold k0_pay1; pointwise
theorem step_apply (a : Vec Ideal S2816x1408 .bf16) (acc : Vec Ideal S1408x1024 .f32) (b : Vec Ideal S2816x1024 .bf16) (j : S1408x1024.Idx) :
    k0_pay2 a acc b j = acc j + tile a b j := by
  idx_vars j
  unfold k0_pay2 tile; pointwise

variable (m : (ℓ : Loc nD τ sig) → Buf (Elt Ideal) ℓ) (ρ : Dev nD → PrngReg)

theorem at_0 : ∀ t : Fin cfg0.N, win0_0.index t = ![t.val % 3, t.val / 3] := by decide +kernel
theorem at_1 : ∀ t : Fin cfg0.N, win0_1.index t = ![t.val % 3, 0] := by decide +kernel

/-- The two operands, as the kernel finds them. -/
abbrev left (c : Dev nD) : Vec Ideal S8448x5632 .bf16 := V m c main_arg0
abbrev right (c : Dev nD) : Vec Ideal S8448x1024 .bf16 := V m c main_v47

/-- What the kernel's result ends holding. -/
def dw (c : Dev nD) : Vec Ideal S5632x1024 .bf16 := fun i => ∑ l : Fin 8448, left m c (ix2 l (i 0)) * right m c (ix2 l (i 1))

theorem left_at (c : Dev nD) (t : Fin cfg0.N) (k : Fin 2816) (a : Fin 1408) (l : Fin 8448) (q : Fin 5632) (hl : l.val = t.val % 3 * 2816 + k.val)
    (hq : q.val = 1408 * (t.val / 3) + a.val) : (iblk m c 0 t : Vec Ideal S2816x1408 .bf16) (ix2 k a) = left m c (ix2 l q) := by
  obtain ⟨l, hl'⟩ := l
  obtain ⟨q, hq'⟩ := q
  change l = _ at hl
  change q = _ at hq
  subst hl hq
  unfold left
  blk_ext! [iblk, at_0 t]
theorem right_at (c : Dev nD) (t : Fin cfg0.N) (k : Fin 2816) (d : Fin 1024) (l : Fin 8448) (hl : l.val = t.val % 3 * 2816 + k.val) :
    (iblk m c 1 t : Vec Ideal S2816x1024 .bf16) (ix2 k d) = right m c (ix2 l d) := by
  obtain ⟨l, hl'⟩ := l
  change l = _ at hl
  subst hl
  unfold right
  blk_ext! [iblk, at_1 t]

/-- The carried sum after the last block of a run. -/
theorem carried (c : Dev nD) (t : Fin cfg0.N) (h2 : t.val % 3 = 2) (j : S1408x1024.Idx) :
    ((outsAt0 m c t.val t.isLt).2 j : EReal)
      = (0 : EReal) + ∑ s : Fin 3, tile (iblk m c 0 ⟨3 * (t.val / 3) + s.val, Pipeline.run_point_lt_of_flush t h2 s⟩) (iblk m c 1 ⟨3 * (t.val / 3) + s.val, Pipeline.run_point_lt_of_flush t h2 s⟩) j := by
  refine Pipeline.eq_sum_fin_of_reset_step_apply_of_flush (fun n h => (outsAt0 m c n h).2) 3 (fun _ => (0 : EReal))
    (fun t j => tile (iblk m c 0 t) (iblk m c 1 t) j) ?_ ?_ t h2 j
  · intro t h j
    rw [outsAt0_A m c t h (by omega)]
    frame_out
    rw [step_apply, reset_apply]
  · intro t h j
    by_cases h1 : t.val % 3 = 2
    · rw [outsAt0_C m c t h h1]
      frame_out
      rw [step_apply]
      exact congrArg (· + tile (iblk m c 0 t) (iblk m c 1 t) j) (congrFun ((Memref.isWhole_whole cc0_scratch0).read_unread _) j)
    · rw [outsAt0_B m c t h h1]
      frame_out
      rw [step_apply]
      exact congrArg (· + tile (iblk m c 0 t) (iblk m c 1 t) j) (congrFun ((Memref.isWhole_whole cc0_scratch0).read_unread _) j)

/-- The block written back is the carried sum. -/
theorem written (c : Dev nD) (t : Fin cfg0.N) (h2 : t.val % 3 = 2) (j : S1408x1024.Idx) :
    (outsAt0 m c t.val t.isLt).1 j = (outsAt0 m c t.val t.isLt).2 j := by
  rw [outsAt0_C m c t (by omega) h2]
  frame_out
  rfl

theorem blocks (c : Dev nD) (t : Fin cfg0.N) (h2 : t.val % 3 = 2) (j : S1408x1024.Idx) (q : Fin 5632) (hq : q.val = 1408 * (t.val / 3) + (j 0).val) :
    ∑ s : Fin 3, tile (iblk m c 0 ⟨3 * (t.val / 3) + s.val, Pipeline.run_point_lt_of_flush t h2 s⟩) (iblk m c 1 ⟨3 * (t.val / 3) + s.val, Pipeline.run_point_lt_of_flush t h2 s⟩) j
      = ∑ l : Fin 8448, left m c (ix2 l q) * right m c (ix2 l (j 1)) := by
  unfold tile
  refine Fin.sum_mul_add_congr fun s k hl => ?_
  refine congrArg₂ (· * ·) ?_ ?_
  · exact left_at m c _ _ _ _ _ (by dsimp only; omega) (by dsimp only; omega)
  · exact right_at m c _ _ _ _ (by dsimp only; omega)

theorem result (c : Dev nD) : Value.G2 m c = dw m c := by
  refine funext fun (i : S5632x1024.Idx) => ?_
  have h0 : (i 0).val < 5632 := (i 0).isLt
  have h1 : (i 1).val < 1024 := (i 1).isLt
  have hp : Value.pt2Of i = 3 * ((i 0).val / 1408) + 2 := by
    show 3 * (1 * ((i 0).val / 1408 - 0) + 1 * ((i 1).val / 1024 - 0)) + 2 = _
    omega
  have hN : Value.pt2Of i < cfg0.N := by
    rw [show cfg0.N = 12 from N_0, hp]; omega
  have e := Value.outsAt0_sweep m c (Value.pt2Of i) hN
  unfold Value.G2
  rw [dif_pos hN, ← e]
  have hm : Value.pt2Of i % 3 = 2 := by rw [hp]; omega
  refine (written m c ⟨Value.pt2Of i, hN⟩ hm _).trans ((carried m c ⟨Value.pt2Of i, hN⟩ hm _).trans ((zero_add _).trans ?_))
  refine (blocks m c ⟨Value.pt2Of i, hN⟩ hm _ (i 0) ?_).trans ?_
  · show (i 0).val = 1408 * (Value.pt2Of i / 3) + (i 0).val % 1408
    rw [hp]
    omega
  · unfold dw
    refine Finset.sum_congr rfl fun l _ => congrArg (left m c (ix2 l (i 0)) * ·) (congrArg (fun d => right m c (ix2 l d)) (Fin.ext ?_))
    exact Nat.mod_eq_of_lt h1

end Cert.Kernel2Ideal.Run

end
-- ==== Proof.WgradUpClaims.lean ====
module

public import proofs.«01_k».proof.Proof.WgradUpValue
public import proofs.«01_k».proof.Proof.Gen.Reference2Ideal.Read
public import proofs.«01_k».proof.Proof.Gen.Reference2Ideal.Run
public import proofs.«01_k».proof.Proof.Gen.Kernel2
public import proofs.«01_k».proof.Defs

@[expose] public section

set_option maxRecDepth 16384

noncomputable section

/-! What the reference of the up projection's weight gradient computes, entry by entry, the operand the kernel's host
    code prepares, in the reference's terms, and the claims. -/

namespace Cert.WgradUp

open Idealize.ShloMosaic Idealize.ShloMosaic.TcCoe Idealize.ShloMosaic.Tactic Idealize.SL.Sem

abbrev fst (r : Fin 8192) : Fin 8448 := ⟨r.val, by omega⟩
abbrev snd (r : Fin 256) : Fin 8448 := ⟨8192 + r.val, by omega⟩

/-- A sum over all the rows, the second stream's first. -/
theorem sum_rows (f : Fin 8448 → EReal) : ∑ l, f l = ∑ r, f (snd r) + ∑ r, f (fst r) := by
  rw [add_comm]
  exact Fin.sum_univ_add (a := 8192) (b := 256) f

section Reference

open Cert.Reference2Ideal Cert.Reference2Ideal.Read

variable (x0 : Vec Ideal S8448x5632 .bf16) (x1 : Vec Ideal S8448x1024 .f32) (x2 : Vec Ideal S1x1024 .f32) (x3 x4 : Vec Ideal S2x1x1024 .f32)

theorem reference_at (a : Fin 5632) (d : Fin 1024) :
    val_main_v57 (F := Ideal) x0 x1 x2 x3 x4 (ix2 a d)
      = ∑ r : Fin 256, x0 (ix2 (snd r) a) * val_main_v47 (F := Ideal) x1 x2 x3 x4 (ix2 r d)
        + ∑ r : Fin 8192, x0 (ix2 (fst r) a) * val_main_v23 (F := Ideal) x1 x2 x3 x4 (ix2 r d) := by
  unfold val_main_v57 val_main_v56 val_main_v55 val_main_v54 val_main_v53 val_main_v52 val_main_v51 val_main_v50 val_main_v49 val_main_v0
  pointwise

end Reference

section Operand

open Cert.Kernel2Ideal Cert.Kernel2Ideal.Gen Cert.Kernel2Ideal.Run

variable (m : (ℓ : Loc nD τ sig) → Buf (Elt Ideal) ℓ) (c : Dev nD)

abbrev argX : Vec Ideal S8448x1024 .f32 := m ((c : Thread nD τ).loc main_arg1)
abbrev argG : Vec Ideal S1x1024 .f32 := m ((c : Thread nD τ).loc main_arg2)
abbrev argSh : Vec Ideal S2x1x1024 .f32 := m ((c : Thread nD τ).loc main_arg3)
abbrev argSc : Vec Ideal S2x1x1024 .f32 := m ((c : Thread nD τ).loc main_arg4)

theorem right_eq : right m c = (truncf .bf16 (concatenate S8448x1024 0
    [⟨S8192x1024, Cert.Reference2Ideal.Read.val_main_v23 (F := Ideal) (argX m c) (argG m c) (argSh m c) (argSc m c)⟩,
     ⟨S256x1024, Cert.Reference2Ideal.Read.val_main_v47 (F := Ideal) (argX m c) (argG m c) (argSh m c) (argSc m c)⟩]
    concatenates_S8192x1024_S256x1024_S8448x1024_d0) bitsLt_bf16_f32 : FVec Ideal S8448x1024 .bf16) := by
  unfold right
  entry_read
  rfl
theorem right_fst (r : Fin 8192) (d : Fin 1024) :
    right m c (ix2 (fst r) d) = Cert.Reference2Ideal.Read.val_main_v23 (F := Ideal) (argX m c) (argG m c) (argSh m c) (argSc m c) (ix2 r d) := by
  rw [right_eq]
  pointwise
theorem right_snd (r : Fin 256) (d : Fin 1024) :
    right m c (ix2 (snd r) d) = Cert.Reference2Ideal.Read.val_main_v47 (F := Ideal) (argX m c) (argG m c) (argSh m c) (argSc m c) (ix2 r d) := by
  rw [right_eq]
  pointwise

theorem dw_at (a : Fin 5632) (d : Fin 1024) :
    Cert.Reference2Ideal.Read.val_main_v57 (F := Ideal) (left m c) (argX m c) (argG m c) (argSh m c) (argSc m c) (ix2 a d) = dw m c (ix2 a d) := by
  refine (reference_at _ _ _ _ _ a d).trans (Eq.symm ?_)
  refine (sum_rows fun l => left m c (ix2 l a) * right m c (ix2 l d)).trans (congrArg₂ (· + ·) ?_ ?_)
  · exact Finset.sum_congr rfl fun r _ => congrArg (left m c (ix2 (snd r) a) * ·) (right_snd m c r d)
  · exact Finset.sum_congr rfl fun r _ => congrArg (left m c (ix2 (fst r) a) * ·) (right_fst m c r d)
theorem left_eq : left m c = m ((c : Thread nD τ).loc main_arg0) := V_main_arg0 m c
theorem dw_eq :
    Cert.Reference2Ideal.Read.val_main_v57 (F := Ideal) (m ((c : Thread nD τ).loc main_arg0)) (argX m c) (argG m c) (argSh m c) (argSc m c) = dw m c := by
  rw [← left_eq m c]
  funext i
  rw [ValueIdx.eq_ix2 i]
  exact dw_at m c (i 0) (i 1)

end Operand

theorem frame_reference [Cert.Reference2Ideal.Facts] : Cert.quiescent_Reference2Ideal := fun m g _ =>
  (θ_run Cert.Reference2Ideal.defs _ _).mono
    (fun r h => ⟨fun c => (h c).2, sem_eq_zero_of_no_sems (by decide) r.2⟩) (Cert.Reference2Ideal.Value.run m g)

theorem rows_same : (Cert.Kernel2.defs₀ (F := Bits)) = (Cert.Kernel2Ideal.defs₀ (F := Bits)) := by
  unfold Cert.Kernel2.defs₀ Cert.Kernel2Ideal.defs₀
  refine congrArg Defs.onTc ?_
  funext l a
  match l, a with
  | 0, (t, s) => rfl

theorem defs_same : (Cert.Kernel2.defs (F := Bits)) = (Cert.Kernel2Ideal.defs (F := Bits)) := by
  unfold Cert.Kernel2.defs Cert.Kernel2Ideal.defs
  exact congrArg (Pipeline.defs _) rows_same

set_option maxHeartbeats 4000000 in
/-- The printed program runs, leaves its arguments and ends quiescent. -/
theorem quiescent [Cert.Kernel2.Facts] : Cert.quiescent_Kernel2 := fun m g _ => by
  rw [defs_same]
  exact Cert.Kernel2Ideal.Gen.frame m g

/-- The kernel's result is the reference's. -/
theorem algebraic [Cert.Kernel2Ideal.Facts] [Cert.Reference2Ideal.Facts] : Cert.algebraic_Kernel2Ideal_Reference2Ideal := by
  intro m g m' g' _ hag
  refine ⟨Cert.Kernel2Ideal.Run.dw m, (θ_run Cert.Kernel2Ideal.defs _ _).mono (fun r h c => ?_) (Cert.Kernel2Ideal.Value.run m g),
    (θ_run Cert.Reference2Ideal.defs _ _).mono (fun r h c => ?_) (Cert.Reference2Ideal.Value.run m' g')⟩
  · exact ⟨(h c).1.trans (Cert.Kernel2Ideal.Run.result m c), (h c).2⟩
  · obtain ⟨h0, hargs⟩ := h c
    obtain ⟨a0, a1, a2, a3, a4, -⟩ := hag c
    refine ⟨h0.trans ?_, hargs⟩
    refine (Cert.Reference2Ideal.Read.val_main_v57_eq _ _ _ _ _).trans ?_
    rw [a0, a1, a2, a3, a4]
    exact dw_eq m c

end Cert.WgradUp

end
-- ==== Proof.WgradDownValue.lean ====
module

public import proofs.«01_k».proof.Proof.Gen.Kernel3Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Acc

@[expose] public section

set_option maxRecDepth 16384

noncomputable section

/-! What the result of the weight gradient's kernel holds, at the extended reals: for each pair of columns, the sum over
    all the rows of the products of the two operands' entries. -/

namespace Cert.Kernel3Ideal.Run

open Idealize.ShloMosaic Idealize.ShloMosaic.TcCoe Idealize.ShloMosaic.Tactic Idealize.SL.Sem
open Cert.Kernel3Ideal.Gen

/-- A block's share of an entry. -/
abbrev tile (a : Vec Ideal S2816x1408 .bf16) (b : Vec Ideal S2816x1024 .bf16) (j : S1408x1024.Idx) : EReal :=
  ∑ k : Fin 2816, a (ix2 k (j 0)) * b (ix2 k (j 1))

theorem reset_apply (j : S1408x1024.Idx) : k0_pay1 (F := Ideal) j = 0 := by
  unfold k0_pay1; pointwise
theorem step_apply (a : Vec Ideal S2816x1408 .bf16) (acc : Vec Ideal S1408x1024 .f32) (b : Vec Ideal S2816x1024 .bf16) (j : S1408x1024.Idx) :
    k0_pay2 a acc b j = acc j + tile a b j := by
  idx_vars j
  unfold k0_pay2 tile; pointwise

variable (m : (ℓ : Loc nD τ sig) → Buf (Elt Ideal) ℓ) (ρ : Dev nD → PrngReg)

theorem at_0 : ∀ t : Fin cfg0.N, win0_0.index t = ![t.val % 3, t.val / 3] := by decide +kernel
theorem at_1 : ∀ t : Fin cfg0.N, win0_1.index t = ![t.val % 3, 0] := by decide +kernel

/-- The two operands, as the kernel finds them. -/
abbrev left (c : Dev nD) : Vec Ideal S8448x2816 .bf16 := V m c main_v58
abbrev right (c : Dev nD) : Vec Ideal S8448x1024 .bf16 := V m c main_arg2

/-- What the kernel's result ends holding. -/
def dw (c : Dev nD) : Vec Ideal S2816x1024 .bf16 := fun i => ∑ l : Fin 8448, left m c (ix2 l (i 0)) * right m c (ix2 l (i 1))

theorem left_at (c : Dev nD) (t : Fin cfg0.N) (k : Fin 2816) (a : Fin 1408) (l : Fin 8448) (q : Fin 2816) (hl : l.val = t.val % 3 * 2816 + k.val)
    (hq : q.val = 1408 * (t.val / 3) + a.val) : (iblk m c 0 t : Vec Ideal S2816x1408 .bf16) (ix2 k a) = left m c (ix2 l q) := by
  obtain ⟨l, hl'⟩ := l
  obtain ⟨q, hq'⟩ := q
  change l = _ at hl
  change q = _ at hq
  subst hl hq
  unfold left
  blk_ext! [iblk, at_0 t]
theorem right_at (c : Dev nD) (t : Fin cfg0.N) (k : Fin 2816) (d : Fin 1024) (l : Fin 8448) (hl : l.val = t.val % 3 * 2816 + k.val) :
    (iblk m c 1 t : Vec Ideal S2816x1024 .bf16) (ix2 k d) = right m c (ix2 l d) := by
  obtain ⟨l, hl'⟩ := l
  change l = _ at hl
  subst hl
  unfold right
  blk_ext! [iblk, at_1 t]

/-- The carried sum after the last block of a run. -/
theorem carried (c : Dev nD) (t : Fin cfg0.N) (h2 : t.val % 3 = 2) (j : S1408x1024.Idx) :
    ((outsAt0 m c t.val t.isLt).2 j : EReal)
      = (0 : EReal) + ∑ s : Fin 3, tile (iblk m c 0 ⟨3 * (t.val / 3) + s.val, Pipeline.run_point_lt_of_flush t h2 s⟩) (iblk m c 1 ⟨3 * (t.val / 3) + s.val, Pipeline.run_point_lt_of_flush t h2 s⟩) j := by
  refine Pipeline.eq_sum_fin_of_reset_step_apply_of_flush (fun n h => (outsAt0 m c n h).2) 3 (fun _ => (0 : EReal))
    (fun t j => tile (iblk m c 0 t) (iblk m c 1 t) j) ?_ ?_ t h2 j
  · intro t h j
    rw [outsAt0_A m c t h (by omega)]
    frame_out
    rw [step_apply, reset_apply]
  · intro t h j
    by_cases h1 : t.val % 3 = 2
    · rw [outsAt0_C m c t h h1]
      frame_out
      rw [step_apply]
      exact congrArg (· + tile (iblk m c 0 t) (iblk m c 1 t) j) (congrFun ((Memref.isWhole_whole cc0_scratch0).read_unread _) j)
    · rw [outsAt0_B m c t h h1]
      frame_out
      rw [step_apply]
      exact congrArg (· + tile (iblk m c 0 t) (iblk m c 1 t) j) (congrFun ((Memref.isWhole_whole cc0_scratch0).read_unread _) j)

/-- The block written back is the carried sum. -/
theorem written (c : Dev nD) (t : Fin cfg0.N) (h2 : t.val % 3 = 2) (j : S1408x1024.Idx) :
    (outsAt0 m c t.val t.isLt).1 j = (outsAt0 m c t.val t.isLt).2 j := by
  rw [outsAt0_C m c t (by omega) h2]
  frame_out
  rfl

theorem blocks (c : Dev nD) (t : Fin cfg0.N) (h2 : t.val % 3 = 2) (j : S1408x1024.Idx) (q : Fin 2816) (hq : q.val = 1408 * (t.val / 3) + (j 0).val) :
    ∑ s : Fin 3, tile (iblk m c 0 ⟨3 * (t.val / 3) + s.val, Pipeline.run_point_lt_of_flush t h2 s⟩) (iblk m c 1 ⟨3 * (t.val / 3) + s.val, Pipeline.run_point_lt_of_flush t h2 s⟩) j
      = ∑ l : Fin 8448, left m c (ix2 l q) * right m c (ix2 l (j 1)) := by
  unfold tile
  refine Fin.sum_mul_add_congr fun s k hl => ?_
  refine congrArg₂ (· * ·) ?_ ?_
  · exact left_at m c _ _ _ _ _ (by dsimp only; omega) (by dsimp only; omega)
  · exact right_at m c _ _ _ _ (by dsimp only; omega)

theorem result (c : Dev nD) : Value.G2 m c = dw m c := by
  refine funext fun (i : S2816x1024.Idx) => ?_
  have h0 : (i 0).val < 2816 := (i 0).isLt
  have h1 : (i 1).val < 1024 := (i 1).isLt
  have hp : Value.pt2Of i = 3 * ((i 0).val / 1408) + 2 := by
    show 3 * (1 * ((i 0).val / 1408 - 0) + 1 * ((i 1).val / 1024 - 0)) + 2 = _
    omega
  have hN : Value.pt2Of i < cfg0.N := by
    rw [show cfg0.N = 6 from N_0, hp]; omega
  have e := Value.outsAt0_sweep m c (Value.pt2Of i) hN
  unfold Value.G2
  rw [dif_pos hN, ← e]
  have hm : Value.pt2Of i % 3 = 2 := by rw [hp]; omega
  refine (written m c ⟨Value.pt2Of i, hN⟩ hm _).trans ((carried m c ⟨Value.pt2Of i, hN⟩ hm _).trans ((zero_add _).trans ?_))
  refine (blocks m c ⟨Value.pt2Of i, hN⟩ hm _ (i 0) ?_).trans ?_
  · show (i 0).val = 1408 * (Value.pt2Of i / 3) + (i 0).val % 1408
    rw [hp]
    omega
  · unfold dw
    refine Finset.sum_congr rfl fun l _ => congrArg (left m c (ix2 l (i 0)) * ·) (congrArg (fun d => right m c (ix2 l d)) (Fin.ext ?_))
    exact Nat.mod_eq_of_lt h1

end Cert.Kernel3Ideal.Run

end
-- ==== Proof.WgradDownClaims.lean ====
module

public import proofs.«01_k».proof.Proof.WgradDownValue
public import proofs.«01_k».proof.Proof.WgradUpClaims
public import proofs.«01_k».proof.Proof.Gen.Reference3Ideal.Read
public import proofs.«01_k».proof.Proof.Gen.Reference3Ideal.Run
public import proofs.«01_k».proof.Proof.Gen.Kernel3
public import proofs.«01_k».proof.Defs

@[expose] public section

set_option maxRecDepth 16384

noncomputable section

/-! What the reference of the down projection's weight gradient computes, entry by entry, the operand the kernel's host
    code prepares, in the reference's terms, and the claims. -/

namespace Cert.WgradDown

open Idealize.ShloMosaic Idealize.ShloMosaic.TcCoe Idealize.ShloMosaic.Tactic Idealize.SL.Sem
open Cert.WgradUp (fst snd sum_rows)

section Reference

open Cert.Reference3Ideal Cert.Reference3Ideal.Read

variable (x0 : Vec Ideal S8448x5632 .bf16) (x1 : Vec Ideal S3x5632 .f32) (x2 : Vec Ideal S8448x1024 .bf16)

theorem reference_at (a : Fin 2816) (d : Fin 1024) :
    val_main_v67 (F := Ideal) x0 x1 x2 (ix2 a d)
      = ∑ r : Fin 256, x2 (ix2 (snd r) d) * val_main_v58 (F := Ideal) x0 x1 (ix2 r a)
        + ∑ r : Fin 8192, x2 (ix2 (fst r) d) * val_main_v29 (F := Ideal) x0 x1 (ix2 r a) := by
  unfold val_main_v67 val_main_v66 val_main_v65 val_main_v64 val_main_v63 val_main_v62 val_main_v61 val_main_v60 val_main_v1
  pointwise

end Reference

section Operand

open Cert.Kernel3Ideal Cert.Kernel3Ideal.Gen Cert.Kernel3Ideal.Run

variable (m : (ℓ : Loc nD τ sig) → Buf (Elt Ideal) ℓ) (c : Dev nD)

abbrev argPu : Vec Ideal S8448x5632 .bf16 := m ((c : Thread nD τ).loc main_arg0)
abbrev argTaps : Vec Ideal S3x5632 .f32 := m ((c : Thread nD τ).loc main_arg1)

theorem left_eq : left m c = (truncf .bf16 (concatenate S8448x2816 0
    [⟨S8192x2816, Cert.Reference3Ideal.Read.val_main_v29 (F := Ideal) (argPu m c) (argTaps m c)⟩,
     ⟨S256x2816, Cert.Reference3Ideal.Read.val_main_v58 (F := Ideal) (argPu m c) (argTaps m c)⟩]
    concatenates_S8192x2816_S256x2816_S8448x2816_d0) bitsLt_bf16_f32 : FVec Ideal S8448x2816 .bf16) := by
  unfold left V
  simp only [hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.nullary, StableHlo.TRef.unary, StableHlo.TRef.toBuf, StableHlo.TRef.ofBuf, cast_eq]
  after_results_simp
  rfl
theorem left_fst (r : Fin 8192) (a : Fin 2816) :
    left m c (ix2 (fst r) a) = Cert.Reference3Ideal.Read.val_main_v29 (F := Ideal) (argPu m c) (argTaps m c) (ix2 r a) := by
  rw [left_eq]
  pointwise
theorem left_snd (r : Fin 256) (a : Fin 2816) :
    left m c (ix2 (snd r) a) = Cert.Reference3Ideal.Read.val_main_v58 (F := Ideal) (argPu m c) (argTaps m c) (ix2 r a) := by
  rw [left_eq]
  pointwise

theorem dw_at (a : Fin 2816) (d : Fin 1024) :
    Cert.Reference3Ideal.Read.val_main_v67 (F := Ideal) (argPu m c) (argTaps m c) (right m c) (ix2 a d) = dw m c (ix2 a d) := by
  refine (reference_at _ _ _ a d).trans (Eq.symm ?_)
  refine (sum_rows fun l => left m c (ix2 l a) * right m c (ix2 l d)).trans (congrArg₂ (· + ·) ?_ ?_)
  · exact Finset.sum_congr rfl fun r _ => (congrArg (· * right m c (ix2 (snd r) d)) (left_snd m c r a)).trans (mul_comm _ _)
  · exact Finset.sum_congr rfl fun r _ => (congrArg (· * right m c (ix2 (fst r) d)) (left_fst m c r a)).trans (mul_comm _ _)
theorem right_eq : right m c = m ((c : Thread nD τ).loc main_arg2) := V_main_arg2 m c
theorem dw_eq :
    Cert.Reference3Ideal.Read.val_main_v67 (F := Ideal) (argPu m c) (argTaps m c) (m ((c : Thread nD τ).loc main_arg2)) = dw m c := by
  rw [← right_eq m c]
  funext i
  rw [ValueIdx.eq_ix2 i]
  exact dw_at m c (i 0) (i 1)

end Operand

theorem frame_reference [Cert.Reference3Ideal.Facts] : Cert.quiescent_Reference3Ideal := fun m g _ =>
  (θ_run Cert.Reference3Ideal.defs _ _).mono
    (fun r h => ⟨fun c => (h c).2, sem_eq_zero_of_no_sems (by decide) r.2⟩) (Cert.Reference3Ideal.Value.run m g)

theorem rows_same : (Cert.Kernel3.defs₀ (F := Bits)) = (Cert.Kernel3Ideal.defs₀ (F := Bits)) := by
  unfold Cert.Kernel3.defs₀ Cert.Kernel3Ideal.defs₀
  refine congrArg Defs.onTc ?_
  funext l a
  match l, a with
  | 0, (t, s) => rfl

theorem defs_same : (Cert.Kernel3.defs (F := Bits)) = (Cert.Kernel3Ideal.defs (F := Bits)) := by
  unfold Cert.Kernel3.defs Cert.Kernel3Ideal.defs
  exact congrArg (Pipeline.defs _) rows_same

set_option maxHeartbeats 4000000 in
/-- The printed program runs, leaves its arguments and ends quiescent. -/
theorem quiescent [Cert.Kernel3.Facts] : Cert.quiescent_Kernel3 := fun m g _ => by
  rw [defs_same]
  exact Cert.Kernel3Ideal.Gen.frame m g

/-- The kernel's result is the reference's. -/
theorem algebraic [Cert.Kernel3Ideal.Facts] [Cert.Reference3Ideal.Facts] : Cert.algebraic_Kernel3Ideal_Reference3Ideal := by
  intro m g m' g' _ hag
  refine ⟨Cert.Kernel3Ideal.Run.dw m, (θ_run Cert.Kernel3Ideal.defs _ _).mono (fun r h c => ?_) (Cert.Kernel3Ideal.Value.run m g),
    (θ_run Cert.Reference3Ideal.defs _ _).mono (fun r h c => ?_) (Cert.Reference3Ideal.Value.run m' g')⟩
  · exact ⟨(h c).1.trans (Cert.Kernel3Ideal.Run.result m c), (h c).2⟩
  · obtain ⟨h0, hargs⟩ := h c
    obtain ⟨a0, a1, a2, -⟩ := hag c
    refine ⟨h0.trans ?_, hargs⟩
    refine (Cert.Reference3Ideal.Read.val_main_v67_eq m' c).trans ?_
    rw [a0, a1, a2]
    exact dw_eq m c

end Cert.WgradDown

end
-- ==== Proof.WgradInValue.lean ====
module

public import proofs.«01_k».proof.Proof.Gen.Kernel4Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Acc

@[expose] public section

set_option maxRecDepth 16384

noncomputable section

/-! What the result of the weight gradient's kernel holds, at the extended reals: for each pair of columns, the sum over
    all the rows of the products of the two operands' entries. -/

namespace Cert.Kernel4Ideal.Run

open Idealize.ShloMosaic Idealize.ShloMosaic.TcCoe Idealize.ShloMosaic.Tactic Idealize.SL.Sem
open Cert.Kernel4Ideal.Gen

/-- A block's share of an entry. -/
abbrev tile (a : Vec Ideal S2816x1280 .bf16) (b : Vec Ideal S2816x1024 .bf16) (j : S1280x1024.Idx) : EReal :=
  ∑ k : Fin 2816, a (ix2 k (j 0)) * b (ix2 k (j 1))

theorem reset_apply (j : S1280x1024.Idx) : k0_pay1 (F := Ideal) j = 0 := by
  unfold k0_pay1; pointwise
theorem step_apply (a : Vec Ideal S2816x1280 .bf16) (acc : Vec Ideal S1280x1024 .f32) (b : Vec Ideal S2816x1024 .bf16) (j : S1280x1024.Idx) :
    k0_pay2 a acc b j = acc j + tile a b j := by
  idx_vars j
  unfold k0_pay2 tile; pointwise

variable (m : (ℓ : Loc nD τ sig) → Buf (Elt Ideal) ℓ) (ρ : Dev nD → PrngReg)

theorem at_0 : ∀ t : Fin cfg0.N, win0_0.index t = ![t.val % 3, t.val / 3] := by decide +kernel
theorem at_1 : ∀ t : Fin cfg0.N, win0_1.index t = ![t.val % 3, 0] := by decide +kernel

/-- The two operands, as the kernel finds them. -/
abbrev left (c : Dev nD) : Vec Ideal S8448x2560 .bf16 := V m c main_arg0
abbrev right (c : Dev nD) : Vec Ideal S8448x1024 .bf16 := V m c main_v47

/-- What the kernel's result ends holding. -/
def dw (c : Dev nD) : Vec Ideal S2560x1024 .bf16 := fun i => ∑ l : Fin 8448, left m c (ix2 l (i 0)) * right m c (ix2 l (i 1))

theorem left_at (c : Dev nD) (t : Fin cfg0.N) (k : Fin 2816) (a : Fin 1280) (l : Fin 8448) (q : Fin 2560) (hl : l.val = t.val % 3 * 2816 + k.val)
    (hq : q.val = 1280 * (t.val / 3) + a.val) : (iblk m c 0 t : Vec Ideal S2816x1280 .bf16) (ix2 k a) = left m c (ix2 l q) := by
  obtain ⟨l, hl'⟩ := l
  obtain ⟨q, hq'⟩ := q
  change l = _ at hl
  change q = _ at hq
  subst hl hq
  unfold left
  blk_ext! [iblk, at_0 t]
theorem right_at (c : Dev nD) (t : Fin cfg0.N) (k : Fin 2816) (d : Fin 1024) (l : Fin 8448) (hl : l.val = t.val % 3 * 2816 + k.val) :
    (iblk m c 1 t : Vec Ideal S2816x1024 .bf16) (ix2 k d) = right m c (ix2 l d) := by
  obtain ⟨l, hl'⟩ := l
  change l = _ at hl
  subst hl
  unfold right
  blk_ext! [iblk, at_1 t]

/-- The carried sum after the last block of a run. -/
theorem carried (c : Dev nD) (t : Fin cfg0.N) (h2 : t.val % 3 = 2) (j : S1280x1024.Idx) :
    ((outsAt0 m c t.val t.isLt).2 j : EReal)
      = (0 : EReal) + ∑ s : Fin 3, tile (iblk m c 0 ⟨3 * (t.val / 3) + s.val, Pipeline.run_point_lt_of_flush t h2 s⟩) (iblk m c 1 ⟨3 * (t.val / 3) + s.val, Pipeline.run_point_lt_of_flush t h2 s⟩) j := by
  refine Pipeline.eq_sum_fin_of_reset_step_apply_of_flush (fun n h => (outsAt0 m c n h).2) 3 (fun _ => (0 : EReal))
    (fun t j => tile (iblk m c 0 t) (iblk m c 1 t) j) ?_ ?_ t h2 j
  · intro t h j
    rw [outsAt0_A m c t h (by omega)]
    frame_out
    rw [step_apply, reset_apply]
  · intro t h j
    by_cases h1 : t.val % 3 = 2
    · rw [outsAt0_C m c t h h1]
      frame_out
      rw [step_apply]
      exact congrArg (· + tile (iblk m c 0 t) (iblk m c 1 t) j) (congrFun ((Memref.isWhole_whole cc0_scratch0).read_unread _) j)
    · rw [outsAt0_B m c t h h1]
      frame_out
      rw [step_apply]
      exact congrArg (· + tile (iblk m c 0 t) (iblk m c 1 t) j) (congrFun ((Memref.isWhole_whole cc0_scratch0).read_unread _) j)

/-- The block written back is the carried sum. -/
theorem written (c : Dev nD) (t : Fin cfg0.N) (h2 : t.val % 3 = 2) (j : S1280x1024.Idx) :
    (outsAt0 m c t.val t.isLt).1 j = (outsAt0 m c t.val t.isLt).2 j := by
  rw [outsAt0_C m c t (by omega) h2]
  frame_out
  rfl

theorem blocks (c : Dev nD) (t : Fin cfg0.N) (h2 : t.val % 3 = 2) (j : S1280x1024.Idx) (q : Fin 2560) (hq : q.val = 1280 * (t.val / 3) + (j 0).val) :
    ∑ s : Fin 3, tile (iblk m c 0 ⟨3 * (t.val / 3) + s.val, Pipeline.run_point_lt_of_flush t h2 s⟩) (iblk m c 1 ⟨3 * (t.val / 3) + s.val, Pipeline.run_point_lt_of_flush t h2 s⟩) j
      = ∑ l : Fin 8448, left m c (ix2 l q) * right m c (ix2 l (j 1)) := by
  unfold tile
  refine Fin.sum_mul_add_congr fun s k hl => ?_
  refine congrArg₂ (· * ·) ?_ ?_
  · exact left_at m c _ _ _ _ _ (by dsimp only; omega) (by dsimp only; omega)
  · exact right_at m c _ _ _ _ (by dsimp only; omega)

theorem result (c : Dev nD) : Value.G2 m c = dw m c := by
  refine funext fun (i : S2560x1024.Idx) => ?_
  have h0 : (i 0).val < 2560 := (i 0).isLt
  have h1 : (i 1).val < 1024 := (i 1).isLt
  have hp : Value.pt2Of i = 3 * ((i 0).val / 1280) + 2 := by
    show 3 * (1 * ((i 0).val / 1280 - 0) + 1 * ((i 1).val / 1024 - 0)) + 2 = _
    omega
  have hN : Value.pt2Of i < cfg0.N := by
    rw [show cfg0.N = 6 from N_0, hp]; omega
  have e := Value.outsAt0_sweep m c (Value.pt2Of i) hN
  unfold Value.G2
  rw [dif_pos hN, ← e]
  have hm : Value.pt2Of i % 3 = 2 := by rw [hp]; omega
  refine (written m c ⟨Value.pt2Of i, hN⟩ hm _).trans ((carried m c ⟨Value.pt2Of i, hN⟩ hm _).trans ((zero_add _).trans ?_))
  refine (blocks m c ⟨Value.pt2Of i, hN⟩ hm _ (i 0) ?_).trans ?_
  · show (i 0).val = 1280 * (Value.pt2Of i / 3) + (i 0).val % 1280
    rw [hp]
    omega
  · unfold dw
    refine Finset.sum_congr rfl fun l _ => congrArg (left m c (ix2 l (i 0)) * ·) (congrArg (fun d => right m c (ix2 l d)) (Fin.ext ?_))
    exact Nat.mod_eq_of_lt h1

end Cert.Kernel4Ideal.Run

end
-- ==== Proof.WgradInClaims.lean ====
module

public import proofs.«01_k».proof.Proof.WgradInValue
public import proofs.«01_k».proof.Proof.WgradUpClaims
public import proofs.«01_k».proof.Proof.Gen.Reference4Ideal.Read
public import proofs.«01_k».proof.Proof.Gen.Reference4Ideal.Run
public import proofs.«01_k».proof.Proof.Gen.Kernel4
public import proofs.«01_k».proof.Defs

@[expose] public section

set_option maxRecDepth 16384

noncomputable section

/-! What the reference of the gradient of the mixers' input projection weight computes, entry by entry, the operand the kernel's host
    code prepares, in the reference's terms, and the claims. -/

namespace Cert.WgradIn

open Idealize.ShloMosaic Idealize.ShloMosaic.TcCoe Idealize.ShloMosaic.Tactic Idealize.SL.Sem

open Cert.WgradUp (fst snd sum_rows)

section Reference

open Cert.Reference4Ideal Cert.Reference4Ideal.Read

variable (x0 : Vec Ideal S8448x2560 .bf16) (x1 : Vec Ideal S8448x1024 .f32) (x2 : Vec Ideal S1x1024 .f32) (x3 x4 : Vec Ideal S2x1x1024 .f32)

theorem reference_at (a : Fin 2560) (d : Fin 1024) :
    val_main_v57 (F := Ideal) x0 x1 x2 x3 x4 (ix2 a d)
      = ∑ r : Fin 256, x0 (ix2 (snd r) a) * val_main_v47 (F := Ideal) x1 x2 x3 x4 (ix2 r d)
        + ∑ r : Fin 8192, x0 (ix2 (fst r) a) * val_main_v23 (F := Ideal) x1 x2 x3 x4 (ix2 r d) := by
  unfold val_main_v57 val_main_v56 val_main_v55 val_main_v54 val_main_v53 val_main_v52 val_main_v51 val_main_v50 val_main_v49 val_main_v0
  pointwise

end Reference

section Operand

open Cert.Kernel4Ideal Cert.Kernel4Ideal.Gen Cert.Kernel4Ideal.Run

variable (m : (ℓ : Loc nD τ sig) → Buf (Elt Ideal) ℓ) (c : Dev nD)

abbrev argX : Vec Ideal S8448x1024 .f32 := m ((c : Thread nD τ).loc main_arg1)
abbrev argG : Vec Ideal S1x1024 .f32 := m ((c : Thread nD τ).loc main_arg2)
abbrev argSh : Vec Ideal S2x1x1024 .f32 := m ((c : Thread nD τ).loc main_arg3)
abbrev argSc : Vec Ideal S2x1x1024 .f32 := m ((c : Thread nD τ).loc main_arg4)

theorem right_eq : right m c = (truncf .bf16 (concatenate S8448x1024 0
    [⟨S8192x1024, Cert.Reference4Ideal.Read.val_main_v23 (F := Ideal) (argX m c) (argG m c) (argSh m c) (argSc m c)⟩,
     ⟨S256x1024, Cert.Reference4Ideal.Read.val_main_v47 (F := Ideal) (argX m c) (argG m c) (argSh m c) (argSc m c)⟩]
    concatenates_S8192x1024_S256x1024_S8448x1024_d0) bitsLt_bf16_f32 : FVec Ideal S8448x1024 .bf16) := by
  unfold right
  entry_read
  rfl
theorem right_fst (r : Fin 8192) (d : Fin 1024) :
    right m c (ix2 (fst r) d) = Cert.Reference4Ideal.Read.val_main_v23 (F := Ideal) (argX m c) (argG m c) (argSh m c) (argSc m c) (ix2 r d) := by
  rw [right_eq]
  pointwise
theorem right_snd (r : Fin 256) (d : Fin 1024) :
    right m c (ix2 (snd r) d) = Cert.Reference4Ideal.Read.val_main_v47 (F := Ideal) (argX m c) (argG m c) (argSh m c) (argSc m c) (ix2 r d) := by
  rw [right_eq]
  pointwise

theorem dw_at (a : Fin 2560) (d : Fin 1024) :
    Cert.Reference4Ideal.Read.val_main_v57 (F := Ideal) (left m c) (argX m c) (argG m c) (argSh m c) (argSc m c) (ix2 a d) = dw m c (ix2 a d) := by
  refine (reference_at _ _ _ _ _ a d).trans (Eq.symm ?_)
  refine (sum_rows fun l => left m c (ix2 l a) * right m c (ix2 l d)).trans (congrArg₂ (· + ·) ?_ ?_)
  · exact Finset.sum_congr rfl fun r _ => congrArg (left m c (ix2 (snd r) a) * ·) (right_snd m c r d)
  · exact Finset.sum_congr rfl fun r _ => congrArg (left m c (ix2 (fst r) a) * ·) (right_fst m c r d)
theorem left_eq : left m c = m ((c : Thread nD τ).loc main_arg0) := V_main_arg0 m c
theorem dw_eq :
    Cert.Reference4Ideal.Read.val_main_v57 (F := Ideal) (m ((c : Thread nD τ).loc main_arg0)) (argX m c) (argG m c) (argSh m c) (argSc m c) = dw m c := by
  rw [← left_eq m c]
  funext i
  rw [ValueIdx.eq_ix2 i]
  exact dw_at m c (i 0) (i 1)

end Operand

theorem frame_reference [Cert.Reference4Ideal.Facts] : Cert.quiescent_Reference4Ideal := fun m g _ =>
  (θ_run Cert.Reference4Ideal.defs _ _).mono
    (fun r h => ⟨fun c => (h c).2, sem_eq_zero_of_no_sems (by decide) r.2⟩) (Cert.Reference4Ideal.Value.run m g)

theorem rows_same : (Cert.Kernel4.defs₀ (F := Bits)) = (Cert.Kernel4Ideal.defs₀ (F := Bits)) := by
  unfold Cert.Kernel4.defs₀ Cert.Kernel4Ideal.defs₀
  refine congrArg Defs.onTc ?_
  funext l a
  match l, a with
  | 0, (t, s) => rfl

theorem defs_same : (Cert.Kernel4.defs (F := Bits)) = (Cert.Kernel4Ideal.defs (F := Bits)) := by
  unfold Cert.Kernel4.defs Cert.Kernel4Ideal.defs
  exact congrArg (Pipeline.defs _) rows_same

set_option maxHeartbeats 4000000 in
/-- The printed program runs, leaves its arguments and ends quiescent. -/
theorem quiescent [Cert.Kernel4.Facts] : Cert.quiescent_Kernel4 := fun m g _ => by
  rw [defs_same]
  exact Cert.Kernel4Ideal.Gen.frame m g

/-- The kernel's result is the reference's. -/
theorem algebraic [Cert.Kernel4Ideal.Facts] [Cert.Reference4Ideal.Facts] : Cert.algebraic_Kernel4Ideal_Reference4Ideal := by
  intro m g m' g' _ hag
  refine ⟨Cert.Kernel4Ideal.Run.dw m, (θ_run Cert.Kernel4Ideal.defs _ _).mono (fun r h c => ?_) (Cert.Kernel4Ideal.Value.run m g),
    (θ_run Cert.Reference4Ideal.defs _ _).mono (fun r h c => ?_) (Cert.Reference4Ideal.Value.run m' g')⟩
  · exact ⟨(h c).1.trans (Cert.Kernel4Ideal.Run.result m c), (h c).2⟩
  · obtain ⟨h0, hargs⟩ := h c
    obtain ⟨a0, a1, a2, a3, a4, -⟩ := hag c
    refine ⟨h0.trans ?_, hargs⟩
    refine (Cert.Reference4Ideal.Read.val_main_v57_eq _ _ _ _ _).trans ?_
    rw [a0, a1, a2, a3, a4]
    exact dw_eq m c

end Cert.WgradIn

end
-- ==== Proof.WgradQkvValue.lean ====
module

public import proofs.«01_k».proof.Proof.Gen.Kernel5Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Acc

@[expose] public section

set_option maxRecDepth 16384

noncomputable section

/-! What the result of the weight gradient's kernel holds, at the extended reals: for each pair of columns, the sum over
    all the rows of the products of the two operands' entries. -/

namespace Cert.Kernel5Ideal.Run

open Idealize.ShloMosaic Idealize.ShloMosaic.TcCoe Idealize.ShloMosaic.Tactic Idealize.SL.Sem
open Cert.Kernel5Ideal.Gen

/-- A block's share of an entry. -/
abbrev tile (a : Vec Ideal S2816x1536 .bf16) (b : Vec Ideal S2816x1024 .bf16) (j : S1536x1024.Idx) : EReal :=
  ∑ k : Fin 2816, a (ix2 k (j 0)) * b (ix2 k (j 1))

theorem reset_apply (j : S1536x1024.Idx) : k0_pay1 (F := Ideal) j = 0 := by
  unfold k0_pay1; pointwise
theorem step_apply (a : Vec Ideal S2816x1536 .bf16) (acc : Vec Ideal S1536x1024 .f32) (b : Vec Ideal S2816x1024 .bf16) (j : S1536x1024.Idx) :
    k0_pay2 a acc b j = acc j + tile a b j := by
  idx_vars j
  unfold k0_pay2 tile; pointwise

variable (m : (ℓ : Loc nD τ sig) → Buf (Elt Ideal) ℓ) (ρ : Dev nD → PrngReg)

theorem at_0 : ∀ t : Fin cfg0.N, win0_0.index t = ![t.val % 3, t.val / 3] := by decide +kernel
theorem at_1 : ∀ t : Fin cfg0.N, win0_1.index t = ![t.val % 3, 0] := by decide +kernel

/-- The two operands, as the kernel finds them. -/
abbrev left (c : Dev nD) : Vec Ideal S8448x1536 .bf16 := V m c main_arg0
abbrev right (c : Dev nD) : Vec Ideal S8448x1024 .bf16 := V m c main_v47

/-- What the kernel's result ends holding. -/
def dw (c : Dev nD) : Vec Ideal S1536x1024 .bf16 := fun i => ∑ l : Fin 8448, left m c (ix2 l (i 0)) * right m c (ix2 l (i 1))

theorem left_at (c : Dev nD) (t : Fin cfg0.N) (k : Fin 2816) (a : Fin 1536) (l : Fin 8448) (q : Fin 1536) (hl : l.val = t.val % 3 * 2816 + k.val)
    (hq : q.val = 1536 * (t.val / 3) + a.val) : (iblk m c 0 t : Vec Ideal S2816x1536 .bf16) (ix2 k a) = left m c (ix2 l q) := by
  obtain ⟨l, hl'⟩ := l
  obtain ⟨q, hq'⟩ := q
  change l = _ at hl
  change q = _ at hq
  subst hl hq
  unfold left
  blk_ext! [iblk, at_0 t]
theorem right_at (c : Dev nD) (t : Fin cfg0.N) (k : Fin 2816) (d : Fin 1024) (l : Fin 8448) (hl : l.val = t.val % 3 * 2816 + k.val) :
    (iblk m c 1 t : Vec Ideal S2816x1024 .bf16) (ix2 k d) = right m c (ix2 l d) := by
  obtain ⟨l, hl'⟩ := l
  change l = _ at hl
  subst hl
  unfold right
  blk_ext! [iblk, at_1 t]

/-- The carried sum after the last block of a run. -/
theorem carried (c : Dev nD) (t : Fin cfg0.N) (h2 : t.val % 3 = 2) (j : S1536x1024.Idx) :
    ((outsAt0 m c t.val t.isLt).2 j : EReal)
      = (0 : EReal) + ∑ s : Fin 3, tile (iblk m c 0 ⟨3 * (t.val / 3) + s.val, Pipeline.run_point_lt_of_flush t h2 s⟩) (iblk m c 1 ⟨3 * (t.val / 3) + s.val, Pipeline.run_point_lt_of_flush t h2 s⟩) j := by
  refine Pipeline.eq_sum_fin_of_reset_step_apply_of_flush (fun n h => (outsAt0 m c n h).2) 3 (fun _ => (0 : EReal))
    (fun t j => tile (iblk m c 0 t) (iblk m c 1 t) j) ?_ ?_ t h2 j
  · intro t h j
    rw [outsAt0_A m c t h (by omega)]
    frame_out
    rw [step_apply, reset_apply]
  · intro t h j
    by_cases h1 : t.val % 3 = 2
    · rw [outsAt0_C m c t h h1]
      frame_out
      rw [step_apply]
      exact congrArg (· + tile (iblk m c 0 t) (iblk m c 1 t) j) (congrFun ((Memref.isWhole_whole cc0_scratch0).read_unread _) j)
    · rw [outsAt0_B m c t h h1]
      frame_out
      rw [step_apply]
      exact congrArg (· + tile (iblk m c 0 t) (iblk m c 1 t) j) (congrFun ((Memref.isWhole_whole cc0_scratch0).read_unread _) j)

/-- The block written back is the carried sum. -/
theorem written (c : Dev nD) (t : Fin cfg0.N) (h2 : t.val % 3 = 2) (j : S1536x1024.Idx) :
    (outsAt0 m c t.val t.isLt).1 j = (outsAt0 m c t.val t.isLt).2 j := by
  rw [outsAt0_C m c t (by omega) h2]
  frame_out
  rfl

theorem blocks (c : Dev nD) (t : Fin cfg0.N) (h2 : t.val % 3 = 2) (j : S1536x1024.Idx) (q : Fin 1536) (hq : q.val = 1536 * (t.val / 3) + (j 0).val) :
    ∑ s : Fin 3, tile (iblk m c 0 ⟨3 * (t.val / 3) + s.val, Pipeline.run_point_lt_of_flush t h2 s⟩) (iblk m c 1 ⟨3 * (t.val / 3) + s.val, Pipeline.run_point_lt_of_flush t h2 s⟩) j
      = ∑ l : Fin 8448, left m c (ix2 l q) * right m c (ix2 l (j 1)) := by
  unfold tile
  refine Fin.sum_mul_add_congr fun s k hl => ?_
  refine congrArg₂ (· * ·) ?_ ?_
  · exact left_at m c _ _ _ _ _ (by dsimp only; omega) (by dsimp only; omega)
  · exact right_at m c _ _ _ _ (by dsimp only; omega)

theorem result (c : Dev nD) : Value.G2 m c = dw m c := by
  refine funext fun (i : S1536x1024.Idx) => ?_
  have h0 : (i 0).val < 1536 := (i 0).isLt
  have h1 : (i 1).val < 1024 := (i 1).isLt
  have hp : Value.pt2Of i = 3 * ((i 0).val / 1536) + 2 := by
    show 3 * (1 * ((i 0).val / 1536 - 0) + 1 * ((i 1).val / 1024 - 0)) + 2 = _
    omega
  have hN : Value.pt2Of i < cfg0.N := by
    rw [show cfg0.N = 3 from N_0, hp]; omega
  have e := Value.outsAt0_sweep m c (Value.pt2Of i) hN
  unfold Value.G2
  rw [dif_pos hN, ← e]
  have hm : Value.pt2Of i % 3 = 2 := by rw [hp]; omega
  refine (written m c ⟨Value.pt2Of i, hN⟩ hm _).trans ((carried m c ⟨Value.pt2Of i, hN⟩ hm _).trans ((zero_add _).trans ?_))
  refine (blocks m c ⟨Value.pt2Of i, hN⟩ hm _ (i 0) ?_).trans ?_
  · show (i 0).val = 1536 * (Value.pt2Of i / 3) + (i 0).val % 1536
    rw [hp]
    omega
  · unfold dw
    refine Finset.sum_congr rfl fun l _ => congrArg (left m c (ix2 l (i 0)) * ·) (congrArg (fun d => right m c (ix2 l d)) (Fin.ext ?_))
    exact Nat.mod_eq_of_lt h1

end Cert.Kernel5Ideal.Run

end
-- ==== Proof.WgradQkvClaims.lean ====
module

public import proofs.«01_k».proof.Proof.WgradQkvValue
public import proofs.«01_k».proof.Proof.WgradUpClaims
public import proofs.«01_k».proof.Proof.Gen.Reference5Ideal.Read
public import proofs.«01_k».proof.Proof.Gen.Reference5Ideal.Run
public import proofs.«01_k».proof.Proof.Gen.Kernel5
public import proofs.«01_k».proof.Defs

@[expose] public section

set_option maxRecDepth 16384

noncomputable section

/-! What the reference of the gradient of the attention's query, key and value weight computes, entry by entry, the operand the kernel's host
    code prepares, in the reference's terms, and the claims. -/

namespace Cert.WgradQkv

open Idealize.ShloMosaic Idealize.ShloMosaic.TcCoe Idealize.ShloMosaic.Tactic Idealize.SL.Sem

open Cert.WgradUp (fst snd sum_rows)

section Reference

open Cert.Reference5Ideal Cert.Reference5Ideal.Read

variable (x0 : Vec Ideal S8448x1536 .bf16) (x1 : Vec Ideal S8448x1024 .f32) (x2 : Vec Ideal S1x1024 .f32) (x3 x4 : Vec Ideal S2x1x1024 .f32)

theorem reference_at (a : Fin 1536) (d : Fin 1024) :
    val_main_v57 (F := Ideal) x0 x1 x2 x3 x4 (ix2 a d)
      = ∑ r : Fin 256, x0 (ix2 (snd r) a) * val_main_v47 (F := Ideal) x1 x2 x3 x4 (ix2 r d)
        + ∑ r : Fin 8192, x0 (ix2 (fst r) a) * val_main_v23 (F := Ideal) x1 x2 x3 x4 (ix2 r d) := by
  unfold val_main_v57 val_main_v56 val_main_v55 val_main_v54 val_main_v53 val_main_v52 val_main_v51 val_main_v50 val_main_v49 val_main_v0
  pointwise

end Reference

section Operand

open Cert.Kernel5Ideal Cert.Kernel5Ideal.Gen Cert.Kernel5Ideal.Run

variable (m : (ℓ : Loc nD τ sig) → Buf (Elt Ideal) ℓ) (c : Dev nD)

abbrev argX : Vec Ideal S8448x1024 .f32 := m ((c : Thread nD τ).loc main_arg1)
abbrev argG : Vec Ideal S1x1024 .f32 := m ((c : Thread nD τ).loc main_arg2)
abbrev argSh : Vec Ideal S2x1x1024 .f32 := m ((c : Thread nD τ).loc main_arg3)
abbrev argSc : Vec Ideal S2x1x1024 .f32 := m ((c : Thread nD τ).loc main_arg4)

theorem right_eq : right m c = (truncf .bf16 (concatenate S8448x1024 0
    [⟨S8192x1024, Cert.Reference5Ideal.Read.val_main_v23 (F := Ideal) (argX m c) (argG m c) (argSh m c) (argSc m c)⟩,
     ⟨S256x1024, Cert.Reference5Ideal.Read.val_main_v47 (F := Ideal) (argX m c) (argG m c) (argSh m c) (argSc m c)⟩]
    concatenates_S8192x1024_S256x1024_S8448x1024_d0) bitsLt_bf16_f32 : FVec Ideal S8448x1024 .bf16) := by
  unfold right
  entry_read
  rfl
theorem right_fst (r : Fin 8192) (d : Fin 1024) :
    right m c (ix2 (fst r) d) = Cert.Reference5Ideal.Read.val_main_v23 (F := Ideal) (argX m c) (argG m c) (argSh m c) (argSc m c) (ix2 r d) := by
  rw [right_eq]
  pointwise
theorem right_snd (r : Fin 256) (d : Fin 1024) :
    right m c (ix2 (snd r) d) = Cert.Reference5Ideal.Read.val_main_v47 (F := Ideal) (argX m c) (argG m c) (argSh m c) (argSc m c) (ix2 r d) := by
  rw [right_eq]
  pointwise

theorem dw_at (a : Fin 1536) (d : Fin 1024) :
    Cert.Reference5Ideal.Read.val_main_v57 (F := Ideal) (left m c) (argX m c) (argG m c) (argSh m c) (argSc m c) (ix2 a d) = dw m c (ix2 a d) := by
  refine (reference_at _ _ _ _ _ a d).trans (Eq.symm ?_)
  refine (sum_rows fun l => left m c (ix2 l a) * right m c (ix2 l d)).trans (congrArg₂ (· + ·) ?_ ?_)
  · exact Finset.sum_congr rfl fun r _ => congrArg (left m c (ix2 (snd r) a) * ·) (right_snd m c r d)
  · exact Finset.sum_congr rfl fun r _ => congrArg (left m c (ix2 (fst r) a) * ·) (right_fst m c r d)
theorem left_eq : left m c = m ((c : Thread nD τ).loc main_arg0) := V_main_arg0 m c
theorem dw_eq :
    Cert.Reference5Ideal.Read.val_main_v57 (F := Ideal) (m ((c : Thread nD τ).loc main_arg0)) (argX m c) (argG m c) (argSh m c) (argSc m c) = dw m c := by
  rw [← left_eq m c]
  funext i
  rw [ValueIdx.eq_ix2 i]
  exact dw_at m c (i 0) (i 1)

end Operand

theorem frame_reference [Cert.Reference5Ideal.Facts] : Cert.quiescent_Reference5Ideal := fun m g _ =>
  (θ_run Cert.Reference5Ideal.defs _ _).mono
    (fun r h => ⟨fun c => (h c).2, sem_eq_zero_of_no_sems (by decide) r.2⟩) (Cert.Reference5Ideal.Value.run m g)

theorem rows_same : (Cert.Kernel5.defs₀ (F := Bits)) = (Cert.Kernel5Ideal.defs₀ (F := Bits)) := by
  unfold Cert.Kernel5.defs₀ Cert.Kernel5Ideal.defs₀
  refine congrArg Defs.onTc ?_
  funext l a
  match l, a with
  | 0, (t, s) => rfl

theorem defs_same : (Cert.Kernel5.defs (F := Bits)) = (Cert.Kernel5Ideal.defs (F := Bits)) := by
  unfold Cert.Kernel5.defs Cert.Kernel5Ideal.defs
  exact congrArg (Pipeline.defs _) rows_same

set_option maxHeartbeats 4000000 in
/-- The printed program runs, leaves its arguments and ends quiescent. -/
theorem quiescent [Cert.Kernel5.Facts] : Cert.quiescent_Kernel5 := fun m g _ => by
  rw [defs_same]
  exact Cert.Kernel5Ideal.Gen.frame m g

/-- The kernel's result is the reference's. -/
theorem algebraic [Cert.Kernel5Ideal.Facts] [Cert.Reference5Ideal.Facts] : Cert.algebraic_Kernel5Ideal_Reference5Ideal := by
  intro m g m' g' _ hag
  refine ⟨Cert.Kernel5Ideal.Run.dw m, (θ_run Cert.Kernel5Ideal.defs _ _).mono (fun r h c => ?_) (Cert.Kernel5Ideal.Value.run m g),
    (θ_run Cert.Reference5Ideal.defs _ _).mono (fun r h c => ?_) (Cert.Reference5Ideal.Value.run m' g')⟩
  · exact ⟨(h c).1.trans (Cert.Kernel5Ideal.Run.result m c), (h c).2⟩
  · obtain ⟨h0, hargs⟩ := h c
    obtain ⟨a0, a1, a2, a3, a4, -⟩ := hag c
    refine ⟨h0.trans ?_, hargs⟩
    refine (Cert.Reference5Ideal.Read.val_main_v57_eq _ _ _ _ _).trans ?_
    rw [a0, a1, a2, a3, a4]
    exact dw_eq m c

end Cert.WgradQkv

end
-- ==== Proof.WgradOutValue.lean ====
module

public import proofs.«01_k».proof.Proof.Gen.Kernel6Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Acc

@[expose] public section

set_option maxRecDepth 16384

noncomputable section

/-! What the result of the weight gradient's kernel holds, at the extended reals: for each pair of columns, the sum over
    all the rows of the products of the two operands' entries. -/

namespace Cert.Kernel6Ideal.Run

open Idealize.ShloMosaic Idealize.ShloMosaic.TcCoe Idealize.ShloMosaic.Tactic Idealize.SL.Sem
open Cert.Kernel6Ideal.Gen

/-- A block's share of an entry. -/
abbrev tile (a : Vec Ideal S2816x1024 .bf16) (b : Vec Ideal S2816x1024 .bf16) (j : S1024x1024.Idx) : EReal :=
  ∑ k : Fin 2816, a (ix2 k (j 0)) * b (ix2 k (j 1))

theorem reset_apply (j : S1024x1024.Idx) : k0_pay1 (F := Ideal) j = 0 := by
  unfold k0_pay1; pointwise
theorem step_apply (a : Vec Ideal S2816x1024 .bf16) (acc : Vec Ideal S1024x1024 .f32) (b : Vec Ideal S2816x1024 .bf16) (j : S1024x1024.Idx) :
    k0_pay2 a acc b j = acc j + tile a b j := by
  idx_vars j
  unfold k0_pay2 tile; pointwise

variable (m : (ℓ : Loc nD τ sig) → Buf (Elt Ideal) ℓ) (ρ : Dev nD → PrngReg)

theorem at_0 : ∀ t : Fin cfg0.N, win0_0.index t = ![t.val % 3, t.val / 3] := by decide +kernel
theorem at_1 : ∀ t : Fin cfg0.N, win0_1.index t = ![t.val % 3, 0] := by decide +kernel

/-- The two operands, as the kernel finds them. -/
abbrev left (c : Dev nD) : Vec Ideal S8448x1024 .bf16 := V m c main_arg0
abbrev right (c : Dev nD) : Vec Ideal S8448x1024 .bf16 := V m c main_arg1

/-- What the kernel's result ends holding. -/
def dw (c : Dev nD) : Vec Ideal S1024x1024 .bf16 := fun i => ∑ l : Fin 8448, left m c (ix2 l (i 0)) * right m c (ix2 l (i 1))

theorem left_at (c : Dev nD) (t : Fin cfg0.N) (k : Fin 2816) (a : Fin 1024) (l : Fin 8448) (q : Fin 1024) (hl : l.val = t.val % 3 * 2816 + k.val)
    (hq : q.val = 1024 * (t.val / 3) + a.val) : (iblk m c 0 t : Vec Ideal S2816x1024 .bf16) (ix2 k a) = left m c (ix2 l q) := by
  obtain ⟨l, hl'⟩ := l
  obtain ⟨q, hq'⟩ := q
  change l = _ at hl
  change q = _ at hq
  subst hl hq
  unfold left
  blk_ext! [iblk, at_0 t]
theorem right_at (c : Dev nD) (t : Fin cfg0.N) (k : Fin 2816) (d : Fin 1024) (l : Fin 8448) (hl : l.val = t.val % 3 * 2816 + k.val) :
    (iblk m c 1 t : Vec Ideal S2816x1024 .bf16) (ix2 k d) = right m c (ix2 l d) := by
  obtain ⟨l, hl'⟩ := l
  change l = _ at hl
  subst hl
  unfold right
  blk_ext! [iblk, at_1 t]

/-- The carried sum after the last block of a run. -/
theorem carried (c : Dev nD) (t : Fin cfg0.N) (h2 : t.val % 3 = 2) (j : S1024x1024.Idx) :
    ((outsAt0 m c t.val t.isLt).2 j : EReal)
      = (0 : EReal) + ∑ s : Fin 3, tile (iblk m c 0 ⟨3 * (t.val / 3) + s.val, Pipeline.run_point_lt_of_flush t h2 s⟩) (iblk m c 1 ⟨3 * (t.val / 3) + s.val, Pipeline.run_point_lt_of_flush t h2 s⟩) j := by
  refine Pipeline.eq_sum_fin_of_reset_step_apply_of_flush (fun n h => (outsAt0 m c n h).2) 3 (fun _ => (0 : EReal))
    (fun t j => tile (iblk m c 0 t) (iblk m c 1 t) j) ?_ ?_ t h2 j
  · intro t h j
    rw [outsAt0_A m c t h (by omega)]
    frame_out
    rw [step_apply, reset_apply]
  · intro t h j
    by_cases h1 : t.val % 3 = 2
    · rw [outsAt0_C m c t h h1]
      frame_out
      rw [step_apply]
      exact congrArg (· + tile (iblk m c 0 t) (iblk m c 1 t) j) (congrFun ((Memref.isWhole_whole cc0_scratch0).read_unread _) j)
    · rw [outsAt0_B m c t h h1]
      frame_out
      rw [step_apply]
      exact congrArg (· + tile (iblk m c 0 t) (iblk m c 1 t) j) (congrFun ((Memref.isWhole_whole cc0_scratch0).read_unread _) j)

/-- The block written back is the carried sum. -/
theorem written (c : Dev nD) (t : Fin cfg0.N) (h2 : t.val % 3 = 2) (j : S1024x1024.Idx) :
    (outsAt0 m c t.val t.isLt).1 j = (outsAt0 m c t.val t.isLt).2 j := by
  rw [outsAt0_C m c t (by omega) h2]
  frame_out
  rfl

theorem blocks (c : Dev nD) (t : Fin cfg0.N) (h2 : t.val % 3 = 2) (j : S1024x1024.Idx) (q : Fin 1024) (hq : q.val = 1024 * (t.val / 3) + (j 0).val) :
    ∑ s : Fin 3, tile (iblk m c 0 ⟨3 * (t.val / 3) + s.val, Pipeline.run_point_lt_of_flush t h2 s⟩) (iblk m c 1 ⟨3 * (t.val / 3) + s.val, Pipeline.run_point_lt_of_flush t h2 s⟩) j
      = ∑ l : Fin 8448, left m c (ix2 l q) * right m c (ix2 l (j 1)) := by
  unfold tile
  refine Fin.sum_mul_add_congr fun s k hl => ?_
  refine congrArg₂ (· * ·) ?_ ?_
  · exact left_at m c _ _ _ _ _ (by dsimp only; omega) (by dsimp only; omega)
  · exact right_at m c _ _ _ _ (by dsimp only; omega)

theorem result (c : Dev nD) : Value.G2 m c = dw m c := by
  refine funext fun (i : S1024x1024.Idx) => ?_
  have h0 : (i 0).val < 1024 := (i 0).isLt
  have h1 : (i 1).val < 1024 := (i 1).isLt
  have hp : Value.pt2Of i = 3 * ((i 0).val / 1024) + 2 := by
    show 3 * (1 * ((i 0).val / 1024 - 0) + 1 * ((i 1).val / 1024 - 0)) + 2 = _
    omega
  have hN : Value.pt2Of i < cfg0.N := by
    rw [show cfg0.N = 3 from N_0, hp]; omega
  have e := Value.outsAt0_sweep m c (Value.pt2Of i) hN
  unfold Value.G2
  rw [dif_pos hN, ← e]
  have hm : Value.pt2Of i % 3 = 2 := by rw [hp]; omega
  refine (written m c ⟨Value.pt2Of i, hN⟩ hm _).trans ((carried m c ⟨Value.pt2Of i, hN⟩ hm _).trans ((zero_add _).trans ?_))
  refine (blocks m c ⟨Value.pt2Of i, hN⟩ hm _ (i 0) ?_).trans ?_
  · show (i 0).val = 1024 * (Value.pt2Of i / 3) + (i 0).val % 1024
    rw [hp]
    omega
  · unfold dw
    refine Finset.sum_congr rfl fun l _ => congrArg (left m c (ix2 l (i 0)) * ·) (congrArg (fun d => right m c (ix2 l d)) (Fin.ext ?_))
    exact Nat.mod_eq_of_lt h1

end Cert.Kernel6Ideal.Run

end
-- ==== Proof.WgradOutClaims.lean ====
module

public import proofs.«01_k».proof.Proof.WgradOutValue
public import proofs.«01_k».proof.Proof.WgradUpClaims
public import proofs.«01_k».proof.Proof.Gen.Reference6Ideal.Read
public import proofs.«01_k».proof.Proof.Gen.Reference6Ideal.Run
public import proofs.«01_k».proof.Proof.Gen.Kernel6
public import proofs.«01_k».proof.Defs

@[expose] public section

set_option maxRecDepth 16384

noncomputable section

/-! What the reference of the output projection's weight gradient computes, entry by entry, and the claims. -/

namespace Cert.WgradOut

open Idealize.ShloMosaic Idealize.ShloMosaic.TcCoe Idealize.ShloMosaic.Tactic Idealize.SL.Sem
open Cert.WgradUp (fst snd sum_rows)

section Reference

open Cert.Reference6Ideal Cert.Reference6Ideal.Read

variable (x0 x1 : Vec Ideal S8448x1024 .bf16)

theorem reference_at (a d : Fin 1024) :
    val_main_v13 (F := Ideal) x0 x1 (ix2 a d)
      = ∑ r : Fin 256, x1 (ix2 (snd r) d) * x0 (ix2 (snd r) a) + ∑ r : Fin 8192, x1 (ix2 (fst r) d) * x0 (ix2 (fst r) a) := by
  unfold val_main_v13 val_main_v12 val_main_v11 val_main_v10 val_main_v9 val_main_v8 val_main_v7 val_main_v6 val_main_v4 val_main_v2 val_main_v1 val_main_v0
  pointwise

end Reference

section Operand

open Cert.Kernel6Ideal Cert.Kernel6Ideal.Gen Cert.Kernel6Ideal.Run

variable (m : (ℓ : Loc nD τ sig) → Buf (Elt Ideal) ℓ) (c : Dev nD)

theorem dw_at (a d : Fin 1024) :
    Cert.Reference6Ideal.Read.val_main_v13 (F := Ideal) (left m c) (right m c) (ix2 a d) = dw m c (ix2 a d) := by
  refine (reference_at _ _ a d).trans (Eq.symm ?_)
  refine (sum_rows fun l => left m c (ix2 l a) * right m c (ix2 l d)).trans (congrArg₂ (· + ·) ?_ ?_)
  · exact Finset.sum_congr rfl fun r _ => mul_comm _ _
  · exact Finset.sum_congr rfl fun r _ => mul_comm _ _
theorem left_eq : left m c = m ((c : Thread nD τ).loc main_arg0) := V_main_arg0 m c
theorem right_eq : right m c = m ((c : Thread nD τ).loc main_arg1) := V_main_arg1 m c
theorem dw_eq :
    Cert.Reference6Ideal.Read.val_main_v13 (F := Ideal) (m ((c : Thread nD τ).loc main_arg0)) (m ((c : Thread nD τ).loc main_arg1)) = dw m c := by
  rw [← left_eq m c, ← right_eq m c]
  funext i
  rw [ValueIdx.eq_ix2 i]
  exact dw_at m c (i 0) (i 1)

end Operand

theorem frame_reference [Cert.Reference6Ideal.Facts] : Cert.quiescent_Reference6Ideal := fun m g _ =>
  (θ_run Cert.Reference6Ideal.defs _ _).mono
    (fun r h => ⟨fun c => (h c).2, sem_eq_zero_of_no_sems (by decide) r.2⟩) (Cert.Reference6Ideal.Value.run m g)

theorem rows_same : (Cert.Kernel6.defs₀ (F := Bits)) = (Cert.Kernel6Ideal.defs₀ (F := Bits)) := by
  unfold Cert.Kernel6.defs₀ Cert.Kernel6Ideal.defs₀
  refine congrArg Defs.onTc ?_
  funext l a
  match l, a with
  | 0, (t, s) => rfl

theorem defs_same : (Cert.Kernel6.defs (F := Bits)) = (Cert.Kernel6Ideal.defs (F := Bits)) := by
  unfold Cert.Kernel6.defs Cert.Kernel6Ideal.defs
  exact congrArg (Pipeline.defs _) rows_same

set_option maxHeartbeats 4000000 in
/-- The printed program runs, leaves its arguments and ends quiescent. -/
theorem quiescent [Cert.Kernel6.Facts] : Cert.quiescent_Kernel6 := fun m g _ => by
  rw [defs_same]
  exact Cert.Kernel6Ideal.Gen.frame m g

/-- The kernel's result is the reference's. -/
theorem algebraic [Cert.Kernel6Ideal.Facts] [Cert.Reference6Ideal.Facts] : Cert.algebraic_Kernel6Ideal_Reference6Ideal := by
  intro m g m' g' _ hag
  refine ⟨Cert.Kernel6Ideal.Run.dw m, (θ_run Cert.Kernel6Ideal.defs _ _).mono (fun r h c => ?_) (Cert.Kernel6Ideal.Value.run m g),
    (θ_run Cert.Reference6Ideal.defs _ _).mono (fun r h c => ?_) (Cert.Reference6Ideal.Value.run m' g')⟩
  · exact ⟨(h c).1.trans (Cert.Kernel6Ideal.Run.result m c), (h c).2⟩
  · obtain ⟨h0, hargs⟩ := h c
    obtain ⟨a0, a1, -⟩ := hag c
    refine ⟨h0.trans ?_, hargs⟩
    refine (Cert.Reference6Ideal.Read.val_main_v13_eq _ _).trans ?_
    rw [a0, a1]
    exact dw_eq m c

end Cert.WgradOut

end
-- ==== Proof.BwdDownRun.lean ====
module

public import proofs.«01_k».proof.Proof.Gen.Kernel7Ideal.Frame
public import proofs.«01_k».proof.Proof.Gen.Kernel7Ideal.Skeleton
public import Idealize.ShloMosaic.Lib.VecWindow
public import Idealize.ShloMosaic.Lib.WritesUnit
public import Idealize.ShloMosaic.Lib.ValueLayout
public import Idealize.ShloMosaic.Lib.Claim

@[expose] public section

set_option maxRecDepth 16384

noncomputable section

namespace Cert.Kernel7Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Whole
variable {Val : EltTy → Type} {S : Shape} {e : EltTy} {sp : Space}

/-- A load of everything, from a whole buffer holding `x`, reads `x`. -/
theorem load_whole {M : Memref sig .tc sp S e} (h : M.IsWhole) (x : S.Idx → Val e) {off : Fin S.rank → ℕ} (inb : ∀ a, off a + S.size a ≤ S.size a) :
    M.view.readAt Val (Rect.unit off (no_index S.size) inb).toLoadRect (h.unread x) = x := by
  rw [View.readAt_full]; exact h.read_unread x

/-- A load of everything, after a store of everything, reads what was stored. -/
theorem load_stored [∀ e, Nonempty (Val e)] (v : View sig .tc sp S e) {off off' : Fin S.rank → ℕ} (inb : ∀ a, off a + S.size a ≤ S.size a) (inb' : ∀ a, off' a + S.size a ≤ S.size a)
    (w : S.Idx → Val e) (L : List (View.Piece Val S e)) :
    v.readCov ((⟨Rect.unit off' (no_index S.size) inb', w⟩ : View.Piece Val S e) :: L) (Rect.unit off (no_index S.size) inb).toLoadRect = w :=
  View.readCov_full v inb inb' w L

/-- After a store of everything the buffer holds what was stored, whatever was there. -/
theorem stored_whole (v : View sig .tc sp S e) (f : v.ty.Contents Val) {off : Fin S.rank → ℕ} (inb : ∀ a, off a + S.size a ≤ S.size a)
    (w x : S.Idx → Val e) (L : List (View.Piece Val S e)) (h : w = x) :
    v.read Val (v.writes Val f ((⟨Rect.unit off (no_index S.size) inb, w⟩ : View.Piece Val S e) :: L)) = x :=
  (View.read_writes_full v f inb w L).trans h
end Whole

/-- The grid point is the first: the weight is copied in. -/
abbrev condFirst (i : grid0.Coords) : Prop := (Scalar.cmpi .ne (Scalar.extui (Scalar.cmpi .eq (BitVec.ofNat 32 (i 0).val) 0#32)) 0#32) = 1#1
/-- The grid point is the first of its stream: the sum over one stream's rows starts at zero. -/
abbrev condStream (i : grid0.Coords) : Prop := (Scalar.cmpi .ne (Scalar.extui (Scalar.ori (Scalar.cmpi .eq (BitVec.ofNat 32 (i 0).val) 0#32) (Scalar.cmpi .eq (BitVec.ofNat 32 (i 0).val) 32#32))) 0#32) = 1#1

/-- The operand the body copies in itself: the gathered weights, whole. -/
abbrev hbM0_0 : Memref sig .tc .hbm S8x1056x1024 .bf16 := Memref.whole main_v7
/-- The contents type of a memref's buffer. -/
abbrev HbBuf0 (c : Dev nD) {sp : Space} {S : Shape} {e : EltTy} (M : Memref sig .tc sp S e) : Type := Buf (Elt F) (M.view.loc (c : Thread nD τ))
/-- A memref's buffer, held whole at given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The weight the body works with: row `352 e + r` is row `704 + r` of slab `e` of the gathered weights. -/
def weightOf {c : Dev nD} (g : HbBuf0 (F := F) c hbM0_0) : Vec F S2816x1024 .bf16 :=
  fun y => (hbM0_0.view.read (Elt F) g : Vec F S8x1056x1024 .bf16) fun a => match a with
    | ⟨0, _⟩ => (⟨(y 0).val / 352, by have := (y 0).isLt; change _ < 2816 at this; show _ < 8; omega⟩ : Fin 8)
    | ⟨1, _⟩ => (⟨704 + (y 0).val % 352, by show _ < 1056; omega⟩ : Fin 1056)
    | ⟨2, _⟩ => (⟨(y 1).val, (y 1).isLt⟩ : Fin 1024)

/-- The body's own transfer cells, all at zero. -/
def cells (c : Dev nD) : sProp 𝕄 :=
  iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)

/-- Row `x` of the copied slab `e` is row `352 e + x` of the weight. -/
theorem slab_apply {c : Dev nD} (g : HbBuf0 (F := F) c hbM0_0) (e : ℕ) (he : e < 8) (inb : ∀ a, (![e, 704, 0] : Fin 3 → ℕ) a + (![1, 352, 1024] : Fin 3 → ℕ) a ≤ S8x1056x1024.size a)
    (hn : S352x1024.numel = (Rect.unit (s := S8x1056x1024) ![e, 704, 0] ![1, 352, 1024] inb).shape.numel) (x : S352x1024.Idx) (y : S2816x1024.Idx)
    (h0 : (y 0).val = 352 * e + (x 0).val) (h1 : (y 1).val = (x 1).val) :
    (View.read (Elt F) (((View.whole main_v7).slice (Rect.unit ![e, 704, 0] ![1, 352, 1024] inb)).reshape S352x1024 hn) g : Vec F S352x1024 .bf16) x = weightOf g y := by
  have hx0 : (x 0).val < 352 := (x 0).isLt
  have hx : x = ValueIdx.ix2 (x 0) (x 1) := ValueIdx.eq_ix2 x
  show (View.read (Elt F) ((View.whole main_v7).slice (Rect.unit ![e, 704, 0] ![1, 352, 1024] inb)) g) (Shape.reshapeEquiv hn x) = _
  rw [hx]
  erw [ValueIdx.reshapeEquiv_ix2_1ab]
  unfold weightOf
  show View.read (Elt F) (View.whole main_v7) g _ = View.read (Elt F) (View.whole main_v7) g _
  refine congrArg _ (funext fun a => Fin.ext ?_)
  match a with
  | ⟨0, _⟩ => show e + 1 * 0 = (y 0).val / 352; omega
  | ⟨1, _⟩ => show 704 + 1 * (x 0).val = 704 + (y 0).val % 352; omega
  | ⟨2, _⟩ => show 0 + 1 * (x 1).val = (y 1).val; omega

/-- After the eight copies the scratch holds the weight, whatever was there. -/
theorem read_slabs {c : Dev nD} (g : HbBuf0 (F := F) c hbM0_0) (v : View sig .tc .vmem S2816x1024 .bf16) (f : v.ty.Contents (Elt F))
    (b0 : ∀ a, (![0, 0] : Fin 2 → ℕ) a + S352x1024.size a ≤ S2816x1024.size a) (s0 : ∀ a, (![0, 704, 0] : Fin 3 → ℕ) a + (![1, 352, 1024] : Fin 3 → ℕ) a ≤ S8x1056x1024.size a) (n0 : S352x1024.numel = (Rect.unit (s := S8x1056x1024) ![0, 704, 0] ![1, 352, 1024] s0).shape.numel)
    (b1 : ∀ a, (![352, 0] : Fin 2 → ℕ) a + S352x1024.size a ≤ S2816x1024.size a) (s1 : ∀ a, (![1, 704, 0] : Fin 3 → ℕ) a + (![1, 352, 1024] : Fin 3 → ℕ) a ≤ S8x1056x1024.size a) (n1 : S352x1024.numel = (Rect.unit (s := S8x1056x1024) ![1, 704, 0] ![1, 352, 1024] s1).shape.numel)
    (b2 : ∀ a, (![704, 0] : Fin 2 → ℕ) a + S352x1024.size a ≤ S2816x1024.size a) (s2 : ∀ a, (![2, 704, 0] : Fin 3 → ℕ) a + (![1, 352, 1024] : Fin 3 → ℕ) a ≤ S8x1056x1024.size a) (n2 : S352x1024.numel = (Rect.unit (s := S8x1056x1024) ![2, 704, 0] ![1, 352, 1024] s2).shape.numel)
    (b3 : ∀ a, (![1056, 0] : Fin 2 → ℕ) a + S352x1024.size a ≤ S2816x1024.size a) (s3 : ∀ a, (![3, 704, 0] : Fin 3 → ℕ) a + (![1, 352, 1024] : Fin 3 → ℕ) a ≤ S8x1056x1024.size a) (n3 : S352x1024.numel = (Rect.unit (s := S8x1056x1024) ![3, 704, 0] ![1, 352, 1024] s3).shape.numel)
    (b4 : ∀ a, (![1408, 0] : Fin 2 → ℕ) a + S352x1024.size a ≤ S2816x1024.size a) (s4 : ∀ a, (![4, 704, 0] : Fin 3 → ℕ) a + (![1, 352, 1024] : Fin 3 → ℕ) a ≤ S8x1056x1024.size a) (n4 : S352x1024.numel = (Rect.unit (s := S8x1056x1024) ![4, 704, 0] ![1, 352, 1024] s4).shape.numel)
    (b5 : ∀ a, (![1760, 0] : Fin 2 → ℕ) a + S352x1024.size a ≤ S2816x1024.size a) (s5 : ∀ a, (![5, 704, 0] : Fin 3 → ℕ) a + (![1, 352, 1024] : Fin 3 → ℕ) a ≤ S8x1056x1024.size a) (n5 : S352x1024.numel = (Rect.unit (s := S8x1056x1024) ![5, 704, 0] ![1, 352, 1024] s5).shape.numel)
    (b6 : ∀ a, (![2112, 0] : Fin 2 → ℕ) a + S352x1024.size a ≤ S2816x1024.size a) (s6 : ∀ a, (![6, 704, 0] : Fin 3 → ℕ) a + (![1, 352, 1024] : Fin 3 → ℕ) a ≤ S8x1056x1024.size a) (n6 : S352x1024.numel = (Rect.unit (s := S8x1056x1024) ![6, 704, 0] ![1, 352, 1024] s6).shape.numel)
    (b7 : ∀ a, (![2464, 0] : Fin 2 → ℕ) a + S352x1024.size a ≤ S2816x1024.size a) (s7 : ∀ a, (![7, 704, 0] : Fin 3 → ℕ) a + (![1, 352, 1024] : Fin 3 → ℕ) a ≤ S8x1056x1024.size a) (n7 : S352x1024.numel = (Rect.unit (s := S8x1056x1024) ![7, 704, 0] ![1, 352, 1024] s7).shape.numel) :
    v.read (Elt F) (v.writes (Elt F) f
      [⟨Rect.unit ![2464, 0] (no_index S352x1024.size) b7, ReadAs.same.apply (View.read (Elt F) (((View.whole main_v7).slice (Rect.unit ![7, 704, 0] ![1, 352, 1024] s7)).reshape S352x1024 n7) g)⟩,
        ⟨Rect.unit ![2112, 0] (no_index S352x1024.size) b6, ReadAs.same.apply (View.read (Elt F) (((View.whole main_v7).slice (Rect.unit ![6, 704, 0] ![1, 352, 1024] s6)).reshape S352x1024 n6) g)⟩,
        ⟨Rect.unit ![1760, 0] (no_index S352x1024.size) b5, ReadAs.same.apply (View.read (Elt F) (((View.whole main_v7).slice (Rect.unit ![5, 704, 0] ![1, 352, 1024] s5)).reshape S352x1024 n5) g)⟩,
        ⟨Rect.unit ![1408, 0] (no_index S352x1024.size) b4, ReadAs.same.apply (View.read (Elt F) (((View.whole main_v7).slice (Rect.unit ![4, 704, 0] ![1, 352, 1024] s4)).reshape S352x1024 n4) g)⟩,
        ⟨Rect.unit ![1056, 0] (no_index S352x1024.size) b3, ReadAs.same.apply (View.read (Elt F) (((View.whole main_v7).slice (Rect.unit ![3, 704, 0] ![1, 352, 1024] s3)).reshape S352x1024 n3) g)⟩,
        ⟨Rect.unit ![704, 0] (no_index S352x1024.size) b2, ReadAs.same.apply (View.read (Elt F) (((View.whole main_v7).slice (Rect.unit ![2, 704, 0] ![1, 352, 1024] s2)).reshape S352x1024 n2) g)⟩,
        ⟨Rect.unit ![352, 0] (no_index S352x1024.size) b1, ReadAs.same.apply (View.read (Elt F) (((View.whole main_v7).slice (Rect.unit ![1, 704, 0] ![1, 352, 1024] s1)).reshape S352x1024 n1) g)⟩,
        ⟨Rect.unit ![0, 0] (no_index S352x1024.size) b0, ReadAs.same.apply (View.read (Elt F) (((View.whole main_v7).slice (Rect.unit ![0, 704, 0] ![1, 352, 1024] s0)).reshape S352x1024 n0) g)⟩]) = weightOf g := by
  funext y
  have hy : (y 0).val < 2816 := (y 0).isLt
  by_cases h7 : 2464 ≤ (y 0).val
  · exact (View.read_writes_cons_rows_of_mem v f b7 _ _ y (ValueIdx.ix2 ⟨(y 0).val - 2464, by show _ < 352; omega⟩ (y 1)) rfl (by show (y 0).val = 2464 + ((y 0).val - 2464); omega) rfl).trans (slab_apply g 7 (by omega) s7 n7 _ y (by show (y 0).val = 352 * 7 + ((y 0).val - 2464); omega) rfl)
  refine (View.read_writes_cons_rows_of_not_mem v f b7 _ _ y rfl (W := 352) rfl (Or.inl (by omega))).trans ?_
  by_cases h6 : 2112 ≤ (y 0).val
  · exact (View.read_writes_cons_rows_of_mem v f b6 _ _ y (ValueIdx.ix2 ⟨(y 0).val - 2112, by show _ < 352; omega⟩ (y 1)) rfl (by show (y 0).val = 2112 + ((y 0).val - 2112); omega) rfl).trans (slab_apply g 6 (by omega) s6 n6 _ y (by show (y 0).val = 352 * 6 + ((y 0).val - 2112); omega) rfl)
  refine (View.read_writes_cons_rows_of_not_mem v f b6 _ _ y rfl (W := 352) rfl (Or.inl (by omega))).trans ?_
  by_cases h5 : 1760 ≤ (y 0).val
  · exact (View.read_writes_cons_rows_of_mem v f b5 _ _ y (ValueIdx.ix2 ⟨(y 0).val - 1760, by show _ < 352; omega⟩ (y 1)) rfl (by show (y 0).val = 1760 + ((y 0).val - 1760); omega) rfl).trans (slab_apply g 5 (by omega) s5 n5 _ y (by show (y 0).val = 352 * 5 + ((y 0).val - 1760); omega) rfl)
  refine (View.read_writes_cons_rows_of_not_mem v f b5 _ _ y rfl (W := 352) rfl (Or.inl (by omega))).trans ?_
  by_cases h4 : 1408 ≤ (y 0).val
  · exact (View.read_writes_cons_rows_of_mem v f b4 _ _ y (ValueIdx.ix2 ⟨(y 0).val - 1408, by show _ < 352; omega⟩ (y 1)) rfl (by show (y 0).val = 1408 + ((y 0).val - 1408); omega) rfl).trans (slab_apply g 4 (by omega) s4 n4 _ y (by show (y 0).val = 352 * 4 + ((y 0).val - 1408); omega) rfl)
  refine (View.read_writes_cons_rows_of_not_mem v f b4 _ _ y rfl (W := 352) rfl (Or.inl (by omega))).trans ?_
  by_cases h3 : 1056 ≤ (y 0).val
  · exact (View.read_writes_cons_rows_of_mem v f b3 _ _ y (ValueIdx.ix2 ⟨(y 0).val - 1056, by show _ < 352; omega⟩ (y 1)) rfl (by show (y 0).val = 1056 + ((y 0).val - 1056); omega) rfl).trans (slab_apply g 3 (by omega) s3 n3 _ y (by show (y 0).val = 352 * 3 + ((y 0).val - 1056); omega) rfl)
  refine (View.read_writes_cons_rows_of_not_mem v f b3 _ _ y rfl (W := 352) rfl (Or.inl (by omega))).trans ?_
  by_cases h2 : 704 ≤ (y 0).val
  · exact (View.read_writes_cons_rows_of_mem v f b2 _ _ y (ValueIdx.ix2 ⟨(y 0).val - 704, by show _ < 352; omega⟩ (y 1)) rfl (by show (y 0).val = 704 + ((y 0).val - 704); omega) rfl).trans (slab_apply g 2 (by omega) s2 n2 _ y (by show (y 0).val = 352 * 2 + ((y 0).val - 704); omega) rfl)
  refine (View.read_writes_cons_rows_of_not_mem v f b2 _ _ y rfl (W := 352) rfl (Or.inl (by omega))).trans ?_
  by_cases h1 : 352 ≤ (y 0).val
  · exact (View.read_writes_cons_rows_of_mem v f b1 _ _ y (ValueIdx.ix2 ⟨(y 0).val - 352, by show _ < 352; omega⟩ (y 1)) rfl (by show (y 0).val = 352 + ((y 0).val - 352); omega) rfl).trans (slab_apply g 1 (by omega) s1 n1 _ y (by show (y 0).val = 352 * 1 + ((y 0).val - 352); omega) rfl)
  refine (View.read_writes_cons_rows_of_not_mem v f b1 _ _ y rfl (W := 352) rfl (Or.inl (by omega))).trans ?_
  exact (View.read_writes_cons_rows_of_mem v f b0 _ _ y (ValueIdx.ix2 ⟨(y 0).val - 0, by show _ < 352; omega⟩ (y 1)) rfl (by show (y 0).val = 0 + ((y 0).val - 0); omega) rfl).trans (slab_apply g 0 (by omega) s0 n0 _ y (by show (y 0).val = 352 * 0 + ((y 0).val - 0); omega) rfl)

/-- The weight's rows from `o` on, 256 of them. -/
def rowsAt (x : Vec F S2816x1024 .bf16) (o : ℕ) : Vec F S256x1024 .bf16 :=
  fun z => x (ValueIdx.ix2 ⟨(o + (z 0).val) % 2816, Nat.mod_lt _ (by decide)⟩ (z 1))

/-- A load of 256 rows reads them. -/
theorem readAt_rows (v : View sig .tc .vmem S2816x1024 .bf16) (f : v.ty.Contents (Elt F)) (x : Vec F S2816x1024 .bf16) (hx : v.read (Elt F) f = x) {o : ℕ} (inb : ∀ a, (![o, 0] : Fin 2 → ℕ) a + S256x1024.size a ≤ S2816x1024.size a) :
    v.readAt (Elt F) (Rect.unit (s := S2816x1024) ![o, 0] (no_index S256x1024.size) inb).toLoadRect f = rowsAt x o := by
  subst hx
  funext z
  have hz : (z 0).val < 256 := (z 0).isLt
  have ho : o + 256 ≤ 2816 := inb 0
  unfold rowsAt
  refine congrArg (v.read (Elt F) f) (funext fun a => Fin.ext ?_)
  match a with
  | ⟨0, _⟩ => show o + 1 * (z 0).val = (o + (z 0).val) % 2816; omega
  | ⟨1, _⟩ => show 0 + 1 * (z 1).val = (z 1).val; omega

/-- … of a whole buffer holding `x`. -/
theorem load_rows {M : Memref sig .tc .vmem S2816x1024 .bf16} (h : M.IsWhole) (x : Vec F S2816x1024 .bf16) {o : ℕ} (inb : ∀ a, (![o, 0] : Fin 2 → ℕ) a + S256x1024.size a ≤ S2816x1024.size a) :
    M.view.readAt (Elt F) (Rect.unit (s := S2816x1024) ![o, 0] (no_index S256x1024.size) inb).toLoadRect (h.unread x) = rowsAt x o :=
  readAt_rows M.view _ x (h.read_unread x) inb

/-- … of the scratch after the eight copies. -/
theorem load_slab_rows {c : Dev nD} (g : HbBuf0 (F := F) c hbM0_0) (v : View sig .tc .vmem S2816x1024 .bf16) {o : ℕ} (inb : ∀ a, (![o, 0] : Fin 2 → ℕ) a + S256x1024.size a ≤ S2816x1024.size a)
    (b0 : ∀ a, (![0, 0] : Fin 2 → ℕ) a + S352x1024.size a ≤ S2816x1024.size a) (s0 : ∀ a, (![0, 704, 0] : Fin 3 → ℕ) a + (![1, 352, 1024] : Fin 3 → ℕ) a ≤ S8x1056x1024.size a) (n0 : S352x1024.numel = (Rect.unit (s := S8x1056x1024) ![0, 704, 0] ![1, 352, 1024] s0).shape.numel)
    (b1 : ∀ a, (![352, 0] : Fin 2 → ℕ) a + S352x1024.size a ≤ S2816x1024.size a) (s1 : ∀ a, (![1, 704, 0] : Fin 3 → ℕ) a + (![1, 352, 1024] : Fin 3 → ℕ) a ≤ S8x1056x1024.size a) (n1 : S352x1024.numel = (Rect.unit (s := S8x1056x1024) ![1, 704, 0] ![1, 352, 1024] s1).shape.numel)
    (b2 : ∀ a, (![704, 0] : Fin 2 → ℕ) a + S352x1024.size a ≤ S2816x1024.size a) (s2 : ∀ a, (![2, 704, 0] : Fin 3 → ℕ) a + (![1, 352, 1024] : Fin 3 → ℕ) a ≤ S8x1056x1024.size a) (n2 : S352x1024.numel = (Rect.unit (s := S8x1056x1024) ![2, 704, 0] ![1, 352, 1024] s2).shape.numel)
    (b3 : ∀ a, (![1056, 0] : Fin 2 → ℕ) a + S352x1024.size a ≤ S2816x1024.size a) (s3 : ∀ a, (![3, 704, 0] : Fin 3 → ℕ) a + (![1, 352, 1024] : Fin 3 → ℕ) a ≤ S8x1056x1024.size a) (n3 : S352x1024.numel = (Rect.unit (s := S8x1056x1024) ![3, 704, 0] ![1, 352, 1024] s3).shape.numel)
    (b4 : ∀ a, (![1408, 0] : Fin 2 → ℕ) a + S352x1024.size a ≤ S2816x1024.size a) (s4 : ∀ a, (![4, 704, 0] : Fin 3 → ℕ) a + (![1, 352, 1024] : Fin 3 → ℕ) a ≤ S8x1056x1024.size a) (n4 : S352x1024.numel = (Rect.unit (s := S8x1056x1024) ![4, 704, 0] ![1, 352, 1024] s4).shape.numel)
    (b5 : ∀ a, (![1760, 0] : Fin 2 → ℕ) a + S352x1024.size a ≤ S2816x1024.size a) (s5 : ∀ a, (![5, 704, 0] : Fin 3 → ℕ) a + (![1, 352, 1024] : Fin 3 → ℕ) a ≤ S8x1056x1024.size a) (n5 : S352x1024.numel = (Rect.unit (s := S8x1056x1024) ![5, 704, 0] ![1, 352, 1024] s5).shape.numel)
    (b6 : ∀ a, (![2112, 0] : Fin 2 → ℕ) a + S352x1024.size a ≤ S2816x1024.size a) (s6 : ∀ a, (![6, 704, 0] : Fin 3 → ℕ) a + (![1, 352, 1024] : Fin 3 → ℕ) a ≤ S8x1056x1024.size a) (n6 : S352x1024.numel = (Rect.unit (s := S8x1056x1024) ![6, 704, 0] ![1, 352, 1024] s6).shape.numel)
    (b7 : ∀ a, (![2464, 0] : Fin 2 → ℕ) a + S352x1024.size a ≤ S2816x1024.size a) (s7 : ∀ a, (![7, 704, 0] : Fin 3 → ℕ) a + (![1, 352, 1024] : Fin 3 → ℕ) a ≤ S8x1056x1024.size a) (n7 : S352x1024.numel = (Rect.unit (s := S8x1056x1024) ![7, 704, 0] ![1, 352, 1024] s7).shape.numel) :
    v.readCov
      [⟨Rect.unit ![2464, 0] (no_index S352x1024.size) b7, ReadAs.same.apply (View.read (Elt F) (((View.whole main_v7).slice (Rect.unit ![7, 704, 0] ![1, 352, 1024] s7)).reshape S352x1024 n7) g)⟩,
        ⟨Rect.unit ![2112, 0] (no_index S352x1024.size) b6, ReadAs.same.apply (View.read (Elt F) (((View.whole main_v7).slice (Rect.unit ![6, 704, 0] ![1, 352, 1024] s6)).reshape S352x1024 n6) g)⟩,
        ⟨Rect.unit ![1760, 0] (no_index S352x1024.size) b5, ReadAs.same.apply (View.read (Elt F) (((View.whole main_v7).slice (Rect.unit ![5, 704, 0] ![1, 352, 1024] s5)).reshape S352x1024 n5) g)⟩,
        ⟨Rect.unit ![1408, 0] (no_index S352x1024.size) b4, ReadAs.same.apply (View.read (Elt F) (((View.whole main_v7).slice (Rect.unit ![4, 704, 0] ![1, 352, 1024] s4)).reshape S352x1024 n4) g)⟩,
        ⟨Rect.unit ![1056, 0] (no_index S352x1024.size) b3, ReadAs.same.apply (View.read (Elt F) (((View.whole main_v7).slice (Rect.unit ![3, 704, 0] ![1, 352, 1024] s3)).reshape S352x1024 n3) g)⟩,
        ⟨Rect.unit ![704, 0] (no_index S352x1024.size) b2, ReadAs.same.apply (View.read (Elt F) (((View.whole main_v7).slice (Rect.unit ![2, 704, 0] ![1, 352, 1024] s2)).reshape S352x1024 n2) g)⟩,
        ⟨Rect.unit ![352, 0] (no_index S352x1024.size) b1, ReadAs.same.apply (View.read (Elt F) (((View.whole main_v7).slice (Rect.unit ![1, 704, 0] ![1, 352, 1024] s1)).reshape S352x1024 n1) g)⟩,
        ⟨Rect.unit ![0, 0] (no_index S352x1024.size) b0, ReadAs.same.apply (View.read (Elt F) (((View.whole main_v7).slice (Rect.unit ![0, 704, 0] ![1, 352, 1024] s0)).reshape S352x1024 n0) g)⟩] (Rect.unit (s := S2816x1024) ![o, 0] (no_index S256x1024.size) inb).toLoadRect = rowsAt (weightOf g) o :=
  readAt_rows v _ _ (read_slabs g v _ b0 s0 n0 b1 s1 n1 b2 s2 n2 b3 s3 n3 b4 s4 n4 b5 s5 n5 b6 s6 n6 b7 s7 n7) inb

/-- The product the body writes: column `256 j + b` is column `b` of the product with the weight's rows `256 j, …`. -/
def chunksOf (d : Vec F S256x1024 .bf16) (wb : Vec F S2816x1024 .bf16) : Vec F S256x2816 .bf16 :=
  fun y => (k0_pay1 d (rowsAt wb (256 * ((y 1).val / 256))) : Vec F S256x256 .bf16) (ValueIdx.ix2 (y 0) ⟨(y 1).val % 256, Nat.mod_lt _ (by decide)⟩)

theorem chunk_apply (d : Vec F S256x1024 .bf16) (wb : Vec F S2816x1024 .bf16) (w : Vec F S256x256 .bf16) (o j : ℕ) (hw : w = k0_pay1 d (rowsAt wb o)) (x : S256x256.Idx) (y : S256x2816.Idx)
    (ho : o = 256 * j) (h0 : (y 0).val = (x 0).val) (h1 : (y 1).val = o + (x 1).val) : w x = chunksOf d wb y := by
  have hx : (x 1).val < 256 := (x 1).isLt
  subst hw ho
  unfold chunksOf
  rw [show 256 * ((y 1).val / 256) = 256 * j by omega]
  refine congrArg _ (funext fun a => Fin.ext ?_)
  match a with
  | ⟨0, _⟩ => exact h0.symm
  | ⟨1, _⟩ => show (x 1).val = (y 1).val % 256; omega

/-- After the 11 stores the block holds the product, whatever was there. -/
theorem stored_chunks (v : View sig .tc .vmem S256x2816 .bf16) (f : v.ty.Contents (Elt F)) (d : Vec F S256x1024 .bf16) (wb : Vec F S2816x1024 .bf16)
    (w0 w1 w2 w3 w4 w5 w6 w7 w8 w9 w10 : Vec F S256x256 .bf16)
    (b0 : ∀ a, (![0, 0] : Fin 2 → ℕ) a + S256x256.size a ≤ S256x2816.size a) (h0 : w0 = k0_pay1 d (rowsAt wb 0))
    (b1 : ∀ a, (![0, 256] : Fin 2 → ℕ) a + S256x256.size a ≤ S256x2816.size a) (h1 : w1 = k0_pay1 d (rowsAt wb 256))
    (b2 : ∀ a, (![0, 512] : Fin 2 → ℕ) a + S256x256.size a ≤ S256x2816.size a) (h2 : w2 = k0_pay1 d (rowsAt wb 512))
    (b3 : ∀ a, (![0, 768] : Fin 2 → ℕ) a + S256x256.size a ≤ S256x2816.size a) (h3 : w3 = k0_pay1 d (rowsAt wb 768))
    (b4 : ∀ a, (![0, 1024] : Fin 2 → ℕ) a + S256x256.size a ≤ S256x2816.size a) (h4 : w4 = k0_pay1 d (rowsAt wb 1024))
    (b5 : ∀ a, (![0, 1280] : Fin 2 → ℕ) a + S256x256.size a ≤ S256x2816.size a) (h5 : w5 = k0_pay1 d (rowsAt wb 1280))
    (b6 : ∀ a, (![0, 1536] : Fin 2 → ℕ) a + S256x256.size a ≤ S256x2816.size a) (h6 : w6 = k0_pay1 d (rowsAt wb 1536))
    (b7 : ∀ a, (![0, 1792] : Fin 2 → ℕ) a + S256x256.size a ≤ S256x2816.size a) (h7 : w7 = k0_pay1 d (rowsAt wb 1792))
    (b8 : ∀ a, (![0, 2048] : Fin 2 → ℕ) a + S256x256.size a ≤ S256x2816.size a) (h8 : w8 = k0_pay1 d (rowsAt wb 2048))
    (b9 : ∀ a, (![0, 2304] : Fin 2 → ℕ) a + S256x256.size a ≤ S256x2816.size a) (h9 : w9 = k0_pay1 d (rowsAt wb 2304))
    (b10 : ∀ a, (![0, 2560] : Fin 2 → ℕ) a + S256x256.size a ≤ S256x2816.size a) (h10 : w10 = k0_pay1 d (rowsAt wb 2560)) :
    v.read (Elt F) (v.writes (Elt F) f
      [⟨Rect.unit ![0, 2560] (no_index S256x256.size) b10, w10⟩,
        ⟨Rect.unit ![0, 2304] (no_index S256x256.size) b9, w9⟩,
        ⟨Rect.unit ![0, 2048] (no_index S256x256.size) b8, w8⟩,
        ⟨Rect.unit ![0, 1792] (no_index S256x256.size) b7, w7⟩,
        ⟨Rect.unit ![0, 1536] (no_index S256x256.size) b6, w6⟩,
        ⟨Rect.unit ![0, 1280] (no_index S256x256.size) b5, w5⟩,
        ⟨Rect.unit ![0, 1024] (no_index S256x256.size) b4, w4⟩,
        ⟨Rect.unit ![0, 768] (no_index S256x256.size) b3, w3⟩,
        ⟨Rect.unit ![0, 512] (no_index S256x256.size) b2, w2⟩,
        ⟨Rect.unit ![0, 256] (no_index S256x256.size) b1, w1⟩,
        ⟨Rect.unit ![0, 0] (no_index S256x256.size) b0, w0⟩]) = chunksOf d wb := by
  funext y
  have hy : (y 1).val < 2816 := (y 1).isLt
  by_cases c10 : 2560 ≤ (y 1).val
  · exact (View.read_writes_cons_unit_of_mem v f b10 _ _ y (ValueIdx.ix2 (y 0) ⟨(y 1).val - 2560, by show _ < 256; omega⟩) rfl (Fin.forall_fin_two.mpr ⟨(Nat.zero_add _).symm, by show (y 1).val = 2560 + ((y 1).val - 2560); omega⟩)).trans (chunk_apply d wb w10 2560 10 h10 _ y rfl rfl (by show (y 1).val = 2560 + ((y 1).val - 2560); omega))
  refine (View.read_writes_cons_unit_of_not_mem v f b10 _ _ y rfl (1 : Fin 2) (Or.inl (by show (y 1).val < 2560; omega))).trans ?_
  by_cases c9 : 2304 ≤ (y 1).val
  · exact (View.read_writes_cons_unit_of_mem v f b9 _ _ y (ValueIdx.ix2 (y 0) ⟨(y 1).val - 2304, by show _ < 256; omega⟩) rfl (Fin.forall_fin_two.mpr ⟨(Nat.zero_add _).symm, by show (y 1).val = 2304 + ((y 1).val - 2304); omega⟩)).trans (chunk_apply d wb w9 2304 9 h9 _ y rfl rfl (by show (y 1).val = 2304 + ((y 1).val - 2304); omega))
  refine (View.read_writes_cons_unit_of_not_mem v f b9 _ _ y rfl (1 : Fin 2) (Or.inl (by show (y 1).val < 2304; omega))).trans ?_
  by_cases c8 : 2048 ≤ (y 1).val
  · exact (View.read_writes_cons_unit_of_mem v f b8 _ _ y (ValueIdx.ix2 (y 0) ⟨(y 1).val - 2048, by show _ < 256; omega⟩) rfl (Fin.forall_fin_two.mpr ⟨(Nat.zero_add _).symm, by show (y 1).val = 2048 + ((y 1).val - 2048); omega⟩)).trans (chunk_apply d wb w8 2048 8 h8 _ y rfl rfl (by show (y 1).val = 2048 + ((y 1).val - 2048); omega))
  refine (View.read_writes_cons_unit_of_not_mem v f b8 _ _ y rfl (1 : Fin 2) (Or.inl (by show (y 1).val < 2048; omega))).trans ?_
  by_cases c7 : 1792 ≤ (y 1).val
  · exact (View.read_writes_cons_unit_of_mem v f b7 _ _ y (ValueIdx.ix2 (y 0) ⟨(y 1).val - 1792, by show _ < 256; omega⟩) rfl (Fin.forall_fin_two.mpr ⟨(Nat.zero_add _).symm, by show (y 1).val = 1792 + ((y 1).val - 1792); omega⟩)).trans (chunk_apply d wb w7 1792 7 h7 _ y rfl rfl (by show (y 1).val = 1792 + ((y 1).val - 1792); omega))
  refine (View.read_writes_cons_unit_of_not_mem v f b7 _ _ y rfl (1 : Fin 2) (Or.inl (by show (y 1).val < 1792; omega))).trans ?_
  by_cases c6 : 1536 ≤ (y 1).val
  · exact (View.read_writes_cons_unit_of_mem v f b6 _ _ y (ValueIdx.ix2 (y 0) ⟨(y 1).val - 1536, by show _ < 256; omega⟩) rfl (Fin.forall_fin_two.mpr ⟨(Nat.zero_add _).symm, by show (y 1).val = 1536 + ((y 1).val - 1536); omega⟩)).trans (chunk_apply d wb w6 1536 6 h6 _ y rfl rfl (by show (y 1).val = 1536 + ((y 1).val - 1536); omega))
  refine (View.read_writes_cons_unit_of_not_mem v f b6 _ _ y rfl (1 : Fin 2) (Or.inl (by show (y 1).val < 1536; omega))).trans ?_
  by_cases c5 : 1280 ≤ (y 1).val
  · exact (View.read_writes_cons_unit_of_mem v f b5 _ _ y (ValueIdx.ix2 (y 0) ⟨(y 1).val - 1280, by show _ < 256; omega⟩) rfl (Fin.forall_fin_two.mpr ⟨(Nat.zero_add _).symm, by show (y 1).val = 1280 + ((y 1).val - 1280); omega⟩)).trans (chunk_apply d wb w5 1280 5 h5 _ y rfl rfl (by show (y 1).val = 1280 + ((y 1).val - 1280); omega))
  refine (View.read_writes_cons_unit_of_not_mem v f b5 _ _ y rfl (1 : Fin 2) (Or.inl (by show (y 1).val < 1280; omega))).trans ?_
  by_cases c4 : 1024 ≤ (y 1).val
  · exact (View.read_writes_cons_unit_of_mem v f b4 _ _ y (ValueIdx.ix2 (y 0) ⟨(y 1).val - 1024, by show _ < 256; omega⟩) rfl (Fin.forall_fin_two.mpr ⟨(Nat.zero_add _).symm, by show (y 1).val = 1024 + ((y 1).val - 1024); omega⟩)).trans (chunk_apply d wb w4 1024 4 h4 _ y rfl rfl (by show (y 1).val = 1024 + ((y 1).val - 1024); omega))
  refine (View.read_writes_cons_unit_of_not_mem v f b4 _ _ y rfl (1 : Fin 2) (Or.inl (by show (y 1).val < 1024; omega))).trans ?_
  by_cases c3 : 768 ≤ (y 1).val
  · exact (View.read_writes_cons_unit_of_mem v f b3 _ _ y (ValueIdx.ix2 (y 0) ⟨(y 1).val - 768, by show _ < 256; omega⟩) rfl (Fin.forall_fin_two.mpr ⟨(Nat.zero_add _).symm, by show (y 1).val = 768 + ((y 1).val - 768); omega⟩)).trans (chunk_apply d wb w3 768 3 h3 _ y rfl rfl (by show (y 1).val = 768 + ((y 1).val - 768); omega))
  refine (View.read_writes_cons_unit_of_not_mem v f b3 _ _ y rfl (1 : Fin 2) (Or.inl (by show (y 1).val < 768; omega))).trans ?_
  by_cases c2 : 512 ≤ (y 1).val
  · exact (View.read_writes_cons_unit_of_mem v f b2 _ _ y (ValueIdx.ix2 (y 0) ⟨(y 1).val - 512, by show _ < 256; omega⟩) rfl (Fin.forall_fin_two.mpr ⟨(Nat.zero_add _).symm, by show (y 1).val = 512 + ((y 1).val - 512); omega⟩)).trans (chunk_apply d wb w2 512 2 h2 _ y rfl rfl (by show (y 1).val = 512 + ((y 1).val - 512); omega))
  refine (View.read_writes_cons_unit_of_not_mem v f b2 _ _ y rfl (1 : Fin 2) (Or.inl (by show (y 1).val < 512; omega))).trans ?_
  by_cases c1 : 256 ≤ (y 1).val
  · exact (View.read_writes_cons_unit_of_mem v f b1 _ _ y (ValueIdx.ix2 (y 0) ⟨(y 1).val - 256, by show _ < 256; omega⟩) rfl (Fin.forall_fin_two.mpr ⟨(Nat.zero_add _).symm, by show (y 1).val = 256 + ((y 1).val - 256); omega⟩)).trans (chunk_apply d wb w1 256 1 h1 _ y rfl rfl (by show (y 1).val = 256 + ((y 1).val - 256); omega))
  refine (View.read_writes_cons_unit_of_not_mem v f b1 _ _ y rfl (1 : Fin 2) (Or.inl (by show (y 1).val < 256; omega))).trans ?_
  exact (View.read_writes_cons_unit_of_mem v f b0 _ _ y (ValueIdx.ix2 (y 0) ⟨(y 1).val - 0, by show _ < 256; omega⟩) rfl (Fin.forall_fin_two.mpr ⟨(Nat.zero_add _).symm, by show (y 1).val = 0 + ((y 1).val - 0); omega⟩)).trans (chunk_apply d wb w0 0 0 h0 _ y rfl rfl (by show (y 1).val = 0 + ((y 1).val - 0); omega))

section Body
variable (c : Dev nD) (i : grid0.Coords) (arg1 : Memref sig .tc .vmem S1x1x1024 .f32) (harg1 : arg1.IsWhole) (arg2 : Memref sig .tc .vmem S256x1024 .f32) (harg2 : arg2.IsWhole) (arg3 : Memref sig .tc .vmem S256x1024 .bf16) (harg3 : arg3.IsWhole) (arg5 : Memref sig .tc .vmem S1x1x1024 .f32) (harg5 : arg5.IsWhole) (arg6 : Memref sig .tc .vmem S256x1024 .bf16) (harg6 : arg6.IsWhole) (arg7 : Memref sig .tc .vmem S256x2816 .bf16) (harg7 : arg7.IsWhole) (arg8 : Memref sig .tc .vmem S2816x1024 .bf16) (harg8 : arg8.IsWhole)
  (x0 : Vec F S1x1x1024 .f32) (x1 : Vec F S256x1024 .f32) (x2 : Vec F S256x1024 .bf16)

/-- The body of the call at a grid point, on any staging buffers. -/
abbrev bodyProg := cc0_bwd_down (F := F) i arg1 harg1 arg2 harg2 arg3 harg3 (Memref.whole main_v7) (Memref.isWhole_whole _) arg5 harg5 arg6 harg6 arg7 harg7 arg8 harg8 cc0_scratch1

/-- The input blocks, in their staging buffers. -/
def ins : sProp 𝕄 := iprop(owns (c : Thread nD τ) arg1 fullShare x0 ∗ owns (c : Thread nD τ) arg2 fullShare x1 ∗ owns (c : Thread nD τ) arg3 fullShare x2)

/-- The output blocks and the weight scratch, at given contents. -/
def outs (o3 : Vec F S1x1x1024 .f32) (o4 : Vec F S256x1024 .bf16) (o5 : Vec F S256x2816 .bf16) (wb : Vec F S2816x1024 .bf16) : sProp 𝕄 :=
  iprop(owns (c : Thread nD τ) arg5 fullShare o3 ∗ owns (c : Thread nD τ) arg6 fullShare o4 ∗ owns (c : Thread nD τ) arg7 fullShare o5 ∗ owns (c : Thread nD τ) arg8 fullShare wb)

set_option maxHeartbeats 1600000 in
/-- A point at which nothing is reset: the weight stays. -/
theorem run_inner (hc0 : ¬ condFirst i) (hc2 : ¬ condStream i) (o3 : Vec F S1x1x1024 .f32) (o4 : Vec F S256x1024 .bf16) (o5 : Vec F S256x2816 .bf16) (wb : Vec F S2816x1024 .bf16) (W : Waits sig Unit) (K : PUnit → sProp 𝕄) :
    iprop(ins c arg1 arg2 arg3 x0 x1 x2 ∗ outs c arg5 arg6 arg7 arg8 o3 o4 o5 wb ∗ owes (c : Thread nD τ) 0 W
        ∗ (iprop(ins c arg1 arg2 arg3 x0 x1 x2
            ∗ outs c arg5 arg6 arg7 arg8 (k0_pay6 x1 x2 o3) (k0_pay7 x1 x0) (chunksOf (k0_pay7 x1 x0) wb) wb ∗ owes (c : Thread nD τ) 0 W) -∗ K ⟨⟩))
      ⊢ wp frame (wpE (defs₀ (F := F)) Variants.none c none) Set.univ (bodyProg i arg1 harg1 arg2 harg2 arg3 harg3 arg5 harg5 arg6 harg6 arg7 harg7 arg8 harg8) K := by
  simp only [bodyProg, cc0_bwd_down_eq_skeleton]; unfold cc0_bwd_down_skel
  simp only [k0_part4_eq_skeleton, k0_part1_eq_skeleton, k0_part2_eq_skeleton, k0_part3_eq_skeleton, k0_part5_eq_skeleton]
  unfold ins outs owns
  iintro ⟨⟨⟨%f0, %hf0, H0⟩, ⟨%f1, %hf1, H1⟩, ⟨%f2, %hf2, H2⟩⟩, ⟨⟨%f3, %hf3, H3⟩, ⟨%f4, %hf4, H4⟩, ⟨%f5, %hf5, H5⟩, ⟨%fs0, %hfs, HS0⟩⟩, HW, Hk⟩
  obtain rfl := harg1.eq_unread hf0; obtain rfl := harg2.eq_unread hf1; obtain rfl := harg3.eq_unread hf2
  obtain rfl := harg5.eq_unread hf3; obtain rfl := harg8.eq_unread hfs
  sl_exec (disch := first | sl_exact hc0 | sl_exact hc2)
  sl_step
  iapply Hk
  isplitl [H0 H1 H2]
  · isplitl [H0]
    · iexists _; isplitr; swap; · iexact H0
      ipureintro; exact hf0
    isplitl [H1]
    · iexists _; isplitr; swap; · iexact H1
      ipureintro; exact hf1
    iexists _; isplitr; swap; · iexact H2
    ipureintro; exact hf2
  isplitl [H3 H4 H5 HS0]
  · isplitl [H3]
    · iexists _; isplitr; swap; · iexact H3
      ipureintro; refine stored_whole _ _ _ _ _ _ ?_; sl_unfold_words; simp only [load_whole, load_stored]
    isplitl [H4]
    · iexists _; isplitr; swap; · iexact H4
      ipureintro; refine stored_whole _ _ _ _ _ _ ?_; sl_unfold_words; simp only [load_whole, load_stored]
    isplitl [H5]
    · iexists _; isplitr; swap; · iexact H5
      ipureintro; sl_unfold_words; simp only [load_whole]
      refine stored_chunks _ _ (k0_pay7 x1 x0) wb _ _ _ _ _ _ _ _ _ _ _ _ ?_ _ ?_ _ ?_ _ ?_ _ ?_ _ ?_ _ ?_ _ ?_ _ ?_ _ ?_ _ ?_
      all_goals exact congrArg (k0_pay1 (k0_pay7 x1 x0)) (load_rows ..)
    iexists _; isplitr; swap; · iexact HS0
    ipureintro; exact hfs
  iexact HW

set_option maxHeartbeats 1600000 in
/-- The first point of the second stream: the sum over the stream starts again, the weight stays. -/
theorem run_stream (hc0 : ¬ condFirst i) (hc2 : condStream i) (o3 : Vec F S1x1x1024 .f32) (o4 : Vec F S256x1024 .bf16) (o5 : Vec F S256x2816 .bf16) (wb : Vec F S2816x1024 .bf16) (W : Waits sig Unit) (K : PUnit → sProp 𝕄) :
    iprop(ins c arg1 arg2 arg3 x0 x1 x2 ∗ outs c arg5 arg6 arg7 arg8 o3 o4 o5 wb ∗ owes (c : Thread nD τ) 0 W
        ∗ (iprop(ins c arg1 arg2 arg3 x0 x1 x2
            ∗ outs c arg5 arg6 arg7 arg8 (k0_pay6 x1 x2 k0_pay5) (k0_pay7 x1 x0) (chunksOf (k0_pay7 x1 x0) wb) wb ∗ owes (c : Thread nD τ) 0 W) -∗ K ⟨⟩))
      ⊢ wp frame (wpE (defs₀ (F := F)) Variants.none c none) Set.univ (bodyProg i arg1 harg1 arg2 harg2 arg3 harg3 arg5 harg5 arg6 harg6 arg7 harg7 arg8 harg8) K := by
  simp only [bodyProg, cc0_bwd_down_eq_skeleton]; unfold cc0_bwd_down_skel
  simp only [k0_part4_eq_skeleton, k0_part1_eq_skeleton, k0_part2_eq_skeleton, k0_part3_eq_skeleton, k0_part5_eq_skeleton]
  unfold ins outs owns
  iintro ⟨⟨⟨%f0, %hf0, H0⟩, ⟨%f1, %hf1, H1⟩, ⟨%f2, %hf2, H2⟩⟩, ⟨⟨%f3, %hf3, H3⟩, ⟨%f4, %hf4, H4⟩, ⟨%f5, %hf5, H5⟩, ⟨%fs0, %hfs, HS0⟩⟩, HW, Hk⟩
  obtain rfl := harg1.eq_unread hf0; obtain rfl := harg2.eq_unread hf1; obtain rfl := harg3.eq_unread hf2
  obtain rfl := harg5.eq_unread hf3; obtain rfl := harg8.eq_unread hfs
  sl_exec (disch := first | sl_exact hc0 | sl_exact hc2)
  sl_step
  iapply Hk
  isplitl [H0 H1 H2]
  · isplitl [H0]
    · iexists _; isplitr; swap; · iexact H0
      ipureintro; exact hf0
    isplitl [H1]
    · iexists _; isplitr; swap; · iexact H1
      ipureintro; exact hf1
    iexists _; isplitr; swap; · iexact H2
    ipureintro; exact hf2
  isplitl [H3 H4 H5 HS0]
  · isplitl [H3]
    · iexists _; isplitr; swap; · iexact H3
      ipureintro; refine stored_whole _ _ _ _ _ _ ?_; sl_unfold_words; simp only [load_whole, load_stored]
    isplitl [H4]
    · iexists _; isplitr; swap; · iexact H4
      ipureintro; refine stored_whole _ _ _ _ _ _ ?_; sl_unfold_words; simp only [load_whole, load_stored]
    isplitl [H5]
    · iexists _; isplitr; swap; · iexact H5
      ipureintro; sl_unfold_words; simp only [load_whole]
      refine stored_chunks _ _ (k0_pay7 x1 x0) wb _ _ _ _ _ _ _ _ _ _ _ _ ?_ _ ?_ _ ?_ _ ?_ _ ?_ _ ?_ _ ?_ _ ?_ _ ?_ _ ?_ _ ?_
      all_goals exact congrArg (k0_pay1 (k0_pay7 x1 x0)) (load_rows ..)
    iexists _; isplitr; swap; · iexact HS0
    ipureintro; exact hfs
  iexact HW

set_option sl_exec.dmaWindow true in
set_option sl_exec.dmaWindowSet true in
set_option maxHeartbeats 1600000 in
/-- The first point: the weight is copied in, eight slabs in flight at once. -/
theorem run_first (hc0 : condFirst i) (hc2 : condStream i) (o3 : Vec F S1x1x1024 .f32) (o4 : Vec F S256x1024 .bf16) (o5 : Vec F S256x2816 .bf16) (wb : Vec F S2816x1024 .bf16) (g : HbBuf0 (F := F) c hbM0_0) (W : Waits sig Unit) (K : PUnit → sProp 𝕄) :
    iprop(ins c arg1 arg2 arg3 x0 x1 x2 ∗ outs c arg5 arg6 arg7 arg8 o3 o4 o5 wb ∗ cells c ∗ hbPt0 c hbM0_0 g ∗ owes (c : Thread nD τ) 0 W
        ∗ (iprop(ins c arg1 arg2 arg3 x0 x1 x2
            ∗ outs c arg5 arg6 arg7 arg8 (k0_pay6 x1 x2 k0_pay5) (k0_pay7 x1 x0) (chunksOf (k0_pay7 x1 x0) (weightOf g)) (weightOf g) ∗ cells c ∗ hbPt0 c hbM0_0 g ∗ (∃ W', owes (c : Thread nD τ) 0 W')) -∗ K ⟨⟩))
      ⊢ wp frame (wpE (defs₀ (F := F)) Variants.none c none) Set.univ (bodyProg i arg1 harg1 arg2 harg2 arg3 harg3 arg5 harg5 arg6 harg6 arg7 harg7 arg8 harg8) K := by
  simp only [bodyProg, cc0_bwd_down_eq_skeleton]; unfold cc0_bwd_down_skel
  simp only [k0_part4_eq_skeleton, k0_part1_eq_skeleton, k0_part2_eq_skeleton, k0_part3_eq_skeleton, k0_part5_eq_skeleton]
  unfold ins outs owns cells
  iintro ⟨⟨⟨%f0, %hf0, H0⟩, ⟨%f1, %hf1, H1⟩, ⟨%f2, %hf2, H2⟩⟩, ⟨⟨%f3, -, H3⟩, ⟨%f4, -, H4⟩, ⟨%f5, -, H5⟩, ⟨%fs0, -, HS0⟩⟩, ⟨Hq0, Hq1, Hq2, Hq3, Hq4, Hq5, Hq6, Hq7⟩, Hh0, HW, Hk⟩
  obtain rfl := harg1.eq_unread hf0; obtain rfl := harg2.eq_unread hf1; obtain rfl := harg3.eq_unread hf2
  sl_exec (disch := first | sl_exact hc0 | sl_exact hc2)
  sl_step
  iapply Hk
  isplitl [H0 H1 H2]
  · isplitl [H0]
    · iexists _; isplitr; swap; · iexact H0
      ipureintro; exact hf0
    isplitl [H1]
    · iexists _; isplitr; swap; · iexact H1
      ipureintro; exact hf1
    iexists _; isplitr; swap; · iexact H2
    ipureintro; exact hf2
  isplitl [H3 H4 H5 HS0]
  · isplitl [H3]
    · iexists _; isplitr; swap; · iexact H3
      ipureintro; refine stored_whole _ _ _ _ _ _ ?_; sl_unfold_words; simp only [load_whole, load_stored]
    isplitl [H4]
    · iexists _; isplitr; swap; · iexact H4
      ipureintro; refine stored_whole _ _ _ _ _ _ ?_; sl_unfold_words; simp only [load_whole, load_stored]
    isplitl [H5]
    · iexists _; isplitr; swap; · iexact H5
      ipureintro; sl_unfold_words; simp only [load_whole]
      refine stored_chunks _ _ (k0_pay7 x1 x0) (weightOf g) _ _ _ _ _ _ _ _ _ _ _ _ ?_ _ ?_ _ ?_ _ ?_ _ ?_ _ ?_ _ ?_ _ ?_ _ ?_ _ ?_ _ ?_
      all_goals exact congrArg (k0_pay1 (k0_pay7 x1 x0)) (load_slab_rows ..)
    iexists _; isplitr; swap; · iexact HS0
    ipureintro; sl_unfold_words; exact read_slabs ..
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexists _; iexact HW
end Body
end Cert.Kernel7Ideal.Run

end
-- ==== Proof.BwdDownFrame.lean ====
module

public import proofs.«01_k».proof.Proof.BwdDownRun
public import proofs.«01_k».proof.Proof.Gen.Kernel7Ideal.Points
public import proofs.«01_k».proof.Proof.Gen.Kernel7Ideal.Launch

@[expose] public section

set_option maxRecDepth 16384

noncomputable section

namespace Cert.Kernel7Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's own operands, as the launch knows them -/

/-- The weight scratch, whole. -/
abbrev scM : Memref sig .tc .vmem S2816x1024 .bf16 := Memref.whole cc0_scratch0
/-- The transfer cells of the body. -/
abbrev ownCells : Fin 8 → SemLoc sig := fun j => (![SemLoc.dma 12, SemLoc.dma 13, SemLoc.dma 14, SemLoc.dma 15, SemLoc.dma 16, SemLoc.dma 17, SemLoc.dma 18, SemLoc.dma 19] : Fin 8 → SemLoc sig) j
theorem ownCells_facts : Pipeline.OwnSemFacts spec0 ownCells := by decide
/-- The array the body copies from. -/
def moved : Finset (Ref sig .tc) := {main_v7}
theorem moved_sub : moved ⊆ Pipeline.restRefs sig spec0 := by decide

/-- What the launch hands the body besides the windows: the scratch at anything, the generator register, the cells at zero
    and the gathered weights. -/
theorem handed_eq (c : Dev nD) :
    (Pipeline.ΦD ownCells spec0 moved (V m) c : sProp 𝕄)
      = iprop((∃ d, owns (c : Thread nD τ) scM fullShare d) ∗ (∃ r, prngReg c r) ∗ cells c ∗ hbPt0 c hbM0_0 (V m c main_v7)) := by
  rw [Pipeline.ΦD_eq, scopedRest0_eq, Pipeline.ownSems0_eq_of_list c ownCells [0, 1, 2, 3, 4, 5, 6, 7] (by decide) (by decide),
    BI.bigSep_eq_bigSepL_of_eq [main_v7] (by decide) (by decide)]
  simp only [scM, owns_whole]; rfl

/-! ## The schedule in closed form -/

theorem first_iff : ∀ t : Fin grid0.N, condFirst (grid0.coords t) ↔ t.val = 0 := by decide +kernel
theorem stream_iff : ∀ t : Fin grid0.N, condStream (grid0.coords t) ↔ t.val % 32 = 0 := by decide +kernel
theorem flush_3 : ∀ t : Fin grid0.N, win0_3.flush t = true ↔ 31 ≤ t.val := by decide +kernel

/-! ## What the buffers hold after each point -/

/-- The weight: rows 704 to 1055 of each slab of the gathered weights. -/
abbrev Wt (c : Dev nD) : Vec F S2816x1024 .bf16 := weightOf (c := c) (V m c main_v7)
/-- The gate's gradient after point `n`: the sum of the parts of the point's stream so far. -/
def gateAt (c : Dev nD) : (n : ℕ) → n < cfg0.N → Vec F S1x1x1024 .f32
  | 0, h => k0_pay6 (iblk m c 1 ⟨0, h⟩) (iblk m c 2 ⟨0, h⟩) k0_pay5
  | n + 1, h => k0_pay6 (iblk m c 1 ⟨n + 1, h⟩) (iblk m c 2 ⟨n + 1, h⟩) (if (n + 1) % 32 = 0 then k0_pay5 else gateAt c n (Nat.lt_of_succ_lt h))
/-- What a point writes to output 1. -/
def dyBlock (c : Dev nD) (t : Fin cfg0.N) : Vec F S256x1024 .bf16 := k0_pay7 (iblk m c 1 t) (iblk m c 0 t)
/-- What a point writes to output 2. -/
def dzBlock (c : Dev nD) (t : Fin cfg0.N) : Vec F S256x2816 .bf16 := chunksOf (k0_pay7 (iblk m c 1 t) (iblk m c 0 t)) (Wt m c)

/-- The body's state before point `n`: as handed at first, afterwards the scratch at the weight. -/
def stateAt (c : Dev nD) : ℕ → sProp 𝕄
  | 0 => Pipeline.ΦD ownCells spec0 moved (V m) c
  | _ + 1 => iprop(owns (c : Thread nD τ) scM fullShare (Wt m c) ∗ (∃ r, prngReg c r) ∗ cells c ∗ hbPt0 c hbM0_0 (V m c main_v7))

/-- The proof data: the arrays as the region finds them, the inputs' buffers at their blocks, the outputs' at what the
    point writes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => gateAt m c t.val t.isLt
    | ⟨4, _⟩ => dyBlock m c t
    | ⟨5, _⟩ => dzBlock m c t
  Φ t := stateAt m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = gateAt m c t.val t.isLt := rfl
theorem after_4 (c : Dev nD) (t : Fin cfg0.N) : (dats m 0 c).after 4 t = dyBlock m c t := rfl
theorem after_5 (c : Dev nD) (t : Fin cfg0.N) : (dats m 0 c).after 5 t = dzBlock m c t := rfl
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

/-- The sum's buffer holds what the point before left, inside its stream. -/
theorem before_3 (c : Dev nD) (t : Fin cfg0.N) (h : t.val % 32 ≠ 0) (d) :
    (dats m 0 c).before 3 t d = gateAt m c (t.val - 1) (Nat.lt_of_le_of_lt (Nat.sub_le _ _) t.isLt) := by
  have hN : t.val < 33 := lt_of_lt_of_eq t.isLt (show cfg0.N = 33 from N_0)
  rw [Dat.before_out_kept _ 3 rfl t (by omega) (Bool.eq_false_iff.mpr fun e => by have := (flush_3 _).mp e; dsimp only at this; omega) (fun _ => rfl) (fun _ _ => rfl)]
  dsimp only [dats]

/-! ## The body at a generic point -/

abbrev mr0 (t : Fin cfg0.N) : Memref sig .tc .vmem S1x1x1024 .f32 := win0_0.stage (cfg0.slots t 0)
abbrev hr0 (t : Fin cfg0.N) : (mr0 t).IsWhole := hstage0_0 ((cfg0.slots t 0).cast nbuf0_0)
abbrev mr1 (t : Fin cfg0.N) : Memref sig .tc .vmem S256x1024 .f32 := win0_1.stage (cfg0.slots t 1)
abbrev hr1 (t : Fin cfg0.N) : (mr1 t).IsWhole := hstage0_1 ((cfg0.slots t 1).cast nbuf0_1)
abbrev mr2 (t : Fin cfg0.N) : Memref sig .tc .vmem S256x1024 .bf16 := win0_2.stage (cfg0.slots t 2)
abbrev hr2 (t : Fin cfg0.N) : (mr2 t).IsWhole := hstage0_2 ((cfg0.slots t 2).cast nbuf0_2)
abbrev mr3 (t : Fin cfg0.N) : Memref sig .tc .vmem S1x1x1024 .f32 := win0_3.stage (cfg0.slots t 3)
abbrev hr3 (t : Fin cfg0.N) : (mr3 t).IsWhole := hstage0_3 ((cfg0.slots t 3).cast nbuf0_3)
abbrev mr4 (t : Fin cfg0.N) : Memref sig .tc .vmem S256x1024 .bf16 := win0_4.stage (cfg0.slots t 4)
abbrev hr4 (t : Fin cfg0.N) : (mr4 t).IsWhole := hstage0_4 ((cfg0.slots t 4).cast nbuf0_4)
abbrev mr5 (t : Fin cfg0.N) : Memref sig .tc .vmem S256x2816 .bf16 := win0_5.stage (cfg0.slots t 5)
abbrev hr5 (t : Fin cfg0.N) : (mr5 t).IsWhole := hstage0_5 ((cfg0.slots t 5).cast nbuf0_5)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t)
    ∗ owns (c : Thread nD τ) (mr5 t) fullShare ((dats m 0 c).after 5 t))

set_option maxHeartbeats 2400000 in
/-- The body at any point, by the kinds of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, after_0, after_1, after_2, after_3, after_4, after_5]
  rw [show (dats m 0 c).Φ t.castSucc = stateAt m c t.val from rfl, show (dats m 0 c).Φ t.succ = stateAt m c (t.val + 1) from rfl]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  rcases Nat.eq_zero_or_pos t.val with h0 | hpos
  · have e3 : gateAt m c t.val t.isLt = k0_pay6 (iblk m c 1 t) (iblk m c 2 t) k0_pay5 := by obtain ⟨n, hn⟩ := t; dsimp only at h0; subst h0; rfl
    rw [e3, h0, show stateAt m c 0 = Pipeline.ΦD ownCells spec0 moved (V m) c from rfl, handed_eq,
      show stateAt m c (0 + 1) = iprop(owns (c : Thread nD τ) scM fullShare (Wt m c) ∗ (∃ r, prngReg c r) ∗ cells c ∗ hbPt0 c hbM0_0 (V m c main_v7)) from rfl]
    unfold dyBlock dzBlock
    iintro ⟨⟨⟨%ds, HS⟩, Hg, Hq, Hh⟩, ⟨%W, -, HW⟩, ⟨%d0, H0⟩, ⟨%d1, H1⟩, ⟨%d2, H2⟩, ⟨%d3, H3⟩, ⟨%d4, H4⟩, ⟨%d5, H5⟩⟩
    iapply (run_first c (grid0.coords t) (mr0 t) (hr0 t) (mr1 t) (hr1 t) (mr2 t) (hr2 t) (mr3 t) (hr3 t) (mr4 t) (hr4 t) (mr5 t) (hr5 t) scM (Memref.isWhole_whole _)
      (iblk m c 0 t) (iblk m c 1 t) (iblk m c 2 t) ((first_iff t).mpr h0) ((stream_iff t).mpr (by omega)) _ _ _ _ (V m c main_v7) W _)
    unfold ins outs
    isplitl [H0 H1 H2]
    · isplitl [H0]; · iexact H0
      isplitl [H1]; · iexact H1
      iexact H2
    isplitl [H3 H4 H5 HS]
    · isplitl [H3]; · iexact H3
      isplitl [H4]; · iexact H4
      isplitl [H5]; · iexact H5
      iexact HS
    isplitl [Hq]; · iexact Hq
    isplitl [Hh]; · iexact Hh
    isplitl [HW]; · iexact HW
    iintro ⟨⟨H0, H1, H2⟩, ⟨H3, H4, H5, HS⟩, Hq, Hh, ⟨%W2, HW⟩⟩
    isplitl [HS Hg Hq Hh]
    · isplitl [HS]; · iexact HS
      isplitl [Hg]; · iexact Hg
      isplitl [Hq]; · iexact Hq
      iexact Hh
    isplitl [HW]
    · iexists _; isplitr; swap; · iexact HW
      ipureintro; exact fun _ _ => Or.inl trivial
    isplitl [H0]; · iexact H0
    isplitl [H1]; · iexact H1
    isplitl [H2]; · iexact H2
    isplitl [H3]; · iexact H3
    isplitl [H4]; · iexact H4
    iexact H5
  obtain ⟨n, hn⟩ : ∃ n, t.val = n + 1 := ⟨t.val - 1, by omega⟩
  have eS : stateAt m c t.val = iprop(owns (c : Thread nD τ) scM fullShare (Wt m c) ∗ (∃ r, prngReg c r) ∗ cells c ∗ hbPt0 c hbM0_0 (V m c main_v7)) := by rw [hn]; rfl
  have eS' : stateAt m c (t.val + 1) = iprop(owns (c : Thread nD τ) scM fullShare (Wt m c) ∗ (∃ r, prngReg c r) ∗ cells c ∗ hbPt0 c hbM0_0 (V m c main_v7)) := rfl
  by_cases h32 : t.val % 32 = 0
  · have e3 : gateAt m c t.val t.isLt = k0_pay6 (iblk m c 1 t) (iblk m c 2 t) k0_pay5 := by obtain ⟨k, hk⟩ := t; dsimp only at hn; subst hn; exact congrArg _ (if_pos h32)
    rw [eS, eS', e3]
    unfold dyBlock dzBlock
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩⟩
    iapply (run_stream c (grid0.coords t) (mr0 t) (hr0 t) (mr1 t) (hr1 t) (mr2 t) (hr2 t) (mr3 t) (hr3 t) (mr4 t) (hr4 t) (mr5 t) (hr5 t) scM (Memref.isWhole_whole _)
      (iblk m c 0 t) (iblk m c 1 t) (iblk m c 2 t) (fun h => by have := (first_iff t).mp h; omega) ((stream_iff t).mpr h32) _ _ _ _ W _)
    unfold ins outs
    isplitl [H0 H1 H2]
    · isplitl [H0]; · iexact H0
      isplitl [H1]; · iexact H1
      iexact H2
    isplitl [H3 H4 H5 HS]
    · isplitl [H3]; · iexact H3
      isplitl [H4]; · iexact H4
      isplitl [H5]; · iexact H5
      iexact HS
    isplitl [HW]; · iexact HW
    iintro ⟨⟨H0, H1, H2⟩, ⟨H3, H4, H5, HS⟩, HW⟩
    isplitl [HS Hg Hq Hh]
    · isplitl [HS]; · iexact HS
      isplitl [Hg]; · iexact Hg
      isplitl [Hq]; · iexact Hq
      iexact Hh
    isplitl [HW]
    · iexists _; isplitr; swap; · iexact HW
      ipureintro; exact fun _ _ => Or.inl trivial
    isplitl [H0]; · iexact H0
    isplitl [H1]; · iexact H1
    isplitl [H2]; · iexact H2
    isplitl [H3]; · iexact H3
    isplitl [H4]; · iexact H4
    iexact H5
  · have e3 : gateAt m c t.val t.isLt = k0_pay6 (iblk m c 1 t) (iblk m c 2 t) (gateAt m c (t.val - 1) (Nat.lt_of_le_of_lt (Nat.sub_le _ _) t.isLt)) := by obtain ⟨k, hk⟩ := t; dsimp only at hn; subst hn; exact congrArg _ (if_neg h32)
    simp only [before_3 m c t h32]
    rw [eS, eS', e3]
    unfold dyBlock dzBlock
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩⟩
    iapply (run_inner c (grid0.coords t) (mr0 t) (hr0 t) (mr1 t) (hr1 t) (mr2 t) (hr2 t) (mr3 t) (hr3 t) (mr4 t) (hr4 t) (mr5 t) (hr5 t) scM (Memref.isWhole_whole _)
      (iblk m c 0 t) (iblk m c 1 t) (iblk m c 2 t) (fun h => by have := (first_iff t).mp h; omega) (fun h => h32 ((stream_iff t).mp h)) _ _ _ _ W _)
    unfold ins outs
    isplitl [H0 H1 H2]
    · isplitl [H0]; · iexact H0
      isplitl [H1]; · iexact H1
      iexact H2
    isplitl [H3 H4 H5 HS]
    · isplitl [H3]; · iexact H3
      isplitl [H4]; · iexact H4
      isplitl [H5]; · iexact H5
      iexact HS
    isplitl [HW]; · iexact HW
    iintro ⟨⟨H0, H1, H2⟩, ⟨H3, H4, H5, HS⟩, HW⟩
    isplitl [HS Hg Hq Hh]
    · isplitl [HS]; · iexact HS
      isplitl [Hg]; · iexact Hg
      isplitl [Hq]; · iexact Hq
      iexact Hh
    isplitl [HW]
    · iexists _; isplitr; swap; · iexact HW
      ipureintro; exact fun _ _ => Or.inl trivial
    isplitl [H0]; · iexact H0
    isplitl [H1]; · iexact H1
    isplitl [H2]; · iexact H2
    isplitl [H3]; · iexact H3
    isplitl [H4]; · iexact H4
    iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The body's state after the last point is what the launch takes back. -/
theorem state_out (c : Dev nD) : (dats m 0 c).Φ (Fin.last cfg0.N) ⊢ Pipeline.ΦD ownCells spec0 moved (V m) c := by
  rw [show (dats m 0 c).Φ (Fin.last cfg0.N) = iprop(owns (c : Thread nD τ) scM fullShare (Wt m c) ∗ (∃ r, prngReg c r) ∗ cells c ∗ hbPt0 c hbM0_0 (V m c main_v7)) from rfl, handed_eq]
  iintro ⟨HS, Hr⟩
  isplitl [HS]
  · iexists _; iexact HS
  iexact Hr

set_option maxHeartbeats 800000 in
/-- The host operations, then the region. -/
theorem host_then_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every array of the pipeline ends at what the proof data say, every other array as the region found it, and
    every counter at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownCells defs₀ Variants.none ownCells_facts moved moved_sub m ρ main
    (hbody := fun c => (body_obligation m c).loose) (hshare := fun c => (dats m 0 c).share_full fun _ => rfl)
    (howed := fun _ _ => rfl) (V := V m) (hmain := host_then_region m Variants.none) (hA := A_eq m) (hin := fun _ => .rfl) (hout := state_out m)

/-- The arguments end unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 1).trans (((dats m 0 c).arrAt_in 1 rfl _).trans (V_main_arg0 m c)),
      ((h.1 c).2 main_arg1 (Pipeline.mem_restRefs_of main_arg1 (by decide) (by decide))).trans (V_main_arg1 m c),
      ((h.1 c).1 0).trans (((dats m 0 c).arrAt_in 0 rfl _).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_all m ρ)

end Cert.Kernel7Ideal.Run

end
-- ==== Proof.BwdDownBits.lean ====
module

public import proofs.«01_k».proof.Proof.BwdDownFrame
public import proofs.«01_k».proof.Proof.Gen.Kernel7
public import proofs.«01_k».proof.Defs

@[expose] public section

set_option maxRecDepth 16384

noncomputable section

/-! The printed program and the idealized one are one text, so the run of the latter at the bit instance is a run of the
    former. -/

namespace Cert.Kernel7.Run

open Idealize.ShloMosaic Idealize.SL.Sem

theorem rows_same : (Cert.Kernel7.defs₀ (F := Bits)) = (Cert.Kernel7Ideal.defs₀ (F := Bits)) := by
  unfold Cert.Kernel7.defs₀ Cert.Kernel7Ideal.defs₀
  refine congrArg Defs.onTc ?_
  funext l a
  match l, a with
  | 0, (t, s) => rfl

theorem defs_same : (Cert.Kernel7.defs (F := Bits)) = (Cert.Kernel7Ideal.defs (F := Bits)) := by
  unfold Cert.Kernel7.defs Cert.Kernel7Ideal.defs
  exact congrArg (Pipeline.defs _) rows_same

set_option maxHeartbeats 4000000 in
/-- The printed program runs, leaves its arguments and ends quiescent. -/
theorem quiescent [Cert.Kernel7.Facts] : Cert.quiescent_Kernel7 := fun m g _ => by
  rw [defs_same]
  exact Cert.Kernel7Ideal.Run.frame_all m g

end Cert.Kernel7.Run

end
-- ==== Proof.BwdDownValue.lean ====
module

public import proofs.«01_k».proof.Proof.BwdDownFrame
public import proofs.«01_k».proof.Proof.BwdUpSpec
public import Idealize.ShloMosaic.Lib.Pipeline.Value
public import Idealize.ShloMosaic.Lib.Claim
public import Idealize.ShloMosaic.Lib.Pipeline.ValueKit.Point

@[expose] public section

set_option maxRecDepth 16384

noncomputable section

/-! What the three results of the call hold, at the extended reals. -/

namespace Cert.Kernel7Ideal.Run

open Idealize.ShloMosaic Idealize.ShloMosaic.TcCoe Idealize.ShloMosaic.Tactic Idealize.SL.Sem
open Idealize.ShloMosaic.Pipeline (Dat)
open Cert.Kernel7Ideal.Gen Cert.BwdUp

section Payloads

variable (x : Vec Ideal S256x1024 .f32) (y : Vec Ideal S256x1024 .bf16) (g : Vec Ideal S1x1x1024 .f32)

theorem zero_gate (d : Fin 1024) : k0_pay5 (F := Ideal) (ix3 0 0 d) = 0 := by unfold k0_pay5; pointwise
theorem add_gate (o : Vec Ideal S1x1x1024 .f32) (d : Fin 1024) :
    k0_pay6 x y o (ix3 0 0 d) = o (ix3 0 0 d) + ∑ r : Fin 256, x (ix2 r d) * y (ix2 r d) := by
  unfold k0_pay6; pointwise
theorem dy_apply (r : Fin 256) (k : Fin 1024) : k0_pay7 x g (ix2 r k) = g (ix3 0 0 k) * x (ix2 r k) := by
  unfold k0_pay7; pointwise
theorem dot_apply (d : Vec Ideal S256x1024 .bf16) (w : Vec Ideal S256x1024 .bf16) (r b : Fin 256) :
    k0_pay1 d w (ix2 r b) = ∑ k : Fin 1024, d (ix2 r k) * w (ix2 b k) := by
  unfold k0_pay1; pointwise
theorem chunks_apply (d : Vec Ideal S256x1024 .bf16) (w : Vec Ideal S2816x1024 .bf16) (r : Fin 256) (q : Fin 2816) :
    chunksOf d w (ix2 r q) = ∑ k : Fin 1024, d (ix2 r k) * w (ix2 q k) := by
  unfold chunksOf
  refine (dot_apply _ _ r ⟨q.val % 256, Nat.mod_lt _ (by decide)⟩).trans (Finset.sum_congr rfl fun k _ => congrArg (d (ix2 r k) * ·) ?_)
  unfold rowsAt
  refine congrArg w (congrArg (fun z => ix2 z k) (Fin.ext ?_))
  show (256 * (q.val / 256) + q.val % 256) % 2816 = q.val
  have := q.isLt
  omega

end Payloads

variable (m : (ℓ : Loc nD τ sig) → Buf (Elt Ideal) ℓ) (ρ : Dev nD → PrngReg)

/-- The arguments. -/
abbrev argDx (c : Dev nD) : S8448x1024.Idx → EReal := m ((c.tc : Thread nD τ).loc main_arg0)
abbrev argF (c : Dev nD) : S8448x2816.Idx → EReal := m ((c.tc : Thread nD τ).loc main_arg1)
abbrev argG (c : Dev nD) : S2x1x1024.Idx → EReal := m ((c.tc : Thread nD τ).loc main_arg2)
abbrev argW (c : Dev nD) : S2816x1024.Idx → EReal := m ((c.tc : Thread nD τ).loc main_arg4)

/-- A row of the product the forward saved, of `dy`, of `dz`; and a row's part of the gate's gradient. -/
def yOf (c : Dev nD) (r : Fin 8448) (k : Fin 1024) : EReal := ∑ q : Fin 2816, argF m c (ix2 r q) * argW m c (ix2 q k)
def dyOf (c : Dev nD) (r : Fin 8448) (k : Fin 1024) : EReal := argG m c (ix3 (⟨r.val / 8192, by omega⟩ : Fin 2) 0 k) * argDx m c (ix2 r k)
def dzOf (c : Dev nD) (r : Fin 8448) (q : Fin 2816) : EReal := ∑ k : Fin 1024, dyOf m c r k * argW m c (ix2 q k)
def gateOf (c : Dev nD) (d : Fin 1024) (r : Fin 8448) : EReal := argDx m c (ix2 r d) * yOf m c r d

theorem at_0 : ∀ t : Fin cfg0.N, win0_0.index t = ![t.val / 32, 0, 0] := by decide +kernel
theorem at_1 : ∀ t : Fin cfg0.N, win0_1.index t = ![t.val, 0] := by decide +kernel
theorem at_2 : ∀ t : Fin cfg0.N, win0_2.index t = ![t.val, 0] := by decide +kernel
theorem at_3 : ∀ t : Fin cfg0.N, win0_3.index t = ![t.val / 32, 0, 0] := by decide +kernel
theorem at_4 : ∀ t : Fin cfg0.N, win0_4.index t = ![t.val, 0] := by decide +kernel
theorem at_5 : ∀ t : Fin cfg0.N, win0_5.index t = ![t.val, 0] := by decide +kernel

theorem lt_33 (t : Fin cfg0.N) : t.val < 33 := lt_of_lt_of_eq t.isLt (show cfg0.N = 33 from N_0)

/-- The row of the array at a row of a block. -/
def rowAt (t : Fin cfg0.N) (r : Fin 256) : Fin 8448 := ⟨256 * t.val + r.val, by have := lt_33 t; omega⟩

/-- The saved product, as the host computes it. -/
theorem saved_apply (c : Dev nD) (r : Fin 8448) (k : Fin 1024) : (V m c main_v2 : Vec Ideal S8448x1024 .bf16) (ix2 r k) = yOf m c r k := by
  unfold yOf
  entry_read
  pointwise

theorem blk_dx (c : Dev nD) (t : Fin cfg0.N) (r : Fin 256) (k : Fin 1024) :
    (iblk m c 1 t : Vec Ideal S256x1024 .f32) (ix2 r k) = argDx m c (ix2 (rowAt t r) k) := by
  unfold rowAt
  blk_ext! [iblk, V, at_1 t]
theorem blk_y (c : Dev nD) (t : Fin cfg0.N) (r : Fin 256) (k : Fin 1024) :
    (iblk m c 2 t : Vec Ideal S256x1024 .bf16) (ix2 r k) = yOf m c (rowAt t r) k := by
  refine Eq.trans ?_ (saved_apply m c (rowAt t r) k)
  unfold rowAt
  blk_ext! [iblk, at_2 t]
theorem blk_g (c : Dev nD) (t : Fin cfg0.N) (r : Fin 256) (k : Fin 1024) :
    (iblk m c 0 t : Vec Ideal S1x1x1024 .f32) (ix3 0 0 k) = argG m c (ix3 (⟨(rowAt t r).val / 8192, by have := (rowAt t r).isLt; omega⟩ : Fin 2) 0 k) := by
  unfold rowAt
  blk_ext! [iblk, V, at_0 t]

/-- The weight the kernel reads is `w_down`. -/
theorem Wt_apply (c : Dev nD) (q : Fin 2816) (k : Fin 1024) : Wt m c (ix2 q k) = argW m c (ix2 q k) := by
  have e : Wt m c (ix2 q k) = (V m c main_v7 : Vec Ideal S8x1056x1024 .bf16) (ix3 (⟨q.val / 352, by omega⟩ : Fin 8) (⟨704 + q.val % 352, by omega⟩ : Fin 1056) k) := by
    unfold Wt weightOf
    refine congrArg (V m c main_v7 : Vec Ideal S8x1056x1024 .bf16) (funext fun a => ?_)
    match a with
    | ⟨0, _⟩ => rfl
    | ⟨1, _⟩ => rfl
    | ⟨2, _⟩ => rfl
  rw [e]
  entry_read
  pointwise
  refine congrArg (argW m c) (congrArg (fun z => ix2 z k) (Fin.ext ?_))
  show q.val / 352 * 352 + q.val % 352 = q.val
  omega

theorem dy_blk (c : Dev nD) (t : Fin cfg0.N) (r : Fin 256) (k : Fin 1024) : dyBlock m c t (ix2 r k) = dyOf m c (rowAt t r) k :=
  (dy_apply _ _ r k).trans (congrArg₂ (· * ·) (blk_g m c t r k) (blk_dx m c t r k))
theorem dz_blk (c : Dev nD) (t : Fin cfg0.N) (r : Fin 256) (q : Fin 2816) : dzBlock m c t (ix2 r q) = dzOf m c (rowAt t r) q :=
  (chunks_apply _ _ r q).trans (Finset.sum_congr rfl fun k _ => congrArg₂ (· * ·) (dy_blk m c t r k) (Wt_apply m c q k))
theorem gate_part (c : Dev nD) (t : Fin cfg0.N) (o : Vec Ideal S1x1x1024 .f32) (d : Fin 1024) :
    k0_pay6 (iblk m c 1 t) (iblk m c 2 t) o (ix3 0 0 d) = o (ix3 0 0 d) + ∑ r : Fin 256, onNat (gateOf m c d) (256 * t.val + r.val) := by
  refine (add_gate _ _ o d).trans (congrArg (o (ix3 0 0 d) + ·) (Finset.sum_congr rfl fun r _ => ?_))
  rw [show 256 * t.val + r.val = (rowAt t r).val from rfl, onNat_of _ _ (rowAt t r).isLt]
  exact congrArg₂ (· * ·) (blk_dx m c t r d) (blk_y m c t r d)

theorem gate_at (c : Dev nD) (d : Fin 1024) (n : ℕ) (h : n < cfg0.N) (h32 : n < 32) :
    gateAt m c n h (ix3 0 0 d) = ∑ s ∈ Finset.range (n + 1), ∑ r : Fin 256, onNat (gateOf m c d) (256 * s + r.val) := by
  induction n with
  | zero => rw [gateAt, gate_part, zero_gate, zero_add, Finset.sum_range_one]
  | succ n ih => rw [gateAt, if_neg (by omega), gate_part, ih _ (by omega), Finset.sum_range_succ _ (n + 1)]
theorem gate_last (c : Dev nD) (d : Fin 1024) (h : 32 < cfg0.N) :
    gateAt m c 32 h (ix3 0 0 d) = ∑ r : Fin 256, onNat (gateOf m c d) (8192 + r.val) := by
  rw [gateAt, if_pos (by decide), gate_part, zero_gate, zero_add]; rfl

/-- A sum over one stream's rows: the first's 8192, or the second's 256. -/
def overStream (f : Fin 8448 → EReal) (s : ℕ) : EReal :=
  if s = 0 then ∑ r : Fin 8192, f ⟨r.val, lt_trans r.isLt (by decide)⟩ else ∑ r : Fin 256, f ⟨8192 + r.val, by omega⟩

/-- The results. -/
def dgate (c : Dev nD) : Vec Ideal S2x1x1024 .f32 := fun i => overStream (gateOf m c (i 2)) (i 0).val
def dyAll (c : Dev nD) : Vec Ideal S8448x1024 .bf16 := fun i => dyOf m c (i 0) (i 1)
def dzAll (c : Dev nD) : Vec Ideal S8448x2816 .bf16 := fun i => dzOf m c (i 0) (i 1)

/-- Each block is written by its own point. -/
theorem dy_final (c : Dev nD) : (dats m 0 c).arrAt 4 cfg0.N = dyAll m c := by
  refine (dats m 0 c).arrAt_eq_of_covers 4 _ (by decide +kernel) fun t hf y => ?_
  have key : ∀ y : S256x1024.Idx, dyBlock m c t y = dyAll m c ((win0_4.blk t).view.emb y) := fun y => by
    have e0 : ((win0_4.blk t).view.emb y 0 : Fin 8448).val = 256 * t.val + (y 0).val := by blk_simp [at_4 t]; show t.val * 256 + _ = _; omega
    have e1 : ((win0_4.blk t).view.emb y 1 : Fin 1024).val = (y 1).val := by blk_simp [at_4 t]
    rw [ValueIdx.eq_ix2 y] at e0 e1 ⊢
    exact (dy_blk m c t (y 0) (y 1)).trans (congrArg₂ (dyOf m c) (Fin.ext e0.symm) (Fin.ext e1.symm))
  blk_simp
  rw [after_4]
  exact key y
theorem dz_final (c : Dev nD) : (dats m 0 c).arrAt 5 cfg0.N = dzAll m c := by
  refine (dats m 0 c).arrAt_eq_of_covers 5 _ (by decide +kernel) fun t hf y => ?_
  have key : ∀ y : S256x2816.Idx, dzBlock m c t y = dzAll m c ((win0_5.blk t).view.emb y) := fun y => by
    have e0 : ((win0_5.blk t).view.emb y 0 : Fin 8448).val = 256 * t.val + (y 0).val := by blk_simp [at_5 t]; show t.val * 256 + _ = _; omega
    have e1 : ((win0_5.blk t).view.emb y 1 : Fin 2816).val = (y 1).val := by blk_simp [at_5 t]
    rw [ValueIdx.eq_ix2 y] at e0 e1 ⊢
    exact (dz_blk m c t (y 0) (y 1)).trans (congrArg₂ (dzOf m c) (Fin.ext e0.symm) (Fin.ext e1.symm))
  blk_simp
  rw [after_5]
  exact key y

/-- Of a one-row array only the last coordinate matters. -/
theorem head_idx (y : S1x1x1024.Idx) (d : Fin 1024) (h : y 2 = d) : y = ix3 0 0 d := by
  subst h
  funext a
  match a with
  | 0 => exact Fin.ext (by have : (y 0).val < 1 := (y 0).isLt; show (y 0).val = 0; omega)
  | 1 => exact Fin.ext (by have : (y 1).val < 1 := (y 1).isLt; show (y 1).val = 0; omega)
  | 2 => rfl
/-- The sum of a stream is written at its last point. -/
theorem gate_written (c : Dev nD) (d : Fin 1024) (n : ℕ) (hn) (h : 31 ≤ n) : gateAt m c n hn (ix3 0 0 d) = overStream (gateOf m c d) (n / 32) := by
  have : n = 31 ∨ n = 32 := by have : n < 33 := hn; omega
  rcases this with rfl | rfl
  · rw [gate_at m c d 31 hn (by decide), sum_blocks, show overStream (gateOf m c d) (31 / 32) = _ from if_pos rfl]
    exact sum_first _
  · rw [gate_last m c d hn, show overStream (gateOf m c d) (32 / 32) = _ from if_neg (by decide)]
    exact sum_second _
theorem dgate_final (c : Dev nD) : (dats m 0 c).arrAt 3 cfg0.N = dgate m c := by
  refine (dats m 0 c).arrAt_eq_of_covers 3 _ (by decide +kernel) fun t hf y' => ?_
  have h31 := (flush_3 t).mp hf
  have key : ∀ y : S1x1x1024.Idx, gateAt m c t.val t.isLt y = dgate m c ((win0_3.blk t).view.emb y) := fun y => by
    have e0 : ((win0_3.blk t).view.emb y 0 : Fin 2).val = t.val / 32 := by
      have : (y 0).val < 1 := (y 0).isLt
      blk_simp [at_3 t]
    have e2 : ((win0_3.blk t).view.emb y 2 : Fin 1024) = y 2 := Fin.ext (by blk_simp [at_3 t])
    have e := gate_written m c (y 2) t.val t.isLt h31
    rw [← e0, ← e2] at e
    rw [← head_idx y _ e2.symm] at e
    exact e
  blk_simp
  rw [after_3]
  exact key y'

/-- The run, with the results named and the arguments unchanged. -/
theorem run_values : θ_run defs (onTc (τ := τ) (main (F := Ideal))) ⟨m, fun _ => 0, ρ⟩ (fun r => ∀ c : Dev nD,
      r.2.mem ((c.tc : Thread nD τ).loc main_v8_0) = dgate m c
      ∧ r.2.mem ((c.tc : Thread nD τ).loc main_v8_1) = dyAll m c
      ∧ r.2.mem ((c.tc : Thread nD τ).loc main_v8_2) = dzAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 3).trans (dgate_final m c), ((h.1.1 c).1 4).trans (dy_final m c), ((h.1.1 c).1 5).trans (dz_final m c), h.2.1 c⟩)
    (θ_run_and (run_all m ρ) (frame_all m ρ))

end Cert.Kernel7Ideal.Run

end
-- ==== Proof.BwdDownClaims.lean ====
module

public import proofs.«01_k».proof.Proof.BwdDownValue
public import proofs.«01_k».proof.Proof.Gen.Reference7Ideal.Read
public import proofs.«01_k».proof.Proof.Gen.Reference7Ideal.Run
public import proofs.«01_k».proof.Defs

@[expose] public section

set_option maxRecDepth 16384

noncomputable section

/-! The call's results are the reference's. -/

namespace Cert.Reference7Ideal.Spec

open Cert.Reference7Ideal Cert.Reference7Ideal.Gen Cert.Reference7Ideal.Read Idealize.ShloMosaic

variable (x0 : S8448x1024.Idx → EReal) (x1 : S8448x2816.Idx → EReal) (x2 : S2x1x1024.Idx → EReal) (x4 : S2816x1024.Idx → EReal)

/-- A row of the first stream, and of the second. -/
def fst (r : Fin 8192) : Fin 8448 := ⟨r.val, lt_trans r.isLt (by decide)⟩
def snd (r : Fin 256) : Fin 8448 := ⟨8192 + r.val, by omega⟩
/-- A row of the product; a row's part of the gate's gradient; a row of `dy` and of `dz`. -/
def row (r : Fin 8448) (k : Fin 1024) : EReal := ∑ q : Fin 2816, x1 (ix2 r q) * x4 (ix2 q k)
def gate (r : Fin 8448) (d : Fin 1024) : EReal := x0 (ix2 r d) * row x1 x4 r d
def dyr (r : Fin 8448) (s : Fin 2) (k : Fin 1024) : EReal := x2 (ix3 s 0 k) * x0 (ix2 r k)
def dzr (r : Fin 8448) (s : Fin 2) (q : Fin 2816) : EReal := ∑ k : Fin 1024, dyr x0 x2 r s k * x4 (ix2 q k)

theorem y0 (r : Fin 8192) (k : Fin 1024) : val_main_v4 (F := Ideal) x1 x4 (ix2 r k) = row x1 x4 (fst r) k := by
  unfold val_main_v4 val_main_v1 val_main_v0
  pointwise
  rfl
theorem y1 (r : Fin 256) (k : Fin 1024) : val_main_v5 (F := Ideal) x1 x4 (ix2 r k) = row x1 x4 (snd r) k := by
  unfold val_main_v5 val_main_v3 val_main_v2
  pointwise
  rfl
theorem g0 (r : Fin 8192) (k : Fin 1024) : val_main_v25 (F := Ideal) x0 x1 x4 (ix2 r k) = gate x0 x1 x4 (fst r) k := by
  unfold val_main_v25 val_main_v14
  pointwise
  rw [y0]; rfl
theorem g1 (r : Fin 256) (k : Fin 1024) : val_main_v18 (F := Ideal) x0 x1 x4 (ix2 r k) = gate x0 x1 x4 (snd r) k := by
  unfold val_main_v18 val_main_v15
  pointwise
  rw [y1]; rfl
theorem gates (s : Fin 2) (z : Fin 1) (d : Fin 1024) : val_main_v30 (F := Ideal) x0 x1 x4 (ix3 s z d)
    = if s.val = 0 then ∑ r, gate x0 x1 x4 (fst r) d else ∑ r, gate x0 x1 x4 (snd r) d := by
  unfold val_main_v30 val_main_v29 val_main_cst_2 val_main_v28 val_main_v27 val_main_v26 val_main_cst_1 val_main_v22 val_main_cst_0 val_main_v21 val_main_v20 val_main_v19 val_main_cst
  pointwise
  simp only [g0, g1]
  split_ifs with h1 h2 h3 h4 h5 <;> first | omega | (rw [zero_add]; done) | (rw [add_zero]; done) | (rw [zero_add]; rfl) | (rw [add_zero]; rfl)
theorem d0 (r : Fin 8192) (k : Fin 1024) : val_main_v24 (F := Ideal) x0 x2 (ix2 r k) = dyr x0 x2 (fst r) 0 k := by
  unfold val_main_v24 val_main_v23 val_main_v14 val_main_v7 val_main_v6
  pointwise
  rfl
theorem d1 (r : Fin 256) (k : Fin 1024) : val_main_v17 (F := Ideal) x0 x2 (ix2 r k) = dyr x0 x2 (snd r) 1 k := by
  unfold val_main_v17 val_main_v16 val_main_v15 val_main_v11 val_main_v10
  pointwise
  rfl
theorem z0 (r : Fin 8192) (q : Fin 2816) : val_main_v32 (F := Ideal) x0 x2 x4 (ix2 r q) = dzr x0 x2 x4 (fst r) 0 q := by
  unfold val_main_v32
  pointwise
  exact Finset.sum_congr rfl fun k _ => congrArg (· * x4 (ix2 q k)) (d0 x0 x2 r k)
theorem z1 (r : Fin 256) (q : Fin 2816) : val_main_v31 (F := Ideal) x0 x2 x4 (ix2 r q) = dzr x0 x2 x4 (snd r) 1 q := by
  unfold val_main_v31
  pointwise
  exact Finset.sum_congr rfl fun k _ => congrArg (· * x4 (ix2 q k)) (d1 x0 x2 r k)
theorem dy (r : Fin 8448) (k : Fin 1024) : val_main_v34 (F := Ideal) x0 x2 (ix2 r k) = dyr x0 x2 r ⟨r.val / 8192, by omega⟩ k := by
  unfold val_main_v34 val_main_v33
  pointwise
  split_ifs with h
  · have e : (⟨r.val / 8192, by omega⟩ : Fin 2) = 0 := Fin.ext (by show r.val / 8192 = 0; omega)
    rw [d0, e]; rfl
  · have e : (⟨r.val / 8192, by omega⟩ : Fin 2) = 1 := Fin.ext (by show r.val / 8192 = 1; omega)
    have e' : snd ⟨r.val - 8192, by omega⟩ = r := Fin.ext (by show 8192 + (r.val - 8192) = r.val; omega)
    rw [d1, e, e']
  · exact absurd rfl ‹_›
theorem dz (r : Fin 8448) (q : Fin 2816) : val_main_v36 (F := Ideal) x0 x2 x4 (ix2 r q) = dzr x0 x2 x4 r ⟨r.val / 8192, by omega⟩ q := by
  unfold val_main_v36 val_main_v35
  pointwise
  split_ifs with h
  · have e : (⟨r.val / 8192, by omega⟩ : Fin 2) = 0 := Fin.ext (by show r.val / 8192 = 0; omega)
    rw [z0, e]; rfl
  · have e : (⟨r.val / 8192, by omega⟩ : Fin 2) = 1 := Fin.ext (by show r.val / 8192 = 1; omega)
    have e' : snd ⟨r.val - 8192, by omega⟩ = r := Fin.ext (by show 8192 + (r.val - 8192) = r.val; omega)
    rw [z1, e, e']
  · exact absurd rfl ‹_›

end Cert.Reference7Ideal.Spec

namespace Cert.BwdDown

open Idealize.ShloMosaic Idealize.SL.Sem

/-- The reference runs, leaves its arguments, and has no counters. -/
theorem frame_reference [Cert.Reference7Ideal.Facts] : Cert.quiescent_Reference7Ideal := fun m g _ =>
  (θ_run Cert.Reference7Ideal.defs _ _).mono
    (fun r h => ⟨fun c => (h c).2.2.2, sem_eq_zero_of_no_sems (by decide) r.2⟩) (Cert.Reference7Ideal.Value.run m g)

section Equal

variable (m : (ℓ : Loc Cert.Kernel7Ideal.nD Cert.Kernel7Ideal.τ Cert.Kernel7Ideal.sig) → Buf (Elt Ideal) ℓ) (c : Dev Cert.Kernel7Ideal.nD)

open Cert.Kernel7Ideal.Run in
theorem gate_eq : Cert.Reference7Ideal.Read.val_main_v30 (F := Ideal) (argDx m c) (argF m c) (argW m c) = dgate m c := by
  funext i
  rw [ValueIdx.eq_ix3 i]
  exact Cert.Reference7Ideal.Spec.gates _ _ _ (i 0) (i 1) (i 2)
open Cert.Kernel7Ideal.Run in
theorem dy_eq : Cert.Reference7Ideal.Read.val_main_v34 (F := Ideal) (argDx m c) (argG m c) = dyAll m c := by
  funext i
  rw [ValueIdx.eq_ix2 i]
  exact Cert.Reference7Ideal.Spec.dy _ _ (i 0) (i 1)
open Cert.Kernel7Ideal.Run in
theorem dz_eq : Cert.Reference7Ideal.Read.val_main_v36 (F := Ideal) (argDx m c) (argG m c) (argW m c) = dzAll m c := by
  funext i
  rw [ValueIdx.eq_ix2 i]
  exact Cert.Reference7Ideal.Spec.dz _ _ _ (i 0) (i 1)

end Equal

set_option maxHeartbeats 4000000 in
/-- The two programs' results are equal. -/
theorem algebraic [Cert.Kernel7Ideal.Facts] [Cert.Reference7Ideal.Facts] : Cert.algebraic_Kernel7Ideal_Reference7Ideal := by
  intro m g m' g' _ hag
  refine ⟨Cert.Kernel7Ideal.Run.dgate m, Cert.Kernel7Ideal.Run.dyAll m, Cert.Kernel7Ideal.Run.dzAll m,
    Cert.Kernel7Ideal.Run.run_values m g, (θ_run Cert.Reference7Ideal.defs _ _).mono (fun r h c => ?_) (Cert.Reference7Ideal.Value.run m' g')⟩
  obtain ⟨h0, h1, h2, hargs⟩ := h c
  obtain ⟨a0, a1, a2, -, a4⟩ := hag c
  refine ⟨h0.trans ?_, h1.trans ?_, h2.trans ?_, hargs⟩
  · rw [Cert.Reference7Ideal.Read.val_main_v30_eq, a0, a1, a4]; exact gate_eq m c
  · rw [Cert.Reference7Ideal.Read.val_main_v34_eq, a0, a2]; exact dy_eq m c
  · rw [Cert.Reference7Ideal.Read.val_main_v36_eq, a0, a2, a4]; exact dz_eq m c

end Cert.BwdDown

end
-- ==== Proof.ProjUpRun.lean ====
module

public import proofs.«01_k».proof.Proof.Gen.Kernel8Ideal.Frame.Runs
public import proofs.«01_k».proof.Proof.Gen.Kernel8Ideal.Skeleton
public import Idealize.ShloMosaic.Lib.VecWindow
public import Idealize.ShloMosaic.Lib.WritesUnit
public import Idealize.ShloMosaic.Lib.ValueLayout
public import Idealize.ShloMosaic.Lib.Claim

@[expose] public section

set_option maxRecDepth 16384

noncomputable section

namespace Cert.Kernel8Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Whole
variable {Val : EltTy → Type} {S : Shape} {e : EltTy} {sp : Space}

/-- A load of everything, from a whole buffer holding `x`, reads `x`. -/
theorem load_whole {M : Memref sig .tc sp S e} (h : M.IsWhole) (x : S.Idx → Val e) {off : Fin S.rank → ℕ} (inb : ∀ a, off a + S.size a ≤ S.size a) :
    M.view.readAt Val (Rect.unit off (no_index S.size) inb).toLoadRect (h.unread x) = x := by
  rw [View.readAt_full]; exact h.read_unread x

/-- A load of everything, after a store of everything, reads what was stored. -/
theorem load_stored [∀ e, Nonempty (Val e)] (v : View sig .tc sp S e) {off off' : Fin S.rank → ℕ} (inb : ∀ a, off a + S.size a ≤ S.size a) (inb' : ∀ a, off' a + S.size a ≤ S.size a)
    (w : S.Idx → Val e) (L : List (View.Piece Val S e)) :
    v.readCov ((⟨Rect.unit off' (no_index S.size) inb', w⟩ : View.Piece Val S e) :: L) (Rect.unit off (no_index S.size) inb).toLoadRect = w :=
  View.readCov_full v inb inb' w L

/-- After a store of everything the buffer holds what was stored, whatever was there. -/
theorem stored_whole (v : View sig .tc sp S e) (f : v.ty.Contents Val) {off : Fin S.rank → ℕ} (inb : ∀ a, off a + S.size a ≤ S.size a)
    (w x : S.Idx → Val e) (L : List (View.Piece Val S e)) (h : w = x) :
    v.read Val (v.writes Val f ((⟨Rect.unit off (no_index S.size) inb, w⟩ : View.Piece Val S e) :: L)) = x :=
  (View.read_writes_full v f inb w L).trans h
end Whole

/-- The grid point is the first: the weight is copied in. -/
abbrev condFirst (i : grid0.Coords) : Prop := (Scalar.cmpi .ne (Scalar.extui (Scalar.cmpi .eq (BitVec.ofNat 32 (i 0).val) 0#32)) 0#32) = 1#1

/-- The operand the body copies in itself: the gathered weights, whole. -/
abbrev hbM0_0 : Memref sig .tc .hbm S8x1056x1024 .bf16 := Memref.whole main_v4
/-- The contents type of a memref's buffer. -/
abbrev HbBuf0 (c : Dev nD) {sp : Space} {S : Shape} {e : EltTy} (M : Memref sig .tc sp S e) : Type := Buf (Elt F) (M.view.loc (c : Thread nD τ))
/-- A memref's buffer, held whole at given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The weight the body works with: row `704 e + r` is row `0 + r` of slab `e` of the gathered weights. -/
def weightOf {c : Dev nD} (g : HbBuf0 (F := F) c hbM0_0) : Vec F S5632x1024 .bf16 :=
  fun y => (hbM0_0.view.read (Elt F) g : Vec F S8x1056x1024 .bf16) fun a => match a with
    | ⟨0, _⟩ => (⟨(y 0).val / 704, by have := (y 0).isLt; change _ < 5632 at this; show _ < 8; omega⟩ : Fin 8)
    | ⟨1, _⟩ => (⟨0 + (y 0).val % 704, by show _ < 1056; omega⟩ : Fin 1056)
    | ⟨2, _⟩ => (⟨(y 1).val, (y 1).isLt⟩ : Fin 1024)

/-- The body's own transfer cells, all at zero. -/
def cells (c : Dev nD) : sProp 𝕄 :=
  iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)

/-- Row `x` of the copied slab `e` is row `704 e + x` of the weight. -/
theorem slab_apply {c : Dev nD} (g : HbBuf0 (F := F) c hbM0_0) (e : ℕ) (he : e < 8) (inb : ∀ a, (![e, 0, 0] : Fin 3 → ℕ) a + (![1, 704, 1024] : Fin 3 → ℕ) a ≤ S8x1056x1024.size a)
    (hn : S704x1024.numel = (Rect.unit (s := S8x1056x1024) ![e, 0, 0] ![1, 704, 1024] inb).shape.numel) (x : S704x1024.Idx) (y : S5632x1024.Idx)
    (h0 : (y 0).val = 704 * e + (x 0).val) (h1 : (y 1).val = (x 1).val) :
    (View.read (Elt F) (((View.whole main_v4).slice (Rect.unit ![e, 0, 0] ![1, 704, 1024] inb)).reshape S704x1024 hn) g : Vec F S704x1024 .bf16) x = weightOf g y := by
  have hx0 : (x 0).val < 704 := (x 0).isLt
  have hx : x = ValueIdx.ix2 (x 0) (x 1) := ValueIdx.eq_ix2 x
  show (View.read (Elt F) ((View.whole main_v4).slice (Rect.unit ![e, 0, 0] ![1, 704, 1024] inb)) g) (Shape.reshapeEquiv hn x) = _
  rw [hx]
  erw [ValueIdx.reshapeEquiv_ix2_1ab]
  unfold weightOf
  show View.read (Elt F) (View.whole main_v4) g _ = View.read (Elt F) (View.whole main_v4) g _
  refine congrArg _ (funext fun a => Fin.ext ?_)
  match a with
  | ⟨0, _⟩ => show e + 1 * 0 = (y 0).val / 704; omega
  | ⟨1, _⟩ => show 0 + 1 * (x 0).val = 0 + (y 0).val % 704; omega
  | ⟨2, _⟩ => show 0 + 1 * (x 1).val = (y 1).val; omega

/-- After the eight copies the scratch holds the weight, whatever was there. -/
theorem read_slabs {c : Dev nD} (g : HbBuf0 (F := F) c hbM0_0) (v : View sig .tc .vmem S5632x1024 .bf16) (f : v.ty.Contents (Elt F))
    (b0 : ∀ a, (![0, 0] : Fin 2 → ℕ) a + S704x1024.size a ≤ S5632x1024.size a) (s0 : ∀ a, (![0, 0, 0] : Fin 3 → ℕ) a + (![1, 704, 1024] : Fin 3 → ℕ) a ≤ S8x1056x1024.size a) (n0 : S704x1024.numel = (Rect.unit (s := S8x1056x1024) ![0, 0, 0] ![1, 704, 1024] s0).shape.numel)
    (b1 : ∀ a, (![704, 0] : Fin 2 → ℕ) a + S704x1024.size a ≤ S5632x1024.size a) (s1 : ∀ a, (![1, 0, 0] : Fin 3 → ℕ) a + (![1, 704, 1024] : Fin 3 → ℕ) a ≤ S8x1056x1024.size a) (n1 : S704x1024.numel = (Rect.unit (s := S8x1056x1024) ![1, 0, 0] ![1, 704, 1024] s1).shape.numel)
    (b2 : ∀ a, (![1408, 0] : Fin 2 → ℕ) a + S704x1024.size a ≤ S5632x1024.size a) (s2 : ∀ a, (![2, 0, 0] : Fin 3 → ℕ) a + (![1, 704, 1024] : Fin 3 → ℕ) a ≤ S8x1056x1024.size a) (n2 : S704x1024.numel = (Rect.unit (s := S8x1056x1024) ![2, 0, 0] ![1, 704, 1024] s2).shape.numel)
    (b3 : ∀ a, (![2112, 0] : Fin 2 → ℕ) a + S704x1024.size a ≤ S5632x1024.size a) (s3 : ∀ a, (![3, 0, 0] : Fin 3 → ℕ) a + (![1, 704, 1024] : Fin 3 → ℕ) a ≤ S8x1056x1024.size a) (n3 : S704x1024.numel = (Rect.unit (s := S8x1056x1024) ![3, 0, 0] ![1, 704, 1024] s3).shape.numel)
    (b4 : ∀ a, (![2816, 0] : Fin 2 → ℕ) a + S704x1024.size a ≤ S5632x1024.size a) (s4 : ∀ a, (![4, 0, 0] : Fin 3 → ℕ) a + (![1, 704, 1024] : Fin 3 → ℕ) a ≤ S8x1056x1024.size a) (n4 : S704x1024.numel = (Rect.unit (s := S8x1056x1024) ![4, 0, 0] ![1, 704, 1024] s4).shape.numel)
    (b5 : ∀ a, (![3520, 0] : Fin 2 → ℕ) a + S704x1024.size a ≤ S5632x1024.size a) (s5 : ∀ a, (![5, 0, 0] : Fin 3 → ℕ) a + (![1, 704, 1024] : Fin 3 → ℕ) a ≤ S8x1056x1024.size a) (n5 : S704x1024.numel = (Rect.unit (s := S8x1056x1024) ![5, 0, 0] ![1, 704, 1024] s5).shape.numel)
    (b6 : ∀ a, (![4224, 0] : Fin 2 → ℕ) a + S704x1024.size a ≤ S5632x1024.size a) (s6 : ∀ a, (![6, 0, 0] : Fin 3 → ℕ) a + (![1, 704, 1024] : Fin 3 → ℕ) a ≤ S8x1056x1024.size a) (n6 : S704x1024.numel = (Rect.unit (s := S8x1056x1024) ![6, 0, 0] ![1, 704, 1024] s6).shape.numel)
    (b7 : ∀ a, (![4928, 0] : Fin 2 → ℕ) a + S704x1024.size a ≤ S5632x1024.size a) (s7 : ∀ a, (![7, 0, 0] : Fin 3 → ℕ) a + (![1, 704, 1024] : Fin 3 → ℕ) a ≤ S8x1056x1024.size a) (n7 : S704x1024.numel = (Rect.unit (s := S8x1056x1024) ![7, 0, 0] ![1, 704, 1024] s7).shape.numel) :
    v.read (Elt F) (v.writes (Elt F) f
      [⟨Rect.unit ![4928, 0] (no_index S704x1024.size) b7, ReadAs.same.apply (View.read (Elt F) (((View.whole main_v4).slice (Rect.unit ![7, 0, 0] ![1, 704, 1024] s7)).reshape S704x1024 n7) g)⟩,
        ⟨Rect.unit ![4224, 0] (no_index S704x1024.size) b6, ReadAs.same.apply (View.read (Elt F) (((View.whole main_v4).slice (Rect.unit ![6, 0, 0] ![1, 704, 1024] s6)).reshape S704x1024 n6) g)⟩,
        ⟨Rect.unit ![3520, 0] (no_index S704x1024.size) b5, ReadAs.same.apply (View.read (Elt F) (((View.whole main_v4).slice (Rect.unit ![5, 0, 0] ![1, 704, 1024] s5)).reshape S704x1024 n5) g)⟩,
        ⟨Rect.unit ![2816, 0] (no_index S704x1024.size) b4, ReadAs.same.apply (View.read (Elt F) (((View.whole main_v4).slice (Rect.unit ![4, 0, 0] ![1, 704, 1024] s4)).reshape S704x1024 n4) g)⟩,
        ⟨Rect.unit ![2112, 0] (no_index S704x1024.size) b3, ReadAs.same.apply (View.read (Elt F) (((View.whole main_v4).slice (Rect.unit ![3, 0, 0] ![1, 704, 1024] s3)).reshape S704x1024 n3) g)⟩,
        ⟨Rect.unit ![1408, 0] (no_index S704x1024.size) b2, ReadAs.same.apply (View.read (Elt F) (((View.whole main_v4).slice (Rect.unit ![2, 0, 0] ![1, 704, 1024] s2)).reshape S704x1024 n2) g)⟩,
        ⟨Rect.unit ![704, 0] (no_index S704x1024.size) b1, ReadAs.same.apply (View.read (Elt F) (((View.whole main_v4).slice (Rect.unit ![1, 0, 0] ![1, 704, 1024] s1)).reshape S704x1024 n1) g)⟩,
        ⟨Rect.unit ![0, 0] (no_index S704x1024.size) b0, ReadAs.same.apply (View.read (Elt F) (((View.whole main_v4).slice (Rect.unit ![0, 0, 0] ![1, 704, 1024] s0)).reshape S704x1024 n0) g)⟩]) = weightOf g := by
  funext y
  have hy : (y 0).val < 5632 := (y 0).isLt
  by_cases h7 : 4928 ≤ (y 0).val
  · exact (View.read_writes_cons_rows_of_mem v f b7 _ _ y (ValueIdx.ix2 ⟨(y 0).val - 4928, by show _ < 704; omega⟩ (y 1)) rfl (by show (y 0).val = 4928 + ((y 0).val - 4928); omega) rfl).trans (slab_apply g 7 (by omega) s7 n7 _ y (by show (y 0).val = 704 * 7 + ((y 0).val - 4928); omega) rfl)
  refine (View.read_writes_cons_rows_of_not_mem v f b7 _ _ y rfl (W := 704) rfl (Or.inl (by omega))).trans ?_
  by_cases h6 : 4224 ≤ (y 0).val
  · exact (View.read_writes_cons_rows_of_mem v f b6 _ _ y (ValueIdx.ix2 ⟨(y 0).val - 4224, by show _ < 704; omega⟩ (y 1)) rfl (by show (y 0).val = 4224 + ((y 0).val - 4224); omega) rfl).trans (slab_apply g 6 (by omega) s6 n6 _ y (by show (y 0).val = 704 * 6 + ((y 0).val - 4224); omega) rfl)
  refine (View.read_writes_cons_rows_of_not_mem v f b6 _ _ y rfl (W := 704) rfl (Or.inl (by omega))).trans ?_
  by_cases h5 : 3520 ≤ (y 0).val
  · exact (View.read_writes_cons_rows_of_mem v f b5 _ _ y (ValueIdx.ix2 ⟨(y 0).val - 3520, by show _ < 704; omega⟩ (y 1)) rfl (by show (y 0).val = 3520 + ((y 0).val - 3520); omega) rfl).trans (slab_apply g 5 (by omega) s5 n5 _ y (by show (y 0).val = 704 * 5 + ((y 0).val - 3520); omega) rfl)
  refine (View.read_writes_cons_rows_of_not_mem v f b5 _ _ y rfl (W := 704) rfl (Or.inl (by omega))).trans ?_
  by_cases h4 : 2816 ≤ (y 0).val
  · exact (View.read_writes_cons_rows_of_mem v f b4 _ _ y (ValueIdx.ix2 ⟨(y 0).val - 2816, by show _ < 704; omega⟩ (y 1)) rfl (by show (y 0).val = 2816 + ((y 0).val - 2816); omega) rfl).trans (slab_apply g 4 (by omega) s4 n4 _ y (by show (y 0).val = 704 * 4 + ((y 0).val - 2816); omega) rfl)
  refine (View.read_writes_cons_rows_of_not_mem v f b4 _ _ y rfl (W := 704) rfl (Or.inl (by omega))).trans ?_
  by_cases h3 : 2112 ≤ (y 0).val
  · exact (View.read_writes_cons_rows_of_mem v f b3 _ _ y (ValueIdx.ix2 ⟨(y 0).val - 2112, by show _ < 704; omega⟩ (y 1)) rfl (by show (y 0).val = 2112 + ((y 0).val - 2112); omega) rfl).trans (slab_apply g 3 (by omega) s3 n3 _ y (by show (y 0).val = 704 * 3 + ((y 0).val - 2112); omega) rfl)
  refine (View.read_writes_cons_rows_of_not_mem v f b3 _ _ y rfl (W := 704) rfl (Or.inl (by omega))).trans ?_
  by_cases h2 : 1408 ≤ (y 0).val
  · exact (View.read_writes_cons_rows_of_mem v f b2 _ _ y (ValueIdx.ix2 ⟨(y 0).val - 1408, by show _ < 704; omega⟩ (y 1)) rfl (by show (y 0).val = 1408 + ((y 0).val - 1408); omega) rfl).trans (slab_apply g 2 (by omega) s2 n2 _ y (by show (y 0).val = 704 * 2 + ((y 0).val - 1408); omega) rfl)
  refine (View.read_writes_cons_rows_of_not_mem v f b2 _ _ y rfl (W := 704) rfl (Or.inl (by omega))).trans ?_
  by_cases h1 : 704 ≤ (y 0).val
  · exact (View.read_writes_cons_rows_of_mem v f b1 _ _ y (ValueIdx.ix2 ⟨(y 0).val - 704, by show _ < 704; omega⟩ (y 1)) rfl (by show (y 0).val = 704 + ((y 0).val - 704); omega) rfl).trans (slab_apply g 1 (by omega) s1 n1 _ y (by show (y 0).val = 704 * 1 + ((y 0).val - 704); omega) rfl)
  refine (View.read_writes_cons_rows_of_not_mem v f b1 _ _ y rfl (W := 704) rfl (Or.inl (by omega))).trans ?_
  exact (View.read_writes_cons_rows_of_mem v f b0 _ _ y (ValueIdx.ix2 ⟨(y 0).val - 0, by show _ < 704; omega⟩ (y 1)) rfl (by show (y 0).val = 0 + ((y 0).val - 0); omega) rfl).trans (slab_apply g 0 (by omega) s0 n0 _ y (by show (y 0).val = 704 * 0 + ((y 0).val - 0); omega) rfl)

/-- The weight's rows from `o` on, 512 of them. -/
def rowsAt (x : Vec F S5632x1024 .bf16) (o : ℕ) : Vec F S512x1024 .bf16 :=
  fun z => x (ValueIdx.ix2 ⟨(o + (z 0).val) % 5632, Nat.mod_lt _ (by decide)⟩ (z 1))

/-- A load of 512 rows reads them. -/
theorem readAt_rows (v : View sig .tc .vmem S5632x1024 .bf16) (f : v.ty.Contents (Elt F)) (x : Vec F S5632x1024 .bf16) (hx : v.read (Elt F) f = x) {o : ℕ} (inb : ∀ a, (![o, 0] : Fin 2 → ℕ) a + S512x1024.size a ≤ S5632x1024.size a) :
    v.readAt (Elt F) (Rect.unit (s := S5632x1024) ![o, 0] (no_index S512x1024.size) inb).toLoadRect f = rowsAt x o := by
  subst hx
  funext z
  have hz : (z 0).val < 512 := (z 0).isLt
  have ho : o + 512 ≤ 5632 := inb 0
  unfold rowsAt
  refine congrArg (v.read (Elt F) f) (funext fun a => Fin.ext ?_)
  match a with
  | ⟨0, _⟩ => show o + 1 * (z 0).val = (o + (z 0).val) % 5632; omega
  | ⟨1, _⟩ => show 0 + 1 * (z 1).val = (z 1).val; omega

/-- … of a whole buffer holding `x`. -/
theorem load_rows {M : Memref sig .tc .vmem S5632x1024 .bf16} (h : M.IsWhole) (x : Vec F S5632x1024 .bf16) {o : ℕ} (inb : ∀ a, (![o, 0] : Fin 2 → ℕ) a + S512x1024.size a ≤ S5632x1024.size a) :
    M.view.readAt (Elt F) (Rect.unit (s := S5632x1024) ![o, 0] (no_index S512x1024.size) inb).toLoadRect (h.unread x) = rowsAt x o :=
  readAt_rows M.view _ x (h.read_unread x) inb

/-- … of the scratch after the eight copies. -/
theorem load_slab_rows {c : Dev nD} (g : HbBuf0 (F := F) c hbM0_0) (v : View sig .tc .vmem S5632x1024 .bf16) {o : ℕ} (inb : ∀ a, (![o, 0] : Fin 2 → ℕ) a + S512x1024.size a ≤ S5632x1024.size a)
    (b0 : ∀ a, (![0, 0] : Fin 2 → ℕ) a + S704x1024.size a ≤ S5632x1024.size a) (s0 : ∀ a, (![0, 0, 0] : Fin 3 → ℕ) a + (![1, 704, 1024] : Fin 3 → ℕ) a ≤ S8x1056x1024.size a) (n0 : S704x1024.numel = (Rect.unit (s := S8x1056x1024) ![0, 0, 0] ![1, 704, 1024] s0).shape.numel)
    (b1 : ∀ a, (![704, 0] : Fin 2 → ℕ) a + S704x1024.size a ≤ S5632x1024.size a) (s1 : ∀ a, (![1, 0, 0] : Fin 3 → ℕ) a + (![1, 704, 1024] : Fin 3 → ℕ) a ≤ S8x1056x1024.size a) (n1 : S704x1024.numel = (Rect.unit (s := S8x1056x1024) ![1, 0, 0] ![1, 704, 1024] s1).shape.numel)
    (b2 : ∀ a, (![1408, 0] : Fin 2 → ℕ) a + S704x1024.size a ≤ S5632x1024.size a) (s2 : ∀ a, (![2, 0, 0] : Fin 3 → ℕ) a + (![1, 704, 1024] : Fin 3 → ℕ) a ≤ S8x1056x1024.size a) (n2 : S704x1024.numel = (Rect.unit (s := S8x1056x1024) ![2, 0, 0] ![1, 704, 1024] s2).shape.numel)
    (b3 : ∀ a, (![2112, 0] : Fin 2 → ℕ) a + S704x1024.size a ≤ S5632x1024.size a) (s3 : ∀ a, (![3, 0, 0] : Fin 3 → ℕ) a + (![1, 704, 1024] : Fin 3 → ℕ) a ≤ S8x1056x1024.size a) (n3 : S704x1024.numel = (Rect.unit (s := S8x1056x1024) ![3, 0, 0] ![1, 704, 1024] s3).shape.numel)
    (b4 : ∀ a, (![2816, 0] : Fin 2 → ℕ) a + S704x1024.size a ≤ S5632x1024.size a) (s4 : ∀ a, (![4, 0, 0] : Fin 3 → ℕ) a + (![1, 704, 1024] : Fin 3 → ℕ) a ≤ S8x1056x1024.size a) (n4 : S704x1024.numel = (Rect.unit (s := S8x1056x1024) ![4, 0, 0] ![1, 704, 1024] s4).shape.numel)
    (b5 : ∀ a, (![3520, 0] : Fin 2 → ℕ) a + S704x1024.size a ≤ S5632x1024.size a) (s5 : ∀ a, (![5, 0, 0] : Fin 3 → ℕ) a + (![1, 704, 1024] : Fin 3 → ℕ) a ≤ S8x1056x1024.size a) (n5 : S704x1024.numel = (Rect.unit (s := S8x1056x1024) ![5, 0, 0] ![1, 704, 1024] s5).shape.numel)
    (b6 : ∀ a, (![4224, 0] : Fin 2 → ℕ) a + S704x1024.size a ≤ S5632x1024.size a) (s6 : ∀ a, (![6, 0, 0] : Fin 3 → ℕ) a + (![1, 704, 1024] : Fin 3 → ℕ) a ≤ S8x1056x1024.size a) (n6 : S704x1024.numel = (Rect.unit (s := S8x1056x1024) ![6, 0, 0] ![1, 704, 1024] s6).shape.numel)
    (b7 : ∀ a, (![4928, 0] : Fin 2 → ℕ) a + S704x1024.size a ≤ S5632x1024.size a) (s7 : ∀ a, (![7, 0, 0] : Fin 3 → ℕ) a + (![1, 704, 1024] : Fin 3 → ℕ) a ≤ S8x1056x1024.size a) (n7 : S704x1024.numel = (Rect.unit (s := S8x1056x1024) ![7, 0, 0] ![1, 704, 1024] s7).shape.numel) :
    v.readCov
      [⟨Rect.unit ![4928, 0] (no_index S704x1024.size) b7, ReadAs.same.apply (View.read (Elt F) (((View.whole main_v4).slice (Rect.unit ![7, 0, 0] ![1, 704, 1024] s7)).reshape S704x1024 n7) g)⟩,
        ⟨Rect.unit ![4224, 0] (no_index S704x1024.size) b6, ReadAs.same.apply (View.read (Elt F) (((View.whole main_v4).slice (Rect.unit ![6, 0, 0] ![1, 704, 1024] s6)).reshape S704x1024 n6) g)⟩,
        ⟨Rect.unit ![3520, 0] (no_index S704x1024.size) b5, ReadAs.same.apply (View.read (Elt F) (((View.whole main_v4).slice (Rect.unit ![5, 0, 0] ![1, 704, 1024] s5)).reshape S704x1024 n5) g)⟩,
        ⟨Rect.unit ![2816, 0] (no_index S704x1024.size) b4, ReadAs.same.apply (View.read (Elt F) (((View.whole main_v4).slice (Rect.unit ![4, 0, 0] ![1, 704, 1024] s4)).reshape S704x1024 n4) g)⟩,
        ⟨Rect.unit ![2112, 0] (no_index S704x1024.size) b3, ReadAs.same.apply (View.read (Elt F) (((View.whole main_v4).slice (Rect.unit ![3, 0, 0] ![1, 704, 1024] s3)).reshape S704x1024 n3) g)⟩,
        ⟨Rect.unit ![1408, 0] (no_index S704x1024.size) b2, ReadAs.same.apply (View.read (Elt F) (((View.whole main_v4).slice (Rect.unit ![2, 0, 0] ![1, 704, 1024] s2)).reshape S704x1024 n2) g)⟩,
        ⟨Rect.unit ![704, 0] (no_index S704x1024.size) b1, ReadAs.same.apply (View.read (Elt F) (((View.whole main_v4).slice (Rect.unit ![1, 0, 0] ![1, 704, 1024] s1)).reshape S704x1024 n1) g)⟩,
        ⟨Rect.unit ![0, 0] (no_index S704x1024.size) b0, ReadAs.same.apply (View.read (Elt F) (((View.whole main_v4).slice (Rect.unit ![0, 0, 0] ![1, 704, 1024] s0)).reshape S704x1024 n0) g)⟩] (Rect.unit (s := S5632x1024) ![o, 0] (no_index S512x1024.size) inb).toLoadRect = rowsAt (weightOf g) o :=
  readAt_rows v _ _ (read_slabs g v _ b0 s0 n0 b1 s1 n1 b2 s2 n2 b3 s3 n3 b4 s4 n4 b5 s5 n5 b6 s6 n6 b7 s7 n7) inb

/-- The product the body writes: column `512 j + b` is column `b` of the product with the weight's rows `512 j, …`. -/
def chunksOf (d : Vec F S256x1024 .bf16) (wb : Vec F S5632x1024 .bf16) : Vec F S256x5632 .bf16 :=
  fun y => (k0_pay1 d (rowsAt wb (512 * ((y 1).val / 512))) : Vec F S256x512 .bf16) (ValueIdx.ix2 (y 0) ⟨(y 1).val % 512, Nat.mod_lt _ (by decide)⟩)

theorem chunk_apply (d : Vec F S256x1024 .bf16) (wb : Vec F S5632x1024 .bf16) (w : Vec F S256x512 .bf16) (o j : ℕ) (hw : w = k0_pay1 d (rowsAt wb o)) (x : S256x512.Idx) (y : S256x5632.Idx)
    (ho : o = 512 * j) (h0 : (y 0).val = (x 0).val) (h1 : (y 1).val = o + (x 1).val) : w x = chunksOf d wb y := by
  have hx : (x 1).val < 512 := (x 1).isLt
  subst hw ho
  unfold chunksOf
  rw [show 512 * ((y 1).val / 512) = 512 * j by omega]
  refine congrArg _ (funext fun a => Fin.ext ?_)
  match a with
  | ⟨0, _⟩ => exact h0.symm
  | ⟨1, _⟩ => show (x 1).val = (y 1).val % 512; omega

/-- After the 11 stores the block holds the product, whatever was there. -/
theorem stored_chunks (v : View sig .tc .vmem S256x5632 .bf16) (f : v.ty.Contents (Elt F)) (d : Vec F S256x1024 .bf16) (wb : Vec F S5632x1024 .bf16)
    (w0 w1 w2 w3 w4 w5 w6 w7 w8 w9 w10 : Vec F S256x512 .bf16)
    (b0 : ∀ a, (![0, 0] : Fin 2 → ℕ) a + S256x512.size a ≤ S256x5632.size a) (h0 : w0 = k0_pay1 d (rowsAt wb 0))
    (b1 : ∀ a, (![0, 512] : Fin 2 → ℕ) a + S256x512.size a ≤ S256x5632.size a) (h1 : w1 = k0_pay1 d (rowsAt wb 512))
    (b2 : ∀ a, (![0, 1024] : Fin 2 → ℕ) a + S256x512.size a ≤ S256x5632.size a) (h2 : w2 = k0_pay1 d (rowsAt wb 1024))
    (b3 : ∀ a, (![0, 1536] : Fin 2 → ℕ) a + S256x512.size a ≤ S256x5632.size a) (h3 : w3 = k0_pay1 d (rowsAt wb 1536))
    (b4 : ∀ a, (![0, 2048] : Fin 2 → ℕ) a + S256x512.size a ≤ S256x5632.size a) (h4 : w4 = k0_pay1 d (rowsAt wb 2048))
    (b5 : ∀ a, (![0, 2560] : Fin 2 → ℕ) a + S256x512.size a ≤ S256x5632.size a) (h5 : w5 = k0_pay1 d (rowsAt wb 2560))
    (b6 : ∀ a, (![0, 3072] : Fin 2 → ℕ) a + S256x512.size a ≤ S256x5632.size a) (h6 : w6 = k0_pay1 d (rowsAt wb 3072))
    (b7 : ∀ a, (![0, 3584] : Fin 2 → ℕ) a + S256x512.size a ≤ S256x5632.size a) (h7 : w7 = k0_pay1 d (rowsAt wb 3584))
    (b8 : ∀ a, (![0, 4096] : Fin 2 → ℕ) a + S256x512.size a ≤ S256x5632.size a) (h8 : w8 = k0_pay1 d (rowsAt wb 4096))
    (b9 : ∀ a, (![0, 4608] : Fin 2 → ℕ) a + S256x512.size a ≤ S256x5632.size a) (h9 : w9 = k0_pay1 d (rowsAt wb 4608))
    (b10 : ∀ a, (![0, 5120] : Fin 2 → ℕ) a + S256x512.size a ≤ S256x5632.size a) (h10 : w10 = k0_pay1 d (rowsAt wb 5120)) :
    v.read (Elt F) (v.writes (Elt F) f
      [⟨Rect.unit ![0, 5120] (no_index S256x512.size) b10, w10⟩,
        ⟨Rect.unit ![0, 4608] (no_index S256x512.size) b9, w9⟩,
        ⟨Rect.unit ![0, 4096] (no_index S256x512.size) b8, w8⟩,
        ⟨Rect.unit ![0, 3584] (no_index S256x512.size) b7, w7⟩,
        ⟨Rect.unit ![0, 3072] (no_index S256x512.size) b6, w6⟩,
        ⟨Rect.unit ![0, 2560] (no_index S256x512.size) b5, w5⟩,
        ⟨Rect.unit ![0, 2048] (no_index S256x512.size) b4, w4⟩,
        ⟨Rect.unit ![0, 1536] (no_index S256x512.size) b3, w3⟩,
        ⟨Rect.unit ![0, 1024] (no_index S256x512.size) b2, w2⟩,
        ⟨Rect.unit ![0, 512] (no_index S256x512.size) b1, w1⟩,
        ⟨Rect.unit ![0, 0] (no_index S256x512.size) b0, w0⟩]) = chunksOf d wb := by
  funext y
  have hy : (y 1).val < 5632 := (y 1).isLt
  by_cases c10 : 5120 ≤ (y 1).val
  · exact (View.read_writes_cons_unit_of_mem v f b10 _ _ y (ValueIdx.ix2 (y 0) ⟨(y 1).val - 5120, by show _ < 512; omega⟩) rfl (Fin.forall_fin_two.mpr ⟨(Nat.zero_add _).symm, by show (y 1).val = 5120 + ((y 1).val - 5120); omega⟩)).trans (chunk_apply d wb w10 5120 10 h10 _ y rfl rfl (by show (y 1).val = 5120 + ((y 1).val - 5120); omega))
  refine (View.read_writes_cons_unit_of_not_mem v f b10 _ _ y rfl (1 : Fin 2) (Or.inl (by show (y 1).val < 5120; omega))).trans ?_
  by_cases c9 : 4608 ≤ (y 1).val
  · exact (View.read_writes_cons_unit_of_mem v f b9 _ _ y (ValueIdx.ix2 (y 0) ⟨(y 1).val - 4608, by show _ < 512; omega⟩) rfl (Fin.forall_fin_two.mpr ⟨(Nat.zero_add _).symm, by show (y 1).val = 4608 + ((y 1).val - 4608); omega⟩)).trans (chunk_apply d wb w9 4608 9 h9 _ y rfl rfl (by show (y 1).val = 4608 + ((y 1).val - 4608); omega))
  refine (View.read_writes_cons_unit_of_not_mem v f b9 _ _ y rfl (1 : Fin 2) (Or.inl (by show (y 1).val < 4608; omega))).trans ?_
  by_cases c8 : 4096 ≤ (y 1).val
  · exact (View.read_writes_cons_unit_of_mem v f b8 _ _ y (ValueIdx.ix2 (y 0) ⟨(y 1).val - 4096, by show _ < 512; omega⟩) rfl (Fin.forall_fin_two.mpr ⟨(Nat.zero_add _).symm, by show (y 1).val = 4096 + ((y 1).val - 4096); omega⟩)).trans (chunk_apply d wb w8 4096 8 h8 _ y rfl rfl (by show (y 1).val = 4096 + ((y 1).val - 4096); omega))
  refine (View.read_writes_cons_unit_of_not_mem v f b8 _ _ y rfl (1 : Fin 2) (Or.inl (by show (y 1).val < 4096; omega))).trans ?_
  by_cases c7 : 3584 ≤ (y 1).val
  · exact (View.read_writes_cons_unit_of_mem v f b7 _ _ y (ValueIdx.ix2 (y 0) ⟨(y 1).val - 3584, by show _ < 512; omega⟩) rfl (Fin.forall_fin_two.mpr ⟨(Nat.zero_add _).symm, by show (y 1).val = 3584 + ((y 1).val - 3584); omega⟩)).trans (chunk_apply d wb w7 3584 7 h7 _ y rfl rfl (by show (y 1).val = 3584 + ((y 1).val - 3584); omega))
  refine (View.read_writes_cons_unit_of_not_mem v f b7 _ _ y rfl (1 : Fin 2) (Or.inl (by show (y 1).val < 3584; omega))).trans ?_
  by_cases c6 : 3072 ≤ (y 1).val
  · exact (View.read_writes_cons_unit_of_mem v f b6 _ _ y (ValueIdx.ix2 (y 0) ⟨(y 1).val - 3072, by show _ < 512; omega⟩) rfl (Fin.forall_fin_two.mpr ⟨(Nat.zero_add _).symm, by show (y 1).val = 3072 + ((y 1).val - 3072); omega⟩)).trans (chunk_apply d wb w6 3072 6 h6 _ y rfl rfl (by show (y 1).val = 3072 + ((y 1).val - 3072); omega))
  refine (View.read_writes_cons_unit_of_not_mem v f b6 _ _ y rfl (1 : Fin 2) (Or.inl (by show (y 1).val < 3072; omega))).trans ?_
  by_cases c5 : 2560 ≤ (y 1).val
  · exact (View.read_writes_cons_unit_of_mem v f b5 _ _ y (ValueIdx.ix2 (y 0) ⟨(y 1).val - 2560, by show _ < 512; omega⟩) rfl (Fin.forall_fin_two.mpr ⟨(Nat.zero_add _).symm, by show (y 1).val = 2560 + ((y 1).val - 2560); omega⟩)).trans (chunk_apply d wb w5 2560 5 h5 _ y rfl rfl (by show (y 1).val = 2560 + ((y 1).val - 2560); omega))
  refine (View.read_writes_cons_unit_of_not_mem v f b5 _ _ y rfl (1 : Fin 2) (Or.inl (by show (y 1).val < 2560; omega))).trans ?_
  by_cases c4 : 2048 ≤ (y 1).val
  · exact (View.read_writes_cons_unit_of_mem v f b4 _ _ y (ValueIdx.ix2 (y 0) ⟨(y 1).val - 2048, by show _ < 512; omega⟩) rfl (Fin.forall_fin_two.mpr ⟨(Nat.zero_add _).symm, by show (y 1).val = 2048 + ((y 1).val - 2048); omega⟩)).trans (chunk_apply d wb w4 2048 4 h4 _ y rfl rfl (by show (y 1).val = 2048 + ((y 1).val - 2048); omega))
  refine (View.read_writes_cons_unit_of_not_mem v f b4 _ _ y rfl (1 : Fin 2) (Or.inl (by show (y 1).val < 2048; omega))).trans ?_
  by_cases c3 : 1536 ≤ (y 1).val
  · exact (View.read_writes_cons_unit_of_mem v f b3 _ _ y (ValueIdx.ix2 (y 0) ⟨(y 1).val - 1536, by show _ < 512; omega⟩) rfl (Fin.forall_fin_two.mpr ⟨(Nat.zero_add _).symm, by show (y 1).val = 1536 + ((y 1).val - 1536); omega⟩)).trans (chunk_apply d wb w3 1536 3 h3 _ y rfl rfl (by show (y 1).val = 1536 + ((y 1).val - 1536); omega))
  refine (View.read_writes_cons_unit_of_not_mem v f b3 _ _ y rfl (1 : Fin 2) (Or.inl (by show (y 1).val < 1536; omega))).trans ?_
  by_cases c2 : 1024 ≤ (y 1).val
  · exact (View.read_writes_cons_unit_of_mem v f b2 _ _ y (ValueIdx.ix2 (y 0) ⟨(y 1).val - 1024, by show _ < 512; omega⟩) rfl (Fin.forall_fin_two.mpr ⟨(Nat.zero_add _).symm, by show (y 1).val = 1024 + ((y 1).val - 1024); omega⟩)).trans (chunk_apply d wb w2 1024 2 h2 _ y rfl rfl (by show (y 1).val = 1024 + ((y 1).val - 1024); omega))
  refine (View.read_writes_cons_unit_of_not_mem v f b2 _ _ y rfl (1 : Fin 2) (Or.inl (by show (y 1).val < 1024; omega))).trans ?_
  by_cases c1 : 512 ≤ (y 1).val
  · exact (View.read_writes_cons_unit_of_mem v f b1 _ _ y (ValueIdx.ix2 (y 0) ⟨(y 1).val - 512, by show _ < 512; omega⟩) rfl (Fin.forall_fin_two.mpr ⟨(Nat.zero_add _).symm, by show (y 1).val = 512 + ((y 1).val - 512); omega⟩)).trans (chunk_apply d wb w1 512 1 h1 _ y rfl rfl (by show (y 1).val = 512 + ((y 1).val - 512); omega))
  refine (View.read_writes_cons_unit_of_not_mem v f b1 _ _ y rfl (1 : Fin 2) (Or.inl (by show (y 1).val < 512; omega))).trans ?_
  exact (View.read_writes_cons_unit_of_mem v f b0 _ _ y (ValueIdx.ix2 (y 0) ⟨(y 1).val - 0, by show _ < 512; omega⟩) rfl (Fin.forall_fin_two.mpr ⟨(Nat.zero_add _).symm, by show (y 1).val = 0 + ((y 1).val - 0); omega⟩)).trans (chunk_apply d wb w0 0 0 h0 _ y rfl rfl (by show (y 1).val = 0 + ((y 1).val - 0); omega))

section Body
variable (c : Dev nD) (i : grid0.Coords) (arg1 : Memref sig .tc .vmem S1x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S256x1024 .f32) (harg4 : arg4.IsWhole) (arg6 : Memref sig .tc .vmem S256x1024 .bf16) (harg6 : arg6.IsWhole) (arg7 : Memref sig .tc .vmem S256x5632 .bf16) (harg7 : arg7.IsWhole) (arg8 : Memref sig .tc .vmem S5632x1024 .bf16) (harg8 : arg8.IsWhole)
  (x0 : Vec F S1x1024 .f32) (x1 : Vec F S1x1x1024 .f32) (x2 : Vec F S1x1x1024 .f32) (x3 : Vec F S256x1024 .f32)

/-- The body of the call at a grid point, on any staging buffers. -/
abbrev bodyProg := cc0_proj_up (F := F) i arg1 harg1 arg2 harg2 arg3 harg3 arg4 harg4 (Memref.whole main_v4) (Memref.isWhole_whole _) arg6 harg6 arg7 harg7 arg8 harg8 cc0_scratch1

/-- The input blocks, in their staging buffers. -/
def ins : sProp 𝕄 := iprop(owns (c : Thread nD τ) arg1 fullShare x0 ∗ owns (c : Thread nD τ) arg2 fullShare x1 ∗ owns (c : Thread nD τ) arg3 fullShare x2 ∗ owns (c : Thread nD τ) arg4 fullShare x3)

/-- The output blocks and the weight scratch, at given contents. -/
def outs (o4 : Vec F S256x1024 .bf16) (o5 : Vec F S256x5632 .bf16) (wb : Vec F S5632x1024 .bf16) : sProp 𝕄 :=
  iprop(owns (c : Thread nD τ) arg6 fullShare o4 ∗ owns (c : Thread nD τ) arg7 fullShare o5 ∗ owns (c : Thread nD τ) arg8 fullShare wb)

set_option maxHeartbeats 1600000 in
/-- A point at which nothing is reset: the weight stays. -/
theorem run_inner (hc0 : ¬ condFirst i) (o4 : Vec F S256x1024 .bf16) (o5 : Vec F S256x5632 .bf16) (wb : Vec F S5632x1024 .bf16) (W : Waits sig Unit) (K : PUnit → sProp 𝕄) :
    iprop(ins c arg1 arg2 arg3 arg4 x0 x1 x2 x3 ∗ outs c arg6 arg7 arg8 o4 o5 wb ∗ owes (c : Thread nD τ) 0 W
        ∗ (iprop(ins c arg1 arg2 arg3 arg4 x0 x1 x2 x3
            ∗ outs c arg6 arg7 arg8 (k0_pay5 x0 x1 x2 x3) (chunksOf (k0_pay5 x0 x1 x2 x3) wb) wb ∗ owes (c : Thread nD τ) 0 W) -∗ K ⟨⟩))
      ⊢ wp frame (wpE (defs₀ (F := F)) Variants.none c none) Set.univ (bodyProg i arg1 harg1 arg2 harg2 arg3 harg3 arg4 harg4 arg6 harg6 arg7 harg7 arg8 harg8) K := by
  simp only [bodyProg, cc0_proj_up_eq_skeleton]; unfold cc0_proj_up_skel
  simp only [k0_part4_eq_skeleton, k0_part1_eq_skeleton, k0_part2_eq_skeleton, k0_part3_eq_skeleton, k0_part5_eq_skeleton]
  unfold ins outs owns
  iintro ⟨⟨⟨%f0, %hf0, H0⟩, ⟨%f1, %hf1, H1⟩, ⟨%f2, %hf2, H2⟩, ⟨%f3, %hf3, H3⟩⟩, ⟨⟨%f4, %hf4, H4⟩, ⟨%f5, %hf5, H5⟩, ⟨%fs0, %hfs, HS0⟩⟩, HW, Hk⟩
  obtain rfl := harg1.eq_unread hf0; obtain rfl := harg2.eq_unread hf1; obtain rfl := harg3.eq_unread hf2; obtain rfl := harg4.eq_unread hf3
  obtain rfl := harg8.eq_unread hfs
  sl_exec (disch := sl_exact hc0)
  sl_step
  iapply Hk
  isplitl [H0 H1 H2 H3]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    iexists _; isplitr; swap; · iexact H3
    ipureintro; exact hf3
  isplitl [H4 H5 HS0]
  · isplitl [H4]
    · iexists _; isplitr; swap; · iexact H4
      ipureintro; refine stored_whole _ _ _ _ _ _ ?_; sl_unfold_words; simp only [load_whole, load_stored]
    isplitl [H5]
    · iexists _; isplitr; swap; · iexact H5
      ipureintro; sl_unfold_words; simp only [load_whole]
      refine stored_chunks _ _ (k0_pay5 x0 x1 x2 x3) wb _ _ _ _ _ _ _ _ _ _ _ _ ?_ _ ?_ _ ?_ _ ?_ _ ?_ _ ?_ _ ?_ _ ?_ _ ?_ _ ?_ _ ?_
      all_goals exact congrArg (k0_pay1 (k0_pay5 x0 x1 x2 x3)) (load_rows ..)
    iexists _; isplitr; swap; · iexact HS0
    ipureintro; exact hfs
  iexact HW

set_option sl_exec.dmaWindow true in
set_option sl_exec.dmaWindowSet true in
set_option maxHeartbeats 1600000 in
/-- The first point: the weight is copied in, eight slabs in flight at once. -/
theorem run_first (hc0 : condFirst i) (o4 : Vec F S256x1024 .bf16) (o5 : Vec F S256x5632 .bf16) (wb : Vec F S5632x1024 .bf16) (g : HbBuf0 (F := F) c hbM0_0) (W : Waits sig Unit) (K : PUnit → sProp 𝕄) :
    iprop(ins c arg1 arg2 arg3 arg4 x0 x1 x2 x3 ∗ outs c arg6 arg7 arg8 o4 o5 wb ∗ cells c ∗ hbPt0 c hbM0_0 g ∗ owes (c : Thread nD τ) 0 W
        ∗ (iprop(ins c arg1 arg2 arg3 arg4 x0 x1 x2 x3
            ∗ outs c arg6 arg7 arg8 (k0_pay5 x0 x1 x2 x3) (chunksOf (k0_pay5 x0 x1 x2 x3) (weightOf g)) (weightOf g) ∗ cells c ∗ hbPt0 c hbM0_0 g ∗ (∃ W', owes (c : Thread nD τ) 0 W')) -∗ K ⟨⟩))
      ⊢ wp frame (wpE (defs₀ (F := F)) Variants.none c none) Set.univ (bodyProg i arg1 harg1 arg2 harg2 arg3 harg3 arg4 harg4 arg6 harg6 arg7 harg7 arg8 harg8) K := by
  simp only [bodyProg, cc0_proj_up_eq_skeleton]; unfold cc0_proj_up_skel
  simp only [k0_part4_eq_skeleton, k0_part1_eq_skeleton, k0_part2_eq_skeleton, k0_part3_eq_skeleton, k0_part5_eq_skeleton]
  unfold ins outs owns cells
  iintro ⟨⟨⟨%f0, %hf0, H0⟩, ⟨%f1, %hf1, H1⟩, ⟨%f2, %hf2, H2⟩, ⟨%f3, %hf3, H3⟩⟩, ⟨⟨%f4, -, H4⟩, ⟨%f5, -, H5⟩, ⟨%fs0, -, HS0⟩⟩, ⟨Hq0, Hq1, Hq2, Hq3, Hq4, Hq5, Hq6, Hq7⟩, Hh0, HW, Hk⟩
  obtain rfl := harg1.eq_unread hf0; obtain rfl := harg2.eq_unread hf1; obtain rfl := harg3.eq_unread hf2; obtain rfl := harg4.eq_unread hf3
  sl_exec (disch := sl_exact hc0)
  sl_step
  iapply Hk
  isplitl [H0 H1 H2 H3]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    iexists _; isplitr; swap; · iexact H3
    ipureintro; exact hf3
  isplitl [H4 H5 HS0]
  · isplitl [H4]
    · iexists _; isplitr; swap; · iexact H4
      ipureintro; refine stored_whole _ _ _ _ _ _ ?_; sl_unfold_words; simp only [load_whole, load_stored]
    isplitl [H5]
    · iexists _; isplitr; swap; · iexact H5
      ipureintro; sl_unfold_words; simp only [load_whole]
      refine stored_chunks _ _ (k0_pay5 x0 x1 x2 x3) (weightOf g) _ _ _ _ _ _ _ _ _ _ _ _ ?_ _ ?_ _ ?_ _ ?_ _ ?_ _ ?_ _ ?_ _ ?_ _ ?_ _ ?_ _ ?_
      all_goals exact congrArg (k0_pay1 (k0_pay5 x0 x1 x2 x3)) (load_slab_rows ..)
    iexists _; isplitr; swap; · iexact HS0
    ipureintro; sl_unfold_words; exact read_slabs ..
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexists _; iexact HW
end Body
end Cert.Kernel8Ideal.Run

end
-- ==== Proof.ProjUpFrame.lean ====
module

public import proofs.«01_k».proof.Proof.ProjUpRun
public import proofs.«01_k».proof.Proof.Gen.Kernel8Ideal.Points
public import proofs.«01_k».proof.Proof.Gen.Kernel8Ideal.Launch

@[expose] public section

set_option maxRecDepth 16384

noncomputable section

namespace Cert.Kernel8Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's own operands, as the launch knows them -/

/-- The weight scratch, whole. -/
abbrev scM : Memref sig .tc .vmem S5632x1024 .bf16 := Memref.whole cc0_scratch0
/-- The transfer cells of the body. -/
abbrev ownCells : Fin 8 → SemLoc sig := fun j => (![SemLoc.dma 11, SemLoc.dma 12, SemLoc.dma 13, SemLoc.dma 14, SemLoc.dma 15, SemLoc.dma 16, SemLoc.dma 17, SemLoc.dma 18] : Fin 8 → SemLoc sig) j
theorem ownCells_facts : Pipeline.OwnSemFacts spec0 ownCells := by decide
/-- The array the body copies from. -/
def moved : Finset (Ref sig .tc) := {main_v4}
theorem moved_sub : moved ⊆ Pipeline.restRefs sig spec0 := by decide

/-- What the launch hands the body besides the windows: the scratch at anything, the generator register, the cells at zero
    and the gathered weights. -/
theorem handed_eq (c : Dev nD) :
    (Pipeline.ΦD ownCells spec0 moved (V m) c : sProp 𝕄)
      = iprop((∃ d, owns (c : Thread nD τ) scM fullShare d) ∗ (∃ r, prngReg c r) ∗ cells c ∗ hbPt0 c hbM0_0 (V m c main_v4)) := by
  rw [Pipeline.ΦD_eq, scopedRest0_eq, Pipeline.ownSems0_eq_of_list c ownCells [0, 1, 2, 3, 4, 5, 6, 7] (by decide) (by decide),
    BI.bigSep_eq_bigSepL_of_eq [main_v4] (by decide) (by decide)]
  simp only [scM, owns_whole]; rfl

/-! ## The schedule in closed form -/

theorem first_iff : ∀ t : Fin grid0.N, condFirst (grid0.coords t) ↔ t.val = 0 := by decide +kernel

/-! ## What the buffers hold after each point -/

/-- The weight: rows 0 to 703 of each slab of the gathered weights. -/
abbrev Wt (c : Dev nD) : Vec F S5632x1024 .bf16 := weightOf (c := c) (V m c main_v4)
/-- What a point writes to output 0. -/
def hBlock (c : Dev nD) (t : Fin cfg0.N) : Vec F S256x1024 .bf16 := k0_pay5 (iblk m c 0 t) (iblk m c 1 t) (iblk m c 2 t) (iblk m c 3 t)
/-- What a point writes to output 1. -/
def pBlock (c : Dev nD) (t : Fin cfg0.N) : Vec F S256x5632 .bf16 := chunksOf (k0_pay5 (iblk m c 0 t) (iblk m c 1 t) (iblk m c 2 t) (iblk m c 3 t)) (Wt m c)

/-- The body's state before point `n`: as handed at first, afterwards the scratch at the weight. -/
def stateAt (c : Dev nD) : ℕ → sProp 𝕄
  | 0 => Pipeline.ΦD ownCells spec0 moved (V m) c
  | _ + 1 => iprop(owns (c : Thread nD τ) scM fullShare (Wt m c) ∗ (∃ r, prngReg c r) ∗ cells c ∗ hbPt0 c hbM0_0 (V m c main_v4))

/-- The proof data: the arrays as the region finds them, the inputs' buffers at their blocks, the outputs' at what the
    point writes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hBlock m c t
    | ⟨5, _⟩ => pBlock m c t
  Φ t := stateAt m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = hBlock m c t := rfl
theorem after_5 (c : Dev nD) (t : Fin cfg0.N) : (dats m 0 c).after 5 t = pBlock m c t := rfl
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

/-! ## The body at a generic point -/

abbrev mr0 (t : Fin cfg0.N) : Memref sig .tc .vmem S1x1024 .f32 := win0_0.stage (cfg0.slots t 0)
abbrev hr0 (t : Fin cfg0.N) : (mr0 t).IsWhole := hstage0_0 ((cfg0.slots t 0).cast nbuf0_0)
abbrev mr1 (t : Fin cfg0.N) : Memref sig .tc .vmem S1x1x1024 .f32 := win0_1.stage (cfg0.slots t 1)
abbrev hr1 (t : Fin cfg0.N) : (mr1 t).IsWhole := hstage0_1 ((cfg0.slots t 1).cast nbuf0_1)
abbrev mr2 (t : Fin cfg0.N) : Memref sig .tc .vmem S1x1x1024 .f32 := win0_2.stage (cfg0.slots t 2)
abbrev hr2 (t : Fin cfg0.N) : (mr2 t).IsWhole := hstage0_2 ((cfg0.slots t 2).cast nbuf0_2)
abbrev mr3 (t : Fin cfg0.N) : Memref sig .tc .vmem S256x1024 .f32 := win0_3.stage (cfg0.slots t 3)
abbrev hr3 (t : Fin cfg0.N) : (mr3 t).IsWhole := hstage0_3 ((cfg0.slots t 3).cast nbuf0_3)
abbrev mr4 (t : Fin cfg0.N) : Memref sig .tc .vmem S256x1024 .bf16 := win0_4.stage (cfg0.slots t 4)
abbrev hr4 (t : Fin cfg0.N) : (mr4 t).IsWhole := hstage0_4 ((cfg0.slots t 4).cast nbuf0_4)
abbrev mr5 (t : Fin cfg0.N) : Memref sig .tc .vmem S256x5632 .bf16 := win0_5.stage (cfg0.slots t 5)
abbrev hr5 (t : Fin cfg0.N) : (mr5 t).IsWhole := hstage0_5 ((cfg0.slots t 5).cast nbuf0_5)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t)
    ∗ owns (c : Thread nD τ) (mr5 t) fullShare ((dats m 0 c).after 5 t))

set_option maxHeartbeats 2400000 in
/-- The body at any point, by the kinds of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, after_0, after_1, after_2, after_3, after_4, after_5]
  rw [show (dats m 0 c).Φ t.castSucc = stateAt m c t.val from rfl, show (dats m 0 c).Φ t.succ = stateAt m c (t.val + 1) from rfl]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  rcases Nat.eq_zero_or_pos t.val with h0 | hpos
  · rw [h0, show stateAt m c 0 = Pipeline.ΦD ownCells spec0 moved (V m) c from rfl, handed_eq,
      show stateAt m c (0 + 1) = iprop(owns (c : Thread nD τ) scM fullShare (Wt m c) ∗ (∃ r, prngReg c r) ∗ cells c ∗ hbPt0 c hbM0_0 (V m c main_v4)) from rfl]
    unfold hBlock pBlock
    iintro ⟨⟨⟨%ds, HS⟩, Hg, Hq, Hh⟩, ⟨%W, -, HW⟩, ⟨%d0, H0⟩, ⟨%d1, H1⟩, ⟨%d2, H2⟩, ⟨%d3, H3⟩, ⟨%d4, H4⟩, ⟨%d5, H5⟩⟩
    iapply (run_first c (grid0.coords t) (mr0 t) (hr0 t) (mr1 t) (hr1 t) (mr2 t) (hr2 t) (mr3 t) (hr3 t) (mr4 t) (hr4 t) (mr5 t) (hr5 t) scM (Memref.isWhole_whole _)
      (iblk m c 0 t) (iblk m c 1 t) (iblk m c 2 t) (iblk m c 3 t) ((first_iff t).mpr h0) _ _ _ (V m c main_v4) W _)
    unfold ins outs
    isplitl [H0 H1 H2 H3]
    · isplitl [H0]; · iexact H0
      isplitl [H1]; · iexact H1
      isplitl [H2]; · iexact H2
      iexact H3
    isplitl [H4 H5 HS]
    · isplitl [H4]; · iexact H4
      isplitl [H5]; · iexact H5
      iexact HS
    isplitl [Hq]; · iexact Hq
    isplitl [Hh]; · iexact Hh
    isplitl [HW]; · iexact HW
    iintro ⟨⟨H0, H1, H2, H3⟩, ⟨H4, H5, HS⟩, Hq, Hh, ⟨%W2, HW⟩⟩
    isplitl [HS Hg Hq Hh]
    · isplitl [HS]; · iexact HS
      isplitl [Hg]; · iexact Hg
      isplitl [Hq]; · iexact Hq
      iexact Hh
    isplitl [HW]
    · iexists _; isplitr; swap; · iexact HW
      ipureintro; exact fun _ _ => Or.inl trivial
    isplitl [H0]; · iexact H0
    isplitl [H1]; · iexact H1
    isplitl [H2]; · iexact H2
    isplitl [H3]; · iexact H3
    isplitl [H4]; · iexact H4
    iexact H5
  obtain ⟨n, hn⟩ : ∃ n, t.val = n + 1 := ⟨t.val - 1, by omega⟩
  have eS : stateAt m c t.val = iprop(owns (c : Thread nD τ) scM fullShare (Wt m c) ∗ (∃ r, prngReg c r) ∗ cells c ∗ hbPt0 c hbM0_0 (V m c main_v4)) := by rw [hn]; rfl
  have eS' : stateAt m c (t.val + 1) = iprop(owns (c : Thread nD τ) scM fullShare (Wt m c) ∗ (∃ r, prngReg c r) ∗ cells c ∗ hbPt0 c hbM0_0 (V m c main_v4)) := rfl
  rw [eS, eS']
  unfold hBlock pBlock
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩⟩
  iapply (run_inner c (grid0.coords t) (mr0 t) (hr0 t) (mr1 t) (hr1 t) (mr2 t) (hr2 t) (mr3 t) (hr3 t) (mr4 t) (hr4 t) (mr5 t) (hr5 t) scM (Memref.isWhole_whole _)
    (iblk m c 0 t) (iblk m c 1 t) (iblk m c 2 t) (iblk m c 3 t) (fun h => by have := (first_iff t).mp h; omega) _ _ _ W _)
  unfold ins outs
  isplitl [H0 H1 H2 H3]
  · isplitl [H0]; · iexact H0
    isplitl [H1]; · iexact H1
    isplitl [H2]; · iexact H2
    iexact H3
  isplitl [H4 H5 HS]
  · isplitl [H4]; · iexact H4
    isplitl [H5]; · iexact H5
    iexact HS
  isplitl [HW]; · iexact HW
  iintro ⟨⟨H0, H1, H2, H3⟩, ⟨H4, H5, HS⟩, HW⟩
  isplitl [HS Hg Hq Hh]
  · isplitl [HS]; · iexact HS
    isplitl [Hg]; · iexact Hg
    isplitl [Hq]; · iexact Hq
    iexact Hh
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The body's state after the last point is what the launch takes back. -/
theorem state_out (c : Dev nD) : (dats m 0 c).Φ (Fin.last cfg0.N) ⊢ Pipeline.ΦD ownCells spec0 moved (V m) c := by
  rw [show (dats m 0 c).Φ (Fin.last cfg0.N) = iprop(owns (c : Thread nD τ) scM fullShare (Wt m c) ∗ (∃ r, prngReg c r) ∗ cells c ∗ hbPt0 c hbM0_0 (V m c main_v4)) from rfl, handed_eq]
  iintro ⟨HS, Hr⟩
  isplitl [HS]
  · iexists _; iexact HS
  iexact Hr

set_option maxHeartbeats 800000 in
/-- The host operations, then the region. -/
theorem host_then_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every array of the pipeline ends at what the proof data say, every other array as the region found it, and
    every counter at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownCells defs₀ Variants.none ownCells_facts moved moved_sub m ρ main
    (hbody := fun c => (body_obligation m c).loose) (hshare := fun c => (dats m 0 c).share_full fun _ => rfl)
    (howed := fun _ _ => rfl) (V := V m) (hmain := host_then_region m Variants.none) (hA := A_eq m) (hin := fun _ => .rfl) (hout := state_out m)

/-- The arguments end unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).1 3).trans (((dats m 0 c).arrAt_in 3 rfl _).trans (V_main_arg0 m c)),
      ((h.1 c).1 0).trans (((dats m 0 c).arrAt_in 0 rfl _).trans (V_main_arg1 m c)),
      ((h.1 c).1 1).trans (((dats m 0 c).arrAt_in 1 rfl _).trans (V_main_arg2 m c)),
      ((h.1 c).1 2).trans (((dats m 0 c).arrAt_in 2 rfl _).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_all m ρ)

end Cert.Kernel8Ideal.Run

end
-- ==== Proof.ProjUpBits.lean ====
module

public import proofs.«01_k».proof.Proof.ProjUpFrame
public import proofs.«01_k».proof.Proof.Gen.Kernel8
public import proofs.«01_k».proof.Defs

@[expose] public section

set_option maxRecDepth 16384

noncomputable section

/-! The printed program and the idealized one are one text, so the run of the latter at the bit instance is a run of the
    former. -/

namespace Cert.Kernel8.Run

open Idealize.ShloMosaic Idealize.SL.Sem

theorem rows_same : (Cert.Kernel8.defs₀ (F := Bits)) = (Cert.Kernel8Ideal.defs₀ (F := Bits)) := by
  unfold Cert.Kernel8.defs₀ Cert.Kernel8Ideal.defs₀
  refine congrArg Defs.onTc ?_
  funext l a
  match l, a with
  | 0, (t, s) => rfl

theorem defs_same : (Cert.Kernel8.defs (F := Bits)) = (Cert.Kernel8Ideal.defs (F := Bits)) := by
  unfold Cert.Kernel8.defs Cert.Kernel8Ideal.defs
  exact congrArg (Pipeline.defs _) rows_same

set_option maxHeartbeats 4000000 in
/-- The printed program runs, leaves its arguments and ends quiescent. -/
theorem quiescent [Cert.Kernel8.Facts] : Cert.quiescent_Kernel8 := fun m g _ => by
  rw [defs_same]
  exact Cert.Kernel8Ideal.Run.frame_all m g

end Cert.Kernel8.Run

end
-- ==== Proof.ProjUpValue.lean ====
module

public import proofs.«01_k».proof.Proof.ProjUpFrame
public import proofs.«01_k».proof.Proof.BwdUpSpec
public import Idealize.ShloMosaic.Lib.Pipeline.Value
public import Idealize.ShloMosaic.Lib.Claim
public import Idealize.ShloMosaic.Lib.Pipeline.ValueKit.Point

@[expose] public section

set_option maxRecDepth 16384

noncomputable section

/-! What the two results of the forward call hold, at the extended reals. -/

namespace Cert.Kernel8Ideal.Run

open Idealize.ShloMosaic Idealize.ShloMosaic.TcCoe Idealize.ShloMosaic.Tactic Idealize.SL.Sem
open Idealize.ShloMosaic.Pipeline (Dat)
open Cert.Kernel8Ideal.Gen Cert.BwdUp

/-- An entry of a normalized row, times the gain, modulated. -/
def hTerm (x g sh sc : Fin 1024 → EReal) (d : Fin 1024) : EReal := x d * Ideal.rsqrt (meanSq x) * g d * (1 + sc d) + sh d

theorem h_apply (g : Vec Ideal S1x1024 .f32) (sh sc : Vec Ideal S1x1x1024 .f32) (x : Vec Ideal S256x1024 .f32) (r : Fin 256) (k : Fin 1024) :
    k0_pay5 g sh sc x (ix2 r k)
      = hTerm (fun k => x (ix2 r k)) (fun k => g (ix2 0 k)) (fun k => sh (ix3 0 0 k)) (fun k => sc (ix3 0 0 k)) k := by
  unfold k0_pay5 hTerm meanSq
  pointwise
theorem dot_apply (d : Vec Ideal S256x1024 .bf16) (w : Vec Ideal S512x1024 .bf16) (r : Fin 256) (b : Fin 512) :
    k0_pay1 d w (ix2 r b) = ∑ k : Fin 1024, d (ix2 r k) * w (ix2 b k) := by
  unfold k0_pay1; pointwise
theorem chunks_apply (d : Vec Ideal S256x1024 .bf16) (w : Vec Ideal S5632x1024 .bf16) (r : Fin 256) (q : Fin 5632) :
    chunksOf d w (ix2 r q) = ∑ k : Fin 1024, d (ix2 r k) * w (ix2 q k) := by
  unfold chunksOf
  refine (dot_apply _ _ r ⟨q.val % 512, Nat.mod_lt _ (by decide)⟩).trans (Finset.sum_congr rfl fun k _ => congrArg (d (ix2 r k) * ·) ?_)
  unfold rowsAt
  refine congrArg w (congrArg (fun z => ix2 z k) (Fin.ext ?_))
  show (512 * (q.val / 512) + q.val % 512) % 5632 = q.val
  have := q.isLt
  omega

variable (m : (ℓ : Loc nD τ sig) → Buf (Elt Ideal) ℓ) (ρ : Dev nD → PrngReg)

/-- The arguments. -/
abbrev argX (c : Dev nD) : S8448x1024.Idx → EReal := m ((c.tc : Thread nD τ).loc main_arg0)
abbrev argG (c : Dev nD) : S1x1024.Idx → EReal := m ((c.tc : Thread nD τ).loc main_arg1)
abbrev argSh (c : Dev nD) : S2x1x1024.Idx → EReal := m ((c.tc : Thread nD τ).loc main_arg2)
abbrev argSc (c : Dev nD) : S2x1x1024.Idx → EReal := m ((c.tc : Thread nD τ).loc main_arg3)
abbrev argW (c : Dev nD) : S1024x5632.Idx → EReal := m ((c.tc : Thread nD τ).loc main_arg4)

/-- The rows. -/
def xRow (c : Dev nD) (r : Fin 8448) : Fin 1024 → EReal := fun k => argX m c (ix2 r k)
def gRow (c : Dev nD) : Fin 1024 → EReal := fun k => argG m c (ix2 0 k)
def shRow (c : Dev nD) (r : Fin 8448) : Fin 1024 → EReal := fun k => argSh m c (ix3 (⟨r.val / 8192, by omega⟩ : Fin 2) 0 k)
def scRow (c : Dev nD) (r : Fin 8448) : Fin 1024 → EReal := fun k => argSc m c (ix3 (⟨r.val / 8192, by omega⟩ : Fin 2) 0 k)
def hOf (c : Dev nD) (r : Fin 8448) (k : Fin 1024) : EReal := hTerm (xRow m c r) (gRow m c) (shRow m c r) (scRow m c r) k
def pOf (c : Dev nD) (r : Fin 8448) (q : Fin 5632) : EReal := ∑ k : Fin 1024, hOf m c r k * argW m c (ix2 k q)

theorem at_0 : ∀ t : Fin cfg0.N, win0_0.index t = ![0, 0] := by decide +kernel
theorem at_1 : ∀ t : Fin cfg0.N, win0_1.index t = ![t.val / 32, 0, 0] := by decide +kernel
theorem at_2 : ∀ t : Fin cfg0.N, win0_2.index t = ![t.val / 32, 0, 0] := by decide +kernel
theorem at_3 : ∀ t : Fin cfg0.N, win0_3.index t = ![t.val, 0] := by decide +kernel
theorem at_4 : ∀ t : Fin cfg0.N, win0_4.index t = ![t.val, 0] := by decide +kernel
theorem at_5 : ∀ t : Fin cfg0.N, win0_5.index t = ![t.val, 0] := by decide +kernel

theorem lt_33 (t : Fin cfg0.N) : t.val < 33 := lt_of_lt_of_eq t.isLt (show cfg0.N = 33 from N_0)

/-- The row of the array at a row of a block. -/
def rowAt (t : Fin cfg0.N) (r : Fin 256) : Fin 8448 := ⟨256 * t.val + r.val, by have := lt_33 t; omega⟩

theorem blk_x (c : Dev nD) (t : Fin cfg0.N) (r : Fin 256) (k : Fin 1024) :
    (iblk m c 3 t : Vec Ideal S256x1024 .f32) (ix2 r k) = xRow m c (rowAt t r) k := by
  unfold xRow rowAt
  blk_ext! [iblk, V, at_3 t]
theorem blk_g (c : Dev nD) (t : Fin cfg0.N) (k : Fin 1024) : (iblk m c 0 t : Vec Ideal S1x1024 .f32) (ix2 0 k) = gRow m c k := by
  unfold gRow
  blk_ext! [iblk, V, at_0 t]
theorem blk_sh (c : Dev nD) (t : Fin cfg0.N) (r : Fin 256) (k : Fin 1024) : (iblk m c 1 t : Vec Ideal S1x1x1024 .f32) (ix3 0 0 k) = shRow m c (rowAt t r) k := by
  unfold shRow rowAt
  blk_ext! [iblk, V, at_1 t]
theorem blk_sc (c : Dev nD) (t : Fin cfg0.N) (r : Fin 256) (k : Fin 1024) : (iblk m c 2 t : Vec Ideal S1x1x1024 .f32) (ix3 0 0 k) = scRow m c (rowAt t r) k := by
  unfold scRow rowAt
  blk_ext! [iblk, V, at_2 t]

/-- The weight the kernel reads is the transposed `w_up`. -/
theorem Wt_apply (c : Dev nD) (q : Fin 5632) (k : Fin 1024) :
    Wt m c (ix2 q k) = argW m c (ix2 k q) := by
  have e : Wt m c (ix2 q k) = (V m c main_v4 : Vec Ideal S8x1056x1024 .bf16) (ix3 (⟨q.val / 704, by omega⟩ : Fin 8) (⟨q.val % 704, by omega⟩ : Fin 1056) k) := by
    unfold Wt weightOf
    refine congrArg (V m c main_v4 : Vec Ideal S8x1056x1024 .bf16) (funext fun a => ?_)
    match a with
    | ⟨0, _⟩ => rfl
    | ⟨1, _⟩ => exact Fin.ext (Nat.zero_add _)
    | ⟨2, _⟩ => rfl
  rw [e]
  entry_read
  pointwise
  rw [dif_pos (Nat.mod_lt _ (by decide))]
  refine congrArg (argW m c) (congrArg (ix2 k) (Fin.ext ?_))
  show q.val / 704 * 704 + q.val % 704 = q.val
  omega

theorem h_blk (c : Dev nD) (t : Fin cfg0.N) (r : Fin 256) (k : Fin 1024) : hBlock m c t (ix2 r k) = hOf m c (rowAt t r) k := by
  refine (h_apply _ _ _ _ r k).trans ?_
  rw [funext fun k => blk_x m c t r k, funext fun k => blk_g m c t k, funext fun k => blk_sh m c t r k, funext fun k => blk_sc m c t r k]; rfl
theorem p_blk (c : Dev nD) (t : Fin cfg0.N) (r : Fin 256) (q : Fin 5632) : pBlock m c t (ix2 r q) = pOf m c (rowAt t r) q :=
  (chunks_apply _ _ r q).trans (Finset.sum_congr rfl fun k _ => congrArg₂ (· * ·) (h_blk m c t r k) (Wt_apply m c q k))

/-- The results. -/
def hAll (c : Dev nD) : Vec Ideal S8448x1024 .bf16 := fun i => hOf m c (i 0) (i 1)
def pAll (c : Dev nD) : Vec Ideal S8448x5632 .bf16 := fun i => pOf m c (i 0) (i 1)

/-- Each block is written by its own point. -/
theorem h_final (c : Dev nD) : (dats m 0 c).arrAt 4 cfg0.N = hAll m c := by
  refine (dats m 0 c).arrAt_eq_of_covers 4 _ (by decide +kernel) fun t hf y => ?_
  have key : ∀ y : S256x1024.Idx, hBlock m c t y = hAll m c ((win0_4.blk t).view.emb y) := fun y => by
    have e0 : ((win0_4.blk t).view.emb y 0 : Fin 8448).val = 256 * t.val + (y 0).val := by blk_simp [at_4 t]; show t.val * 256 + _ = _; omega
    have e1 : ((win0_4.blk t).view.emb y 1 : Fin 1024).val = (y 1).val := by blk_simp [at_4 t]
    rw [ValueIdx.eq_ix2 y] at e0 e1 ⊢
    exact (h_blk m c t (y 0) (y 1)).trans (congrArg₂ (hOf m c) (Fin.ext e0.symm) (Fin.ext e1.symm))
  blk_simp
  rw [after_4]
  exact key y
theorem p_final (c : Dev nD) : (dats m 0 c).arrAt 5 cfg0.N = pAll m c := by
  refine (dats m 0 c).arrAt_eq_of_covers 5 _ (by decide +kernel) fun t hf y => ?_
  have key : ∀ y : S256x5632.Idx, pBlock m c t y = pAll m c ((win0_5.blk t).view.emb y) := fun y => by
    have e0 : ((win0_5.blk t).view.emb y 0 : Fin 8448).val = 256 * t.val + (y 0).val := by blk_simp [at_5 t]; show t.val * 256 + _ = _; omega
    have e1 : ((win0_5.blk t).view.emb y 1 : Fin 5632).val = (y 1).val := by blk_simp [at_5 t]
    rw [ValueIdx.eq_ix2 y] at e0 e1 ⊢
    exact (p_blk m c t (y 0) (y 1)).trans (congrArg₂ (pOf m c) (Fin.ext e0.symm) (Fin.ext e1.symm))
  blk_simp
  rw [after_5]
  exact key y

/-- The run, with the results named and the arguments unchanged. -/
theorem run_values : θ_run defs (onTc (τ := τ) (main (F := Ideal))) ⟨m, fun _ => 0, ρ⟩ (fun r => ∀ c : Dev nD,
      r.2.mem ((c.tc : Thread nD τ).loc main_v5_0) = hAll m c
      ∧ r.2.mem ((c.tc : Thread nD τ).loc main_v5_1) = pAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 4).trans (h_final m c), ((h.1.1 c).1 5).trans (p_final m c), h.2.1 c⟩)
    (θ_run_and (run_all m ρ) (frame_all m ρ))

end Cert.Kernel8Ideal.Run

end
-- ==== Proof.ProjUpClaims.lean ====
module

public import proofs.«01_k».proof.Proof.ProjUpValue
public import proofs.«01_k».proof.Proof.Gen.Reference8Ideal.Read
public import proofs.«01_k».proof.Proof.Gen.Reference8Ideal.Run
public import proofs.«01_k».proof.Defs

@[expose] public section

set_option maxRecDepth 16384

noncomputable section

/-! The forward call's results are the reference's. -/

namespace Cert.Reference8Ideal.Spec

open Cert.Reference8Ideal Cert.Reference8Ideal.Gen Cert.Reference8Ideal.Read Idealize.ShloMosaic Cert.BwdUp
open Cert.Kernel8Ideal.Run (hTerm)

variable (x0 : S8448x1024.Idx → EReal) (x1 : S1x1024.Idx → EReal) (x2 x3 : S2x1x1024.Idx → EReal) (x4 : S1024x5632.Idx → EReal)

/-- A row of the first stream, and of the second. -/
def fst (r : Fin 8192) : Fin 8448 := ⟨r.val, lt_trans r.isLt (by decide)⟩
def snd (r : Fin 256) : Fin 8448 := ⟨8192 + r.val, by omega⟩
/-- A normalized and modulated row, and its product with the weight. -/
def hr (r : Fin 8448) (s : Fin 2) (k : Fin 1024) : EReal :=
  hTerm (fun k => x0 (ix2 r k)) (fun k => x1 (ix2 0 k)) (fun k => x2 (ix3 s 0 k)) (fun k => x3 (ix3 s 0 k)) k
def pr (r : Fin 8448) (s : Fin 2) (q : Fin 5632) : EReal := ∑ k : Fin 1024, hr x0 x1 x2 x3 r s k * x4 (ix2 k q)

theorem h0 (r : Fin 8192) (k : Fin 1024) : val_main_v22 (F := Ideal) x0 x1 x2 x3 (ix2 r k) = hr x0 x1 x2 x3 (fst r) 0 k := by
  unfold val_main_v22 val_main_v21 val_main_v20 val_main_v19 val_main_v18 val_main_v17 val_main_cst_2 val_main_v16 val_main_v15 val_main_v14 val_main_v13 val_main_v12 val_main_v11 val_main_v10 val_main_v9 val_main_v8 val_main_v7 val_main_v6 val_main_cst_1 val_main_v5 val_main_v4 val_main_cst_0 val_main_v3 val_main_v2 val_main_cst val_main_v1 val_main_v0
  pointwise
  rfl
theorem h1 (r : Fin 256) (k : Fin 1024) : val_main_v45 (F := Ideal) x0 x1 x2 x3 (ix2 r k) = hr x0 x1 x2 x3 (snd r) 1 k := by
  unfold val_main_v45 val_main_v44 val_main_v43 val_main_v42 val_main_v41 val_main_v40 val_main_cst_6 val_main_v39 val_main_v38 val_main_v37 val_main_v36 val_main_v35 val_main_v34 val_main_v33 val_main_v32 val_main_v31 val_main_v30 val_main_v29 val_main_cst_5 val_main_v28 val_main_v27 val_main_cst_4 val_main_v26 val_main_v25 val_main_cst_3 val_main_v24 val_main_v23
  pointwise
  rfl
theorem p0 (r : Fin 8192) (q : Fin 5632) : val_main_v48 (F := Ideal) x0 x1 x2 x3 x4 (ix2 r q) = pr x0 x1 x2 x3 x4 (fst r) 0 q := by
  unfold val_main_v48
  pointwise
  exact Finset.sum_congr rfl fun k _ => congrArg (· * x4 (ix2 k q)) (h0 x0 x1 x2 x3 r k)
theorem p1 (r : Fin 256) (q : Fin 5632) : val_main_v49 (F := Ideal) x0 x1 x2 x3 x4 (ix2 r q) = pr x0 x1 x2 x3 x4 (snd r) 1 q := by
  unfold val_main_v49
  pointwise
  exact Finset.sum_congr rfl fun k _ => congrArg (· * x4 (ix2 k q)) (h1 x0 x1 x2 x3 r k)
theorem h (r : Fin 8448) (k : Fin 1024) : val_main_v47 (F := Ideal) x0 x1 x2 x3 (ix2 r k) = hr x0 x1 x2 x3 r ⟨r.val / 8192, by omega⟩ k := by
  unfold val_main_v47 val_main_v46
  pointwise
  split_ifs with h
  · have e : (⟨r.val / 8192, by omega⟩ : Fin 2) = 0 := Fin.ext (by show r.val / 8192 = 0; omega)
    rw [h0, e]; rfl
  · have e : (⟨r.val / 8192, by omega⟩ : Fin 2) = 1 := Fin.ext (by show r.val / 8192 = 1; omega)
    have e' : snd ⟨r.val - 8192, by omega⟩ = r := Fin.ext (by show 8192 + (r.val - 8192) = r.val; omega)
    rw [h1, e, e']
  · exact absurd rfl ‹_›
theorem p (r : Fin 8448) (q : Fin 5632) : val_main_v51 (F := Ideal) x0 x1 x2 x3 x4 (ix2 r q) = pr x0 x1 x2 x3 x4 r ⟨r.val / 8192, by omega⟩ q := by
  unfold val_main_v51 val_main_v50
  pointwise
  split_ifs with h
  · have e : (⟨r.val / 8192, by omega⟩ : Fin 2) = 0 := Fin.ext (by show r.val / 8192 = 0; omega)
    rw [p0, e]; rfl
  · have e : (⟨r.val / 8192, by omega⟩ : Fin 2) = 1 := Fin.ext (by show r.val / 8192 = 1; omega)
    have e' : snd ⟨r.val - 8192, by omega⟩ = r := Fin.ext (by show 8192 + (r.val - 8192) = r.val; omega)
    rw [p1, e, e']
  · exact absurd rfl ‹_›

end Cert.Reference8Ideal.Spec

namespace Cert.ProjUp

open Idealize.ShloMosaic Idealize.SL.Sem

/-- The reference runs, leaves its arguments, and has no counters. -/
theorem frame_reference [Cert.Reference8Ideal.Facts] : Cert.quiescent_Reference8Ideal := fun m g _ =>
  (θ_run Cert.Reference8Ideal.defs _ _).mono
    (fun r h => ⟨fun c => (h c).2.2, sem_eq_zero_of_no_sems (by decide) r.2⟩) (Cert.Reference8Ideal.Value.run m g)

section Equal

variable (m : (ℓ : Loc Cert.Kernel8Ideal.nD Cert.Kernel8Ideal.τ Cert.Kernel8Ideal.sig) → Buf (Elt Ideal) ℓ) (c : Dev Cert.Kernel8Ideal.nD)

open Cert.Kernel8Ideal.Run in
theorem h_eq : Cert.Reference8Ideal.Read.val_main_v47 (F := Ideal) (argX m c) (argG m c) (argSh m c) (argSc m c) = hAll m c := by
  funext i
  rw [ValueIdx.eq_ix2 i]
  exact Cert.Reference8Ideal.Spec.h _ _ _ _ (i 0) (i 1)
open Cert.Kernel8Ideal.Run in
theorem p_eq : Cert.Reference8Ideal.Read.val_main_v51 (F := Ideal) (argX m c) (argG m c) (argSh m c) (argSc m c) (argW m c) = pAll m c := by
  funext i
  rw [ValueIdx.eq_ix2 i]
  exact Cert.Reference8Ideal.Spec.p _ _ _ _ _ (i 0) (i 1)

end Equal

set_option maxHeartbeats 4000000 in
/-- The two programs' results are equal. -/
theorem algebraic [Cert.Kernel8Ideal.Facts] [Cert.Reference8Ideal.Facts] : Cert.algebraic_Kernel8Ideal_Reference8Ideal := by
  intro m g m' g' _ hag
  refine ⟨Cert.Kernel8Ideal.Run.hAll m, Cert.Kernel8Ideal.Run.pAll m,
    Cert.Kernel8Ideal.Run.run_values m g, (θ_run Cert.Reference8Ideal.defs _ _).mono (fun r h c => ?_) (Cert.Reference8Ideal.Value.run m' g')⟩
  obtain ⟨h0, h1, hargs⟩ := h c
  obtain ⟨a0, a1, a2, a3, a4, -⟩ := hag c
  refine ⟨h0.trans ?_, h1.trans ?_, hargs⟩
  · rw [Cert.Reference8Ideal.Read.val_main_v47_eq, a0, a1, a2, a3]; exact h_eq m c
  · rw [Cert.Reference8Ideal.Read.val_main_v51_eq, a0, a1, a2, a3, a4]; exact p_eq m c

end Cert.ProjUp

end
-- ==== Proof.ProjDownRun.lean ====
module

public import proofs.«01_k».proof.Proof.Gen.Kernel9Ideal.Frame.Runs
public import proofs.«01_k».proof.Proof.Gen.Kernel9Ideal.Skeleton
public import Idealize.ShloMosaic.Lib.VecWindow
public import Idealize.ShloMosaic.Lib.WritesUnit
public import Idealize.ShloMosaic.Lib.ValueLayout
public import Idealize.ShloMosaic.Lib.Claim

@[expose] public section

set_option maxRecDepth 16384

noncomputable section

namespace Cert.Kernel9Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Whole
variable {Val : EltTy → Type} {S : Shape} {e : EltTy} {sp : Space}

/-- A load of everything, from a whole buffer holding `x`, reads `x`. -/
theorem load_whole {M : Memref sig .tc sp S e} (h : M.IsWhole) (x : S.Idx → Val e) {off : Fin S.rank → ℕ} (inb : ∀ a, off a + S.size a ≤ S.size a) :
    M.view.readAt Val (Rect.unit off (no_index S.size) inb).toLoadRect (h.unread x) = x := by
  rw [View.readAt_full]; exact h.read_unread x

/-- A load of everything, after a store of everything, reads what was stored. -/
theorem load_stored [∀ e, Nonempty (Val e)] (v : View sig .tc sp S e) {off off' : Fin S.rank → ℕ} (inb : ∀ a, off a + S.size a ≤ S.size a) (inb' : ∀ a, off' a + S.size a ≤ S.size a)
    (w : S.Idx → Val e) (L : List (View.Piece Val S e)) :
    v.readCov ((⟨Rect.unit off' (no_index S.size) inb', w⟩ : View.Piece Val S e) :: L) (Rect.unit off (no_index S.size) inb).toLoadRect = w :=
  View.readCov_full v inb inb' w L

/-- After a store of everything the buffer holds what was stored, whatever was there. -/
theorem stored_whole (v : View sig .tc sp S e) (f : v.ty.Contents Val) {off : Fin S.rank → ℕ} (inb : ∀ a, off a + S.size a ≤ S.size a)
    (w x : S.Idx → Val e) (L : List (View.Piece Val S e)) (h : w = x) :
    v.read Val (v.writes Val f ((⟨Rect.unit off (no_index S.size) inb, w⟩ : View.Piece Val S e) :: L)) = x :=
  (View.read_writes_full v f inb w L).trans h
end Whole

/-- The grid point is the first: the weight is copied in. -/
abbrev condFirst (i : grid0.Coords) : Prop := (Scalar.cmpi .ne (Scalar.extui (Scalar.cmpi .eq (BitVec.ofNat 32 (i 0).val) 0#32)) 0#32) = 1#1

/-- The operand the body copies in itself: the gathered weights, whole. -/
abbrev hbM0_0 : Memref sig .tc .hbm S8x1056x1024 .bf16 := Memref.whole main_v4
/-- The contents type of a memref's buffer. -/
abbrev HbBuf0 (c : Dev nD) {sp : Space} {S : Shape} {e : EltTy} (M : Memref sig .tc sp S e) : Type := Buf (Elt F) (M.view.loc (c : Thread nD τ))
/-- A memref's buffer, held whole at given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The weight the body works with: row `352 e + r` is row `704 + r` of slab `e` of the gathered weights. -/
def weightOf {c : Dev nD} (g : HbBuf0 (F := F) c hbM0_0) : Vec F S2816x1024 .bf16 :=
  fun y => (hbM0_0.view.read (Elt F) g : Vec F S8x1056x1024 .bf16) fun a => match a with
    | ⟨0, _⟩ => (⟨(y 0).val / 352, by have := (y 0).isLt; change _ < 2816 at this; show _ < 8; omega⟩ : Fin 8)
    | ⟨1, _⟩ => (⟨704 + (y 0).val % 352, by show _ < 1056; omega⟩ : Fin 1056)
    | ⟨2, _⟩ => (⟨(y 1).val, (y 1).isLt⟩ : Fin 1024)

/-- The body's own transfer cells, all at zero. -/
def cells (c : Dev nD) : sProp 𝕄 :=
  iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)

/-- Row `x` of the copied slab `e` is row `352 e + x` of the weight. -/
theorem slab_apply {c : Dev nD} (g : HbBuf0 (F := F) c hbM0_0) (e : ℕ) (he : e < 8) (inb : ∀ a, (![e, 704, 0] : Fin 3 → ℕ) a + (![1, 352, 1024] : Fin 3 → ℕ) a ≤ S8x1056x1024.size a)
    (hn : S352x1024.numel = (Rect.unit (s := S8x1056x1024) ![e, 704, 0] ![1, 352, 1024] inb).shape.numel) (x : S352x1024.Idx) (y : S2816x1024.Idx)
    (h0 : (y 0).val = 352 * e + (x 0).val) (h1 : (y 1).val = (x 1).val) :
    (View.read (Elt F) (((View.whole main_v4).slice (Rect.unit ![e, 704, 0] ![1, 352, 1024] inb)).reshape S352x1024 hn) g : Vec F S352x1024 .bf16) x = weightOf g y := by
  have hx0 : (x 0).val < 352 := (x 0).isLt
  have hx : x = ValueIdx.ix2 (x 0) (x 1) := ValueIdx.eq_ix2 x
  show (View.read (Elt F) ((View.whole main_v4).slice (Rect.unit ![e, 704, 0] ![1, 352, 1024] inb)) g) (Shape.reshapeEquiv hn x) = _
  rw [hx]
  erw [ValueIdx.reshapeEquiv_ix2_1ab]
  unfold weightOf
  show View.read (Elt F) (View.whole main_v4) g _ = View.read (Elt F) (View.whole main_v4) g _
  refine congrArg _ (funext fun a => Fin.ext ?_)
  match a with
  | ⟨0, _⟩ => show e + 1 * 0 = (y 0).val / 352; omega
  | ⟨1, _⟩ => show 704 + 1 * (x 0).val = 704 + (y 0).val % 352; omega
  | ⟨2, _⟩ => show 0 + 1 * (x 1).val = (y 1).val; omega

/-- After the eight copies the scratch holds the weight, whatever was there. -/
theorem read_slabs {c : Dev nD} (g : HbBuf0 (F := F) c hbM0_0) (v : View sig .tc .vmem S2816x1024 .bf16) (f : v.ty.Contents (Elt F))
    (b0 : ∀ a, (![0, 0] : Fin 2 → ℕ) a + S352x1024.size a ≤ S2816x1024.size a) (s0 : ∀ a, (![0, 704, 0] : Fin 3 → ℕ) a + (![1, 352, 1024] : Fin 3 → ℕ) a ≤ S8x1056x1024.size a) (n0 : S352x1024.numel = (Rect.unit (s := S8x1056x1024) ![0, 704, 0] ![1, 352, 1024] s0).shape.numel)
    (b1 : ∀ a, (![352, 0] : Fin 2 → ℕ) a + S352x1024.size a ≤ S2816x1024.size a) (s1 : ∀ a, (![1, 704, 0] : Fin 3 → ℕ) a + (![1, 352, 1024] : Fin 3 → ℕ) a ≤ S8x1056x1024.size a) (n1 : S352x1024.numel = (Rect.unit (s := S8x1056x1024) ![1, 704, 0] ![1, 352, 1024] s1).shape.numel)
    (b2 : ∀ a, (![704, 0] : Fin 2 → ℕ) a + S352x1024.size a ≤ S2816x1024.size a) (s2 : ∀ a, (![2, 704, 0] : Fin 3 → ℕ) a + (![1, 352, 1024] : Fin 3 → ℕ) a ≤ S8x1056x1024.size a) (n2 : S352x1024.numel = (Rect.unit (s := S8x1056x1024) ![2, 704, 0] ![1, 352, 1024] s2).shape.numel)
    (b3 : ∀ a, (![1056, 0] : Fin 2 → ℕ) a + S352x1024.size a ≤ S2816x1024.size a) (s3 : ∀ a, (![3, 704, 0] : Fin 3 → ℕ) a + (![1, 352, 1024] : Fin 3 → ℕ) a ≤ S8x1056x1024.size a) (n3 : S352x1024.numel = (Rect.unit (s := S8x1056x1024) ![3, 704, 0] ![1, 352, 1024] s3).shape.numel)
    (b4 : ∀ a, (![1408, 0] : Fin 2 → ℕ) a + S352x1024.size a ≤ S2816x1024.size a) (s4 : ∀ a, (![4, 704, 0] : Fin 3 → ℕ) a + (![1, 352, 1024] : Fin 3 → ℕ) a ≤ S8x1056x1024.size a) (n4 : S352x1024.numel = (Rect.unit (s := S8x1056x1024) ![4, 704, 0] ![1, 352, 1024] s4).shape.numel)
    (b5 : ∀ a, (![1760, 0] : Fin 2 → ℕ) a + S352x1024.size a ≤ S2816x1024.size a) (s5 : ∀ a, (![5, 704, 0] : Fin 3 → ℕ) a + (![1, 352, 1024] : Fin 3 → ℕ) a ≤ S8x1056x1024.size a) (n5 : S352x1024.numel = (Rect.unit (s := S8x1056x1024) ![5, 704, 0] ![1, 352, 1024] s5).shape.numel)
    (b6 : ∀ a, (![2112, 0] : Fin 2 → ℕ) a + S352x1024.size a ≤ S2816x1024.size a) (s6 : ∀ a, (![6, 704, 0] : Fin 3 → ℕ) a + (![1, 352, 1024] : Fin 3 → ℕ) a ≤ S8x1056x1024.size a) (n6 : S352x1024.numel = (Rect.unit (s := S8x1056x1024) ![6, 704, 0] ![1, 352, 1024] s6).shape.numel)
    (b7 : ∀ a, (![2464, 0] : Fin 2 → ℕ) a + S352x1024.size a ≤ S2816x1024.size a) (s7 : ∀ a, (![7, 704, 0] : Fin 3 → ℕ) a + (![1, 352, 1024] : Fin 3 → ℕ) a ≤ S8x1056x1024.size a) (n7 : S352x1024.numel = (Rect.unit (s := S8x1056x1024) ![7, 704, 0] ![1, 352, 1024] s7).shape.numel) :
    v.read (Elt F) (v.writes (Elt F) f
      [⟨Rect.unit ![2464, 0] (no_index S352x1024.size) b7, ReadAs.same.apply (View.read (Elt F) (((View.whole main_v4).slice (Rect.unit ![7, 704, 0] ![1, 352, 1024] s7)).reshape S352x1024 n7) g)⟩,
        ⟨Rect.unit ![2112, 0] (no_index S352x1024.size) b6, ReadAs.same.apply (View.read (Elt F) (((View.whole main_v4).slice (Rect.unit ![6, 704, 0] ![1, 352, 1024] s6)).reshape S352x1024 n6) g)⟩,
        ⟨Rect.unit ![1760, 0] (no_index S352x1024.size) b5, ReadAs.same.apply (View.read (Elt F) (((View.whole main_v4).slice (Rect.unit ![5, 704, 0] ![1, 352, 1024] s5)).reshape S352x1024 n5) g)⟩,
        ⟨Rect.unit ![1408, 0] (no_index S352x1024.size) b4, ReadAs.same.apply (View.read (Elt F) (((View.whole main_v4).slice (Rect.unit ![4, 704, 0] ![1, 352, 1024] s4)).reshape S352x1024 n4) g)⟩,
        ⟨Rect.unit ![1056, 0] (no_index S352x1024.size) b3, ReadAs.same.apply (View.read (Elt F) (((View.whole main_v4).slice (Rect.unit ![3, 704, 0] ![1, 352, 1024] s3)).reshape S352x1024 n3) g)⟩,
        ⟨Rect.unit ![704, 0] (no_index S352x1024.size) b2, ReadAs.same.apply (View.read (Elt F) (((View.whole main_v4).slice (Rect.unit ![2, 704, 0] ![1, 352, 1024] s2)).reshape S352x1024 n2) g)⟩,
        ⟨Rect.unit ![352, 0] (no_index S352x1024.size) b1, ReadAs.same.apply (View.read (Elt F) (((View.whole main_v4).slice (Rect.unit ![1, 704, 0] ![1, 352, 1024] s1)).reshape S352x1024 n1) g)⟩,
        ⟨Rect.unit ![0, 0] (no_index S352x1024.size) b0, ReadAs.same.apply (View.read (Elt F) (((View.whole main_v4).slice (Rect.unit ![0, 704, 0] ![1, 352, 1024] s0)).reshape S352x1024 n0) g)⟩]) = weightOf g := by
  funext y
  have hy : (y 0).val < 2816 := (y 0).isLt
  by_cases h7 : 2464 ≤ (y 0).val
  · exact (View.read_writes_cons_rows_of_mem v f b7 _ _ y (ValueIdx.ix2 ⟨(y 0).val - 2464, by show _ < 352; omega⟩ (y 1)) rfl (by show (y 0).val = 2464 + ((y 0).val - 2464); omega) rfl).trans (slab_apply g 7 (by omega) s7 n7 _ y (by show (y 0).val = 352 * 7 + ((y 0).val - 2464); omega) rfl)
  refine (View.read_writes_cons_rows_of_not_mem v f b7 _ _ y rfl (W := 352) rfl (Or.inl (by omega))).trans ?_
  by_cases h6 : 2112 ≤ (y 0).val
  · exact (View.read_writes_cons_rows_of_mem v f b6 _ _ y (ValueIdx.ix2 ⟨(y 0).val - 2112, by show _ < 352; omega⟩ (y 1)) rfl (by show (y 0).val = 2112 + ((y 0).val - 2112); omega) rfl).trans (slab_apply g 6 (by omega) s6 n6 _ y (by show (y 0).val = 352 * 6 + ((y 0).val - 2112); omega) rfl)
  refine (View.read_writes_cons_rows_of_not_mem v f b6 _ _ y rfl (W := 352) rfl (Or.inl (by omega))).trans ?_
  by_cases h5 : 1760 ≤ (y 0).val
  · exact (View.read_writes_cons_rows_of_mem v f b5 _ _ y (ValueIdx.ix2 ⟨(y 0).val - 1760, by show _ < 352; omega⟩ (y 1)) rfl (by show (y 0).val = 1760 + ((y 0).val - 1760); omega) rfl).trans (slab_apply g 5 (by omega) s5 n5 _ y (by show (y 0).val = 352 * 5 + ((y 0).val - 1760); omega) rfl)
  refine (View.read_writes_cons_rows_of_not_mem v f b5 _ _ y rfl (W := 352) rfl (Or.inl (by omega))).trans ?_
  by_cases h4 : 1408 ≤ (y 0).val
  · exact (View.read_writes_cons_rows_of_mem v f b4 _ _ y (ValueIdx.ix2 ⟨(y 0).val - 1408, by show _ < 352; omega⟩ (y 1)) rfl (by show (y 0).val = 1408 + ((y 0).val - 1408); omega) rfl).trans (slab_apply g 4 (by omega) s4 n4 _ y (by show (y 0).val = 352 * 4 + ((y 0).val - 1408); omega) rfl)
  refine (View.read_writes_cons_rows_of_not_mem v f b4 _ _ y rfl (W := 352) rfl (Or.inl (by omega))).trans ?_
  by_cases h3 : 1056 ≤ (y 0).val
  · exact (View.read_writes_cons_rows_of_mem v f b3 _ _ y (ValueIdx.ix2 ⟨(y 0).val - 1056, by show _ < 352; omega⟩ (y 1)) rfl (by show (y 0).val = 1056 + ((y 0).val - 1056); omega) rfl).trans (slab_apply g 3 (by omega) s3 n3 _ y (by show (y 0).val = 352 * 3 + ((y 0).val - 1056); omega) rfl)
  refine (View.read_writes_cons_rows_of_not_mem v f b3 _ _ y rfl (W := 352) rfl (Or.inl (by omega))).trans ?_
  by_cases h2 : 704 ≤ (y 0).val
  · exact (View.read_writes_cons_rows_of_mem v f b2 _ _ y (ValueIdx.ix2 ⟨(y 0).val - 704, by show _ < 352; omega⟩ (y 1)) rfl (by show (y 0).val = 704 + ((y 0).val - 704); omega) rfl).trans (slab_apply g 2 (by omega) s2 n2 _ y (by show (y 0).val = 352 * 2 + ((y 0).val - 704); omega) rfl)
  refine (View.read_writes_cons_rows_of_not_mem v f b2 _ _ y rfl (W := 352) rfl (Or.inl (by omega))).trans ?_
  by_cases h1 : 352 ≤ (y 0).val
  · exact (View.read_writes_cons_rows_of_mem v f b1 _ _ y (ValueIdx.ix2 ⟨(y 0).val - 352, by show _ < 352; omega⟩ (y 1)) rfl (by show (y 0).val = 352 + ((y 0).val - 352); omega) rfl).trans (slab_apply g 1 (by omega) s1 n1 _ y (by show (y 0).val = 352 * 1 + ((y 0).val - 352); omega) rfl)
  refine (View.read_writes_cons_rows_of_not_mem v f b1 _ _ y rfl (W := 352) rfl (Or.inl (by omega))).trans ?_
  exact (View.read_writes_cons_rows_of_mem v f b0 _ _ y (ValueIdx.ix2 ⟨(y 0).val - 0, by show _ < 352; omega⟩ (y 1)) rfl (by show (y 0).val = 0 + ((y 0).val - 0); omega) rfl).trans (slab_apply g 0 (by omega) s0 n0 _ y (by show (y 0).val = 352 * 0 + ((y 0).val - 0); omega) rfl)

/-- … and a load of everything reads the weight. -/
theorem load_slabs {c : Dev nD} (g : HbBuf0 (F := F) c hbM0_0) (v : View sig .tc .vmem S2816x1024 .bf16) {off : Fin 2 → ℕ} (inb : ∀ a, off a + S2816x1024.size a ≤ S2816x1024.size a)
    (b0 : ∀ a, (![0, 0] : Fin 2 → ℕ) a + S352x1024.size a ≤ S2816x1024.size a) (s0 : ∀ a, (![0, 704, 0] : Fin 3 → ℕ) a + (![1, 352, 1024] : Fin 3 → ℕ) a ≤ S8x1056x1024.size a) (n0 : S352x1024.numel = (Rect.unit (s := S8x1056x1024) ![0, 704, 0] ![1, 352, 1024] s0).shape.numel)
    (b1 : ∀ a, (![352, 0] : Fin 2 → ℕ) a + S352x1024.size a ≤ S2816x1024.size a) (s1 : ∀ a, (![1, 704, 0] : Fin 3 → ℕ) a + (![1, 352, 1024] : Fin 3 → ℕ) a ≤ S8x1056x1024.size a) (n1 : S352x1024.numel = (Rect.unit (s := S8x1056x1024) ![1, 704, 0] ![1, 352, 1024] s1).shape.numel)
    (b2 : ∀ a, (![704, 0] : Fin 2 → ℕ) a + S352x1024.size a ≤ S2816x1024.size a) (s2 : ∀ a, (![2, 704, 0] : Fin 3 → ℕ) a + (![1, 352, 1024] : Fin 3 → ℕ) a ≤ S8x1056x1024.size a) (n2 : S352x1024.numel = (Rect.unit (s := S8x1056x1024) ![2, 704, 0] ![1, 352, 1024] s2).shape.numel)
    (b3 : ∀ a, (![1056, 0] : Fin 2 → ℕ) a + S352x1024.size a ≤ S2816x1024.size a) (s3 : ∀ a, (![3, 704, 0] : Fin 3 → ℕ) a + (![1, 352, 1024] : Fin 3 → ℕ) a ≤ S8x1056x1024.size a) (n3 : S352x1024.numel = (Rect.unit (s := S8x1056x1024) ![3, 704, 0] ![1, 352, 1024] s3).shape.numel)
    (b4 : ∀ a, (![1408, 0] : Fin 2 → ℕ) a + S352x1024.size a ≤ S2816x1024.size a) (s4 : ∀ a, (![4, 704, 0] : Fin 3 → ℕ) a + (![1, 352, 1024] : Fin 3 → ℕ) a ≤ S8x1056x1024.size a) (n4 : S352x1024.numel = (Rect.unit (s := S8x1056x1024) ![4, 704, 0] ![1, 352, 1024] s4).shape.numel)
    (b5 : ∀ a, (![1760, 0] : Fin 2 → ℕ) a + S352x1024.size a ≤ S2816x1024.size a) (s5 : ∀ a, (![5, 704, 0] : Fin 3 → ℕ) a + (![1, 352, 1024] : Fin 3 → ℕ) a ≤ S8x1056x1024.size a) (n5 : S352x1024.numel = (Rect.unit (s := S8x1056x1024) ![5, 704, 0] ![1, 352, 1024] s5).shape.numel)
    (b6 : ∀ a, (![2112, 0] : Fin 2 → ℕ) a + S352x1024.size a ≤ S2816x1024.size a) (s6 : ∀ a, (![6, 704, 0] : Fin 3 → ℕ) a + (![1, 352, 1024] : Fin 3 → ℕ) a ≤ S8x1056x1024.size a) (n6 : S352x1024.numel = (Rect.unit (s := S8x1056x1024) ![6, 704, 0] ![1, 352, 1024] s6).shape.numel)
    (b7 : ∀ a, (![2464, 0] : Fin 2 → ℕ) a + S352x1024.size a ≤ S2816x1024.size a) (s7 : ∀ a, (![7, 704, 0] : Fin 3 → ℕ) a + (![1, 352, 1024] : Fin 3 → ℕ) a ≤ S8x1056x1024.size a) (n7 : S352x1024.numel = (Rect.unit (s := S8x1056x1024) ![7, 704, 0] ![1, 352, 1024] s7).shape.numel) :
    v.readCov
      [⟨Rect.unit ![2464, 0] (no_index S352x1024.size) b7, ReadAs.same.apply (View.read (Elt F) (((View.whole main_v4).slice (Rect.unit ![7, 704, 0] ![1, 352, 1024] s7)).reshape S352x1024 n7) g)⟩,
        ⟨Rect.unit ![2112, 0] (no_index S352x1024.size) b6, ReadAs.same.apply (View.read (Elt F) (((View.whole main_v4).slice (Rect.unit ![6, 704, 0] ![1, 352, 1024] s6)).reshape S352x1024 n6) g)⟩,
        ⟨Rect.unit ![1760, 0] (no_index S352x1024.size) b5, ReadAs.same.apply (View.read (Elt F) (((View.whole main_v4).slice (Rect.unit ![5, 704, 0] ![1, 352, 1024] s5)).reshape S352x1024 n5) g)⟩,
        ⟨Rect.unit ![1408, 0] (no_index S352x1024.size) b4, ReadAs.same.apply (View.read (Elt F) (((View.whole main_v4).slice (Rect.unit ![4, 704, 0] ![1, 352, 1024] s4)).reshape S352x1024 n4) g)⟩,
        ⟨Rect.unit ![1056, 0] (no_index S352x1024.size) b3, ReadAs.same.apply (View.read (Elt F) (((View.whole main_v4).slice (Rect.unit ![3, 704, 0] ![1, 352, 1024] s3)).reshape S352x1024 n3) g)⟩,
        ⟨Rect.unit ![704, 0] (no_index S352x1024.size) b2, ReadAs.same.apply (View.read (Elt F) (((View.whole main_v4).slice (Rect.unit ![2, 704, 0] ![1, 352, 1024] s2)).reshape S352x1024 n2) g)⟩,
        ⟨Rect.unit ![352, 0] (no_index S352x1024.size) b1, ReadAs.same.apply (View.read (Elt F) (((View.whole main_v4).slice (Rect.unit ![1, 704, 0] ![1, 352, 1024] s1)).reshape S352x1024 n1) g)⟩,
        ⟨Rect.unit ![0, 0] (no_index S352x1024.size) b0, ReadAs.same.apply (View.read (Elt F) (((View.whole main_v4).slice (Rect.unit ![0, 704, 0] ![1, 352, 1024] s0)).reshape S352x1024 n0) g)⟩] (Rect.unit off (no_index S2816x1024.size) inb).toLoadRect = weightOf g :=
  (View.readAt_full v _ inb).trans (read_slabs g v _ b0 s0 n0 b1 s1 n1 b2 s2 n2 b3 s3 n3 b4 s4 n4 b5 s5 n5 b6 s6 n6 b7 s7 n7)

section Body
variable (c : Dev nD) (i : grid0.Coords) (arg1 : Memref sig .tc .vmem S1x1x1024 .f32) (harg1 : arg1.IsWhole) (arg2 : Memref sig .tc .vmem S256x2816 .bf16) (harg2 : arg2.IsWhole) (arg3 : Memref sig .tc .vmem S256x1024 .f32) (harg3 : arg3.IsWhole) (arg5 : Memref sig .tc .vmem S256x1024 .bf16) (harg5 : arg5.IsWhole) (arg6 : Memref sig .tc .vmem S256x1024 .f32) (harg6 : arg6.IsWhole) (arg7 : Memref sig .tc .vmem S2816x1024 .bf16) (harg7 : arg7.IsWhole)
  (x0 : Vec F S1x1x1024 .f32) (x1 : Vec F S256x2816 .bf16) (x2 : Vec F S256x1024 .f32)

/-- The body of the call at a grid point, on any staging buffers. -/
abbrev bodyProg := cc0_proj_down (F := F) i arg1 harg1 arg2 harg2 arg3 harg3 (Memref.whole main_v4) (Memref.isWhole_whole _) arg5 harg5 arg6 harg6 arg7 harg7 cc0_scratch1

/-- The input blocks, in their staging buffers. -/
def ins : sProp 𝕄 := iprop(owns (c : Thread nD τ) arg1 fullShare x0 ∗ owns (c : Thread nD τ) arg2 fullShare x1 ∗ owns (c : Thread nD τ) arg3 fullShare x2)

/-- The output blocks and the weight scratch, at given contents. -/
def outs (o3 : Vec F S256x1024 .bf16) (o4 : Vec F S256x1024 .f32) (wb : Vec F S2816x1024 .bf16) : sProp 𝕄 :=
  iprop(owns (c : Thread nD τ) arg5 fullShare o3 ∗ owns (c : Thread nD τ) arg6 fullShare o4 ∗ owns (c : Thread nD τ) arg7 fullShare wb)

set_option maxHeartbeats 1600000 in
/-- A point at which nothing is reset: the weight stays. -/
theorem run_inner (hc0 : ¬ condFirst i) (o3 : Vec F S256x1024 .bf16) (o4 : Vec F S256x1024 .f32) (wb : Vec F S2816x1024 .bf16) (W : Waits sig Unit) (K : PUnit → sProp 𝕄) :
    iprop(ins c arg1 arg2 arg3 x0 x1 x2 ∗ outs c arg5 arg6 arg7 o3 o4 wb ∗ owes (c : Thread nD τ) 0 W
        ∗ (iprop(ins c arg1 arg2 arg3 x0 x1 x2
            ∗ outs c arg5 arg6 arg7 (k0_pay2 x1 wb) (k0_pay3 x1 wb x2 x0) wb ∗ owes (c : Thread nD τ) 0 W) -∗ K ⟨⟩))
      ⊢ wp frame (wpE (defs₀ (F := F)) Variants.none c none) Set.univ (bodyProg i arg1 harg1 arg2 harg2 arg3 harg3 arg5 harg5 arg6 harg6 arg7 harg7) K := by
  simp only [bodyProg, cc0_proj_down_eq_skeleton]; unfold cc0_proj_down_skel
  simp only [k0_part1_eq_skeleton, k0_part2_eq_skeleton, k0_part3_eq_skeleton]
  unfold ins outs owns
  iintro ⟨⟨⟨%f0, %hf0, H0⟩, ⟨%f1, %hf1, H1⟩, ⟨%f2, %hf2, H2⟩⟩, ⟨⟨%f3, %hf3, H3⟩, ⟨%f4, %hf4, H4⟩, ⟨%fs0, %hfs, HS0⟩⟩, HW, Hk⟩
  obtain rfl := harg1.eq_unread hf0; obtain rfl := harg2.eq_unread hf1; obtain rfl := harg3.eq_unread hf2
  obtain rfl := harg7.eq_unread hfs
  sl_exec (disch := sl_exact hc0)
  sl_step
  iapply Hk
  isplitl [H0 H1 H2]
  · isplitl [H0]
    · iexists _; isplitr; swap; · iexact H0
      ipureintro; exact hf0
    isplitl [H1]
    · iexists _; isplitr; swap; · iexact H1
      ipureintro; exact hf1
    iexists _; isplitr; swap; · iexact H2
    ipureintro; exact hf2
  isplitl [H3 H4 HS0]
  · isplitl [H3]
    · iexists _; isplitr; swap; · iexact H3
      ipureintro; refine stored_whole _ _ _ _ _ _ ?_; sl_unfold_words; simp only [load_whole, load_stored]
    isplitl [H4]
    · iexists _; isplitr; swap; · iexact H4
      ipureintro; refine stored_whole _ _ _ _ _ _ ?_; sl_unfold_words; simp only [load_whole, load_stored]
    iexists _; isplitr; swap; · iexact HS0
    ipureintro; exact hfs
  iexact HW

set_option sl_exec.dmaWindow true in
set_option sl_exec.dmaWindowSet true in
set_option maxHeartbeats 1600000 in
/-- The first point: the weight is copied in, eight slabs in flight at once. -/
theorem run_first (hc0 : condFirst i) (o3 : Vec F S256x1024 .bf16) (o4 : Vec F S256x1024 .f32) (wb : Vec F S2816x1024 .bf16) (g : HbBuf0 (F := F) c hbM0_0) (W : Waits sig Unit) (K : PUnit → sProp 𝕄) :
    iprop(ins c arg1 arg2 arg3 x0 x1 x2 ∗ outs c arg5 arg6 arg7 o3 o4 wb ∗ cells c ∗ hbPt0 c hbM0_0 g ∗ owes (c : Thread nD τ) 0 W
        ∗ (iprop(ins c arg1 arg2 arg3 x0 x1 x2
            ∗ outs c arg5 arg6 arg7 (k0_pay2 x1 (weightOf g)) (k0_pay3 x1 (weightOf g) x2 x0) (weightOf g) ∗ cells c ∗ hbPt0 c hbM0_0 g ∗ (∃ W', owes (c : Thread nD τ) 0 W')) -∗ K ⟨⟩))
      ⊢ wp frame (wpE (defs₀ (F := F)) Variants.none c none) Set.univ (bodyProg i arg1 harg1 arg2 harg2 arg3 harg3 arg5 harg5 arg6 harg6 arg7 harg7) K := by
  simp only [bodyProg, cc0_proj_down_eq_skeleton]; unfold cc0_proj_down_skel
  simp only [k0_part1_eq_skeleton, k0_part2_eq_skeleton, k0_part3_eq_skeleton]
  unfold ins outs owns cells
  iintro ⟨⟨⟨%f0, %hf0, H0⟩, ⟨%f1, %hf1, H1⟩, ⟨%f2, %hf2, H2⟩⟩, ⟨⟨%f3, -, H3⟩, ⟨%f4, -, H4⟩, ⟨%fs0, -, HS0⟩⟩, ⟨Hq0, Hq1, Hq2, Hq3, Hq4, Hq5, Hq6, Hq7⟩, Hh0, HW, Hk⟩
  obtain rfl := harg1.eq_unread hf0; obtain rfl := harg2.eq_unread hf1; obtain rfl := harg3.eq_unread hf2
  sl_exec (disch := sl_exact hc0)
  sl_step
  iapply Hk
  isplitl [H0 H1 H2]
  · isplitl [H0]
    · iexists _; isplitr; swap; · iexact H0
      ipureintro; exact hf0
    isplitl [H1]
    · iexists _; isplitr; swap; · iexact H1
      ipureintro; exact hf1
    iexists _; isplitr; swap; · iexact H2
    ipureintro; exact hf2
  isplitl [H3 H4 HS0]
  · isplitl [H3]
    · iexists _; isplitr; swap; · iexact H3
      ipureintro; refine stored_whole _ _ _ _ _ _ ?_; sl_unfold_words; simp only [load_whole, load_stored]
      refine congrArg (fun w => k0_pay2 x1 w) ?_; exact load_slabs ..
    isplitl [H4]
    · iexists _; isplitr; swap; · iexact H4
      ipureintro; refine stored_whole _ _ _ _ _ _ ?_; sl_unfold_words; simp only [load_whole, load_stored]
      refine congrArg (fun w => k0_pay3 x1 w x2 x0) ?_; exact load_slabs ..
    iexists _; isplitr; swap; · iexact HS0
    ipureintro; sl_unfold_words; exact read_slabs ..
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexists _; iexact HW
end Body
end Cert.Kernel9Ideal.Run

end
-- ==== Proof.ProjDownFrame.lean ====
module

public import proofs.«01_k».proof.Proof.ProjDownRun
public import proofs.«01_k».proof.Proof.Gen.Kernel9Ideal.Points
public import proofs.«01_k».proof.Proof.Gen.Kernel9Ideal.Launch

@[expose] public section

set_option maxRecDepth 16384

noncomputable section

namespace Cert.Kernel9Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's own operands, as the launch knows them -/

/-- The weight scratch, whole. -/
abbrev scM : Memref sig .tc .vmem S2816x1024 .bf16 := Memref.whole cc0_scratch0
/-- The transfer cells of the body. -/
abbrev ownCells : Fin 8 → SemLoc sig := fun j => (![SemLoc.dma 10, SemLoc.dma 11, SemLoc.dma 12, SemLoc.dma 13, SemLoc.dma 14, SemLoc.dma 15, SemLoc.dma 16, SemLoc.dma 17] : Fin 8 → SemLoc sig) j
theorem ownCells_facts : Pipeline.OwnSemFacts spec0 ownCells := by decide
/-- The array the body copies from. -/
def moved : Finset (Ref sig .tc) := {main_v4}
theorem moved_sub : moved ⊆ Pipeline.restRefs sig spec0 := by decide

/-- What the launch hands the body besides the windows: the scratch at anything, the generator register, the cells at zero
    and the gathered weights. -/
theorem handed_eq (c : Dev nD) :
    (Pipeline.ΦD ownCells spec0 moved (V m) c : sProp 𝕄)
      = iprop((∃ d, owns (c : Thread nD τ) scM fullShare d) ∗ (∃ r, prngReg c r) ∗ cells c ∗ hbPt0 c hbM0_0 (V m c main_v4)) := by
  rw [Pipeline.ΦD_eq, scopedRest0_eq, Pipeline.ownSems0_eq_of_list c ownCells [0, 1, 2, 3, 4, 5, 6, 7] (by decide) (by decide),
    BI.bigSep_eq_bigSepL_of_eq [main_v4] (by decide) (by decide)]
  simp only [scM, owns_whole]; rfl

/-! ## The schedule in closed form -/

theorem first_iff : ∀ t : Fin grid0.N, condFirst (grid0.coords t) ↔ t.val = 0 := by decide +kernel

/-! ## What the buffers hold after each point -/

/-- The weight: rows 704 to 1055 of each slab of the gathered weights. -/
abbrev Wt (c : Dev nD) : Vec F S2816x1024 .bf16 := weightOf (c := c) (V m c main_v4)
/-- What a point writes to output 0. -/
def yBlock (c : Dev nD) (t : Fin cfg0.N) : Vec F S256x1024 .bf16 := k0_pay2 (iblk m c 1 t) (Wt m c)
/-- What a point writes to output 1. -/
def oBlock (c : Dev nD) (t : Fin cfg0.N) : Vec F S256x1024 .f32 := k0_pay3 (iblk m c 1 t) (Wt m c) (iblk m c 2 t) (iblk m c 0 t)

/-- The body's state before point `n`: as handed at first, afterwards the scratch at the weight. -/
def stateAt (c : Dev nD) : ℕ → sProp 𝕄
  | 0 => Pipeline.ΦD ownCells spec0 moved (V m) c
  | _ + 1 => iprop(owns (c : Thread nD τ) scM fullShare (Wt m c) ∗ (∃ r, prngReg c r) ∗ cells c ∗ hbPt0 c hbM0_0 (V m c main_v4))

/-- The proof data: the arrays as the region finds them, the inputs' buffers at their blocks, the outputs' at what the
    point writes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlock m c t
    | ⟨4, _⟩ => oBlock m c t
  Φ t := stateAt m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = yBlock m c t := rfl
theorem after_4 (c : Dev nD) (t : Fin cfg0.N) : (dats m 0 c).after 4 t = oBlock m c t := rfl
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

/-! ## The body at a generic point -/

abbrev mr0 (t : Fin cfg0.N) : Memref sig .tc .vmem S1x1x1024 .f32 := win0_0.stage (cfg0.slots t 0)
abbrev hr0 (t : Fin cfg0.N) : (mr0 t).IsWhole := hstage0_0 ((cfg0.slots t 0).cast nbuf0_0)
abbrev mr1 (t : Fin cfg0.N) : Memref sig .tc .vmem S256x2816 .bf16 := win0_1.stage (cfg0.slots t 1)
abbrev hr1 (t : Fin cfg0.N) : (mr1 t).IsWhole := hstage0_1 ((cfg0.slots t 1).cast nbuf0_1)
abbrev mr2 (t : Fin cfg0.N) : Memref sig .tc .vmem S256x1024 .f32 := win0_2.stage (cfg0.slots t 2)
abbrev hr2 (t : Fin cfg0.N) : (mr2 t).IsWhole := hstage0_2 ((cfg0.slots t 2).cast nbuf0_2)
abbrev mr3 (t : Fin cfg0.N) : Memref sig .tc .vmem S256x1024 .bf16 := win0_3.stage (cfg0.slots t 3)
abbrev hr3 (t : Fin cfg0.N) : (mr3 t).IsWhole := hstage0_3 ((cfg0.slots t 3).cast nbuf0_3)
abbrev mr4 (t : Fin cfg0.N) : Memref sig .tc .vmem S256x1024 .f32 := win0_4.stage (cfg0.slots t 4)
abbrev hr4 (t : Fin cfg0.N) : (mr4 t).IsWhole := hstage0_4 ((cfg0.slots t 4).cast nbuf0_4)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t))

set_option maxHeartbeats 2400000 in
/-- The body at any point, by the kinds of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, after_0, after_1, after_2, after_3, after_4]
  rw [show (dats m 0 c).Φ t.castSucc = stateAt m c t.val from rfl, show (dats m 0 c).Φ t.succ = stateAt m c (t.val + 1) from rfl]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  rcases Nat.eq_zero_or_pos t.val with h0 | hpos
  · rw [h0, show stateAt m c 0 = Pipeline.ΦD ownCells spec0 moved (V m) c from rfl, handed_eq,
      show stateAt m c (0 + 1) = iprop(owns (c : Thread nD τ) scM fullShare (Wt m c) ∗ (∃ r, prngReg c r) ∗ cells c ∗ hbPt0 c hbM0_0 (V m c main_v4)) from rfl]
    unfold yBlock oBlock
    iintro ⟨⟨⟨%ds, HS⟩, Hg, Hq, Hh⟩, ⟨%W, -, HW⟩, ⟨%d0, H0⟩, ⟨%d1, H1⟩, ⟨%d2, H2⟩, ⟨%d3, H3⟩, ⟨%d4, H4⟩⟩
    iapply (run_first c (grid0.coords t) (mr0 t) (hr0 t) (mr1 t) (hr1 t) (mr2 t) (hr2 t) (mr3 t) (hr3 t) (mr4 t) (hr4 t) scM (Memref.isWhole_whole _)
      (iblk m c 0 t) (iblk m c 1 t) (iblk m c 2 t) ((first_iff t).mpr h0) _ _ _ (V m c main_v4) W _)
    unfold ins outs
    isplitl [H0 H1 H2]
    · isplitl [H0]; · iexact H0
      isplitl [H1]; · iexact H1
      iexact H2
    isplitl [H3 H4 HS]
    · isplitl [H3]; · iexact H3
      isplitl [H4]; · iexact H4
      iexact HS
    isplitl [Hq]; · iexact Hq
    isplitl [Hh]; · iexact Hh
    isplitl [HW]; · iexact HW
    iintro ⟨⟨H0, H1, H2⟩, ⟨H3, H4, HS⟩, Hq, Hh, ⟨%W2, HW⟩⟩
    isplitl [HS Hg Hq Hh]
    · isplitl [HS]; · iexact HS
      isplitl [Hg]; · iexact Hg
      isplitl [Hq]; · iexact Hq
      iexact Hh
    isplitl [HW]
    · iexists _; isplitr; swap; · iexact HW
      ipureintro; exact fun _ _ => Or.inl trivial
    isplitl [H0]; · iexact H0
    isplitl [H1]; · iexact H1
    isplitl [H2]; · iexact H2
    isplitl [H3]; · iexact H3
    iexact H4
  obtain ⟨n, hn⟩ : ∃ n, t.val = n + 1 := ⟨t.val - 1, by omega⟩
  have eS : stateAt m c t.val = iprop(owns (c : Thread nD τ) scM fullShare (Wt m c) ∗ (∃ r, prngReg c r) ∗ cells c ∗ hbPt0 c hbM0_0 (V m c main_v4)) := by rw [hn]; rfl
  have eS' : stateAt m c (t.val + 1) = iprop(owns (c : Thread nD τ) scM fullShare (Wt m c) ∗ (∃ r, prngReg c r) ∗ cells c ∗ hbPt0 c hbM0_0 (V m c main_v4)) := rfl
  rw [eS, eS']
  unfold yBlock oBlock
  iintro ⟨⟨HS, Hg, Hq, Hh⟩, ⟨%W, -, HW⟩, ⟨%d0, H0⟩, ⟨%d1, H1⟩, ⟨%d2, H2⟩, ⟨%d3, H3⟩, ⟨%d4, H4⟩⟩
  iapply (run_inner c (grid0.coords t) (mr0 t) (hr0 t) (mr1 t) (hr1 t) (mr2 t) (hr2 t) (mr3 t) (hr3 t) (mr4 t) (hr4 t) scM (Memref.isWhole_whole _)
    (iblk m c 0 t) (iblk m c 1 t) (iblk m c 2 t) (fun h => by have := (first_iff t).mp h; omega) _ _ _ W _)
  unfold ins outs
  isplitl [H0 H1 H2]
  · isplitl [H0]; · iexact H0
    isplitl [H1]; · iexact H1
    iexact H2
  isplitl [H3 H4 HS]
  · isplitl [H3]; · iexact H3
    isplitl [H4]; · iexact H4
    iexact HS
  isplitl [HW]; · iexact HW
  iintro ⟨⟨H0, H1, H2⟩, ⟨H3, H4, HS⟩, HW⟩
  isplitl [HS Hg Hq Hh]
  · isplitl [HS]; · iexact HS
    isplitl [Hg]; · iexact Hg
    isplitl [Hq]; · iexact Hq
    iexact Hh
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The body's state after the last point is what the launch takes back. -/
theorem state_out (c : Dev nD) : (dats m 0 c).Φ (Fin.last cfg0.N) ⊢ Pipeline.ΦD ownCells spec0 moved (V m) c := by
  rw [show (dats m 0 c).Φ (Fin.last cfg0.N) = iprop(owns (c : Thread nD τ) scM fullShare (Wt m c) ∗ (∃ r, prngReg c r) ∗ cells c ∗ hbPt0 c hbM0_0 (V m c main_v4)) from rfl, handed_eq]
  iintro ⟨HS, Hr⟩
  isplitl [HS]
  · iexists _; iexact HS
  iexact Hr

set_option maxHeartbeats 800000 in
/-- The host operations, then the region. -/
theorem host_then_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every array of the pipeline ends at what the proof data say, every other array as the region found it, and
    every counter at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownCells defs₀ Variants.none ownCells_facts moved moved_sub m ρ main
    (hbody := fun c => (body_obligation m c).loose) (hshare := fun c => (dats m 0 c).share_full fun _ => rfl)
    (howed := fun _ _ => rfl) (V := V m) (hmain := host_then_region m Variants.none) (hA := A_eq m) (hin := fun _ => .rfl) (hout := state_out m)

/-- The arguments end unchanged and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 1).trans (((dats m 0 c).arrAt_in 1 rfl _).trans (V_main_arg0 m c)),
      ((h.1 c).1 2).trans (((dats m 0 c).arrAt_in 2 rfl _).trans (V_main_arg1 m c)),
      ((h.1 c).1 0).trans (((dats m 0 c).arrAt_in 0 rfl _).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_all m ρ)

end Cert.Kernel9Ideal.Run

end
-- ==== Proof.ProjDownBits.lean ====
module

public import proofs.«01_k».proof.Proof.ProjDownFrame
public import proofs.«01_k».proof.Proof.Gen.Kernel9
public import proofs.«01_k».proof.Defs

@[expose] public section

set_option maxRecDepth 16384

noncomputable section

/-! The printed program and the idealized one are one text, so the run of the latter at the bit instance is a run of the
    former. -/

namespace Cert.Kernel9.Run

open Idealize.ShloMosaic Idealize.SL.Sem

theorem rows_same : (Cert.Kernel9.defs₀ (F := Bits)) = (Cert.Kernel9Ideal.defs₀ (F := Bits)) := by
  unfold Cert.Kernel9.defs₀ Cert.Kernel9Ideal.defs₀
  refine congrArg Defs.onTc ?_
  funext l a
  match l, a with
  | 0, (t, s) => rfl

theorem defs_same : (Cert.Kernel9.defs (F := Bits)) = (Cert.Kernel9Ideal.defs (F := Bits)) := by
  unfold Cert.Kernel9.defs Cert.Kernel9Ideal.defs
  exact congrArg (Pipeline.defs _) rows_same

set_option maxHeartbeats 4000000 in
/-- The printed program runs, leaves its arguments and ends quiescent. -/
theorem quiescent [Cert.Kernel9.Facts] : Cert.quiescent_Kernel9 := fun m g _ => by
  rw [defs_same]
  exact Cert.Kernel9Ideal.Run.frame_all m g

end Cert.Kernel9.Run

end
-- ==== Proof.ProjDownValue.lean ====
module

public import proofs.«01_k».proof.Proof.ProjDownFrame
public import Idealize.ShloMosaic.Lib.Pipeline.Value
public import Idealize.ShloMosaic.Lib.Claim
public import Idealize.ShloMosaic.Lib.Pipeline.ValueKit.Point

@[expose] public section

set_option maxRecDepth 16384

noncomputable section

/-! What the two results of the forward call hold, at the extended reals. -/

namespace Cert.Kernel9Ideal.Run

open Idealize.ShloMosaic Idealize.ShloMosaic.TcCoe Idealize.ShloMosaic.Tactic Idealize.SL.Sem
open Idealize.ShloMosaic.Pipeline (Dat)
open Cert.Kernel9Ideal.Gen

variable (m : (ℓ : Loc nD τ sig) → Buf (Elt Ideal) ℓ) (ρ : Dev nD → PrngReg)

/-- The arguments. -/
abbrev argF (c : Dev nD) : S8448x2816.Idx → EReal := m ((c.tc : Thread nD τ).loc main_arg0)
abbrev argX (c : Dev nD) : S8448x1024.Idx → EReal := m ((c.tc : Thread nD τ).loc main_arg1)
abbrev argG (c : Dev nD) : S2x1x1024.Idx → EReal := m ((c.tc : Thread nD τ).loc main_arg2)
abbrev argW (c : Dev nD) : S2816x1024.Idx → EReal := m ((c.tc : Thread nD τ).loc main_arg4)

/-- A row of the product, and of the gated residual. -/
def yOf (c : Dev nD) (r : Fin 8448) (k : Fin 1024) : EReal := ∑ q : Fin 2816, argF m c (ix2 r q) * argW m c (ix2 q k)
def oOf (c : Dev nD) (r : Fin 8448) (k : Fin 1024) : EReal :=
  argX m c (ix2 r k) + argG m c (ix3 (⟨r.val / 8192, by omega⟩ : Fin 2) 0 k) * yOf m c r k

theorem y_apply (f : Vec Ideal S256x2816 .bf16) (w : Vec Ideal S2816x1024 .bf16) (r : Fin 256) (k : Fin 1024) :
    k0_pay2 f w (ix2 r k) = ∑ q : Fin 2816, f (ix2 r q) * w (ix2 q k) := by
  unfold k0_pay2 k0_pay1; pointwise
theorem o_apply (f : Vec Ideal S256x2816 .bf16) (w : Vec Ideal S2816x1024 .bf16) (x : Vec Ideal S256x1024 .f32) (g : Vec Ideal S1x1x1024 .f32) (r : Fin 256) (k : Fin 1024) :
    k0_pay3 f w x g (ix2 r k) = x (ix2 r k) + g (ix3 0 0 k) * ∑ q : Fin 2816, f (ix2 r q) * w (ix2 q k) := by
  unfold k0_pay3 k0_pay1; pointwise

theorem at_0 : ∀ t : Fin cfg0.N, win0_0.index t = ![t.val / 32, 0, 0] := by decide +kernel
theorem at_1 : ∀ t : Fin cfg0.N, win0_1.index t = ![t.val, 0] := by decide +kernel
theorem at_2 : ∀ t : Fin cfg0.N, win0_2.index t = ![t.val, 0] := by decide +kernel
theorem at_3 : ∀ t : Fin cfg0.N, win0_3.index t = ![t.val, 0] := by decide +kernel
theorem at_4 : ∀ t : Fin cfg0.N, win0_4.index t = ![t.val, 0] := by decide +kernel

theorem lt_33 (t : Fin cfg0.N) : t.val < 33 := lt_of_lt_of_eq t.isLt (show cfg0.N = 33 from N_0)

/-- The row of the array at a row of a block. -/
def rowAt (t : Fin cfg0.N) (r : Fin 256) : Fin 8448 := ⟨256 * t.val + r.val, by have := lt_33 t; omega⟩

theorem blk_f (c : Dev nD) (t : Fin cfg0.N) (r : Fin 256) (q : Fin 2816) :
    (iblk m c 1 t : Vec Ideal S256x2816 .bf16) (ix2 r q) = argF m c (ix2 (rowAt t r) q) := by
  unfold rowAt
  blk_ext! [iblk, V, at_1 t]
theorem blk_x (c : Dev nD) (t : Fin cfg0.N) (r : Fin 256) (k : Fin 1024) :
    (iblk m c 2 t : Vec Ideal S256x1024 .f32) (ix2 r k) = argX m c (ix2 (rowAt t r) k) := by
  unfold rowAt
  blk_ext! [iblk, V, at_2 t]
theorem blk_g (c : Dev nD) (t : Fin cfg0.N) (r : Fin 256) (k : Fin 1024) :
    (iblk m c 0 t : Vec Ideal S1x1x1024 .f32) (ix3 0 0 k) = argG m c (ix3 (⟨(rowAt t r).val / 8192, by have := (rowAt t r).isLt; omega⟩ : Fin 2) 0 k) := by
  unfold rowAt
  blk_ext! [iblk, V, at_0 t]

/-- The weight the kernel reads is `w_down`. -/
theorem Wt_apply (c : Dev nD) (q : Fin 2816) (k : Fin 1024) : Wt m c (ix2 q k) = argW m c (ix2 q k) := by
  have e : Wt m c (ix2 q k) = (V m c main_v4 : Vec Ideal S8x1056x1024 .bf16) (ix3 (⟨q.val / 352, by omega⟩ : Fin 8) (⟨704 + q.val % 352, by omega⟩ : Fin 1056) k) := by
    unfold Wt weightOf
    refine congrArg (V m c main_v4 : Vec Ideal S8x1056x1024 .bf16) (funext fun a => ?_)
    match a with
    | ⟨0, _⟩ => rfl
    | ⟨1, _⟩ => rfl
    | ⟨2, _⟩ => rfl
  rw [e]
  entry_read
  pointwise
  refine congrArg (argW m c) (congrArg (fun z => ix2 z k) (Fin.ext ?_))
  show q.val / 352 * 352 + q.val % 352 = q.val
  omega

theorem y_blk (c : Dev nD) (t : Fin cfg0.N) (r : Fin 256) (k : Fin 1024) : yBlock m c t (ix2 r k) = yOf m c (rowAt t r) k :=
  (y_apply _ _ r k).trans (Finset.sum_congr rfl fun q _ => congrArg₂ (· * ·) (blk_f m c t r q) (Wt_apply m c q k))
theorem o_blk (c : Dev nD) (t : Fin cfg0.N) (r : Fin 256) (k : Fin 1024) : oBlock m c t (ix2 r k) = oOf m c (rowAt t r) k :=
  (o_apply _ _ _ _ r k).trans (congrArg₂ (· + ·) (blk_x m c t r k) (congrArg₂ (· * ·) (blk_g m c t r k)
    (Finset.sum_congr rfl fun q _ => congrArg₂ (· * ·) (blk_f m c t r q) (Wt_apply m c q k))))

/-- The results. -/
def yAll (c : Dev nD) : Vec Ideal S8448x1024 .bf16 := fun i => yOf m c (i 0) (i 1)
def oAll (c : Dev nD) : Vec Ideal S8448x1024 .f32 := fun i => oOf m c (i 0) (i 1)

/-- Each block is written by its own point. -/
theorem y_final (c : Dev nD) : (dats m 0 c).arrAt 3 cfg0.N = yAll m c := by
  refine (dats m 0 c).arrAt_eq_of_covers 3 _ (by decide +kernel) fun t hf y => ?_
  have key : ∀ y : S256x1024.Idx, yBlock m c t y = yAll m c ((win0_3.blk t).view.emb y) := fun y => by
    have e0 : ((win0_3.blk t).view.emb y 0 : Fin 8448).val = 256 * t.val + (y 0).val := by blk_simp [at_3 t]; show t.val * 256 + _ = _; omega
    have e1 : ((win0_3.blk t).view.emb y 1 : Fin 1024).val = (y 1).val := by blk_simp [at_3 t]
    rw [ValueIdx.eq_ix2 y] at e0 e1 ⊢
    exact (y_blk m c t (y 0) (y 1)).trans (congrArg₂ (yOf m c) (Fin.ext e0.symm) (Fin.ext e1.symm))
  blk_simp
  rw [after_3]
  exact key y
theorem o_final (c : Dev nD) : (dats m 0 c).arrAt 4 cfg0.N = oAll m c := by
  refine (dats m 0 c).arrAt_eq_of_covers 4 _ (by decide +kernel) fun t hf y => ?_
  have key : ∀ y : S256x1024.Idx, oBlock m c t y = oAll m c ((win0_4.blk t).view.emb y) := fun y => by
    have e0 : ((win0_4.blk t).view.emb y 0 : Fin 8448).val = 256 * t.val + (y 0).val := by blk_simp [at_4 t]; show t.val * 256 + _ = _; omega
    have e1 : ((win0_4.blk t).view.emb y 1 : Fin 1024).val = (y 1).val := by blk_simp [at_4 t]
    rw [ValueIdx.eq_ix2 y] at e0 e1 ⊢
    exact (o_blk m c t (y 0) (y 1)).trans (congrArg₂ (oOf m c) (Fin.ext e0.symm) (Fin.ext e1.symm))
  blk_simp
  rw [after_4]
  exact key y

/-- The run, with the results named and the arguments unchanged. -/
theorem run_values : θ_run defs (onTc (τ := τ) (main (F := Ideal))) ⟨m, fun _ => 0, ρ⟩ (fun r => ∀ c : Dev nD,
      r.2.mem ((c.tc : Thread nD τ).loc main_v5_0) = yAll m c
      ∧ r.2.mem ((c.tc : Thread nD τ).loc main_v5_1) = oAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 3).trans (y_final m c), ((h.1.1 c).1 4).trans (o_final m c), h.2.1 c⟩)
    (θ_run_and (run_all m ρ) (frame_all m ρ))

end Cert.Kernel9Ideal.Run

end
-- ==== Proof.ProjDownClaims.lean ====
module

public import proofs.«01_k».proof.Proof.ProjDownValue
public import proofs.«01_k».proof.Proof.Gen.Reference9Ideal.Read
public import proofs.«01_k».proof.Proof.Gen.Reference9Ideal.Run
public import proofs.«01_k».proof.Defs

@[expose] public section

set_option maxRecDepth 16384

noncomputable section

/-! The forward call's results are the reference's. -/

namespace Cert.Reference9Ideal.Spec

open Cert.Reference9Ideal Cert.Reference9Ideal.Gen Cert.Reference9Ideal.Read Idealize.ShloMosaic

variable (x0 : S8448x2816.Idx → EReal) (x1 : S8448x1024.Idx → EReal) (x2 : S2x1x1024.Idx → EReal) (x4 : S2816x1024.Idx → EReal)

/-- A row of the first stream, and of the second. -/
def fst (r : Fin 8192) : Fin 8448 := ⟨r.val, lt_trans r.isLt (by decide)⟩
def snd (r : Fin 256) : Fin 8448 := ⟨8192 + r.val, by omega⟩
/-- A row of the product. -/
def row (r : Fin 8448) (k : Fin 1024) : EReal := ∑ q : Fin 2816, x0 (ix2 r q) * x4 (ix2 q k)

theorem y0 (r : Fin 8192) (k : Fin 1024) : val_main_v2 (F := Ideal) x0 x4 (ix2 r k) = row x0 x4 (fst r) k := by
  unfold val_main_v2 val_main_v1 val_main_v0
  pointwise
  rfl
theorem y1 (r : Fin 256) (k : Fin 1024) : val_main_v5 (F := Ideal) x0 x4 (ix2 r k) = row x0 x4 (snd r) k := by
  unfold val_main_v5 val_main_v4 val_main_v3
  pointwise
  rfl
theorem y (r : Fin 8448) (k : Fin 1024) : val_main_v7 (F := Ideal) x0 x4 (ix2 r k) = row x0 x4 r k := by
  unfold val_main_v7 val_main_v6
  pointwise
  split_ifs with h
  · exact y0 x0 x4 _ k
  · refine (y1 x0 x4 _ k).trans (congrArg (fun z => row x0 x4 z k) (Fin.ext ?_))
    show 8192 + (r.val - 8192) = r.val
    omega
  · exact absurd rfl ‹_›
theorem o0 (r : Fin 8192) (k : Fin 1024) : val_main_v13 (F := Ideal) x0 x1 x2 x4 (ix2 r k)
    = x1 (ix2 (fst r) k) + x2 (ix3 0 0 k) * row x0 x4 (fst r) k := by
  unfold val_main_v13 val_main_v12 val_main_v11 val_main_v10 val_main_v9 val_main_v8
  pointwise
  rw [y0]; rfl
theorem o1 (r : Fin 256) (k : Fin 1024) : val_main_v19 (F := Ideal) x0 x1 x2 x4 (ix2 r k)
    = x1 (ix2 (snd r) k) + x2 (ix3 1 0 k) * row x0 x4 (snd r) k := by
  unfold val_main_v19 val_main_v18 val_main_v17 val_main_v16 val_main_v15 val_main_v14
  pointwise
  rw [y1]; rfl
theorem o (r : Fin 8448) (k : Fin 1024) : val_main_v20 (F := Ideal) x0 x1 x2 x4 (ix2 r k)
    = x1 (ix2 r k) + x2 (ix3 (⟨r.val / 8192, by omega⟩ : Fin 2) 0 k) * row x0 x4 r k := by
  unfold val_main_v20
  pointwise
  split_ifs with h
  · have e : (⟨r.val / 8192, by omega⟩ : Fin 2) = 0 := Fin.ext (by show r.val / 8192 = 0; omega)
    rw [o0, e]; rfl
  · have e : (⟨r.val / 8192, by omega⟩ : Fin 2) = 1 := Fin.ext (by show r.val / 8192 = 1; omega)
    have e' : snd ⟨r.val - 8192, by omega⟩ = r := Fin.ext (by show 8192 + (r.val - 8192) = r.val; omega)
    rw [o1, e, e']
  · exact absurd rfl ‹_›

end Cert.Reference9Ideal.Spec

namespace Cert.ProjDown

open Idealize.ShloMosaic Idealize.SL.Sem

/-- The reference runs, leaves its arguments, and has no counters. -/
theorem frame_reference [Cert.Reference9Ideal.Facts] : Cert.quiescent_Reference9Ideal := fun m g _ =>
  (θ_run Cert.Reference9Ideal.defs _ _).mono
    (fun r h => ⟨fun c => (h c).2.2, sem_eq_zero_of_no_sems (by decide) r.2⟩) (Cert.Reference9Ideal.Value.run m g)

section Equal

variable (m : (ℓ : Loc Cert.Kernel9Ideal.nD Cert.Kernel9Ideal.τ Cert.Kernel9Ideal.sig) → Buf (Elt Ideal) ℓ) (c : Dev Cert.Kernel9Ideal.nD)

open Cert.Kernel9Ideal.Run in
theorem y_eq : Cert.Reference9Ideal.Read.val_main_v7 (F := Ideal) (argF m c) (argW m c) = yAll m c := by
  funext i
  rw [ValueIdx.eq_ix2 i]
  exact Cert.Reference9Ideal.Spec.y _ _ (i 0) (i 1)
open Cert.Kernel9Ideal.Run in
theorem o_eq : Cert.Reference9Ideal.Read.val_main_v20 (F := Ideal) (argF m c) (argX m c) (argG m c) (argW m c) = oAll m c := by
  funext i
  rw [ValueIdx.eq_ix2 i]
  exact Cert.Reference9Ideal.Spec.o _ _ _ _ (i 0) (i 1)

end Equal

set_option maxHeartbeats 4000000 in
/-- The two programs' results are equal. -/
theorem algebraic [Cert.Kernel9Ideal.Facts] [Cert.Reference9Ideal.Facts] : Cert.algebraic_Kernel9Ideal_Reference9Ideal := by
  intro m g m' g' _ hag
  refine ⟨Cert.Kernel9Ideal.Run.yAll m, Cert.Kernel9Ideal.Run.oAll m,
    Cert.Kernel9Ideal.Run.run_values m g, (θ_run Cert.Reference9Ideal.defs _ _).mono (fun r h c => ?_) (Cert.Reference9Ideal.Value.run m' g')⟩
  obtain ⟨h0, h1, hargs⟩ := h c
  obtain ⟨a0, a1, a2, -, a4⟩ := hag c
  refine ⟨h0.trans ?_, h1.trans ?_, hargs⟩
  · rw [Cert.Reference9Ideal.Read.val_main_v7_eq, a0, a4]; exact y_eq m c
  · rw [Cert.Reference9Ideal.Read.val_main_v20_eq, a0, a1, a2, a4]; exact o_eq m c

end Cert.ProjDown

end
-- ==== Proof.PremixBwdValue.lean ====
module

public import proofs.«01_k».proof.Proof.Gen.Kernel10Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Tiles

@[expose] public section

set_option maxRecDepth 16384

noncomputable section

/-! What the gradient of the gate between projection and mixers holds, at the extended reals. -/

namespace Cert.Kernel10Ideal.Run

open Idealize.ShloMosaic Idealize.ShloMosaic.TcCoe Idealize.ShloMosaic.Tactic Idealize.SL.Sem
open Idealize.ShloMosaic.Pipeline (Dat)
open Cert.Kernel10Ideal.Gen

/-- The five values of one row, by group of 512 columns, from the row's projection and its three cotangents. -/
def grad (p : Fin 2560 → EReal) (a b d : Fin 512 → EReal) (k : Fin 2560) : EReal :=
  if h0 : k.val < 512 then a ⟨k.val, h0⟩
  else if h1 : k.val < 1024 then b ⟨k.val - 512, by omega⟩ * p ⟨k.val + 512, by omega⟩
  else if h2 : k.val < 1536 then p ⟨k.val - 512, by omega⟩ * b ⟨k.val - 1024, by omega⟩
  else if h3 : k.val < 2048 then d ⟨k.val - 1536, by omega⟩ * Ideal.logistic (p ⟨k.val + 512, by omega⟩)
  else p ⟨k.val - 512, by omega⟩ * d ⟨k.val - 2048, by omega⟩ * (Ideal.logistic (p k) * (1 - Ideal.logistic (p k)))

section Groups

variable (p : Fin 2560 → EReal) (a b d : Fin 512 → EReal) (j : Fin 512)

theorem grad_0 : grad p a b d ⟨0 + j.val, by omega⟩ = a j := by
  unfold grad
  rw [dif_pos (show 0 + j.val < 512 by omega)]
  exact congrArg a (Fin.ext (Nat.zero_add _))
theorem grad_1 : grad p a b d ⟨512 + j.val, by omega⟩ = b j * p ⟨1024 + j.val, by omega⟩ := by
  unfold grad
  rw [dif_neg (show ¬ 512 + j.val < 512 by omega), dif_pos (show 512 + j.val < 1024 by omega)]
  exact congrArg₂ (· * ·) (congrArg b (Fin.ext (by show 512 + j.val - 512 = _; omega))) (congrArg p (Fin.ext (by show 512 + j.val + 512 = 1024 + j.val; omega)))
theorem grad_2 : grad p a b d ⟨1024 + j.val, by omega⟩ = p ⟨512 + j.val, by omega⟩ * b j := by
  unfold grad
  rw [dif_neg (show ¬ 1024 + j.val < 512 by omega), dif_neg (show ¬ 1024 + j.val < 1024 by omega), dif_pos (show 1024 + j.val < 1536 by omega)]
  exact congrArg₂ (· * ·) (congrArg p (Fin.ext (by show 1024 + j.val - 512 = 512 + j.val; omega))) (congrArg b (Fin.ext (by show 1024 + j.val - 1024 = _; omega)))
theorem grad_3 : grad p a b d ⟨1536 + j.val, by omega⟩ = d j * Ideal.logistic (p ⟨2048 + j.val, by omega⟩) := by
  unfold grad
  rw [dif_neg (show ¬ 1536 + j.val < 512 by omega), dif_neg (show ¬ 1536 + j.val < 1024 by omega), dif_neg (show ¬ 1536 + j.val < 1536 by omega), dif_pos (show 1536 + j.val < 2048 by omega)]
  exact congrArg₂ (· * ·) (congrArg d (Fin.ext (by show 1536 + j.val - 1536 = _; omega)))
    (congrArg (fun z => Ideal.logistic (p z)) (Fin.ext (by show 1536 + j.val + 512 = 2048 + j.val; omega)))
theorem grad_4 : grad p a b d ⟨2048 + j.val, by omega⟩
    = p ⟨1536 + j.val, by omega⟩ * d j * (Ideal.logistic (p ⟨2048 + j.val, by omega⟩) * (1 - Ideal.logistic (p ⟨2048 + j.val, by omega⟩))) := by
  unfold grad
  rw [dif_neg (show ¬ 2048 + j.val < 512 by omega), dif_neg (show ¬ 2048 + j.val < 1024 by omega), dif_neg (show ¬ 2048 + j.val < 1536 by omega), dif_neg (show ¬ 2048 + j.val < 2048 by omega)]
  exact congrArg₂ (· * ·) (congrArg₂ (· * ·) (congrArg p (Fin.ext (by show 2048 + j.val - 512 = 1536 + j.val; omega)))
    (congrArg d (Fin.ext (by show 2048 + j.val - 2048 = _; omega)))) rfl

end Groups

theorem p4 (u : Vec Ideal S256x512 .bf16) (r : Fin 256) (k : Fin 512) : k0_pay4 u (ix2 r k) = u (ix2 r k) := by
  unfold k0_pay4; pointwise
theorem p5 (u v : Vec Ideal S256x512 .bf16) (r : Fin 256) (k : Fin 512) : k0_pay5 u v (ix2 r k) = v (ix2 r k) * u (ix2 r k) := by
  unfold k0_pay5 k0_pay2; pointwise
theorem p6 (u v : Vec Ideal S256x512 .bf16) (r : Fin 256) (k : Fin 512) : k0_pay6 u v (ix2 r k) = u (ix2 r k) * v (ix2 r k) := by
  unfold k0_pay6 k0_pay2; pointwise
theorem p7 (u v : Vec Ideal S256x512 .bf16) (r : Fin 256) (k : Fin 512) : k0_pay7 u v (ix2 r k) = v (ix2 r k) * Ideal.logistic (u (ix2 r k)) := by
  unfold k0_pay7 k0_pay3 k0_pay1; pointwise
theorem p8 (w u v : Vec Ideal S256x512 .bf16) (r : Fin 256) (k : Fin 512) : k0_pay8 w u v (ix2 r k)
    = w (ix2 r k) * v (ix2 r k) * (Ideal.logistic (u (ix2 r k)) * (1 - Ideal.logistic (u (ix2 r k)))) := by
  unfold k0_pay8 k0_pay3 k0_pay1; pointwise

variable (m : (ℓ : Loc nD τ sig) → Buf (Elt Ideal) ℓ) (ρ : Dev nD → PrngReg)

/-- The arguments. -/
abbrev argP (c : Dev nD) : S8448x2560.Idx → EReal := m ((c.tc : Thread nD τ).loc main_arg0)
abbrev argA (c : Dev nD) : S8448x512.Idx → EReal := m ((c.tc : Thread nD τ).loc main_arg1)
abbrev argB (c : Dev nD) : S8448x512.Idx → EReal := m ((c.tc : Thread nD τ).loc main_arg2)
abbrev argD (c : Dev nD) : S8448x512.Idx → EReal := m ((c.tc : Thread nD τ).loc main_arg3)

/-- A row of each. -/
abbrev rowP (c : Dev nD) (r : Fin 8448) (j : Fin 2560) : EReal := argP m c (ix2 r j)
abbrev rowA (c : Dev nD) (r : Fin 8448) (j : Fin 512) : EReal := argA m c (ix2 r j)
abbrev rowB (c : Dev nD) (r : Fin 8448) (j : Fin 512) : EReal := argB m c (ix2 r j)
abbrev rowD (c : Dev nD) (r : Fin 8448) (j : Fin 512) : EReal := argD m c (ix2 r j)

/-- The result. -/
def gradAt (c : Dev nD) (r : Fin 8448) (k : Fin 2560) : EReal := grad (rowP m c r) (rowA m c r) (rowB m c r) (rowD m c r) k
def gradAll (c : Dev nD) : Vec Ideal S8448x2560 .bf16 := fun i => gradAt m c (i 0) (i 1)

theorem at_0 : ∀ t : Fin cfg0.N, win0_0.index t = ![t.val, 0] := by decide +kernel
theorem at_1 : ∀ t : Fin cfg0.N, win0_1.index t = ![t.val, 1] := by decide +kernel
theorem at_2 : ∀ t : Fin cfg0.N, win0_2.index t = ![t.val, 2] := by decide +kernel
theorem at_3 : ∀ t : Fin cfg0.N, win0_3.index t = ![t.val, 3] := by decide +kernel
theorem at_4 : ∀ t : Fin cfg0.N, win0_4.index t = ![t.val, 4] := by decide +kernel
theorem at_5 : ∀ t : Fin cfg0.N, win0_5.index t = ![t.val, 0] := by decide +kernel
theorem at_6 : ∀ t : Fin cfg0.N, win0_6.index t = ![t.val, 0] := by decide +kernel
theorem at_7 : ∀ t : Fin cfg0.N, win0_7.index t = ![t.val, 0] := by decide +kernel
theorem at_8 : ∀ t : Fin cfg0.N, win0_8.index t = ![t.val, 0] := by decide +kernel

theorem lt_33 (t : Fin cfg0.N) : t.val < 33 := lt_of_lt_of_eq t.isLt (show cfg0.N = 33 from N_0)

/-- The row of the array at a row of a block. -/
def rowAt (t : Fin cfg0.N) (r : Fin 256) : Fin 8448 := ⟨256 * t.val + r.val, by have := lt_33 t; omega⟩

theorem blk_1 (c : Dev nD) (t : Fin cfg0.N) (r : Fin 256) (k : Fin 512) :
    (iblk m c 1 t : Vec Ideal S256x512 .bf16) (ix2 r k) = argP m c (ix2 (rowAt t r) ⟨512 + k.val, by omega⟩) := by
  unfold rowAt
  blk_ext! [iblk, V, at_1 t]
theorem blk_2 (c : Dev nD) (t : Fin cfg0.N) (r : Fin 256) (k : Fin 512) :
    (iblk m c 2 t : Vec Ideal S256x512 .bf16) (ix2 r k) = argP m c (ix2 (rowAt t r) ⟨1024 + k.val, by omega⟩) := by
  unfold rowAt
  blk_ext! [iblk, V, at_2 t]
theorem blk_3 (c : Dev nD) (t : Fin cfg0.N) (r : Fin 256) (k : Fin 512) :
    (iblk m c 3 t : Vec Ideal S256x512 .bf16) (ix2 r k) = argP m c (ix2 (rowAt t r) ⟨1536 + k.val, by omega⟩) := by
  unfold rowAt
  blk_ext! [iblk, V, at_3 t]
theorem blk_4 (c : Dev nD) (t : Fin cfg0.N) (r : Fin 256) (k : Fin 512) :
    (iblk m c 4 t : Vec Ideal S256x512 .bf16) (ix2 r k) = argP m c (ix2 (rowAt t r) ⟨2048 + k.val, by omega⟩) := by
  unfold rowAt
  blk_ext! [iblk, V, at_4 t]
theorem blk_5 (c : Dev nD) (t : Fin cfg0.N) (r : Fin 256) (k : Fin 512) :
    (iblk m c 5 t : Vec Ideal S256x512 .bf16) (ix2 r k) = argA m c (ix2 (rowAt t r) k) := by
  unfold rowAt
  blk_ext! [iblk, V, at_5 t]
theorem blk_6 (c : Dev nD) (t : Fin cfg0.N) (r : Fin 256) (k : Fin 512) :
    (iblk m c 6 t : Vec Ideal S256x512 .bf16) (ix2 r k) = argB m c (ix2 (rowAt t r) k) := by
  unfold rowAt
  blk_ext! [iblk, V, at_6 t]
theorem blk_7 (c : Dev nD) (t : Fin cfg0.N) (r : Fin 256) (k : Fin 512) :
    (iblk m c 7 t : Vec Ideal S256x512 .bf16) (ix2 r k) = argD m c (ix2 (rowAt t r) k) := by
  unfold rowAt
  blk_ext! [iblk, V, at_7 t]

/-- A load of a whole block reads the block. -/
theorem load_whole (X : Vec Ideal S256x512 .bf16) (r : Fin 256) (k : Fin 512) : View.ld X r0_0 (ix2 r k) = X (ix2 r k) :=
  View.ld_unit_apply_of X _ _ _ _ _ fun a => by match a with | ⟨0, _⟩ => simp | ⟨1, _⟩ => simp

section Pieces

variable (c : Dev nD) (t : Fin cfg0.N) (r : Fin 256) (k : Fin 512)

theorem piece_0 : k0_pay4 (View.ld (iblk m c 5 t) r0_0) (ix2 r k) = gradAt m c (rowAt t r) ⟨0 + k.val, by omega⟩ :=
  (p4 _ r k).trans (((load_whole _ r k).trans (blk_5 m c t r k)).trans (grad_0 (rowP m c (rowAt t r)) (rowA m c (rowAt t r)) (rowB m c (rowAt t r)) (rowD m c (rowAt t r)) k).symm)
theorem piece_1 : k0_pay5 (View.ld (iblk m c 2 t) r0_0) (View.ld (iblk m c 6 t) r0_0) (ix2 r k) = gradAt m c (rowAt t r) ⟨512 + k.val, by omega⟩ :=
  (p5 _ _ r k).trans ((congrArg₂ (fun x z : EReal => x * z) ((load_whole _ r k).trans (blk_6 m c t r k)) ((load_whole _ r k).trans (blk_2 m c t r k))).trans
    (grad_1 (rowP m c (rowAt t r)) (rowA m c (rowAt t r)) (rowB m c (rowAt t r)) (rowD m c (rowAt t r)) k).symm)
theorem piece_2 : k0_pay6 (View.ld (iblk m c 1 t) r0_0) (View.ld (iblk m c 6 t) r0_0) (ix2 r k) = gradAt m c (rowAt t r) ⟨1024 + k.val, by omega⟩ :=
  (p6 _ _ r k).trans ((congrArg₂ (fun x z : EReal => x * z) ((load_whole _ r k).trans (blk_1 m c t r k)) ((load_whole _ r k).trans (blk_6 m c t r k))).trans
    (grad_2 (rowP m c (rowAt t r)) (rowA m c (rowAt t r)) (rowB m c (rowAt t r)) (rowD m c (rowAt t r)) k).symm)
theorem piece_3 : k0_pay7 (View.ld (iblk m c 4 t) r0_0) (View.ld (iblk m c 7 t) r0_0) (ix2 r k) = gradAt m c (rowAt t r) ⟨1536 + k.val, by omega⟩ :=
  (p7 _ _ r k).trans ((congrArg₂ (fun x z : EReal => x * Ideal.logistic z) ((load_whole _ r k).trans (blk_7 m c t r k)) ((load_whole _ r k).trans (blk_4 m c t r k))).trans
    (grad_3 (rowP m c (rowAt t r)) (rowA m c (rowAt t r)) (rowB m c (rowAt t r)) (rowD m c (rowAt t r)) k).symm)
theorem piece_4 : k0_pay8 (View.ld (iblk m c 3 t) r0_0) (View.ld (iblk m c 4 t) r0_0) (View.ld (iblk m c 7 t) r0_0) (ix2 r k)
    = gradAt m c (rowAt t r) ⟨2048 + k.val, by omega⟩ :=
  (p8 _ _ _ r k).trans ((congrArg₂ (fun x z : EReal => x * z)
    (congrArg₂ (fun x z : EReal => x * z) ((load_whole _ r k).trans (blk_3 m c t r k)) ((load_whole _ r k).trans (blk_7 m c t r k)))
    (congrArg (fun z : EReal => Ideal.logistic z * (1 - Ideal.logistic z)) ((load_whole _ r k).trans (blk_4 m c t r k)))).trans (grad_4 (rowP m c (rowAt t r)) (rowA m c (rowAt t r)) (rowB m c (rowAt t r)) (rowD m c (rowAt t r)) k).symm)

end Pieces

/-- What a point leaves in its block. -/
theorem out_blk (c : Dev nD) (t : Fin cfg0.N) (y : S256x2560.Idx) :
    out0_8 (iblk m c 0 t) (iblk m c 1 t) (iblk m c 2 t) (iblk m c 3 t) (iblk m c 4 t) (iblk m c 5 t) (iblk m c 6 t) (iblk m c 7 t) y
      = gradAt m c (rowAt t (y 0)) (y 1) := by
  canon_tiles x h using cover0_8 ..
  case piece0 =>
    rw [ValueIdx.eq_ix2 x]
    exact (piece_4 m c t (x 0) (x 1)).trans (congrArg₂ (gradAt m c) (congrArg (rowAt t) (Fin.ext h0.symm)) (Fin.ext h1.symm))
  case piece1 =>
    rw [ValueIdx.eq_ix2 x]
    exact (piece_3 m c t (x 0) (x 1)).trans (congrArg₂ (gradAt m c) (congrArg (rowAt t) (Fin.ext h0.symm)) (Fin.ext h1.symm))
  case piece2 =>
    rw [ValueIdx.eq_ix2 x]
    exact (piece_2 m c t (x 0) (x 1)).trans (congrArg₂ (gradAt m c) (congrArg (rowAt t) (Fin.ext h0.symm)) (Fin.ext h1.symm))
  case piece3 =>
    rw [ValueIdx.eq_ix2 x]
    exact (piece_1 m c t (x 0) (x 1)).trans (congrArg₂ (gradAt m c) (congrArg (rowAt t) (Fin.ext h0.symm)) (Fin.ext h1.symm))
  case piece4 =>
    rw [ValueIdx.eq_ix2 x]
    exact (piece_0 m c t (x 0) (x 1)).trans (congrArg₂ (gradAt m c) (congrArg (rowAt t) (Fin.ext h0.symm)) (Fin.ext ((Nat.zero_add _).trans h1.symm)))

/-- Each block is written by its own point. -/
theorem result (c : Dev nD) : (dats m 0 c).arrAt 8 cfg0.N = gradAll m c := by
  refine (dats m 0 c).arrAt_eq_of_covers 8 _ (by decide +kernel) fun t hf y => ?_
  have key : ∀ y : S256x2560.Idx, out0_8 (iblk m c 0 t) (iblk m c 1 t) (iblk m c 2 t) (iblk m c 3 t) (iblk m c 4 t) (iblk m c 5 t) (iblk m c 6 t) (iblk m c 7 t) y
      = gradAll m c ((win0_8.blk t).view.emb y) := fun y => by
    have e0 : ((win0_8.blk t).view.emb y 0 : Fin 8448).val = 256 * t.val + (y 0).val := by blk_simp [at_8 t]; show t.val * 256 + _ = _; omega
    have e1 : ((win0_8.blk t).view.emb y 1 : Fin 2560).val = (y 1).val := by blk_simp [at_8 t]
    exact (out_blk m c t y).trans (congrArg₂ (gradAt m c) (Fin.ext e0.symm) (Fin.ext e1.symm))
  blk_simp
  rw [after0_8]
  exact key y

end Cert.Kernel10Ideal.Run

end
-- ==== Proof.PremixBwdClaims.lean ====
module

public import proofs.«01_k».proof.Proof.PremixBwdValue
public import proofs.«01_k».proof.Proof.Gen.Reference10Ideal.Read
public import proofs.«01_k».proof.Proof.Gen.Reference10Ideal.Run
public import proofs.«01_k».proof.Proof.Gen.Kernel10
public import proofs.«01_k».proof.Defs

@[expose] public section

set_option maxRecDepth 16384

noncomputable section

/-! What the reference of the gate's gradient computes, entry by entry, and the claims. -/

namespace Cert.PremixBwd

open Idealize.ShloMosaic Idealize.ShloMosaic.TcCoe Idealize.ShloMosaic.Tactic Idealize.SL.Sem
open Cert.Kernel10Ideal.Run (grad grad_0 grad_1 grad_2 grad_3 grad_4 gradAt gradAll)

section Reference

open Cert.Reference10Ideal Cert.Reference10Ideal.Read

variable (x0 : Vec Ideal S8448x2560 .bf16) (x1 x2 x3 : Vec Ideal S8448x512 .bf16) (r : Fin 8448) (k : Fin 512)

theorem c0 : val_main_v0 (F := Ideal) x1 (ix2 r k) = x1 (ix2 r k) := by
  unfold val_main_v0; pointwise
theorem c1 : val_main_v24 (F := Ideal) x0 x2 (ix2 r k) = x2 (ix2 r k) * x0 (ix2 r ⟨1024 + k.val, by omega⟩) := by
  unfold val_main_v24 val_main_v6 val_main_v3 val_main_v1; pointwise
theorem c2 : val_main_v23 (F := Ideal) x0 x2 (ix2 r k) = x0 (ix2 r ⟨512 + k.val, by omega⟩) * x2 (ix2 r k) := by
  unfold val_main_v23 val_main_v5 val_main_v3 val_main_v1; pointwise
theorem gate : val_main_v15 (F := Ideal) x0 (ix2 r k) = Ideal.logistic (x0 (ix2 r ⟨2048 + k.val, by omega⟩)) := by
  unfold val_main_v15 val_main_v14 val_main_v13 val_main_v12 val_main_v11 val_main_v10 val_main_v8 val_main_v3 val_main_cst val_main_cst_0
  pointwise
  rfl
theorem c3 : val_main_v21 (F := Ideal) x0 x3 (ix2 r k) = x3 (ix2 r k) * Ideal.logistic (x0 (ix2 r ⟨2048 + k.val, by omega⟩)) := by
  rw [← gate x0 r k]
  unfold val_main_v21 val_main_v2; pointwise
theorem c4 : val_main_v22 (F := Ideal) x0 x3 (ix2 r k) = x0 (ix2 r ⟨1536 + k.val, by omega⟩) * x3 (ix2 r k)
    * (Ideal.logistic (x0 (ix2 r ⟨2048 + k.val, by omega⟩)) * (1 - Ideal.logistic (x0 (ix2 r ⟨2048 + k.val, by omega⟩)))) := by
  rw [← gate x0 r k]
  unfold val_main_v22 val_main_v20 val_main_v18 val_main_v17 val_main_v16 val_main_cst_1 val_main_v7 val_main_v3 val_main_v2; pointwise

theorem reference_at (k : Fin 2560) :
    val_main_v26 (F := Ideal) x0 x1 x2 x3 (ix2 r k)
      = grad (fun j => x0 (ix2 r j)) (fun j => x1 (ix2 r j)) (fun j => x2 (ix2 r j)) (fun j => x3 (ix2 r j)) k := by
  unfold val_main_v26 val_main_v25
  pointwise
  split_ifs
  any_goals exact absurd rfl ‹_›
  · exact (c0 x1 r ⟨k.val, by omega⟩).trans ((grad_0 (fun j => x0 (ix2 r j)) (fun j => x1 (ix2 r j)) (fun j => x2 (ix2 r j)) (fun j => x3 (ix2 r j)) ⟨k.val, by omega⟩).symm.trans (congrArg (grad (fun j => x0 (ix2 r j)) (fun j => x1 (ix2 r j)) (fun j => x2 (ix2 r j)) (fun j => x3 (ix2 r j))) (Fin.ext (by show 0 + k.val = k.val; omega))))
  · exact (c1 x0 x2 r ⟨k.val - 512, by omega⟩).trans ((grad_1 (fun j => x0 (ix2 r j)) (fun j => x1 (ix2 r j)) (fun j => x2 (ix2 r j)) (fun j => x3 (ix2 r j)) ⟨k.val - 512, by omega⟩).symm.trans (congrArg (grad (fun j => x0 (ix2 r j)) (fun j => x1 (ix2 r j)) (fun j => x2 (ix2 r j)) (fun j => x3 (ix2 r j))) (Fin.ext (by show 512 + (k.val - 512) = k.val; omega))))
  · exact (c2 x0 x2 r ⟨k.val - 512 - 512, by omega⟩).trans ((grad_2 (fun j => x0 (ix2 r j)) (fun j => x1 (ix2 r j)) (fun j => x2 (ix2 r j)) (fun j => x3 (ix2 r j)) ⟨k.val - 512 - 512, by omega⟩).symm.trans (congrArg (grad (fun j => x0 (ix2 r j)) (fun j => x1 (ix2 r j)) (fun j => x2 (ix2 r j)) (fun j => x3 (ix2 r j))) (Fin.ext (by show 1024 + (k.val - 512 - 512) = k.val; omega))))
  · exact (c3 x0 x3 r ⟨k.val - 512 - 512 - 512, by omega⟩).trans ((grad_3 (fun j => x0 (ix2 r j)) (fun j => x1 (ix2 r j)) (fun j => x2 (ix2 r j)) (fun j => x3 (ix2 r j)) ⟨k.val - 512 - 512 - 512, by omega⟩).symm.trans (congrArg (grad (fun j => x0 (ix2 r j)) (fun j => x1 (ix2 r j)) (fun j => x2 (ix2 r j)) (fun j => x3 (ix2 r j))) (Fin.ext (by show 1536 + (k.val - 512 - 512 - 512) = k.val; omega))))
  · exact (c4 x0 x3 r ⟨k.val - 512 - 512 - 512 - 512, by omega⟩).trans ((grad_4 (fun j => x0 (ix2 r j)) (fun j => x1 (ix2 r j)) (fun j => x2 (ix2 r j)) (fun j => x3 (ix2 r j)) ⟨k.val - 512 - 512 - 512 - 512, by omega⟩).symm.trans (congrArg (grad (fun j => x0 (ix2 r j)) (fun j => x1 (ix2 r j)) (fun j => x2 (ix2 r j)) (fun j => x3 (ix2 r j))) (Fin.ext (by show 2048 + (k.val - 512 - 512 - 512 - 512) = k.val; omega))))

end Reference

section Operand

open Cert.Kernel10Ideal Cert.Kernel10Ideal.Gen Cert.Kernel10Ideal.Run

variable (m : (ℓ : Loc nD τ sig) → Buf (Elt Ideal) ℓ) (c : Dev nD)

theorem grad_eq : Cert.Reference10Ideal.Read.val_main_v26 (F := Ideal) (argP m c) (argA m c) (argB m c) (argD m c) = gradAll m c := by
  funext i
  rw [ValueIdx.eq_ix2 i]
  exact reference_at _ _ _ _ (i 0) (i 1)

end Operand

theorem frame_reference [Cert.Reference10Ideal.Facts] : Cert.quiescent_Reference10Ideal := fun m g _ =>
  (θ_run Cert.Reference10Ideal.defs _ _).mono
    (fun r h => ⟨fun c => (h c).2, sem_eq_zero_of_no_sems (by decide) r.2⟩) (Cert.Reference10Ideal.Value.run m g)

theorem rows_same : (Cert.Kernel10.defs₀ (F := Bits)) = (Cert.Kernel10Ideal.defs₀ (F := Bits)) := by
  unfold Cert.Kernel10.defs₀ Cert.Kernel10Ideal.defs₀
  refine congrArg Defs.onTc ?_
  funext l a
  match l, a with
  | 0, (t, s) => rfl

theorem defs_same : (Cert.Kernel10.defs (F := Bits)) = (Cert.Kernel10Ideal.defs (F := Bits)) := by
  unfold Cert.Kernel10.defs Cert.Kernel10Ideal.defs
  exact congrArg (Pipeline.defs _) rows_same

set_option maxHeartbeats 4000000 in
/-- The printed program runs, leaves its arguments and ends quiescent. -/
theorem quiescent [Cert.Kernel10.Facts] : Cert.quiescent_Kernel10 := fun m g _ => by
  rw [defs_same]
  exact Cert.Kernel10Ideal.Gen.frame m g

/-- The kernel's result is the reference's. -/
theorem algebraic [Cert.Kernel10Ideal.Facts] [Cert.Reference10Ideal.Facts] : Cert.algebraic_Kernel10Ideal_Reference10Ideal := by
  intro m g m' g' _ hag
  refine ⟨gradAll m, (θ_run Cert.Kernel10Ideal.defs _ _).mono (fun r h c => ?_) (Cert.Kernel10Ideal.Value.run_blocks m g),
    (θ_run Cert.Reference10Ideal.defs _ _).mono (fun r h c => ?_) (Cert.Reference10Ideal.Value.run m' g')⟩
  · exact ⟨(h c).1.trans (Cert.Kernel10Ideal.Run.result m c), (h c).2⟩
  · obtain ⟨h0, hargs⟩ := h c
    obtain ⟨a0, a1, a2, a3⟩ := hag c
    refine ⟨h0.trans ?_, hargs⟩
    refine (Cert.Reference10Ideal.Read.val_main_v26_eq _ _ _ _).trans ?_
    rw [a0, a1, a2, a3]
    exact grad_eq m c

end Cert.PremixBwd

end
-- ==== Proof.ConvABwdValue.lean ====
module

public import proofs.«01_k».proof.Proof.Gen.Kernel11Ideal.Frame
public import Idealize.ShloMosaic.Lib.Pipeline.Value
public import Idealize.ShloMosaic.Lib.Claim
public import Idealize.ShloMosaic.Lib.Pipeline.ValueKit.Point
public import Idealize.ShloMosaic.Lib.Pipeline.ValueKit.Tiles

@[expose] public section

set_option maxRecDepth 16384

noncomputable section

/-! What the gradient of the short convolution with respect to its rows holds, at the extended reals. -/

namespace Cert.Kernel11Ideal.Run

open Idealize.ShloMosaic Idealize.ShloMosaic.TcCoe Idealize.ShloMosaic.Tactic Idealize.SL.Sem
open Idealize.ShloMosaic.Pipeline (Dat)
open Cert.Kernel11Ideal.Gen

/-- The mask of a neighbour's rows: neither of two points. -/
theorem select_ne (a : BitVec 32) (u v : BitVec 32) (x y : EReal) :
    Scalar.select (Scalar.andi (Scalar.cmpi CmpIPredicate.ne a u) (Scalar.cmpi CmpIPredicate.ne a v)) x y = if a ≠ u ∧ a ≠ v then x else y := by
  by_cases h0 : a = u <;> by_cases h1 : a = v <;> simp [Scalar.select, Scalar.andi, Scalar.cmpi, IntOp.andi, IntOp.cmpi, h0, h1]
  intro h
  exact absurd (by rw [show (a != u) = true from bne_iff_ne.mpr h0, show (a != v) = true from bne_iff_ne.mpr h1]; rfl) h

section Payloads

variable (h t : Vec Ideal S16x128 .bf16) (b : Vec Ideal S128x128 .bf16) (w0 w1 w2 : Vec Ideal S1x128 .f32) (r k : Fin 128)

theorem pay2_apply (a : BitVec 32) : k0_pay2 a h t b w0 w1 w2 (ix2 r k)
    = w0 (ix2 0 k) * (if h0 : 0 < r.val then b (ix2 ⟨r.val - 1, by omega⟩ k) else if a ≠ 0#32 ∧ a ≠ 32#32 then h (ix2 15 k) else 0)
      + w1 (ix2 0 k) * b (ix2 r k)
      + w2 (ix2 0 k) * (if h1 : r.val < 127 then b (ix2 ⟨r.val + 1, by omega⟩ k) else t (ix2 0 k)) := by
  unfold k0_pay2
  pointwise
  refine congrArg₂ (· + ·) (congrArg₂ (· + ·) (congrArg _ ?_) rfl) (congrArg _ ?_)
  · by_cases h0 : 0 < r.val
    · rw [dif_neg (show ¬ (16 + r.val + 160 - 1) % 160 < 16 by omega), dif_pos (show (16 + r.val + 160 - 1) % 160 - 16 < 128 by omega), dif_pos h0]
      exact congrArg (fun z => b (ix2 z k)) (Fin.ext (by show (16 + r.val + 160 - 1) % 160 - 16 = r.val - 1; omega))
    · rw [dif_pos (show (16 + r.val + 160 - 1) % 160 < 16 by omega), dif_neg h0, select_ne]
      exact congrArg (fun z : EReal => if a ≠ 0#32 ∧ a ≠ 32#32 then z else 0) (congrArg (fun z => h (ix2 z k)) (Fin.ext (by show (16 + r.val + 160 - 1) % 160 = 15; omega)))
  · rw [dif_neg (show ¬ (16 + r.val + 160 - 159) % 160 < 16 by omega)]
    by_cases h1 : r.val < 127
    · rw [dif_pos (show (16 + r.val + 160 - 159) % 160 - 16 < 128 by omega), dif_pos h1]
      exact congrArg (fun z => b (ix2 z k)) (Fin.ext (by show (16 + r.val + 160 - 159) % 160 - 16 = r.val + 1; omega))
    · rw [dif_neg (show ¬ (16 + r.val + 160 - 159) % 160 - 16 < 128 by omega), dif_neg h1]
      exact congrArg (fun z => t (ix2 z k)) (Fin.ext (by show (16 + r.val + 160 - 159) % 160 - 16 - 128 = 0; omega))

theorem pay1_apply (i : grid0.Coords) : k0_pay1 i h t b w0 w1 w2 (ix2 r k)
    = w0 (ix2 0 k) * (if h0 : 0 < r.val then b (ix2 ⟨r.val - 1, by omega⟩ k) else h (ix2 15 k))
      + w1 (ix2 0 k) * b (ix2 r k)
      + w2 (ix2 0 k) * (if h1 : r.val < 127 then b (ix2 ⟨r.val + 1, by omega⟩ k)
          else if BitVec.ofNat 32 (i 0).val ≠ 31#32 ∧ BitVec.ofNat 32 (i 0).val ≠ 32#32 then t (ix2 0 k) else 0) := by
  unfold k0_pay1
  pointwise
  refine congrArg₂ (· + ·) (congrArg₂ (· + ·) (congrArg _ ?_) rfl) (congrArg _ ?_)
  · by_cases h0 : 0 < r.val
    · rw [dif_neg (show ¬ (16 + r.val + 160 - 1) % 160 < 16 by omega), dif_pos (show (16 + r.val + 160 - 1) % 160 - 16 < 128 by omega), dif_pos h0]
      exact congrArg (fun z => b (ix2 z k)) (Fin.ext (by show (16 + r.val + 160 - 1) % 160 - 16 = r.val - 1; omega))
    · rw [dif_pos (show (16 + r.val + 160 - 1) % 160 < 16 by omega), dif_neg h0]
      exact congrArg (fun z => h (ix2 z k)) (Fin.ext (by show (16 + r.val + 160 - 1) % 160 = 15; omega))
  · rw [dif_neg (show ¬ (16 + r.val + 160 - 159) % 160 < 16 by omega)]
    by_cases h1 : r.val < 127
    · rw [dif_pos (show (16 + r.val + 160 - 159) % 160 - 16 < 128 by omega), dif_pos h1]
      exact congrArg (fun z => b (ix2 z k)) (Fin.ext (by show (16 + r.val + 160 - 159) % 160 - 16 = r.val + 1; omega))
    · rw [dif_neg (show ¬ (16 + r.val + 160 - 159) % 160 - 16 < 128 by omega), dif_neg h1, select_ne]
      exact congrArg (fun z : EReal => if BitVec.ofNat 32 (i 0).val ≠ 31#32 ∧ BitVec.ofNat 32 (i 0).val ≠ 32#32 then z else 0)
        (congrArg (fun z => t (ix2 z k)) (Fin.ext (by show (16 + r.val + 160 - 159) % 160 - 16 - 128 = 0; omega)))

end Payloads

/-- A block's value from the block, the sixteen rows before it, the sixteen after it, and the taps. -/
def inBlock (a : BitVec 32) (x0 : Vec Ideal S256x512 .bf16) (x1 x2 : Vec Ideal S16x512 .bf16) (x3 : Vec Ideal S3x512 .f32) (r : Fin 256) (k : Fin 512) : EReal :=
  x3 (ix2 0 k) * (if h0 : 0 < r.val then x0 (ix2 ⟨r.val - 1, by omega⟩ k) else if a ≠ 0#32 ∧ a ≠ 32#32 then x1 (ix2 15 k) else 0)
    + x3 (ix2 1 k) * x0 (ix2 r k)
    + x3 (ix2 2 k) * (if h1 : r.val < 255 then x0 (ix2 ⟨r.val + 1, by omega⟩ k) else if a ≠ 31#32 ∧ a ≠ 32#32 then x2 (ix2 0 k) else 0)

section Halves

variable (x0 : Vec Ideal S256x512 .bf16) (x1 x2 : Vec Ideal S16x512 .bf16) (x3 : Vec Ideal S3x512 .f32)
  (h t : Vec Ideal S16x128 .bf16) (b : Vec Ideal S128x128 .bf16) (w0 w1 w2 : Vec Ideal S1x128 .f32) (r k : Fin 128) (q : Fin 512)

/-- The upper half of a block's rows, at one column. -/
theorem upper (a : BitVec 32) (hh : h (ix2 15 k) = x1 (ix2 15 q)) (ht : t (ix2 0 k) = x0 (ix2 128 q))
    (hb : ∀ s : Fin 128, b (ix2 s k) = x0 (ix2 ⟨s.val, by omega⟩ q))
    (h0 : w0 (ix2 0 k) = x3 (ix2 0 q)) (h1 : w1 (ix2 0 k) = x3 (ix2 1 q)) (h2 : w2 (ix2 0 k) = x3 (ix2 2 q)) :
    k0_pay2 a h t b w0 w1 w2 (ix2 r k) = inBlock a x0 x1 x2 x3 ⟨r.val, by omega⟩ q := by
  rw [pay2_apply, h0, h1, h2, hb r, hh, ht]
  unfold inBlock
  refine congrArg₂ (· + ·) (congrArg₂ (· + ·) (congrArg _ ?_) rfl) (congrArg _ ?_)
  · by_cases e : 0 < r.val
    · rw [dif_pos e, dif_pos (show 0 < r.val from e)]; exact hb _
    · rw [dif_neg e, dif_neg (show ¬ 0 < r.val from e)]
  · rw [dif_pos (show r.val < 255 by omega)]
    by_cases e : r.val < 127
    · rw [dif_pos e]; exact hb _
    · rw [dif_neg e]
      exact congrArg (fun z => x0 (ix2 z q)) (Fin.ext (by show 128 = r.val + 1; omega))

/-- The lower half. -/
theorem lower (i : grid0.Coords) (hh : h (ix2 15 k) = x0 (ix2 127 q)) (ht : t (ix2 0 k) = x2 (ix2 0 q))
    (hb : ∀ s : Fin 128, b (ix2 s k) = x0 (ix2 ⟨128 + s.val, by omega⟩ q))
    (h0 : w0 (ix2 0 k) = x3 (ix2 0 q)) (h1 : w1 (ix2 0 k) = x3 (ix2 1 q)) (h2 : w2 (ix2 0 k) = x3 (ix2 2 q)) :
    k0_pay1 i h t b w0 w1 w2 (ix2 r k) = inBlock (BitVec.ofNat 32 (i 0).val) x0 x1 x2 x3 ⟨128 + r.val, by omega⟩ q := by
  rw [pay1_apply, h0, h1, h2, hb r, hh, ht]
  unfold inBlock
  refine congrArg₂ (· + ·) (congrArg₂ (· + ·) (congrArg _ ?_) rfl) (congrArg _ ?_)
  · rw [dif_pos (show 0 < 128 + r.val by omega)]
    by_cases e : 0 < r.val
    · rw [dif_pos e, hb]
      exact congrArg (fun z => x0 (ix2 z q)) (Fin.ext (by show 128 + (r.val - 1) = 128 + r.val - 1; omega))
    · rw [dif_neg e]
      exact congrArg (fun z => x0 (ix2 z q)) (Fin.ext (by show 127 = 128 + r.val - 1; omega))
  · by_cases e : r.val < 127
    · rw [dif_pos e, dif_pos (show 128 + r.val < 255 by omega), hb]
      exact congrArg (fun z => x0 (ix2 z q)) (Fin.ext (by show 128 + (r.val + 1) = 128 + r.val + 1; omega))
    · rw [dif_neg e, dif_neg (show ¬ 128 + r.val < 255 by omega)]

end Halves

theorem trips_4 : k0_t1_loop.trips = 4 := by decide +kernel

/-- A load of a rectangle of a whole buffer, at one entry. -/
theorem read_at {S : Shape} {e : EltTy} (M : Memref sig .tc .vmem S e) (hM : M.IsWhole) (x : Vec Ideal S e) (off size : Fin S.rank → ℕ) (inb)
    (j : (Rect.unit off size inb).shape.Idx) (i : S.Idx) (hi : ∀ a, (i a : ℕ) = off a + j a) :
    View.readAt (Elt Ideal) M.view (Rect.unit off size inb).toLoadRect (hM.unread x) j = x i := by
  rw [View.readAt_eq_ld, hM.read_unread]
  exact View.ld_unit_apply_of x off size inb j i hi

section Trip

variable (c : Dev nD) (i : grid0.Coords) (arg2 : Memref sig .tc .vmem S256x512 .bf16) (harg2 : arg2.IsWhole) (arg3 : Memref sig .tc .vmem S16x512 .bf16) (harg3 : arg3.IsWhole) (arg4 : Memref sig .tc .vmem S16x512 .bf16) (harg4 : arg4.IsWhole) (arg5 : Memref sig .tc .vmem S3x512 .f32) (harg5 : arg5.IsWhole) (arg6 : Memref sig .tc .vmem S256x512 .bf16) (harg6 : arg6.IsWhole)
  (x0 : Vec Ideal S256x512 .bf16) (x1 : Vec Ideal S16x512 .bf16) (x2 : Vec Ideal S16x512 .bf16) (x3 : Vec Ideal S3x512 .f32)

/-- The block's value at an index. -/
def blockAt (y : S256x512.Idx) : EReal := inBlock (BitVec.ofNat 32 (i 0).val) x0 x1 x2 x3 (y 0) (y 1)

/-- What one trip stores. -/
theorem trip_stores (k : Fin k0_t1_loop.trips) (p : View.Piece (Elt Ideal) S256x512 .bf16)
    (hp : p ∈ tripL_k0_t1 (F := Ideal) Variants.none c none i arg2 harg2 arg3 harg3 arg4 harg4 arg5 harg5 arg6 harg6 (BitVec.ofNat 32 (i 0).val) (harg2.unread x0) (harg3.unread x1) (harg4.unread x2) (harg5.unread x3) k)
    (x : p.1.shape.Idx) : p.2 x = blockAt i x0 x1 x2 x3 (p.1.emb x) := by
  have hk : k.val < 4 := lt_of_lt_of_eq k.isLt trips_4
  unfold tripL_k0_t1 trip_k0_t1 at hp
  dsimp only at hp
  simp only [List.mem_cons, List.not_mem_nil, or_false] at hp
  rcases hp with rfl | rfl
  · obtain ⟨r, q, rfl⟩ : ∃ r q : Fin 128, x = ix2 r q := ⟨x 0, x 1, ValueIdx.eq_ix2 x⟩
    have e0 : ((Rect.unit (s := S256x512) (k0_off8 k) S128x128.size (k0_off8_inb k)).emb (ix2 r q) 0 : Fin 256).val = 128 + r.val :=
      (Rect.idx_unit_val (s := S256x512) (k0_off8 k) S128x128.size (k0_off8_inb k) (ix2 r q) 0).trans (congrArg (fun o : Fin 2 → ℕ => o 0 + r.val) (k0_off8_eq k))
    have e1 : ((Rect.unit (s := S256x512) (k0_off8 k) S128x128.size (k0_off8_inb k)).emb (ix2 r q) 1 : Fin 512).val = 128 * k.val + q.val :=
      (Rect.idx_unit_val (s := S256x512) (k0_off8 k) S128x128.size (k0_off8_inb k) (ix2 r q) 1).trans (congrArg (fun o : Fin 2 → ℕ => o 1 + q.val) (k0_off8_eq k))
    refine Eq.trans ?_ (congrArg₂ (inBlock (BitVec.ofNat 32 (i 0).val) x0 x1 x2 x3) (Fin.ext e0.symm : (⟨128 + r.val, by omega⟩ : Fin 256) = _) (Fin.ext e1.symm : (⟨128 * k.val + q.val, by omega⟩ : Fin 512) = _))
    unfold trip_k0_t1.sl.r
    refine lower x0 x1 x2 x3 _ _ _ _ _ _ r q _ i ?_ ?_ (fun s => ?_) ?_ ?_ ?_ <;>
    · refine read_at _ _ _ _ _ _ _ _ fun a => ?_
      match a with
      | ⟨0, _⟩ => simp [k0_off1_eq, k0_off4_eq, k0_off5_eq, k0_off6_eq, k0_off7_eq, k0_off8_eq]
      | ⟨1, _⟩ => simp [k0_off1_eq, k0_off4_eq, k0_off5_eq, k0_off6_eq, k0_off7_eq, k0_off8_eq]
  · obtain ⟨r, q, rfl⟩ : ∃ r q : Fin 128, x = ix2 r q := ⟨x 0, x 1, ValueIdx.eq_ix2 x⟩
    have e0 : ((Rect.unit (s := S256x512) (k0_off3 k) S128x128.size (k0_off3_inb k)).emb (ix2 r q) 0 : Fin 256).val = r.val :=
      (Rect.idx_unit_val (s := S256x512) (k0_off3 k) S128x128.size (k0_off3_inb k) (ix2 r q) 0).trans ((congrArg (fun o : Fin 2 → ℕ => o 0 + r.val) (k0_off3_eq k)).trans (Nat.zero_add _))
    have e1 : ((Rect.unit (s := S256x512) (k0_off3 k) S128x128.size (k0_off3_inb k)).emb (ix2 r q) 1 : Fin 512).val = 128 * k.val + q.val :=
      (Rect.idx_unit_val (s := S256x512) (k0_off3 k) S128x128.size (k0_off3_inb k) (ix2 r q) 1).trans (congrArg (fun o : Fin 2 → ℕ => o 1 + q.val) (k0_off3_eq k))
    refine Eq.trans ?_ (congrArg₂ (inBlock (BitVec.ofNat 32 (i 0).val) x0 x1 x2 x3) (Fin.ext e0.symm : (⟨r.val, by omega⟩ : Fin 256) = _) (Fin.ext e1.symm : (⟨128 * k.val + q.val, by omega⟩ : Fin 512) = _))
    refine upper x0 x1 x2 x3 _ _ _ _ _ _ r q _ _ ?_ ?_ (fun s => ?_) ?_ ?_ ?_ <;>
    · refine read_at _ _ _ _ _ _ _ _ fun a => ?_
      match a with
      | ⟨0, _⟩ => simp [k0_off1_eq, k0_off2_eq, k0_off3_eq, k0_off4_eq, k0_off5_eq, k0_off6_eq]
      | ⟨1, _⟩ => simp [k0_off1_eq, k0_off2_eq, k0_off3_eq, k0_off4_eq, k0_off5_eq, k0_off6_eq]

/-- What the trips before `n` store. -/
theorem trips_store : ∀ (n : ℕ) (hn : n ≤ k0_t1_loop.trips) (p : View.Piece (Elt Ideal) S256x512 .bf16)
    (_ : p ∈ pb_k0_t1 (F := Ideal) Variants.none c none i arg2 harg2 arg3 harg3 arg4 harg4 arg5 harg5 arg6 harg6 (BitVec.ofNat 32 (i 0).val) (harg2.unread x0) (harg3.unread x1) (harg4.unread x2) (harg5.unread x3) n)
    (x : p.1.shape.Idx), p.2 x = blockAt i x0 x1 x2 x3 (p.1.emb x)
  | 0, _, p, hp, x => by
    rw [pb_k0_t1.eq_1] at hp
    exact absurd hp List.not_mem_nil
  | n + 1, hn, p, hp, x => by
    rw [pb_k0_t1_succ Variants.none c none i arg2 harg2 arg3 harg3 arg4 harg4 arg5 harg5 arg6 harg6 _ _ _ _ _ ⟨n, hn⟩] at hp
    rcases List.mem_append.mp hp with h | h
    · exact trip_stores c i arg2 harg2 arg3 harg3 arg4 harg4 arg5 harg5 arg6 harg6 x0 x1 x2 x3 ⟨n, hn⟩ p h x
    · exact trips_store n (Nat.le_of_succ_le hn) p h x

/-- What a point leaves in its block. -/
theorem out_block (y : S256x512.Idx) :
    out0_A_4 (F := Ideal) c i arg2 harg2 arg3 harg3 arg4 harg4 arg5 harg5 arg6 harg6 x0 x1 x2 x3 y = blockAt i x0 x1 x2 x3 y := by
  unfold out0_A_4
  rw [View.read_writes_junk_eq_canon]
  refine View.canon_apply_of_pieces _ _ (fun p hp x => ?_) y (cover0_A_4 c i arg2 harg2 arg3 harg3 arg4 harg4 arg5 harg5 arg6 harg6 x0 x1 x2 x3 y)
  refine trips_store c i arg2 harg2 arg3 harg3 arg4 harg4 arg5 harg5 arg6 harg6 x0 x1 x2 x3 k0_t1_loop.trips le_rfl p ?_ x
  unfold kernelRun0_A at hp
  exact hp

end Trip

/-- The gradient with respect to row `r`: the taps run backwards, and the two sequences laid end to end do not meet. -/
def conv (x : S8448x512.Idx → EReal) (w : S3x512.Idx → EReal) (r : Fin 8448) (k : Fin 512) : EReal :=
  w (ix2 2 k) * (if h : 0 < r.val ∧ r.val ≠ 8192 then x (ix2 ⟨r.val - 1, by omega⟩ k) else 0)
    + w (ix2 1 k) * x (ix2 r k)
    + w (ix2 0 k) * (if h : r.val ≠ 8191 ∧ r.val < 8447 then x (ix2 ⟨r.val + 1, by omega⟩ k) else 0)

variable (m : (ℓ : Loc nD τ sig) → Buf (Elt Ideal) ℓ) (ρ : Dev nD → PrngReg)

/-- The arguments: the cotangent's rows and the taps. -/
abbrev argX (c : Dev nD) : S8448x512.Idx → EReal := m ((c.tc : Thread nD τ).loc main_arg0)
abbrev argW (c : Dev nD) : S3x512.Idx → EReal := m ((c.tc : Thread nD τ).loc main_arg2)

/-- The result. -/
def convAt (c : Dev nD) (r : Fin 8448) (k : Fin 512) : EReal := conv (argX m c) (argW m c) r k
def convAll (c : Dev nD) : Vec Ideal S8448x512 .bf16 := fun i => convAt m c (i 0) (i 1)

theorem at_0 : ∀ t : Fin cfg0.N, win0_0.index t = ![t.val, 0] := by decide +kernel
theorem at_1 : ∀ t : Fin cfg0.N, win0_1.index t = ![16 * t.val - 1, 0] := by decide +kernel
theorem at_2 : ∀ t : Fin cfg0.N, win0_2.index t = ![min (16 * (t.val + 1)) 527, 0] := by decide +kernel
theorem at_3 : ∀ t : Fin cfg0.N, win0_3.index t = ![0, 0] := by decide +kernel
theorem at_4 : ∀ t : Fin cfg0.N, win0_4.index t = ![t.val, 0] := by decide +kernel
theorem lt_33 (t : Fin cfg0.N) : t.val < 33 := lt_of_lt_of_eq t.isLt (show cfg0.N = 33 from N_0)
theorem first_or_last : ∀ t : Fin cfg0.N, (BitVec.ofNat 32 (grid0.coords t 0).val ≠ 0#32 ∧ BitVec.ofNat 32 (grid0.coords t 0).val ≠ 32#32) ↔ (t.val ≠ 0 ∧ t.val ≠ 32) := by decide +kernel
theorem last_two : ∀ t : Fin cfg0.N, (BitVec.ofNat 32 (grid0.coords t 0).val ≠ 31#32 ∧ BitVec.ofNat 32 (grid0.coords t 0).val ≠ 32#32) ↔ (t.val ≠ 31 ∧ t.val ≠ 32) := by decide +kernel

/-- The row of the array at a row of a block. -/
def rowAt (t : Fin cfg0.N) (r : Fin 256) : Fin 8448 := ⟨256 * t.val + r.val, by have := lt_33 t; omega⟩

theorem blk_0 (c : Dev nD) (t : Fin cfg0.N) (r : Fin 256) (k : Fin 512) :
    (iblk m c 0 t : Vec Ideal S256x512 .bf16) (ix2 r k) = argX m c (ix2 (rowAt t r) k) := by
  unfold rowAt
  blk_ext! [iblk, V, at_0 t]
theorem blk_1 (c : Dev nD) (t : Fin cfg0.N) (r : Fin 16) (k : Fin 512) :
    (iblk m c 1 t : Vec Ideal S16x512 .bf16) (ix2 r k) = argX m c (ix2 ⟨16 * (16 * t.val - 1) + r.val, by have := lt_33 t; omega⟩ k) := by
  blk_ext! [iblk, V, at_1 t]
theorem blk_2 (c : Dev nD) (t : Fin cfg0.N) (r : Fin 16) (k : Fin 512) :
    (iblk m c 2 t : Vec Ideal S16x512 .bf16) (ix2 r k) = argX m c (ix2 ⟨16 * min (16 * (t.val + 1)) 527 + r.val, by omega⟩ k) := by
  blk_ext! [iblk, V, at_2 t]
theorem taps (c : Dev nD) (j : Fin 3) (k : Fin 512) : (V m c main_v0 : Vec Ideal S3x512 .f32) (ix2 j k) = argW m c (ix2 ⟨2 - j.val, by omega⟩ k) := by
  entry_read
  pointwise
  exact congrArg₂ (fun (z : Fin 3) (y : Fin 512) => argW m c (ix2 z y)) (Fin.ext (by show 3 - (j.val + 1) = 2 - j.val; omega)) rfl
theorem blk_3 (c : Dev nD) (t : Fin cfg0.N) (j : Fin 3) (k : Fin 512) :
    (iblk m c 3 t : Vec Ideal S3x512 .f32) (ix2 j k) = argW m c (ix2 ⟨2 - j.val, by omega⟩ k) := by
  rw [← taps]
  blk_ext! [iblk, at_3 t]

/-- What a point computes is its rows of the gradient. -/
theorem in_block (c : Dev nD) (t : Fin cfg0.N) (r : Fin 256) (k : Fin 512) :
    inBlock (BitVec.ofNat 32 (grid0.coords t 0).val) (iblk m c 0 t) (iblk m c 1 t) (iblk m c 2 t) (iblk m c 3 t) r k = convAt m c (rowAt t r) k := by
  have ht := lt_33 t
  have hr : (rowAt t r).val = 256 * t.val + r.val := rfl
  unfold inBlock convAt conv
  refine congrArg₂ (· + ·) (congrArg₂ (· + ·) (congrArg₂ (· * ·) (blk_3 m c t 0 k) ?_) (congrArg₂ (· * ·) (blk_3 m c t 1 k) (blk_0 m c t r k))) (congrArg₂ (· * ·) (blk_3 m c t 2 k) ?_)
  · by_cases e : 0 < r.val
    · rw [dif_pos e, blk_0, dif_pos (show 0 < (rowAt t r).val ∧ (rowAt t r).val ≠ 8192 by omega)]
      exact congrArg (fun z => argX m c (ix2 z k)) (Fin.ext (by show 256 * t.val + (r.val - 1) = 256 * t.val + r.val - 1; omega))
    · rw [dif_neg e]
      by_cases f : t.val ≠ 0 ∧ t.val ≠ 32
      · rw [if_pos ((first_or_last t).mpr f), blk_1, dif_pos (show 0 < (rowAt t r).val ∧ (rowAt t r).val ≠ 8192 by omega)]
        exact congrArg (fun z => argX m c (ix2 z k)) (Fin.ext (by show 16 * (16 * t.val - 1) + 15 = 256 * t.val + r.val - 1; omega))
      · rw [if_neg (fun h => f ((first_or_last t).mp h)), dif_neg (show ¬ (0 < (rowAt t r).val ∧ (rowAt t r).val ≠ 8192) by omega)]
  · by_cases e : r.val < 255
    · rw [dif_pos e, blk_0, dif_pos (show (rowAt t r).val ≠ 8191 ∧ (rowAt t r).val < 8447 by omega)]
      exact congrArg (fun z => argX m c (ix2 z k)) (Fin.ext (by show 256 * t.val + (r.val + 1) = 256 * t.val + r.val + 1; omega))
    · rw [dif_neg e]
      by_cases f : t.val ≠ 31 ∧ t.val ≠ 32
      · rw [if_pos ((last_two t).mpr f), blk_2, dif_pos (show (rowAt t r).val ≠ 8191 ∧ (rowAt t r).val < 8447 by omega)]
        exact congrArg (fun z => argX m c (ix2 z k)) (Fin.ext (by show 16 * min (16 * (t.val + 1)) 527 + 0 = 256 * t.val + r.val + 1; omega))
      · rw [if_neg (fun h => f ((last_two t).mp h)), dif_neg (show ¬ ((rowAt t r).val ≠ 8191 ∧ (rowAt t r).val < 8447) by omega)]

/-- Each block is written by its own point. -/
theorem result (c : Dev nD) : (dats m 0 c).arrAt 4 cfg0.N = convAll m c := by
  refine (dats m 0 c).arrAt_eq_of_covers 4 _ (by decide +kernel) fun t hf y => ?_
  have key : ∀ y : S256x512.Idx, outsAt0 m c t y = convAll m c ((win0_4.blk t).view.emb y) := fun y => by
    have e0 : ((win0_4.blk t).view.emb y 0 : Fin 8448).val = 256 * t.val + (y 0).val := by blk_simp [at_4 t]; omega
    have e1 : ((win0_4.blk t).view.emb y 1 : Fin 512).val = (y 1).val := by blk_simp [at_4 t]
    unfold outsAt0
    exact ((out_block c _ _ _ _ _ _ _ _ _ _ _ _ _ _ _ y).trans (in_block m c t (y 0) (y 1))).trans (congrArg₂ (convAt m c) (Fin.ext e0.symm) (Fin.ext e1.symm))
  blk_simp
  rw [after0_4]
  exact key y

end Cert.Kernel11Ideal.Run

end
-- ==== Proof.ConvABwdClaims.lean ====
module

public import proofs.«01_k».proof.Proof.ConvABwdValue
public import proofs.«01_k».proof.Proof.Gen.Reference11Ideal.Read
public import proofs.«01_k».proof.Proof.Gen.Reference11Ideal.Run
public import proofs.«01_k».proof.Proof.Gen.Kernel11
public import proofs.«01_k».proof.Defs

@[expose] public section

set_option maxRecDepth 16384

noncomputable section

/-! What the reference of the convolution's gradient computes, entry by entry, and the claims. -/

namespace Cert.ConvABwd

open Idealize.ShloMosaic Idealize.ShloMosaic.TcCoe Idealize.ShloMosaic.Tactic Idealize.SL.Sem
open Cert.Kernel11Ideal.Run (conv convAt convAll)

section Reference

open Cert.Reference11Ideal Cert.Reference11Ideal.Read

variable (x0 : Vec Ideal S8448x512 .bf16) (x2 : Vec Ideal S3x512 .f32)

theorem rows_a (r : Fin 8192) (k : Fin 512) : val_main_v56 (F := Ideal) x0 (ix2 r k) = x0 (ix2 ⟨r.val, by omega⟩ k) := by
  unfold val_main_v56 val_main_v1; pointwise
theorem rows_b (r : Fin 256) (k : Fin 512) : val_main_v57 (F := Ideal) x0 (ix2 r k) = x0 (ix2 ⟨8192 + r.val, by omega⟩ k) := by
  unfold val_main_v57 val_main_v1; pointwise
theorem tap_a0 (r : Fin 8192) (k : Fin 512) : val_main_v79 (F := Ideal) x2 (ix2 r k) = x2 (ix2 0 k) := by
  unfold val_main_v79 val_main_v11 val_main_v9 val_main_v8; pointwise
theorem tap_a1 (r : Fin 8192) (k : Fin 512) : val_main_v75 (F := Ideal) x2 (ix2 r k) = x2 (ix2 1 k) := by
  unfold val_main_v75 val_main_v19 val_main_v17 val_main_v16; pointwise
theorem tap_a2 (r : Fin 8192) (k : Fin 512) : val_main_v72 (F := Ideal) x2 (ix2 r k) = x2 (ix2 2 k) := by
  unfold val_main_v72 val_main_v26 val_main_v24 val_main_v23; pointwise
theorem tap_b0 (r : Fin 256) (k : Fin 512) : val_main_v65 (F := Ideal) x2 (ix2 r k) = x2 (ix2 0 k) := by
  unfold val_main_v65 val_main_v37 val_main_v35 val_main_v34; pointwise
theorem tap_b1 (r : Fin 256) (k : Fin 512) : val_main_v61 (F := Ideal) x2 (ix2 r k) = x2 (ix2 1 k) := by
  unfold val_main_v61 val_main_v45 val_main_v43 val_main_v42; pointwise
theorem tap_b2 (r : Fin 256) (k : Fin 512) : val_main_v58 (F := Ideal) x2 (ix2 r k) = x2 (ix2 2 k) := by
  unfold val_main_v58 val_main_v52 val_main_v50 val_main_v49; pointwise

theorem stream_a (r : Fin 8192) (k : Fin 512) : val_main_v84 (F := Ideal) x0 x2 (ix2 r k) = conv x0 x2 ⟨r.val, by omega⟩ k := by
  unfold val_main_v84 val_main_v82 val_main_v78 val_main_v74 val_main_v77 val_main_v81 val_main_v73 val_main_v76 val_main_v80 val_main_cst_10 val_main_cst_11 val_main_cst_12
  pointwise
  unfold conv
  refine congrArg₂ (· + ·) (congrArg₂ (· + ·) ?_ (congrArg₂ (· * ·) (tap_a1 x2 r k) (rows_a x0 r k))) ?_
  · by_cases e : 0 < r.val
    · rw [dif_pos (show 2 ≤ 1 + r.val ∧ 1 + r.val - 2 < 8192 by omega), dif_pos (show 0 < r.val ∧ r.val ≠ 8192 by omega), tap_a2, rows_a]
      exact congrArg (fun z => x2 (ix2 2 k) * x0 (ix2 z k)) (Fin.ext (by show 1 + r.val - 2 = r.val - 1; omega))
    · rw [dif_neg (show ¬ (2 ≤ 1 + r.val ∧ 1 + r.val - 2 < 8192) by omega), dif_neg (show ¬ (0 < r.val ∧ r.val ≠ 8192) by omega), mul_zero]
  · by_cases e : 1 + r.val < 8192
    · rw [dif_pos e, dif_pos (show r.val ≠ 8191 ∧ r.val < 8447 by omega), tap_a0, rows_a]
      exact congrArg (fun z => x2 (ix2 0 k) * x0 (ix2 z k)) (Fin.ext (by show 1 + r.val = r.val + 1; omega))
    · rw [dif_neg e, dif_neg (show ¬ (r.val ≠ 8191 ∧ r.val < 8447) by omega), mul_zero]
theorem stream_b (r : Fin 256) (k : Fin 512) : val_main_v70 (F := Ideal) x0 x2 (ix2 r k) = conv x0 x2 ⟨8192 + r.val, by omega⟩ k := by
  unfold val_main_v70 val_main_v68 val_main_v64 val_main_v60 val_main_v63 val_main_v67 val_main_v59 val_main_v62 val_main_v66 val_main_cst_7 val_main_cst_8 val_main_cst_9
  pointwise
  unfold conv
  refine congrArg₂ (· + ·) (congrArg₂ (· + ·) ?_ (congrArg₂ (· * ·) (tap_b1 x2 r k) (rows_b x0 r k))) ?_
  · by_cases e : 0 < r.val
    · rw [dif_pos (show 2 ≤ 1 + r.val ∧ 1 + r.val - 2 < 256 by omega), dif_pos (show 0 < 8192 + r.val ∧ 8192 + r.val ≠ 8192 by omega), tap_b2, rows_b]
      exact congrArg (fun z => x2 (ix2 2 k) * x0 (ix2 z k)) (Fin.ext (by show 8192 + (1 + r.val - 2) = 8192 + r.val - 1; omega))
    · rw [dif_neg (show ¬ (2 ≤ 1 + r.val ∧ 1 + r.val - 2 < 256) by omega), dif_neg (show ¬ (0 < 8192 + r.val ∧ 8192 + r.val ≠ 8192) by omega), mul_zero]
  · by_cases e : 1 + r.val < 256
    · rw [dif_pos e, dif_pos (show 8192 + r.val ≠ 8191 ∧ 8192 + r.val < 8447 by omega), tap_b0, rows_b]
      exact congrArg (fun z => x2 (ix2 0 k) * x0 (ix2 z k)) (Fin.ext (by show 8192 + (1 + r.val) = 8192 + r.val + 1; omega))
    · rw [dif_neg e, dif_neg (show ¬ (8192 + r.val ≠ 8191 ∧ 8192 + r.val < 8447) by omega), mul_zero]

theorem reference_at (r : Fin 8448) (k : Fin 512) : val_main_v87 (F := Ideal) x0 x2 (ix2 r k) = conv x0 x2 r k := by
  unfold val_main_v87 val_main_v86
  pointwise
  split_ifs
  any_goals exact absurd rfl ‹_›
  · exact stream_a x0 x2 ⟨r.val, by omega⟩ k
  · exact (stream_b x0 x2 ⟨r.val - 8192, by omega⟩ k).trans (congrArg (fun z => conv x0 x2 z k) (Fin.ext (by show 8192 + (r.val - 8192) = r.val; omega)))

end Reference

section Operand

open Cert.Kernel11Ideal Cert.Kernel11Ideal.Gen Cert.Kernel11Ideal.Run

variable (m : (ℓ : Loc nD τ sig) → Buf (Elt Ideal) ℓ) (c : Dev nD)

theorem conv_eq : Cert.Reference11Ideal.Read.val_main_v87 (F := Ideal) (argX m c) (argW m c) = convAll m c := by
  funext i
  rw [ValueIdx.eq_ix2 i]
  exact reference_at _ _ (i 0) (i 1)

end Operand

theorem frame_reference [Cert.Reference11Ideal.Facts] : Cert.quiescent_Reference11Ideal := fun m g _ =>
  (θ_run Cert.Reference11Ideal.defs _ _).mono
    (fun r h => ⟨fun c => (h c).2, sem_eq_zero_of_no_sems (by decide) r.2⟩) (Cert.Reference11Ideal.Value.run m g)

theorem rows_same : (Cert.Kernel11.defs₀ (F := Bits)) = (Cert.Kernel11Ideal.defs₀ (F := Bits)) := by
  unfold Cert.Kernel11.defs₀ Cert.Kernel11Ideal.defs₀
  refine congrArg Defs.onTc ?_
  funext l a
  match l, a with
  | 0, (t, s) => rfl

theorem defs_same : (Cert.Kernel11.defs (F := Bits)) = (Cert.Kernel11Ideal.defs (F := Bits)) := by
  unfold Cert.Kernel11.defs Cert.Kernel11Ideal.defs
  exact congrArg (Pipeline.defs _) rows_same

set_option maxHeartbeats 4000000 in
/-- The printed program runs, leaves its arguments and ends quiescent. -/
theorem quiescent [Cert.Kernel11.Facts] : Cert.quiescent_Kernel11 := fun m g _ => by
  rw [defs_same]
  exact Cert.Kernel11Ideal.Gen.frame m g

/-- The kernel's result is the reference's. -/
theorem algebraic [Cert.Kernel11Ideal.Facts] [Cert.Reference11Ideal.Facts] : Cert.algebraic_Kernel11Ideal_Reference11Ideal := by
  intro m g m' g' _ hag
  refine ⟨convAll m, (θ_run Cert.Kernel11Ideal.defs _ _).mono (fun r h c => ?_) (θ_run_and (Cert.Kernel11Ideal.Gen.run_main m g) (Cert.Kernel11Ideal.Gen.frame m g)),
    (θ_run Cert.Reference11Ideal.defs _ _).mono (fun r h c => ?_) (Cert.Reference11Ideal.Value.run m' g')⟩
  · exact ⟨((h.1 c).1 4).trans (Cert.Kernel11Ideal.Run.result m c), h.2.1 c⟩
  · obtain ⟨h0, hargs⟩ := h c
    obtain ⟨a0, -, a2⟩ := hag c
    refine ⟨h0.trans ?_, hargs⟩
    refine (Cert.Reference11Ideal.Read.val_main_v87_eq _ _).trans ?_
    rw [a0, a2]
    exact conv_eq m c

end Cert.ConvABwd

end
-- ==== Proof.AdamwUpValue.lean ====
module

public import proofs.«01_k».proof.Proof.Gen.Kernel13Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Tiles

@[expose] public section

set_option maxRecDepth 16384

noncomputable section

/-! What the optimiser's step of the up-projection's weight holds, at the extended reals. -/

namespace Cert.Kernel13Ideal.Run

open Idealize.ShloMosaic Idealize.ShloMosaic.TcCoe Idealize.ShloMosaic.Tactic Idealize.SL.Sem
open Idealize.ShloMosaic.Pipeline (Dat)
open Cert.Kernel13Ideal.Gen

variable (m : (ℓ : Loc nD τ sig) → Buf (Elt Ideal) ℓ) (ρ : Dev nD → PrngReg)

/-- The arguments. -/
abbrev argW (c : Dev nD) : S4x1024x704.Idx → EReal := m ((c.tc : Thread nD τ).loc main_arg0)
abbrev argG (c : Dev nD) : S4x1024x704.Idx → EReal := m ((c.tc : Thread nD τ).loc main_arg1)
abbrev argM (c : Dev nD) : S4x1024x704.Idx → EReal := m ((c.tc : Thread nD τ).loc main_arg2)
abbrev argV (c : Dev nD) : S4x1024x704.Idx → EReal := m ((c.tc : Thread nD τ).loc main_arg3)

/-- The new first moment, second moment, and the change of the weight, from one entry of each array. -/
def newM (g m' : EReal) : EReal := FloatOps.ofBits (F := Ideal) .f32 0x3F666666#32 * m' + FloatOps.ofBits (F := Ideal) .f32 0x3DCCCCCD#32 * g
def newV (g v : EReal) : EReal := FloatOps.ofBits (F := Ideal) .f32 0x3F7FBE77#32 * v + FloatOps.ofBits (F := Ideal) .f32 0x3A83126F#32 * (g * g)
def delta (w g m' v : EReal) : EReal := FloatOps.ofBits (F := Ideal) .f32 0xBA83126F#32 *
  (Ideal.div (Ideal.div (newM g m') (FloatOps.ofBits (F := Ideal) .f32 0x3F26BD02#32))
    (Ideal.sqrt (Ideal.div (newV g v) (FloatOps.ofBits (F := Ideal) .f32 0x3C231ACC#32)) + FloatOps.ofBits (F := Ideal) .f32 0x322BCC77#32)
  + FloatOps.ofBits (F := Ideal) .f32 0x3C23D70A#32 * w)

theorem m_apply (g m' : Vec Ideal S512x704 .f32) (r : Fin 512) (k : Fin 704) :
    k0_pay2 g m' (ix2 r k) = newM (g (ix2 r k)) (m' (ix2 r k)) := by
  unfold k0_pay2 k0_pay1 newM; pointwise
theorem v_apply (g v : Vec Ideal S512x704 .f32) (r : Fin 512) (k : Fin 704) :
    k0_pay3 g v (ix2 r k) = newV (g (ix2 r k)) (v (ix2 r k)) := by
  unfold k0_pay3 k0_pay1 newV; pointwise
theorem d_apply (w g m' v : Vec Ideal S512x704 .f32) (r : Fin 512) (k : Fin 704) :
    k0_pay4 g m' v w (ix2 r k) = delta (w (ix2 r k)) (g (ix2 r k)) (m' (ix2 r k)) (v (ix2 r k)) := by
  unfold delta
  rw [← m_apply, ← v_apply]
  unfold k0_pay4; pointwise

theorem at_0 : ∀ t : Fin cfg0.N, win0_0.index t = ![t.val, 0] := by decide +kernel
theorem at_1 : ∀ t : Fin cfg0.N, win0_1.index t = ![t.val, 0] := by decide +kernel
theorem at_2 : ∀ t : Fin cfg0.N, win0_2.index t = ![t.val, 0] := by decide +kernel
theorem at_3 : ∀ t : Fin cfg0.N, win0_3.index t = ![t.val, 0] := by decide +kernel
theorem at_4 : ∀ t : Fin cfg0.N, win0_4.index t = ![t.val, 0] := by decide +kernel
theorem at_5 : ∀ t : Fin cfg0.N, win0_5.index t = ![t.val, 0] := by decide +kernel
theorem at_6 : ∀ t : Fin cfg0.N, win0_6.index t = ![t.val, 0] := by decide +kernel

theorem lt_8 (t : Fin cfg0.N) : t.val < 8 := lt_of_lt_of_eq t.isLt (show cfg0.N = 8 from N_0)

/-- The row of the array at a row of a block. -/
def rowAt (t : Fin cfg0.N) (r : Fin 512) : Fin 4096 := ⟨512 * t.val + r.val, by have := lt_8 t; omega⟩

/-- An array's entry by the row of all its layers laid end to end. -/
abbrev cell (x : S4x1024x704.Idx → EReal) (r : Fin 4096) (k : Fin 704) : EReal := x (ix3 (⟨r.val / 1024, by omega⟩ : Fin 4) (⟨r.val % 1024, Nat.mod_lt _ (by decide)⟩ : Fin 1024) k)

theorem flat_W (c : Dev nD) (r : Fin 4096) (k : Fin 704) : (V m c main_v0 : Vec Ideal S4096x704 .f32) (ix2 r k) = cell (argW m c) r k := by
  entry_read
  pointwise
theorem blk_W (c : Dev nD) (t : Fin cfg0.N) (r : Fin 512) (k : Fin 704) :
    (iblk m c 0 t : Vec Ideal S512x704 .f32) (ix2 r k) = cell (argW m c) (rowAt t r) k := by
  rw [← flat_W]
  unfold rowAt
  blk_ext! [iblk, at_0 t]
theorem flat_G (c : Dev nD) (r : Fin 4096) (k : Fin 704) : (V m c main_v1 : Vec Ideal S4096x704 .f32) (ix2 r k) = cell (argG m c) r k := by
  entry_read
  pointwise
theorem blk_G (c : Dev nD) (t : Fin cfg0.N) (r : Fin 512) (k : Fin 704) :
    (iblk m c 1 t : Vec Ideal S512x704 .f32) (ix2 r k) = cell (argG m c) (rowAt t r) k := by
  rw [← flat_G]
  unfold rowAt
  blk_ext! [iblk, at_1 t]
theorem flat_M (c : Dev nD) (r : Fin 4096) (k : Fin 704) : (V m c main_v2 : Vec Ideal S4096x704 .f32) (ix2 r k) = cell (argM m c) r k := by
  entry_read
  pointwise
theorem blk_M (c : Dev nD) (t : Fin cfg0.N) (r : Fin 512) (k : Fin 704) :
    (iblk m c 2 t : Vec Ideal S512x704 .f32) (ix2 r k) = cell (argM m c) (rowAt t r) k := by
  rw [← flat_M]
  unfold rowAt
  blk_ext! [iblk, at_2 t]
theorem flat_V (c : Dev nD) (r : Fin 4096) (k : Fin 704) : (V m c main_v3 : Vec Ideal S4096x704 .f32) (ix2 r k) = cell (argV m c) r k := by
  entry_read
  pointwise
theorem blk_V (c : Dev nD) (t : Fin cfg0.N) (r : Fin 512) (k : Fin 704) :
    (iblk m c 3 t : Vec Ideal S512x704 .f32) (ix2 r k) = cell (argV m c) (rowAt t r) k := by
  rw [← flat_V]
  unfold rowAt
  blk_ext! [iblk, at_3 t]

/-- A load of a whole block reads the block. -/
theorem load_whole (X : Vec Ideal S512x704 .f32) (r : Fin 512) (k : Fin 704) : View.ld X r0_0 (ix2 r k) = X (ix2 r k) :=
  View.ld_unit_apply_of X _ _ _ _ _ fun a => by match a with | ⟨0, _⟩ => simp | ⟨1, _⟩ => simp

/-- The results. -/
def deltaAll (c : Dev nD) : Vec Ideal S4096x704 .f32 := fun i =>
  delta (cell (argW m c) (i 0) (i 1)) (cell (argG m c) (i 0) (i 1)) (cell (argM m c) (i 0) (i 1)) (cell (argV m c) (i 0) (i 1))
def momAll (c : Dev nD) : Vec Ideal S4096x704 .f32 := fun i => newM (cell (argG m c) (i 0) (i 1)) (cell (argM m c) (i 0) (i 1))
def varAll (c : Dev nD) : Vec Ideal S4096x704 .f32 := fun i => newV (cell (argG m c) (i 0) (i 1)) (cell (argV m c) (i 0) (i 1))

section Blocks

variable (c : Dev nD) (t : Fin cfg0.N)

theorem delta_blk (r : Fin 512) (k : Fin 704) :
    k0_pay4 (View.ld (iblk m c 1 t) r0_0) (View.ld (iblk m c 2 t) r0_0) (View.ld (iblk m c 3 t) r0_0) (View.ld (iblk m c 0 t) r0_0) (ix2 r k)
      = deltaAll m c (ix2 (rowAt t r) k) := by
  refine (d_apply _ _ _ _ r k).trans ?_
  rw [load_whole, load_whole, load_whole, load_whole, blk_W, blk_G, blk_M, blk_V]
  rfl
theorem mom_blk (r : Fin 512) (k : Fin 704) :
    k0_pay2 (View.ld (iblk m c 1 t) r0_0) (View.ld (iblk m c 2 t) r0_0) (ix2 r k) = momAll m c (ix2 (rowAt t r) k) := by
  refine (m_apply _ _ r k).trans ?_
  rw [load_whole, load_whole, blk_G, blk_M]
  rfl
theorem var_blk (r : Fin 512) (k : Fin 704) :
    k0_pay3 (View.ld (iblk m c 1 t) r0_0) (View.ld (iblk m c 3 t) r0_0) (ix2 r k) = varAll m c (ix2 (rowAt t r) k) := by
  refine (v_apply _ _ r k).trans ?_
  rw [load_whole, load_whole, blk_G, blk_V]
  rfl

end Blocks

theorem delta_final (c : Dev nD) : (dats m 0 c).arrAt 4 cfg0.N = deltaAll m c := by
  refine (dats m 0 c).arrAt_eq_of_covers 4 _ (by decide +kernel) fun t hf y => ?_
  have key : ∀ y : S512x704.Idx, out0_4 (iblk m c 0 t) (iblk m c 1 t) (iblk m c 2 t) (iblk m c 3 t) y = deltaAll m c ((win0_4.blk t).view.emb y) := fun y => by
    have e0 : ((win0_4.blk t).view.emb y 0 : Fin 4096).val = 512 * t.val + (y 0).val := by blk_simp [at_4 t]; show t.val * 512 + _ = _; omega
    have e1 : ((win0_4.blk t).view.emb y 1 : Fin 704).val = (y 1).val := by blk_simp [at_4 t]
    canon_tiles x h using cover0_4 ..
    rw [ValueIdx.eq_ix2 x]
    refine (delta_blk m c t (x 0) (x 1)).trans (congrArg (deltaAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_4]
  exact key y
theorem mom_final (c : Dev nD) : (dats m 0 c).arrAt 5 cfg0.N = momAll m c := by
  refine (dats m 0 c).arrAt_eq_of_covers 5 _ (by decide +kernel) fun t hf y => ?_
  have key : ∀ y : S512x704.Idx, out0_5 (iblk m c 0 t) (iblk m c 1 t) (iblk m c 2 t) (iblk m c 3 t) y = momAll m c ((win0_5.blk t).view.emb y) := fun y => by
    have e0 : ((win0_5.blk t).view.emb y 0 : Fin 4096).val = 512 * t.val + (y 0).val := by blk_simp [at_5 t]; show t.val * 512 + _ = _; omega
    have e1 : ((win0_5.blk t).view.emb y 1 : Fin 704).val = (y 1).val := by blk_simp [at_5 t]
    canon_tiles x h using cover0_5 ..
    rw [ValueIdx.eq_ix2 x]
    refine (mom_blk m c t (x 0) (x 1)).trans (congrArg (momAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_5]
  exact key y
theorem var_final (c : Dev nD) : (dats m 0 c).arrAt 6 cfg0.N = varAll m c := by
  refine (dats m 0 c).arrAt_eq_of_covers 6 _ (by decide +kernel) fun t hf y => ?_
  have key : ∀ y : S512x704.Idx, out0_6 (iblk m c 0 t) (iblk m c 1 t) (iblk m c 2 t) (iblk m c 3 t) y = varAll m c ((win0_6.blk t).view.emb y) := fun y => by
    have e0 : ((win0_6.blk t).view.emb y 0 : Fin 4096).val = 512 * t.val + (y 0).val := by blk_simp [at_6 t]; show t.val * 512 + _ = _; omega
    have e1 : ((win0_6.blk t).view.emb y 1 : Fin 704).val = (y 1).val := by blk_simp [at_6 t]
    canon_tiles x h using cover0_6 ..
    rw [ValueIdx.eq_ix2 x]
    refine (var_blk m c t (x 0) (x 1)).trans (congrArg (varAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_6]
  exact key y

end Cert.Kernel13Ideal.Run

end
-- ==== Proof.AdamwUpClaims.lean ====
module

public import proofs.«01_k».proof.Proof.AdamwUpValue
public import proofs.«01_k».proof.Proof.Gen.Reference13Ideal.Read
public import proofs.«01_k».proof.Proof.Gen.Reference13Ideal.Run
public import proofs.«01_k».proof.Proof.Gen.Kernel13
public import proofs.«01_k».proof.Defs

@[expose] public section

set_option maxRecDepth 16384

noncomputable section

/-! What the reference of the up-projection weight's optimiser step computes, entry by entry, and the claims. -/

namespace Cert.AdamwUp

open Idealize.ShloMosaic Idealize.ShloMosaic.TcCoe Idealize.ShloMosaic.Tactic Idealize.SL.Sem
open Cert.Kernel13Ideal.Run (newM newV delta cell)

section Reference

open Cert.Reference13Ideal Cert.Reference13Ideal.Read

variable (x0 x1 x2 x3 : Vec Ideal S4x1024x704 .f32) (l : Fin 4) (r : Fin 1024) (k : Fin 704)

theorem mom_at : val_main_v4 (F := Ideal) x1 x2 (ix3 l r k) = newM (x1 (ix3 l r k)) (x2 (ix3 l r k)) := by
  unfold val_main_v4 val_main_v3 val_main_v2 val_main_cst_0 val_main_v1 val_main_v0 val_main_cst newM
  pointwise
theorem var_at : val_main_v10 (F := Ideal) x1 x3 (ix3 l r k) = newV (x1 (ix3 l r k)) (x3 (ix3 l r k)) := by
  unfold val_main_v10 val_main_v9 val_main_v8 val_main_v7 val_main_cst_2 val_main_v6 val_main_v5 val_main_cst_1 newV
  pointwise
theorem delta_at : val_main_v23 (F := Ideal) x0 x1 x2 x3 (ix3 l r k) = delta (x0 (ix3 l r k)) (x1 (ix3 l r k)) (x2 (ix3 l r k)) (x3 (ix3 l r k)) := by
  unfold delta
  rw [← mom_at, ← var_at]
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise

theorem mom_row (r : Fin 4096) : val_main_v25 (F := Ideal) x1 x2 (ix2 r k) = newM (cell x1 r k) (cell x2 r k) := by
  refine Eq.trans ?_ (mom_at x1 x2 ⟨r.val / 1024, by omega⟩ ⟨r.val % 1024, Nat.mod_lt _ (by decide)⟩ k)
  unfold val_main_v25
  pointwise
theorem var_row (r : Fin 4096) : val_main_v26 (F := Ideal) x1 x3 (ix2 r k) = newV (cell x1 r k) (cell x3 r k) := by
  refine Eq.trans ?_ (var_at x1 x3 ⟨r.val / 1024, by omega⟩ ⟨r.val % 1024, Nat.mod_lt _ (by decide)⟩ k)
  unfold val_main_v26
  pointwise
theorem delta_row (r : Fin 4096) : val_main_v24 (F := Ideal) x0 x1 x2 x3 (ix2 r k) = delta (cell x0 r k) (cell x1 r k) (cell x2 r k) (cell x3 r k) := by
  refine Eq.trans ?_ (delta_at x0 x1 x2 x3 ⟨r.val / 1024, by omega⟩ ⟨r.val % 1024, Nat.mod_lt _ (by decide)⟩ k)
  unfold val_main_v24
  pointwise

end Reference

section Operand

open Cert.Kernel13Ideal Cert.Kernel13Ideal.Gen Cert.Kernel13Ideal.Run

variable (m : (ℓ : Loc nD τ sig) → Buf (Elt Ideal) ℓ) (c : Dev nD)

theorem delta_eq : Cert.Reference13Ideal.Read.val_main_v24 (F := Ideal) (argW m c) (argG m c) (argM m c) (argV m c) = deltaAll m c := by
  funext i
  rw [ValueIdx.eq_ix2 i]
  exact delta_row _ _ _ _ (i 1) (i 0)
theorem mom_eq : Cert.Reference13Ideal.Read.val_main_v25 (F := Ideal) (argG m c) (argM m c) = momAll m c := by
  funext i
  rw [ValueIdx.eq_ix2 i]
  exact mom_row _ _ (i 1) (i 0)
theorem var_eq : Cert.Reference13Ideal.Read.val_main_v26 (F := Ideal) (argG m c) (argV m c) = varAll m c := by
  funext i
  rw [ValueIdx.eq_ix2 i]
  exact var_row _ _ (i 1) (i 0)

end Operand

theorem frame_reference [Cert.Reference13Ideal.Facts] : Cert.quiescent_Reference13Ideal := fun m g _ =>
  (θ_run Cert.Reference13Ideal.defs _ _).mono
    (fun r h => ⟨fun c => (h c).2.2.2, sem_eq_zero_of_no_sems (by decide) r.2⟩) (Cert.Reference13Ideal.Value.run m g)

theorem rows_same : (Cert.Kernel13.defs₀ (F := Bits)) = (Cert.Kernel13Ideal.defs₀ (F := Bits)) := by
  unfold Cert.Kernel13.defs₀ Cert.Kernel13Ideal.defs₀
  refine congrArg Defs.onTc ?_
  funext l a
  match l, a with
  | 0, (t, s) => rfl

theorem defs_same : (Cert.Kernel13.defs (F := Bits)) = (Cert.Kernel13Ideal.defs (F := Bits)) := by
  unfold Cert.Kernel13.defs Cert.Kernel13Ideal.defs
  exact congrArg (Pipeline.defs _) rows_same

set_option maxHeartbeats 4000000 in
/-- The printed program runs, leaves its arguments and ends quiescent. -/
theorem quiescent [Cert.Kernel13.Facts] : Cert.quiescent_Kernel13 := fun m g _ => by
  rw [defs_same]
  exact Cert.Kernel13Ideal.Gen.frame m g

/-- The kernel's results are the reference's. -/
theorem algebraic [Cert.Kernel13Ideal.Facts] [Cert.Reference13Ideal.Facts] : Cert.algebraic_Kernel13Ideal_Reference13Ideal := by
  intro m g m' g' _ hag
  refine ⟨Cert.Kernel13Ideal.Run.deltaAll m, Cert.Kernel13Ideal.Run.momAll m, Cert.Kernel13Ideal.Run.varAll m,
    (θ_run Cert.Kernel13Ideal.defs _ _).mono (fun r h c => ?_) (Cert.Kernel13Ideal.Value.run_blocks m g),
    (θ_run Cert.Reference13Ideal.defs _ _).mono (fun r h c => ?_) (Cert.Reference13Ideal.Value.run m' g')⟩
  · obtain ⟨h0, h1, h2, hargs⟩ := h c
    exact ⟨h0.trans (Cert.Kernel13Ideal.Run.delta_final m c), h1.trans (Cert.Kernel13Ideal.Run.mom_final m c),
      h2.trans (Cert.Kernel13Ideal.Run.var_final m c), hargs⟩
  · obtain ⟨h0, h1, h2, hargs⟩ := h c
    obtain ⟨a0, a1, a2, a3⟩ := hag c
    refine ⟨h0.trans ?_, h1.trans ?_, h2.trans ?_, hargs⟩
    · refine (Cert.Reference13Ideal.Read.val_main_v24_eq _ _ _ _).trans ?_
      rw [a0, a1, a2, a3]
      exact delta_eq m c
    · refine (Cert.Reference13Ideal.Read.val_main_v25_eq _ _).trans ?_
      rw [a1, a2]
      exact mom_eq m c
    · refine (Cert.Reference13Ideal.Read.val_main_v26_eq _ _).trans ?_
      rw [a1, a3]
      exact var_eq m c

end Cert.AdamwUp

end
-- ==== Proof.AdamwInValue.lean ====
module

public import proofs.«01_k».proof.Proof.Gen.Kernel14Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Tiles

@[expose] public section

set_option maxRecDepth 16384

noncomputable section

/-! What the optimiser's step of the mixers' input projection's weight holds, at the extended reals. -/

namespace Cert.Kernel14Ideal.Run

open Idealize.ShloMosaic Idealize.ShloMosaic.TcCoe Idealize.ShloMosaic.Tactic Idealize.SL.Sem
open Idealize.ShloMosaic.Pipeline (Dat)
open Cert.Kernel14Ideal.Gen

variable (m : (ℓ : Loc nD τ sig) → Buf (Elt Ideal) ℓ) (ρ : Dev nD → PrngReg)

/-- The arguments. -/
abbrev argW (c : Dev nD) : S2x1024x320.Idx → EReal := m ((c.tc : Thread nD τ).loc main_arg0)
abbrev argG (c : Dev nD) : S2x1024x320.Idx → EReal := m ((c.tc : Thread nD τ).loc main_arg1)
abbrev argM (c : Dev nD) : S2x1024x320.Idx → EReal := m ((c.tc : Thread nD τ).loc main_arg2)
abbrev argV (c : Dev nD) : S2x1024x320.Idx → EReal := m ((c.tc : Thread nD τ).loc main_arg3)

/-- The new first moment, second moment, and the change of the weight, from one entry of each array. -/
def newM (g m' : EReal) : EReal := FloatOps.ofBits (F := Ideal) .f32 0x3F666666#32 * m' + FloatOps.ofBits (F := Ideal) .f32 0x3DCCCCCD#32 * g
def newV (g v : EReal) : EReal := FloatOps.ofBits (F := Ideal) .f32 0x3F7FBE77#32 * v + FloatOps.ofBits (F := Ideal) .f32 0x3A83126F#32 * (g * g)
def delta (w g m' v : EReal) : EReal := FloatOps.ofBits (F := Ideal) .f32 0xBA83126F#32 *
  (Ideal.div (Ideal.div (newM g m') (FloatOps.ofBits (F := Ideal) .f32 0x3F26BD02#32))
    (Ideal.sqrt (Ideal.div (newV g v) (FloatOps.ofBits (F := Ideal) .f32 0x3C231ACC#32)) + FloatOps.ofBits (F := Ideal) .f32 0x322BCC77#32)
  + FloatOps.ofBits (F := Ideal) .f32 0x3C23D70A#32 * w)

theorem m_apply (g m' : Vec Ideal S512x320 .f32) (r : Fin 512) (k : Fin 320) :
    k0_pay2 g m' (ix2 r k) = newM (g (ix2 r k)) (m' (ix2 r k)) := by
  unfold k0_pay2 k0_pay1 newM; pointwise
theorem v_apply (g v : Vec Ideal S512x320 .f32) (r : Fin 512) (k : Fin 320) :
    k0_pay3 g v (ix2 r k) = newV (g (ix2 r k)) (v (ix2 r k)) := by
  unfold k0_pay3 k0_pay1 newV; pointwise
theorem d_apply (w g m' v : Vec Ideal S512x320 .f32) (r : Fin 512) (k : Fin 320) :
    k0_pay4 g m' v w (ix2 r k) = delta (w (ix2 r k)) (g (ix2 r k)) (m' (ix2 r k)) (v (ix2 r k)) := by
  unfold delta
  rw [← m_apply, ← v_apply]
  unfold k0_pay4; pointwise

theorem at_0 : ∀ t : Fin cfg0.N, win0_0.index t = ![t.val, 0] := by decide +kernel
theorem at_1 : ∀ t : Fin cfg0.N, win0_1.index t = ![t.val, 0] := by decide +kernel
theorem at_2 : ∀ t : Fin cfg0.N, win0_2.index t = ![t.val, 0] := by decide +kernel
theorem at_3 : ∀ t : Fin cfg0.N, win0_3.index t = ![t.val, 0] := by decide +kernel
theorem at_4 : ∀ t : Fin cfg0.N, win0_4.index t = ![t.val, 0] := by decide +kernel
theorem at_5 : ∀ t : Fin cfg0.N, win0_5.index t = ![t.val, 0] := by decide +kernel
theorem at_6 : ∀ t : Fin cfg0.N, win0_6.index t = ![t.val, 0] := by decide +kernel

theorem lt_4 (t : Fin cfg0.N) : t.val < 4 := lt_of_lt_of_eq t.isLt (show cfg0.N = 4 from N_0)

/-- The row of the array at a row of a block. -/
def rowAt (t : Fin cfg0.N) (r : Fin 512) : Fin 2048 := ⟨512 * t.val + r.val, by have := lt_4 t; omega⟩

/-- An array's entry by the row of all its layers laid end to end. -/
abbrev cell (x : S2x1024x320.Idx → EReal) (r : Fin 2048) (k : Fin 320) : EReal := x (ix3 (⟨r.val / 1024, by omega⟩ : Fin 2) (⟨r.val % 1024, Nat.mod_lt _ (by decide)⟩ : Fin 1024) k)

theorem flat_W (c : Dev nD) (r : Fin 2048) (k : Fin 320) : (V m c main_v0 : Vec Ideal S2048x320 .f32) (ix2 r k) = cell (argW m c) r k := by
  entry_read
  pointwise
theorem blk_W (c : Dev nD) (t : Fin cfg0.N) (r : Fin 512) (k : Fin 320) :
    (iblk m c 0 t : Vec Ideal S512x320 .f32) (ix2 r k) = cell (argW m c) (rowAt t r) k := by
  rw [← flat_W]
  unfold rowAt
  blk_ext! [iblk, at_0 t]
theorem flat_G (c : Dev nD) (r : Fin 2048) (k : Fin 320) : (V m c main_v1 : Vec Ideal S2048x320 .f32) (ix2 r k) = cell (argG m c) r k := by
  entry_read
  pointwise
theorem blk_G (c : Dev nD) (t : Fin cfg0.N) (r : Fin 512) (k : Fin 320) :
    (iblk m c 1 t : Vec Ideal S512x320 .f32) (ix2 r k) = cell (argG m c) (rowAt t r) k := by
  rw [← flat_G]
  unfold rowAt
  blk_ext! [iblk, at_1 t]
theorem flat_M (c : Dev nD) (r : Fin 2048) (k : Fin 320) : (V m c main_v2 : Vec Ideal S2048x320 .f32) (ix2 r k) = cell (argM m c) r k := by
  entry_read
  pointwise
theorem blk_M (c : Dev nD) (t : Fin cfg0.N) (r : Fin 512) (k : Fin 320) :
    (iblk m c 2 t : Vec Ideal S512x320 .f32) (ix2 r k) = cell (argM m c) (rowAt t r) k := by
  rw [← flat_M]
  unfold rowAt
  blk_ext! [iblk, at_2 t]
theorem flat_V (c : Dev nD) (r : Fin 2048) (k : Fin 320) : (V m c main_v3 : Vec Ideal S2048x320 .f32) (ix2 r k) = cell (argV m c) r k := by
  entry_read
  pointwise
theorem blk_V (c : Dev nD) (t : Fin cfg0.N) (r : Fin 512) (k : Fin 320) :
    (iblk m c 3 t : Vec Ideal S512x320 .f32) (ix2 r k) = cell (argV m c) (rowAt t r) k := by
  rw [← flat_V]
  unfold rowAt
  blk_ext! [iblk, at_3 t]

/-- A load of a whole block reads the block. -/
theorem load_whole (X : Vec Ideal S512x320 .f32) (r : Fin 512) (k : Fin 320) : View.ld X r0_0 (ix2 r k) = X (ix2 r k) :=
  View.ld_unit_apply_of X _ _ _ _ _ fun a => by match a with | ⟨0, _⟩ => simp | ⟨1, _⟩ => simp

/-- The results. -/
def deltaAll (c : Dev nD) : Vec Ideal S2048x320 .f32 := fun i =>
  delta (cell (argW m c) (i 0) (i 1)) (cell (argG m c) (i 0) (i 1)) (cell (argM m c) (i 0) (i 1)) (cell (argV m c) (i 0) (i 1))
def momAll (c : Dev nD) : Vec Ideal S2048x320 .f32 := fun i => newM (cell (argG m c) (i 0) (i 1)) (cell (argM m c) (i 0) (i 1))
def varAll (c : Dev nD) : Vec Ideal S2048x320 .f32 := fun i => newV (cell (argG m c) (i 0) (i 1)) (cell (argV m c) (i 0) (i 1))

section Blocks

variable (c : Dev nD) (t : Fin cfg0.N)

theorem delta_blk (r : Fin 512) (k : Fin 320) :
    k0_pay4 (View.ld (iblk m c 1 t) r0_0) (View.ld (iblk m c 2 t) r0_0) (View.ld (iblk m c 3 t) r0_0) (View.ld (iblk m c 0 t) r0_0) (ix2 r k)
      = deltaAll m c (ix2 (rowAt t r) k) := by
  refine (d_apply _ _ _ _ r k).trans ?_
  rw [load_whole, load_whole, load_whole, load_whole, blk_W, blk_G, blk_M, blk_V]
  rfl
theorem mom_blk (r : Fin 512) (k : Fin 320) :
    k0_pay2 (View.ld (iblk m c 1 t) r0_0) (View.ld (iblk m c 2 t) r0_0) (ix2 r k) = momAll m c (ix2 (rowAt t r) k) := by
  refine (m_apply _ _ r k).trans ?_
  rw [load_whole, load_whole, blk_G, blk_M]
  rfl
theorem var_blk (r : Fin 512) (k : Fin 320) :
    k0_pay3 (View.ld (iblk m c 1 t) r0_0) (View.ld (iblk m c 3 t) r0_0) (ix2 r k) = varAll m c (ix2 (rowAt t r) k) := by
  refine (v_apply _ _ r k).trans ?_
  rw [load_whole, load_whole, blk_G, blk_V]
  rfl

end Blocks

theorem delta_final (c : Dev nD) : (dats m 0 c).arrAt 4 cfg0.N = deltaAll m c := by
  refine (dats m 0 c).arrAt_eq_of_covers 4 _ (by decide +kernel) fun t hf y => ?_
  have key : ∀ y : S512x320.Idx, out0_4 (iblk m c 0 t) (iblk m c 1 t) (iblk m c 2 t) (iblk m c 3 t) y = deltaAll m c ((win0_4.blk t).view.emb y) := fun y => by
    have e0 : ((win0_4.blk t).view.emb y 0 : Fin 2048).val = 512 * t.val + (y 0).val := by blk_simp [at_4 t]; show t.val * 512 + _ = _; omega
    have e1 : ((win0_4.blk t).view.emb y 1 : Fin 320).val = (y 1).val := by blk_simp [at_4 t]
    canon_tiles x h using cover0_4 ..
    rw [ValueIdx.eq_ix2 x]
    refine (delta_blk m c t (x 0) (x 1)).trans (congrArg (deltaAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_4]
  exact key y
theorem mom_final (c : Dev nD) : (dats m 0 c).arrAt 5 cfg0.N = momAll m c := by
  refine (dats m 0 c).arrAt_eq_of_covers 5 _ (by decide +kernel) fun t hf y => ?_
  have key : ∀ y : S512x320.Idx, out0_5 (iblk m c 0 t) (iblk m c 1 t) (iblk m c 2 t) (iblk m c 3 t) y = momAll m c ((win0_5.blk t).view.emb y) := fun y => by
    have e0 : ((win0_5.blk t).view.emb y 0 : Fin 2048).val = 512 * t.val + (y 0).val := by blk_simp [at_5 t]; show t.val * 512 + _ = _; omega
    have e1 : ((win0_5.blk t).view.emb y 1 : Fin 320).val = (y 1).val := by blk_simp [at_5 t]
    canon_tiles x h using cover0_5 ..
    rw [ValueIdx.eq_ix2 x]
    refine (mom_blk m c t (x 0) (x 1)).trans (congrArg (momAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_5]
  exact key y
theorem var_final (c : Dev nD) : (dats m 0 c).arrAt 6 cfg0.N = varAll m c := by
  refine (dats m 0 c).arrAt_eq_of_covers 6 _ (by decide +kernel) fun t hf y => ?_
  have key : ∀ y : S512x320.Idx, out0_6 (iblk m c 0 t) (iblk m c 1 t) (iblk m c 2 t) (iblk m c 3 t) y = varAll m c ((win0_6.blk t).view.emb y) := fun y => by
    have e0 : ((win0_6.blk t).view.emb y 0 : Fin 2048).val = 512 * t.val + (y 0).val := by blk_simp [at_6 t]; show t.val * 512 + _ = _; omega
    have e1 : ((win0_6.blk t).view.emb y 1 : Fin 320).val = (y 1).val := by blk_simp [at_6 t]
    canon_tiles x h using cover0_6 ..
    rw [ValueIdx.eq_ix2 x]
    refine (var_blk m c t (x 0) (x 1)).trans (congrArg (varAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_6]
  exact key y

end Cert.Kernel14Ideal.Run

end
-- ==== Proof.AdamwInClaims.lean ====
module

public import proofs.«01_k».proof.Proof.AdamwInValue
public import proofs.«01_k».proof.Proof.Gen.Reference14Ideal.Read
public import proofs.«01_k».proof.Proof.Gen.Reference14Ideal.Run
public import proofs.«01_k».proof.Proof.Gen.Kernel14
public import proofs.«01_k».proof.Defs

@[expose] public section

set_option maxRecDepth 16384

noncomputable section

/-! What the reference of the mixers' input projection's weight's optimiser step computes, entry by entry, and the claims. -/

namespace Cert.AdamwIn

open Idealize.ShloMosaic Idealize.ShloMosaic.TcCoe Idealize.ShloMosaic.Tactic Idealize.SL.Sem
open Cert.Kernel14Ideal.Run (newM newV delta cell)

section Reference

open Cert.Reference14Ideal Cert.Reference14Ideal.Read

variable (x0 x1 x2 x3 : Vec Ideal S2x1024x320 .f32) (l : Fin 2) (r : Fin 1024) (k : Fin 320)

theorem mom_at : val_main_v4 (F := Ideal) x1 x2 (ix3 l r k) = newM (x1 (ix3 l r k)) (x2 (ix3 l r k)) := by
  unfold val_main_v4 val_main_v3 val_main_v2 val_main_cst_0 val_main_v1 val_main_v0 val_main_cst newM
  pointwise
theorem var_at : val_main_v10 (F := Ideal) x1 x3 (ix3 l r k) = newV (x1 (ix3 l r k)) (x3 (ix3 l r k)) := by
  unfold val_main_v10 val_main_v9 val_main_v8 val_main_v7 val_main_cst_2 val_main_v6 val_main_v5 val_main_cst_1 newV
  pointwise
theorem delta_at : val_main_v23 (F := Ideal) x0 x1 x2 x3 (ix3 l r k) = delta (x0 (ix3 l r k)) (x1 (ix3 l r k)) (x2 (ix3 l r k)) (x3 (ix3 l r k)) := by
  unfold delta
  rw [← mom_at, ← var_at]
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise

theorem mom_row (r : Fin 2048) : val_main_v25 (F := Ideal) x1 x2 (ix2 r k) = newM (cell x1 r k) (cell x2 r k) := by
  refine Eq.trans ?_ (mom_at x1 x2 ⟨r.val / 1024, by omega⟩ ⟨r.val % 1024, Nat.mod_lt _ (by decide)⟩ k)
  unfold val_main_v25
  pointwise
theorem var_row (r : Fin 2048) : val_main_v26 (F := Ideal) x1 x3 (ix2 r k) = newV (cell x1 r k) (cell x3 r k) := by
  refine Eq.trans ?_ (var_at x1 x3 ⟨r.val / 1024, by omega⟩ ⟨r.val % 1024, Nat.mod_lt _ (by decide)⟩ k)
  unfold val_main_v26
  pointwise
theorem delta_row (r : Fin 2048) : val_main_v24 (F := Ideal) x0 x1 x2 x3 (ix2 r k) = delta (cell x0 r k) (cell x1 r k) (cell x2 r k) (cell x3 r k) := by
  refine Eq.trans ?_ (delta_at x0 x1 x2 x3 ⟨r.val / 1024, by omega⟩ ⟨r.val % 1024, Nat.mod_lt _ (by decide)⟩ k)
  unfold val_main_v24
  pointwise

end Reference

section Operand

open Cert.Kernel14Ideal Cert.Kernel14Ideal.Gen Cert.Kernel14Ideal.Run

variable (m : (ℓ : Loc nD τ sig) → Buf (Elt Ideal) ℓ) (c : Dev nD)

theorem delta_eq : Cert.Reference14Ideal.Read.val_main_v24 (F := Ideal) (argW m c) (argG m c) (argM m c) (argV m c) = deltaAll m c := by
  funext i
  rw [ValueIdx.eq_ix2 i]
  exact delta_row _ _ _ _ (i 1) (i 0)
theorem mom_eq : Cert.Reference14Ideal.Read.val_main_v25 (F := Ideal) (argG m c) (argM m c) = momAll m c := by
  funext i
  rw [ValueIdx.eq_ix2 i]
  exact mom_row _ _ (i 1) (i 0)
theorem var_eq : Cert.Reference14Ideal.Read.val_main_v26 (F := Ideal) (argG m c) (argV m c) = varAll m c := by
  funext i
  rw [ValueIdx.eq_ix2 i]
  exact var_row _ _ (i 1) (i 0)

end Operand

theorem frame_reference [Cert.Reference14Ideal.Facts] : Cert.quiescent_Reference14Ideal := fun m g _ =>
  (θ_run Cert.Reference14Ideal.defs _ _).mono
    (fun r h => ⟨fun c => (h c).2.2.2, sem_eq_zero_of_no_sems (by decide) r.2⟩) (Cert.Reference14Ideal.Value.run m g)

theorem rows_same : (Cert.Kernel14.defs₀ (F := Bits)) = (Cert.Kernel14Ideal.defs₀ (F := Bits)) := by
  unfold Cert.Kernel14.defs₀ Cert.Kernel14Ideal.defs₀
  refine congrArg Defs.onTc ?_
  funext l a
  match l, a with
  | 0, (t, s) => rfl

theorem defs_same : (Cert.Kernel14.defs (F := Bits)) = (Cert.Kernel14Ideal.defs (F := Bits)) := by
  unfold Cert.Kernel14.defs Cert.Kernel14Ideal.defs
  exact congrArg (Pipeline.defs _) rows_same

set_option maxHeartbeats 4000000 in
/-- The printed program runs, leaves its arguments and ends quiescent. -/
theorem quiescent [Cert.Kernel14.Facts] : Cert.quiescent_Kernel14 := fun m g _ => by
  rw [defs_same]
  exact Cert.Kernel14Ideal.Gen.frame m g

/-- The kernel's results are the reference's. -/
theorem algebraic [Cert.Kernel14Ideal.Facts] [Cert.Reference14Ideal.Facts] : Cert.algebraic_Kernel14Ideal_Reference14Ideal := by
  intro m g m' g' _ hag
  refine ⟨Cert.Kernel14Ideal.Run.deltaAll m, Cert.Kernel14Ideal.Run.momAll m, Cert.Kernel14Ideal.Run.varAll m,
    (θ_run Cert.Kernel14Ideal.defs _ _).mono (fun r h c => ?_) (Cert.Kernel14Ideal.Value.run_blocks m g),
    (θ_run Cert.Reference14Ideal.defs _ _).mono (fun r h c => ?_) (Cert.Reference14Ideal.Value.run m' g')⟩
  · obtain ⟨h0, h1, h2, hargs⟩ := h c
    exact ⟨h0.trans (Cert.Kernel14Ideal.Run.delta_final m c), h1.trans (Cert.Kernel14Ideal.Run.mom_final m c),
      h2.trans (Cert.Kernel14Ideal.Run.var_final m c), hargs⟩
  · obtain ⟨h0, h1, h2, hargs⟩ := h c
    obtain ⟨a0, a1, a2, a3⟩ := hag c
    refine ⟨h0.trans ?_, h1.trans ?_, h2.trans ?_, hargs⟩
    · refine (Cert.Reference14Ideal.Read.val_main_v24_eq _ _ _ _).trans ?_
      rw [a0, a1, a2, a3]
      exact delta_eq m c
    · refine (Cert.Reference14Ideal.Read.val_main_v25_eq _ _).trans ?_
      rw [a1, a2]
      exact mom_eq m c
    · refine (Cert.Reference14Ideal.Read.val_main_v26_eq _ _).trans ?_
      rw [a1, a3]
      exact var_eq m c

end Cert.AdamwIn

end
-- ==== Proof.AdamwOutValue.lean ====
module

public import proofs.«01_k».proof.Proof.Gen.Kernel15Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Tiles

@[expose] public section

set_option maxRecDepth 16384

noncomputable section

/-! What the optimiser's step of the mixers' and attention's output projection's weight holds, at the extended reals. -/

namespace Cert.Kernel15Ideal.Run

open Idealize.ShloMosaic Idealize.ShloMosaic.TcCoe Idealize.ShloMosaic.Tactic Idealize.SL.Sem
open Idealize.ShloMosaic.Pipeline (Dat)
open Cert.Kernel15Ideal.Gen

variable (m : (ℓ : Loc nD τ sig) → Buf (Elt Ideal) ℓ) (ρ : Dev nD → PrngReg)

/-- The arguments. -/
abbrev argW (c : Dev nD) : S2x128x1024.Idx → EReal := m ((c.tc : Thread nD τ).loc main_arg0)
abbrev argG (c : Dev nD) : S2x128x1024.Idx → EReal := m ((c.tc : Thread nD τ).loc main_arg1)
abbrev argM (c : Dev nD) : S2x128x1024.Idx → EReal := m ((c.tc : Thread nD τ).loc main_arg2)
abbrev argV (c : Dev nD) : S2x128x1024.Idx → EReal := m ((c.tc : Thread nD τ).loc main_arg3)

/-- The new first moment, second moment, and the change of the weight, from one entry of each array. -/
def newM (g m' : EReal) : EReal := FloatOps.ofBits (F := Ideal) .f32 0x3F666666#32 * m' + FloatOps.ofBits (F := Ideal) .f32 0x3DCCCCCD#32 * g
def newV (g v : EReal) : EReal := FloatOps.ofBits (F := Ideal) .f32 0x3F7FBE77#32 * v + FloatOps.ofBits (F := Ideal) .f32 0x3A83126F#32 * (g * g)
def delta (w g m' v : EReal) : EReal := FloatOps.ofBits (F := Ideal) .f32 0xBA83126F#32 *
  (Ideal.div (Ideal.div (newM g m') (FloatOps.ofBits (F := Ideal) .f32 0x3F26BD02#32))
    (Ideal.sqrt (Ideal.div (newV g v) (FloatOps.ofBits (F := Ideal) .f32 0x3C231ACC#32)) + FloatOps.ofBits (F := Ideal) .f32 0x322BCC77#32)
  + FloatOps.ofBits (F := Ideal) .f32 0x3C23D70A#32 * w)

theorem m_apply (g m' : Vec Ideal S256x1024 .f32) (r : Fin 256) (k : Fin 1024) :
    k0_pay2 g m' (ix2 r k) = newM (g (ix2 r k)) (m' (ix2 r k)) := by
  unfold k0_pay2 k0_pay1 newM; pointwise
theorem v_apply (g v : Vec Ideal S256x1024 .f32) (r : Fin 256) (k : Fin 1024) :
    k0_pay3 g v (ix2 r k) = newV (g (ix2 r k)) (v (ix2 r k)) := by
  unfold k0_pay3 k0_pay1 newV; pointwise
theorem d_apply (w g m' v : Vec Ideal S256x1024 .f32) (r : Fin 256) (k : Fin 1024) :
    k0_pay4 g m' v w (ix2 r k) = delta (w (ix2 r k)) (g (ix2 r k)) (m' (ix2 r k)) (v (ix2 r k)) := by
  unfold delta
  rw [← m_apply, ← v_apply]
  unfold k0_pay4; pointwise

theorem at_0 : ∀ t : Fin cfg0.N, win0_0.index t = ![t.val, 0] := by decide +kernel
theorem at_1 : ∀ t : Fin cfg0.N, win0_1.index t = ![t.val, 0] := by decide +kernel
theorem at_2 : ∀ t : Fin cfg0.N, win0_2.index t = ![t.val, 0] := by decide +kernel
theorem at_3 : ∀ t : Fin cfg0.N, win0_3.index t = ![t.val, 0] := by decide +kernel
theorem at_4 : ∀ t : Fin cfg0.N, win0_4.index t = ![t.val, 0] := by decide +kernel
theorem at_5 : ∀ t : Fin cfg0.N, win0_5.index t = ![t.val, 0] := by decide +kernel
theorem at_6 : ∀ t : Fin cfg0.N, win0_6.index t = ![t.val, 0] := by decide +kernel

theorem lt_1 (t : Fin cfg0.N) : t.val < 1 := lt_of_lt_of_eq t.isLt (show cfg0.N = 1 from N_0)

/-- The row of the array at a row of a block. -/
def rowAt (t : Fin cfg0.N) (r : Fin 256) : Fin 256 := ⟨256 * t.val + r.val, by have := lt_1 t; omega⟩

/-- An array's entry by the row of all its layers laid end to end. -/
abbrev cell (x : S2x128x1024.Idx → EReal) (r : Fin 256) (k : Fin 1024) : EReal := x (ix3 (⟨r.val / 128, by omega⟩ : Fin 2) (⟨r.val % 128, Nat.mod_lt _ (by decide)⟩ : Fin 128) k)

theorem flat_W (c : Dev nD) (r : Fin 256) (k : Fin 1024) : (V m c main_v0 : Vec Ideal S256x1024 .f32) (ix2 r k) = cell (argW m c) r k := by
  entry_read
  pointwise
theorem blk_W (c : Dev nD) (t : Fin cfg0.N) (r : Fin 256) (k : Fin 1024) :
    (iblk m c 0 t : Vec Ideal S256x1024 .f32) (ix2 r k) = cell (argW m c) (rowAt t r) k := by
  rw [← flat_W]
  unfold rowAt
  blk_ext! [iblk, at_0 t]
theorem flat_G (c : Dev nD) (r : Fin 256) (k : Fin 1024) : (V m c main_v1 : Vec Ideal S256x1024 .f32) (ix2 r k) = cell (argG m c) r k := by
  entry_read
  pointwise
theorem blk_G (c : Dev nD) (t : Fin cfg0.N) (r : Fin 256) (k : Fin 1024) :
    (iblk m c 1 t : Vec Ideal S256x1024 .f32) (ix2 r k) = cell (argG m c) (rowAt t r) k := by
  rw [← flat_G]
  unfold rowAt
  blk_ext! [iblk, at_1 t]
theorem flat_M (c : Dev nD) (r : Fin 256) (k : Fin 1024) : (V m c main_v2 : Vec Ideal S256x1024 .f32) (ix2 r k) = cell (argM m c) r k := by
  entry_read
  pointwise
theorem blk_M (c : Dev nD) (t : Fin cfg0.N) (r : Fin 256) (k : Fin 1024) :
    (iblk m c 2 t : Vec Ideal S256x1024 .f32) (ix2 r k) = cell (argM m c) (rowAt t r) k := by
  rw [← flat_M]
  unfold rowAt
  blk_ext! [iblk, at_2 t]
theorem flat_V (c : Dev nD) (r : Fin 256) (k : Fin 1024) : (V m c main_v3 : Vec Ideal S256x1024 .f32) (ix2 r k) = cell (argV m c) r k := by
  entry_read
  pointwise
theorem blk_V (c : Dev nD) (t : Fin cfg0.N) (r : Fin 256) (k : Fin 1024) :
    (iblk m c 3 t : Vec Ideal S256x1024 .f32) (ix2 r k) = cell (argV m c) (rowAt t r) k := by
  rw [← flat_V]
  unfold rowAt
  blk_ext! [iblk, at_3 t]

/-- A load of a whole block reads the block. -/
theorem load_whole (X : Vec Ideal S256x1024 .f32) (r : Fin 256) (k : Fin 1024) : View.ld X r0_0 (ix2 r k) = X (ix2 r k) :=
  View.ld_unit_apply_of X _ _ _ _ _ fun a => by match a with | ⟨0, _⟩ => simp | ⟨1, _⟩ => simp

/-- The results. -/
def deltaAll (c : Dev nD) : Vec Ideal S256x1024 .f32 := fun i =>
  delta (cell (argW m c) (i 0) (i 1)) (cell (argG m c) (i 0) (i 1)) (cell (argM m c) (i 0) (i 1)) (cell (argV m c) (i 0) (i 1))
def momAll (c : Dev nD) : Vec Ideal S256x1024 .f32 := fun i => newM (cell (argG m c) (i 0) (i 1)) (cell (argM m c) (i 0) (i 1))
def varAll (c : Dev nD) : Vec Ideal S256x1024 .f32 := fun i => newV (cell (argG m c) (i 0) (i 1)) (cell (argV m c) (i 0) (i 1))

section Blocks

variable (c : Dev nD) (t : Fin cfg0.N)

theorem delta_blk (r : Fin 256) (k : Fin 1024) :
    k0_pay4 (View.ld (iblk m c 1 t) r0_0) (View.ld (iblk m c 2 t) r0_0) (View.ld (iblk m c 3 t) r0_0) (View.ld (iblk m c 0 t) r0_0) (ix2 r k)
      = deltaAll m c (ix2 (rowAt t r) k) := by
  refine (d_apply _ _ _ _ r k).trans ?_
  rw [load_whole, load_whole, load_whole, load_whole, blk_W, blk_G, blk_M, blk_V]
  rfl
theorem mom_blk (r : Fin 256) (k : Fin 1024) :
    k0_pay2 (View.ld (iblk m c 1 t) r0_0) (View.ld (iblk m c 2 t) r0_0) (ix2 r k) = momAll m c (ix2 (rowAt t r) k) := by
  refine (m_apply _ _ r k).trans ?_
  rw [load_whole, load_whole, blk_G, blk_M]
  rfl
theorem var_blk (r : Fin 256) (k : Fin 1024) :
    k0_pay3 (View.ld (iblk m c 1 t) r0_0) (View.ld (iblk m c 3 t) r0_0) (ix2 r k) = varAll m c (ix2 (rowAt t r) k) := by
  refine (v_apply _ _ r k).trans ?_
  rw [load_whole, load_whole, blk_G, blk_V]
  rfl

end Blocks

theorem delta_final (c : Dev nD) : (dats m 0 c).arrAt 4 cfg0.N = deltaAll m c := by
  refine (dats m 0 c).arrAt_eq_of_covers 4 _ (by decide +kernel) fun t hf y => ?_
  have key : ∀ y : S256x1024.Idx, out0_4 (iblk m c 0 t) (iblk m c 1 t) (iblk m c 2 t) (iblk m c 3 t) y = deltaAll m c ((win0_4.blk t).view.emb y) := fun y => by
    have e0 : ((win0_4.blk t).view.emb y 0 : Fin 256).val = 256 * t.val + (y 0).val := by blk_simp [at_4 t]; omega
    have e1 : ((win0_4.blk t).view.emb y 1 : Fin 1024).val = (y 1).val := by blk_simp [at_4 t]
    canon_tiles x h using cover0_4 ..
    rw [ValueIdx.eq_ix2 x]
    refine (delta_blk m c t (x 0) (x 1)).trans (congrArg (deltaAll m c) (funext fun a => ?_))
    match a with
    | ⟨0, _⟩ => exact Fin.ext ((congrArg (256 * t.val + ·) h0.symm).trans e0.symm)
    | ⟨1, _⟩ => exact Fin.ext (h1.symm.trans e1.symm)
  blk_simp
  rw [after0_4]
  exact key y
theorem mom_final (c : Dev nD) : (dats m 0 c).arrAt 5 cfg0.N = momAll m c := by
  refine (dats m 0 c).arrAt_eq_of_covers 5 _ (by decide +kernel) fun t hf y => ?_
  have key : ∀ y : S256x1024.Idx, out0_5 (iblk m c 0 t) (iblk m c 1 t) (iblk m c 2 t) (iblk m c 3 t) y = momAll m c ((win0_5.blk t).view.emb y) := fun y => by
    have e0 : ((win0_5.blk t).view.emb y 0 : Fin 256).val = 256 * t.val + (y 0).val := by blk_simp [at_5 t]; omega
    have e1 : ((win0_5.blk t).view.emb y 1 : Fin 1024).val = (y 1).val := by blk_simp [at_5 t]
    canon_tiles x h using cover0_5 ..
    rw [ValueIdx.eq_ix2 x]
    refine (mom_blk m c t (x 0) (x 1)).trans (congrArg (momAll m c) (funext fun a => ?_))
    match a with
    | ⟨0, _⟩ => exact Fin.ext ((congrArg (256 * t.val + ·) h0.symm).trans e0.symm)
    | ⟨1, _⟩ => exact Fin.ext (h1.symm.trans e1.symm)
  blk_simp
  rw [after0_5]
  exact key y
theorem var_final (c : Dev nD) : (dats m 0 c).arrAt 6 cfg0.N = varAll m c := by
  refine (dats m 0 c).arrAt_eq_of_covers 6 _ (by decide +kernel) fun t hf y => ?_
  have key : ∀ y : S256x1024.Idx, out0_6 (iblk m c 0 t) (iblk m c 1 t) (iblk m c 2 t) (iblk m c 3 t) y = varAll m c ((win0_6.blk t).view.emb y) := fun y => by
    have e0 : ((win0_6.blk t).view.emb y 0 : Fin 256).val = 256 * t.val + (y 0).val := by blk_simp [at_6 t]; omega
    have e1 : ((win0_6.blk t).view.emb y 1 : Fin 1024).val = (y 1).val := by blk_simp [at_6 t]
    canon_tiles x h using cover0_6 ..
    rw [ValueIdx.eq_ix2 x]
    refine (var_blk m c t (x 0) (x 1)).trans (congrArg (varAll m c) (funext fun a => ?_))
    match a with
    | ⟨0, _⟩ => exact Fin.ext ((congrArg (256 * t.val + ·) h0.symm).trans e0.symm)
    | ⟨1, _⟩ => exact Fin.ext (h1.symm.trans e1.symm)
  blk_simp
  rw [after0_6]
  exact key y

end Cert.Kernel15Ideal.Run

end
-- ==== Proof.AdamwOutClaims.lean ====
module

public import proofs.«01_k».proof.Proof.AdamwOutValue
public import proofs.«01_k».proof.Proof.Gen.Reference15Ideal.Read
public import proofs.«01_k».proof.Proof.Gen.Reference15Ideal.Run
public import proofs.«01_k».proof.Proof.Gen.Kernel15
public import proofs.«01_k».proof.Defs

@[expose] public section

set_option maxRecDepth 16384

noncomputable section

/-! What the reference of the mixers' and attention's output projection's weight's optimiser step computes, entry by entry, and the claims. -/

namespace Cert.AdamwOut

open Idealize.ShloMosaic Idealize.ShloMosaic.TcCoe Idealize.ShloMosaic.Tactic Idealize.SL.Sem
open Cert.Kernel15Ideal.Run (newM newV delta cell)

section Reference

open Cert.Reference15Ideal Cert.Reference15Ideal.Read

variable (x0 x1 x2 x3 : Vec Ideal S2x128x1024 .f32) (l : Fin 2) (r : Fin 128) (k : Fin 1024)

theorem mom_at : val_main_v4 (F := Ideal) x1 x2 (ix3 l r k) = newM (x1 (ix3 l r k)) (x2 (ix3 l r k)) := by
  unfold val_main_v4 val_main_v3 val_main_v2 val_main_cst_0 val_main_v1 val_main_v0 val_main_cst newM
  pointwise
theorem var_at : val_main_v10 (F := Ideal) x1 x3 (ix3 l r k) = newV (x1 (ix3 l r k)) (x3 (ix3 l r k)) := by
  unfold val_main_v10 val_main_v9 val_main_v8 val_main_v7 val_main_cst_2 val_main_v6 val_main_v5 val_main_cst_1 newV
  pointwise
theorem delta_at : val_main_v23 (F := Ideal) x0 x1 x2 x3 (ix3 l r k) = delta (x0 (ix3 l r k)) (x1 (ix3 l r k)) (x2 (ix3 l r k)) (x3 (ix3 l r k)) := by
  unfold delta
  rw [← mom_at, ← var_at]
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise

theorem mom_row (r : Fin 256) : val_main_v25 (F := Ideal) x1 x2 (ix2 r k) = newM (cell x1 r k) (cell x2 r k) := by
  refine Eq.trans ?_ (mom_at x1 x2 ⟨r.val / 128, by omega⟩ ⟨r.val % 128, Nat.mod_lt _ (by decide)⟩ k)
  unfold val_main_v25
  pointwise
theorem var_row (r : Fin 256) : val_main_v26 (F := Ideal) x1 x3 (ix2 r k) = newV (cell x1 r k) (cell x3 r k) := by
  refine Eq.trans ?_ (var_at x1 x3 ⟨r.val / 128, by omega⟩ ⟨r.val % 128, Nat.mod_lt _ (by decide)⟩ k)
  unfold val_main_v26
  pointwise
theorem delta_row (r : Fin 256) : val_main_v24 (F := Ideal) x0 x1 x2 x3 (ix2 r k) = delta (cell x0 r k) (cell x1 r k) (cell x2 r k) (cell x3 r k) := by
  refine Eq.trans ?_ (delta_at x0 x1 x2 x3 ⟨r.val / 128, by omega⟩ ⟨r.val % 128, Nat.mod_lt _ (by decide)⟩ k)
  unfold val_main_v24
  pointwise

end Reference

section Operand

open Cert.Kernel15Ideal Cert.Kernel15Ideal.Gen Cert.Kernel15Ideal.Run

variable (m : (ℓ : Loc nD τ sig) → Buf (Elt Ideal) ℓ) (c : Dev nD)

theorem delta_eq : Cert.Reference15Ideal.Read.val_main_v24 (F := Ideal) (argW m c) (argG m c) (argM m c) (argV m c) = deltaAll m c := by
  funext i
  rw [ValueIdx.eq_ix2 i]
  exact delta_row _ _ _ _ (i 1) (i 0)
theorem mom_eq : Cert.Reference15Ideal.Read.val_main_v25 (F := Ideal) (argG m c) (argM m c) = momAll m c := by
  funext i
  rw [ValueIdx.eq_ix2 i]
  exact mom_row _ _ (i 1) (i 0)
theorem var_eq : Cert.Reference15Ideal.Read.val_main_v26 (F := Ideal) (argG m c) (argV m c) = varAll m c := by
  funext i
  rw [ValueIdx.eq_ix2 i]
  exact var_row _ _ (i 1) (i 0)

end Operand

theorem frame_reference [Cert.Reference15Ideal.Facts] : Cert.quiescent_Reference15Ideal := fun m g _ =>
  (θ_run Cert.Reference15Ideal.defs _ _).mono
    (fun r h => ⟨fun c => (h c).2.2.2, sem_eq_zero_of_no_sems (by decide) r.2⟩) (Cert.Reference15Ideal.Value.run m g)

theorem rows_same : (Cert.Kernel15.defs₀ (F := Bits)) = (Cert.Kernel15Ideal.defs₀ (F := Bits)) := by
  unfold Cert.Kernel15.defs₀ Cert.Kernel15Ideal.defs₀
  refine congrArg Defs.onTc ?_
  funext l a
  match l, a with
  | 0, (t, s) => rfl

theorem defs_same : (Cert.Kernel15.defs (F := Bits)) = (Cert.Kernel15Ideal.defs (F := Bits)) := by
  unfold Cert.Kernel15.defs Cert.Kernel15Ideal.defs
  exact congrArg (Pipeline.defs _) rows_same

set_option maxHeartbeats 4000000 in
/-- The printed program runs, leaves its arguments and ends quiescent. -/
theorem quiescent [Cert.Kernel15.Facts] : Cert.quiescent_Kernel15 := fun m g _ => by
  rw [defs_same]
  exact Cert.Kernel15Ideal.Gen.frame m g

/-- The kernel's results are the reference's. -/
theorem algebraic [Cert.Kernel15Ideal.Facts] [Cert.Reference15Ideal.Facts] : Cert.algebraic_Kernel15Ideal_Reference15Ideal := by
  intro m g m' g' _ hag
  refine ⟨Cert.Kernel15Ideal.Run.deltaAll m, Cert.Kernel15Ideal.Run.momAll m, Cert.Kernel15Ideal.Run.varAll m,
    (θ_run Cert.Kernel15Ideal.defs _ _).mono (fun r h c => ?_) (Cert.Kernel15Ideal.Value.run_blocks m g),
    (θ_run Cert.Reference15Ideal.defs _ _).mono (fun r h c => ?_) (Cert.Reference15Ideal.Value.run m' g')⟩
  · obtain ⟨h0, h1, h2, hargs⟩ := h c
    exact ⟨h0.trans (Cert.Kernel15Ideal.Run.delta_final m c), h1.trans (Cert.Kernel15Ideal.Run.mom_final m c),
      h2.trans (Cert.Kernel15Ideal.Run.var_final m c), hargs⟩
  · obtain ⟨h0, h1, h2, hargs⟩ := h c
    obtain ⟨a0, a1, a2, a3⟩ := hag c
    refine ⟨h0.trans ?_, h1.trans ?_, h2.trans ?_, hargs⟩
    · refine (Cert.Reference15Ideal.Read.val_main_v24_eq _ _ _ _).trans ?_
      rw [a0, a1, a2, a3]
      exact delta_eq m c
    · refine (Cert.Reference15Ideal.Read.val_main_v25_eq _ _).trans ?_
      rw [a1, a2]
      exact mom_eq m c
    · refine (Cert.Reference15Ideal.Read.val_main_v26_eq _ _).trans ?_
      rw [a1, a3]
      exact var_eq m c

end Cert.AdamwOut

end
-- ==== Proof.AdamwQkvValue.lean ====
module

public import proofs.«01_k».proof.Proof.Gen.Kernel16Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Tiles

@[expose] public section

set_option maxRecDepth 16384

noncomputable section

/-! What the optimiser's step of the attention's input projection's weight holds, at the extended reals. -/

namespace Cert.Kernel16Ideal.Run

open Idealize.ShloMosaic Idealize.ShloMosaic.TcCoe Idealize.ShloMosaic.Tactic Idealize.SL.Sem
open Idealize.ShloMosaic.Pipeline (Dat)
open Cert.Kernel16Ideal.Gen

variable (m : (ℓ : Loc nD τ sig) → Buf (Elt Ideal) ℓ) (ρ : Dev nD → PrngReg)

/-- The arguments. -/
abbrev argW (c : Dev nD) : S2x1024x192.Idx → EReal := m ((c.tc : Thread nD τ).loc main_arg0)
abbrev argG (c : Dev nD) : S2x1024x192.Idx → EReal := m ((c.tc : Thread nD τ).loc main_arg1)
abbrev argM (c : Dev nD) : S2x1024x192.Idx → EReal := m ((c.tc : Thread nD τ).loc main_arg2)
abbrev argV (c : Dev nD) : S2x1024x192.Idx → EReal := m ((c.tc : Thread nD τ).loc main_arg3)

/-- The new first moment, second moment, and the change of the weight, from one entry of each array. -/
def newM (g m' : EReal) : EReal := FloatOps.ofBits (F := Ideal) .f32 0x3F666666#32 * m' + FloatOps.ofBits (F := Ideal) .f32 0x3DCCCCCD#32 * g
def newV (g v : EReal) : EReal := FloatOps.ofBits (F := Ideal) .f32 0x3F7FBE77#32 * v + FloatOps.ofBits (F := Ideal) .f32 0x3A83126F#32 * (g * g)
def delta (w g m' v : EReal) : EReal := FloatOps.ofBits (F := Ideal) .f32 0xBA83126F#32 *
  (Ideal.div (Ideal.div (newM g m') (FloatOps.ofBits (F := Ideal) .f32 0x3F26BD02#32))
    (Ideal.sqrt (Ideal.div (newV g v) (FloatOps.ofBits (F := Ideal) .f32 0x3C231ACC#32)) + FloatOps.ofBits (F := Ideal) .f32 0x322BCC77#32)
  + FloatOps.ofBits (F := Ideal) .f32 0x3C23D70A#32 * w)

theorem m_apply (g m' : Vec Ideal S512x192 .f32) (r : Fin 512) (k : Fin 192) :
    k0_pay2 g m' (ix2 r k) = newM (g (ix2 r k)) (m' (ix2 r k)) := by
  unfold k0_pay2 k0_pay1 newM; pointwise
theorem v_apply (g v : Vec Ideal S512x192 .f32) (r : Fin 512) (k : Fin 192) :
    k0_pay3 g v (ix2 r k) = newV (g (ix2 r k)) (v (ix2 r k)) := by
  unfold k0_pay3 k0_pay1 newV; pointwise
theorem d_apply (w g m' v : Vec Ideal S512x192 .f32) (r : Fin 512) (k : Fin 192) :
    k0_pay4 g m' v w (ix2 r k) = delta (w (ix2 r k)) (g (ix2 r k)) (m' (ix2 r k)) (v (ix2 r k)) := by
  unfold delta
  rw [← m_apply, ← v_apply]
  unfold k0_pay4; pointwise

theorem at_0 : ∀ t : Fin cfg0.N, win0_0.index t = ![t.val, 0] := by decide +kernel
theorem at_1 : ∀ t : Fin cfg0.N, win0_1.index t = ![t.val, 0] := by decide +kernel
theorem at_2 : ∀ t : Fin cfg0.N, win0_2.index t = ![t.val, 0] := by decide +kernel
theorem at_3 : ∀ t : Fin cfg0.N, win0_3.index t = ![t.val, 0] := by decide +kernel
theorem at_4 : ∀ t : Fin cfg0.N, win0_4.index t = ![t.val, 0] := by decide +kernel
theorem at_5 : ∀ t : Fin cfg0.N, win0_5.index t = ![t.val, 0] := by decide +kernel
theorem at_6 : ∀ t : Fin cfg0.N, win0_6.index t = ![t.val, 0] := by decide +kernel

theorem lt_4 (t : Fin cfg0.N) : t.val < 4 := lt_of_lt_of_eq t.isLt (show cfg0.N = 4 from N_0)

/-- The row of the array at a row of a block. -/
def rowAt (t : Fin cfg0.N) (r : Fin 512) : Fin 2048 := ⟨512 * t.val + r.val, by have := lt_4 t; omega⟩

/-- An array's entry by the row of all its layers laid end to end. -/
abbrev cell (x : S2x1024x192.Idx → EReal) (r : Fin 2048) (k : Fin 192) : EReal := x (ix3 (⟨r.val / 1024, by omega⟩ : Fin 2) (⟨r.val % 1024, Nat.mod_lt _ (by decide)⟩ : Fin 1024) k)

theorem flat_W (c : Dev nD) (r : Fin 2048) (k : Fin 192) : (V m c main_v0 : Vec Ideal S2048x192 .f32) (ix2 r k) = cell (argW m c) r k := by
  entry_read
  pointwise
theorem blk_W (c : Dev nD) (t : Fin cfg0.N) (r : Fin 512) (k : Fin 192) :
    (iblk m c 0 t : Vec Ideal S512x192 .f32) (ix2 r k) = cell (argW m c) (rowAt t r) k := by
  rw [← flat_W]
  unfold rowAt
  blk_ext! [iblk, at_0 t]
theorem flat_G (c : Dev nD) (r : Fin 2048) (k : Fin 192) : (V m c main_v1 : Vec Ideal S2048x192 .f32) (ix2 r k) = cell (argG m c) r k := by
  entry_read
  pointwise
theorem blk_G (c : Dev nD) (t : Fin cfg0.N) (r : Fin 512) (k : Fin 192) :
    (iblk m c 1 t : Vec Ideal S512x192 .f32) (ix2 r k) = cell (argG m c) (rowAt t r) k := by
  rw [← flat_G]
  unfold rowAt
  blk_ext! [iblk, at_1 t]
theorem flat_M (c : Dev nD) (r : Fin 2048) (k : Fin 192) : (V m c main_v2 : Vec Ideal S2048x192 .f32) (ix2 r k) = cell (argM m c) r k := by
  entry_read
  pointwise
theorem blk_M (c : Dev nD) (t : Fin cfg0.N) (r : Fin 512) (k : Fin 192) :
    (iblk m c 2 t : Vec Ideal S512x192 .f32) (ix2 r k) = cell (argM m c) (rowAt t r) k := by
  rw [← flat_M]
  unfold rowAt
  blk_ext! [iblk, at_2 t]
theorem flat_V (c : Dev nD) (r : Fin 2048) (k : Fin 192) : (V m c main_v3 : Vec Ideal S2048x192 .f32) (ix2 r k) = cell (argV m c) r k := by
  entry_read
  pointwise
theorem blk_V (c : Dev nD) (t : Fin cfg0.N) (r : Fin 512) (k : Fin 192) :
    (iblk m c 3 t : Vec Ideal S512x192 .f32) (ix2 r k) = cell (argV m c) (rowAt t r) k := by
  rw [← flat_V]
  unfold rowAt
  blk_ext! [iblk, at_3 t]

/-- A load of a whole block reads the block. -/
theorem load_whole (X : Vec Ideal S512x192 .f32) (r : Fin 512) (k : Fin 192) : View.ld X r0_0 (ix2 r k) = X (ix2 r k) :=
  View.ld_unit_apply_of X _ _ _ _ _ fun a => by match a with | ⟨0, _⟩ => simp | ⟨1, _⟩ => simp

/-- The results. -/
def deltaAll (c : Dev nD) : Vec Ideal S2048x192 .f32 := fun i =>
  delta (cell (argW m c) (i 0) (i 1)) (cell (argG m c) (i 0) (i 1)) (cell (argM m c) (i 0) (i 1)) (cell (argV m c) (i 0) (i 1))
def momAll (c : Dev nD) : Vec Ideal S2048x192 .f32 := fun i => newM (cell (argG m c) (i 0) (i 1)) (cell (argM m c) (i 0) (i 1))
def varAll (c : Dev nD) : Vec Ideal S2048x192 .f32 := fun i => newV (cell (argG m c) (i 0) (i 1)) (cell (argV m c) (i 0) (i 1))

section Blocks

variable (c : Dev nD) (t : Fin cfg0.N)

theorem delta_blk (r : Fin 512) (k : Fin 192) :
    k0_pay4 (View.ld (iblk m c 1 t) r0_0) (View.ld (iblk m c 2 t) r0_0) (View.ld (iblk m c 3 t) r0_0) (View.ld (iblk m c 0 t) r0_0) (ix2 r k)
      = deltaAll m c (ix2 (rowAt t r) k) := by
  refine (d_apply _ _ _ _ r k).trans ?_
  rw [load_whole, load_whole, load_whole, load_whole, blk_W, blk_G, blk_M, blk_V]
  rfl
theorem mom_blk (r : Fin 512) (k : Fin 192) :
    k0_pay2 (View.ld (iblk m c 1 t) r0_0) (View.ld (iblk m c 2 t) r0_0) (ix2 r k) = momAll m c (ix2 (rowAt t r) k) := by
  refine (m_apply _ _ r k).trans ?_
  rw [load_whole, load_whole, blk_G, blk_M]
  rfl
theorem var_blk (r : Fin 512) (k : Fin 192) :
    k0_pay3 (View.ld (iblk m c 1 t) r0_0) (View.ld (iblk m c 3 t) r0_0) (ix2 r k) = varAll m c (ix2 (rowAt t r) k) := by
  refine (v_apply _ _ r k).trans ?_
  rw [load_whole, load_whole, blk_G, blk_V]
  rfl

end Blocks

theorem delta_final (c : Dev nD) : (dats m 0 c).arrAt 4 cfg0.N = deltaAll m c := by
  refine (dats m 0 c).arrAt_eq_of_covers 4 _ (by decide +kernel) fun t hf y => ?_
  have key : ∀ y : S512x192.Idx, out0_4 (iblk m c 0 t) (iblk m c 1 t) (iblk m c 2 t) (iblk m c 3 t) y = deltaAll m c ((win0_4.blk t).view.emb y) := fun y => by
    have e0 : ((win0_4.blk t).view.emb y 0 : Fin 2048).val = 512 * t.val + (y 0).val := by blk_simp [at_4 t]; show t.val * 512 + _ = _; omega
    have e1 : ((win0_4.blk t).view.emb y 1 : Fin 192).val = (y 1).val := by blk_simp [at_4 t]
    canon_tiles x h using cover0_4 ..
    rw [ValueIdx.eq_ix2 x]
    refine (delta_blk m c t (x 0) (x 1)).trans (congrArg (deltaAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_4]
  exact key y
theorem mom_final (c : Dev nD) : (dats m 0 c).arrAt 5 cfg0.N = momAll m c := by
  refine (dats m 0 c).arrAt_eq_of_covers 5 _ (by decide +kernel) fun t hf y => ?_
  have key : ∀ y : S512x192.Idx, out0_5 (iblk m c 0 t) (iblk m c 1 t) (iblk m c 2 t) (iblk m c 3 t) y = momAll m c ((win0_5.blk t).view.emb y) := fun y => by
    have e0 : ((win0_5.blk t).view.emb y 0 : Fin 2048).val = 512 * t.val + (y 0).val := by blk_simp [at_5 t]; show t.val * 512 + _ = _; omega
    have e1 : ((win0_5.blk t).view.emb y 1 : Fin 192).val = (y 1).val := by blk_simp [at_5 t]
    canon_tiles x h using cover0_5 ..
    rw [ValueIdx.eq_ix2 x]
    refine (mom_blk m c t (x 0) (x 1)).trans (congrArg (momAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_5]
  exact key y
theorem var_final (c : Dev nD) : (dats m 0 c).arrAt 6 cfg0.N = varAll m c := by
  refine (dats m 0 c).arrAt_eq_of_covers 6 _ (by decide +kernel) fun t hf y => ?_
  have key : ∀ y : S512x192.Idx, out0_6 (iblk m c 0 t) (iblk m c 1 t) (iblk m c 2 t) (iblk m c 3 t) y = varAll m c ((win0_6.blk t).view.emb y) := fun y => by
    have e0 : ((win0_6.blk t).view.emb y 0 : Fin 2048).val = 512 * t.val + (y 0).val := by blk_simp [at_6 t]; show t.val * 512 + _ = _; omega
    have e1 : ((win0_6.blk t).view.emb y 1 : Fin 192).val = (y 1).val := by blk_simp [at_6 t]
    canon_tiles x h using cover0_6 ..
    rw [ValueIdx.eq_ix2 x]
    refine (var_blk m c t (x 0) (x 1)).trans (congrArg (varAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_6]
  exact key y

end Cert.Kernel16Ideal.Run

end
-- ==== Proof.AdamwQkvClaims.lean ====
module

public import proofs.«01_k».proof.Proof.AdamwQkvValue
public import proofs.«01_k».proof.Proof.Gen.Reference16Ideal.Read
public import proofs.«01_k».proof.Proof.Gen.Reference16Ideal.Run
public import proofs.«01_k».proof.Proof.Gen.Kernel16
public import proofs.«01_k».proof.Defs

@[expose] public section

set_option maxRecDepth 16384

noncomputable section

/-! What the reference of the attention's input projection's weight's optimiser step computes, entry by entry, and the claims. -/

namespace Cert.AdamwQkv

open Idealize.ShloMosaic Idealize.ShloMosaic.TcCoe Idealize.ShloMosaic.Tactic Idealize.SL.Sem
open Cert.Kernel16Ideal.Run (newM newV delta cell)

section Reference

open Cert.Reference16Ideal Cert.Reference16Ideal.Read

variable (x0 x1 x2 x3 : Vec Ideal S2x1024x192 .f32) (l : Fin 2) (r : Fin 1024) (k : Fin 192)

theorem mom_at : val_main_v4 (F := Ideal) x1 x2 (ix3 l r k) = newM (x1 (ix3 l r k)) (x2 (ix3 l r k)) := by
  unfold val_main_v4 val_main_v3 val_main_v2 val_main_cst_0 val_main_v1 val_main_v0 val_main_cst newM
  pointwise
theorem var_at : val_main_v10 (F := Ideal) x1 x3 (ix3 l r k) = newV (x1 (ix3 l r k)) (x3 (ix3 l r k)) := by
  unfold val_main_v10 val_main_v9 val_main_v8 val_main_v7 val_main_cst_2 val_main_v6 val_main_v5 val_main_cst_1 newV
  pointwise
theorem delta_at : val_main_v23 (F := Ideal) x0 x1 x2 x3 (ix3 l r k) = delta (x0 (ix3 l r k)) (x1 (ix3 l r k)) (x2 (ix3 l r k)) (x3 (ix3 l r k)) := by
  unfold delta
  rw [← mom_at, ← var_at]
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise

theorem mom_row (r : Fin 2048) : val_main_v25 (F := Ideal) x1 x2 (ix2 r k) = newM (cell x1 r k) (cell x2 r k) := by
  refine Eq.trans ?_ (mom_at x1 x2 ⟨r.val / 1024, by omega⟩ ⟨r.val % 1024, Nat.mod_lt _ (by decide)⟩ k)
  unfold val_main_v25
  pointwise
theorem var_row (r : Fin 2048) : val_main_v26 (F := Ideal) x1 x3 (ix2 r k) = newV (cell x1 r k) (cell x3 r k) := by
  refine Eq.trans ?_ (var_at x1 x3 ⟨r.val / 1024, by omega⟩ ⟨r.val % 1024, Nat.mod_lt _ (by decide)⟩ k)
  unfold val_main_v26
  pointwise
theorem delta_row (r : Fin 2048) : val_main_v24 (F := Ideal) x0 x1 x2 x3 (ix2 r k) = delta (cell x0 r k) (cell x1 r k) (cell x2 r k) (cell x3 r k) := by
  refine Eq.trans ?_ (delta_at x0 x1 x2 x3 ⟨r.val / 1024, by omega⟩ ⟨r.val % 1024, Nat.mod_lt _ (by decide)⟩ k)
  unfold val_main_v24
  pointwise

end Reference

section Operand

open Cert.Kernel16Ideal Cert.Kernel16Ideal.Gen Cert.Kernel16Ideal.Run

variable (m : (ℓ : Loc nD τ sig) → Buf (Elt Ideal) ℓ) (c : Dev nD)

theorem delta_eq : Cert.Reference16Ideal.Read.val_main_v24 (F := Ideal) (argW m c) (argG m c) (argM m c) (argV m c) = deltaAll m c := by
  funext i
  rw [ValueIdx.eq_ix2 i]
  exact delta_row _ _ _ _ (i 1) (i 0)
theorem mom_eq : Cert.Reference16Ideal.Read.val_main_v25 (F := Ideal) (argG m c) (argM m c) = momAll m c := by
  funext i
  rw [ValueIdx.eq_ix2 i]
  exact mom_row _ _ (i 1) (i 0)
theorem var_eq : Cert.Reference16Ideal.Read.val_main_v26 (F := Ideal) (argG m c) (argV m c) = varAll m c := by
  funext i
  rw [ValueIdx.eq_ix2 i]
  exact var_row _ _ (i 1) (i 0)

end Operand

theorem frame_reference [Cert.Reference16Ideal.Facts] : Cert.quiescent_Reference16Ideal := fun m g _ =>
  (θ_run Cert.Reference16Ideal.defs _ _).mono
    (fun r h => ⟨fun c => (h c).2.2.2, sem_eq_zero_of_no_sems (by decide) r.2⟩) (Cert.Reference16Ideal.Value.run m g)

theorem rows_same : (Cert.Kernel16.defs₀ (F := Bits)) = (Cert.Kernel16Ideal.defs₀ (F := Bits)) := by
  unfold Cert.Kernel16.defs₀ Cert.Kernel16Ideal.defs₀
  refine congrArg Defs.onTc ?_
  funext l a
  match l, a with
  | 0, (t, s) => rfl

theorem defs_same : (Cert.Kernel16.defs (F := Bits)) = (Cert.Kernel16Ideal.defs (F := Bits)) := by
  unfold Cert.Kernel16.defs Cert.Kernel16Ideal.defs
  exact congrArg (Pipeline.defs _) rows_same

set_option maxHeartbeats 4000000 in
/-- The printed program runs, leaves its arguments and ends quiescent. -/
theorem quiescent [Cert.Kernel16.Facts] : Cert.quiescent_Kernel16 := fun m g _ => by
  rw [defs_same]
  exact Cert.Kernel16Ideal.Gen.frame m g

/-- The kernel's results are the reference's. -/
theorem algebraic [Cert.Kernel16Ideal.Facts] [Cert.Reference16Ideal.Facts] : Cert.algebraic_Kernel16Ideal_Reference16Ideal := by
  intro m g m' g' _ hag
  refine ⟨Cert.Kernel16Ideal.Run.deltaAll m, Cert.Kernel16Ideal.Run.momAll m, Cert.Kernel16Ideal.Run.varAll m,
    (θ_run Cert.Kernel16Ideal.defs _ _).mono (fun r h c => ?_) (Cert.Kernel16Ideal.Value.run_blocks m g),
    (θ_run Cert.Reference16Ideal.defs _ _).mono (fun r h c => ?_) (Cert.Reference16Ideal.Value.run m' g')⟩
  · obtain ⟨h0, h1, h2, hargs⟩ := h c
    exact ⟨h0.trans (Cert.Kernel16Ideal.Run.delta_final m c), h1.trans (Cert.Kernel16Ideal.Run.mom_final m c),
      h2.trans (Cert.Kernel16Ideal.Run.var_final m c), hargs⟩
  · obtain ⟨h0, h1, h2, hargs⟩ := h c
    obtain ⟨a0, a1, a2, a3⟩ := hag c
    refine ⟨h0.trans ?_, h1.trans ?_, h2.trans ?_, hargs⟩
    · refine (Cert.Reference16Ideal.Read.val_main_v24_eq _ _ _ _).trans ?_
      rw [a0, a1, a2, a3]
      exact delta_eq m c
    · refine (Cert.Reference16Ideal.Read.val_main_v25_eq _ _).trans ?_
      rw [a1, a2]
      exact mom_eq m c
    · refine (Cert.Reference16Ideal.Read.val_main_v26_eq _ _).trans ?_
      rw [a1, a3]
      exact var_eq m c

end Cert.AdamwQkv

end
-- ==== Proof.AdamwDownValue.lean ====
module

public import proofs.«01_k».proof.Proof.Gen.Kernel17Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Tiles

@[expose] public section

set_option maxRecDepth 16384

noncomputable section

/-! What the optimiser's step of the down-projection's weight holds, at the extended reals. -/

namespace Cert.Kernel17Ideal.Run

open Idealize.ShloMosaic Idealize.ShloMosaic.TcCoe Idealize.ShloMosaic.Tactic Idealize.SL.Sem
open Idealize.ShloMosaic.Pipeline (Dat)
open Cert.Kernel17Ideal.Gen

variable (m : (ℓ : Loc nD τ sig) → Buf (Elt Ideal) ℓ) (ρ : Dev nD → PrngReg)

/-- The arguments. -/
abbrev argW (c : Dev nD) : S4x352x1024.Idx → EReal := m ((c.tc : Thread nD τ).loc main_arg0)
abbrev argG (c : Dev nD) : S4x352x1024.Idx → EReal := m ((c.tc : Thread nD τ).loc main_arg1)
abbrev argM (c : Dev nD) : S4x352x1024.Idx → EReal := m ((c.tc : Thread nD τ).loc main_arg2)
abbrev argV (c : Dev nD) : S4x352x1024.Idx → EReal := m ((c.tc : Thread nD τ).loc main_arg3)

/-- The new first moment, second moment, and the change of the weight, from one entry of each array. -/
def newM (g m' : EReal) : EReal := FloatOps.ofBits (F := Ideal) .f32 0x3F666666#32 * m' + FloatOps.ofBits (F := Ideal) .f32 0x3DCCCCCD#32 * g
def newV (g v : EReal) : EReal := FloatOps.ofBits (F := Ideal) .f32 0x3F7FBE77#32 * v + FloatOps.ofBits (F := Ideal) .f32 0x3A83126F#32 * (g * g)
def delta (w g m' v : EReal) : EReal := FloatOps.ofBits (F := Ideal) .f32 0xBA83126F#32 *
  (Ideal.div (Ideal.div (newM g m') (FloatOps.ofBits (F := Ideal) .f32 0x3F26BD02#32))
    (Ideal.sqrt (Ideal.div (newV g v) (FloatOps.ofBits (F := Ideal) .f32 0x3C231ACC#32)) + FloatOps.ofBits (F := Ideal) .f32 0x322BCC77#32)
  + FloatOps.ofBits (F := Ideal) .f32 0x3C23D70A#32 * w)

theorem m_apply (g m' : Vec Ideal S352x1024 .f32) (r : Fin 352) (k : Fin 1024) :
    k0_pay2 g m' (ix2 r k) = newM (g (ix2 r k)) (m' (ix2 r k)) := by
  unfold k0_pay2 k0_pay1 newM; pointwise
theorem v_apply (g v : Vec Ideal S352x1024 .f32) (r : Fin 352) (k : Fin 1024) :
    k0_pay3 g v (ix2 r k) = newV (g (ix2 r k)) (v (ix2 r k)) := by
  unfold k0_pay3 k0_pay1 newV; pointwise
theorem d_apply (w g m' v : Vec Ideal S352x1024 .f32) (r : Fin 352) (k : Fin 1024) :
    k0_pay4 g m' v w (ix2 r k) = delta (w (ix2 r k)) (g (ix2 r k)) (m' (ix2 r k)) (v (ix2 r k)) := by
  unfold delta
  rw [← m_apply, ← v_apply]
  unfold k0_pay4; pointwise

theorem at_0 : ∀ t : Fin cfg0.N, win0_0.index t = ![t.val, 0] := by decide +kernel
theorem at_1 : ∀ t : Fin cfg0.N, win0_1.index t = ![t.val, 0] := by decide +kernel
theorem at_2 : ∀ t : Fin cfg0.N, win0_2.index t = ![t.val, 0] := by decide +kernel
theorem at_3 : ∀ t : Fin cfg0.N, win0_3.index t = ![t.val, 0] := by decide +kernel
theorem at_4 : ∀ t : Fin cfg0.N, win0_4.index t = ![t.val, 0] := by decide +kernel
theorem at_5 : ∀ t : Fin cfg0.N, win0_5.index t = ![t.val, 0] := by decide +kernel
theorem at_6 : ∀ t : Fin cfg0.N, win0_6.index t = ![t.val, 0] := by decide +kernel

theorem lt_4 (t : Fin cfg0.N) : t.val < 4 := lt_of_lt_of_eq t.isLt (show cfg0.N = 4 from N_0)

/-- The row of the array at a row of a block. -/
def rowAt (t : Fin cfg0.N) (r : Fin 352) : Fin 1408 := ⟨352 * t.val + r.val, by have := lt_4 t; omega⟩

/-- An array's entry by the row of all its layers laid end to end. -/
abbrev cell (x : S4x352x1024.Idx → EReal) (r : Fin 1408) (k : Fin 1024) : EReal := x (ix3 (⟨r.val / 352, by omega⟩ : Fin 4) (⟨r.val % 352, Nat.mod_lt _ (by decide)⟩ : Fin 352) k)

theorem flat_W (c : Dev nD) (r : Fin 1408) (k : Fin 1024) : (V m c main_v0 : Vec Ideal S1408x1024 .f32) (ix2 r k) = cell (argW m c) r k := by
  entry_read
  pointwise
theorem blk_W (c : Dev nD) (t : Fin cfg0.N) (r : Fin 352) (k : Fin 1024) :
    (iblk m c 0 t : Vec Ideal S352x1024 .f32) (ix2 r k) = cell (argW m c) (rowAt t r) k := by
  rw [← flat_W]
  unfold rowAt
  blk_ext! [iblk, at_0 t]
theorem flat_G (c : Dev nD) (r : Fin 1408) (k : Fin 1024) : (V m c main_v1 : Vec Ideal S1408x1024 .f32) (ix2 r k) = cell (argG m c) r k := by
  entry_read
  pointwise
theorem blk_G (c : Dev nD) (t : Fin cfg0.N) (r : Fin 352) (k : Fin 1024) :
    (iblk m c 1 t : Vec Ideal S352x1024 .f32) (ix2 r k) = cell (argG m c) (rowAt t r) k := by
  rw [← flat_G]
  unfold rowAt
  blk_ext! [iblk, at_1 t]
theorem flat_M (c : Dev nD) (r : Fin 1408) (k : Fin 1024) : (V m c main_v2 : Vec Ideal S1408x1024 .f32) (ix2 r k) = cell (argM m c) r k := by
  entry_read
  pointwise
theorem blk_M (c : Dev nD) (t : Fin cfg0.N) (r : Fin 352) (k : Fin 1024) :
    (iblk m c 2 t : Vec Ideal S352x1024 .f32) (ix2 r k) = cell (argM m c) (rowAt t r) k := by
  rw [← flat_M]
  unfold rowAt
  blk_ext! [iblk, at_2 t]
theorem flat_V (c : Dev nD) (r : Fin 1408) (k : Fin 1024) : (V m c main_v3 : Vec Ideal S1408x1024 .f32) (ix2 r k) = cell (argV m c) r k := by
  entry_read
  pointwise
theorem blk_V (c : Dev nD) (t : Fin cfg0.N) (r : Fin 352) (k : Fin 1024) :
    (iblk m c 3 t : Vec Ideal S352x1024 .f32) (ix2 r k) = cell (argV m c) (rowAt t r) k := by
  rw [← flat_V]
  unfold rowAt
  blk_ext! [iblk, at_3 t]

/-- A load of a whole block reads the block. -/
theorem load_whole (X : Vec Ideal S352x1024 .f32) (r : Fin 352) (k : Fin 1024) : View.ld X r0_0 (ix2 r k) = X (ix2 r k) :=
  View.ld_unit_apply_of X _ _ _ _ _ fun a => by match a with | ⟨0, _⟩ => simp | ⟨1, _⟩ => simp

/-- The results. -/
def deltaAll (c : Dev nD) : Vec Ideal S1408x1024 .f32 := fun i =>
  delta (cell (argW m c) (i 0) (i 1)) (cell (argG m c) (i 0) (i 1)) (cell (argM m c) (i 0) (i 1)) (cell (argV m c) (i 0) (i 1))
def momAll (c : Dev nD) : Vec Ideal S1408x1024 .f32 := fun i => newM (cell (argG m c) (i 0) (i 1)) (cell (argM m c) (i 0) (i 1))
def varAll (c : Dev nD) : Vec Ideal S1408x1024 .f32 := fun i => newV (cell (argG m c) (i 0) (i 1)) (cell (argV m c) (i 0) (i 1))

section Blocks

variable (c : Dev nD) (t : Fin cfg0.N)

theorem delta_blk (r : Fin 352) (k : Fin 1024) :
    k0_pay4 (View.ld (iblk m c 1 t) r0_0) (View.ld (iblk m c 2 t) r0_0) (View.ld (iblk m c 3 t) r0_0) (View.ld (iblk m c 0 t) r0_0) (ix2 r k)
      = deltaAll m c (ix2 (rowAt t r) k) := by
  refine (d_apply _ _ _ _ r k).trans ?_
  rw [load_whole, load_whole, load_whole, load_whole, blk_W, blk_G, blk_M, blk_V]
  rfl
theorem mom_blk (r : Fin 352) (k : Fin 1024) :
    k0_pay2 (View.ld (iblk m c 1 t) r0_0) (View.ld (iblk m c 2 t) r0_0) (ix2 r k) = momAll m c (ix2 (rowAt t r) k) := by
  refine (m_apply _ _ r k).trans ?_
  rw [load_whole, load_whole, blk_G, blk_M]
  rfl
theorem var_blk (r : Fin 352) (k : Fin 1024) :
    k0_pay3 (View.ld (iblk m c 1 t) r0_0) (View.ld (iblk m c 3 t) r0_0) (ix2 r k) = varAll m c (ix2 (rowAt t r) k) := by
  refine (v_apply _ _ r k).trans ?_
  rw [load_whole, load_whole, blk_G, blk_V]
  rfl

end Blocks

theorem delta_final (c : Dev nD) : (dats m 0 c).arrAt 4 cfg0.N = deltaAll m c := by
  refine (dats m 0 c).arrAt_eq_of_covers 4 _ (by decide +kernel) fun t hf y => ?_
  have key : ∀ y : S352x1024.Idx, out0_4 (iblk m c 0 t) (iblk m c 1 t) (iblk m c 2 t) (iblk m c 3 t) y = deltaAll m c ((win0_4.blk t).view.emb y) := fun y => by
    have e0 : ((win0_4.blk t).view.emb y 0 : Fin 1408).val = 352 * t.val + (y 0).val := by blk_simp [at_4 t]; show t.val * 352 + _ = _; omega
    have e1 : ((win0_4.blk t).view.emb y 1 : Fin 1024).val = (y 1).val := by blk_simp [at_4 t]
    canon_tiles x h using cover0_4 ..
    rw [ValueIdx.eq_ix2 x]
    refine (delta_blk m c t (x 0) (x 1)).trans (congrArg (deltaAll m c) (funext fun a => ?_))
    match a with
    | ⟨0, _⟩ => exact Fin.ext ((congrArg (352 * t.val + ·) h0.symm).trans e0.symm)
    | ⟨1, _⟩ => exact Fin.ext (h1.symm.trans e1.symm)
  blk_simp
  rw [after0_4]
  exact key y
theorem mom_final (c : Dev nD) : (dats m 0 c).arrAt 5 cfg0.N = momAll m c := by
  refine (dats m 0 c).arrAt_eq_of_covers 5 _ (by decide +kernel) fun t hf y => ?_
  have key : ∀ y : S352x1024.Idx, out0_5 (iblk m c 0 t) (iblk m c 1 t) (iblk m c 2 t) (iblk m c 3 t) y = momAll m c ((win0_5.blk t).view.emb y) := fun y => by
    have e0 : ((win0_5.blk t).view.emb y 0 : Fin 1408).val = 352 * t.val + (y 0).val := by blk_simp [at_5 t]; show t.val * 352 + _ = _; omega
    have e1 : ((win0_5.blk t).view.emb y 1 : Fin 1024).val = (y 1).val := by blk_simp [at_5 t]
    canon_tiles x h using cover0_5 ..
    rw [ValueIdx.eq_ix2 x]
    refine (mom_blk m c t (x 0) (x 1)).trans (congrArg (momAll m c) (funext fun a => ?_))
    match a with
    | ⟨0, _⟩ => exact Fin.ext ((congrArg (352 * t.val + ·) h0.symm).trans e0.symm)
    | ⟨1, _⟩ => exact Fin.ext (h1.symm.trans e1.symm)
  blk_simp
  rw [after0_5]
  exact key y
theorem var_final (c : Dev nD) : (dats m 0 c).arrAt 6 cfg0.N = varAll m c := by
  refine (dats m 0 c).arrAt_eq_of_covers 6 _ (by decide +kernel) fun t hf y => ?_
  have key : ∀ y : S352x1024.Idx, out0_6 (iblk m c 0 t) (iblk m c 1 t) (iblk m c 2 t) (iblk m c 3 t) y = varAll m c ((win0_6.blk t).view.emb y) := fun y => by
    have e0 : ((win0_6.blk t).view.emb y 0 : Fin 1408).val = 352 * t.val + (y 0).val := by blk_simp [at_6 t]; show t.val * 352 + _ = _; omega
    have e1 : ((win0_6.blk t).view.emb y 1 : Fin 1024).val = (y 1).val := by blk_simp [at_6 t]
    canon_tiles x h using cover0_6 ..
    rw [ValueIdx.eq_ix2 x]
    refine (var_blk m c t (x 0) (x 1)).trans (congrArg (varAll m c) (funext fun a => ?_))
    match a with
    | ⟨0, _⟩ => exact Fin.ext ((congrArg (352 * t.val + ·) h0.symm).trans e0.symm)
    | ⟨1, _⟩ => exact Fin.ext (h1.symm.trans e1.symm)
  blk_simp
  rw [after0_6]
  exact key y

end Cert.Kernel17Ideal.Run

end
-- ==== Proof.AdamwDownClaims.lean ====
module

public import proofs.«01_k».proof.Proof.AdamwDownValue
public import proofs.«01_k».proof.Proof.Gen.Reference17Ideal.Read
public import proofs.«01_k».proof.Proof.Gen.Reference17Ideal.Run
public import proofs.«01_k».proof.Proof.Gen.Kernel17
public import proofs.«01_k».proof.Defs

@[expose] public section

set_option maxRecDepth 16384

noncomputable section

/-! What the reference of the down-projection's weight's optimiser step computes, entry by entry, and the claims. -/

namespace Cert.AdamwDown

open Idealize.ShloMosaic Idealize.ShloMosaic.TcCoe Idealize.ShloMosaic.Tactic Idealize.SL.Sem
open Cert.Kernel17Ideal.Run (newM newV delta cell)

section Reference

open Cert.Reference17Ideal Cert.Reference17Ideal.Read

variable (x0 x1 x2 x3 : Vec Ideal S4x352x1024 .f32) (l : Fin 4) (r : Fin 352) (k : Fin 1024)

theorem mom_at : val_main_v4 (F := Ideal) x1 x2 (ix3 l r k) = newM (x1 (ix3 l r k)) (x2 (ix3 l r k)) := by
  unfold val_main_v4 val_main_v3 val_main_v2 val_main_cst_0 val_main_v1 val_main_v0 val_main_cst newM
  pointwise
theorem var_at : val_main_v10 (F := Ideal) x1 x3 (ix3 l r k) = newV (x1 (ix3 l r k)) (x3 (ix3 l r k)) := by
  unfold val_main_v10 val_main_v9 val_main_v8 val_main_v7 val_main_cst_2 val_main_v6 val_main_v5 val_main_cst_1 newV
  pointwise
theorem delta_at : val_main_v23 (F := Ideal) x0 x1 x2 x3 (ix3 l r k) = delta (x0 (ix3 l r k)) (x1 (ix3 l r k)) (x2 (ix3 l r k)) (x3 (ix3 l r k)) := by
  unfold delta
  rw [← mom_at, ← var_at]
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise

theorem mom_row (r : Fin 1408) : val_main_v25 (F := Ideal) x1 x2 (ix2 r k) = newM (cell x1 r k) (cell x2 r k) := by
  refine Eq.trans ?_ (mom_at x1 x2 ⟨r.val / 352, by omega⟩ ⟨r.val % 352, Nat.mod_lt _ (by decide)⟩ k)
  unfold val_main_v25
  pointwise
theorem var_row (r : Fin 1408) : val_main_v26 (F := Ideal) x1 x3 (ix2 r k) = newV (cell x1 r k) (cell x3 r k) := by
  refine Eq.trans ?_ (var_at x1 x3 ⟨r.val / 352, by omega⟩ ⟨r.val % 352, Nat.mod_lt _ (by decide)⟩ k)
  unfold val_main_v26
  pointwise
theorem delta_row (r : Fin 1408) : val_main_v24 (F := Ideal) x0 x1 x2 x3 (ix2 r k) = delta (cell x0 r k) (cell x1 r k) (cell x2 r k) (cell x3 r k) := by
  refine Eq.trans ?_ (delta_at x0 x1 x2 x3 ⟨r.val / 352, by omega⟩ ⟨r.val % 352, Nat.mod_lt _ (by decide)⟩ k)
  unfold val_main_v24
  pointwise

end Reference

section Operand

open Cert.Kernel17Ideal Cert.Kernel17Ideal.Gen Cert.Kernel17Ideal.Run

variable (m : (ℓ : Loc nD τ sig) → Buf (Elt Ideal) ℓ) (c : Dev nD)

theorem delta_eq : Cert.Reference17Ideal.Read.val_main_v24 (F := Ideal) (argW m c) (argG m c) (argM m c) (argV m c) = deltaAll m c := by
  funext i
  rw [ValueIdx.eq_ix2 i]
  exact delta_row _ _ _ _ (i 1) (i 0)
theorem mom_eq : Cert.Reference17Ideal.Read.val_main_v25 (F := Ideal) (argG m c) (argM m c) = momAll m c := by
  funext i
  rw [ValueIdx.eq_ix2 i]
  exact mom_row _ _ (i 1) (i 0)
theorem var_eq : Cert.Reference17Ideal.Read.val_main_v26 (F := Ideal) (argG m c) (argV m c) = varAll m c := by
  funext i
  rw [ValueIdx.eq_ix2 i]
  exact var_row _ _ (i 1) (i 0)

end Operand

theorem frame_reference [Cert.Reference17Ideal.Facts] : Cert.quiescent_Reference17Ideal := fun m g _ =>
  (θ_run Cert.Reference17Ideal.defs _ _).mono
    (fun r h => ⟨fun c => (h c).2.2.2, sem_eq_zero_of_no_sems (by decide) r.2⟩) (Cert.Reference17Ideal.Value.run m g)

theorem rows_same : (Cert.Kernel17.defs₀ (F := Bits)) = (Cert.Kernel17Ideal.defs₀ (F := Bits)) := by
  unfold Cert.Kernel17.defs₀ Cert.Kernel17Ideal.defs₀
  refine congrArg Defs.onTc ?_
  funext l a
  match l, a with
  | 0, (t, s) => rfl

theorem defs_same : (Cert.Kernel17.defs (F := Bits)) = (Cert.Kernel17Ideal.defs (F := Bits)) := by
  unfold Cert.Kernel17.defs Cert.Kernel17Ideal.defs
  exact congrArg (Pipeline.defs _) rows_same

set_option maxHeartbeats 4000000 in
/-- The printed program runs, leaves its arguments and ends quiescent. -/
theorem quiescent [Cert.Kernel17.Facts] : Cert.quiescent_Kernel17 := fun m g _ => by
  rw [defs_same]
  exact Cert.Kernel17Ideal.Gen.frame m g

/-- The kernel's results are the reference's. -/
theorem algebraic [Cert.Kernel17Ideal.Facts] [Cert.Reference17Ideal.Facts] : Cert.algebraic_Kernel17Ideal_Reference17Ideal := by
  intro m g m' g' _ hag
  refine ⟨Cert.Kernel17Ideal.Run.deltaAll m, Cert.Kernel17Ideal.Run.momAll m, Cert.Kernel17Ideal.Run.varAll m,
    (θ_run Cert.Kernel17Ideal.defs _ _).mono (fun r h c => ?_) (Cert.Kernel17Ideal.Value.run_blocks m g),
    (θ_run Cert.Reference17Ideal.defs _ _).mono (fun r h c => ?_) (Cert.Reference17Ideal.Value.run m' g')⟩
  · obtain ⟨h0, h1, h2, hargs⟩ := h c
    exact ⟨h0.trans (Cert.Kernel17Ideal.Run.delta_final m c), h1.trans (Cert.Kernel17Ideal.Run.mom_final m c),
      h2.trans (Cert.Kernel17Ideal.Run.var_final m c), hargs⟩
  · obtain ⟨h0, h1, h2, hargs⟩ := h c
    obtain ⟨a0, a1, a2, a3⟩ := hag c
    refine ⟨h0.trans ?_, h1.trans ?_, h2.trans ?_, hargs⟩
    · refine (Cert.Reference17Ideal.Read.val_main_v24_eq _ _ _ _).trans ?_
      rw [a0, a1, a2, a3]
      exact delta_eq m c
    · refine (Cert.Reference17Ideal.Read.val_main_v25_eq _ _).trans ?_
      rw [a1, a2]
      exact mom_eq m c
    · refine (Cert.Reference17Ideal.Read.val_main_v26_eq _ _).trans ?_
      rw [a1, a3]
      exact var_eq m c

end Cert.AdamwDown

end
-- ==== Proof.AdamwModValue.lean ====
module

public import proofs.«01_k».proof.Proof.Gen.Kernel18Ideal.Value
public import Idealize.ShloMosaic.Lib.Pipeline.Value
public import Idealize.ShloMosaic.Lib.Claim
public import Idealize.ShloMosaic.Lib.Pipeline.ValueKit.Point
public import Idealize.ShloMosaic.Lib.Pipeline.ValueKit.Tiles

@[expose] public section

set_option maxRecDepth 16384

noncomputable section

/-! What the optimiser's step of the modulation's weight holds, at the extended reals. -/

namespace Cert.Kernel18Ideal.Run

open Idealize.ShloMosaic Idealize.ShloMosaic.TcCoe Idealize.ShloMosaic.Tactic Idealize.SL.Sem
open Idealize.ShloMosaic.Pipeline (Dat)
open Cert.Kernel18Ideal.Gen

variable (m : (ℓ : Loc nD τ sig) → Buf (Elt Ideal) ℓ) (ρ : Dev nD → PrngReg)

/-- The arguments. -/
abbrev argW (c : Dev nD) : S4x1024x768.Idx → EReal := m ((c.tc : Thread nD τ).loc main_arg0)
abbrev argG (c : Dev nD) : S4x1024x768.Idx → EReal := m ((c.tc : Thread nD τ).loc main_arg1)
abbrev argM (c : Dev nD) : S4x1024x768.Idx → EReal := m ((c.tc : Thread nD τ).loc main_arg2)
abbrev argV (c : Dev nD) : S4x1024x768.Idx → EReal := m ((c.tc : Thread nD τ).loc main_arg3)

/-- The new first moment, second moment, and the change of the weight, from one entry of each array. -/
def newM (g m' : EReal) : EReal := FloatOps.ofBits (F := Ideal) .f32 0x3F666666#32 * m' + FloatOps.ofBits (F := Ideal) .f32 0x3DCCCCCD#32 * g
def newV (g v : EReal) : EReal := FloatOps.ofBits (F := Ideal) .f32 0x3F7FBE77#32 * v + FloatOps.ofBits (F := Ideal) .f32 0x3A83126F#32 * (g * g)
def delta (w g m' v : EReal) : EReal := FloatOps.ofBits (F := Ideal) .f32 0xBA83126F#32 *
  (Ideal.div (Ideal.div (newM g m') (FloatOps.ofBits (F := Ideal) .f32 0x3F26BD02#32))
    (Ideal.sqrt (Ideal.div (newV g v) (FloatOps.ofBits (F := Ideal) .f32 0x3C231ACC#32)) + FloatOps.ofBits (F := Ideal) .f32 0x322BCC77#32)
  + FloatOps.ofBits (F := Ideal) .f32 0x3C23D70A#32 * w)

theorem m_apply (g m' : Vec Ideal S512x768 .f32) (r : Fin 512) (k : Fin 768) :
    k0_pay2 g m' (ix2 r k) = newM (g (ix2 r k)) (m' (ix2 r k)) := by
  unfold k0_pay2 k0_pay1 newM; pointwise
theorem v_apply (g v : Vec Ideal S512x768 .f32) (r : Fin 512) (k : Fin 768) :
    k0_pay3 g v (ix2 r k) = newV (g (ix2 r k)) (v (ix2 r k)) := by
  unfold k0_pay3 k0_pay1 newV; pointwise
theorem d_apply (w g m' v : Vec Ideal S512x768 .f32) (r : Fin 512) (k : Fin 768) :
    k0_pay4 g m' v w (ix2 r k) = delta (w (ix2 r k)) (g (ix2 r k)) (m' (ix2 r k)) (v (ix2 r k)) := by
  unfold delta
  rw [← m_apply, ← v_apply]
  unfold k0_pay4; pointwise

theorem at_0 : ∀ t : Fin cfg0.N, win0_0.index t = ![t.val, 0] := by decide +kernel
theorem at_1 : ∀ t : Fin cfg0.N, win0_1.index t = ![t.val, 0] := by decide +kernel
theorem at_2 : ∀ t : Fin cfg0.N, win0_2.index t = ![t.val, 0] := by decide +kernel
theorem at_3 : ∀ t : Fin cfg0.N, win0_3.index t = ![t.val, 0] := by decide +kernel
theorem at_4 : ∀ t : Fin cfg0.N, win0_4.index t = ![t.val, 0] := by decide +kernel
theorem at_5 : ∀ t : Fin cfg0.N, win0_5.index t = ![t.val, 0] := by decide +kernel
theorem at_6 : ∀ t : Fin cfg0.N, win0_6.index t = ![t.val, 0] := by decide +kernel

theorem lt_8 (t : Fin cfg0.N) : t.val < 8 := lt_of_lt_of_eq t.isLt (show cfg0.N = 8 from N_0)

/-- The row of the array at a row of a block. -/
def rowAt (t : Fin cfg0.N) (r : Fin 512) : Fin 4096 := ⟨512 * t.val + r.val, by have := lt_8 t; omega⟩

/-- An array's entry by the row of all its layers laid end to end. -/
abbrev cell (x : S4x1024x768.Idx → EReal) (r : Fin 4096) (k : Fin 768) : EReal := x (ix3 (⟨r.val / 1024, by omega⟩ : Fin 4) (⟨r.val % 1024, Nat.mod_lt _ (by decide)⟩ : Fin 1024) k)

theorem flat_W (c : Dev nD) (r : Fin 4096) (k : Fin 768) : (V m c main_v0 : Vec Ideal S4096x768 .f32) (ix2 r k) = cell (argW m c) r k := by
  entry_read
  pointwise
theorem blk_W (c : Dev nD) (t : Fin cfg0.N) (r : Fin 512) (k : Fin 768) :
    (iblk m c 0 t : Vec Ideal S512x768 .f32) (ix2 r k) = cell (argW m c) (rowAt t r) k := by
  rw [← flat_W]
  unfold rowAt
  blk_ext! [iblk, at_0 t]
theorem flat_G (c : Dev nD) (r : Fin 4096) (k : Fin 768) : (V m c main_v1 : Vec Ideal S4096x768 .f32) (ix2 r k) = cell (argG m c) r k := by
  entry_read
  pointwise
theorem blk_G (c : Dev nD) (t : Fin cfg0.N) (r : Fin 512) (k : Fin 768) :
    (iblk m c 1 t : Vec Ideal S512x768 .f32) (ix2 r k) = cell (argG m c) (rowAt t r) k := by
  rw [← flat_G]
  unfold rowAt
  blk_ext! [iblk, at_1 t]
theorem flat_M (c : Dev nD) (r : Fin 4096) (k : Fin 768) : (V m c main_v2 : Vec Ideal S4096x768 .f32) (ix2 r k) = cell (argM m c) r k := by
  entry_read
  pointwise
theorem blk_M (c : Dev nD) (t : Fin cfg0.N) (r : Fin 512) (k : Fin 768) :
    (iblk m c 2 t : Vec Ideal S512x768 .f32) (ix2 r k) = cell (argM m c) (rowAt t r) k := by
  rw [← flat_M]
  unfold rowAt
  blk_ext! [iblk, at_2 t]
theorem flat_V (c : Dev nD) (r : Fin 4096) (k : Fin 768) : (V m c main_v3 : Vec Ideal S4096x768 .f32) (ix2 r k) = cell (argV m c) r k := by
  entry_read
  pointwise
theorem blk_V (c : Dev nD) (t : Fin cfg0.N) (r : Fin 512) (k : Fin 768) :
    (iblk m c 3 t : Vec Ideal S512x768 .f32) (ix2 r k) = cell (argV m c) (rowAt t r) k := by
  rw [← flat_V]
  unfold rowAt
  blk_ext! [iblk, at_3 t]

/-- A load of a whole block reads the block. -/
theorem load_whole (X : Vec Ideal S512x768 .f32) (r : Fin 512) (k : Fin 768) : View.ld X r0_0 (ix2 r k) = X (ix2 r k) :=
  View.ld_unit_apply_of X _ _ _ _ _ fun a => by match a with | ⟨0, _⟩ => simp | ⟨1, _⟩ => simp

/-- The results. -/
def deltaAll (c : Dev nD) : Vec Ideal S4096x768 .f32 := fun i =>
  delta (cell (argW m c) (i 0) (i 1)) (cell (argG m c) (i 0) (i 1)) (cell (argM m c) (i 0) (i 1)) (cell (argV m c) (i 0) (i 1))
def momAll (c : Dev nD) : Vec Ideal S4096x768 .f32 := fun i => newM (cell (argG m c) (i 0) (i 1)) (cell (argM m c) (i 0) (i 1))
def varAll (c : Dev nD) : Vec Ideal S4096x768 .f32 := fun i => newV (cell (argG m c) (i 0) (i 1)) (cell (argV m c) (i 0) (i 1))

section Blocks

variable (c : Dev nD) (t : Fin cfg0.N)

theorem delta_blk (r : Fin 512) (k : Fin 768) :
    k0_pay4 (View.ld (iblk m c 1 t) r0_0) (View.ld (iblk m c 2 t) r0_0) (View.ld (iblk m c 3 t) r0_0) (View.ld (iblk m c 0 t) r0_0) (ix2 r k)
      = deltaAll m c (ix2 (rowAt t r) k) := by
  refine (d_apply _ _ _ _ r k).trans ?_
  rw [load_whole, load_whole, load_whole, load_whole, blk_W, blk_G, blk_M, blk_V]
  rfl
theorem mom_blk (r : Fin 512) (k : Fin 768) :
    k0_pay2 (View.ld (iblk m c 1 t) r0_0) (View.ld (iblk m c 2 t) r0_0) (ix2 r k) = momAll m c (ix2 (rowAt t r) k) := by
  refine (m_apply _ _ r k).trans ?_
  rw [load_whole, load_whole, blk_G, blk_M]
  rfl
theorem var_blk (r : Fin 512) (k : Fin 768) :
    k0_pay3 (View.ld (iblk m c 1 t) r0_0) (View.ld (iblk m c 3 t) r0_0) (ix2 r k) = varAll m c (ix2 (rowAt t r) k) := by
  refine (v_apply _ _ r k).trans ?_
  rw [load_whole, load_whole, blk_G, blk_V]
  rfl

end Blocks

theorem delta_final (c : Dev nD) : (dats m 0 c).arrAt 4 cfg0.N = deltaAll m c := by
  refine (dats m 0 c).arrAt_eq_of_covers 4 _ (by decide +kernel) fun t hf y => ?_
  have key : ∀ y : S512x768.Idx, out0_4 (iblk m c 0 t) (iblk m c 1 t) (iblk m c 2 t) (iblk m c 3 t) y = deltaAll m c ((win0_4.blk t).view.emb y) := fun y => by
    have e0 : ((win0_4.blk t).view.emb y 0 : Fin 4096).val = 512 * t.val + (y 0).val := by blk_simp [at_4 t]; show t.val * 512 + _ = _; omega
    have e1 : ((win0_4.blk t).view.emb y 1 : Fin 768).val = (y 1).val := by blk_simp [at_4 t]
    canon_tiles x h using cover0_4 ..
    rw [ValueIdx.eq_ix2 x]
    refine (delta_blk m c t (x 0) (x 1)).trans (congrArg (deltaAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_4]
  exact key y
theorem mom_final (c : Dev nD) : (dats m 0 c).arrAt 5 cfg0.N = momAll m c := by
  refine (dats m 0 c).arrAt_eq_of_covers 5 _ (by decide +kernel) fun t hf y => ?_
  have key : ∀ y : S512x768.Idx, out0_5 (iblk m c 0 t) (iblk m c 1 t) (iblk m c 2 t) (iblk m c 3 t) y = momAll m c ((win0_5.blk t).view.emb y) := fun y => by
    have e0 : ((win0_5.blk t).view.emb y 0 : Fin 4096).val = 512 * t.val + (y 0).val := by blk_simp [at_5 t]; show t.val * 512 + _ = _; omega
    have e1 : ((win0_5.blk t).view.emb y 1 : Fin 768).val = (y 1).val := by blk_simp [at_5 t]
    canon_tiles x h using cover0_5 ..
    rw [ValueIdx.eq_ix2 x]
    refine (mom_blk m c t (x 0) (x 1)).trans (congrArg (momAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_5]
  exact key y
theorem var_final (c : Dev nD) : (dats m 0 c).arrAt 6 cfg0.N = varAll m c := by
  refine (dats m 0 c).arrAt_eq_of_covers 6 _ (by decide +kernel) fun t hf y => ?_
  have key : ∀ y : S512x768.Idx, out0_6 (iblk m c 0 t) (iblk m c 1 t) (iblk m c 2 t) (iblk m c 3 t) y = varAll m c ((win0_6.blk t).view.emb y) := fun y => by
    have e0 : ((win0_6.blk t).view.emb y 0 : Fin 4096).val = 512 * t.val + (y 0).val := by blk_simp [at_6 t]; show t.val * 512 + _ = _; omega
    have e1 : ((win0_6.blk t).view.emb y 1 : Fin 768).val = (y 1).val := by blk_simp [at_6 t]
    canon_tiles x h using cover0_6 ..
    rw [ValueIdx.eq_ix2 x]
    refine (var_blk m c t (x 0) (x 1)).trans (congrArg (varAll m c) (funext fun a => ?_))
    match a with
    | ⟨0, _⟩ => exact Fin.ext ((congrArg (512 * t.val + ·) h0.symm).trans e0.symm)
    | ⟨1, _⟩ => exact Fin.ext (h1.symm.trans e1.symm)
  blk_simp
  rw [after0_6]
  exact key y

end Cert.Kernel18Ideal.Run

end
-- ==== Proof.AdamwModClaims.lean ====
module

public import proofs.«01_k».proof.Proof.AdamwModValue
public import proofs.«01_k».proof.Proof.Gen.Reference18Ideal.Read
public import proofs.«01_k».proof.Proof.Gen.Reference18Ideal.Run
public import proofs.«01_k».proof.Proof.Gen.Kernel18
public import proofs.«01_k».proof.Defs

@[expose] public section

set_option maxRecDepth 16384

noncomputable section

/-! What the reference of the modulation's weight's optimiser step computes, entry by entry, and the claims. -/

namespace Cert.AdamwMod

open Idealize.ShloMosaic Idealize.ShloMosaic.TcCoe Idealize.ShloMosaic.Tactic Idealize.SL.Sem
open Cert.Kernel18Ideal.Run (newM newV delta cell)

section Reference

open Cert.Reference18Ideal Cert.Reference18Ideal.Read

variable (x0 x1 x2 x3 : Vec Ideal S4x1024x768 .f32) (l : Fin 4) (r : Fin 1024) (k : Fin 768)

theorem mom_at : val_main_v4 (F := Ideal) x1 x2 (ix3 l r k) = newM (x1 (ix3 l r k)) (x2 (ix3 l r k)) := by
  unfold val_main_v4 val_main_v3 val_main_v2 val_main_cst_0 val_main_v1 val_main_v0 val_main_cst newM
  pointwise
theorem var_at : val_main_v10 (F := Ideal) x1 x3 (ix3 l r k) = newV (x1 (ix3 l r k)) (x3 (ix3 l r k)) := by
  unfold val_main_v10 val_main_v9 val_main_v8 val_main_v7 val_main_cst_2 val_main_v6 val_main_v5 val_main_cst_1 newV
  pointwise
theorem delta_at : val_main_v23 (F := Ideal) x0 x1 x2 x3 (ix3 l r k) = delta (x0 (ix3 l r k)) (x1 (ix3 l r k)) (x2 (ix3 l r k)) (x3 (ix3 l r k)) := by
  unfold delta
  rw [← mom_at, ← var_at]
  unfold val_main_v23 val_main_v22 val_main_cst_7 val_main_v21 val_main_v20 val_main_v19 val_main_cst_6 val_main_v18 val_main_v17 val_main_v16 val_main_cst_5 val_main_v15 val_main_v14 val_main_v13 val_main_cst_4 val_main_v12 val_main_v11 val_main_cst_3
  pointwise

theorem mom_row (r : Fin 4096) : val_main_v25 (F := Ideal) x1 x2 (ix2 r k) = newM (cell x1 r k) (cell x2 r k) := by
  refine Eq.trans ?_ (mom_at x1 x2 ⟨r.val / 1024, by omega⟩ ⟨r.val % 1024, Nat.mod_lt _ (by decide)⟩ k)
  unfold val_main_v25
  pointwise
theorem var_row (r : Fin 4096) : val_main_v26 (F := Ideal) x1 x3 (ix2 r k) = newV (cell x1 r k) (cell x3 r k) := by
  refine Eq.trans ?_ (var_at x1 x3 ⟨r.val / 1024, by omega⟩ ⟨r.val % 1024, Nat.mod_lt _ (by decide)⟩ k)
  unfold val_main_v26
  pointwise
theorem delta_row (r : Fin 4096) : val_main_v24 (F := Ideal) x0 x1 x2 x3 (ix2 r k) = delta (cell x0 r k) (cell x1 r k) (cell x2 r k) (cell x3 r k) := by
  refine Eq.trans ?_ (delta_at x0 x1 x2 x3 ⟨r.val / 1024, by omega⟩ ⟨r.val % 1024, Nat.mod_lt _ (by decide)⟩ k)
  unfold val_main_v24
  pointwise

end Reference

section Operand

open Cert.Kernel18Ideal Cert.Kernel18Ideal.Gen Cert.Kernel18Ideal.Run

variable (m : (ℓ : Loc nD τ sig) → Buf (Elt Ideal) ℓ) (c : Dev nD)

theorem delta_eq : Cert.Reference18Ideal.Read.val_main_v24 (F := Ideal) (argW m c) (argG m c) (argM m c) (argV m c) = deltaAll m c := by
  funext i
  rw [ValueIdx.eq_ix2 i]
  exact delta_row _ _ _ _ (i 1) (i 0)
theorem mom_eq : Cert.Reference18Ideal.Read.val_main_v25 (F := Ideal) (argG m c) (argM m c) = momAll m c := by
  funext i
  rw [ValueIdx.eq_ix2 i]
  exact mom_row _ _ (i 1) (i 0)
theorem var_eq : Cert.Reference18Ideal.Read.val_main_v26 (F := Ideal) (argG m c) (argV m c) = varAll m c := by
  funext i
  rw [ValueIdx.eq_ix2 i]
  exact var_row _ _ (i 1) (i 0)

end Operand

theorem frame_reference [Cert.Reference18Ideal.Facts] : Cert.quiescent_Reference18Ideal := fun m g _ =>
  (θ_run Cert.Reference18Ideal.defs _ _).mono
    (fun r h => ⟨fun c => (h c).2.2.2, sem_eq_zero_of_no_sems (by decide) r.2⟩) (Cert.Reference18Ideal.Value.run m g)

theorem rows_same : (Cert.Kernel18.defs₀ (F := Bits)) = (Cert.Kernel18Ideal.defs₀ (F := Bits)) := by
  unfold Cert.Kernel18.defs₀ Cert.Kernel18Ideal.defs₀
  refine congrArg Defs.onTc ?_
  funext l a
  match l, a with
  | 0, (t, s) => rfl

theorem defs_same : (Cert.Kernel18.defs (F := Bits)) = (Cert.Kernel18Ideal.defs (F := Bits)) := by
  unfold Cert.Kernel18.defs Cert.Kernel18Ideal.defs
  exact congrArg (Pipeline.defs _) rows_same

set_option maxHeartbeats 4000000 in
/-- The printed program runs, leaves its arguments and ends quiescent. -/
theorem quiescent [Cert.Kernel18.Facts] : Cert.quiescent_Kernel18 := fun m g _ => by
  rw [defs_same]
  exact Cert.Kernel18Ideal.Gen.frame m g

/-- The kernel's results are the reference's. -/
theorem algebraic [Cert.Kernel18Ideal.Facts] [Cert.Reference18Ideal.Facts] : Cert.algebraic_Kernel18Ideal_Reference18Ideal := by
  intro m g m' g' _ hag
  refine ⟨Cert.Kernel18Ideal.Run.deltaAll m, Cert.Kernel18Ideal.Run.momAll m, Cert.Kernel18Ideal.Run.varAll m,
    (θ_run Cert.Kernel18Ideal.defs _ _).mono (fun r h c => ?_) (Cert.Kernel18Ideal.Value.run_blocks m g),
    (θ_run Cert.Reference18Ideal.defs _ _).mono (fun r h c => ?_) (Cert.Reference18Ideal.Value.run m' g')⟩
  · obtain ⟨h0, h1, h2, hargs⟩ := h c
    exact ⟨h0.trans (Cert.Kernel18Ideal.Run.delta_final m c), h1.trans (Cert.Kernel18Ideal.Run.mom_final m c),
      h2.trans (Cert.Kernel18Ideal.Run.var_final m c), hargs⟩
  · obtain ⟨h0, h1, h2, hargs⟩ := h c
    obtain ⟨a0, a1, a2, a3⟩ := hag c
    refine ⟨h0.trans ?_, h1.trans ?_, h2.trans ?_, hargs⟩
    · refine (Cert.Reference18Ideal.Read.val_main_v24_eq _ _ _ _).trans ?_
      rw [a0, a1, a2, a3]
      exact delta_eq m c
    · refine (Cert.Reference18Ideal.Read.val_main_v25_eq _ _).trans ?_
      rw [a1, a2]
      exact mom_eq m c
    · refine (Cert.Reference18Ideal.Read.val_main_v26_eq _ _).trans ?_
      rw [a1, a3]
      exact var_eq m c

end Cert.AdamwMod

end
-- ==== Proof.AdamwSmallPack.lean ====
module

public import proofs.«01_k».proof.Proof.Gen.Kernel19Ideal
public import Idealize.ShloMosaic.Lib.Pipeline.Value
public import Idealize.ShloMosaic.Lib.Pointwise

@[expose] public section

set_option maxRecDepth 16384

noncomputable section

/-! Arrays laid end to end, and the optimiser's step of one entry. -/

namespace Cert.Kernel19Ideal.Run

open Idealize.ShloMosaic Idealize.ShloMosaic.TcCoe Idealize.SL.Sem
open Cert.Kernel19Ideal.Gen

/-- Twelve arrays laid end to end, filled up to 448 rows of 128 with one value. -/
def packed {α : Type} (z : S_.Idx → α) (x0 : S1024.Idx → α) (x1 : S4x6144.Idx → α) (x2 : S4x1024.Idx → α) (x3 : S4x1024.Idx → α) (x4 : S2x3x64.Idx → α) (x5 : S2x31x64.Idx → α) (x6 : S2x512.Idx → α) (x7 : S2x512.Idx → α) (x8 : S2x512.Idx → α) (x9 : S2x16.Idx → α) (x10 : S4x3x704.Idx → α) (x11 : S1024.Idx → α) : S448x128.Idx → α :=
  shapeCast S448x128 (pad S57344 ![0] ![6624] ![0] (concatenate S50720 0 [⟨S1024, x0⟩, ⟨S24576, shapeCast S24576 x1 shapeCasts_S4x6144_S24576⟩, ⟨S4096, shapeCast S4096 x2 shapeCasts_S4x1024_S4096⟩, ⟨S4096, shapeCast S4096 x3 shapeCasts_S4x1024_S4096⟩, ⟨S384, shapeCast S384 x4 shapeCasts_S2x3x64_S384⟩, ⟨S3968, shapeCast S3968 x5 shapeCasts_S2x31x64_S3968⟩, ⟨S1024, shapeCast S1024 x6 shapeCasts_S2x512_S1024⟩, ⟨S1024, shapeCast S1024 x7 shapeCasts_S2x512_S1024⟩, ⟨S1024, shapeCast S1024 x8 shapeCasts_S2x512_S1024⟩, ⟨S32, shapeCast S32 x9 shapeCasts_S2x16_S32⟩, ⟨S8448, shapeCast S8448 x10 shapeCasts_S4x3x704_S8448⟩, ⟨S1024, x11⟩]
    concatenates_S1024_S24576_S4096_S4096_S384_S3968_S1024_S1024_S1024_S32_S8448_S1024_S50720_d0) z pads_S50720_S57344_066240 h_S_) shapeCasts_S57344_S448x128

theorem sizes_map {α β : Type} (f : α → β) (t : Shape) (a : Fin t.rank) (ps : List ((s : Shape) × (s.Idx → α))) :
    axisSizes t a (ps.map fun p => (⟨p.1, fun i => f (p.2 i)⟩ : (s : Shape) × (s.Idx → β))) = axisSizes t a ps := by
  unfold axisSizes
  simp only [List.map_map, Function.comp_def]

/-- A function of the entries of a list of pieces, joined, is the function of the entries of the joined pieces. -/
theorem joinedAt_map {α β : Type} (f : α → β) (t : Shape) (a : Fin t.rank) (j : t.Idx) : ∀ (ps : List ((s : Shape) × (s.Idx → α)))
    (hs : ∀ s ∈ ps.map (·.1), s.FitsOff t a) (hs' : ∀ s ∈ (ps.map fun p => (⟨p.1, fun i => f (p.2 i)⟩ : (s : Shape) × (s.Idx → β))).map (·.1), s.FitsOff t a)
    (c : Nat) (hc : c < (axisSizes t a ps).sum) (hc' : c < (axisSizes t a (ps.map fun p => (⟨p.1, fun i => f (p.2 i)⟩ : (s : Shape) × (s.Idx → β)))).sum),
    concatenateAt t a j (ps.map fun p => (⟨p.1, fun i => f (p.2 i)⟩ : (s : Shape) × (s.Idx → β))) hs' c hc' = f (concatenateAt t a j ps hs c hc)
  | [], _, _, _, hc, _ => absurd hc (Nat.not_lt_zero _)
  | [p], hs, hs', c, hc, hc' => by
    simp only [List.map_cons, List.map_nil, concatenateAt]
  | p :: q :: xs, hs, hs', c, hc, hc' => by
    have ih := joinedAt_map f t a j (q :: xs) (fun s h => hs s (List.mem_cons_of_mem _ h)) (fun s h => hs' s (List.mem_cons_of_mem _ h))
    simp only [List.map_cons, concatenateAt] at ih ⊢
    split
    · rfl
    · rename_i hlt
      have hlt' : c - p.1.size (a.cast (hs p.1 List.mem_cons_self).rank_eq.symm) < (axisSizes t a (q :: xs)).sum := by
        rw [axisSizes_cons t a p (q :: xs) (hs p.1 List.mem_cons_self), List.sum_cons] at hc
        omega
      exact ih _ hlt' (by rw [← List.map_cons (f := fun p : (s : Shape) × (s.Idx → α) => (⟨p.1, fun i => f (p.2 i)⟩ : (s : Shape) × (s.Idx → β))), sizes_map]; exact hlt')

theorem joined_map {α β : Type} (f : α → β) (t : Shape) (a : Fin t.rank) (ps : List ((s : Shape) × (s.Idx → α)))
    (h : Shape.Concatenates (ps.map (·.1)) t a) (h' : Shape.Concatenates ((ps.map fun p => (⟨p.1, fun i => f (p.2 i)⟩ : (s : Shape) × (s.Idx → β))).map (·.1)) t a) (j : t.Idx) :
    concatenate t a (ps.map fun p => (⟨p.1, fun i => f (p.2 i)⟩ : (s : Shape) × (s.Idx → β))) h' j = f (concatenate t a ps h j) := by
  rw [concatenate_apply, concatenate_apply]
  exact joinedAt_map f t a j ps _ _ _ _ _

theorem packed_map {α β : Type} (f : α → β) (z : S_.Idx → α) (x0 : S1024.Idx → α) (x1 : S4x6144.Idx → α) (x2 : S4x1024.Idx → α) (x3 : S4x1024.Idx → α) (x4 : S2x3x64.Idx → α) (x5 : S2x31x64.Idx → α) (x6 : S2x512.Idx → α) (x7 : S2x512.Idx → α) (x8 : S2x512.Idx → α) (x9 : S2x16.Idx → α) (x10 : S4x3x704.Idx → α) (x11 : S1024.Idx → α) :
    packed (fun i => f (z i)) (fun i => f (x0 i)) (fun i => f (x1 i)) (fun i => f (x2 i)) (fun i => f (x3 i)) (fun i => f (x4 i)) (fun i => f (x5 i)) (fun i => f (x6 i)) (fun i => f (x7 i)) (fun i => f (x8 i)) (fun i => f (x9 i)) (fun i => f (x10 i)) (fun i => f (x11 i)) = fun i => f (packed z x0 x1 x2 x3 x4 x5 x6 x7 x8 x9 x10 x11 i) := by
  funext i
  unfold packed
  show pad (s := S50720) (u := S_) S57344 ![0] ![6624] ![0] _ _ pads_S50720_S57344_066240 h_S_ (Shape.reshapeEquiv shapeCasts_S57344_S448x128 i) =
    f (pad (s := S50720) (u := S_) S57344 ![0] ![6624] ![0] _ _ pads_S50720_S57344_066240 h_S_ (Shape.reshapeEquiv shapeCasts_S57344_S448x128 i))
  unfold pad
  split
  · exact joined_map f S50720 0 [⟨S1024, x0⟩, ⟨S24576, shapeCast S24576 x1 shapeCasts_S4x6144_S24576⟩, ⟨S4096, shapeCast S4096 x2 shapeCasts_S4x1024_S4096⟩, ⟨S4096, shapeCast S4096 x3 shapeCasts_S4x1024_S4096⟩, ⟨S384, shapeCast S384 x4 shapeCasts_S2x3x64_S384⟩, ⟨S3968, shapeCast S3968 x5 shapeCasts_S2x31x64_S3968⟩, ⟨S1024, shapeCast S1024 x6 shapeCasts_S2x512_S1024⟩, ⟨S1024, shapeCast S1024 x7 shapeCasts_S2x512_S1024⟩, ⟨S1024, shapeCast S1024 x8 shapeCasts_S2x512_S1024⟩, ⟨S32, shapeCast S32 x9 shapeCasts_S2x16_S32⟩, ⟨S8448, shapeCast S8448 x10 shapeCasts_S4x3x704_S8448⟩, ⟨S1024, x11⟩] _ _ _
  · rfl

/-- The value that fills up. -/
abbrev fill : S_.Idx → EReal := fun _ => 0

/-- The new first moment, second moment, and the change of the weight, from one entry of each array. -/
def newM (g m' : EReal) : EReal := FloatOps.ofBits (F := Ideal) .f32 0x3F666666#32 * m' + FloatOps.ofBits (F := Ideal) .f32 0x3DCCCCCD#32 * g
def newV (g v : EReal) : EReal := FloatOps.ofBits (F := Ideal) .f32 0x3F7FBE77#32 * v + FloatOps.ofBits (F := Ideal) .f32 0x3A83126F#32 * (g * g)
def delta (w g m' v : EReal) : EReal := FloatOps.ofBits (F := Ideal) .f32 0xBA83126F#32 *
  (Ideal.div (Ideal.div (newM g m') (FloatOps.ofBits (F := Ideal) .f32 0x3F26BD02#32))
    (Ideal.sqrt (Ideal.div (newV g v) (FloatOps.ofBits (F := Ideal) .f32 0x3C231ACC#32)) + FloatOps.ofBits (F := Ideal) .f32 0x322BCC77#32)
  + FloatOps.ofBits (F := Ideal) .f32 0x3C23D70A#32 * w)

end Cert.Kernel19Ideal.Run

end
-- ==== Proof.AdamwSmallValue.lean ====
module

public import proofs.«01_k».proof.Proof.Gen.Kernel19Ideal.Value
public import proofs.«01_k».proof.Proof.AdamwSmallPack
public import Idealize.ShloMosaic.Lib.Pipeline.Value
public import Idealize.ShloMosaic.Lib.Claim
public import Idealize.ShloMosaic.Lib.Pipeline.ValueKit.Point
public import Idealize.ShloMosaic.Lib.Pipeline.ValueKit.Tiles

@[expose] public section

set_option maxRecDepth 16384

noncomputable section

/-! What the optimiser's step of the small weights holds, at the extended reals. -/

namespace Cert.Kernel19Ideal.Run

open Idealize.ShloMosaic Idealize.ShloMosaic.TcCoe Idealize.ShloMosaic.Tactic Idealize.SL.Sem
open Idealize.ShloMosaic.Pipeline (Dat)
open Cert.Kernel19Ideal.Gen

variable (m : (ℓ : Loc nD τ sig) → Buf (Elt Ideal) ℓ) (ρ : Dev nD → PrngReg)

/-- The arguments: the twelve weights, their gradients and their two moments. -/
abbrev arg0 (c : Dev nD) : S1024.Idx → EReal := m ((c.tc : Thread nD τ).loc main_arg0)
abbrev arg1 (c : Dev nD) : S4x6144.Idx → EReal := m ((c.tc : Thread nD τ).loc main_arg1)
abbrev arg2 (c : Dev nD) : S4x1024.Idx → EReal := m ((c.tc : Thread nD τ).loc main_arg2)
abbrev arg3 (c : Dev nD) : S4x1024.Idx → EReal := m ((c.tc : Thread nD τ).loc main_arg3)
abbrev arg4 (c : Dev nD) : S2x3x64.Idx → EReal := m ((c.tc : Thread nD τ).loc main_arg4)
abbrev arg5 (c : Dev nD) : S2x31x64.Idx → EReal := m ((c.tc : Thread nD τ).loc main_arg5)
abbrev arg6 (c : Dev nD) : S2x512.Idx → EReal := m ((c.tc : Thread nD τ).loc main_arg6)
abbrev arg7 (c : Dev nD) : S2x512.Idx → EReal := m ((c.tc : Thread nD τ).loc main_arg7)
abbrev arg8 (c : Dev nD) : S2x512.Idx → EReal := m ((c.tc : Thread nD τ).loc main_arg8)
abbrev arg9 (c : Dev nD) : S2x16.Idx → EReal := m ((c.tc : Thread nD τ).loc main_arg9)
abbrev arg10 (c : Dev nD) : S4x3x704.Idx → EReal := m ((c.tc : Thread nD τ).loc main_arg10)
abbrev arg11 (c : Dev nD) : S1024.Idx → EReal := m ((c.tc : Thread nD τ).loc main_arg11)
abbrev arg12 (c : Dev nD) : S1024.Idx → EReal := m ((c.tc : Thread nD τ).loc main_arg12)
abbrev arg13 (c : Dev nD) : S4x6144.Idx → EReal := m ((c.tc : Thread nD τ).loc main_arg13)
abbrev arg14 (c : Dev nD) : S4x1024.Idx → EReal := m ((c.tc : Thread nD τ).loc main_arg14)
abbrev arg15 (c : Dev nD) : S4x1024.Idx → EReal := m ((c.tc : Thread nD τ).loc main_arg15)
abbrev arg16 (c : Dev nD) : S2x3x64.Idx → EReal := m ((c.tc : Thread nD τ).loc main_arg16)
abbrev arg17 (c : Dev nD) : S2x31x64.Idx → EReal := m ((c.tc : Thread nD τ).loc main_arg17)
abbrev arg18 (c : Dev nD) : S2x512.Idx → EReal := m ((c.tc : Thread nD τ).loc main_arg18)
abbrev arg19 (c : Dev nD) : S2x512.Idx → EReal := m ((c.tc : Thread nD τ).loc main_arg19)
abbrev arg20 (c : Dev nD) : S2x512.Idx → EReal := m ((c.tc : Thread nD τ).loc main_arg20)
abbrev arg21 (c : Dev nD) : S2x16.Idx → EReal := m ((c.tc : Thread nD τ).loc main_arg21)
abbrev arg22 (c : Dev nD) : S4x3x704.Idx → EReal := m ((c.tc : Thread nD τ).loc main_arg22)
abbrev arg23 (c : Dev nD) : S1024.Idx → EReal := m ((c.tc : Thread nD τ).loc main_arg23)
abbrev arg24 (c : Dev nD) : S1024.Idx → EReal := m ((c.tc : Thread nD τ).loc main_arg24)
abbrev arg25 (c : Dev nD) : S4x6144.Idx → EReal := m ((c.tc : Thread nD τ).loc main_arg25)
abbrev arg26 (c : Dev nD) : S4x1024.Idx → EReal := m ((c.tc : Thread nD τ).loc main_arg26)
abbrev arg27 (c : Dev nD) : S4x1024.Idx → EReal := m ((c.tc : Thread nD τ).loc main_arg27)
abbrev arg28 (c : Dev nD) : S2x3x64.Idx → EReal := m ((c.tc : Thread nD τ).loc main_arg28)
abbrev arg29 (c : Dev nD) : S2x31x64.Idx → EReal := m ((c.tc : Thread nD τ).loc main_arg29)
abbrev arg30 (c : Dev nD) : S2x512.Idx → EReal := m ((c.tc : Thread nD τ).loc main_arg30)
abbrev arg31 (c : Dev nD) : S2x512.Idx → EReal := m ((c.tc : Thread nD τ).loc main_arg31)
abbrev arg32 (c : Dev nD) : S2x512.Idx → EReal := m ((c.tc : Thread nD τ).loc main_arg32)
abbrev arg33 (c : Dev nD) : S2x16.Idx → EReal := m ((c.tc : Thread nD τ).loc main_arg33)
abbrev arg34 (c : Dev nD) : S4x3x704.Idx → EReal := m ((c.tc : Thread nD τ).loc main_arg34)
abbrev arg35 (c : Dev nD) : S1024.Idx → EReal := m ((c.tc : Thread nD τ).loc main_arg35)
abbrev arg36 (c : Dev nD) : S1024.Idx → EReal := m ((c.tc : Thread nD τ).loc main_arg36)
abbrev arg37 (c : Dev nD) : S4x6144.Idx → EReal := m ((c.tc : Thread nD τ).loc main_arg37)
abbrev arg38 (c : Dev nD) : S4x1024.Idx → EReal := m ((c.tc : Thread nD τ).loc main_arg38)
abbrev arg39 (c : Dev nD) : S4x1024.Idx → EReal := m ((c.tc : Thread nD τ).loc main_arg39)
abbrev arg40 (c : Dev nD) : S2x3x64.Idx → EReal := m ((c.tc : Thread nD τ).loc main_arg40)
abbrev arg41 (c : Dev nD) : S2x31x64.Idx → EReal := m ((c.tc : Thread nD τ).loc main_arg41)
abbrev arg42 (c : Dev nD) : S2x512.Idx → EReal := m ((c.tc : Thread nD τ).loc main_arg42)
abbrev arg43 (c : Dev nD) : S2x512.Idx → EReal := m ((c.tc : Thread nD τ).loc main_arg43)
abbrev arg44 (c : Dev nD) : S2x512.Idx → EReal := m ((c.tc : Thread nD τ).loc main_arg44)
abbrev arg45 (c : Dev nD) : S2x16.Idx → EReal := m ((c.tc : Thread nD τ).loc main_arg45)
abbrev arg46 (c : Dev nD) : S4x3x704.Idx → EReal := m ((c.tc : Thread nD τ).loc main_arg46)
abbrev arg47 (c : Dev nD) : S1024.Idx → EReal := m ((c.tc : Thread nD τ).loc main_arg47)

theorem fill_eq : fill = sitofp (F := Ideal) .f32 (constantI S_ 32 0#32) := by
  funext i; unfold fill; pointwise; show (0 : EReal) = (((0#32 : BitVec 32).toInt : ℝ) : EReal); simp
/-- The weights, laid end to end. -/
def Wall (c : Dev nD) : S448x128.Idx → EReal := packed fill (arg0 m c) (arg1 m c) (arg2 m c) (arg3 m c) (arg4 m c) (arg5 m c) (arg6 m c) (arg7 m c) (arg8 m c) (arg9 m c) (arg10 m c) (arg11 m c)
/-- The gradients, laid end to end. -/
def Gall (c : Dev nD) : S448x128.Idx → EReal := packed fill (arg12 m c) (arg13 m c) (arg14 m c) (arg15 m c) (arg16 m c) (arg17 m c) (arg18 m c) (arg19 m c) (arg20 m c) (arg21 m c) (arg22 m c) (arg23 m c)
/-- The first moments, laid end to end. -/
def Mall (c : Dev nD) : S448x128.Idx → EReal := packed fill (arg24 m c) (arg25 m c) (arg26 m c) (arg27 m c) (arg28 m c) (arg29 m c) (arg30 m c) (arg31 m c) (arg32 m c) (arg33 m c) (arg34 m c) (arg35 m c)
/-- The second moments, laid end to end. -/
def Vall (c : Dev nD) : S448x128.Idx → EReal := packed fill (arg36 m c) (arg37 m c) (arg38 m c) (arg39 m c) (arg40 m c) (arg41 m c) (arg42 m c) (arg43 m c) (arg44 m c) (arg45 m c) (arg46 m c) (arg47 m c)
theorem Wall_of (c : Dev nD) : Wall m c = packed (sitofp (F := Ideal) .f32 (constantI S_ 32 0#32)) (arg0 m c) (arg1 m c) (arg2 m c) (arg3 m c) (arg4 m c) (arg5 m c) (arg6 m c) (arg7 m c) (arg8 m c) (arg9 m c) (arg10 m c) (arg11 m c) := by
  unfold Wall; rw [fill_eq]
theorem Gall_of (c : Dev nD) : Gall m c = packed (sitofp (F := Ideal) .f32 (constantI S_ 32 0#32)) (arg12 m c) (arg13 m c) (arg14 m c) (arg15 m c) (arg16 m c) (arg17 m c) (arg18 m c) (arg19 m c) (arg20 m c) (arg21 m c) (arg22 m c) (arg23 m c) := by
  unfold Gall; rw [fill_eq]
theorem Mall_of (c : Dev nD) : Mall m c = packed (sitofp (F := Ideal) .f32 (constantI S_ 32 0#32)) (arg24 m c) (arg25 m c) (arg26 m c) (arg27 m c) (arg28 m c) (arg29 m c) (arg30 m c) (arg31 m c) (arg32 m c) (arg33 m c) (arg34 m c) (arg35 m c) := by
  unfold Mall; rw [fill_eq]
theorem Vall_of (c : Dev nD) : Vall m c = packed (sitofp (F := Ideal) .f32 (constantI S_ 32 0#32)) (arg36 m c) (arg37 m c) (arg38 m c) (arg39 m c) (arg40 m c) (arg41 m c) (arg42 m c) (arg43 m c) (arg44 m c) (arg45 m c) (arg46 m c) (arg47 m c) := by
  unfold Vall; rw [fill_eq]

theorem m_apply (g m' : Vec Ideal S448x128 .f32) (r : Fin 448) (k : Fin 128) :
    k0_pay2 g m' (ix2 r k) = newM (g (ix2 r k)) (m' (ix2 r k)) := by
  unfold k0_pay2 k0_pay1 newM; pointwise
theorem v_apply (g v : Vec Ideal S448x128 .f32) (r : Fin 448) (k : Fin 128) :
    k0_pay3 g v (ix2 r k) = newV (g (ix2 r k)) (v (ix2 r k)) := by
  unfold k0_pay3 k0_pay1 newV; pointwise
theorem d_apply (w g m' v : Vec Ideal S448x128 .f32) (r : Fin 448) (k : Fin 128) :
    k0_pay4 g m' v w (ix2 r k) = delta (w (ix2 r k)) (g (ix2 r k)) (m' (ix2 r k)) (v (ix2 r k)) := by
  unfold delta
  rw [← m_apply, ← v_apply]
  unfold k0_pay4; pointwise

theorem at_0 : ∀ t : Fin cfg0.N, win0_0.index t = ![t.val, 0] := by decide +kernel
theorem at_1 : ∀ t : Fin cfg0.N, win0_1.index t = ![t.val, 0] := by decide +kernel
theorem at_2 : ∀ t : Fin cfg0.N, win0_2.index t = ![t.val, 0] := by decide +kernel
theorem at_3 : ∀ t : Fin cfg0.N, win0_3.index t = ![t.val, 0] := by decide +kernel
theorem at_4 : ∀ t : Fin cfg0.N, win0_4.index t = ![t.val, 0] := by decide +kernel
theorem at_5 : ∀ t : Fin cfg0.N, win0_5.index t = ![t.val, 0] := by decide +kernel
theorem at_6 : ∀ t : Fin cfg0.N, win0_6.index t = ![t.val, 0] := by decide +kernel

theorem lt_1 (t : Fin cfg0.N) : t.val < 1 := lt_of_lt_of_eq t.isLt (show cfg0.N = 1 from N_0)

/-- The row of the array at a row of a block. -/
def rowAt (t : Fin cfg0.N) (r : Fin 448) : Fin 448 := ⟨448 * t.val + r.val, by have := lt_1 t; omega⟩

set_option maxHeartbeats 4000000 in
theorem flat_W (c : Dev nD) : (V m c main_v12 : Vec Ideal S448x128 .f32) = Wall m c := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  rw [Wall_of]
  rfl
theorem blk_W (c : Dev nD) (t : Fin cfg0.N) (r : Fin 448) (k : Fin 128) :
    (iblk m c 0 t : Vec Ideal S448x128 .f32) (ix2 r k) = Wall m c (ix2 (rowAt t r) k) := by
  rw [← flat_W]
  unfold rowAt
  blk_ext! [iblk, at_0 t]
set_option maxHeartbeats 4000000 in
theorem flat_G (c : Dev nD) : (V m c main_v25 : Vec Ideal S448x128 .f32) = Gall m c := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  rw [Gall_of]
  rfl
theorem blk_G (c : Dev nD) (t : Fin cfg0.N) (r : Fin 448) (k : Fin 128) :
    (iblk m c 1 t : Vec Ideal S448x128 .f32) (ix2 r k) = Gall m c (ix2 (rowAt t r) k) := by
  rw [← flat_G]
  unfold rowAt
  blk_ext! [iblk, at_1 t]
set_option maxHeartbeats 4000000 in
theorem flat_M (c : Dev nD) : (V m c main_v38 : Vec Ideal S448x128 .f32) = Mall m c := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  rw [Mall_of]
  rfl
theorem blk_M (c : Dev nD) (t : Fin cfg0.N) (r : Fin 448) (k : Fin 128) :
    (iblk m c 2 t : Vec Ideal S448x128 .f32) (ix2 r k) = Mall m c (ix2 (rowAt t r) k) := by
  rw [← flat_M]
  unfold rowAt
  blk_ext! [iblk, at_2 t]
set_option maxHeartbeats 4000000 in
theorem flat_V (c : Dev nD) : (V m c main_v51 : Vec Ideal S448x128 .f32) = Vall m c := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  rw [Vall_of]
  rfl
theorem blk_V (c : Dev nD) (t : Fin cfg0.N) (r : Fin 448) (k : Fin 128) :
    (iblk m c 3 t : Vec Ideal S448x128 .f32) (ix2 r k) = Vall m c (ix2 (rowAt t r) k) := by
  rw [← flat_V]
  unfold rowAt
  blk_ext! [iblk, at_3 t]
/-- A load of a whole block reads the block. -/
theorem load_whole (X : Vec Ideal S448x128 .f32) (r : Fin 448) (k : Fin 128) : View.ld X r0_0 (ix2 r k) = X (ix2 r k) :=
  View.ld_unit_apply_of X _ _ _ _ _ fun a => by match a with | ⟨0, _⟩ => simp | ⟨1, _⟩ => simp

/-- The results. -/
def deltaAll (c : Dev nD) : Vec Ideal S448x128 .f32 := fun i =>
  delta (Wall m c i) (Gall m c i) (Mall m c i) (Vall m c i)
def momAll (c : Dev nD) : Vec Ideal S448x128 .f32 := fun i => newM (Gall m c i) (Mall m c i)
def varAll (c : Dev nD) : Vec Ideal S448x128 .f32 := fun i => newV (Gall m c i) (Vall m c i)

section Blocks

variable (c : Dev nD) (t : Fin cfg0.N)

theorem delta_blk (r : Fin 448) (k : Fin 128) :
    k0_pay4 (View.ld (iblk m c 1 t) r0_0) (View.ld (iblk m c 2 t) r0_0) (View.ld (iblk m c 3 t) r0_0) (View.ld (iblk m c 0 t) r0_0) (ix2 r k)
      = deltaAll m c (ix2 (rowAt t r) k) := by
  refine (d_apply _ _ _ _ r k).trans ?_
  rw [load_whole, load_whole, load_whole, load_whole, blk_W, blk_G, blk_M, blk_V]
  rfl
theorem mom_blk (r : Fin 448) (k : Fin 128) :
    k0_pay2 (View.ld (iblk m c 1 t) r0_0) (View.ld (iblk m c 2 t) r0_0) (ix2 r k) = momAll m c (ix2 (rowAt t r) k) := by
  refine (m_apply _ _ r k).trans ?_
  rw [load_whole, load_whole, blk_G, blk_M]
  rfl
theorem var_blk (r : Fin 448) (k : Fin 128) :
    k0_pay3 (View.ld (iblk m c 1 t) r0_0) (View.ld (iblk m c 3 t) r0_0) (ix2 r k) = varAll m c (ix2 (rowAt t r) k) := by
  refine (v_apply _ _ r k).trans ?_
  rw [load_whole, load_whole, blk_G, blk_V]
  rfl

end Blocks

theorem delta_final (c : Dev nD) : (dats m 0 c).arrAt 4 cfg0.N = deltaAll m c := by
  refine (dats m 0 c).arrAt_eq_of_covers 4 _ (by decide +kernel) fun t hf y => ?_
  have key : ∀ y : S448x128.Idx, out0_4 (iblk m c 0 t) (iblk m c 1 t) (iblk m c 2 t) (iblk m c 3 t) y = deltaAll m c ((win0_4.blk t).view.emb y) := fun y => by
    have e0 : ((win0_4.blk t).view.emb y 0 : Fin 448).val = 448 * t.val + (y 0).val := by blk_simp [at_4 t]; omega
    have e1 : ((win0_4.blk t).view.emb y 1 : Fin 128).val = (y 1).val := by blk_simp [at_4 t]
    canon_tiles x h using cover0_4 ..
    rw [ValueIdx.eq_ix2 x]
    refine (delta_blk m c t (x 0) (x 1)).trans (congrArg (deltaAll m c) (funext fun a => ?_))
    match a with
    | ⟨0, _⟩ => exact Fin.ext ((congrArg (448 * t.val + ·) h0.symm).trans e0.symm)
    | ⟨1, _⟩ => exact Fin.ext (h1.symm.trans e1.symm)
  blk_simp
  rw [after0_4]
  exact key y
theorem mom_final (c : Dev nD) : (dats m 0 c).arrAt 5 cfg0.N = momAll m c := by
  refine (dats m 0 c).arrAt_eq_of_covers 5 _ (by decide +kernel) fun t hf y => ?_
  have key : ∀ y : S448x128.Idx, out0_5 (iblk m c 0 t) (iblk m c 1 t) (iblk m c 2 t) (iblk m c 3 t) y = momAll m c ((win0_5.blk t).view.emb y) := fun y => by
    have e0 : ((win0_5.blk t).view.emb y 0 : Fin 448).val = 448 * t.val + (y 0).val := by blk_simp [at_5 t]; omega
    have e1 : ((win0_5.blk t).view.emb y 1 : Fin 128).val = (y 1).val := by blk_simp [at_5 t]
    canon_tiles x h using cover0_5 ..
    rw [ValueIdx.eq_ix2 x]
    refine (mom_blk m c t (x 0) (x 1)).trans (congrArg (momAll m c) (funext fun a => ?_))
    match a with
    | ⟨0, _⟩ => exact Fin.ext ((congrArg (448 * t.val + ·) h0.symm).trans e0.symm)
    | ⟨1, _⟩ => exact Fin.ext (h1.symm.trans e1.symm)
  blk_simp
  rw [after0_5]
  exact key y
theorem var_final (c : Dev nD) : (dats m 0 c).arrAt 6 cfg0.N = varAll m c := by
  refine (dats m 0 c).arrAt_eq_of_covers 6 _ (by decide +kernel) fun t hf y => ?_
  have key : ∀ y : S448x128.Idx, out0_6 (iblk m c 0 t) (iblk m c 1 t) (iblk m c 2 t) (iblk m c 3 t) y = varAll m c ((win0_6.blk t).view.emb y) := fun y => by
    have e0 : ((win0_6.blk t).view.emb y 0 : Fin 448).val = 448 * t.val + (y 0).val := by blk_simp [at_6 t]; omega
    have e1 : ((win0_6.blk t).view.emb y 1 : Fin 128).val = (y 1).val := by blk_simp [at_6 t]
    canon_tiles x h using cover0_6 ..
    rw [ValueIdx.eq_ix2 x]
    refine (var_blk m c t (x 0) (x 1)).trans (congrArg (varAll m c) (funext fun a => ?_))
    match a with
    | ⟨0, _⟩ => exact Fin.ext ((congrArg (448 * t.val + ·) h0.symm).trans e0.symm)
    | ⟨1, _⟩ => exact Fin.ext (h1.symm.trans e1.symm)
  blk_simp
  rw [after0_6]
  exact key y

end Cert.Kernel19Ideal.Run

end
-- ==== Proof.AdamwSmallReference.lean ====
module

public import proofs.«01_k».proof.Proof.AdamwSmallPack
public import proofs.«01_k».proof.Proof.Gen.Reference19Ideal.Read
public import Idealize.ShloMosaic.Lib.Claim

@[expose] public section

set_option maxRecDepth 16384

noncomputable section

/-! What the reference of the small weights' optimiser step computes, entry by entry. -/

namespace Cert.AdamwSmall

open Idealize.ShloMosaic Idealize.ShloMosaic.TcCoe Idealize.ShloMosaic.Tactic Idealize.SL.Sem
open Cert.Kernel19Ideal.Run (newM newV delta packed fill packed_map)

section Reference

open Cert.Reference19Ideal Cert.Reference19Ideal.Read

theorem mom_0 (g m' : Vec Ideal S1024 .f32) : val_main_v4 (F := Ideal) g m' = fun i => newM (g i) (m' i) := rfl
theorem var_0 (g v : Vec Ideal S1024 .f32) : val_main_v10 (F := Ideal) g v = fun i => newV (g i) (v i) := rfl
theorem delta_0 (w g m' v : Vec Ideal S1024 .f32) : val_main_v23 (F := Ideal) w g m' v = fun i => delta (w i) (g i) (m' i) (v i) := rfl
theorem mom_1 (g m' : Vec Ideal S4x6144 .f32) : val_main_v28 (F := Ideal) g m' = fun i => newM (g i) (m' i) := rfl
theorem var_1 (g v : Vec Ideal S4x6144 .f32) : val_main_v34 (F := Ideal) g v = fun i => newV (g i) (v i) := rfl
theorem delta_1 (w g m' v : Vec Ideal S4x6144 .f32) : val_main_v47 (F := Ideal) w g m' v = fun i => delta (w i) (g i) (m' i) (v i) := rfl
theorem mom_2 (g m' : Vec Ideal S4x1024 .f32) : val_main_v52 (F := Ideal) g m' = fun i => newM (g i) (m' i) := rfl
theorem var_2 (g v : Vec Ideal S4x1024 .f32) : val_main_v58 (F := Ideal) g v = fun i => newV (g i) (v i) := rfl
theorem delta_2 (w g m' v : Vec Ideal S4x1024 .f32) : val_main_v71 (F := Ideal) w g m' v = fun i => delta (w i) (g i) (m' i) (v i) := rfl
theorem mom_3 (g m' : Vec Ideal S4x1024 .f32) : val_main_v76 (F := Ideal) g m' = fun i => newM (g i) (m' i) := rfl
theorem var_3 (g v : Vec Ideal S4x1024 .f32) : val_main_v82 (F := Ideal) g v = fun i => newV (g i) (v i) := rfl
theorem delta_3 (w g m' v : Vec Ideal S4x1024 .f32) : val_main_v95 (F := Ideal) w g m' v = fun i => delta (w i) (g i) (m' i) (v i) := rfl
theorem mom_4 (g m' : Vec Ideal S2x3x64 .f32) : val_main_v100 (F := Ideal) g m' = fun i => newM (g i) (m' i) := rfl
theorem var_4 (g v : Vec Ideal S2x3x64 .f32) : val_main_v106 (F := Ideal) g v = fun i => newV (g i) (v i) := rfl
theorem delta_4 (w g m' v : Vec Ideal S2x3x64 .f32) : val_main_v119 (F := Ideal) w g m' v = fun i => delta (w i) (g i) (m' i) (v i) := rfl
theorem mom_5 (g m' : Vec Ideal S2x31x64 .f32) : val_main_v124 (F := Ideal) g m' = fun i => newM (g i) (m' i) := rfl
theorem var_5 (g v : Vec Ideal S2x31x64 .f32) : val_main_v130 (F := Ideal) g v = fun i => newV (g i) (v i) := rfl
theorem delta_5 (w g m' v : Vec Ideal S2x31x64 .f32) : val_main_v143 (F := Ideal) w g m' v = fun i => delta (w i) (g i) (m' i) (v i) := rfl
theorem mom_6 (g m' : Vec Ideal S2x512 .f32) : val_main_v148 (F := Ideal) g m' = fun i => newM (g i) (m' i) := rfl
theorem var_6 (g v : Vec Ideal S2x512 .f32) : val_main_v154 (F := Ideal) g v = fun i => newV (g i) (v i) := rfl
theorem delta_6 (w g m' v : Vec Ideal S2x512 .f32) : val_main_v167 (F := Ideal) w g m' v = fun i => delta (w i) (g i) (m' i) (v i) := rfl
theorem mom_7 (g m' : Vec Ideal S2x512 .f32) : val_main_v172 (F := Ideal) g m' = fun i => newM (g i) (m' i) := rfl
theorem var_7 (g v : Vec Ideal S2x512 .f32) : val_main_v178 (F := Ideal) g v = fun i => newV (g i) (v i) := rfl
theorem delta_7 (w g m' v : Vec Ideal S2x512 .f32) : val_main_v191 (F := Ideal) w g m' v = fun i => delta (w i) (g i) (m' i) (v i) := rfl
theorem mom_8 (g m' : Vec Ideal S2x512 .f32) : val_main_v196 (F := Ideal) g m' = fun i => newM (g i) (m' i) := rfl
theorem var_8 (g v : Vec Ideal S2x512 .f32) : val_main_v202 (F := Ideal) g v = fun i => newV (g i) (v i) := rfl
theorem delta_8 (w g m' v : Vec Ideal S2x512 .f32) : val_main_v215 (F := Ideal) w g m' v = fun i => delta (w i) (g i) (m' i) (v i) := rfl
theorem mom_9 (g m' : Vec Ideal S2x16 .f32) : val_main_v220 (F := Ideal) g m' = fun i => newM (g i) (m' i) := rfl
theorem var_9 (g v : Vec Ideal S2x16 .f32) : val_main_v226 (F := Ideal) g v = fun i => newV (g i) (v i) := rfl
theorem delta_9 (w g m' v : Vec Ideal S2x16 .f32) : val_main_v239 (F := Ideal) w g m' v = fun i => delta (w i) (g i) (m' i) (v i) := rfl
theorem mom_10 (g m' : Vec Ideal S4x3x704 .f32) : val_main_v244 (F := Ideal) g m' = fun i => newM (g i) (m' i) := rfl
theorem var_10 (g v : Vec Ideal S4x3x704 .f32) : val_main_v250 (F := Ideal) g v = fun i => newV (g i) (v i) := rfl
theorem delta_10 (w g m' v : Vec Ideal S4x3x704 .f32) : val_main_v263 (F := Ideal) w g m' v = fun i => delta (w i) (g i) (m' i) (v i) := rfl
theorem mom_11 (g m' : Vec Ideal S1024 .f32) : val_main_v268 (F := Ideal) g m' = fun i => newM (g i) (m' i) := rfl
theorem var_11 (g v : Vec Ideal S1024 .f32) : val_main_v274 (F := Ideal) g v = fun i => newV (g i) (v i) := rfl
theorem delta_11 (w g m' v : Vec Ideal S1024 .f32) : val_main_v287 (F := Ideal) w g m' v = fun i => delta (w i) (g i) (m' i) (v i) := rfl

theorem newM_fill : newM 0 0 = 0 := by unfold newM; simp
theorem newV_fill : newV 0 0 = 0 := by unfold newV; simp
theorem c1_ne : FloatOps.ofBits (F := Ideal) .f32 0x3F26BD02#32 ≠ 0 := by
  simp [Ideal.ofBits, Ideal.ieee, -EReal.coe_mul]
theorem c2_ne : FloatOps.ofBits (F := Ideal) .f32 0x3C231ACC#32 ≠ 0 := by
  simp [Ideal.ofBits, Ideal.ieee, -EReal.coe_mul]
theorem eps_ne : FloatOps.ofBits (F := Ideal) .f32 0x322BCC77#32 ≠ 0 := by
  simp [Ideal.ofBits, Ideal.ieee, -EReal.coe_mul]
theorem zero_div' (b : EReal) (h : b ≠ 0) : Ideal.div 0 b = 0 := by unfold Ideal.div; simp [h]
theorem sqrt_zero' : Ideal.sqrt (0 : EReal) = 0 := by
  show (if (0 : ℝ) < 0 then (⊥ : EReal) else ((Real.sqrt 0 : ℝ) : EReal)) = 0
  simp
theorem delta_fill : delta 0 0 0 0 = 0 := by
  unfold delta
  rw [newM_fill, newV_fill, zero_div' _ c1_ne, zero_div' _ c2_ne, sqrt_zero', zero_add, zero_div' _ eps_ne]
  simp

theorem fill_0 : val_main_call0_v0 (F := Ideal) = fun _ => (0 : EReal) := by
  funext i; unfold val_main_call0_v0 val_main_c; pointwise; show (((0#32 : BitVec 32).toInt : ℝ) : EReal) = 0; simp
theorem fill_1 : val_main_call1_v0 (F := Ideal) = fun _ => (0 : EReal) := by
  funext i; unfold val_main_call1_v0 val_main_c_107; pointwise; show (((0#32 : BitVec 32).toInt : ℝ) : EReal) = 0; simp
theorem fill_2 : val_main_call2_v0 (F := Ideal) = fun _ => (0 : EReal) := by
  funext i; unfold val_main_call2_v0 val_main_c_108; pointwise; show (((0#32 : BitVec 32).toInt : ℝ) : EReal) = 0; simp

set_option maxHeartbeats 4000000 in
theorem mom_all (g0 : S1024.Idx → EReal) (g1 : S4x6144.Idx → EReal) (g2 : S4x1024.Idx → EReal) (g3 : S4x1024.Idx → EReal) (g4 : S2x3x64.Idx → EReal) (g5 : S2x31x64.Idx → EReal) (g6 : S2x512.Idx → EReal) (g7 : S2x512.Idx → EReal) (g8 : S2x512.Idx → EReal) (g9 : S2x16.Idx → EReal) (g10 : S4x3x704.Idx → EReal) (g11 : S1024.Idx → EReal) (m0 : S1024.Idx → EReal) (m1 : S4x6144.Idx → EReal) (m2 : S4x1024.Idx → EReal) (m3 : S4x1024.Idx → EReal) (m4 : S2x3x64.Idx → EReal) (m5 : S2x31x64.Idx → EReal) (m6 : S2x512.Idx → EReal) (m7 : S2x512.Idx → EReal) (m8 : S2x512.Idx → EReal) (m9 : S2x16.Idx → EReal) (m10 : S4x3x704.Idx → EReal) (m11 : S1024.Idx → EReal) : val_main_v324 (F := Ideal) g0 g1 g2 g3 g4 g5 g6 g7 g8 g9 g10 g11 m0 m1 m2 m3 m4 m5 m6 m7 m8 m9 m10 m11 =
    fun i => newM (packed fill g0 g1 g2 g3 g4 g5 g6 g7 g8 g9 g10 g11 i) (packed fill m0 m1 m2 m3 m4 m5 m6 m7 m8 m9 m10 m11 i) := by
  have hg : packed fill g0 g1 g2 g3 g4 g5 g6 g7 g8 g9 g10 g11 = fun i => (fun q : EReal × EReal => q.1) ((packed (fun _ => ((0 : EReal), (0 : EReal))) (fun i => (g0 i, m0 i)) (fun i => (g1 i, m1 i)) (fun i => (g2 i, m2 i)) (fun i => (g3 i, m3 i)) (fun i => (g4 i, m4 i)) (fun i => (g5 i, m5 i)) (fun i => (g6 i, m6 i)) (fun i => (g7 i, m7 i)) (fun i => (g8 i, m8 i)) (fun i => (g9 i, m9 i)) (fun i => (g10 i, m10 i)) (fun i => (g11 i, m11 i))) i) :=
    packed_map (fun q : EReal × EReal => q.1) (fun _ => ((0 : EReal), (0 : EReal))) (fun i => (g0 i, m0 i)) (fun i => (g1 i, m1 i)) (fun i => (g2 i, m2 i)) (fun i => (g3 i, m3 i)) (fun i => (g4 i, m4 i)) (fun i => (g5 i, m5 i)) (fun i => (g6 i, m6 i)) (fun i => (g7 i, m7 i)) (fun i => (g8 i, m8 i)) (fun i => (g9 i, m9 i)) (fun i => (g10 i, m10 i)) (fun i => (g11 i, m11 i))
  have hm : packed fill m0 m1 m2 m3 m4 m5 m6 m7 m8 m9 m10 m11 = fun i => (fun q : EReal × EReal => q.2) ((packed (fun _ => ((0 : EReal), (0 : EReal))) (fun i => (g0 i, m0 i)) (fun i => (g1 i, m1 i)) (fun i => (g2 i, m2 i)) (fun i => (g3 i, m3 i)) (fun i => (g4 i, m4 i)) (fun i => (g5 i, m5 i)) (fun i => (g6 i, m6 i)) (fun i => (g7 i, m7 i)) (fun i => (g8 i, m8 i)) (fun i => (g9 i, m9 i)) (fun i => (g10 i, m10 i)) (fun i => (g11 i, m11 i))) i) :=
    packed_map (fun q : EReal × EReal => q.2) (fun _ => ((0 : EReal), (0 : EReal))) (fun i => (g0 i, m0 i)) (fun i => (g1 i, m1 i)) (fun i => (g2 i, m2 i)) (fun i => (g3 i, m3 i)) (fun i => (g4 i, m4 i)) (fun i => (g5 i, m5 i)) (fun i => (g6 i, m6 i)) (fun i => (g7 i, m7 i)) (fun i => (g8 i, m8 i)) (fun i => (g9 i, m9 i)) (fun i => (g10 i, m10 i)) (fun i => (g11 i, m11 i))
  have hs := packed_map (fun q : EReal × EReal => newM (q.1) (q.2)) (fun _ => ((0 : EReal), (0 : EReal))) (fun i => (g0 i, m0 i)) (fun i => (g1 i, m1 i)) (fun i => (g2 i, m2 i)) (fun i => (g3 i, m3 i)) (fun i => (g4 i, m4 i)) (fun i => (g5 i, m5 i)) (fun i => (g6 i, m6 i)) (fun i => (g7 i, m7 i)) (fun i => (g8 i, m8 i)) (fun i => (g9 i, m9 i)) (fun i => (g10 i, m10 i)) (fun i => (g11 i, m11 i))
  rw [hg, hm]
  refine Eq.trans ?_ hs
  dsimp only
  rw [newM_fill]
  have hz : val_main_call1_v0 (F := Ideal) = fun _ => (0 : EReal) := fill_1
  unfold val_main_v324 val_main_v323
  rw [hz]
  unfold val_main_v309 val_main_v299 val_main_v300 val_main_v301 val_main_v302 val_main_v303 val_main_v304 val_main_v305 val_main_v306 val_main_v307 val_main_v308
  rw [mom_0, mom_1, mom_2, mom_3, mom_4, mom_5, mom_6, mom_7, mom_8, mom_9, mom_10, mom_11]
  rfl

set_option maxHeartbeats 4000000 in
theorem var_all (g0 : S1024.Idx → EReal) (g1 : S4x6144.Idx → EReal) (g2 : S4x1024.Idx → EReal) (g3 : S4x1024.Idx → EReal) (g4 : S2x3x64.Idx → EReal) (g5 : S2x31x64.Idx → EReal) (g6 : S2x512.Idx → EReal) (g7 : S2x512.Idx → EReal) (g8 : S2x512.Idx → EReal) (g9 : S2x16.Idx → EReal) (g10 : S4x3x704.Idx → EReal) (g11 : S1024.Idx → EReal) (v0 : S1024.Idx → EReal) (v1 : S4x6144.Idx → EReal) (v2 : S4x1024.Idx → EReal) (v3 : S4x1024.Idx → EReal) (v4 : S2x3x64.Idx → EReal) (v5 : S2x31x64.Idx → EReal) (v6 : S2x512.Idx → EReal) (v7 : S2x512.Idx → EReal) (v8 : S2x512.Idx → EReal) (v9 : S2x16.Idx → EReal) (v10 : S4x3x704.Idx → EReal) (v11 : S1024.Idx → EReal) : val_main_v326 (F := Ideal) g0 g1 g2 g3 g4 g5 g6 g7 g8 g9 g10 g11 v0 v1 v2 v3 v4 v5 v6 v7 v8 v9 v10 v11 =
    fun i => newV (packed fill g0 g1 g2 g3 g4 g5 g6 g7 g8 g9 g10 g11 i) (packed fill v0 v1 v2 v3 v4 v5 v6 v7 v8 v9 v10 v11 i) := by
  have hg : packed fill g0 g1 g2 g3 g4 g5 g6 g7 g8 g9 g10 g11 = fun i => (fun q : EReal × EReal => q.1) ((packed (fun _ => ((0 : EReal), (0 : EReal))) (fun i => (g0 i, v0 i)) (fun i => (g1 i, v1 i)) (fun i => (g2 i, v2 i)) (fun i => (g3 i, v3 i)) (fun i => (g4 i, v4 i)) (fun i => (g5 i, v5 i)) (fun i => (g6 i, v6 i)) (fun i => (g7 i, v7 i)) (fun i => (g8 i, v8 i)) (fun i => (g9 i, v9 i)) (fun i => (g10 i, v10 i)) (fun i => (g11 i, v11 i))) i) :=
    packed_map (fun q : EReal × EReal => q.1) (fun _ => ((0 : EReal), (0 : EReal))) (fun i => (g0 i, v0 i)) (fun i => (g1 i, v1 i)) (fun i => (g2 i, v2 i)) (fun i => (g3 i, v3 i)) (fun i => (g4 i, v4 i)) (fun i => (g5 i, v5 i)) (fun i => (g6 i, v6 i)) (fun i => (g7 i, v7 i)) (fun i => (g8 i, v8 i)) (fun i => (g9 i, v9 i)) (fun i => (g10 i, v10 i)) (fun i => (g11 i, v11 i))
  have hv : packed fill v0 v1 v2 v3 v4 v5 v6 v7 v8 v9 v10 v11 = fun i => (fun q : EReal × EReal => q.2) ((packed (fun _ => ((0 : EReal), (0 : EReal))) (fun i => (g0 i, v0 i)) (fun i => (g1 i, v1 i)) (fun i => (g2 i, v2 i)) (fun i => (g3 i, v3 i)) (fun i => (g4 i, v4 i)) (fun i => (g5 i, v5 i)) (fun i => (g6 i, v6 i)) (fun i => (g7 i, v7 i)) (fun i => (g8 i, v8 i)) (fun i => (g9 i, v9 i)) (fun i => (g10 i, v10 i)) (fun i => (g11 i, v11 i))) i) :=
    packed_map (fun q : EReal × EReal => q.2) (fun _ => ((0 : EReal), (0 : EReal))) (fun i => (g0 i, v0 i)) (fun i => (g1 i, v1 i)) (fun i => (g2 i, v2 i)) (fun i => (g3 i, v3 i)) (fun i => (g4 i, v4 i)) (fun i => (g5 i, v5 i)) (fun i => (g6 i, v6 i)) (fun i => (g7 i, v7 i)) (fun i => (g8 i, v8 i)) (fun i => (g9 i, v9 i)) (fun i => (g10 i, v10 i)) (fun i => (g11 i, v11 i))
  have hs := packed_map (fun q : EReal × EReal => newV (q.1) (q.2)) (fun _ => ((0 : EReal), (0 : EReal))) (fun i => (g0 i, v0 i)) (fun i => (g1 i, v1 i)) (fun i => (g2 i, v2 i)) (fun i => (g3 i, v3 i)) (fun i => (g4 i, v4 i)) (fun i => (g5 i, v5 i)) (fun i => (g6 i, v6 i)) (fun i => (g7 i, v7 i)) (fun i => (g8 i, v8 i)) (fun i => (g9 i, v9 i)) (fun i => (g10 i, v10 i)) (fun i => (g11 i, v11 i))
  rw [hg, hv]
  refine Eq.trans ?_ hs
  dsimp only
  rw [newV_fill]
  have hz : val_main_call2_v0 (F := Ideal) = fun _ => (0 : EReal) := fill_2
  unfold val_main_v326 val_main_v325
  rw [hz]
  unfold val_main_v320 val_main_v310 val_main_v311 val_main_v312 val_main_v313 val_main_v314 val_main_v315 val_main_v316 val_main_v317 val_main_v318 val_main_v319
  rw [var_0, var_1, var_2, var_3, var_4, var_5, var_6, var_7, var_8, var_9, var_10, var_11]
  rfl

set_option maxHeartbeats 4000000 in
theorem delta_all (w0 : S1024.Idx → EReal) (w1 : S4x6144.Idx → EReal) (w2 : S4x1024.Idx → EReal) (w3 : S4x1024.Idx → EReal) (w4 : S2x3x64.Idx → EReal) (w5 : S2x31x64.Idx → EReal) (w6 : S2x512.Idx → EReal) (w7 : S2x512.Idx → EReal) (w8 : S2x512.Idx → EReal) (w9 : S2x16.Idx → EReal) (w10 : S4x3x704.Idx → EReal) (w11 : S1024.Idx → EReal) (g0 : S1024.Idx → EReal) (g1 : S4x6144.Idx → EReal) (g2 : S4x1024.Idx → EReal) (g3 : S4x1024.Idx → EReal) (g4 : S2x3x64.Idx → EReal) (g5 : S2x31x64.Idx → EReal) (g6 : S2x512.Idx → EReal) (g7 : S2x512.Idx → EReal) (g8 : S2x512.Idx → EReal) (g9 : S2x16.Idx → EReal) (g10 : S4x3x704.Idx → EReal) (g11 : S1024.Idx → EReal) (m0 : S1024.Idx → EReal) (m1 : S4x6144.Idx → EReal) (m2 : S4x1024.Idx → EReal) (m3 : S4x1024.Idx → EReal) (m4 : S2x3x64.Idx → EReal) (m5 : S2x31x64.Idx → EReal) (m6 : S2x512.Idx → EReal) (m7 : S2x512.Idx → EReal) (m8 : S2x512.Idx → EReal) (m9 : S2x16.Idx → EReal) (m10 : S4x3x704.Idx → EReal) (m11 : S1024.Idx → EReal) (v0 : S1024.Idx → EReal) (v1 : S4x6144.Idx → EReal) (v2 : S4x1024.Idx → EReal) (v3 : S4x1024.Idx → EReal) (v4 : S2x3x64.Idx → EReal) (v5 : S2x31x64.Idx → EReal) (v6 : S2x512.Idx → EReal) (v7 : S2x512.Idx → EReal) (v8 : S2x512.Idx → EReal) (v9 : S2x16.Idx → EReal) (v10 : S4x3x704.Idx → EReal) (v11 : S1024.Idx → EReal) : val_main_v322 (F := Ideal) w0 w1 w2 w3 w4 w5 w6 w7 w8 w9 w10 w11 g0 g1 g2 g3 g4 g5 g6 g7 g8 g9 g10 g11 m0 m1 m2 m3 m4 m5 m6 m7 m8 m9 m10 m11 v0 v1 v2 v3 v4 v5 v6 v7 v8 v9 v10 v11 =
    fun i => delta (packed fill w0 w1 w2 w3 w4 w5 w6 w7 w8 w9 w10 w11 i) (packed fill g0 g1 g2 g3 g4 g5 g6 g7 g8 g9 g10 g11 i) (packed fill m0 m1 m2 m3 m4 m5 m6 m7 m8 m9 m10 m11 i) (packed fill v0 v1 v2 v3 v4 v5 v6 v7 v8 v9 v10 v11 i) := by
  have hw : packed fill w0 w1 w2 w3 w4 w5 w6 w7 w8 w9 w10 w11 = fun i => (fun q : EReal × EReal × EReal × EReal => q.1) ((packed (fun _ => ((0 : EReal), (0 : EReal), (0 : EReal), (0 : EReal))) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun i => (w11 i, g11 i, m11 i, v11 i))) i) :=
    packed_map (fun q : EReal × EReal × EReal × EReal => q.1) (fun _ => ((0 : EReal), (0 : EReal), (0 : EReal), (0 : EReal))) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun i => (w11 i, g11 i, m11 i, v11 i))
  have hg : packed fill g0 g1 g2 g3 g4 g5 g6 g7 g8 g9 g10 g11 = fun i => (fun q : EReal × EReal × EReal × EReal => q.2.1) ((packed (fun _ => ((0 : EReal), (0 : EReal), (0 : EReal), (0 : EReal))) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun i => (w11 i, g11 i, m11 i, v11 i))) i) :=
    packed_map (fun q : EReal × EReal × EReal × EReal => q.2.1) (fun _ => ((0 : EReal), (0 : EReal), (0 : EReal), (0 : EReal))) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun i => (w11 i, g11 i, m11 i, v11 i))
  have hm : packed fill m0 m1 m2 m3 m4 m5 m6 m7 m8 m9 m10 m11 = fun i => (fun q : EReal × EReal × EReal × EReal => q.2.2.1) ((packed (fun _ => ((0 : EReal), (0 : EReal), (0 : EReal), (0 : EReal))) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun i => (w11 i, g11 i, m11 i, v11 i))) i) :=
    packed_map (fun q : EReal × EReal × EReal × EReal => q.2.2.1) (fun _ => ((0 : EReal), (0 : EReal), (0 : EReal), (0 : EReal))) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun i => (w11 i, g11 i, m11 i, v11 i))
  have hv : packed fill v0 v1 v2 v3 v4 v5 v6 v7 v8 v9 v10 v11 = fun i => (fun q : EReal × EReal × EReal × EReal => q.2.2.2) ((packed (fun _ => ((0 : EReal), (0 : EReal), (0 : EReal), (0 : EReal))) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun i => (w11 i, g11 i, m11 i, v11 i))) i) :=
    packed_map (fun q : EReal × EReal × EReal × EReal => q.2.2.2) (fun _ => ((0 : EReal), (0 : EReal), (0 : EReal), (0 : EReal))) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun i => (w11 i, g11 i, m11 i, v11 i))
  have hs := packed_map (fun q : EReal × EReal × EReal × EReal => delta (q.1) (q.2.1) (q.2.2.1) (q.2.2.2)) (fun _ => ((0 : EReal), (0 : EReal), (0 : EReal), (0 : EReal))) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun i => (w11 i, g11 i, m11 i, v11 i))
  rw [hw, hg, hm, hv]
  refine Eq.trans ?_ hs
  dsimp only
  rw [delta_fill]
  have hz : val_main_call0_v0 (F := Ideal) = fun _ => (0 : EReal) := fill_0
  unfold val_main_v322 val_main_v321
  rw [hz]
  unfold val_main_v298 val_main_v288 val_main_v289 val_main_v290 val_main_v291 val_main_v292 val_main_v293 val_main_v294 val_main_v295 val_main_v296 val_main_v297
  rw [delta_0, delta_1, delta_2, delta_3, delta_4, delta_5, delta_6, delta_7, delta_8, delta_9, delta_10, delta_11]
  rfl

end Reference

end Cert.AdamwSmall

end
-- ==== Proof.AdamwSmallClaims.lean ====
module

public import proofs.«01_k».proof.Proof.AdamwSmallValue
public import proofs.«01_k».proof.Proof.AdamwSmallReference
public import proofs.«01_k».proof.Proof.Gen.Reference19Ideal.Read
public import proofs.«01_k».proof.Proof.Gen.Reference19Ideal.Run
public import proofs.«01_k».proof.Proof.Gen.Kernel19
public import proofs.«01_k».proof.Defs

@[expose] public section

set_option maxRecDepth 16384

noncomputable section

/-! The claims of the small weights' optimiser step. -/

namespace Cert.AdamwSmall

open Idealize.ShloMosaic Idealize.ShloMosaic.TcCoe Idealize.ShloMosaic.Tactic Idealize.SL.Sem

section Operand

open Cert.Kernel19Ideal Cert.Kernel19Ideal.Gen Cert.Kernel19Ideal.Run

variable (m : (ℓ : Loc nD τ sig) → Buf (Elt Ideal) ℓ) (c : Dev nD)

theorem mom_eq : Cert.Reference19Ideal.Read.val_main_v324 (F := Ideal) (arg12 m c) (arg13 m c) (arg14 m c) (arg15 m c) (arg16 m c) (arg17 m c) (arg18 m c) (arg19 m c) (arg20 m c) (arg21 m c) (arg22 m c) (arg23 m c) (arg24 m c) (arg25 m c) (arg26 m c) (arg27 m c) (arg28 m c) (arg29 m c) (arg30 m c) (arg31 m c) (arg32 m c) (arg33 m c) (arg34 m c) (arg35 m c) = momAll m c := mom_all (arg12 m c) (arg13 m c) (arg14 m c) (arg15 m c) (arg16 m c) (arg17 m c) (arg18 m c) (arg19 m c) (arg20 m c) (arg21 m c) (arg22 m c) (arg23 m c) (arg24 m c) (arg25 m c) (arg26 m c) (arg27 m c) (arg28 m c) (arg29 m c) (arg30 m c) (arg31 m c) (arg32 m c) (arg33 m c) (arg34 m c) (arg35 m c)
theorem var_eq : Cert.Reference19Ideal.Read.val_main_v326 (F := Ideal) (arg12 m c) (arg13 m c) (arg14 m c) (arg15 m c) (arg16 m c) (arg17 m c) (arg18 m c) (arg19 m c) (arg20 m c) (arg21 m c) (arg22 m c) (arg23 m c) (arg36 m c) (arg37 m c) (arg38 m c) (arg39 m c) (arg40 m c) (arg41 m c) (arg42 m c) (arg43 m c) (arg44 m c) (arg45 m c) (arg46 m c) (arg47 m c) = varAll m c := var_all (arg12 m c) (arg13 m c) (arg14 m c) (arg15 m c) (arg16 m c) (arg17 m c) (arg18 m c) (arg19 m c) (arg20 m c) (arg21 m c) (arg22 m c) (arg23 m c) (arg36 m c) (arg37 m c) (arg38 m c) (arg39 m c) (arg40 m c) (arg41 m c) (arg42 m c) (arg43 m c) (arg44 m c) (arg45 m c) (arg46 m c) (arg47 m c)
theorem delta_eq : Cert.Reference19Ideal.Read.val_main_v322 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c) (arg23 m c) (arg24 m c) (arg25 m c) (arg26 m c) (arg27 m c) (arg28 m c) (arg29 m c) (arg30 m c) (arg31 m c) (arg32 m c) (arg33 m c) (arg34 m c) (arg35 m c) (arg36 m c) (arg37 m c) (arg38 m c) (arg39 m c) (arg40 m c) (arg41 m c) (arg42 m c) (arg43 m c) (arg44 m c) (arg45 m c) (arg46 m c) (arg47 m c) = deltaAll m c := delta_all (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c) (arg23 m c) (arg24 m c) (arg25 m c) (arg26 m c) (arg27 m c) (arg28 m c) (arg29 m c) (arg30 m c) (arg31 m c) (arg32 m c) (arg33 m c) (arg34 m c) (arg35 m c) (arg36 m c) (arg37 m c) (arg38 m c) (arg39 m c) (arg40 m c) (arg41 m c) (arg42 m c) (arg43 m c) (arg44 m c) (arg45 m c) (arg46 m c) (arg47 m c)

end Operand

theorem frame_reference [Cert.Reference19Ideal.Facts] : Cert.quiescent_Reference19Ideal := fun m g _ =>
  (θ_run Cert.Reference19Ideal.defs _ _).mono
    (fun r h => ⟨fun c => (h c).2.2.2, sem_eq_zero_of_no_sems (by decide) r.2⟩) (Cert.Reference19Ideal.Value.run m g)

theorem rows_same : (Cert.Kernel19.defs₀ (F := Bits)) = (Cert.Kernel19Ideal.defs₀ (F := Bits)) := by
  unfold Cert.Kernel19.defs₀ Cert.Kernel19Ideal.defs₀
  refine congrArg Defs.onTc ?_
  funext l a
  match l, a with
  | 0, (t, s) => rfl

theorem defs_same : (Cert.Kernel19.defs (F := Bits)) = (Cert.Kernel19Ideal.defs (F := Bits)) := by
  unfold Cert.Kernel19.defs Cert.Kernel19Ideal.defs
  exact congrArg (Pipeline.defs _) rows_same

set_option maxHeartbeats 4000000 in
/-- The printed program runs, leaves its arguments and ends quiescent. -/
theorem quiescent [Cert.Kernel19.Facts] : Cert.quiescent_Kernel19 := fun m g _ => by
  rw [defs_same]
  exact Cert.Kernel19Ideal.Gen.frame m g

set_option maxHeartbeats 4000000 in
/-- The kernel's results are the reference's. -/
theorem algebraic [Cert.Kernel19Ideal.Facts] [Cert.Reference19Ideal.Facts] : Cert.algebraic_Kernel19Ideal_Reference19Ideal := by
  intro m g m' g' _ hag
  refine ⟨Cert.Kernel19Ideal.Run.deltaAll m, Cert.Kernel19Ideal.Run.momAll m, Cert.Kernel19Ideal.Run.varAll m,
    (θ_run Cert.Kernel19Ideal.defs _ _).mono (fun r h c => ?_) (Cert.Kernel19Ideal.Value.run_blocks m g),
    (θ_run Cert.Reference19Ideal.defs _ _).mono (fun r h c => ?_) (Cert.Reference19Ideal.Value.run m' g')⟩
  · obtain ⟨h0, h1, h2, hargs⟩ := h c
    exact ⟨h0.trans (Cert.Kernel19Ideal.Run.delta_final m c), h1.trans (Cert.Kernel19Ideal.Run.mom_final m c),
      h2.trans (Cert.Kernel19Ideal.Run.var_final m c), hargs⟩
  · obtain ⟨h0, h1, h2, hargs⟩ := h c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47⟩ := hag c
    refine ⟨h0.trans ?_, h1.trans ?_, h2.trans ?_, hargs⟩
    · refine Eq.trans (b := Cert.Reference19Ideal.Read.val_main_v322 (F := Ideal) (m' (c.tc.loc Cert.Reference19Ideal.main_arg0)) (m' (c.tc.loc Cert.Reference19Ideal.main_arg1)) (m' (c.tc.loc Cert.Reference19Ideal.main_arg2)) (m' (c.tc.loc Cert.Reference19Ideal.main_arg3)) (m' (c.tc.loc Cert.Reference19Ideal.main_arg4)) (m' (c.tc.loc Cert.Reference19Ideal.main_arg5)) (m' (c.tc.loc Cert.Reference19Ideal.main_arg6)) (m' (c.tc.loc Cert.Reference19Ideal.main_arg7)) (m' (c.tc.loc Cert.Reference19Ideal.main_arg8)) (m' (c.tc.loc Cert.Reference19Ideal.main_arg9)) (m' (c.tc.loc Cert.Reference19Ideal.main_arg10)) (m' (c.tc.loc Cert.Reference19Ideal.main_arg11)) (m' (c.tc.loc Cert.Reference19Ideal.main_arg12)) (m' (c.tc.loc Cert.Reference19Ideal.main_arg13)) (m' (c.tc.loc Cert.Reference19Ideal.main_arg14)) (m' (c.tc.loc Cert.Reference19Ideal.main_arg15)) (m' (c.tc.loc Cert.Reference19Ideal.main_arg16)) (m' (c.tc.loc Cert.Reference19Ideal.main_arg17)) (m' (c.tc.loc Cert.Reference19Ideal.main_arg18)) (m' (c.tc.loc Cert.Reference19Ideal.main_arg19)) (m' (c.tc.loc Cert.Reference19Ideal.main_arg20)) (m' (c.tc.loc Cert.Reference19Ideal.main_arg21)) (m' (c.tc.loc Cert.Reference19Ideal.main_arg22)) (m' (c.tc.loc Cert.Reference19Ideal.main_arg23)) (m' (c.tc.loc Cert.Reference19Ideal.main_arg24)) (m' (c.tc.loc Cert.Reference19Ideal.main_arg25)) (m' (c.tc.loc Cert.Reference19Ideal.main_arg26)) (m' (c.tc.loc Cert.Reference19Ideal.main_arg27)) (m' (c.tc.loc Cert.Reference19Ideal.main_arg28)) (m' (c.tc.loc Cert.Reference19Ideal.main_arg29)) (m' (c.tc.loc Cert.Reference19Ideal.main_arg30)) (m' (c.tc.loc Cert.Reference19Ideal.main_arg31)) (m' (c.tc.loc Cert.Reference19Ideal.main_arg32)) (m' (c.tc.loc Cert.Reference19Ideal.main_arg33)) (m' (c.tc.loc Cert.Reference19Ideal.main_arg34)) (m' (c.tc.loc Cert.Reference19Ideal.main_arg35)) (m' (c.tc.loc Cert.Reference19Ideal.main_arg36)) (m' (c.tc.loc Cert.Reference19Ideal.main_arg37)) (m' (c.tc.loc Cert.Reference19Ideal.main_arg38)) (m' (c.tc.loc Cert.Reference19Ideal.main_arg39)) (m' (c.tc.loc Cert.Reference19Ideal.main_arg40)) (m' (c.tc.loc Cert.Reference19Ideal.main_arg41)) (m' (c.tc.loc Cert.Reference19Ideal.main_arg42)) (m' (c.tc.loc Cert.Reference19Ideal.main_arg43)) (m' (c.tc.loc Cert.Reference19Ideal.main_arg44)) (m' (c.tc.loc Cert.Reference19Ideal.main_arg45)) (m' (c.tc.loc Cert.Reference19Ideal.main_arg46)) (m' (c.tc.loc Cert.Reference19Ideal.main_arg47))) (Cert.Reference19Ideal.Read.val_main_v322_eq _) ?_
      rw [a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47]
      exact delta_eq m c
    · refine Eq.trans (b := Cert.Reference19Ideal.Read.val_main_v324 (F := Ideal) (m' (c.tc.loc Cert.Reference19Ideal.main_arg12)) (m' (c.tc.loc Cert.Reference19Ideal.main_arg13)) (m' (c.tc.loc Cert.Reference19Ideal.main_arg14)) (m' (c.tc.loc Cert.Reference19Ideal.main_arg15)) (m' (c.tc.loc Cert.Reference19Ideal.main_arg16)) (m' (c.tc.loc Cert.Reference19Ideal.main_arg17)) (m' (c.tc.loc Cert.Reference19Ideal.main_arg18)) (m' (c.tc.loc Cert.Reference19Ideal.main_arg19)) (m' (c.tc.loc Cert.Reference19Ideal.main_arg20)) (m' (c.tc.loc Cert.Reference19Ideal.main_arg21)) (m' (c.tc.loc Cert.Reference19Ideal.main_arg22)) (m' (c.tc.loc Cert.Reference19Ideal.main_arg23)) (m' (c.tc.loc Cert.Reference19Ideal.main_arg24)) (m' (c.tc.loc Cert.Reference19Ideal.main_arg25)) (m' (c.tc.loc Cert.Reference19Ideal.main_arg26)) (m' (c.tc.loc Cert.Reference19Ideal.main_arg27)) (m' (c.tc.loc Cert.Reference19Ideal.main_arg28)) (m' (c.tc.loc Cert.Reference19Ideal.main_arg29)) (m' (c.tc.loc Cert.Reference19Ideal.main_arg30)) (m' (c.tc.loc Cert.Reference19Ideal.main_arg31)) (m' (c.tc.loc Cert.Reference19Ideal.main_arg32)) (m' (c.tc.loc Cert.Reference19Ideal.main_arg33)) (m' (c.tc.loc Cert.Reference19Ideal.main_arg34)) (m' (c.tc.loc Cert.Reference19Ideal.main_arg35))) (Cert.Reference19Ideal.Read.val_main_v324_eq _) ?_
      rw [a12, a13, a14, a15, a16, a17, a18, a19, a20, a21, a22, a23, a24, a25, a26, a27, a28, a29, a30, a31, a32, a33, a34, a35]
      exact mom_eq m c
    · refine Eq.trans (b := Cert.Reference19Ideal.Read.val_main_v326 (F := Ideal) (m' (c.tc.loc Cert.Reference19Ideal.main_arg12)) (m' (c.tc.loc Cert.Reference19Ideal.main_arg13)) (m' (c.tc.loc Cert.Reference19Ideal.main_arg14)) (m' (c.tc.loc Cert.Reference19Ideal.main_arg15)) (m' (c.tc.loc Cert.Reference19Ideal.main_arg16)) (m' (c.tc.loc Cert.Reference19Ideal.main_arg17)) (m' (c.tc.loc Cert.Reference19Ideal.main_arg18)) (m' (c.tc.loc Cert.Reference19Ideal.main_arg19)) (m' (c.tc.loc Cert.Reference19Ideal.main_arg20)) (m' (c.tc.loc Cert.Reference19Ideal.main_arg21)) (m' (c.tc.loc Cert.Reference19Ideal.main_arg22)) (m' (c.tc.loc Cert.Reference19Ideal.main_arg23)) (m' (c.tc.loc Cert.Reference19Ideal.main_arg36)) (m' (c.tc.loc Cert.Reference19Ideal.main_arg37)) (m' (c.tc.loc Cert.Reference19Ideal.main_arg38)) (m' (c.tc.loc Cert.Reference19Ideal.main_arg39)) (m' (c.tc.loc Cert.Reference19Ideal.main_arg40)) (m' (c.tc.loc Cert.Reference19Ideal.main_arg41)) (m' (c.tc.loc Cert.Reference19Ideal.main_arg42)) (m' (c.tc.loc Cert.Reference19Ideal.main_arg43)) (m' (c.tc.loc Cert.Reference19Ideal.main_arg44)) (m' (c.tc.loc Cert.Reference19Ideal.main_arg45)) (m' (c.tc.loc Cert.Reference19Ideal.main_arg46)) (m' (c.tc.loc Cert.Reference19Ideal.main_arg47))) (Cert.Reference19Ideal.Read.val_main_v326_eq _) ?_
      rw [a12, a13, a14, a15, a16, a17, a18, a19, a20, a21, a22, a23, a36, a37, a38, a39, a40, a41, a42, a43, a44, a45, a46, a47]
      exact var_eq m c

end Cert.AdamwSmall

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.BwdUpBits
public import proofs.«01_k».proof.Proof.BwdUpClaims
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.WgradUpClaims
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.WgradDownClaims
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.WgradInClaims
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.WgradQkvClaims
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.WgradOutClaims
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.BwdDownBits
public import proofs.«01_k».proof.Proof.BwdDownClaims
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.ProjUpBits
public import proofs.«01_k».proof.Proof.ProjUpClaims
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.ProjDownBits
public import proofs.«01_k».proof.Proof.ProjDownClaims
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.PremixBwdClaims
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import proofs.«01_k».proof.Proof.ConvABwdClaims
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.AdamwUpClaims
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.AdamwInClaims
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.AdamwOutClaims
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.AdamwQkvClaims
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.AdamwDownClaims
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.AdamwModClaims
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.AdamwSmallClaims

@[expose] public section

noncomputable section

namespace Cert.Proof

open Idealize.ShloMosaic Idealize.SL.Sem

theorem claim : Cert.Claim :=
  letI := Cert.Kernel.Gen.facts
  letI := Cert.KernelIdeal.Gen.facts
  letI := Cert.ReferenceIdeal.Gen.facts
  letI := Cert.Kernel2.Gen.facts
  letI := Cert.Kernel2Ideal.Gen.facts
  letI := Cert.Reference2Ideal.Gen.facts
  letI := Cert.Kernel3.Gen.facts
  letI := Cert.Kernel3Ideal.Gen.facts
  letI := Cert.Reference3Ideal.Gen.facts
  letI := Cert.Kernel4.Gen.facts
  letI := Cert.Kernel4Ideal.Gen.facts
  letI := Cert.Reference4Ideal.Gen.facts
  letI := Cert.Kernel5.Gen.facts
  letI := Cert.Kernel5Ideal.Gen.facts
  letI := Cert.Reference5Ideal.Gen.facts
  letI := Cert.Kernel6.Gen.facts
  letI := Cert.Kernel6Ideal.Gen.facts
  letI := Cert.Reference6Ideal.Gen.facts
  letI := Cert.Kernel7.Gen.facts
  letI := Cert.Kernel7Ideal.Gen.facts
  letI := Cert.Reference7Ideal.Gen.facts
  letI := Cert.Kernel8.Gen.facts
  letI := Cert.Kernel8Ideal.Gen.facts
  letI := Cert.Reference8Ideal.Gen.facts
  letI := Cert.Kernel9.Gen.facts
  letI := Cert.Kernel9Ideal.Gen.facts
  letI := Cert.Reference9Ideal.Gen.facts
  letI := Cert.Kernel10.Gen.facts
  letI := Cert.Kernel10Ideal.Gen.facts
  letI := Cert.Reference10Ideal.Gen.facts
  letI := Cert.Kernel11.Gen.facts
  letI := Cert.Kernel11Ideal.Gen.facts
  letI := Cert.Reference11Ideal.Gen.facts
  letI := Cert.Kernel13.Gen.facts
  letI := Cert.Kernel13Ideal.Gen.facts
  letI := Cert.Reference13Ideal.Gen.facts
  letI := Cert.Kernel14.Gen.facts
  letI := Cert.Kernel14Ideal.Gen.facts
  letI := Cert.Reference14Ideal.Gen.facts
  letI := Cert.Kernel15.Gen.facts
  letI := Cert.Kernel15Ideal.Gen.facts
  letI := Cert.Reference15Ideal.Gen.facts
  letI := Cert.Kernel16.Gen.facts
  letI := Cert.Kernel16Ideal.Gen.facts
  letI := Cert.Reference16Ideal.Gen.facts
  letI := Cert.Kernel17.Gen.facts
  letI := Cert.Kernel17Ideal.Gen.facts
  letI := Cert.Reference17Ideal.Gen.facts
  letI := Cert.Kernel18.Gen.facts
  letI := Cert.Kernel18Ideal.Gen.facts
  letI := Cert.Reference18Ideal.Gen.facts
  letI := Cert.Kernel19.Gen.facts
  letI := Cert.Kernel19Ideal.Gen.facts
  letI := Cert.Reference19Ideal.Gen.facts
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel.Run.quiescent, fun m g _ => Cert.KernelIdeal.Run.frame_all m g, Cert.BwdUp.frame_reference,
    Cert.WgradUp.quiescent, fun m g _ => Cert.Kernel2Ideal.Gen.frame m g, Cert.WgradUp.frame_reference,
    Cert.WgradDown.quiescent, fun m g _ => Cert.Kernel3Ideal.Gen.frame m g, Cert.WgradDown.frame_reference,
    Cert.WgradIn.quiescent, fun m g _ => Cert.Kernel4Ideal.Gen.frame m g, Cert.WgradIn.frame_reference,
    Cert.WgradQkv.quiescent, fun m g _ => Cert.Kernel5Ideal.Gen.frame m g, Cert.WgradQkv.frame_reference,
    Cert.WgradOut.quiescent, fun m g _ => Cert.Kernel6Ideal.Gen.frame m g, Cert.WgradOut.frame_reference,
    Cert.Kernel7.Run.quiescent, fun m g _ => Cert.Kernel7Ideal.Run.frame_all m g, Cert.BwdDown.frame_reference,
    Cert.Kernel8.Run.quiescent, fun m g _ => Cert.Kernel8Ideal.Run.frame_all m g, Cert.ProjUp.frame_reference,
    Cert.Kernel9.Run.quiescent, fun m g _ => Cert.Kernel9Ideal.Run.frame_all m g, Cert.ProjDown.frame_reference,
    Cert.PremixBwd.quiescent, fun m g _ => Cert.Kernel10Ideal.Gen.frame m g, Cert.PremixBwd.frame_reference,
    Cert.ConvABwd.quiescent, fun m g _ => Cert.Kernel11Ideal.Gen.frame m g, Cert.ConvABwd.frame_reference,
    Cert.AdamwUp.quiescent, fun m g _ => Cert.Kernel13Ideal.Gen.frame m g, Cert.AdamwUp.frame_reference,
    Cert.AdamwIn.quiescent, fun m g _ => Cert.Kernel14Ideal.Gen.frame m g, Cert.AdamwIn.frame_reference,
    Cert.AdamwOut.quiescent, fun m g _ => Cert.Kernel15Ideal.Gen.frame m g, Cert.AdamwOut.frame_reference,
    Cert.AdamwQkv.quiescent, fun m g _ => Cert.Kernel16Ideal.Gen.frame m g, Cert.AdamwQkv.frame_reference,
    Cert.AdamwDown.quiescent, fun m g _ => Cert.Kernel17Ideal.Gen.frame m g, Cert.AdamwDown.frame_reference,
    Cert.AdamwMod.quiescent, fun m g _ => Cert.Kernel18Ideal.Gen.frame m g, Cert.AdamwMod.frame_reference,
    Cert.AdamwSmall.quiescent, fun m g _ => Cert.Kernel19Ideal.Gen.frame m g, Cert.AdamwSmall.frame_reference,
    trivial, Cert.BwdUp.algebraic,
    trivial, Cert.WgradUp.algebraic,
    trivial, Cert.WgradDown.algebraic,
    trivial, Cert.WgradIn.algebraic,
    trivial, Cert.WgradQkv.algebraic,
    trivial, Cert.WgradOut.algebraic,
    trivial, Cert.BwdDown.algebraic,
    trivial, Cert.ProjUp.algebraic,
    trivial, Cert.ProjDown.algebraic,
    trivial, Cert.PremixBwd.algebraic,
    trivial, Cert.ConvABwd.algebraic,
    trivial, Cert.AdamwUp.algebraic,
    trivial, Cert.AdamwIn.algebraic,
    trivial, Cert.AdamwOut.algebraic,
    trivial, Cert.AdamwQkv.algebraic,
    trivial, Cert.AdamwDown.algebraic,
    trivial, Cert.AdamwMod.algebraic,
    trivial, Cert.AdamwSmall.algebraic⟩

end Cert.Proof

end
